-- ==== Defs.lean ====
def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_moe_gates_finite [hPre_moe_gates_finite : Cert.Pre_moe_gates_finite.Facts] (m : (ℓ : Loc Cert.MoeIdeal.nD Cert.MoeIdeal.τ Cert.MoeIdeal.sig) → Buf (Elt Ideal) ℓ) : Prop :=
  ∀ c : Dev Cert.MoeIdeal.nD,
    (Cert.Pre_moe_gates_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_moe_gates_finite [hPre_moe_gates_finite : Cert.Pre_moe_gates_finite.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_moe_gates_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))) = (fun _ => 1#1)

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_InARefIdeal (m : (ℓ : Loc Cert.InARefIdeal.nD Cert.InARefIdeal.τ Cert.InARefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Short (m : (ℓ : Loc Cert.Short.nD Cert.Short.τ Cert.Short.sig) → Buf (Elt Bits) ℓ) : Prop :=
  True

def Pre_ShortIdeal (m : (ℓ : Loc Cert.ShortIdeal.nD Cert.ShortIdeal.τ Cert.ShortIdeal.sig) → Buf (Elt Ideal) ℓ) : Prop :=
  True

def Pre_ShortRefIdeal (m : (ℓ : Loc Cert.ShortRefIdeal.nD Cert.ShortRefIdeal.τ Cert.ShortRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttIdeal_att_scores_finite [hPre_att_scores_finite : Cert.Pre_att_scores_finite.Facts] (m : (ℓ : Loc Cert.AttIdeal.nD Cert.AttIdeal.τ Cert.AttIdeal.sig) → Buf (Elt Ideal) ℓ) : Prop :=
  ∀ c : Dev Cert.AttIdeal.nD,
    (Cert.Pre_att_scores_finite.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2)) (m ((c.tc : Thread Cert.AttIdeal.nD Cert.AttIdeal.τ).loc Cert.AttIdeal.main_arg3))) = (fun _ => 1#1)

def Pre_AttRefIdeal (m : (ℓ : Loc Cert.AttRefIdeal.nD Cert.AttRefIdeal.τ Cert.AttRefIdeal.sig) → Buf (Elt Ideal) ℓ) : Prop :=
  True

def Pre_AttRefIdeal_att_scores_finite [hPre_att_scores_finite : Cert.Pre_att_scores_finite.Facts] (m : (ℓ : Loc Cert.AttRefIdeal.nD Cert.AttRefIdeal.τ Cert.AttRefIdeal.sig) → Buf (Elt Ideal) ℓ) : Prop :=
  ∀ c : Dev Cert.AttRefIdeal.nD,
    (Cert.Pre_att_scores_finite.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1)) (m ((c.tc : Thread Cert.AttRefIdeal.nD Cert.AttRefIdeal.τ).loc Cert.AttRefIdeal.main_arg2)) (m ((c.tc : Thread Cert.AttRefIdeal.nD Cert.AttRefIdeal.τ).loc Cert.AttRefIdeal.main_arg3))) = (fun _ => 1#1)

def Pre_Dft (m : (ℓ : Loc Cert.Dft.nD Cert.Dft.τ Cert.Dft.sig) → Buf (Elt Bits) ℓ) : Prop :=
  True

def Pre_DftIdeal (m : (ℓ : Loc Cert.DftIdeal.nD Cert.DftIdeal.τ Cert.DftIdeal.sig) → Buf (Elt Ideal) ℓ) : Prop :=
  True

def Pre_DftRefIdeal (m : (ℓ : Loc Cert.DftRefIdeal.nD Cert.DftRefIdeal.τ Cert.DftRefIdeal.sig) → Buf (Elt Ideal) ℓ) : Prop :=
  True

def Pre_Inv (m : (ℓ : Loc Cert.Inv.nD Cert.Inv.τ Cert.Inv.sig) → Buf (Elt Bits) ℓ) : Prop :=
  True

def Pre_InvIdeal (m : (ℓ : Loc Cert.InvIdeal.nD Cert.InvIdeal.τ Cert.InvIdeal.sig) → Buf (Elt Ideal) ℓ) : Prop :=
  True

def Pre_InvRefIdeal (m : (ℓ : Loc Cert.InvRefIdeal.nD Cert.InvRefIdeal.τ Cert.InvRefIdeal.sig) → Buf (Elt Ideal) ℓ) : Prop :=
  True

def Pre_Fil (m : (ℓ : Loc Cert.Fil.nD Cert.Fil.τ Cert.Fil.sig) → Buf (Elt Bits) ℓ) : Prop :=
  True

def Pre_FilIdeal (m : (ℓ : Loc Cert.FilIdeal.nD Cert.FilIdeal.τ Cert.FilIdeal.sig) → Buf (Elt Ideal) ℓ) : Prop :=
  True

def Pre_FilRefIdeal (m : (ℓ : Loc Cert.FilRefIdeal.nD Cert.FilRefIdeal.τ Cert.FilRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Full (m : (ℓ : Loc Cert.Full.nD Cert.Full.τ Cert.Full.sig) → Buf (Elt Bits) ℓ) : Prop :=
  True

def Pre_FullIdeal (m : (ℓ : Loc Cert.FullIdeal.nD Cert.FullIdeal.τ Cert.FullIdeal.sig) → Buf (Elt Ideal) ℓ) : Prop :=
  True

def Pre_FullRefIdeal (m : (ℓ : Loc Cert.FullRefIdeal.nD Cert.FullRefIdeal.τ Cert.FullRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_MidA (m : (ℓ : Loc Cert.MidA.nD Cert.MidA.τ Cert.MidA.sig) → Buf (Elt Bits) ℓ) : Prop :=
  True

def Pre_MidAIdeal (m : (ℓ : Loc Cert.MidAIdeal.nD Cert.MidAIdeal.τ Cert.MidAIdeal.sig) → Buf (Elt Ideal) ℓ) : Prop :=
  True

def Pre_MidARefIdeal (m : (ℓ : Loc Cert.MidARefIdeal.nD Cert.MidARefIdeal.τ Cert.MidARefIdeal.sig) → Buf (Elt Ideal) ℓ) : Prop :=
  True

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeIdeal_pre_moe_gates_finite [hMoeIdeal : Cert.MoeIdeal.Facts] [hPre_moe_gates_finite : Cert.Pre_moe_gates_finite.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_moe_gates_finite m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_MoeRefIdeal_pre_moe_gates_finite [hMoeRefIdeal : Cert.MoeRefIdeal.Facts] [hPre_moe_gates_finite : Cert.Pre_moe_gates_finite.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_moe_gates_finite m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1)
      ∧ r.2.mem ((c.tc : Thread Cert.InB.nD Cert.InB.τ).loc Cert.InB.main_arg2) = m ((c.tc : Thread Cert.InB.nD Cert.InB.τ).loc Cert.InB.main_arg2)
      ∧ r.2.mem ((c.tc : Thread Cert.InB.nD Cert.InB.τ).loc Cert.InB.main_arg3) = m ((c.tc : Thread Cert.InB.nD Cert.InB.τ).loc Cert.InB.main_arg3))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
      ∧ r.2.mem ((c.tc : Thread Cert.InBIdeal.nD Cert.InBIdeal.τ).loc Cert.InBIdeal.main_arg2) = m ((c.tc : Thread Cert.InBIdeal.nD Cert.InBIdeal.τ).loc Cert.InBIdeal.main_arg2)
      ∧ r.2.mem ((c.tc : Thread Cert.InBIdeal.nD Cert.InBIdeal.τ).loc Cert.InBIdeal.main_arg3) = m ((c.tc : Thread Cert.InBIdeal.nD Cert.InBIdeal.τ).loc Cert.InBIdeal.main_arg3))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1)
      ∧ r.2.mem ((c.tc : Thread Cert.InBRefIdeal.nD Cert.InBRefIdeal.τ).loc Cert.InBRefIdeal.main_arg2) = m ((c.tc : Thread Cert.InBRefIdeal.nD Cert.InBRefIdeal.τ).loc Cert.InBRefIdeal.main_arg2)
      ∧ r.2.mem ((c.tc : Thread Cert.InBRefIdeal.nD Cert.InBRefIdeal.τ).loc Cert.InBRefIdeal.main_arg3) = m ((c.tc : Thread Cert.InBRefIdeal.nD Cert.InBRefIdeal.τ).loc Cert.InBRefIdeal.main_arg3))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1)
      ∧ r.2.mem ((c.tc : Thread Cert.InA.nD Cert.InA.τ).loc Cert.InA.main_arg2) = m ((c.tc : Thread Cert.InA.nD Cert.InA.τ).loc Cert.InA.main_arg2)
      ∧ r.2.mem ((c.tc : Thread Cert.InA.nD Cert.InA.τ).loc Cert.InA.main_arg3) = m ((c.tc : Thread Cert.InA.nD Cert.InA.τ).loc Cert.InA.main_arg3)
      ∧ r.2.mem ((c.tc : Thread Cert.InA.nD Cert.InA.τ).loc Cert.InA.main_arg4) = m ((c.tc : Thread Cert.InA.nD Cert.InA.τ).loc Cert.InA.main_arg4)
      ∧ r.2.mem ((c.tc : Thread Cert.InA.nD Cert.InA.τ).loc Cert.InA.main_arg5) = m ((c.tc : Thread Cert.InA.nD Cert.InA.τ).loc Cert.InA.main_arg5))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
      ∧ r.2.mem ((c.tc : Thread Cert.InAIdeal.nD Cert.InAIdeal.τ).loc Cert.InAIdeal.main_arg2) = m ((c.tc : Thread Cert.InAIdeal.nD Cert.InAIdeal.τ).loc Cert.InAIdeal.main_arg2)
      ∧ r.2.mem ((c.tc : Thread Cert.InAIdeal.nD Cert.InAIdeal.τ).loc Cert.InAIdeal.main_arg3) = m ((c.tc : Thread Cert.InAIdeal.nD Cert.InAIdeal.τ).loc Cert.InAIdeal.main_arg3)
      ∧ r.2.mem ((c.tc : Thread Cert.InAIdeal.nD Cert.InAIdeal.τ).loc Cert.InAIdeal.main_arg4) = m ((c.tc : Thread Cert.InAIdeal.nD Cert.InAIdeal.τ).loc Cert.InAIdeal.main_arg4)
      ∧ r.2.mem ((c.tc : Thread Cert.InAIdeal.nD Cert.InAIdeal.τ).loc Cert.InAIdeal.main_arg5) = m ((c.tc : Thread Cert.InAIdeal.nD Cert.InAIdeal.τ).loc Cert.InAIdeal.main_arg5))
      ∧ r.2.sem = fun _ => 0)

def quiescent_InARefIdeal [hInARefIdeal : Cert.InARefIdeal.Facts] : Prop :=
  ∀ (m : (ℓ : Loc Cert.InARefIdeal.nD Cert.InARefIdeal.τ Cert.InARefIdeal.sig) → Buf (Elt Ideal) ℓ) (g : Dev Cert.InARefIdeal.nD → PrngReg), Pre_InARefIdeal m →
    θ_run (Cert.InARefIdeal.defs (F := Ideal)) (onTc (τ := Cert.InARefIdeal.τ) (Cert.InARefIdeal.main (F := Ideal))) ⟨m, fun _ => 0, g⟩ (fun r => (∀ c : Dev Cert.InARefIdeal.nD,
      r.2.mem ((c.tc : Thread Cert.InARefIdeal.nD Cert.InARefIdeal.τ).loc Cert.InARefIdeal.main_arg0) = m ((c.tc : Thread Cert.InARefIdeal.nD Cert.InARefIdeal.τ).loc Cert.InARefIdeal.main_arg0)
      ∧ r.2.mem ((c.tc : Thread Cert.InARefIdeal.nD Cert.InARefIdeal.τ).loc Cert.InARefIdeal.main_arg1) = m ((c.tc : Thread Cert.InARefIdeal.nD Cert.InARefIdeal.τ).loc Cert.InARefIdeal.main_arg1)
      ∧ r.2.mem ((c.tc : Thread Cert.InARefIdeal.nD Cert.InARefIdeal.τ).loc Cert.InARefIdeal.main_arg2) = m ((c.tc : Thread Cert.InARefIdeal.nD Cert.InARefIdeal.τ).loc Cert.InARefIdeal.main_arg2)
      ∧ r.2.mem ((c.tc : Thread Cert.InARefIdeal.nD Cert.InARefIdeal.τ).loc Cert.InARefIdeal.main_arg3) = m ((c.tc : Thread Cert.InARefIdeal.nD Cert.InARefIdeal.τ).loc Cert.InARefIdeal.main_arg3)
      ∧ r.2.mem ((c.tc : Thread Cert.InARefIdeal.nD Cert.InARefIdeal.τ).loc Cert.InARefIdeal.main_arg4) = m ((c.tc : Thread Cert.InARefIdeal.nD Cert.InARefIdeal.τ).loc Cert.InARefIdeal.main_arg4)
      ∧ r.2.mem ((c.tc : Thread Cert.InARefIdeal.nD Cert.InARefIdeal.τ).loc Cert.InARefIdeal.main_arg5) = m ((c.tc : Thread Cert.InARefIdeal.nD Cert.InARefIdeal.τ).loc Cert.InARefIdeal.main_arg5))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_Short [hShort : Cert.Short.Facts] : Prop :=
  ∀ (m : (ℓ : Loc Cert.Short.nD Cert.Short.τ Cert.Short.sig) → Buf (Elt Bits) ℓ) (g : Dev Cert.Short.nD → PrngReg), Pre_Short m →
    θ_run (Cert.Short.defs (F := Bits)) (onTc (τ := Cert.Short.τ) (Cert.Short.main (F := Bits))) ⟨m, fun _ => 0, g⟩ (fun r => (∀ c : Dev Cert.Short.nD,
      r.2.mem ((c.tc : Thread Cert.Short.nD Cert.Short.τ).loc Cert.Short.main_arg0) = m ((c.tc : Thread Cert.Short.nD Cert.Short.τ).loc Cert.Short.main_arg0)
      ∧ r.2.mem ((c.tc : Thread Cert.Short.nD Cert.Short.τ).loc Cert.Short.main_arg1) = m ((c.tc : Thread Cert.Short.nD Cert.Short.τ).loc Cert.Short.main_arg1)
      ∧ r.2.mem ((c.tc : Thread Cert.Short.nD Cert.Short.τ).loc Cert.Short.main_arg2) = m ((c.tc : Thread Cert.Short.nD Cert.Short.τ).loc Cert.Short.main_arg2))
      ∧ r.2.sem = fun _ => 0)

def quiescent_ShortIdeal [hShortIdeal : Cert.ShortIdeal.Facts] : Prop :=
  ∀ (m : (ℓ : Loc Cert.ShortIdeal.nD Cert.ShortIdeal.τ Cert.ShortIdeal.sig) → Buf (Elt Ideal) ℓ) (g : Dev Cert.ShortIdeal.nD → PrngReg), Pre_ShortIdeal m →
    θ_run (Cert.ShortIdeal.defs (F := Ideal)) (onTc (τ := Cert.ShortIdeal.τ) (Cert.ShortIdeal.main (F := Ideal))) ⟨m, fun _ => 0, g⟩ (fun r => (∀ c : Dev Cert.ShortIdeal.nD,
      r.2.mem ((c.tc : Thread Cert.ShortIdeal.nD Cert.ShortIdeal.τ).loc Cert.ShortIdeal.main_arg0) = m ((c.tc : Thread Cert.ShortIdeal.nD Cert.ShortIdeal.τ).loc Cert.ShortIdeal.main_arg0)
      ∧ r.2.mem ((c.tc : Thread Cert.ShortIdeal.nD Cert.ShortIdeal.τ).loc Cert.ShortIdeal.main_arg1) = m ((c.tc : Thread Cert.ShortIdeal.nD Cert.ShortIdeal.τ).loc Cert.ShortIdeal.main_arg1)
      ∧ r.2.mem ((c.tc : Thread Cert.ShortIdeal.nD Cert.ShortIdeal.τ).loc Cert.ShortIdeal.main_arg2) = m ((c.tc : Thread Cert.ShortIdeal.nD Cert.ShortIdeal.τ).loc Cert.ShortIdeal.main_arg2))
      ∧ r.2.sem = fun _ => 0)

def quiescent_ShortRefIdeal [hShortRefIdeal : Cert.ShortRefIdeal.Facts] : Prop :=
  ∀ (m : (ℓ : Loc Cert.ShortRefIdeal.nD Cert.ShortRefIdeal.τ Cert.ShortRefIdeal.sig) → Buf (Elt Ideal) ℓ) (g : Dev Cert.ShortRefIdeal.nD → PrngReg), Pre_ShortRefIdeal m →
    θ_run (Cert.ShortRefIdeal.defs (F := Ideal)) (onTc (τ := Cert.ShortRefIdeal.τ) (Cert.ShortRefIdeal.main (F := Ideal))) ⟨m, fun _ => 0, g⟩ (fun r => (∀ c : Dev Cert.ShortRefIdeal.nD,
      r.2.mem ((c.tc : Thread Cert.ShortRefIdeal.nD Cert.ShortRefIdeal.τ).loc Cert.ShortRefIdeal.main_arg0) = m ((c.tc : Thread Cert.ShortRefIdeal.nD Cert.ShortRefIdeal.τ).loc Cert.ShortRefIdeal.main_arg0)
      ∧ r.2.mem ((c.tc : Thread Cert.ShortRefIdeal.nD Cert.ShortRefIdeal.τ).loc Cert.ShortRefIdeal.main_arg1) = m ((c.tc : Thread Cert.ShortRefIdeal.nD Cert.ShortRefIdeal.τ).loc Cert.ShortRefIdeal.main_arg1)
      ∧ r.2.mem ((c.tc : Thread Cert.ShortRefIdeal.nD Cert.ShortRefIdeal.τ).loc Cert.ShortRefIdeal.main_arg2) = m ((c.tc : Thread Cert.ShortRefIdeal.nD Cert.ShortRefIdeal.τ).loc Cert.ShortRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1)
      ∧ r.2.mem ((c.tc : Thread Cert.Att.nD Cert.Att.τ).loc Cert.Att.main_arg2) = m ((c.tc : Thread Cert.Att.nD Cert.Att.τ).loc Cert.Att.main_arg2)
      ∧ r.2.mem ((c.tc : Thread Cert.Att.nD Cert.Att.τ).loc Cert.Att.main_arg3) = m ((c.tc : Thread Cert.Att.nD Cert.Att.τ).loc Cert.Att.main_arg3))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
      ∧ r.2.mem ((c.tc : Thread Cert.AttIdeal.nD Cert.AttIdeal.τ).loc Cert.AttIdeal.main_arg3) = m ((c.tc : Thread Cert.AttIdeal.nD Cert.AttIdeal.τ).loc Cert.AttIdeal.main_arg3))
      ∧ r.2.sem = fun _ => 0)

def quiescent_AttIdeal_pre_att_scores_finite [hAttIdeal : Cert.AttIdeal.Facts] [hPre_att_scores_finite : Cert.Pre_att_scores_finite.Facts] : Prop :=
  ∀ (m : (ℓ : Loc Cert.AttIdeal.nD Cert.AttIdeal.τ Cert.AttIdeal.sig) → Buf (Elt Ideal) ℓ) (g : Dev Cert.AttIdeal.nD → PrngReg), Pre_AttIdeal_att_scores_finite m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
      ∧ r.2.mem ((c.tc : Thread Cert.AttIdeal.nD Cert.AttIdeal.τ).loc Cert.AttIdeal.main_arg3) = m ((c.tc : Thread Cert.AttIdeal.nD Cert.AttIdeal.τ).loc Cert.AttIdeal.main_arg3))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2)
      ∧ r.2.mem ((c.tc : Thread Cert.AttRefIdeal.nD Cert.AttRefIdeal.τ).loc Cert.AttRefIdeal.main_arg3) = m ((c.tc : Thread Cert.AttRefIdeal.nD Cert.AttRefIdeal.τ).loc Cert.AttRefIdeal.main_arg3))
      ∧ r.2.sem = fun _ => 0)

def quiescent_AttRefIdeal_pre_att_scores_finite [hAttRefIdeal : Cert.AttRefIdeal.Facts] [hPre_att_scores_finite : Cert.Pre_att_scores_finite.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal_att_scores_finite m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2)
      ∧ r.2.mem ((c.tc : Thread Cert.AttRefIdeal.nD Cert.AttRefIdeal.τ).loc Cert.AttRefIdeal.main_arg3) = m ((c.tc : Thread Cert.AttRefIdeal.nD Cert.AttRefIdeal.τ).loc Cert.AttRefIdeal.main_arg3))
      ∧ r.2.sem = fun _ => 0)

def quiescent_Dft [hDft : Cert.Dft.Facts] : Prop :=
  ∀ (m : (ℓ : Loc Cert.Dft.nD Cert.Dft.τ Cert.Dft.sig) → Buf (Elt Bits) ℓ) (g : Dev Cert.Dft.nD → PrngReg), Pre_Dft m →
    θ_run (Cert.Dft.defs (F := Bits)) (onTc (τ := Cert.Dft.τ) (Cert.Dft.main (F := Bits))) ⟨m, fun _ => 0, g⟩ (fun r => (∀ c : Dev Cert.Dft.nD,
      r.2.mem ((c.tc : Thread Cert.Dft.nD Cert.Dft.τ).loc Cert.Dft.main_arg0) = m ((c.tc : Thread Cert.Dft.nD Cert.Dft.τ).loc Cert.Dft.main_arg0))
      ∧ r.2.sem = fun _ => 0)

def quiescent_DftIdeal [hDftIdeal : Cert.DftIdeal.Facts] : Prop :=
  ∀ (m : (ℓ : Loc Cert.DftIdeal.nD Cert.DftIdeal.τ Cert.DftIdeal.sig) → Buf (Elt Ideal) ℓ) (g : Dev Cert.DftIdeal.nD → PrngReg), Pre_DftIdeal m →
    θ_run (Cert.DftIdeal.defs (F := Ideal)) (onTc (τ := Cert.DftIdeal.τ) (Cert.DftIdeal.main (F := Ideal))) ⟨m, fun _ => 0, g⟩ (fun r => (∀ c : Dev Cert.DftIdeal.nD,
      r.2.mem ((c.tc : Thread Cert.DftIdeal.nD Cert.DftIdeal.τ).loc Cert.DftIdeal.main_arg0) = m ((c.tc : Thread Cert.DftIdeal.nD Cert.DftIdeal.τ).loc Cert.DftIdeal.main_arg0))
      ∧ r.2.sem = fun _ => 0)

def quiescent_DftRefIdeal [hDftRefIdeal : Cert.DftRefIdeal.Facts] : Prop :=
  ∀ (m : (ℓ : Loc Cert.DftRefIdeal.nD Cert.DftRefIdeal.τ Cert.DftRefIdeal.sig) → Buf (Elt Ideal) ℓ) (g : Dev Cert.DftRefIdeal.nD → PrngReg), Pre_DftRefIdeal m →
    θ_run (Cert.DftRefIdeal.defs (F := Ideal)) (onTc (τ := Cert.DftRefIdeal.τ) (Cert.DftRefIdeal.main (F := Ideal))) ⟨m, fun _ => 0, g⟩ (fun r => (∀ c : Dev Cert.DftRefIdeal.nD,
      r.2.mem ((c.tc : Thread Cert.DftRefIdeal.nD Cert.DftRefIdeal.τ).loc Cert.DftRefIdeal.main_arg0) = m ((c.tc : Thread Cert.DftRefIdeal.nD Cert.DftRefIdeal.τ).loc Cert.DftRefIdeal.main_arg0))
      ∧ r.2.sem = fun _ => 0)

def quiescent_Inv [hInv : Cert.Inv.Facts] : Prop :=
  ∀ (m : (ℓ : Loc Cert.Inv.nD Cert.Inv.τ Cert.Inv.sig) → Buf (Elt Bits) ℓ) (g : Dev Cert.Inv.nD → PrngReg), Pre_Inv m →
    θ_run (Cert.Inv.defs (F := Bits)) (onTc (τ := Cert.Inv.τ) (Cert.Inv.main (F := Bits))) ⟨m, fun _ => 0, g⟩ (fun r => (∀ c : Dev Cert.Inv.nD,
      r.2.mem ((c.tc : Thread Cert.Inv.nD Cert.Inv.τ).loc Cert.Inv.main_arg0) = m ((c.tc : Thread Cert.Inv.nD Cert.Inv.τ).loc Cert.Inv.main_arg0)
      ∧ r.2.mem ((c.tc : Thread Cert.Inv.nD Cert.Inv.τ).loc Cert.Inv.main_arg1) = m ((c.tc : Thread Cert.Inv.nD Cert.Inv.τ).loc Cert.Inv.main_arg1)
      ∧ r.2.mem ((c.tc : Thread Cert.Inv.nD Cert.Inv.τ).loc Cert.Inv.main_arg2) = m ((c.tc : Thread Cert.Inv.nD Cert.Inv.τ).loc Cert.Inv.main_arg2)
      ∧ r.2.mem ((c.tc : Thread Cert.Inv.nD Cert.Inv.τ).loc Cert.Inv.main_arg3) = m ((c.tc : Thread Cert.Inv.nD Cert.Inv.τ).loc Cert.Inv.main_arg3))
      ∧ r.2.sem = fun _ => 0)

def quiescent_InvIdeal [hInvIdeal : Cert.InvIdeal.Facts] : Prop :=
  ∀ (m : (ℓ : Loc Cert.InvIdeal.nD Cert.InvIdeal.τ Cert.InvIdeal.sig) → Buf (Elt Ideal) ℓ) (g : Dev Cert.InvIdeal.nD → PrngReg), Pre_InvIdeal m →
    θ_run (Cert.InvIdeal.defs (F := Ideal)) (onTc (τ := Cert.InvIdeal.τ) (Cert.InvIdeal.main (F := Ideal))) ⟨m, fun _ => 0, g⟩ (fun r => (∀ c : Dev Cert.InvIdeal.nD,
      r.2.mem ((c.tc : Thread Cert.InvIdeal.nD Cert.InvIdeal.τ).loc Cert.InvIdeal.main_arg0) = m ((c.tc : Thread Cert.InvIdeal.nD Cert.InvIdeal.τ).loc Cert.InvIdeal.main_arg0)
      ∧ r.2.mem ((c.tc : Thread Cert.InvIdeal.nD Cert.InvIdeal.τ).loc Cert.InvIdeal.main_arg1) = m ((c.tc : Thread Cert.InvIdeal.nD Cert.InvIdeal.τ).loc Cert.InvIdeal.main_arg1)
      ∧ r.2.mem ((c.tc : Thread Cert.InvIdeal.nD Cert.InvIdeal.τ).loc Cert.InvIdeal.main_arg2) = m ((c.tc : Thread Cert.InvIdeal.nD Cert.InvIdeal.τ).loc Cert.InvIdeal.main_arg2)
      ∧ r.2.mem ((c.tc : Thread Cert.InvIdeal.nD Cert.InvIdeal.τ).loc Cert.InvIdeal.main_arg3) = m ((c.tc : Thread Cert.InvIdeal.nD Cert.InvIdeal.τ).loc Cert.InvIdeal.main_arg3))
      ∧ r.2.sem = fun _ => 0)

def quiescent_InvRefIdeal [hInvRefIdeal : Cert.InvRefIdeal.Facts] : Prop :=
  ∀ (m : (ℓ : Loc Cert.InvRefIdeal.nD Cert.InvRefIdeal.τ Cert.InvRefIdeal.sig) → Buf (Elt Ideal) ℓ) (g : Dev Cert.InvRefIdeal.nD → PrngReg), Pre_InvRefIdeal m →
    θ_run (Cert.InvRefIdeal.defs (F := Ideal)) (onTc (τ := Cert.InvRefIdeal.τ) (Cert.InvRefIdeal.main (F := Ideal))) ⟨m, fun _ => 0, g⟩ (fun r => (∀ c : Dev Cert.InvRefIdeal.nD,
      r.2.mem ((c.tc : Thread Cert.InvRefIdeal.nD Cert.InvRefIdeal.τ).loc Cert.InvRefIdeal.main_arg0) = m ((c.tc : Thread Cert.InvRefIdeal.nD Cert.InvRefIdeal.τ).loc Cert.InvRefIdeal.main_arg0)
      ∧ r.2.mem ((c.tc : Thread Cert.InvRefIdeal.nD Cert.InvRefIdeal.τ).loc Cert.InvRefIdeal.main_arg1) = m ((c.tc : Thread Cert.InvRefIdeal.nD Cert.InvRefIdeal.τ).loc Cert.InvRefIdeal.main_arg1)
      ∧ r.2.mem ((c.tc : Thread Cert.InvRefIdeal.nD Cert.InvRefIdeal.τ).loc Cert.InvRefIdeal.main_arg2) = m ((c.tc : Thread Cert.InvRefIdeal.nD Cert.InvRefIdeal.τ).loc Cert.InvRefIdeal.main_arg2)
      ∧ r.2.mem ((c.tc : Thread Cert.InvRefIdeal.nD Cert.InvRefIdeal.τ).loc Cert.InvRefIdeal.main_arg3) = m ((c.tc : Thread Cert.InvRefIdeal.nD Cert.InvRefIdeal.τ).loc Cert.InvRefIdeal.main_arg3))
      ∧ r.2.sem = fun _ => 0)

def quiescent_Fil [hFil : Cert.Fil.Facts] : Prop :=
  ∀ (m : (ℓ : Loc Cert.Fil.nD Cert.Fil.τ Cert.Fil.sig) → Buf (Elt Bits) ℓ) (g : Dev Cert.Fil.nD → PrngReg), Pre_Fil m →
    θ_run (Cert.Fil.defs (F := Bits)) (onTc (τ := Cert.Fil.τ) (Cert.Fil.main (F := Bits))) ⟨m, fun _ => 0, g⟩ (fun r => (∀ c : Dev Cert.Fil.nD,
      r.2.mem ((c.tc : Thread Cert.Fil.nD Cert.Fil.τ).loc Cert.Fil.main_arg0) = m ((c.tc : Thread Cert.Fil.nD Cert.Fil.τ).loc Cert.Fil.main_arg0))
      ∧ r.2.sem = fun _ => 0)

def quiescent_FilIdeal [hFilIdeal : Cert.FilIdeal.Facts] : Prop :=
  ∀ (m : (ℓ : Loc Cert.FilIdeal.nD Cert.FilIdeal.τ Cert.FilIdeal.sig) → Buf (Elt Ideal) ℓ) (g : Dev Cert.FilIdeal.nD → PrngReg), Pre_FilIdeal m →
    θ_run (Cert.FilIdeal.defs (F := Ideal)) (onTc (τ := Cert.FilIdeal.τ) (Cert.FilIdeal.main (F := Ideal))) ⟨m, fun _ => 0, g⟩ (fun r => (∀ c : Dev Cert.FilIdeal.nD,
      r.2.mem ((c.tc : Thread Cert.FilIdeal.nD Cert.FilIdeal.τ).loc Cert.FilIdeal.main_arg0) = m ((c.tc : Thread Cert.FilIdeal.nD Cert.FilIdeal.τ).loc Cert.FilIdeal.main_arg0))
      ∧ r.2.sem = fun _ => 0)

def quiescent_FilRefIdeal [hFilRefIdeal : Cert.FilRefIdeal.Facts] : Prop :=
  ∀ (m : (ℓ : Loc Cert.FilRefIdeal.nD Cert.FilRefIdeal.τ Cert.FilRefIdeal.sig) → Buf (Elt Ideal) ℓ) (g : Dev Cert.FilRefIdeal.nD → PrngReg), Pre_FilRefIdeal m →
    θ_run (Cert.FilRefIdeal.defs (F := Ideal)) (onTc (τ := Cert.FilRefIdeal.τ) (Cert.FilRefIdeal.main (F := Ideal))) ⟨m, fun _ => 0, g⟩ (fun r => (∀ c : Dev Cert.FilRefIdeal.nD,
      r.2.mem ((c.tc : Thread Cert.FilRefIdeal.nD Cert.FilRefIdeal.τ).loc Cert.FilRefIdeal.main_arg0) = m ((c.tc : Thread Cert.FilRefIdeal.nD Cert.FilRefIdeal.τ).loc Cert.FilRefIdeal.main_arg0))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2))
      ∧ r.2.sem = fun _ => 0)

def quiescent_Full [hFull : Cert.Full.Facts] : Prop :=
  ∀ (m : (ℓ : Loc Cert.Full.nD Cert.Full.τ Cert.Full.sig) → Buf (Elt Bits) ℓ) (g : Dev Cert.Full.nD → PrngReg), Pre_Full m →
    θ_run (Cert.Full.defs (F := Bits)) (onTc (τ := Cert.Full.τ) (Cert.Full.main (F := Bits))) ⟨m, fun _ => 0, g⟩ (fun r => (∀ c : Dev Cert.Full.nD,
      r.2.mem ((c.tc : Thread Cert.Full.nD Cert.Full.τ).loc Cert.Full.main_arg0) = m ((c.tc : Thread Cert.Full.nD Cert.Full.τ).loc Cert.Full.main_arg0))
      ∧ r.2.sem = fun _ => 0)

def quiescent_FullIdeal [hFullIdeal : Cert.FullIdeal.Facts] : Prop :=
  ∀ (m : (ℓ : Loc Cert.FullIdeal.nD Cert.FullIdeal.τ Cert.FullIdeal.sig) → Buf (Elt Ideal) ℓ) (g : Dev Cert.FullIdeal.nD → PrngReg), Pre_FullIdeal m →
    θ_run (Cert.FullIdeal.defs (F := Ideal)) (onTc (τ := Cert.FullIdeal.τ) (Cert.FullIdeal.main (F := Ideal))) ⟨m, fun _ => 0, g⟩ (fun r => (∀ c : Dev Cert.FullIdeal.nD,
      r.2.mem ((c.tc : Thread Cert.FullIdeal.nD Cert.FullIdeal.τ).loc Cert.FullIdeal.main_arg0) = m ((c.tc : Thread Cert.FullIdeal.nD Cert.FullIdeal.τ).loc Cert.FullIdeal.main_arg0))
      ∧ r.2.sem = fun _ => 0)

def quiescent_FullRefIdeal [hFullRefIdeal : Cert.FullRefIdeal.Facts] : Prop :=
  ∀ (m : (ℓ : Loc Cert.FullRefIdeal.nD Cert.FullRefIdeal.τ Cert.FullRefIdeal.sig) → Buf (Elt Ideal) ℓ) (g : Dev Cert.FullRefIdeal.nD → PrngReg), Pre_FullRefIdeal m →
    θ_run (Cert.FullRefIdeal.defs (F := Ideal)) (onTc (τ := Cert.FullRefIdeal.τ) (Cert.FullRefIdeal.main (F := Ideal))) ⟨m, fun _ => 0, g⟩ (fun r => (∀ c : Dev Cert.FullRefIdeal.nD,
      r.2.mem ((c.tc : Thread Cert.FullRefIdeal.nD Cert.FullRefIdeal.τ).loc Cert.FullRefIdeal.main_arg0) = m ((c.tc : Thread Cert.FullRefIdeal.nD Cert.FullRefIdeal.τ).loc Cert.FullRefIdeal.main_arg0))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3))
      ∧ r.2.sem = fun _ => 0)

def quiescent_MidA [hMidA : Cert.MidA.Facts] : Prop :=
  ∀ (m : (ℓ : Loc Cert.MidA.nD Cert.MidA.τ Cert.MidA.sig) → Buf (Elt Bits) ℓ) (g : Dev Cert.MidA.nD → PrngReg), Pre_MidA m →
    θ_run (Cert.MidA.defs (F := Bits)) (onTc (τ := Cert.MidA.τ) (Cert.MidA.main (F := Bits))) ⟨m, fun _ => 0, g⟩ (fun r => (∀ c : Dev Cert.MidA.nD,
      r.2.mem ((c.tc : Thread Cert.MidA.nD Cert.MidA.τ).loc Cert.MidA.main_arg0) = m ((c.tc : Thread Cert.MidA.nD Cert.MidA.τ).loc Cert.MidA.main_arg0)
      ∧ r.2.mem ((c.tc : Thread Cert.MidA.nD Cert.MidA.τ).loc Cert.MidA.main_arg1) = m ((c.tc : Thread Cert.MidA.nD Cert.MidA.τ).loc Cert.MidA.main_arg1)
      ∧ r.2.mem ((c.tc : Thread Cert.MidA.nD Cert.MidA.τ).loc Cert.MidA.main_arg2) = m ((c.tc : Thread Cert.MidA.nD Cert.MidA.τ).loc Cert.MidA.main_arg2))
      ∧ r.2.sem = fun _ => 0)

def quiescent_MidAIdeal [hMidAIdeal : Cert.MidAIdeal.Facts] : Prop :=
  ∀ (m : (ℓ : Loc Cert.MidAIdeal.nD Cert.MidAIdeal.τ Cert.MidAIdeal.sig) → Buf (Elt Ideal) ℓ) (g : Dev Cert.MidAIdeal.nD → PrngReg), Pre_MidAIdeal m →
    θ_run (Cert.MidAIdeal.defs (F := Ideal)) (onTc (τ := Cert.MidAIdeal.τ) (Cert.MidAIdeal.main (F := Ideal))) ⟨m, fun _ => 0, g⟩ (fun r => (∀ c : Dev Cert.MidAIdeal.nD,
      r.2.mem ((c.tc : Thread Cert.MidAIdeal.nD Cert.MidAIdeal.τ).loc Cert.MidAIdeal.main_arg0) = m ((c.tc : Thread Cert.MidAIdeal.nD Cert.MidAIdeal.τ).loc Cert.MidAIdeal.main_arg0)
      ∧ r.2.mem ((c.tc : Thread Cert.MidAIdeal.nD Cert.MidAIdeal.τ).loc Cert.MidAIdeal.main_arg1) = m ((c.tc : Thread Cert.MidAIdeal.nD Cert.MidAIdeal.τ).loc Cert.MidAIdeal.main_arg1)
      ∧ r.2.mem ((c.tc : Thread Cert.MidAIdeal.nD Cert.MidAIdeal.τ).loc Cert.MidAIdeal.main_arg2) = m ((c.tc : Thread Cert.MidAIdeal.nD Cert.MidAIdeal.τ).loc Cert.MidAIdeal.main_arg2))
      ∧ r.2.sem = fun _ => 0)

def quiescent_MidARefIdeal [hMidARefIdeal : Cert.MidARefIdeal.Facts] : Prop :=
  ∀ (m : (ℓ : Loc Cert.MidARefIdeal.nD Cert.MidARefIdeal.τ Cert.MidARefIdeal.sig) → Buf (Elt Ideal) ℓ) (g : Dev Cert.MidARefIdeal.nD → PrngReg), Pre_MidARefIdeal m →
    θ_run (Cert.MidARefIdeal.defs (F := Ideal)) (onTc (τ := Cert.MidARefIdeal.τ) (Cert.MidARefIdeal.main (F := Ideal))) ⟨m, fun _ => 0, g⟩ (fun r => (∀ c : Dev Cert.MidARefIdeal.nD,
      r.2.mem ((c.tc : Thread Cert.MidARefIdeal.nD Cert.MidARefIdeal.τ).loc Cert.MidARefIdeal.main_arg0) = m ((c.tc : Thread Cert.MidARefIdeal.nD Cert.MidARefIdeal.τ).loc Cert.MidARefIdeal.main_arg0)
      ∧ r.2.mem ((c.tc : Thread Cert.MidARefIdeal.nD Cert.MidARefIdeal.τ).loc Cert.MidARefIdeal.main_arg1) = m ((c.tc : Thread Cert.MidARefIdeal.nD Cert.MidARefIdeal.τ).loc Cert.MidARefIdeal.main_arg1)
      ∧ r.2.mem ((c.tc : Thread Cert.MidARefIdeal.nD Cert.MidARefIdeal.τ).loc Cert.MidARefIdeal.main_arg2) = m ((c.tc : Thread Cert.MidARefIdeal.nD Cert.MidARefIdeal.τ).loc Cert.MidARefIdeal.main_arg2))
      ∧ r.2.sem = fun _ => 0)

def preserves_Moe_MoeIdeal : Prop :=
  True

def algebraic_MoeIdeal_MoeRefIdeal_pre_moe_gates_finite [hMoeIdeal : Cert.MoeIdeal.Facts] [hMoeRefIdeal : Cert.MoeRefIdeal.Facts] [hPre_moe_gates_finite : Cert.Pre_moe_gates_finite.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_moe_gates_finite m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v3)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v3) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v17) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_InB_InBIdeal : Prop :=
  True

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)
      ∧ m' ((c.tc : Thread Cert.InBRefIdeal.nD Cert.InBRefIdeal.τ).loc Cert.InBRefIdeal.main_arg2) = m ((c.tc : Thread Cert.InBIdeal.nD Cert.InBIdeal.τ).loc Cert.InBIdeal.main_arg2)
      ∧ m' ((c.tc : Thread Cert.InBRefIdeal.nD Cert.InBRefIdeal.τ).loc Cert.InBRefIdeal.main_arg3) = m ((c.tc : Thread Cert.InBIdeal.nD Cert.InBIdeal.τ).loc Cert.InBIdeal.main_arg3)) →
    ∃ (v0 : (c : Dev Cert.InBIdeal.nD) → Buf (Elt Ideal) ((c.tc : Thread Cert.InBIdeal.nD Cert.InBIdeal.τ).loc Cert.InBIdeal.main_v6_0)) (v1 : (c : Dev Cert.InBIdeal.nD) → Buf (Elt Ideal) ((c.tc : Thread Cert.InBIdeal.nD Cert.InBIdeal.τ).loc Cert.InBIdeal.main_v6_1)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v6_0) = v0 c
          ∧ r.2.mem ((c.tc : Thread Cert.InBIdeal.nD Cert.InBIdeal.τ).loc Cert.InBIdeal.main_v6_1) = v1 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
          ∧ r.2.mem ((c.tc : Thread Cert.InBIdeal.nD Cert.InBIdeal.τ).loc Cert.InBIdeal.main_arg2) = m ((c.tc : Thread Cert.InBIdeal.nD Cert.InBIdeal.τ).loc Cert.InBIdeal.main_arg2)
          ∧ r.2.mem ((c.tc : Thread Cert.InBIdeal.nD Cert.InBIdeal.τ).loc Cert.InBIdeal.main_arg3) = m ((c.tc : Thread Cert.InBIdeal.nD Cert.InBIdeal.τ).loc Cert.InBIdeal.main_arg3))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v26) = v0 c
          ∧ r.2.mem ((c.tc : Thread Cert.InBRefIdeal.nD Cert.InBRefIdeal.τ).loc Cert.InBRefIdeal.main_v27) = v1 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1)
          ∧ r.2.mem ((c.tc : Thread Cert.InBRefIdeal.nD Cert.InBRefIdeal.τ).loc Cert.InBRefIdeal.main_arg2) = m' ((c.tc : Thread Cert.InBRefIdeal.nD Cert.InBRefIdeal.τ).loc Cert.InBRefIdeal.main_arg2)
          ∧ r.2.mem ((c.tc : Thread Cert.InBRefIdeal.nD Cert.InBRefIdeal.τ).loc Cert.InBRefIdeal.main_arg3) = m' ((c.tc : Thread Cert.InBRefIdeal.nD Cert.InBRefIdeal.τ).loc Cert.InBRefIdeal.main_arg3))

def preserves_InA_InAIdeal : Prop :=
  True

def algebraic_InAIdeal_InARefIdeal [hInAIdeal : Cert.InAIdeal.Facts] [hInARefIdeal : Cert.InARefIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.InARefIdeal.nD Cert.InARefIdeal.τ Cert.InARefIdeal.sig) → Buf (Elt Ideal) ℓ) (g' : Dev Cert.InARefIdeal.nD → PrngReg), Pre_InAIdeal m →
    (∀ c : Dev Cert.InAIdeal.nD,
      m' ((c.tc : Thread Cert.InARefIdeal.nD Cert.InARefIdeal.τ).loc Cert.InARefIdeal.main_arg0) = m ((c.tc : Thread Cert.InAIdeal.nD Cert.InAIdeal.τ).loc Cert.InAIdeal.main_arg0)
      ∧ m' ((c.tc : Thread Cert.InARefIdeal.nD Cert.InARefIdeal.τ).loc Cert.InARefIdeal.main_arg1) = m ((c.tc : Thread Cert.InAIdeal.nD Cert.InAIdeal.τ).loc Cert.InAIdeal.main_arg1)
      ∧ m' ((c.tc : Thread Cert.InARefIdeal.nD Cert.InARefIdeal.τ).loc Cert.InARefIdeal.main_arg2) = m ((c.tc : Thread Cert.InAIdeal.nD Cert.InAIdeal.τ).loc Cert.InAIdeal.main_arg2)
      ∧ m' ((c.tc : Thread Cert.InARefIdeal.nD Cert.InARefIdeal.τ).loc Cert.InARefIdeal.main_arg3) = m ((c.tc : Thread Cert.InAIdeal.nD Cert.InAIdeal.τ).loc Cert.InAIdeal.main_arg3)
      ∧ m' ((c.tc : Thread Cert.InARefIdeal.nD Cert.InARefIdeal.τ).loc Cert.InARefIdeal.main_arg4) = m ((c.tc : Thread Cert.InAIdeal.nD Cert.InAIdeal.τ).loc Cert.InAIdeal.main_arg4)
      ∧ m' ((c.tc : Thread Cert.InARefIdeal.nD Cert.InARefIdeal.τ).loc Cert.InARefIdeal.main_arg5) = m ((c.tc : Thread Cert.InAIdeal.nD Cert.InAIdeal.τ).loc Cert.InAIdeal.main_arg5)) →
    ∃ (v0 : (c : Dev Cert.InAIdeal.nD) → Buf (Elt Ideal) ((c.tc : Thread Cert.InAIdeal.nD Cert.InAIdeal.τ).loc Cert.InAIdeal.main_v21_0)) (v1 : (c : Dev Cert.InAIdeal.nD) → Buf (Elt Ideal) ((c.tc : Thread Cert.InAIdeal.nD Cert.InAIdeal.τ).loc Cert.InAIdeal.main_v21_1)) (v2 : (c : Dev Cert.InAIdeal.nD) → Buf (Elt Ideal) ((c.tc : Thread Cert.InAIdeal.nD Cert.InAIdeal.τ).loc Cert.InAIdeal.main_v21_2)) (v3 : (c : Dev Cert.InAIdeal.nD) → Buf (Elt Ideal) ((c.tc : Thread Cert.InAIdeal.nD Cert.InAIdeal.τ).loc Cert.InAIdeal.main_v21_3)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v21_0) = v0 c
          ∧ r.2.mem ((c.tc : Thread Cert.InAIdeal.nD Cert.InAIdeal.τ).loc Cert.InAIdeal.main_v21_1) = v1 c
          ∧ r.2.mem ((c.tc : Thread Cert.InAIdeal.nD Cert.InAIdeal.τ).loc Cert.InAIdeal.main_v21_2) = v2 c
          ∧ r.2.mem ((c.tc : Thread Cert.InAIdeal.nD Cert.InAIdeal.τ).loc Cert.InAIdeal.main_v21_3) = v3 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
          ∧ r.2.mem ((c.tc : Thread Cert.InAIdeal.nD Cert.InAIdeal.τ).loc Cert.InAIdeal.main_arg2) = m ((c.tc : Thread Cert.InAIdeal.nD Cert.InAIdeal.τ).loc Cert.InAIdeal.main_arg2)
          ∧ r.2.mem ((c.tc : Thread Cert.InAIdeal.nD Cert.InAIdeal.τ).loc Cert.InAIdeal.main_arg3) = m ((c.tc : Thread Cert.InAIdeal.nD Cert.InAIdeal.τ).loc Cert.InAIdeal.main_arg3)
          ∧ r.2.mem ((c.tc : Thread Cert.InAIdeal.nD Cert.InAIdeal.τ).loc Cert.InAIdeal.main_arg4) = m ((c.tc : Thread Cert.InAIdeal.nD Cert.InAIdeal.τ).loc Cert.InAIdeal.main_arg4)
          ∧ r.2.mem ((c.tc : Thread Cert.InAIdeal.nD Cert.InAIdeal.τ).loc Cert.InAIdeal.main_arg5) = m ((c.tc : Thread Cert.InAIdeal.nD Cert.InAIdeal.τ).loc Cert.InAIdeal.main_arg5))
      ∧ θ_run (Cert.InARefIdeal.defs (F := Ideal)) (onTc (τ := Cert.InARefIdeal.τ) (Cert.InARefIdeal.main (F := Ideal))) ⟨m', fun _ => 0, g'⟩ (fun r => ∀ c : Dev Cert.InARefIdeal.nD,
          r.2.mem ((c.tc : Thread Cert.InARefIdeal.nD Cert.InARefIdeal.τ).loc Cert.InARefIdeal.main_v66) = v0 c
          ∧ r.2.mem ((c.tc : Thread Cert.InARefIdeal.nD Cert.InARefIdeal.τ).loc Cert.InARefIdeal.main_v68) = v1 c
          ∧ r.2.mem ((c.tc : Thread Cert.InARefIdeal.nD Cert.InARefIdeal.τ).loc Cert.InARefIdeal.main_v70) = v2 c
          ∧ r.2.mem ((c.tc : Thread Cert.InARefIdeal.nD Cert.InARefIdeal.τ).loc Cert.InARefIdeal.main_v72) = v3 c
          ∧ r.2.mem ((c.tc : Thread Cert.InARefIdeal.nD Cert.InARefIdeal.τ).loc Cert.InARefIdeal.main_arg0) = m' ((c.tc : Thread Cert.InARefIdeal.nD Cert.InARefIdeal.τ).loc Cert.InARefIdeal.main_arg0)
          ∧ r.2.mem ((c.tc : Thread Cert.InARefIdeal.nD Cert.InARefIdeal.τ).loc Cert.InARefIdeal.main_arg1) = m' ((c.tc : Thread Cert.InARefIdeal.nD Cert.InARefIdeal.τ).loc Cert.InARefIdeal.main_arg1)
          ∧ r.2.mem ((c.tc : Thread Cert.InARefIdeal.nD Cert.InARefIdeal.τ).loc Cert.InARefIdeal.main_arg2) = m' ((c.tc : Thread Cert.InARefIdeal.nD Cert.InARefIdeal.τ).loc Cert.InARefIdeal.main_arg2)
          ∧ r.2.mem ((c.tc : Thread Cert.InARefIdeal.nD Cert.InARefIdeal.τ).loc Cert.InARefIdeal.main_arg3) = m' ((c.tc : Thread Cert.InARefIdeal.nD Cert.InARefIdeal.τ).loc Cert.InARefIdeal.main_arg3)
          ∧ r.2.mem ((c.tc : Thread Cert.InARefIdeal.nD Cert.InARefIdeal.τ).loc Cert.InARefIdeal.main_arg4) = m' ((c.tc : Thread Cert.InARefIdeal.nD Cert.InARefIdeal.τ).loc Cert.InARefIdeal.main_arg4)
          ∧ r.2.mem ((c.tc : Thread Cert.InARefIdeal.nD Cert.InARefIdeal.τ).loc Cert.InARefIdeal.main_arg5) = m' ((c.tc : Thread Cert.InARefIdeal.nD Cert.InARefIdeal.τ).loc Cert.InARefIdeal.main_arg5))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)) →
    ∃ (v0 : (c : Dev Cert.PostIdeal.nD) → Buf (Elt Ideal) ((c.tc : Thread Cert.PostIdeal.nD Cert.PostIdeal.τ).loc Cert.PostIdeal.main_v1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v1) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v22) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v20) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v3) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v250) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_Short_ShortIdeal : Prop :=
  True

def algebraic_ShortIdeal_ShortRefIdeal [hShortIdeal : Cert.ShortIdeal.Facts] [hShortRefIdeal : Cert.ShortRefIdeal.Facts] : Prop :=
  ∀ (m : (ℓ : Loc Cert.ShortIdeal.nD Cert.ShortIdeal.τ Cert.ShortIdeal.sig) → Buf (Elt Ideal) ℓ) (g : Dev Cert.ShortIdeal.nD → PrngReg)
    (m' : (ℓ : Loc Cert.ShortRefIdeal.nD Cert.ShortRefIdeal.τ Cert.ShortRefIdeal.sig) → Buf (Elt Ideal) ℓ) (g' : Dev Cert.ShortRefIdeal.nD → PrngReg), Pre_ShortIdeal m →
    (∀ c : Dev Cert.ShortIdeal.nD,
      m' ((c.tc : Thread Cert.ShortRefIdeal.nD Cert.ShortRefIdeal.τ).loc Cert.ShortRefIdeal.main_arg0) = m ((c.tc : Thread Cert.ShortIdeal.nD Cert.ShortIdeal.τ).loc Cert.ShortIdeal.main_arg0)
      ∧ m' ((c.tc : Thread Cert.ShortRefIdeal.nD Cert.ShortRefIdeal.τ).loc Cert.ShortRefIdeal.main_arg1) = m ((c.tc : Thread Cert.ShortIdeal.nD Cert.ShortIdeal.τ).loc Cert.ShortIdeal.main_arg1)
      ∧ m' ((c.tc : Thread Cert.ShortRefIdeal.nD Cert.ShortRefIdeal.τ).loc Cert.ShortRefIdeal.main_arg2) = m ((c.tc : Thread Cert.ShortIdeal.nD Cert.ShortIdeal.τ).loc Cert.ShortIdeal.main_arg2)) →
    ∃ (v0 : (c : Dev Cert.ShortIdeal.nD) → Buf (Elt Ideal) ((c.tc : Thread Cert.ShortIdeal.nD Cert.ShortIdeal.τ).loc Cert.ShortIdeal.main_v1_0)) (v1 : (c : Dev Cert.ShortIdeal.nD) → Buf (Elt Ideal) ((c.tc : Thread Cert.ShortIdeal.nD Cert.ShortIdeal.τ).loc Cert.ShortIdeal.main_v1_1)) (v2 : (c : Dev Cert.ShortIdeal.nD) → Buf (Elt Ideal) ((c.tc : Thread Cert.ShortIdeal.nD Cert.ShortIdeal.τ).loc Cert.ShortIdeal.main_v1_2)),
      θ_run (Cert.ShortIdeal.defs (F := Ideal)) (onTc (τ := Cert.ShortIdeal.τ) (Cert.ShortIdeal.main (F := Ideal))) ⟨m, fun _ => 0, g⟩ (fun r => ∀ c : Dev Cert.ShortIdeal.nD,
          r.2.mem ((c.tc : Thread Cert.ShortIdeal.nD Cert.ShortIdeal.τ).loc Cert.ShortIdeal.main_v1_0) = v0 c
          ∧ r.2.mem ((c.tc : Thread Cert.ShortIdeal.nD Cert.ShortIdeal.τ).loc Cert.ShortIdeal.main_v1_1) = v1 c
          ∧ r.2.mem ((c.tc : Thread Cert.ShortIdeal.nD Cert.ShortIdeal.τ).loc Cert.ShortIdeal.main_v1_2) = v2 c
          ∧ r.2.mem ((c.tc : Thread Cert.ShortIdeal.nD Cert.ShortIdeal.τ).loc Cert.ShortIdeal.main_arg0) = m ((c.tc : Thread Cert.ShortIdeal.nD Cert.ShortIdeal.τ).loc Cert.ShortIdeal.main_arg0)
          ∧ r.2.mem ((c.tc : Thread Cert.ShortIdeal.nD Cert.ShortIdeal.τ).loc Cert.ShortIdeal.main_arg1) = m ((c.tc : Thread Cert.ShortIdeal.nD Cert.ShortIdeal.τ).loc Cert.ShortIdeal.main_arg1)
          ∧ r.2.mem ((c.tc : Thread Cert.ShortIdeal.nD Cert.ShortIdeal.τ).loc Cert.ShortIdeal.main_arg2) = m ((c.tc : Thread Cert.ShortIdeal.nD Cert.ShortIdeal.τ).loc Cert.ShortIdeal.main_arg2))
      ∧ θ_run (Cert.ShortRefIdeal.defs (F := Ideal)) (onTc (τ := Cert.ShortRefIdeal.τ) (Cert.ShortRefIdeal.main (F := Ideal))) ⟨m', fun _ => 0, g'⟩ (fun r => ∀ c : Dev Cert.ShortRefIdeal.nD,
          r.2.mem ((c.tc : Thread Cert.ShortRefIdeal.nD Cert.ShortRefIdeal.τ).loc Cert.ShortRefIdeal.main_v30) = v0 c
          ∧ r.2.mem ((c.tc : Thread Cert.ShortRefIdeal.nD Cert.ShortRefIdeal.τ).loc Cert.ShortRefIdeal.main_v31) = v1 c
          ∧ r.2.mem ((c.tc : Thread Cert.ShortRefIdeal.nD Cert.ShortRefIdeal.τ).loc Cert.ShortRefIdeal.main_v32) = v2 c
          ∧ r.2.mem ((c.tc : Thread Cert.ShortRefIdeal.nD Cert.ShortRefIdeal.τ).loc Cert.ShortRefIdeal.main_arg0) = m' ((c.tc : Thread Cert.ShortRefIdeal.nD Cert.ShortRefIdeal.τ).loc Cert.ShortRefIdeal.main_arg0)
          ∧ r.2.mem ((c.tc : Thread Cert.ShortRefIdeal.nD Cert.ShortRefIdeal.τ).loc Cert.ShortRefIdeal.main_arg1) = m' ((c.tc : Thread Cert.ShortRefIdeal.nD Cert.ShortRefIdeal.τ).loc Cert.ShortRefIdeal.main_arg1)
          ∧ r.2.mem ((c.tc : Thread Cert.ShortRefIdeal.nD Cert.ShortRefIdeal.τ).loc Cert.ShortRefIdeal.main_arg2) = m' ((c.tc : Thread Cert.ShortRefIdeal.nD Cert.ShortRefIdeal.τ).loc Cert.ShortRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v4_0)) (v1 : (c : Dev Cert.OutIdeal.nD) → Buf (Elt Ideal) ((c.tc : Thread Cert.OutIdeal.nD Cert.OutIdeal.τ).loc Cert.OutIdeal.main_v4_1)) (v2 : (c : Dev Cert.OutIdeal.nD) → Buf (Elt Ideal) ((c.tc : Thread Cert.OutIdeal.nD Cert.OutIdeal.τ).loc Cert.OutIdeal.main_v4_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4_0) = v0 c
          ∧ r.2.mem ((c.tc : Thread Cert.OutIdeal.nD Cert.OutIdeal.τ).loc Cert.OutIdeal.main_v4_1) = v1 c
          ∧ r.2.mem ((c.tc : Thread Cert.OutIdeal.nD Cert.OutIdeal.τ).loc Cert.OutIdeal.main_v4_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v59) = v0 c
          ∧ r.2.mem ((c.tc : Thread Cert.OutRefIdeal.nD Cert.OutRefIdeal.τ).loc Cert.OutRefIdeal.main_v61) = v1 c
          ∧ r.2.mem ((c.tc : Thread Cert.OutRefIdeal.nD Cert.OutRefIdeal.τ).loc Cert.OutRefIdeal.main_v62) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7))

def preserves_Att_AttIdeal : Prop :=
  True

def algebraic_AttIdeal_AttRefIdeal_pre_att_scores_finite [hAttIdeal : Cert.AttIdeal.Facts] [hAttRefIdeal : Cert.AttRefIdeal.Facts] [hPre_att_scores_finite : Cert.Pre_att_scores_finite.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttIdeal_att_scores_finite m →
    (∀ c : Dev Cert.AttIdeal.nD,
      m' ((c.tc : Thread Cert.AttRefIdeal.nD Cert.AttRefIdeal.τ).loc Cert.AttRefIdeal.main_arg0) = m ((c.tc : Thread Cert.AttIdeal.nD Cert.AttIdeal.τ).loc Cert.AttIdeal.main_arg0)
      ∧ m' ((c.tc : Thread Cert.AttRefIdeal.nD Cert.AttRefIdeal.τ).loc Cert.AttRefIdeal.main_arg1) = m ((c.tc : Thread Cert.AttIdeal.nD Cert.AttIdeal.τ).loc Cert.AttIdeal.main_arg1)
      ∧ m' ((c.tc : Thread Cert.AttRefIdeal.nD Cert.AttRefIdeal.τ).loc Cert.AttRefIdeal.main_arg2) = m ((c.tc : Thread Cert.AttIdeal.nD Cert.AttIdeal.τ).loc Cert.AttIdeal.main_arg2)
      ∧ m' ((c.tc : Thread Cert.AttRefIdeal.nD Cert.AttRefIdeal.τ).loc Cert.AttRefIdeal.main_arg3) = m ((c.tc : Thread Cert.AttIdeal.nD Cert.AttIdeal.τ).loc Cert.AttIdeal.main_arg3)) →
    ∃ (v0 : (c : Dev Cert.AttIdeal.nD) → Buf (Elt Ideal) ((c.tc : Thread Cert.AttIdeal.nD Cert.AttIdeal.τ).loc Cert.AttIdeal.main_v0)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v0) = v0 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
          ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
          ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
          ∧ r.2.mem ((c.tc : Thread Cert.AttIdeal.nD Cert.AttIdeal.τ).loc Cert.AttIdeal.main_arg3) = m ((c.tc : Thread Cert.AttIdeal.nD Cert.AttIdeal.τ).loc Cert.AttIdeal.main_arg3))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v56) = v0 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0)
          ∧ r.2.mem ((c.tc : Thread Cert.AttRefIdeal.nD Cert.AttRefIdeal.τ).loc Cert.AttRefIdeal.main_arg1) = m' ((c.tc : Thread Cert.AttRefIdeal.nD Cert.AttRefIdeal.τ).loc Cert.AttRefIdeal.main_arg1)
          ∧ r.2.mem ((c.tc : Thread Cert.AttRefIdeal.nD Cert.AttRefIdeal.τ).loc Cert.AttRefIdeal.main_arg2) = m' ((c.tc : Thread Cert.AttRefIdeal.nD Cert.AttRefIdeal.τ).loc Cert.AttRefIdeal.main_arg2)
          ∧ r.2.mem ((c.tc : Thread Cert.AttRefIdeal.nD Cert.AttRefIdeal.τ).loc Cert.AttRefIdeal.main_arg3) = m' ((c.tc : Thread Cert.AttRefIdeal.nD Cert.AttRefIdeal.τ).loc Cert.AttRefIdeal.main_arg3))

def preserves_Dft_DftIdeal : Prop :=
  True

def algebraic_DftIdeal_DftRefIdeal [hDftIdeal : Cert.DftIdeal.Facts] [hDftRefIdeal : Cert.DftRefIdeal.Facts] : Prop :=
  ∀ (m : (ℓ : Loc Cert.DftIdeal.nD Cert.DftIdeal.τ Cert.DftIdeal.sig) → Buf (Elt Ideal) ℓ) (g : Dev Cert.DftIdeal.nD → PrngReg)
    (m' : (ℓ : Loc Cert.DftRefIdeal.nD Cert.DftRefIdeal.τ Cert.DftRefIdeal.sig) → Buf (Elt Ideal) ℓ) (g' : Dev Cert.DftRefIdeal.nD → PrngReg), Pre_DftIdeal m →
    (∀ c : Dev Cert.DftIdeal.nD,
      m' ((c.tc : Thread Cert.DftRefIdeal.nD Cert.DftRefIdeal.τ).loc Cert.DftRefIdeal.main_arg0) = m ((c.tc : Thread Cert.DftIdeal.nD Cert.DftIdeal.τ).loc Cert.DftIdeal.main_arg0)) →
    ∃ (v0 : (c : Dev Cert.DftIdeal.nD) → Buf (Elt Ideal) ((c.tc : Thread Cert.DftIdeal.nD Cert.DftIdeal.τ).loc Cert.DftIdeal.main_v25)),
      θ_run (Cert.DftIdeal.defs (F := Ideal)) (onTc (τ := Cert.DftIdeal.τ) (Cert.DftIdeal.main (F := Ideal))) ⟨m, fun _ => 0, g⟩ (fun r => ∀ c : Dev Cert.DftIdeal.nD,
          r.2.mem ((c.tc : Thread Cert.DftIdeal.nD Cert.DftIdeal.τ).loc Cert.DftIdeal.main_v25) = v0 c
          ∧ r.2.mem ((c.tc : Thread Cert.DftIdeal.nD Cert.DftIdeal.τ).loc Cert.DftIdeal.main_arg0) = m ((c.tc : Thread Cert.DftIdeal.nD Cert.DftIdeal.τ).loc Cert.DftIdeal.main_arg0))
      ∧ θ_run (Cert.DftRefIdeal.defs (F := Ideal)) (onTc (τ := Cert.DftRefIdeal.τ) (Cert.DftRefIdeal.main (F := Ideal))) ⟨m', fun _ => 0, g'⟩ (fun r => ∀ c : Dev Cert.DftRefIdeal.nD,
          r.2.mem ((c.tc : Thread Cert.DftRefIdeal.nD Cert.DftRefIdeal.τ).loc Cert.DftRefIdeal.main_v20) = v0 c
          ∧ r.2.mem ((c.tc : Thread Cert.DftRefIdeal.nD Cert.DftRefIdeal.τ).loc Cert.DftRefIdeal.main_arg0) = m' ((c.tc : Thread Cert.DftRefIdeal.nD Cert.DftRefIdeal.τ).loc Cert.DftRefIdeal.main_arg0))

def preserves_Inv_InvIdeal : Prop :=
  True

def algebraic_InvIdeal_InvRefIdeal [hInvIdeal : Cert.InvIdeal.Facts] [hInvRefIdeal : Cert.InvRefIdeal.Facts] : Prop :=
  ∀ (m : (ℓ : Loc Cert.InvIdeal.nD Cert.InvIdeal.τ Cert.InvIdeal.sig) → Buf (Elt Ideal) ℓ) (g : Dev Cert.InvIdeal.nD → PrngReg)
    (m' : (ℓ : Loc Cert.InvRefIdeal.nD Cert.InvRefIdeal.τ Cert.InvRefIdeal.sig) → Buf (Elt Ideal) ℓ) (g' : Dev Cert.InvRefIdeal.nD → PrngReg), Pre_InvIdeal m →
    (∀ c : Dev Cert.InvIdeal.nD,
      m' ((c.tc : Thread Cert.InvRefIdeal.nD Cert.InvRefIdeal.τ).loc Cert.InvRefIdeal.main_arg0) = m ((c.tc : Thread Cert.InvIdeal.nD Cert.InvIdeal.τ).loc Cert.InvIdeal.main_arg0)
      ∧ m' ((c.tc : Thread Cert.InvRefIdeal.nD Cert.InvRefIdeal.τ).loc Cert.InvRefIdeal.main_arg1) = m ((c.tc : Thread Cert.InvIdeal.nD Cert.InvIdeal.τ).loc Cert.InvIdeal.main_arg1)
      ∧ m' ((c.tc : Thread Cert.InvRefIdeal.nD Cert.InvRefIdeal.τ).loc Cert.InvRefIdeal.main_arg2) = m ((c.tc : Thread Cert.InvIdeal.nD Cert.InvIdeal.τ).loc Cert.InvIdeal.main_arg2)
      ∧ m' ((c.tc : Thread Cert.InvRefIdeal.nD Cert.InvRefIdeal.τ).loc Cert.InvRefIdeal.main_arg3) = m ((c.tc : Thread Cert.InvIdeal.nD Cert.InvIdeal.τ).loc Cert.InvIdeal.main_arg3)) →
    ∃ (v0 : (c : Dev Cert.InvIdeal.nD) → Buf (Elt Ideal) ((c.tc : Thread Cert.InvIdeal.nD Cert.InvIdeal.τ).loc Cert.InvIdeal.main_v29_0)) (v1 : (c : Dev Cert.InvIdeal.nD) → Buf (Elt Ideal) ((c.tc : Thread Cert.InvIdeal.nD Cert.InvIdeal.τ).loc Cert.InvIdeal.main_v29_1)),
      θ_run (Cert.InvIdeal.defs (F := Ideal)) (onTc (τ := Cert.InvIdeal.τ) (Cert.InvIdeal.main (F := Ideal))) ⟨m, fun _ => 0, g⟩ (fun r => ∀ c : Dev Cert.InvIdeal.nD,
          r.2.mem ((c.tc : Thread Cert.InvIdeal.nD Cert.InvIdeal.τ).loc Cert.InvIdeal.main_v29_0) = v0 c
          ∧ r.2.mem ((c.tc : Thread Cert.InvIdeal.nD Cert.InvIdeal.τ).loc Cert.InvIdeal.main_v29_1) = v1 c
          ∧ r.2.mem ((c.tc : Thread Cert.InvIdeal.nD Cert.InvIdeal.τ).loc Cert.InvIdeal.main_arg0) = m ((c.tc : Thread Cert.InvIdeal.nD Cert.InvIdeal.τ).loc Cert.InvIdeal.main_arg0)
          ∧ r.2.mem ((c.tc : Thread Cert.InvIdeal.nD Cert.InvIdeal.τ).loc Cert.InvIdeal.main_arg1) = m ((c.tc : Thread Cert.InvIdeal.nD Cert.InvIdeal.τ).loc Cert.InvIdeal.main_arg1)
          ∧ r.2.mem ((c.tc : Thread Cert.InvIdeal.nD Cert.InvIdeal.τ).loc Cert.InvIdeal.main_arg2) = m ((c.tc : Thread Cert.InvIdeal.nD Cert.InvIdeal.τ).loc Cert.InvIdeal.main_arg2)
          ∧ r.2.mem ((c.tc : Thread Cert.InvIdeal.nD Cert.InvIdeal.τ).loc Cert.InvIdeal.main_arg3) = m ((c.tc : Thread Cert.InvIdeal.nD Cert.InvIdeal.τ).loc Cert.InvIdeal.main_arg3))
      ∧ θ_run (Cert.InvRefIdeal.defs (F := Ideal)) (onTc (τ := Cert.InvRefIdeal.τ) (Cert.InvRefIdeal.main (F := Ideal))) ⟨m', fun _ => 0, g'⟩ (fun r => ∀ c : Dev Cert.InvRefIdeal.nD,
          r.2.mem ((c.tc : Thread Cert.InvRefIdeal.nD Cert.InvRefIdeal.τ).loc Cert.InvRefIdeal.main_v39) = v0 c
          ∧ r.2.mem ((c.tc : Thread Cert.InvRefIdeal.nD Cert.InvRefIdeal.τ).loc Cert.InvRefIdeal.main_v40) = v1 c
          ∧ r.2.mem ((c.tc : Thread Cert.InvRefIdeal.nD Cert.InvRefIdeal.τ).loc Cert.InvRefIdeal.main_arg0) = m' ((c.tc : Thread Cert.InvRefIdeal.nD Cert.InvRefIdeal.τ).loc Cert.InvRefIdeal.main_arg0)
          ∧ r.2.mem ((c.tc : Thread Cert.InvRefIdeal.nD Cert.InvRefIdeal.τ).loc Cert.InvRefIdeal.main_arg1) = m' ((c.tc : Thread Cert.InvRefIdeal.nD Cert.InvRefIdeal.τ).loc Cert.InvRefIdeal.main_arg1)
          ∧ r.2.mem ((c.tc : Thread Cert.InvRefIdeal.nD Cert.InvRefIdeal.τ).loc Cert.InvRefIdeal.main_arg2) = m' ((c.tc : Thread Cert.InvRefIdeal.nD Cert.InvRefIdeal.τ).loc Cert.InvRefIdeal.main_arg2)
          ∧ r.2.mem ((c.tc : Thread Cert.InvRefIdeal.nD Cert.InvRefIdeal.τ).loc Cert.InvRefIdeal.main_arg3) = m' ((c.tc : Thread Cert.InvRefIdeal.nD Cert.InvRefIdeal.τ).loc Cert.InvRefIdeal.main_arg3))

def preserves_Fil_FilIdeal : Prop :=
  True

def algebraic_FilIdeal_FilRefIdeal [hFilIdeal : Cert.FilIdeal.Facts] [hFilRefIdeal : Cert.FilRefIdeal.Facts] : Prop :=
  ∀ (m : (ℓ : Loc Cert.FilIdeal.nD Cert.FilIdeal.τ Cert.FilIdeal.sig) → Buf (Elt Ideal) ℓ) (g : Dev Cert.FilIdeal.nD → PrngReg)
    (m' : (ℓ : Loc Cert.FilRefIdeal.nD Cert.FilRefIdeal.τ Cert.FilRefIdeal.sig) → Buf (Elt Ideal) ℓ) (g' : Dev Cert.FilRefIdeal.nD → PrngReg), Pre_FilIdeal m →
    (∀ c : Dev Cert.FilIdeal.nD,
      m' ((c.tc : Thread Cert.FilRefIdeal.nD Cert.FilRefIdeal.τ).loc Cert.FilRefIdeal.main_arg0) = m ((c.tc : Thread Cert.FilIdeal.nD Cert.FilIdeal.τ).loc Cert.FilIdeal.main_arg0)) →
    ∃ (v0 : (c : Dev Cert.FilIdeal.nD) → Buf (Elt Ideal) ((c.tc : Thread Cert.FilIdeal.nD Cert.FilIdeal.τ).loc Cert.FilIdeal.main_v37_0)) (v1 : (c : Dev Cert.FilIdeal.nD) → Buf (Elt Ideal) ((c.tc : Thread Cert.FilIdeal.nD Cert.FilIdeal.τ).loc Cert.FilIdeal.main_v37_1)),
      θ_run (Cert.FilIdeal.defs (F := Ideal)) (onTc (τ := Cert.FilIdeal.τ) (Cert.FilIdeal.main (F := Ideal))) ⟨m, fun _ => 0, g⟩ (fun r => ∀ c : Dev Cert.FilIdeal.nD,
          r.2.mem ((c.tc : Thread Cert.FilIdeal.nD Cert.FilIdeal.τ).loc Cert.FilIdeal.main_v37_0) = v0 c
          ∧ r.2.mem ((c.tc : Thread Cert.FilIdeal.nD Cert.FilIdeal.τ).loc Cert.FilIdeal.main_v37_1) = v1 c
          ∧ r.2.mem ((c.tc : Thread Cert.FilIdeal.nD Cert.FilIdeal.τ).loc Cert.FilIdeal.main_arg0) = m ((c.tc : Thread Cert.FilIdeal.nD Cert.FilIdeal.τ).loc Cert.FilIdeal.main_arg0))
      ∧ θ_run (Cert.FilRefIdeal.defs (F := Ideal)) (onTc (τ := Cert.FilRefIdeal.τ) (Cert.FilRefIdeal.main (F := Ideal))) ⟨m', fun _ => 0, g'⟩ (fun r => ∀ c : Dev Cert.FilRefIdeal.nD,
          r.2.mem ((c.tc : Thread Cert.FilRefIdeal.nD Cert.FilRefIdeal.τ).loc Cert.FilRefIdeal.main_v31) = v0 c
          ∧ r.2.mem ((c.tc : Thread Cert.FilRefIdeal.nD Cert.FilRefIdeal.τ).loc Cert.FilRefIdeal.main_v35) = v1 c
          ∧ r.2.mem ((c.tc : Thread Cert.FilRefIdeal.nD Cert.FilRefIdeal.τ).loc Cert.FilRefIdeal.main_arg0) = m' ((c.tc : Thread Cert.FilRefIdeal.nD Cert.FilRefIdeal.τ).loc Cert.FilRefIdeal.main_arg0))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)) →
    ∃ (v0 : (c : Dev Cert.MidIdeal.nD) → Buf (Elt Ideal) ((c.tc : Thread Cert.MidIdeal.nD Cert.MidIdeal.τ).loc Cert.MidIdeal.main_v37)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v37) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v68) = v0 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2))

def preserves_Full_FullIdeal : Prop :=
  True

def algebraic_FullIdeal_FullRefIdeal [hFullIdeal : Cert.FullIdeal.Facts] [hFullRefIdeal : Cert.FullRefIdeal.Facts] : Prop :=
  ∀ (m : (ℓ : Loc Cert.FullIdeal.nD Cert.FullIdeal.τ Cert.FullIdeal.sig) → Buf (Elt Ideal) ℓ) (g : Dev Cert.FullIdeal.nD → PrngReg)
    (m' : (ℓ : Loc Cert.FullRefIdeal.nD Cert.FullRefIdeal.τ Cert.FullRefIdeal.sig) → Buf (Elt Ideal) ℓ) (g' : Dev Cert.FullRefIdeal.nD → PrngReg), Pre_FullIdeal m →
    (∀ c : Dev Cert.FullIdeal.nD,
      m' ((c.tc : Thread Cert.FullRefIdeal.nD Cert.FullRefIdeal.τ).loc Cert.FullRefIdeal.main_arg0) = m ((c.tc : Thread Cert.FullIdeal.nD Cert.FullIdeal.τ).loc Cert.FullIdeal.main_arg0)) →
    ∃ (v0 : (c : Dev Cert.FullIdeal.nD) → Buf (Elt Ideal) ((c.tc : Thread Cert.FullIdeal.nD Cert.FullIdeal.τ).loc Cert.FullIdeal.main_v25)),
      θ_run (Cert.FullIdeal.defs (F := Ideal)) (onTc (τ := Cert.FullIdeal.τ) (Cert.FullIdeal.main (F := Ideal))) ⟨m, fun _ => 0, g⟩ (fun r => ∀ c : Dev Cert.FullIdeal.nD,
          r.2.mem ((c.tc : Thread Cert.FullIdeal.nD Cert.FullIdeal.τ).loc Cert.FullIdeal.main_v25) = v0 c
          ∧ r.2.mem ((c.tc : Thread Cert.FullIdeal.nD Cert.FullIdeal.τ).loc Cert.FullIdeal.main_arg0) = m ((c.tc : Thread Cert.FullIdeal.nD Cert.FullIdeal.τ).loc Cert.FullIdeal.main_arg0))
      ∧ θ_run (Cert.FullRefIdeal.defs (F := Ideal)) (onTc (τ := Cert.FullRefIdeal.τ) (Cert.FullRefIdeal.main (F := Ideal))) ⟨m', fun _ => 0, g'⟩ (fun r => ∀ c : Dev Cert.FullRefIdeal.nD,
          r.2.mem ((c.tc : Thread Cert.FullRefIdeal.nD Cert.FullRefIdeal.τ).loc Cert.FullRefIdeal.main_v19) = v0 c
          ∧ r.2.mem ((c.tc : Thread Cert.FullRefIdeal.nD Cert.FullRefIdeal.τ).loc Cert.FullRefIdeal.main_arg0) = m' ((c.tc : Thread Cert.FullRefIdeal.nD Cert.FullRefIdeal.τ).loc Cert.FullRefIdeal.main_arg0))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)) →
    ∃ (v0 : (c : Dev Cert.LastIdeal.nD) → Buf (Elt Ideal) ((c.tc : Thread Cert.LastIdeal.nD Cert.LastIdeal.τ).loc Cert.LastIdeal.main_v29)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v29) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v34) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3))

def preserves_MidA_MidAIdeal : Prop :=
  True

def algebraic_MidAIdeal_MidARefIdeal [hMidAIdeal : Cert.MidAIdeal.Facts] [hMidARefIdeal : Cert.MidARefIdeal.Facts] : Prop :=
  ∀ (m : (ℓ : Loc Cert.MidAIdeal.nD Cert.MidAIdeal.τ Cert.MidAIdeal.sig) → Buf (Elt Ideal) ℓ) (g : Dev Cert.MidAIdeal.nD → PrngReg)
    (m' : (ℓ : Loc Cert.MidARefIdeal.nD Cert.MidARefIdeal.τ Cert.MidARefIdeal.sig) → Buf (Elt Ideal) ℓ) (g' : Dev Cert.MidARefIdeal.nD → PrngReg), Pre_MidAIdeal m →
    (∀ c : Dev Cert.MidAIdeal.nD,
      m' ((c.tc : Thread Cert.MidARefIdeal.nD Cert.MidARefIdeal.τ).loc Cert.MidARefIdeal.main_arg0) = m ((c.tc : Thread Cert.MidAIdeal.nD Cert.MidAIdeal.τ).loc Cert.MidAIdeal.main_arg0)
      ∧ m' ((c.tc : Thread Cert.MidARefIdeal.nD Cert.MidARefIdeal.τ).loc Cert.MidARefIdeal.main_arg1) = m ((c.tc : Thread Cert.MidAIdeal.nD Cert.MidAIdeal.τ).loc Cert.MidAIdeal.main_arg1)
      ∧ m' ((c.tc : Thread Cert.MidARefIdeal.nD Cert.MidARefIdeal.τ).loc Cert.MidARefIdeal.main_arg2) = m ((c.tc : Thread Cert.MidAIdeal.nD Cert.MidAIdeal.τ).loc Cert.MidAIdeal.main_arg2)) →
    ∃ (v0 : (c : Dev Cert.MidAIdeal.nD) → Buf (Elt Ideal) ((c.tc : Thread Cert.MidAIdeal.nD Cert.MidAIdeal.τ).loc Cert.MidAIdeal.main_v37)),
      θ_run (Cert.MidAIdeal.defs (F := Ideal)) (onTc (τ := Cert.MidAIdeal.τ) (Cert.MidAIdeal.main (F := Ideal))) ⟨m, fun _ => 0, g⟩ (fun r => ∀ c : Dev Cert.MidAIdeal.nD,
          r.2.mem ((c.tc : Thread Cert.MidAIdeal.nD Cert.MidAIdeal.τ).loc Cert.MidAIdeal.main_v37) = v0 c
          ∧ r.2.mem ((c.tc : Thread Cert.MidAIdeal.nD Cert.MidAIdeal.τ).loc Cert.MidAIdeal.main_arg0) = m ((c.tc : Thread Cert.MidAIdeal.nD Cert.MidAIdeal.τ).loc Cert.MidAIdeal.main_arg0)
          ∧ r.2.mem ((c.tc : Thread Cert.MidAIdeal.nD Cert.MidAIdeal.τ).loc Cert.MidAIdeal.main_arg1) = m ((c.tc : Thread Cert.MidAIdeal.nD Cert.MidAIdeal.τ).loc Cert.MidAIdeal.main_arg1)
          ∧ r.2.mem ((c.tc : Thread Cert.MidAIdeal.nD Cert.MidAIdeal.τ).loc Cert.MidAIdeal.main_arg2) = m ((c.tc : Thread Cert.MidAIdeal.nD Cert.MidAIdeal.τ).loc Cert.MidAIdeal.main_arg2))
      ∧ θ_run (Cert.MidARefIdeal.defs (F := Ideal)) (onTc (τ := Cert.MidARefIdeal.τ) (Cert.MidARefIdeal.main (F := Ideal))) ⟨m', fun _ => 0, g'⟩ (fun r => ∀ c : Dev Cert.MidARefIdeal.nD,
          r.2.mem ((c.tc : Thread Cert.MidARefIdeal.nD Cert.MidARefIdeal.τ).loc Cert.MidARefIdeal.main_v68) = v0 c
          ∧ r.2.mem ((c.tc : Thread Cert.MidARefIdeal.nD Cert.MidARefIdeal.τ).loc Cert.MidARefIdeal.main_arg0) = m' ((c.tc : Thread Cert.MidARefIdeal.nD Cert.MidARefIdeal.τ).loc Cert.MidARefIdeal.main_arg0)
          ∧ r.2.mem ((c.tc : Thread Cert.MidARefIdeal.nD Cert.MidARefIdeal.τ).loc Cert.MidARefIdeal.main_arg1) = m' ((c.tc : Thread Cert.MidARefIdeal.nD Cert.MidARefIdeal.τ).loc Cert.MidARefIdeal.main_arg1)
          ∧ r.2.mem ((c.tc : Thread Cert.MidARefIdeal.nD Cert.MidARefIdeal.τ).loc Cert.MidARefIdeal.main_arg2) = m' ((c.tc : Thread Cert.MidARefIdeal.nD Cert.MidARefIdeal.τ).loc Cert.MidARefIdeal.main_arg2))

def Claim : Prop :=
  ∃ (hMoe : Cert.Moe.Facts) (hMoeIdeal : Cert.MoeIdeal.Facts) (hMoeRefIdeal : Cert.MoeRefIdeal.Facts) (hInB : Cert.InB.Facts) (hInBIdeal : Cert.InBIdeal.Facts) (hInBRefIdeal : Cert.InBRefIdeal.Facts) (hInA : Cert.InA.Facts) (hInAIdeal : Cert.InAIdeal.Facts) (hInARefIdeal : Cert.InARefIdeal.Facts) (hPost : Cert.Post.Facts) (hPostIdeal : Cert.PostIdeal.Facts) (hPostRefIdeal : Cert.PostRefIdeal.Facts) (hAda : Cert.Ada.Facts) (hAdaIdeal : Cert.AdaIdeal.Facts) (hAdaRefIdeal : Cert.AdaRefIdeal.Facts) (hConv : Cert.Conv.Facts) (hConvIdeal : Cert.ConvIdeal.Facts) (hConvRefIdeal : Cert.ConvRefIdeal.Facts) (hShort : Cert.Short.Facts) (hShortIdeal : Cert.ShortIdeal.Facts) (hShortRefIdeal : Cert.ShortRefIdeal.Facts) (hOut : Cert.Out.Facts) (hOutIdeal : Cert.OutIdeal.Facts) (hOutRefIdeal : Cert.OutRefIdeal.Facts) (hAtt : Cert.Att.Facts) (hAttIdeal : Cert.AttIdeal.Facts) (hAttRefIdeal : Cert.AttRefIdeal.Facts) (hDft : Cert.Dft.Facts) (hDftIdeal : Cert.DftIdeal.Facts) (hDftRefIdeal : Cert.DftRefIdeal.Facts) (hInv : Cert.Inv.Facts) (hInvIdeal : Cert.InvIdeal.Facts) (hInvRefIdeal : Cert.InvRefIdeal.Facts) (hFil : Cert.Fil.Facts) (hFilIdeal : Cert.FilIdeal.Facts) (hFilRefIdeal : Cert.FilRefIdeal.Facts) (hMid : Cert.Mid.Facts) (hMidIdeal : Cert.MidIdeal.Facts) (hMidRefIdeal : Cert.MidRefIdeal.Facts) (hFull : Cert.Full.Facts) (hFullIdeal : Cert.FullIdeal.Facts) (hFullRefIdeal : Cert.FullRefIdeal.Facts) (hLast : Cert.Last.Facts) (hLastIdeal : Cert.LastIdeal.Facts) (hLastRefIdeal : Cert.LastRefIdeal.Facts) (hMidA : Cert.MidA.Facts) (hMidAIdeal : Cert.MidAIdeal.Facts) (hMidARefIdeal : Cert.MidARefIdeal.Facts) (hPre_moe_gates_finite : Cert.Pre_moe_gates_finite.Facts) (hPre_att_scores_finite : Cert.Pre_att_scores_finite.Facts),
    quiescent_Moe (hMoe := hMoe)
    ∧ quiescent_MoeIdeal (hMoeIdeal := hMoeIdeal)
    ∧ quiescent_MoeIdeal_pre_moe_gates_finite (hMoeIdeal := hMoeIdeal) (hPre_moe_gates_finite := hPre_moe_gates_finite)
    ∧ quiescent_MoeRefIdeal (hMoeRefIdeal := hMoeRefIdeal)
    ∧ quiescent_MoeRefIdeal_pre_moe_gates_finite (hMoeRefIdeal := hMoeRefIdeal) (hPre_moe_gates_finite := hPre_moe_gates_finite)
    ∧ quiescent_InB (hInB := hInB)
    ∧ quiescent_InBIdeal (hInBIdeal := hInBIdeal)
    ∧ quiescent_InBRefIdeal (hInBRefIdeal := hInBRefIdeal)
    ∧ quiescent_InA (hInA := hInA)
    ∧ quiescent_InAIdeal (hInAIdeal := hInAIdeal)
    ∧ quiescent_InARefIdeal (hInARefIdeal := hInARefIdeal)
    ∧ quiescent_Post (hPost := hPost)
    ∧ quiescent_PostIdeal (hPostIdeal := hPostIdeal)
    ∧ quiescent_PostRefIdeal (hPostRefIdeal := hPostRefIdeal)
    ∧ quiescent_Ada (hAda := hAda)
    ∧ quiescent_AdaIdeal (hAdaIdeal := hAdaIdeal)
    ∧ quiescent_AdaRefIdeal (hAdaRefIdeal := hAdaRefIdeal)
    ∧ quiescent_Conv (hConv := hConv)
    ∧ quiescent_ConvIdeal (hConvIdeal := hConvIdeal)
    ∧ quiescent_ConvRefIdeal (hConvRefIdeal := hConvRefIdeal)
    ∧ quiescent_Short (hShort := hShort)
    ∧ quiescent_ShortIdeal (hShortIdeal := hShortIdeal)
    ∧ quiescent_ShortRefIdeal (hShortRefIdeal := hShortRefIdeal)
    ∧ quiescent_Out (hOut := hOut)
    ∧ quiescent_OutIdeal (hOutIdeal := hOutIdeal)
    ∧ quiescent_OutRefIdeal (hOutRefIdeal := hOutRefIdeal)
    ∧ quiescent_Att (hAtt := hAtt)
    ∧ quiescent_AttIdeal (hAttIdeal := hAttIdeal)
    ∧ quiescent_AttIdeal_pre_att_scores_finite (hAttIdeal := hAttIdeal) (hPre_att_scores_finite := hPre_att_scores_finite)
    ∧ quiescent_AttRefIdeal (hAttRefIdeal := hAttRefIdeal)
    ∧ quiescent_AttRefIdeal_pre_att_scores_finite (hAttRefIdeal := hAttRefIdeal) (hPre_att_scores_finite := hPre_att_scores_finite)
    ∧ quiescent_Dft (hDft := hDft)
    ∧ quiescent_DftIdeal (hDftIdeal := hDftIdeal)
    ∧ quiescent_DftRefIdeal (hDftRefIdeal := hDftRefIdeal)
    ∧ quiescent_Inv (hInv := hInv)
    ∧ quiescent_InvIdeal (hInvIdeal := hInvIdeal)
    ∧ quiescent_InvRefIdeal (hInvRefIdeal := hInvRefIdeal)
    ∧ quiescent_Fil (hFil := hFil)
    ∧ quiescent_FilIdeal (hFilIdeal := hFilIdeal)
    ∧ quiescent_FilRefIdeal (hFilRefIdeal := hFilRefIdeal)
    ∧ quiescent_Mid (hMid := hMid)
    ∧ quiescent_MidIdeal (hMidIdeal := hMidIdeal)
    ∧ quiescent_MidRefIdeal (hMidRefIdeal := hMidRefIdeal)
    ∧ quiescent_Full (hFull := hFull)
    ∧ quiescent_FullIdeal (hFullIdeal := hFullIdeal)
    ∧ quiescent_FullRefIdeal (hFullRefIdeal := hFullRefIdeal)
    ∧ quiescent_Last (hLast := hLast)
    ∧ quiescent_LastIdeal (hLastIdeal := hLastIdeal)
    ∧ quiescent_LastRefIdeal (hLastRefIdeal := hLastRefIdeal)
    ∧ quiescent_MidA (hMidA := hMidA)
    ∧ quiescent_MidAIdeal (hMidAIdeal := hMidAIdeal)
    ∧ quiescent_MidARefIdeal (hMidARefIdeal := hMidARefIdeal)
    ∧ preserves_Moe_MoeIdeal
    ∧ algebraic_MoeIdeal_MoeRefIdeal_pre_moe_gates_finite (hMoeIdeal := hMoeIdeal) (hMoeRefIdeal := hMoeRefIdeal) (hPre_moe_gates_finite := hPre_moe_gates_finite)
    ∧ preserves_InB_InBIdeal
    ∧ algebraic_InBIdeal_InBRefIdeal (hInBIdeal := hInBIdeal) (hInBRefIdeal := hInBRefIdeal)
    ∧ preserves_InA_InAIdeal
    ∧ algebraic_InAIdeal_InARefIdeal (hInAIdeal := hInAIdeal) (hInARefIdeal := hInARefIdeal)
    ∧ preserves_Post_PostIdeal
    ∧ algebraic_PostIdeal_PostRefIdeal (hPostIdeal := hPostIdeal) (hPostRefIdeal := hPostRefIdeal)
    ∧ preserves_Ada_AdaIdeal
    ∧ algebraic_AdaIdeal_AdaRefIdeal (hAdaIdeal := hAdaIdeal) (hAdaRefIdeal := hAdaRefIdeal)
    ∧ preserves_Conv_ConvIdeal
    ∧ algebraic_ConvIdeal_ConvRefIdeal (hConvIdeal := hConvIdeal) (hConvRefIdeal := hConvRefIdeal)
    ∧ preserves_Short_ShortIdeal
    ∧ algebraic_ShortIdeal_ShortRefIdeal (hShortIdeal := hShortIdeal) (hShortRefIdeal := hShortRefIdeal)
    ∧ preserves_Out_OutIdeal
    ∧ algebraic_OutIdeal_OutRefIdeal (hOutIdeal := hOutIdeal) (hOutRefIdeal := hOutRefIdeal)
    ∧ preserves_Att_AttIdeal
    ∧ algebraic_AttIdeal_AttRefIdeal_pre_att_scores_finite (hAttIdeal := hAttIdeal) (hAttRefIdeal := hAttRefIdeal) (hPre_att_scores_finite := hPre_att_scores_finite)
    ∧ preserves_Dft_DftIdeal
    ∧ algebraic_DftIdeal_DftRefIdeal (hDftIdeal := hDftIdeal) (hDftRefIdeal := hDftRefIdeal)
    ∧ preserves_Inv_InvIdeal
    ∧ algebraic_InvIdeal_InvRefIdeal (hInvIdeal := hInvIdeal) (hInvRefIdeal := hInvRefIdeal)
    ∧ preserves_Fil_FilIdeal
    ∧ algebraic_FilIdeal_FilRefIdeal (hFilIdeal := hFilIdeal) (hFilRefIdeal := hFilRefIdeal)
    ∧ preserves_Mid_MidIdeal
    ∧ algebraic_MidIdeal_MidRefIdeal (hMidIdeal := hMidIdeal) (hMidRefIdeal := hMidRefIdeal)
    ∧ preserves_Full_FullIdeal
    ∧ algebraic_FullIdeal_FullRefIdeal (hFullIdeal := hFullIdeal) (hFullRefIdeal := hFullRefIdeal)
    ∧ preserves_Last_LastIdeal
    ∧ algebraic_LastIdeal_LastRefIdeal (hLastIdeal := hLastIdeal) (hLastRefIdeal := hLastRefIdeal)
    ∧ preserves_MidA_MidAIdeal
    ∧ algebraic_MidAIdeal_MidARefIdeal (hMidAIdeal := hMidAIdeal) (hMidARefIdeal := hMidARefIdeal)
-- ==== Pre_att_scores_finite.lean ====
abbrev S32768x512 : Shape := ⟨2, ![32768, 512]⟩
abbrev S3x8x256x768 : Shape := ⟨4, ![3, 8, 256, 768]⟩
abbrev S_ : Shape := ⟨0, ![]⟩

class Facts : Prop where
  bitsLt_bf16_f32 : FTy.bits .bf16 < FTy.bits .f32
  bcast_S_S32768x512 : S_.BroadcastsInDim S32768x512 (![] : Fin 0 → Fin S32768x512.rank)
  reducesTo_S32768x512_S_d0_1 : S32768x512.ReducesTo [0, 1] S_
  h_S_ : 0 < S_.numel
  bcast_S_S3x8x256x768 : S_.BroadcastsInDim S3x8x256x768 (![] : Fin 0 → Fin S3x8x256x768.rank)
  reducesTo_S3x8x256x768_S_d0_1_2_3 : S3x8x256x768.ReducesTo [0, 1, 2, 3] S_

variable [Facts]

def fn {F : FTy → Type} [FloatOps F] (main_arg0 : FVec F S32768x512 .bf16) (main_arg1 : FVec F S32768x512 .bf16) (main_arg2 : FVec F S32768x512 .bf16) (main_arg3 : FVec F S3x8x256x768 .bf16) : IVec S_ 1 :=
  let main_v0 : FVec F S32768x512 .f32 := (extf .f32 · bitsLt_bf16_f32) main_arg0
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  let main_c : IVec S_ 1 := constantI S_ 1 1#1
  let main_v4 : IVec S_ 1 := (fun x v => Host.reduce IntOp.andi x v reducesTo_S32768x512_S_d0_1 h_S_) main_v3 main_c
  let main_v5 : FVec F S32768x512 .f32 := (extf .f32 · bitsLt_bf16_f32) main_arg1
  let main_v6 : FVec F S32768x512 .f32 := Host.absf main_v5
  let main_cst_0 : FVec F S_ .f32 := constant S_ .f32 0x7F800000#32
  let main_v7 : FVec F S32768x512 .f32 := broadcastInDim S32768x512 ![] bcast_S_S32768x512 main_cst_0
  let main_v8 : IVec S32768x512 1 := cmpf .olt main_v6 main_v7
  let main_c_1 : IVec S_ 1 := constantI S_ 1 1#1
  let main_v9 : IVec S_ 1 := (fun x v => Host.reduce IntOp.andi x v reducesTo_S32768x512_S_d0_1 h_S_) main_v8 main_c_1
  let main_v10 : IVec S_ 1 := andi main_v4 main_v9
  let main_v11 : FVec F S3x8x256x768 .f32 := (extf .f32 · bitsLt_bf16_f32) main_arg3
  let main_v12 : FVec F S3x8x256x768 .f32 := Host.absf main_v11
  let main_cst_2 : FVec F S_ .f32 := constant S_ .f32 0x7F800000#32
  let main_v13 : FVec F S3x8x256x768 .f32 := broadcastInDim S3x8x256x768 ![] bcast_S_S3x8x256x768 main_cst_2
  let main_v14 : IVec S3x8x256x768 1 := cmpf .olt main_v12 main_v13
  let main_c_3 : IVec S_ 1 := constantI S_ 1 1#1
  let main_v15 : IVec S_ 1 := (fun x v => Host.reduce IntOp.andi x v reducesTo_S3x8x256x768_S_d0_1_2_3 h_S_) main_v14 main_c_3
  let main_v16 : IVec S_ 1 := andi main_v10 main_v15
  main_v16
-- ==== Pre_moe_gates_finite.lean ====
abbrev S32768x1024 : Shape := ⟨2, ![32768, 1024]⟩
abbrev S32768x128 : Shape := ⟨2, ![32768, 128]⟩
abbrev S2x6x1024 : Shape := ⟨3, ![2, 6, 1024]⟩
abbrev S16x1024x512 : Shape := ⟨3, ![16, 1024, 512]⟩
abbrev S16x512x1024 : Shape := ⟨3, ![16, 512, 1024]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel

variable [Facts]

def fn {F : FTy → Type} [FloatOps F] (main_arg0 : FVec F S32768x1024 .bf16) (main_arg1 : FVec F S32768x128 .f32) (main_arg2 : FVec F S32768x1024 .f32) (main_arg3 : FVec F S2x6x1024 .f32) (main_arg4 : FVec F S16x1024x512 .f32) (main_arg5 : FVec F S16x1024x512 .f32) (main_arg6 : FVec F S16x512x1024 .f32) : IVec S_ 1 :=
  let main_v0 : FVec F S32768x128 .f32 := Host.absf main_arg1
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  main_v3
-- ==== Moe.lean ====
abbrev S32768x1024 : Shape := ⟨2, ![32768, 1024]⟩
abbrev S32768x128 : Shape := ⟨2, ![32768, 128]⟩
abbrev S2x6x1024 : Shape := ⟨3, ![2, 6, 1024]⟩
abbrev S16x1024x512 : Shape := ⟨3, ![16, 1024, 512]⟩
abbrev S16x512x1024 : Shape := ⟨3, ![16, 512, 1024]⟩
abbrev S1024x1024 : Shape := ⟨2, ![1024, 1024]⟩
abbrev S1024x128 : Shape := ⟨2, ![1024, 128]⟩
abbrev S1x6x1024 : Shape := ⟨3, ![1, 6, 1024]⟩
abbrev S1x1024x512 : Shape := ⟨3, ![1, 1024, 512]⟩
abbrev S1x512x1024 : Shape := ⟨3, ![1, 512, 1024]⟩
abbrev S1024x512 : Shape := ⟨2, ![1024, 512]⟩
abbrev S256x512 : Shape := ⟨2, ![256, 512]⟩
abbrev S1024x256 : Shape := ⟨2, ![1024, 256]⟩
abbrev S512x1024 : Shape := ⟨2, ![512, 1024]⟩
abbrev S6x1024 : Shape := ⟨2, ![6, 1024]⟩
abbrev S1x1024 : Shape := ⟨2, ![1, 1024]⟩

abbrev nBuf : Space → Nat
  | .hbm => 11
  | .vmem => 17
  | .smem => 0
  | _ => 0

abbrev bufTy : (tb : Table) → Fin (tcTables nBuf tb) → BufTy
  | .hbm, ⟨0, _⟩ => ⟨S32768x1024, .bf16⟩
  | .hbm, ⟨1, _⟩ => ⟨S32768x128, .f32⟩
  | .hbm, ⟨2, _⟩ => ⟨S32768x1024, .f32⟩
  | .hbm, ⟨3, _⟩ => ⟨S2x6x1024, .f32⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S16x1024x512, .bf16⟩
  | .hbm, ⟨8, _⟩ => ⟨S16x1024x512, .bf16⟩
  | .hbm, ⟨9, _⟩ => ⟨S16x512x1024, .bf16⟩
  | .hbm, ⟨10, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c15_i32 : BitVec 32 := 15#32
  let v53 : BitVec 1 := Scalar.cmpi .eq arg1 c15_i32
  let v54 : BitVec 32 := Scalar.extui v53
  let c0_i32_26 : BitVec 32 := 0#32
  let v55 : BitVec 1 := Scalar.cmpi .ne v54 c0_i32_26
  v55

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c16384_i32 : BitVec 32 := 16384#32
  let v1 : BitVec 32 := Scalar.divsi v0 c16384_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16384_i32 c0_i32_1
  let v8 : BitVec 32 := Scalar.extui v7
  let c0_i32_2 : BitVec 32 := 0#32
  let v9 : BitVec 1 := Scalar.cmpi .slt c16384_i32 c0_i32_2
  let v10 : BitVec 32 := Scalar.extui v9
  let v11 : BitVec 32 := Scalar.subi v8 v10
  let v12 : BitVec 1 := Scalar.cmpi .ne v6 v11
  let v13 : BitVec 32 := Scalar.remsi v0 c16384_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MoeRefIdeal.lean ====
abbrev S32768x1024 : Shape := ⟨2, ![32768, 1024]⟩
abbrev S32768x128 : Shape := ⟨2, ![32768, 128]⟩
abbrev S2x6x1024 : Shape := ⟨3, ![2, 6, 1024]⟩
abbrev S16x1024x512 : Shape := ⟨3, ![16, 1024, 512]⟩
abbrev S16x512x1024 : Shape := ⟨3, ![16, 512, 1024]⟩
abbrev S2x16384x1024 : Shape := ⟨3, ![2, 16384, 1024]⟩
abbrev S32768x16 : Shape := ⟨2, ![32768, 16]⟩
abbrev S2x16384x16 : Shape := ⟨3, ![2, 16384, 16]⟩
abbrev S2x1x1024 : Shape := ⟨3, ![2, 1, 1024]⟩
abbrev S2x16384x16x512 : Shape := ⟨4, ![2, 16384, 16, 512]⟩
abbrev S_ : Shape := ⟨0, ![]⟩
abbrev S2x16384x16x1 : Shape := ⟨4, ![2, 16384, 16, 1]⟩

abbrev nBuf : Space → Nat
  | .hbm => 33
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x128, .f32⟩
  | .hbm, ⟨2, _⟩ => ⟨S32768x1024, .f32⟩
  | .hbm, ⟨3, _⟩ => ⟨S2x6x1024, .f32⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S32768x1024, .f32⟩
  | .hbm, ⟨8, _⟩ => ⟨S2x16384x1024, .f32⟩
  | .hbm, ⟨9, _⟩ => ⟨S2x16384x1024, .f32⟩
  | .hbm, ⟨10, _⟩ => ⟨S32768x16, .f32⟩
  | .hbm, ⟨11, _⟩ => ⟨S2x16384x16, .f32⟩
  | .hbm, ⟨12, _⟩ => ⟨S2x1x1024, .f32⟩
  | .hbm, ⟨13, _⟩ => ⟨S2x16384x16x512, .f32⟩
  | .hbm, ⟨14, _⟩ => ⟨S2x16384x16x512, .f32⟩
  | .hbm, ⟨15, _⟩ => ⟨S2x16384x16x512, .f32⟩
  | .hbm, ⟨16, _⟩ => ⟨S_, .f32⟩
  | .hbm, ⟨17, _⟩ => ⟨S2x16384x16x512, .f32⟩
  | .hbm, ⟨18, _⟩ => ⟨S2x16384x16x512, .f32⟩
  | .hbm, ⟨19, _⟩ => ⟨S_, .f32⟩
  | .hbm, ⟨20, _⟩ => ⟨S2x16384x16x512, .f32⟩
  | .hbm, ⟨21, _⟩ => ⟨S2x16384x16x512, .f32⟩
  | .hbm, ⟨22, _⟩ => ⟨S2x16384x16x512, .f32⟩
  | .hbm, ⟨23, _⟩ => ⟨S2x16384x16x512, .f32⟩
  | .hbm, ⟨24, _⟩ => ⟨S2x16384x16x512, .f32⟩
  | .hbm, ⟨25, _⟩ => ⟨S2x16384x16x1, .f32⟩
  | .hbm, ⟨26, _⟩ => ⟨S2x16384x16x512, .f32⟩
  | .hbm, ⟨27, _⟩ => ⟨S2x16384x16x512, .f32⟩
  | .hbm, ⟨28, _⟩ => ⟨S2x16384x1024, .f32⟩
  | .hbm, ⟨29, _⟩ => ⟨S2x16384x1024, .f32⟩
  | .hbm, ⟨30, _⟩ => ⟨S2x16384x1024, .f32⟩
  | .hbm, ⟨31, _⟩ => ⟨S2x16384x1024, .f32⟩
  | .hbm, ⟨32, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩

abbrev nD : Nat := 1
abbrev τ : Topo := Topo.v7x

variable {F : FTy → Type} [FloatOps F]
-- ==== InB.lean ====
abbrev S32768x1024 : Shape := ⟨2, ![32768, 1024]⟩
abbrev S2x6x1024 : Shape := ⟨3, ![2, 6, 1024]⟩
abbrev S1024 : Shape := ⟨1, ![1024]⟩
abbrev S1024x2048 : Shape := ⟨2, ![1024, 2048]⟩
abbrev S1024x512 : Shape := ⟨2, ![1024, 512]⟩
abbrev S512x1024 : Shape := ⟨2, ![512, 1024]⟩
abbrev S1024x1536 : Shape := ⟨2, ![1024, 1536]⟩
abbrev S1x1024 : Shape := ⟨2, ![1, 1024]⟩
abbrev S512x32768 : Shape := ⟨2, ![512, 32768]⟩
abbrev S32768x1536 : Shape := ⟨2, ![32768, 1536]⟩
abbrev S1x6x1024 : Shape := ⟨3, ![1, 6, 1024]⟩
abbrev S512x512 : Shape := ⟨2, ![512, 512]⟩
abbrev S512x1536 : Shape := ⟨2, ![512, 1536]⟩
abbrev S6x1024 : Shape := ⟨2, ![6, 1024]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S2x6x1024, .f32⟩
  | .hbm, ⟨2, _⟩ => ⟨S1024, .f32⟩
  | .hbm, ⟨3, _⟩ => ⟨S1024x2048, .f32⟩
  | .hbm, ⟨4, _⟩ => ⟨S1024x512, .f32⟩
  | .hbm, ⟨5, _⟩ => ⟨S512x1024, .f32⟩
  | .hbm, ⟨6, _⟩ => ⟨S512x1024, .bf16⟩
  | .hbm, ⟨7, _⟩ => ⟨S1024x1536, .f32⟩
  | .hbm, ⟨8, _⟩ => ⟨S1024x1536, .bf16⟩
  | .hbm, ⟨9, _⟩ => ⟨S1x1024, .f32⟩
  | .hbm, ⟨10, _⟩ => ⟨S512x32768, .bf16⟩
  | .hbm, ⟨11, _⟩ => ⟨S32768x1536, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S512x1024, .bf16⟩
  | .local _ .vmem, ⟨6, _⟩ => ⟨S1024x1536, .bf16⟩
  | .local _ .vmem, ⟨7, _⟩ => ⟨S512x512, .bf16⟩
  | .local _ .vmem, ⟨8, _⟩ => ⟨S512x512, .bf16⟩
  | .local _ .vmem, ⟨9, _⟩ => ⟨S512x1536, .bf16⟩
  | .local _ .vmem, ⟨10, _⟩ => ⟨S512x1536, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 32 := Scalar.divsi v0 c16384_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16384_i32 c0_i32_1
  let v8 : BitVec 32 := Scalar.extui v7
  let c0_i32_2 : BitVec 32 := 0#32
  let v9 : BitVec 1 := Scalar.cmpi .slt c16384_i32 c0_i32_2
  let v10 : BitVec 32 := Scalar.extui v9
  let v11 : BitVec 32 := Scalar.subi v8 v10
  let v12 : BitVec 1 := Scalar.cmpi .ne v6 v11
  let v13 : BitVec 32 := Scalar.remsi v0 c16384_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InBRefIdeal.lean ====
abbrev S32768x1024 : Shape := ⟨2, ![32768, 1024]⟩
abbrev S2x6x1024 : Shape := ⟨3, ![2, 6, 1024]⟩
abbrev S1024 : Shape := ⟨1, ![1024]⟩
abbrev S1024x2048 : Shape := ⟨2, ![1024, 2048]⟩
abbrev S2x16384x1024 : Shape := ⟨3, ![2, 16384, 1024]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S32768x2048 : Shape := ⟨2, ![32768, 2048]⟩
abbrev S32768x512 : Shape := ⟨2, ![32768, 512]⟩
abbrev S512x32768 : Shape := ⟨2, ![512, 32768]⟩
abbrev S32768x1536 : Shape := ⟨2, ![32768, 1536]⟩

abbrev nBuf : Space → Nat
  | .hbm => 36
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x6x1024, .f32⟩
  | .hbm, ⟨2, _⟩ => ⟨S1024, .f32⟩
  | .hbm, ⟨3, _⟩ => ⟨S1024x2048, .f32⟩
  | .hbm, ⟨4, _⟩ => ⟨S2x16384x1024, .f32⟩
  | .hbm, ⟨5, _⟩ => ⟨S2x1x1024, .f32⟩
  | .hbm, ⟨6, _⟩ => ⟨S2x1x1024, .f32⟩
  | .hbm, ⟨7, _⟩ => ⟨S2x16384x1024, .f32⟩
  | .hbm, ⟨8, _⟩ => ⟨S_, .f32⟩
  | .hbm, ⟨9, _⟩ => ⟨S2x16384, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S2x16384x1, .f32⟩
  | .hbm, ⟨18, _⟩ => ⟨S2x16384x1024, .f32⟩
  | .hbm, ⟨19, _⟩ => ⟨S2x16384x1024, .f32⟩
  | .hbm, ⟨20, _⟩ => ⟨S1x1x1024, .f32⟩
  | .hbm, ⟨21, _⟩ => ⟨S2x16384x1024, .f32⟩
  | .hbm, ⟨22, _⟩ => ⟨S2x16384x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x16384x1024, .f32⟩
  | .hbm, ⟨27, _⟩ => ⟨S2x16384x1024, .f32⟩
  | .hbm, ⟨28, _⟩ => ⟨S2x16384x1024, .f32⟩
  | .hbm, ⟨29, _⟩ => ⟨S2x16384x1024, .f32⟩
  | .hbm, ⟨30, _⟩ => ⟨S32768x1024, .f32⟩
  | .hbm, ⟨31, _⟩ => ⟨S32768x2048, .f32⟩
  | .hbm, ⟨32, _⟩ => ⟨S32768x2048, .bf16⟩
  | .hbm, ⟨33, _⟩ => ⟨S32768x512, .bf16⟩
  | .hbm, ⟨34, _⟩ => ⟨S512x32768, .bf16⟩
  | .hbm, ⟨35, _⟩ => ⟨S32768x1536, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== InA.lean ====
abbrev S32768x1024 : Shape := ⟨2, ![32768, 1024]⟩
abbrev S2x6x1024 : Shape := ⟨3, ![2, 6, 1024]⟩
abbrev S1024 : Shape := ⟨1, ![1024]⟩
abbrev S1024x2560 : Shape := ⟨2, ![1024, 2560]⟩
abbrev S64 : Shape := ⟨1, ![64]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S1x1024 : Shape := ⟨2, ![1, 1024]⟩
abbrev S32768x512 : Shape := ⟨2, ![32768, 512]⟩
abbrev S512x1024 : Shape := ⟨2, ![512, 1024]⟩
abbrev S1x6x1024 : Shape := ⟨3, ![1, 6, 1024]⟩
abbrev S6x1024 : Shape := ⟨2, ![6, 1024]⟩
abbrev S512x1 : Shape := ⟨2, ![512, 1]⟩
abbrev S512x2560 : Shape := ⟨2, ![512, 2560]⟩

abbrev nBuf : Space → Nat
  | .hbm => 40
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S2x6x1024, .f32⟩
  | .hbm, ⟨2, _⟩ => ⟨S1024, .f32⟩
  | .hbm, ⟨3, _⟩ => ⟨S1024x2560, .f32⟩
  | .hbm, ⟨4, _⟩ => ⟨S64, .f32⟩
  | .hbm, ⟨5, _⟩ => ⟨S64, .f32⟩
  | .hbm, ⟨6, _⟩ => ⟨S1024x2560, .bf16⟩
  | .hbm, ⟨7, _⟩ => ⟨S8x8, .i32⟩
  | .hbm, ⟨8, _⟩ => ⟨S8x8, .i32⟩
  | .hbm, ⟨9, _⟩ => ⟨S_, .i32⟩
  | .hbm, ⟨10, _⟩ => ⟨S8x8, .i32⟩
  | .hbm, ⟨11, _⟩ => ⟨S8x8, .i32⟩
  | .hbm, ⟨12, _⟩ => ⟨S8x8, .i1⟩
  | .hbm, ⟨13, _⟩ => ⟨S8x8, .f32⟩
  | .hbm, ⟨14, _⟩ => ⟨S_, .f32⟩
  | .hbm, ⟨15, _⟩ => ⟨S64x64, .f32⟩
  | .hbm, ⟨16, _⟩ => ⟨S64x64, .f32⟩
  | .hbm, ⟨17, _⟩ => ⟨S8x1x8x1, .f32⟩
  | .hbm, ⟨18, _⟩ => ⟨S1x64x1x64, .f32⟩
  | .hbm, ⟨19, _⟩ => ⟨S8x64x8x64, .f32⟩
  | .hbm, ⟨20, _⟩ => ⟨S8x64x8x64, .f32⟩
  | .hbm, ⟨21, _⟩ => ⟨S8x64x8x64, .f32⟩
  | .hbm, ⟨22, _⟩ => ⟨S512x512, .f32⟩
  | .hbm, ⟨23, _⟩ => ⟨S512x512, .bf16⟩
  | .hbm, ⟨24, _⟩ => ⟨S1x64, .f32⟩
  | .hbm, ⟨25, _⟩ => ⟨S8x64, .f32⟩
  | .hbm, ⟨26, _⟩ => ⟨S512, .f32⟩
  | .hbm, ⟨27, _⟩ => ⟨S_, .f32⟩
  | .hbm, ⟨28, _⟩ => ⟨S512, .f32⟩
  | .hbm, ⟨29, _⟩ => ⟨S512, .f32⟩
  | .hbm, ⟨30, _⟩ => ⟨S1x512, .f32⟩
  | .hbm, ⟨31, _⟩ => ⟨S1x64, .f32⟩
  | .hbm, ⟨32, _⟩ => ⟨S8x64, .f32⟩
  | .hbm, ⟨33, _⟩ => ⟨S512, .f32⟩
  | .hbm, ⟨34, _⟩ => ⟨S1x512, .f32⟩
  | .hbm, ⟨35, _⟩ => ⟨S1x1024, .f32⟩
  | .hbm, ⟨36, _⟩ => ⟨S32768x512, .bf16⟩
  | .hbm, ⟨37, _⟩ => ⟨S32768x512, .bf16⟩
  | .hbm, ⟨38, _⟩ => ⟨S32768x512, .bf16⟩
  | .hbm, ⟨39, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2560, .bf16⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev main_v21_2 : Ref sig .tc := ⟨.hbm, 38, rfl⟩
abbrev main_v21_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 32 := Scalar.divsi v0 c16384_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16384_i32 c0_i32_1
  let v8 : BitVec 32 := Scalar.extui v7
  let c0_i32_2 : BitVec 32 := 0#32
  let v9 : BitVec 1 := Scalar.cmpi .slt c16384_i32 c0_i32_2
  let v10 : BitVec 32 := Scalar.extui v9
  let v11 : BitVec 32 := Scalar.subi v8 v10
  let v12 : BitVec 1 := Scalar.cmpi .ne v6 v11
  let v13 : BitVec 32 := Scalar.remsi v0 c16384_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InARefIdeal.lean ====
abbrev S32768x1024 : Shape := ⟨2, ![32768, 1024]⟩
abbrev S2x6x1024 : Shape := ⟨3, ![2, 6, 1024]⟩
abbrev S1024 : Shape := ⟨1, ![1024]⟩
abbrev S1024x2560 : Shape := ⟨2, ![1024, 2560]⟩
abbrev S64 : Shape := ⟨1, ![64]⟩
abbrev S2x16384x1024 : Shape := ⟨3, ![2, 16384, 1024]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2560 : Shape := ⟨3, ![2, 16384, 2560]⟩
abbrev S2x16384x512 : Shape := ⟨3, ![2, 16384, 512]⟩
abbrev S2x16384x8x64 : Shape := ⟨4, ![2, 16384, 8, 64]⟩
abbrev S2x16384x8 : Shape := ⟨3, ![2, 16384, 8]⟩
abbrev S2x16384x8x1 : Shape := ⟨4, ![2, 16384, 8, 1]⟩
abbrev S1x1x1x64 : Shape := ⟨4, ![1, 1, 1, 64]⟩
abbrev S32768x512 : Shape := ⟨2, ![32768, 512]⟩

abbrev nBuf : Space → Nat
  | .hbm => 92
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x6x1024, .f32⟩
  | .hbm, ⟨2, _⟩ => ⟨S1024, .f32⟩
  | .hbm, ⟨3, _⟩ => ⟨S1024x2560, .f32⟩
  | .hbm, ⟨4, _⟩ => ⟨S64, .f32⟩
  | .hbm, ⟨5, _⟩ => ⟨S64, .f32⟩
  | .hbm, ⟨6, _⟩ => ⟨S2x16384x1024, .f32⟩
  | .hbm, ⟨7, _⟩ => ⟨S2x1x1024, .f32⟩
  | .hbm, ⟨8, _⟩ => ⟨S2x1x1024, .f32⟩
  | .hbm, ⟨9, _⟩ => ⟨S2x16384x1024, .f32⟩
  | .hbm, ⟨10, _⟩ => ⟨S_, .f32⟩
  | .hbm, ⟨11, _⟩ => ⟨S2x16384, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S2x16384x1, .f32⟩
  | .hbm, ⟨20, _⟩ => ⟨S2x16384x1024, .f32⟩
  | .hbm, ⟨21, _⟩ => ⟨S2x16384x1024, .f32⟩
  | .hbm, ⟨22, _⟩ => ⟨S1x1x1024, .f32⟩
  | .hbm, ⟨23, _⟩ => ⟨S2x16384x1024, .f32⟩
  | .hbm, ⟨24, _⟩ => ⟨S2x16384x1024, .f32⟩
  | .hbm, ⟨25, _⟩ => ⟨S_, .f32⟩
  | .hbm, ⟨26, _⟩ => ⟨S2x1x1024, .f32⟩
  | .hbm, ⟨27, _⟩ => ⟨S2x1x1024, .f32⟩
  | .hbm, ⟨28, _⟩ => ⟨S2x16384x1024, .f32⟩
  | .hbm, ⟨29, _⟩ => ⟨S2x16384x1024, .f32⟩
  | .hbm, ⟨30, _⟩ => ⟨S2x16384x1024, .f32⟩
  | .hbm, ⟨31, _⟩ => ⟨S2x16384x1024, .f32⟩
  | .hbm, ⟨32, _⟩ => ⟨S2x16384x2560, .f32⟩
  | .hbm, ⟨33, _⟩ => ⟨S2x16384x512, .f32⟩
  | .hbm, ⟨34, _⟩ => ⟨S2x16384x512, .f32⟩
  | .hbm, ⟨35, _⟩ => ⟨S2x16384x512, .f32⟩
  | .hbm, ⟨36, _⟩ => ⟨S2x16384x512, .f32⟩
  | .hbm, ⟨37, _⟩ => ⟨S2x16384x512, .f32⟩
  | .hbm, ⟨38, _⟩ => ⟨S2x16384x8x64, .f32⟩
  | .hbm, ⟨39, _⟩ => ⟨S2x16384x8x64, .f32⟩
  | .hbm, ⟨40, _⟩ => ⟨S_, .f32⟩
  | .hbm, ⟨41, _⟩ => ⟨S2x16384x8, .f32⟩
  | .hbm, ⟨42, _⟩ => ⟨S2x16384x8x1, .f32⟩
  | .hbm, ⟨43, _⟩ => ⟨S_, .f32⟩
  | .hbm, ⟨44, _⟩ => ⟨S2x16384x8x1, .f32⟩
  | .hbm, ⟨45, _⟩ => ⟨S2x16384x8x1, .f32⟩
  | .hbm, ⟨46, _⟩ => ⟨S_, .f32⟩
  | .hbm, ⟨47, _⟩ => ⟨S2x16384x8x1, .f32⟩
  | .hbm, ⟨48, _⟩ => ⟨S2x16384x8x1, .f32⟩
  | .hbm, ⟨49, _⟩ => ⟨S2x16384x8x1, .f32⟩
  | .hbm, ⟨50, _⟩ => ⟨S2x16384x8x64, .f32⟩
  | .hbm, ⟨51, _⟩ => ⟨S2x16384x8x64, .f32⟩
  | .hbm, ⟨52, _⟩ => ⟨S1x1x1x64, .f32⟩
  | .hbm, ⟨53, _⟩ => ⟨S2x16384x8x64, .f32⟩
  | .hbm, ⟨54, _⟩ => ⟨S2x16384x8x64, .f32⟩
  | .hbm, ⟨55, _⟩ => ⟨S_, .f32⟩
  | .hbm, ⟨56, _⟩ => ⟨S2x16384x8x64, .f32⟩
  | .hbm, ⟨57, _⟩ => ⟨S2x16384x8x64, .f32⟩
  | .hbm, ⟨58, _⟩ => ⟨S2x16384x8x64, .f32⟩
  | .hbm, ⟨59, _⟩ => ⟨S2x16384x8x64, .f32⟩
  | .hbm, ⟨60, _⟩ => ⟨S_, .f32⟩
  | .hbm, ⟨61, _⟩ => ⟨S2x16384x8, .f32⟩
  | .hbm, ⟨62, _⟩ => ⟨S2x16384x8x1, .f32⟩
  | .hbm, ⟨63, _⟩ => ⟨S_, .f32⟩
  | .hbm, ⟨64, _⟩ => ⟨S2x16384x8x1, .f32⟩
  | .hbm, ⟨65, _⟩ => ⟨S2x16384x8x1, .f32⟩
  | .hbm, ⟨66, _⟩ => ⟨S_, .f32⟩
  | .hbm, ⟨67, _⟩ => ⟨S2x16384x8x1, .f32⟩
  | .hbm, ⟨68, _⟩ => ⟨S2x16384x8x1, .f32⟩
  | .hbm, ⟨69, _⟩ => ⟨S2x16384x8x1, .f32⟩
  | .hbm, ⟨70, _⟩ => ⟨S2x16384x8x64, .f32⟩
  | .hbm, ⟨71, _⟩ => ⟨S2x16384x8x64, .f32⟩
  | .hbm, ⟨72, _⟩ => ⟨S1x1x1x64, .f32⟩
  | .hbm, ⟨73, _⟩ => ⟨S2x16384x8x64, .f32⟩
  | .hbm, ⟨74, _⟩ => ⟨S2x16384x8x64, .f32⟩
  | .hbm, ⟨75, _⟩ => ⟨S2x16384x512, .f32⟩
  | .hbm, ⟨76, _⟩ => ⟨S2x16384x512, .f32⟩
  | .hbm, ⟨77, _⟩ => ⟨S_, .f32⟩
  | .hbm, ⟨78, _⟩ => ⟨S2x16384x512, .f32⟩
  | .hbm, ⟨79, _⟩ => ⟨S2x16384x512, .f32⟩
  | .hbm, ⟨80, _⟩ => ⟨S_, .f32⟩
  | .hbm, ⟨81, _⟩ => ⟨S2x16384x512, .f32⟩
  | .hbm, ⟨82, _⟩ => ⟨S2x16384x512, .f32⟩
  | .hbm, ⟨83, _⟩ => ⟨S2x16384x512, .f32⟩
  | .hbm, ⟨84, _⟩ => ⟨S32768x512, .f32⟩
  | .hbm, ⟨85, _⟩ => ⟨S32768x512, .bf16⟩
  | .hbm, ⟨86, _⟩ => ⟨S32768x512, .f32⟩
  | .hbm, ⟨87, _⟩ => ⟨S32768x512, .bf16⟩
  | .hbm, ⟨88, _⟩ => ⟨S32768x512, .f32⟩
  | .hbm, ⟨89, _⟩ => ⟨S32768x512, .bf16⟩
  | .hbm, ⟨90, _⟩ => ⟨S32768x512, .f32⟩
  | .hbm, ⟨91, _⟩ => ⟨S32768x512, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_cst_11 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩

abbrev nD : Nat := 1
abbrev τ : Topo := Topo.v7x

variable {F : FTy → Type} [FloatOps F]
-- ==== Post.lean ====
abbrev S512x32768 : Shape := ⟨2, ![512, 32768]⟩
abbrev S512x512 : Shape := ⟨2, ![512, 512]⟩
abbrev S32768x512 : Shape := ⟨2, ![32768, 512]⟩

abbrev nBuf : Space → Nat
  | .hbm => 4
  | .vmem => 5
  | .smem => 0
  | _ => 0

abbrev bufTy : (tb : Table) → Fin (tcTables nBuf tb) → BufTy
  | .hbm, ⟨0, _⟩ => ⟨S512x32768, .f32⟩
  | .hbm, ⟨1, _⟩ => ⟨S512x512, .f32⟩
  | .hbm, ⟨2, _⟩ => ⟨S512x512, .bf16⟩
  | .hbm, ⟨3, _⟩ => ⟨S32768x512, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | _, _ => ⟨S512x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PostRefIdeal.lean ====
abbrev S512x32768 : Shape := ⟨2, ![512, 32768]⟩
abbrev S512x512 : Shape := ⟨2, ![512, 512]⟩
abbrev S32768x512 : Shape := ⟨2, ![32768, 512]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S512x32768, .f32⟩
  | .hbm, ⟨1, _⟩ => ⟨S512x512, .f32⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S_, .f32⟩
  | .hbm, ⟨6, _⟩ => ⟨S32768x512, .f32⟩
  | .hbm, ⟨7, _⟩ => ⟨S32768x512, .f32⟩
  | .hbm, ⟨8, _⟩ => ⟨S32768x512, .f32⟩
  | .hbm, ⟨9, _⟩ => ⟨S_, .f32⟩
  | .hbm, ⟨10, _⟩ => ⟨S32768x512, .f32⟩
  | .hbm, ⟨11, _⟩ => ⟨S32768x512, .f32⟩
  | .hbm, ⟨12, _⟩ => ⟨S32768x512, .f32⟩
  | .hbm, ⟨13, _⟩ => ⟨S_, .f32⟩
  | .hbm, ⟨14, _⟩ => ⟨S32768x512, .f32⟩
  | .hbm, ⟨15, _⟩ => ⟨S32768x512, .f32⟩
  | .hbm, ⟨16, _⟩ => ⟨S_, .f32⟩
  | .hbm, ⟨17, _⟩ => ⟨S32768x512, .f32⟩
  | .hbm, ⟨18, _⟩ => ⟨S32768x512, .f32⟩
  | .hbm, ⟨19, _⟩ => ⟨S32768x512, .f32⟩
  | .hbm, ⟨20, _⟩ => ⟨S32768x512, .f32⟩
  | .hbm, ⟨21, _⟩ => ⟨S32768x512, .f32⟩
  | .hbm, ⟨22, _⟩ => ⟨S32768x512, .f32⟩
  | .hbm, ⟨23, _⟩ => ⟨S_, .f32⟩
  | .hbm, ⟨24, _⟩ => ⟨S32768x512, .f32⟩
  | .hbm, ⟨25, _⟩ => ⟨S32768x512, .f32⟩
  | .hbm, ⟨26, _⟩ => ⟨S_, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S32768x512, .bf16⟩
  | _, _ => ⟨S512x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Ada.lean ====
abbrev S2x1024 : Shape := ⟨2, ![2, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x2x6144 : Shape := ⟨3, ![2, 2, 6144]⟩
abbrev S1x1024x1024 : Shape := ⟨3, ![1, 1024, 1024]⟩
abbrev S1x1x1024 : Shape := ⟨3, ![1, 1, 1024]⟩
abbrev S1x2x1024 : Shape := ⟨3, ![1, 2, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x2x6144, .f32⟩
  | .local _ .vmem, ⟨0, _⟩ => ⟨S2x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x2x1024, .f32⟩
  | .local _ .vmem, ⟨6, _⟩ => ⟨S1x2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S2x1024 : Shape := ⟨2, ![2, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S1x6144 : Shape := ⟨2, ![1, 6144]⟩
abbrev S6144 : Shape := ⟨1, ![6144]⟩
abbrev S1x2x6144 : Shape := ⟨3, ![1, 2, 6144]⟩
abbrev S2x2x6144 : Shape := ⟨3, ![2, 2, 6144]⟩

abbrev nBuf : Space → Nat
  | .hbm => 40
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024x6144, .f32⟩
  | .hbm, ⟨2, _⟩ => ⟨S2x6144, .f32⟩
  | .hbm, ⟨3, _⟩ => ⟨S2x1024, .f32⟩
  | .hbm, ⟨4, _⟩ => ⟨S2x1024, .f32⟩
  | .hbm, ⟨5, _⟩ => ⟨S_, .f32⟩
  | .hbm, ⟨6, _⟩ => ⟨S2x1024, .f32⟩
  | .hbm, ⟨7, _⟩ => ⟨S2x1024, .f32⟩
  | .hbm, ⟨8, _⟩ => ⟨S_, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S1x1024x6144, .f32⟩
  | .hbm, ⟨13, _⟩ => ⟨S1024x6144, .f32⟩
  | .hbm, ⟨14, _⟩ => ⟨S2x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S2x6144, .f32⟩
  | .hbm, ⟨19, _⟩ => ⟨S2x6144, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S_, .f32⟩
  | .hbm, ⟨26, _⟩ => ⟨S2x1024, .f32⟩
  | .hbm, ⟨27, _⟩ => ⟨S2x1024, .f32⟩
  | .hbm, ⟨28, _⟩ => ⟨S2x1024, .f32⟩
  | .hbm, ⟨29, _⟩ => ⟨S1x1024x6144, .f32⟩
  | .hbm, ⟨30, _⟩ => ⟨S1024x6144, .f32⟩
  | .hbm, ⟨31, _⟩ => ⟨S2x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S2x6144, .f32⟩
  | .hbm, ⟨36, _⟩ => ⟨S2x6144, .f32⟩
  | .hbm, ⟨37, _⟩ => ⟨S1x2x6144, .f32⟩
  | .hbm, ⟨38, _⟩ => ⟨S1x2x6144, .f32⟩
  | .hbm, ⟨39, _⟩ => ⟨S2x2x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Conv.lean ====
abbrev S32768x512 : Shape := ⟨2, ![32768, 512]⟩
abbrev S31x512 : Shape := ⟨2, ![31, 512]⟩
abbrev S512 : Shape := ⟨1, ![512]⟩
abbrev S1x512 : Shape := ⟨2, ![1, 512]⟩
abbrev S16x512 : Shape := ⟨2, ![16, 512]⟩
abbrev S512x512 : Shape := ⟨2, ![512, 512]⟩
abbrev S544x512 : Shape := ⟨2, ![544, 512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S32768x512, .bf16⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S32768x512, .bf16⟩
  | .local _ .vmem, ⟨0, _⟩ => ⟨S16x512, .bf16⟩
  | .local _ .vmem, ⟨1, _⟩ => ⟨S16x512, .bf16⟩
  | .local _ .vmem, ⟨2, _⟩ => ⟨S512x512, .bf16⟩
  | .local _ .vmem, ⟨3, _⟩ => ⟨S512x512, .bf16⟩
  | .local _ .vmem, ⟨4, _⟩ => ⟨S16x512, .bf16⟩
  | .local _ .vmem, ⟨5, _⟩ => ⟨S16x512, .bf16⟩
  | .local _ .vmem, ⟨6, _⟩ => ⟨S31x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S544x512, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvRefIdeal.lean ====
abbrev S32768x512 : Shape := ⟨2, ![32768, 512]⟩
abbrev S31x512 : Shape := ⟨2, ![31, 512]⟩
abbrev S512 : Shape := ⟨1, ![512]⟩
abbrev S2x16384x512 : Shape := ⟨3, ![2, 16384, 512]⟩
abbrev S_ : Shape := ⟨0, ![]⟩
abbrev S2x16414x512 : Shape := ⟨3, ![2, 16414, 512]⟩
abbrev S1x512 : Shape := ⟨2, ![1, 512]⟩
abbrev S1x1x512 : Shape := ⟨3, ![1, 1, 512]⟩
abbrev S2x16384 : Shape := ⟨2, ![2, 16384]⟩
abbrev S2x16384x1 : Shape := ⟨3, ![2, 16384, 1]⟩

abbrev nBuf : Space → Nat
  | .hbm => 272
  | .vmem => 0
  | .smem => 0
  | _ => 0

abbrev hbmTy0_0 (i : Nat) : BufTy := match i % 128 with
  | 0 => ⟨S32768x512, .bf16⟩
  | 1 => ⟨S31x512, .f32⟩
  | 2 => ⟨S512, .f32⟩
  | 3 => ⟨S512, .f32⟩
  | 4 => ⟨S512, .f32⟩
  | 5 => ⟨S32768x512, .f32⟩
  | 6 => ⟨S2x16384x512, .f32⟩
  | 7 => ⟨S_, .i32⟩
  | 8 => ⟨S_, .f32⟩
  | 9 => ⟨S2x16414x512, .f32⟩
  | 10 => ⟨S2x16384x512, .f32⟩
  | 11 => ⟨S1x512, .f32⟩
  | 12 => ⟨S512, .f32⟩
  | 13 => ⟨S1x1x512, .f32⟩
  | 14 => ⟨S2x16384x512, .f32⟩
  | 15 => ⟨S2x16384x512, .f32⟩
  | 16 => ⟨S_, .f32⟩
  | 17 => ⟨S2x16384x512, .f32⟩
  | 18 => ⟨S2x16384x512, .f32⟩
  | 19 => ⟨S2x16384x512, .f32⟩
  | 20 => ⟨S1x512, .f32⟩
  | 21 => ⟨S512, .f32⟩
  | 22 => ⟨S1x1x512, .f32⟩
  | 23 => ⟨S2x16384x512, .f32⟩
  | 24 => ⟨S2x16384x512, .f32⟩
  | 25 => ⟨S2x16384x512, .f32⟩
  | 26 => ⟨S2x16384x512, .f32⟩
  | 27 => ⟨S1x512, .f32⟩
  | 28 => ⟨S512, .f32⟩
  | 29 => ⟨S1x1x512, .f32⟩
  | 30 => ⟨S2x16384x512, .f32⟩
  | 31 => ⟨S2x16384x512, .f32⟩
  | 32 => ⟨S2x16384x512, .f32⟩
  | 33 => ⟨S2x16384x512, .f32⟩
  | 34 => ⟨S1x512, .f32⟩
  | 35 => ⟨S512, .f32⟩
  | 36 => ⟨S1x1x512, .f32⟩
  | 37 => ⟨S2x16384x512, .f32⟩
  | 38 => ⟨S2x16384x512, .f32⟩
  | 39 => ⟨S2x16384x512, .f32⟩
  | 40 => ⟨S2x16384x512, .f32⟩
  | 41 => ⟨S1x512, .f32⟩
  | 42 => ⟨S512, .f32⟩
  | 43 => ⟨S1x1x512, .f32⟩
  | 44 => ⟨S2x16384x512, .f32⟩
  | 45 => ⟨S2x16384x512, .f32⟩
  | 46 => ⟨S2x16384x512, .f32⟩
  | 47 => ⟨S2x16384x512, .f32⟩
  | 48 => ⟨S1x512, .f32⟩
  | 49 => ⟨S512, .f32⟩
  | 50 => ⟨S1x1x512, .f32⟩
  | 51 => ⟨S2x16384x512, .f32⟩
  | 52 => ⟨S2x16384x512, .f32⟩
  | 53 => ⟨S2x16384x512, .f32⟩
  | 54 => ⟨S2x16384x512, .f32⟩
  | 55 => ⟨S1x512, .f32⟩
  | 56 => ⟨S512, .f32⟩
  | 57 => ⟨S1x1x512, .f32⟩
  | 58 => ⟨S2x16384x512, .f32⟩
  | 59 => ⟨S2x16384x512, .f32⟩
  | 60 => ⟨S2x16384x512, .f32⟩
  | 61 => ⟨S2x16384x512, .f32⟩
  | 62 => ⟨S1x512, .f32⟩
  | 63 => ⟨S512, .f32⟩
  | 64 => ⟨S1x1x512, .f32⟩
  | 65 => ⟨S2x16384x512, .f32⟩
  | 66 => ⟨S2x16384x512, .f32⟩
  | 67 => ⟨S2x16384x512, .f32⟩
  | 68 => ⟨S2x16384x512, .f32⟩
  | 69 => ⟨S1x512, .f32⟩
  | 70 => ⟨S512, .f32⟩
  | 71 => ⟨S1x1x512, .f32⟩
  | 72 => ⟨S2x16384x512, .f32⟩
  | 73 => ⟨S2x16384x512, .f32⟩
  | 74 => ⟨S2x16384x512, .f32⟩
  | 75 => ⟨S2x16384x512, .f32⟩
  | 76 => ⟨S1x512, .f32⟩
  | 77 => ⟨S512, .f32⟩
  | 78 => ⟨S1x1x512, .f32⟩
  | 79 => ⟨S2x16384x512, .f32⟩
  | 80 => ⟨S2x16384x512, .f32⟩
  | 81 => ⟨S2x16384x512, .f32⟩
  | 82 => ⟨S2x16384x512, .f32⟩
  | 83 => ⟨S1x512, .f32⟩
  | 84 => ⟨S512, .f32⟩
  | 85 => ⟨S1x1x512, .f32⟩
  | 86 => ⟨S2x16384x512, .f32⟩
  | 87 => ⟨S2x16384x512, .f32⟩
  | 88 => ⟨S2x16384x512, .f32⟩
  | 89 => ⟨S2x16384x512, .f32⟩
  | 90 => ⟨S1x512, .f32⟩
  | 91 => ⟨S512, .f32⟩
  | 92 => ⟨S1x1x512, .f32⟩
  | 93 => ⟨S2x16384x512, .f32⟩
  | 94 => ⟨S2x16384x512, .f32⟩
  | 95 => ⟨S2x16384x512, .f32⟩
  | 96 => ⟨S2x16384x512, .f32⟩
  | 97 => ⟨S1x512, .f32⟩
  | 98 => ⟨S512, .f32⟩
  | 99 => ⟨S1x1x512, .f32⟩
  | 100 => ⟨S2x16384x512, .f32⟩
  | 101 => ⟨S2x16384x512, .f32⟩
  | 102 => ⟨S2x16384x512, .f32⟩
  | 103 => ⟨S2x16384x512, .f32⟩
  | 104 => ⟨S1x512, .f32⟩
  | 105 => ⟨S512, .f32⟩
  | 106 => ⟨S1x1x512, .f32⟩
  | 107 => ⟨S2x16384x512, .f32⟩
  | 108 => ⟨S2x16384x512, .f32⟩
  | 109 => ⟨S2x16384x512, .f32⟩
  | 110 => ⟨S2x16384x512, .f32⟩
  | 111 => ⟨S1x512, .f32⟩
  | 112 => ⟨S512, .f32⟩
  | 113 => ⟨S1x1x512, .f32⟩
  | 114 => ⟨S2x16384x512, .f32⟩
  | 115 => ⟨S2x16384x512, .f32⟩
  | 116 => ⟨S2x16384x512, .f32⟩
  | 117 => ⟨S2x16384x512, .f32⟩
  | 118 => ⟨S1x512, .f32⟩
  | 119 => ⟨S512, .f32⟩
  | 120 => ⟨S1x1x512, .f32⟩
  | 121 => ⟨S2x16384x512, .f32⟩
  | 122 => ⟨S2x16384x512, .f32⟩
  | 123 => ⟨S2x16384x512, .f32⟩
  | 124 => ⟨S2x16384x512, .f32⟩
  | 125 => ⟨S1x512, .f32⟩
  | 126 => ⟨S512, .f32⟩
  | 127 => ⟨S1x1x512, .f32⟩
  | _ => ⟨S32768x512, .bf16⟩

abbrev hbmTy0_1 (i : Nat) : BufTy := match i % 128 with
  | 0 => ⟨S2x16384x512, .f32⟩
  | 1 => ⟨S2x16384x512, .f32⟩
  | 2 => ⟨S2x16384x512, .f32⟩
  | 3 => ⟨S2x16384x512, .f32⟩
  | 4 => ⟨S1x512, .f32⟩
  | 5 => ⟨S512, .f32⟩
  | 6 => ⟨S1x1x512, .f32⟩
  | 7 => ⟨S2x16384x512, .f32⟩
  | 8 => ⟨S2x16384x512, .f32⟩
  | 9 => ⟨S2x16384x512, .f32⟩
  | 10 => ⟨S2x16384x512, .f32⟩
  | 11 => ⟨S1x512, .f32⟩
  | 12 => ⟨S512, .f32⟩
  | 13 => ⟨S1x1x512, .f32⟩
  | 14 => ⟨S2x16384x512, .f32⟩
  | 15 => ⟨S2x16384x512, .f32⟩
  | 16 => ⟨S2x16384x512, .f32⟩
  | 17 => ⟨S2x16384x512, .f32⟩
  | 18 => ⟨S1x512, .f32⟩
  | 19 => ⟨S512, .f32⟩
  | 20 => ⟨S1x1x512, .f32⟩
  | 21 => ⟨S2x16384x512, .f32⟩
  | 22 => ⟨S2x16384x512, .f32⟩
  | 23 => ⟨S2x16384x512, .f32⟩
  | 24 => ⟨S2x16384x512, .f32⟩
  | 25 => ⟨S1x512, .f32⟩
  | 26 => ⟨S512, .f32⟩
  | 27 => ⟨S1x1x512, .f32⟩
  | 28 => ⟨S2x16384x512, .f32⟩
  | 29 => ⟨S2x16384x512, .f32⟩
  | 30 => ⟨S2x16384x512, .f32⟩
  | 31 => ⟨S2x16384x512, .f32⟩
  | 32 => ⟨S1x512, .f32⟩
  | 33 => ⟨S512, .f32⟩
  | 34 => ⟨S1x1x512, .f32⟩
  | 35 => ⟨S2x16384x512, .f32⟩
  | 36 => ⟨S2x16384x512, .f32⟩
  | 37 => ⟨S2x16384x512, .f32⟩
  | 38 => ⟨S2x16384x512, .f32⟩
  | 39 => ⟨S1x512, .f32⟩
  | 40 => ⟨S512, .f32⟩
  | 41 => ⟨S1x1x512, .f32⟩
  | 42 => ⟨S2x16384x512, .f32⟩
  | 43 => ⟨S2x16384x512, .f32⟩
  | 44 => ⟨S2x16384x512, .f32⟩
  | 45 => ⟨S2x16384x512, .f32⟩
  | 46 => ⟨S1x512, .f32⟩
  | 47 => ⟨S512, .f32⟩
  | 48 => ⟨S1x1x512, .f32⟩
  | 49 => ⟨S2x16384x512, .f32⟩
  | 50 => ⟨S2x16384x512, .f32⟩
  | 51 => ⟨S2x16384x512, .f32⟩
  | 52 => ⟨S2x16384x512, .f32⟩
  | 53 => ⟨S1x512, .f32⟩
  | 54 => ⟨S512, .f32⟩
  | 55 => ⟨S1x1x512, .f32⟩
  | 56 => ⟨S2x16384x512, .f32⟩
  | 57 => ⟨S2x16384x512, .f32⟩
  | 58 => ⟨S2x16384x512, .f32⟩
  | 59 => ⟨S2x16384x512, .f32⟩
  | 60 => ⟨S1x512, .f32⟩
  | 61 => ⟨S512, .f32⟩
  | 62 => ⟨S1x1x512, .f32⟩
  | 63 => ⟨S2x16384x512, .f32⟩
  | 64 => ⟨S2x16384x512, .f32⟩
  | 65 => ⟨S2x16384x512, .f32⟩
  | 66 => ⟨S2x16384x512, .f32⟩
  | 67 => ⟨S1x512, .f32⟩
  | 68 => ⟨S512, .f32⟩
  | 69 => ⟨S1x1x512, .f32⟩
  | 70 => ⟨S2x16384x512, .f32⟩
  | 71 => ⟨S2x16384x512, .f32⟩
  | 72 => ⟨S2x16384x512, .f32⟩
  | 73 => ⟨S2x16384x512, .f32⟩
  | 74 => ⟨S1x512, .f32⟩
  | 75 => ⟨S512, .f32⟩
  | 76 => ⟨S1x1x512, .f32⟩
  | 77 => ⟨S2x16384x512, .f32⟩
  | 78 => ⟨S2x16384x512, .f32⟩
  | 79 => ⟨S2x16384x512, .f32⟩
  | 80 => ⟨S2x16384x512, .f32⟩
  | 81 => ⟨S1x512, .f32⟩
  | 82 => ⟨S512, .f32⟩
  | 83 => ⟨S1x1x512, .f32⟩
  | 84 => ⟨S2x16384x512, .f32⟩
  | 85 => ⟨S2x16384x512, .f32⟩
  | 86 => ⟨S2x16384x512, .f32⟩
  | 87 => ⟨S2x16384x512, .f32⟩
  | 88 => ⟨S1x512, .f32⟩
  | 89 => ⟨S512, .f32⟩
  | 90 => ⟨S1x1x512, .f32⟩
  | 91 => ⟨S2x16384x512, .f32⟩
  | 92 => ⟨S2x16384x512, .f32⟩
  | 93 => ⟨S2x16384x512, .f32⟩
  | 94 => ⟨S2x16384x512, .f32⟩
  | 95 => ⟨S1x512, .f32⟩
  | 96 => ⟨S512, .f32⟩
  | 97 => ⟨S1x1x512, .f32⟩
  | 98 => ⟨S2x16384x512, .f32⟩
  | 99 => ⟨S2x16384x512, .f32⟩
  | 100 => ⟨S2x16384x512, .f32⟩
  | 101 => ⟨S1x1x512, .f32⟩
  | 102 => ⟨S2x16384x512, .f32⟩
  | 103 => ⟨S2x16384x512, .f32⟩
  | 104 => ⟨S_, .f32⟩
  | 105 => ⟨S2x16384, .f32⟩
  | 106 => ⟨S2x16384x1, .f32⟩
  | 107 => ⟨S_, .f32⟩
  | 108 => ⟨S2x16384x1, .f32⟩
  | 109 => ⟨S2x16384x1, .f32⟩
  | 110 => ⟨S2x16384x512, .f32⟩
  | 111 => ⟨S2x16384x512, .f32⟩
  | 112 => ⟨S2x16384x512, .f32⟩
  | 113 => ⟨S_, .f32⟩
  | 114 => ⟨S2x16384, .f32⟩
  | 115 => ⟨S2x16384x1, .f32⟩
  | 116 => ⟨S_, .f32⟩
  | 117 => ⟨S2x16384x1, .f32⟩
  | 118 => ⟨S2x16384x1, .f32⟩
  | 119 => ⟨S2x16384x512, .f32⟩
  | 120 => ⟨S2x16384x512, .f32⟩
  | 121 => ⟨S_, .f32⟩
  | 122 => ⟨S2x16384x1, .f32⟩
  | 123 => ⟨S2x16384x1, .f32⟩
  | 124 => ⟨S2x16384x1, .f32⟩
  | 125 => ⟨S2x16384x512, .f32⟩
  | 126 => ⟨S2x16384x512, .f32⟩
  | 127 => ⟨S1x1x512, .f32⟩
  | _ => ⟨S32768x512, .bf16⟩

abbrev hbmTy0_2 (i : Nat) : BufTy := match i % 128 with
  | 0 => ⟨S2x16384x512, .f32⟩
  | 1 => ⟨S2x16384x512, .f32⟩
  | 2 => ⟨S1x1x512, .f32⟩
  | 3 => ⟨S2x16384x512, .f32⟩
  | 4 => ⟨S2x16384x512, .f32⟩
  | 5 => ⟨S2x16384x512, .f32⟩
  | 6 => ⟨S2x16384x512, .f32⟩
  | 7 => ⟨S_, .f32⟩
  | 8 => ⟨S2x16384x512, .f32⟩
  | 9 => ⟨S2x16384x512, .f32⟩
  | 10 => ⟨S_, .f32⟩
  | 11 => ⟨S2x16384x512, .f32⟩
  | 12 => ⟨S2x16384x512, .f32⟩
  | 13 => ⟨S2x16384x512, .f32⟩
  | 14 => ⟨S32768x512, .f32⟩
  | 15 => ⟨S32768x512, .bf16⟩
  | _ => ⟨S32768x512, .bf16⟩

abbrev hbmTy (i : Nat) : BufTy := match i / 128 with
  | 0 => hbmTy0_0 i
  | 1 => hbmTy0_1 i
  | 2 => hbmTy0_2 i
  | _ => ⟨S32768x512, .bf16⟩

abbrev bufTy : (tb : Table) → Fin (tcTables nBuf tb) → BufTy
  | .hbm, ⟨i, _⟩ => hbmTy i
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_cst_0 : Ref sig .tc := ⟨.hbm, 232, rfl⟩
abbrev main_v224 : Ref sig .tc := ⟨.hbm, 233, rfl⟩
abbrev main_v225 : Ref sig .tc := ⟨.hbm, 234, rfl⟩
abbrev main_cst_1 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_cst_2 : Ref sig .tc := ⟨.hbm, 241, rfl⟩
abbrev main_v231 : Ref sig .tc := ⟨.hbm, 242, rfl⟩
abbrev main_v232 : Ref sig .tc := ⟨.hbm, 243, rfl⟩
abbrev main_cst_3 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_cst_4 : Ref sig .tc := ⟨.hbm, 249, rfl⟩
abbrev main_v237 : Ref sig .tc := ⟨.hbm, 250, rfl⟩
abbrev main_v238 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_call1_v0 : Ref sig .tc := ⟨.hbm, 261, rfl⟩
abbrev main_call1_v1 : Ref sig .tc := ⟨.hbm, 262, rfl⟩
abbrev main_call1_cst : Ref sig .tc := ⟨.hbm, 263, rfl⟩
abbrev main_call1_v2 : Ref sig .tc := ⟨.hbm, 264, rfl⟩
abbrev main_call1_v3 : Ref sig .tc := ⟨.hbm, 265, rfl⟩
abbrev main_call1_cst_0 : Ref sig .tc := ⟨.hbm, 266, rfl⟩
abbrev main_call1_v4 : Ref sig .tc := ⟨.hbm, 267, rfl⟩
abbrev main_call1_v5 : Ref sig .tc := ⟨.hbm, 268, rfl⟩
abbrev main_v248 : Ref sig .tc := ⟨.hbm, 269, rfl⟩
abbrev main_v249 : Ref sig .tc := ⟨.hbm, 270, rfl⟩
abbrev main_v250 : Ref sig .tc := ⟨.hbm, 271, rfl⟩

abbrev nD : Nat := 1
abbrev τ : Topo := Topo.v7x

variable {F : FTy → Type} [FloatOps F]
-- ==== Short.lean ====
abbrev S32768x1536 : Shape := ⟨2, ![32768, 1536]⟩
abbrev S3x1536 : Shape := ⟨2, ![3, 1536]⟩
abbrev S1536 : Shape := ⟨1, ![1536]⟩
abbrev S1x1536 : Shape := ⟨2, ![1, 1536]⟩
abbrev S32768x512 : Shape := ⟨2, ![32768, 512]⟩
abbrev S16x1536 : Shape := ⟨2, ![16, 1536]⟩
abbrev S512x1536 : Shape := ⟨2, ![512, 1536]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S32768x1536, .bf16⟩
  | .hbm, ⟨1, _⟩ => ⟨S3x1536, .f32⟩
  | .hbm, ⟨2, _⟩ => ⟨S1536, .f32⟩
  | .hbm, ⟨3, _⟩ => ⟨S1x1536, .f32⟩
  | .hbm, ⟨4, _⟩ => ⟨S32768x512, .bf16⟩
  | .hbm, ⟨5, _⟩ => ⟨S32768x512, .bf16⟩
  | .hbm, ⟨6, _⟩ => ⟨S32768x512, .bf16⟩
  | .local _ .vmem, ⟨0, _⟩ => ⟨S16x1536, .bf16⟩
  | .local _ .vmem, ⟨1, _⟩ => ⟨S16x1536, .bf16⟩
  | .local _ .vmem, ⟨2, _⟩ => ⟨S512x1536, .bf16⟩
  | .local _ .vmem, ⟨3, _⟩ => ⟨S512x1536, .bf16⟩
  | .local _ .vmem, ⟨4, _⟩ => ⟨S16x1536, .bf16⟩
  | .local _ .vmem, ⟨5, _⟩ => ⟨S16x1536, .bf16⟩
  | .local _ .vmem, ⟨6, _⟩ => ⟨S3x1536, .f32⟩
  | .local _ .vmem, ⟨7, _⟩ => ⟨S1x1536, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ShortRefIdeal.lean ====
abbrev S32768x1536 : Shape := ⟨2, ![32768, 1536]⟩
abbrev S3x1536 : Shape := ⟨2, ![3, 1536]⟩
abbrev S1536 : Shape := ⟨1, ![1536]⟩
abbrev S2x16384x1536 : Shape := ⟨3, ![2, 16384, 1536]⟩
abbrev S_ : Shape := ⟨0, ![]⟩
abbrev S2x16386x1536 : Shape := ⟨3, ![2, 16386, 1536]⟩
abbrev S1x1536 : Shape := ⟨2, ![1, 1536]⟩
abbrev S1x1x1536 : Shape := ⟨3, ![1, 1, 1536]⟩
abbrev S32768x512 : Shape := ⟨2, ![32768, 512]⟩

abbrev nBuf : Space → Nat
  | .hbm => 39
  | .vmem => 0
  | .smem => 0
  | _ => 0

abbrev bufTy : (tb : Table) → Fin (tcTables nBuf tb) → BufTy
  | .hbm, ⟨0, _⟩ => ⟨S32768x1536, .bf16⟩
  | .hbm, ⟨1, _⟩ => ⟨S3x1536, .f32⟩
  | .hbm, ⟨2, _⟩ => ⟨S1536, .f32⟩
  | .hbm, ⟨3, _⟩ => ⟨S32768x1536, .f32⟩
  | .hbm, ⟨4, _⟩ => ⟨S2x16384x1536, .f32⟩
  | .hbm, ⟨5, _⟩ => ⟨S_, .i32⟩
  | .hbm, ⟨6, _⟩ => ⟨S_, .f32⟩
  | .hbm, ⟨7, _⟩ => ⟨S2x16386x1536, .f32⟩
  | .hbm, ⟨8, _⟩ => ⟨S2x16384x1536, .f32⟩
  | .hbm, ⟨9, _⟩ => ⟨S1x1536, .f32⟩
  | .hbm, ⟨10, _⟩ => ⟨S1536, .f32⟩
  | .hbm, ⟨11, _⟩ => ⟨S1x1x1536, .f32⟩
  | .hbm, ⟨12, _⟩ => ⟨S2x16384x1536, .f32⟩
  | .hbm, ⟨13, _⟩ => ⟨S2x16384x1536, .f32⟩
  | .hbm, ⟨14, _⟩ => ⟨S_, .f32⟩
  | .hbm, ⟨15, _⟩ => ⟨S2x16384x1536, .f32⟩
  | .hbm, ⟨16, _⟩ => ⟨S2x16384x1536, .f32⟩
  | .hbm, ⟨17, _⟩ => ⟨S2x16384x1536, .f32⟩
  | .hbm, ⟨18, _⟩ => ⟨S1x1536, .f32⟩
  | .hbm, ⟨19, _⟩ => ⟨S1536, .f32⟩
  | .hbm, ⟨20, _⟩ => ⟨S1x1x1536, .f32⟩
  | .hbm, ⟨21, _⟩ => ⟨S2x16384x1536, .f32⟩
  | .hbm, ⟨22, _⟩ => ⟨S2x16384x1536, .f32⟩
  | .hbm, ⟨23, _⟩ => ⟨S2x16384x1536, .f32⟩
  | .hbm, ⟨24, _⟩ => ⟨S2x16384x1536, .f32⟩
  | .hbm, ⟨25, _⟩ => ⟨S1x1536, .f32⟩
  | .hbm, ⟨26, _⟩ => ⟨S1536, .f32⟩
  | .hbm, ⟨27, _⟩ => ⟨S1x1x1536, .f32⟩
  | .hbm, ⟨28, _⟩ => ⟨S2x16384x1536, .f32⟩
  | .hbm, ⟨29, _⟩ => ⟨S2x16384x1536, .f32⟩
  | .hbm, ⟨30, _⟩ => ⟨S2x16384x1536, .f32⟩
  | .hbm, ⟨31, _⟩ => ⟨S1x1x1536, .f32⟩
  | .hbm, ⟨32, _⟩ => ⟨S2x16384x1536, .f32⟩
  | .hbm, ⟨33, _⟩ => ⟨S2x16384x1536, .f32⟩
  | .hbm, ⟨34, _⟩ => ⟨S32768x1536, .f32⟩
  | .hbm, ⟨35, _⟩ => ⟨S32768x1536, .bf16⟩
  | .hbm, ⟨36, _⟩ => ⟨S32768x512, .bf16⟩
  | .hbm, ⟨37, _⟩ => ⟨S32768x512, .bf16⟩
  | .hbm, ⟨38, _⟩ => ⟨S32768x512, .bf16⟩
  | _, _ => ⟨S32768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]
-- ==== Out.lean ====
abbrev S32768x512 : Shape := ⟨2, ![32768, 512]⟩
abbrev S32768x1024 : Shape := ⟨2, ![32768, 1024]⟩
abbrev S2x6x1024 : Shape := ⟨3, ![2, 6, 1024]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S1x1024 : Shape := ⟨2, ![1, 1024]⟩
abbrev S_ : Shape := ⟨0, ![]⟩
abbrev S1024x128 : Shape := ⟨2, ![1024, 128]⟩
abbrev S16x1 : Shape := ⟨2, ![16, 1]⟩
abbrev S32768x128 : Shape := ⟨2, ![32768, 128]⟩
abbrev S512x512 : Shape := ⟨2, ![512, 512]⟩
abbrev S512x1024 : Shape := ⟨2, ![512, 1024]⟩
abbrev S1x6x1024 : Shape := ⟨3, ![1, 6, 1024]⟩
abbrev S512x128 : Shape := ⟨2, ![512, 128]⟩
abbrev S6x1024 : Shape := ⟨2, ![6, 1024]⟩
abbrev S512 : Shape := ⟨1, ![512]⟩
abbrev S512x1 : Shape := ⟨2, ![512, 1]⟩
abbrev S128x512 : Shape := ⟨2, ![128, 512]⟩
abbrev S1x512 : Shape := ⟨2, ![1, 512]⟩
abbrev S1x1 : Shape := ⟨2, ![1, 1]⟩

abbrev nBuf : Space → Nat
  | .hbm => 17
  | .vmem => 19
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S2x6x1024, .f32⟩
  | .hbm, ⟨4, _⟩ => ⟨S1024x1024, .f32⟩
  | .hbm, ⟨5, _⟩ => ⟨S1024, .f32⟩
  | .hbm, ⟨6, _⟩ => ⟨S1024x16, .f32⟩
  | .hbm, ⟨7, _⟩ => ⟨S16, .f32⟩
  | .hbm, ⟨8, _⟩ => ⟨S1024x1024, .bf16⟩
  | .hbm, ⟨9, _⟩ => ⟨S1x1024, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S16x1, .f32⟩
  | .hbm, ⟨14, _⟩ => ⟨S32768x1024, .f32⟩
  | .hbm, ⟨15, _⟩ => ⟨S32768x1024, .bf16⟩
  | .hbm, ⟨16, _⟩ => ⟨S32768x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1x6x1024, .f32⟩
  | .local _ .vmem, ⟨7, _⟩ => ⟨S1x6x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1024x128, .f32⟩
  | .local _ .vmem, ⟨12, _⟩ => ⟨S16x1, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x128, .f32⟩
  | .local _ .vmem, ⟨18, _⟩ => ⟨S512x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 32 := Scalar.divsi v0 c16384_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16384_i32 c0_i32_1
  let v8 : BitVec 32 := Scalar.extui v7
  let c0_i32_2 : BitVec 32 := 0#32
  let v9 : BitVec 1 := Scalar.cmpi .slt c16384_i32 c0_i32_2
  let v10 : BitVec 32 := Scalar.extui v9
  let v11 : BitVec 32 := Scalar.subi v8 v10
  let v12 : BitVec 1 := Scalar.cmpi .ne v6 v11
  let v13 : BitVec 32 := Scalar.remsi v0 c16384_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutRefIdeal.lean ====
abbrev S32768x512 : Shape := ⟨2, ![32768, 512]⟩
abbrev S32768x1024 : Shape := ⟨2, ![32768, 1024]⟩
abbrev S2x6x1024 : Shape := ⟨3, ![2, 6, 1024]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S2x16384x1024 : Shape := ⟨3, ![2, 16384, 1024]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x16 : Shape := ⟨3, ![2, 16384, 16]⟩
abbrev S1x1x16 : Shape := ⟨3, ![1, 1, 16]⟩
abbrev S2x16384x4x4 : Shape := ⟨4, ![2, 16384, 4, 4]⟩
abbrev S2x16384x4x2 : Shape := ⟨4, ![2, 16384, 4, 2]⟩
abbrev S2x16384x4 : Shape := ⟨3, ![2, 16384, 4]⟩
abbrev S2x16384x2 : Shape := ⟨3, ![2, 16384, 2]⟩
abbrev S2x16384x2x1 : Shape := ⟨4, ![2, 16384, 2, 1]⟩
abbrev S1x1x1x16 : Shape := ⟨4, ![1, 1, 1, 16]⟩
abbrev S2x16384x2x16 : Shape := ⟨4, ![2, 16384, 2, 16]⟩
abbrev S2x16384x128 : Shape := ⟨3, ![2, 16384, 128]⟩
abbrev S32768x128 : Shape := ⟨2, ![32768, 128]⟩

abbrev nBuf : Space → Nat
  | .hbm => 113
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S2x6x1024, .f32⟩
  | .hbm, ⟨4, _⟩ => ⟨S1024x1024, .f32⟩
  | .hbm, ⟨5, _⟩ => ⟨S1024, .f32⟩
  | .hbm, ⟨6, _⟩ => ⟨S1024x16, .f32⟩
  | .hbm, ⟨7, _⟩ => ⟨S16, .f32⟩
  | .hbm, ⟨8, _⟩ => ⟨S2x16384x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S32768x1024, .bf16⟩
  | .hbm, ⟨13, _⟩ => ⟨S32768x1024, .f32⟩
  | .hbm, ⟨14, _⟩ => ⟨S2x16384x1024, .f32⟩
  | .hbm, ⟨15, _⟩ => ⟨S2x16384x1024, .f32⟩
  | .hbm, ⟨16, _⟩ => ⟨S2x16384x1024, .f32⟩
  | .hbm, ⟨17, _⟩ => ⟨S2x16384x1024, .f32⟩
  | .hbm, ⟨18, _⟩ => ⟨S2x16384x1024, .f32⟩
  | .hbm, ⟨19, _⟩ => ⟨S2x16384x1024, .f32⟩
  | .hbm, ⟨20, _⟩ => ⟨S_, .f32⟩
  | .hbm, ⟨21, _⟩ => ⟨S2x16384, .f32⟩
  | .hbm, ⟨22, _⟩ => ⟨S2x16384x1, .f32⟩
  | .hbm, ⟨23, _⟩ => ⟨S_, .f32⟩
  | .hbm, ⟨24, _⟩ => ⟨S2x16384x1, .f32⟩
  | .hbm, ⟨25, _⟩ => ⟨S2x16384x1, .f32⟩
  | .hbm, ⟨26, _⟩ => ⟨S_, .f32⟩
  | .hbm, ⟨27, _⟩ => ⟨S2x16384x1, .f32⟩
  | .hbm, ⟨28, _⟩ => ⟨S2x16384x1, .f32⟩
  | .hbm, ⟨29, _⟩ => ⟨S2x16384x1, .f32⟩
  | .hbm, ⟨30, _⟩ => ⟨S2x16384x1024, .f32⟩
  | .hbm, ⟨31, _⟩ => ⟨S2x16384x1024, .f32⟩
  | .hbm, ⟨32, _⟩ => ⟨S1x1x1024, .f32⟩
  | .hbm, ⟨33, _⟩ => ⟨S2x16384x1024, .f32⟩
  | .hbm, ⟨34, _⟩ => ⟨S2x16384x1024, .f32⟩
  | .hbm, ⟨35, _⟩ => ⟨S_, .f32⟩
  | .hbm, ⟨36, _⟩ => ⟨S2x1x1024, .f32⟩
  | .hbm, ⟨37, _⟩ => ⟨S2x1x1024, .f32⟩
  | .hbm, ⟨38, _⟩ => ⟨S2x16384x1024, .f32⟩
  | .hbm, ⟨39, _⟩ => ⟨S2x16384x1024, .f32⟩
  | .hbm, ⟨40, _⟩ => ⟨S2x16384x1024, .f32⟩
  | .hbm, ⟨41, _⟩ => ⟨S2x16384x1024, .f32⟩
  | .hbm, ⟨42, _⟩ => ⟨S2x16384x16, .f32⟩
  | .hbm, ⟨43, _⟩ => ⟨S2x16384x16, .f32⟩
  | .hbm, ⟨44, _⟩ => ⟨S2x16384x16, .f32⟩
  | .hbm, ⟨45, _⟩ => ⟨S_, .f32⟩
  | .hbm, ⟨46, _⟩ => ⟨S2x16384x16, .f32⟩
  | .hbm, ⟨47, _⟩ => ⟨S2x16384x16, .f32⟩
  | .hbm, ⟨48, _⟩ => ⟨S_, .f32⟩
  | .hbm, ⟨49, _⟩ => ⟨S2x16384x16, .f32⟩
  | .hbm, ⟨50, _⟩ => ⟨S2x16384x16, .f32⟩
  | .hbm, ⟨51, _⟩ => ⟨S1x1x16, .f32⟩
  | .hbm, ⟨52, _⟩ => ⟨S2x16384x16, .f32⟩
  | .hbm, ⟨53, _⟩ => ⟨S2x16384x16, .f32⟩
  | .hbm, ⟨54, _⟩ => ⟨S2x16384x4x4, .f32⟩
  | .hbm, ⟨55, _⟩ => ⟨S2x16384x4x2, .f32⟩
  | .hbm, ⟨56, _⟩ => ⟨S2x16384x4x2, .i32⟩
  | .hbm, ⟨57, _⟩ => ⟨S_, .f32⟩
  | .hbm, ⟨58, _⟩ => ⟨S2x16384x4, .f32⟩
  | .hbm, ⟨59, _⟩ => ⟨S2x16384x1, .f32⟩
  | .hbm, ⟨60, _⟩ => ⟨S2x16384x1, .i32⟩
  | .hbm, ⟨61, _⟩ => ⟨S2x16384, .i32⟩
  | .hbm, ⟨62, _⟩ => ⟨S16, .i32⟩
  | .hbm, ⟨63, _⟩ => ⟨S_, .i32⟩
  | .hbm, ⟨64, _⟩ => ⟨S_, .i32⟩
  | .hbm, ⟨65, _⟩ => ⟨S16, .i32⟩
  | .hbm, ⟨66, _⟩ => ⟨S16, .i32⟩
  | .hbm, ⟨67, _⟩ => ⟨S16, .i32⟩
  | .hbm, ⟨68, _⟩ => ⟨S_, .i32⟩
  | .hbm, ⟨69, _⟩ => ⟨S16, .i32⟩
  | .hbm, ⟨70, _⟩ => ⟨S16, .i1⟩
  | .hbm, ⟨71, _⟩ => ⟨S16, .i32⟩
  | .hbm, ⟨72, _⟩ => ⟨S16, .i32⟩
  | .hbm, ⟨73, _⟩ => ⟨S_, .i32⟩
  | .hbm, ⟨74, _⟩ => ⟨S16, .i32⟩
  | .hbm, ⟨75, _⟩ => ⟨S16, .i1⟩
  | .hbm, ⟨76, _⟩ => ⟨S16, .i1⟩
  | .hbm, ⟨77, _⟩ => ⟨S_, .i32⟩
  | .hbm, ⟨78, _⟩ => ⟨S16, .i32⟩
  | .hbm, ⟨79, _⟩ => ⟨S16, .i32⟩
  | .hbm, ⟨80, _⟩ => ⟨S16, .i32⟩
  | .hbm, ⟨81, _⟩ => ⟨S2x16384x1, .i32⟩
  | .hbm, ⟨82, _⟩ => ⟨S1x1x16, .i32⟩
  | .hbm, ⟨83, _⟩ => ⟨S2x16384x16, .i32⟩
  | .hbm, ⟨84, _⟩ => ⟨S2x16384x16, .i32⟩
  | .hbm, ⟨85, _⟩ => ⟨S2x16384x16, .i1⟩
  | .hbm, ⟨86, _⟩ => ⟨S_, .f32⟩
  | .hbm, ⟨87, _⟩ => ⟨S_, .f32⟩
  | .hbm, ⟨88, _⟩ => ⟨S2x16384x16, .f32⟩
  | .hbm, ⟨89, _⟩ => ⟨S2x16384x16, .f32⟩
  | .hbm, ⟨90, _⟩ => ⟨S2x16384x2, .f32⟩
  | .hbm, ⟨91, _⟩ => ⟨S2x16384x2, .i32⟩
  | .hbm, ⟨92, _⟩ => ⟨S2x16384x2x1, .i32⟩
  | .hbm, ⟨93, _⟩ => ⟨S1x1x1x16, .i32⟩
  | .hbm, ⟨94, _⟩ => ⟨S2x16384x2x16, .i32⟩
  | .hbm, ⟨95, _⟩ => ⟨S2x16384x2x16, .i32⟩
  | .hbm, ⟨96, _⟩ => ⟨S2x16384x2x16, .i1⟩
  | .hbm, ⟨97, _⟩ => ⟨S2x16384x2x16, .f32⟩
  | .hbm, ⟨98, _⟩ => ⟨S_, .f32⟩
  | .hbm, ⟨99, _⟩ => ⟨S2x16384x16, .f32⟩
  | .hbm, ⟨100, _⟩ => ⟨S2x16384x16, .f32⟩
  | .hbm, ⟨101, _⟩ => ⟨S_, .i32⟩
  | .hbm, ⟨102, _⟩ => ⟨S_, .f32⟩
  | .hbm, ⟨103, _⟩ => ⟨S2x16384x128, .f32⟩
  | .hbm, ⟨104, _⟩ => ⟨S_, .f32⟩
  | .hbm, ⟨105, _⟩ => ⟨S2x16384, .f32⟩
  | .hbm, ⟨106, _⟩ => ⟨S2x16384x1, .f32⟩
  | .hbm, ⟨107, _⟩ => ⟨S2x16384x128, .f32⟩
  | .hbm, ⟨108, _⟩ => ⟨S2x16384x128, .f32⟩
  | .hbm, ⟨109, _⟩ => ⟨S32768x1024, .f32⟩
  | .hbm, ⟨110, _⟩ => ⟨S32768x1024, .f32⟩
  | .hbm, ⟨111, _⟩ => ⟨S32768x1024, .bf16⟩
  | .hbm, ⟨112, _⟩ => ⟨S32768x128, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_values : Ref sig .tc := ⟨.hbm, 55, rfl⟩
abbrev main_indices : Ref sig .tc := ⟨.hbm, 56, rfl⟩
abbrev main_cst_5 : Ref sig .tc := ⟨.hbm, 57, rfl⟩
abbrev main_v41 : Ref sig .tc := ⟨.hbm, 58, rfl⟩
abbrev main_values_6 : Ref sig .tc := ⟨.hbm, 59, rfl⟩
abbrev main_indices_7 : Ref sig .tc := ⟨.hbm, 60, rfl⟩
abbrev main_v42 : Ref sig .tc := ⟨.hbm, 61, rfl⟩
abbrev main_v43 : Ref sig .tc := ⟨.hbm, 62, rfl⟩
abbrev main_c : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_v5 : Ref sig .tc := ⟨.hbm, 69, rfl⟩
abbrev main_call0_v6 : Ref sig .tc := ⟨.hbm, 70, rfl⟩
abbrev main_call0_v7 : Ref sig .tc := ⟨.hbm, 71, rfl⟩
abbrev main_call0_v8 : Ref sig .tc := ⟨.hbm, 72, rfl⟩
abbrev main_call0_c : Ref sig .tc := ⟨.hbm, 73, rfl⟩
abbrev main_call0_v9 : Ref sig .tc := ⟨.hbm, 74, rfl⟩
abbrev main_call0_v10 : Ref sig .tc := ⟨.hbm, 75, rfl⟩
abbrev main_call0_v11 : Ref sig .tc := ⟨.hbm, 76, rfl⟩
abbrev main_call0_c_0 : Ref sig .tc := ⟨.hbm, 77, rfl⟩
abbrev main_call0_v12 : Ref sig .tc := ⟨.hbm, 78, rfl⟩
abbrev main_call0_v13 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_8 : Ref sig .tc := ⟨.hbm, 86, rfl⟩
abbrev main_call1_v0 : Ref sig .tc := ⟨.hbm, 87, rfl⟩
abbrev main_call1_v1 : Ref sig .tc := ⟨.hbm, 88, rfl⟩
abbrev main_v50 : Ref sig .tc := ⟨.hbm, 89, rfl⟩
abbrev main_values_9 : Ref sig .tc := ⟨.hbm, 90, rfl⟩
abbrev main_indices_10 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_v51 : Ref sig .tc := ⟨.hbm, 97, rfl⟩
abbrev main_cst_11 : Ref sig .tc := ⟨.hbm, 98, rfl⟩
abbrev main_v52 : Ref sig .tc := ⟨.hbm, 99, rfl⟩
abbrev main_v53 : Ref sig .tc := ⟨.hbm, 100, rfl⟩
abbrev main_c_12 : Ref sig .tc := ⟨.hbm, 101, rfl⟩
abbrev main_call3_v0 : Ref sig .tc := ⟨.hbm, 102, rfl⟩
abbrev main_v54 : Ref sig .tc := ⟨.hbm, 103, rfl⟩
abbrev main_cst_13 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩

abbrev nD : Nat := 1
abbrev τ : Topo := Topo.v7x

variable {F : FTy → Type} [FloatOps F]
-- ==== Att.lean ====
abbrev S32768x512 : Shape := ⟨2, ![32768, 512]⟩
abbrev S3x8x256x768 : Shape := ⟨4, ![3, 8, 256, 768]⟩
abbrev S256x512 : Shape := ⟨2, ![256, 512]⟩
abbrev S1x8x256x768 : Shape := ⟨4, ![1, 8, 256, 768]⟩
abbrev S256x128 : Shape := ⟨2, ![256, 128]⟩
abbrev S256x256 : Shape := ⟨2, ![256, 256]⟩
abbrev S1x1x256x256 : Shape := ⟨4, ![1, 1, 256, 256]⟩
abbrev S256 : Shape := ⟨1, ![256]⟩
abbrev S256x1 : Shape := ⟨2, ![256, 1]⟩

abbrev nBuf : Space → Nat
  | .hbm => 5
  | .vmem => 18
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S3x8x256x768, .bf16⟩
  | .hbm, ⟨4, _⟩ => ⟨S32768x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S1x8x256x768, .bf16⟩
  | .local _ .vmem, ⟨15, _⟩ => ⟨S1x8x256x768, .bf16⟩
  | .local _ .vmem, ⟨16, _⟩ => ⟨S256x512, .bf16⟩
  | .local _ .vmem, ⟨17, _⟩ => ⟨S256x512, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c64_i32_10 : BitVec 32 := 64#32
  let v27 : BitVec 32 := Scalar.muli v16 c64_i32_10
  let c1_i32_11 : BitVec 32 := 1#32
  let v28 : BitVec 32 := Scalar.subi v26 c1_i32_11
  let c0_i32_12 : BitVec 32 := 0#32
  let c61_i32 : BitVec 32 := 61#32
  let v29 : BitVec 32 := Scalar.maxsi c0_i32_12 v28
  let v30 : BitVec 32 := Scalar.minsi c61_i32 v29
  let v31 : BitVec 32 := Scalar.addi v27 v30
  let c0_i32_13 : BitVec 32 := 0#32
  let v32 : BitVec 32 := Scalar.addi v31 c0_i32_13
  let c0_i32_14 : BitVec 32 := 0#32
  let c0_i32_15 : BitVec 32 := 0#32
  ![v32.toNat, c0_i32_14.toNat]

def cc0_transform_2 (i : grid0.Coords) : Fin 2 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c64_i32_10 : BitVec 32 := 64#32
  let v27 : BitVec 32 := Scalar.muli v16 c64_i32_10
  let c1_i32_11 : BitVec 32 := 1#32
  let v28 : BitVec 32 := Scalar.subi v26 c1_i32_11
  let c0_i32_12 : BitVec 32 := 0#32
  let c61_i32 : BitVec 32 := 61#32
  let v29 : BitVec 32 := Scalar.maxsi c0_i32_12 v28
  let v30 : BitVec 32 := Scalar.minsi c61_i32 v29
  let v31 : BitVec 32 := Scalar.addi v27 v30
  let c1_i32_13 : BitVec 32 := 1#32
  let v32 : BitVec 32 := Scalar.addi v31 c1_i32_13
  let c0_i32_14 : BitVec 32 := 0#32
  let c0_i32_15 : BitVec 32 := 0#32
  ![v32.toNat, c0_i32_14.toNat]

def cc0_transform_3 (i : grid0.Coords) : Fin 2 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c64_i32_10 : BitVec 32 := 64#32
  let v27 : BitVec 32 := Scalar.muli v16 c64_i32_10
  let c1_i32_11 : BitVec 32 := 1#32
  let v28 : BitVec 32 := Scalar.subi v26 c1_i32_11
  let c0_i32_12 : BitVec 32 := 0#32
  let c61_i32 : BitVec 32 := 61#32
  let v29 : BitVec 32 := Scalar.maxsi c0_i32_12 v28
  let v30 : BitVec 32 := Scalar.minsi c61_i32 v29
  let v31 : BitVec 32 := Scalar.addi v27 v30
  let c2_i32 : BitVec 32 := 2#32
  let v32 : BitVec 32 := Scalar.addi v31 c2_i32
  let c0_i32_13 : BitVec 32 := 0#32
  let c0_i32_14 : BitVec 32 := 0#32
  ![v32.toNat, c0_i32_13.toNat]

def cc0_transform_4 (i : grid0.Coords) : Fin 2 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c64_i32_10 : BitVec 32 := 64#32
  let v27 : BitVec 32 := Scalar.muli v16 c64_i32_10
  let c1_i32_11 : BitVec 32 := 1#32
  let v28 : BitVec 32 := Scalar.subi v26 c1_i32_11
  let c0_i32_12 : BitVec 32 := 0#32
  let c61_i32 : BitVec 32 := 61#32
  let v29 : BitVec 32 := Scalar.maxsi c0_i32_12 v28
  let v30 : BitVec 32 := Scalar.minsi c61_i32 v29
  let v31 : BitVec 32 := Scalar.addi v27 v30
  let c0_i32_13 : BitVec 32 := 0#32
  let v32 : BitVec 32 := Scalar.addi v31 c0_i32_13
  let c0_i32_14 : BitVec 32 := 0#32
  let c0_i32_15 : BitVec 32 := 0#32
  ![v32.toNat, c0_i32_14.toNat]

def cc0_transform_5 (i : grid0.Coords) : Fin 2 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c64_i32_10 : BitVec 32 := 64#32
  let v27 : BitVec 32 := Scalar.muli v16 c64_i32_10
  let c1_i32_11 : BitVec 32 := 1#32
  let v28 : BitVec 32 := Scalar.subi v26 c1_i32_11
  let c0_i32_12 : BitVec 32 := 0#32
  let c61_i32 : BitVec 32 := 61#32
  let v29 : BitVec 32 := Scalar.maxsi c0_i32_12 v28
  let v30 : BitVec 32 := Scalar.minsi c61_i32 v29
  let v31 : BitVec 32 := Scalar.addi v27 v30
  let c1_i32_13 : BitVec 32 := 1#32
  let v32 : BitVec 32 := Scalar.addi v31 c1_i32_13
  let c0_i32_14 : BitVec 32 := 0#32
  let c0_i32_15 : BitVec 32 := 0#32
  ![v32.toNat, c0_i32_14.toNat]

def cc0_transform_6 (i : grid0.Coords) : Fin 2 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c64_i32_10 : BitVec 32 := 64#32
  let v27 : BitVec 32 := Scalar.muli v16 c64_i32_10
  let c1_i32_11 : BitVec 32 := 1#32
  let v28 : BitVec 32 := Scalar.subi v26 c1_i32_11
  let c0_i32_12 : BitVec 32 := 0#32
  let c61_i32 : BitVec 32 := 61#32
  let v29 : BitVec 32 := Scalar.maxsi c0_i32_12 v28
  let v30 : BitVec 32 := Scalar.minsi c61_i32 v29
  let v31 : BitVec 32 := Scalar.addi v27 v30
  let c2_i32 : BitVec 32 := 2#32
  let v32 : BitVec 32 := Scalar.addi v31 c2_i32
  let c0_i32_13 : BitVec 32 := 0#32
  let c0_i32_14 : BitVec 32 := 0#32
  ![v32.toNat, c0_i32_13.toNat]

def cc0_transform_7 (i : grid0.Coords) : Fin 4 → Nat :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c63_i32 : BitVec 32 := 63#32
  let v11 : BitVec 1 := Scalar.cmpi .eq v9 c63_i32
  let c2_i32 : BitVec 32 := 2#32
  let c1_i32_4 : BitVec 32 := 1#32
  let v12 : BitVec 32 := Scalar.select v11 c2_i32 c1_i32_4
  let c0_i32_5 : BitVec 32 := 0#32
  let v13 : BitVec 32 := Scalar.select v10 c0_i32_5 v12
  let c0_i32_6 : BitVec 32 := 0#32
  let c0_i32_7 : BitVec 32 := 0#32
  let c0_i32_8 : BitVec 32 := 0#32
  let c0_i32_9 : BitVec 32 := 0#32
  ![v13.toNat, c0_i32_6.toNat, c0_i32_7.toNat, c0_i32_8.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x256x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttRefIdeal.lean ====
abbrev S32768x512 : Shape := ⟨2, ![32768, 512]⟩
abbrev S3x8x256x768 : Shape := ⟨4, ![3, 8, 256, 768]⟩
abbrev S1x8x256x768 : Shape := ⟨4, ![1, 8, 256, 768]⟩
abbrev S62x8x256x768 : Shape := ⟨4, ![62, 8, 256, 768]⟩
abbrev S64x8x256x768 : Shape := ⟨4, ![64, 8, 256, 768]⟩
abbrev S2x64x256x8x64 : Shape := ⟨5, ![2, 64, 256, 8, 64]⟩
abbrev S2x1x256x8x64 : Shape := ⟨5, ![2, 1, 256, 8, 64]⟩
abbrev S2x62x256x8x64 : Shape := ⟨5, ![2, 62, 256, 8, 64]⟩
abbrev S2x64x768x8x64 : Shape := ⟨5, ![2, 64, 768, 8, 64]⟩
abbrev S2x64x8x256x768 : Shape := ⟨5, ![2, 64, 8, 256, 768]⟩
abbrev S1x64x8x256x768 : Shape := ⟨5, ![1, 64, 8, 256, 768]⟩
abbrev S_ : Shape := ⟨0, ![]⟩
abbrev S2x64x8x256 : Shape := ⟨4, ![2, 64, 8, 256]⟩
abbrev S2x64x8x256x1 : Shape := ⟨5, ![2, 64, 8, 256, 1]⟩
abbrev S2x64x8x64x256 : Shape := ⟨5, ![2, 64, 8, 64, 256]⟩

abbrev nBuf : Space → Nat
  | .hbm => 64
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S3x8x256x768, .bf16⟩
  | .hbm, ⟨4, _⟩ => ⟨S3x8x256x768, .f32⟩
  | .hbm, ⟨5, _⟩ => ⟨S1x8x256x768, .f32⟩
  | .hbm, ⟨6, _⟩ => ⟨S1x8x256x768, .f32⟩
  | .hbm, ⟨7, _⟩ => ⟨S62x8x256x768, .f32⟩
  | .hbm, ⟨8, _⟩ => ⟨S1x8x256x768, .f32⟩
  | .hbm, ⟨9, _⟩ => ⟨S64x8x256x768, .f32⟩
  | .hbm, ⟨10, _⟩ => ⟨S32768x512, .f32⟩
  | .hbm, ⟨11, _⟩ => ⟨S2x64x256x8x64, .f32⟩
  | .hbm, ⟨12, _⟩ => ⟨S32768x512, .f32⟩
  | .hbm, ⟨13, _⟩ => ⟨S2x64x256x8x64, .f32⟩
  | .hbm, ⟨14, _⟩ => ⟨S2x1x256x8x64, .f32⟩
  | .hbm, ⟨15, _⟩ => ⟨S2x62x256x8x64, .f32⟩
  | .hbm, ⟨16, _⟩ => ⟨S2x1x256x8x64, .f32⟩
  | .hbm, ⟨17, _⟩ => ⟨S2x64x256x8x64, .f32⟩
  | .hbm, ⟨18, _⟩ => ⟨S2x1x256x8x64, .f32⟩
  | .hbm, ⟨19, _⟩ => ⟨S2x62x256x8x64, .f32⟩
  | .hbm, ⟨20, _⟩ => ⟨S2x1x256x8x64, .f32⟩
  | .hbm, ⟨21, _⟩ => ⟨S2x64x256x8x64, .f32⟩
  | .hbm, ⟨22, _⟩ => ⟨S2x1x256x8x64, .f32⟩
  | .hbm, ⟨23, _⟩ => ⟨S2x62x256x8x64, .f32⟩
  | .hbm, ⟨24, _⟩ => ⟨S2x1x256x8x64, .f32⟩
  | .hbm, ⟨25, _⟩ => ⟨S2x64x256x8x64, .f32⟩
  | .hbm, ⟨26, _⟩ => ⟨S2x64x768x8x64, .f32⟩
  | .hbm, ⟨27, _⟩ => ⟨S2x64x8x256x768, .f32⟩
  | .hbm, ⟨28, _⟩ => ⟨S1x64x8x256x768, .f32⟩
  | .hbm, ⟨29, _⟩ => ⟨S2x64x8x256x768, .f32⟩
  | .hbm, ⟨30, _⟩ => ⟨S2x64x8x256x768, .f32⟩
  | .hbm, ⟨31, _⟩ => ⟨S_, .f32⟩
  | .hbm, ⟨32, _⟩ => ⟨S2x64x8x256, .f32⟩
  | .hbm, ⟨33, _⟩ => ⟨S_, .f32⟩
  | .hbm, ⟨34, _⟩ => ⟨S2x64x8x256, .f32⟩
  | .hbm, ⟨35, _⟩ => ⟨S2x64x8x256, .f32⟩
  | .hbm, ⟨36, _⟩ => ⟨S2x64x8x256x1, .f32⟩
  | .hbm, ⟨37, _⟩ => ⟨S2x64x8x256x768, .f32⟩
  | .hbm, ⟨38, _⟩ => ⟨S2x64x8x256x768, .f32⟩
  | .hbm, ⟨39, _⟩ => ⟨S2x64x8x256x768, .f32⟩
  | .hbm, ⟨40, _⟩ => ⟨S_, .f32⟩
  | .hbm, ⟨41, _⟩ => ⟨S2x64x8x256, .f32⟩
  | .hbm, ⟨42, _⟩ => ⟨S2x64x8x256x1, .f32⟩
  | .hbm, ⟨43, _⟩ => ⟨S2x64x8x256x768, .f32⟩
  | .hbm, ⟨44, _⟩ => ⟨S2x64x8x256x768, .f32⟩
  | .hbm, ⟨45, _⟩ => ⟨S32768x512, .f32⟩
  | .hbm, ⟨46, _⟩ => ⟨S2x64x256x8x64, .f32⟩
  | .hbm, ⟨47, _⟩ => ⟨S2x1x256x8x64, .f32⟩
  | .hbm, ⟨48, _⟩ => ⟨S2x62x256x8x64, .f32⟩
  | .hbm, ⟨49, _⟩ => ⟨S2x1x256x8x64, .f32⟩
  | .hbm, ⟨50, _⟩ => ⟨S2x64x256x8x64, .f32⟩
  | .hbm, ⟨51, _⟩ => ⟨S2x1x256x8x64, .f32⟩
  | .hbm, ⟨52, _⟩ => ⟨S2x62x256x8x64, .f32⟩
  | .hbm, ⟨53, _⟩ => ⟨S2x1x256x8x64, .f32⟩
  | .hbm, ⟨54, _⟩ => ⟨S2x64x256x8x64, .f32⟩
  | .hbm, ⟨55, _⟩ => ⟨S2x1x256x8x64, .f32⟩
  | .hbm, ⟨56, _⟩ => ⟨S2x62x256x8x64, .f32⟩
  | .hbm, ⟨57, _⟩ => ⟨S2x1x256x8x64, .f32⟩
  | .hbm, ⟨58, _⟩ => ⟨S2x64x256x8x64, .f32⟩
  | .hbm, ⟨59, _⟩ => ⟨S2x64x768x8x64, .f32⟩
  | .hbm, ⟨60, _⟩ => ⟨S2x64x8x64x256, .f32⟩
  | .hbm, ⟨61, _⟩ => ⟨S2x64x256x8x64, .f32⟩
  | .hbm, ⟨62, _⟩ => ⟨S32768x512, .f32⟩
  | .hbm, ⟨63, _⟩ => ⟨S32768x512, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst : Ref sig .tc := ⟨.hbm, 31, rfl⟩
abbrev main_v27 : Ref sig .tc := ⟨.hbm, 32, rfl⟩
abbrev main_cst_0 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_1 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩

abbrev nD : Nat := 1
abbrev τ : Topo := Topo.v7x

variable {F : FTy → Type} [FloatOps F]
-- ==== Dft.lean ====
abbrev S2x128x65536 : Shape := ⟨3, ![2, 128, 65536]⟩
abbrev S256 : Shape := ⟨1, ![256]⟩
abbrev S256x1 : Shape := ⟨2, ![256, 1]⟩
abbrev S128 : Shape := ⟨1, ![128]⟩
abbrev S1x128 : Shape := ⟨2, ![1, 128]⟩
abbrev S_ : Shape := ⟨0, ![]⟩
abbrev S256x128 : Shape := ⟨2, ![256, 128]⟩
abbrev S512x128 : Shape := ⟨2, ![512, 128]⟩
abbrev S128x256 : Shape := ⟨2, ![128, 256]⟩
abbrev S128x512 : Shape := ⟨2, ![128, 512]⟩
abbrev S2x512x65536 : Shape := ⟨3, ![2, 512, 65536]⟩
abbrev S1x128x2048 : Shape := ⟨3, ![1, 128, 2048]⟩
abbrev S1x512x2048 : Shape := ⟨3, ![1, 512, 2048]⟩
abbrev S128x2048 : Shape := ⟨2, ![128, 2048]⟩
abbrev S512x2048 : Shape := ⟨2, ![512, 2048]⟩

abbrev nBuf : Space → Nat
  | .hbm => 29
  | .vmem => 5
  | .smem => 0
  | _ => 0

abbrev bufTy : (tb : Table) → Fin (tcTables nBuf tb) → BufTy
  | .hbm, ⟨0, _⟩ => ⟨S2x128x65536, .bf16⟩
  | .hbm, ⟨1, _⟩ => ⟨S256, .i32⟩
  | .hbm, ⟨2, _⟩ => ⟨S256x1, .i32⟩
  | .hbm, ⟨3, _⟩ => ⟨S256x1, .f32⟩
  | .hbm, ⟨4, _⟩ => ⟨S128, .i32⟩
  | .hbm, ⟨5, _⟩ => ⟨S1x128, .i32⟩
  | .hbm, ⟨6, _⟩ => ⟨S1x128, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S256x128, .f32⟩
  | .hbm, ⟨11, _⟩ => ⟨S256x128, .f32⟩
  | .hbm, ⟨12, _⟩ => ⟨S256x128, .f32⟩
  | .hbm, ⟨13, _⟩ => ⟨S_, .f32⟩
  | .hbm, ⟨14, _⟩ => ⟨S256x128, .f32⟩
  | .hbm, ⟨15, _⟩ => ⟨S256x128, .f32⟩
  | .hbm, ⟨16, _⟩ => ⟨S256x128, .f32⟩
  | .hbm, ⟨17, _⟩ => ⟨S256x128, .f32⟩
  | .hbm, ⟨18, _⟩ => ⟨S256x128, .f32⟩
  | .hbm, ⟨19, _⟩ => ⟨S512x128, .f32⟩
  | .hbm, ⟨20, _⟩ => ⟨S256x128, .f32⟩
  | .hbm, ⟨21, _⟩ => ⟨S128x256, .f32⟩
  | .hbm, ⟨22, _⟩ => ⟨S256x128, .f32⟩
  | .hbm, ⟨23, _⟩ => ⟨S128x256, .f32⟩
  | .hbm, ⟨24, _⟩ => ⟨S128x256, .f32⟩
  | .hbm, ⟨25, _⟩ => ⟨S128x512, .f32⟩
  | .hbm, ⟨26, _⟩ => ⟨S512x128, .bf16⟩
  | .hbm, ⟨27, _⟩ => ⟨S128x512, .bf16⟩
  | .hbm, ⟨28, _⟩ => ⟨S2x512x65536, .bf16⟩
  | .local _ .vmem, ⟨0, _⟩ => ⟨S1x128x2048, .bf16⟩
  | .local _ .vmem, ⟨1, _⟩ => ⟨S1x128x2048, .bf16⟩
  | .local _ .vmem, ⟨2, _⟩ => ⟨S512x128, .bf16⟩
  | .local _ .vmem, ⟨3, _⟩ => ⟨S1x512x2048, .bf16⟩
  | .local _ .vmem, ⟨4, _⟩ => ⟨S1x512x2048, .bf16⟩
  | _, _ => ⟨S2x128x65536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DftRefIdeal.lean ====
abbrev S2x128x65536 : Shape := ⟨3, ![2, 128, 65536]⟩
abbrev S256 : Shape := ⟨1, ![256]⟩
abbrev S128 : Shape := ⟨1, ![128]⟩
abbrev S256x1 : Shape := ⟨2, ![256, 1]⟩
abbrev S_ : Shape := ⟨0, ![]⟩
abbrev S1x128 : Shape := ⟨2, ![1, 128]⟩
abbrev S256x128 : Shape := ⟨2, ![256, 128]⟩
abbrev S2x65536x256 : Shape := ⟨3, ![2, 65536, 256]⟩
abbrev S2x256x65536 : Shape := ⟨3, ![2, 256, 65536]⟩
abbrev S2x512x65536 : Shape := ⟨3, ![2, 512, 65536]⟩

abbrev nBuf : Space → Nat
  | .hbm => 24
  | .vmem => 0
  | .smem => 0
  | _ => 0

abbrev bufTy : (tb : Table) → Fin (tcTables nBuf tb) → BufTy
  | .hbm, ⟨0, _⟩ => ⟨S2x128x65536, .bf16⟩
  | .hbm, ⟨1, _⟩ => ⟨S256, .f32⟩
  | .hbm, ⟨2, _⟩ => ⟨S128, .f32⟩
  | .hbm, ⟨3, _⟩ => ⟨S256x1, .f32⟩
  | .hbm, ⟨4, _⟩ => ⟨S_, .f32⟩
  | .hbm, ⟨5, _⟩ => ⟨S256x1, .f32⟩
  | .hbm, ⟨6, _⟩ => ⟨S256x1, .f32⟩
  | .hbm, ⟨7, _⟩ => ⟨S1x128, .f32⟩
  | .hbm, ⟨8, _⟩ => ⟨S256x128, .f32⟩
  | .hbm, ⟨9, _⟩ => ⟨S256x128, .f32⟩
  | .hbm, ⟨10, _⟩ => ⟨S256x128, .f32⟩
  | .hbm, ⟨11, _⟩ => ⟨S_, .f32⟩
  | .hbm, ⟨12, _⟩ => ⟨S256x128, .f32⟩
  | .hbm, ⟨13, _⟩ => ⟨S256x128, .f32⟩
  | .hbm, ⟨14, _⟩ => ⟨S2x128x65536, .f32⟩
  | .hbm, ⟨15, _⟩ => ⟨S256x128, .f32⟩
  | .hbm, ⟨16, _⟩ => ⟨S2x65536x256, .f32⟩
  | .hbm, ⟨17, _⟩ => ⟨S2x256x65536, .f32⟩
  | .hbm, ⟨18, _⟩ => ⟨S256x128, .f32⟩
  | .hbm, ⟨19, _⟩ => ⟨S256x128, .f32⟩
  | .hbm, ⟨20, _⟩ => ⟨S2x65536x256, .f32⟩
  | .hbm, ⟨21, _⟩ => ⟨S2x256x65536, .f32⟩
  | .hbm, ⟨22, _⟩ => ⟨S2x512x65536, .f32⟩
  | .hbm, ⟨23, _⟩ => ⟨S2x512x65536, .bf16⟩
  | _, _ => ⟨S2x128x65536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]
-- ==== Inv.lean ====
abbrev S2x512x65536 : Shape := ⟨3, ![2, 512, 65536]⟩
abbrev S2x128x65536 : Shape := ⟨3, ![2, 128, 65536]⟩
abbrev S512 : Shape := ⟨1, ![512]⟩
abbrev S256 : Shape := ⟨1, ![256]⟩
abbrev S256x1 : Shape := ⟨2, ![256, 1]⟩
abbrev S128 : Shape := ⟨1, ![128]⟩
abbrev S1x128 : Shape := ⟨2, ![1, 128]⟩
abbrev S_ : Shape := ⟨0, ![]⟩
abbrev S256x128 : Shape := ⟨2, ![256, 128]⟩
abbrev S512x128 : Shape := ⟨2, ![512, 128]⟩
abbrev S128x256 : Shape := ⟨2, ![128, 256]⟩
abbrev S128x512 : Shape := ⟨2, ![128, 512]⟩
abbrev S1x512 : Shape := ⟨2, ![1, 512]⟩
abbrev S65536 : Shape := ⟨1, ![65536]⟩
abbrev S1x65536 : Shape := ⟨2, ![1, 65536]⟩
abbrev S1x512x2048 : Shape := ⟨3, ![1, 512, 2048]⟩
abbrev S1x128x2048 : Shape := ⟨3, ![1, 128, 2048]⟩
abbrev S1x2048 : Shape := ⟨2, ![1, 2048]⟩
abbrev S512x2048 : Shape := ⟨2, ![512, 2048]⟩
abbrev S128x2048 : Shape := ⟨2, ![128, 2048]⟩

abbrev nBuf : Space → Nat
  | .hbm => 37
  | .vmem => 14
  | .smem => 0
  | _ => 0

abbrev bufTy : (tb : Table) → Fin (tcTables nBuf tb) → BufTy
  | .hbm, ⟨0, _⟩ => ⟨S2x512x65536, .bf16⟩
  | .hbm, ⟨1, _⟩ => ⟨S2x128x65536, .bf16⟩
  | .hbm, ⟨2, _⟩ => ⟨S2x128x65536, .bf16⟩
  | .hbm, ⟨3, _⟩ => ⟨S512, .f32⟩
  | .hbm, ⟨4, _⟩ => ⟨S256, .i32⟩
  | .hbm, ⟨5, _⟩ => ⟨S256x1, .i32⟩
  | .hbm, ⟨6, _⟩ => ⟨S256x1, .f32⟩
  | .hbm, ⟨7, _⟩ => ⟨S128, .i32⟩
  | .hbm, ⟨8, _⟩ => ⟨S1x128, .i32⟩
  | .hbm, ⟨9, _⟩ => ⟨S1x128, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x128, .f32⟩
  | .hbm, ⟨14, _⟩ => ⟨S256x128, .f32⟩
  | .hbm, ⟨15, _⟩ => ⟨S256x128, .f32⟩
  | .hbm, ⟨16, _⟩ => ⟨S_, .f32⟩
  | .hbm, ⟨17, _⟩ => ⟨S256x128, .f32⟩
  | .hbm, ⟨18, _⟩ => ⟨S256x128, .f32⟩
  | .hbm, ⟨19, _⟩ => ⟨S256x128, .f32⟩
  | .hbm, ⟨20, _⟩ => ⟨S256x128, .f32⟩
  | .hbm, ⟨21, _⟩ => ⟨S256x128, .f32⟩
  | .hbm, ⟨22, _⟩ => ⟨S512x128, .f32⟩
  | .hbm, ⟨23, _⟩ => ⟨S256x128, .f32⟩
  | .hbm, ⟨24, _⟩ => ⟨S128x256, .f32⟩
  | .hbm, ⟨25, _⟩ => ⟨S256x128, .f32⟩
  | .hbm, ⟨26, _⟩ => ⟨S128x256, .f32⟩
  | .hbm, ⟨27, _⟩ => ⟨S128x256, .f32⟩
  | .hbm, ⟨28, _⟩ => ⟨S128x512, .f32⟩
  | .hbm, ⟨29, _⟩ => ⟨S512x128, .bf16⟩
  | .hbm, ⟨30, _⟩ => ⟨S128x512, .bf16⟩
  | .hbm, ⟨31, _⟩ => ⟨S1x512, .f32⟩
  | .hbm, ⟨32, _⟩ => ⟨S128x512, .f32⟩
  | .hbm, ⟨33, _⟩ => ⟨S65536, .f32⟩
  | .hbm, ⟨34, _⟩ => ⟨S1x65536, .f32⟩
  | .hbm, ⟨35, _⟩ => ⟨S2x128x65536, .bf16⟩
  | .hbm, ⟨36, _⟩ => ⟨S2x512x65536, .bf16⟩
  | .local _ .vmem, ⟨0, _⟩ => ⟨S1x512x2048, .bf16⟩
  | .local _ .vmem, ⟨1, _⟩ => ⟨S1x512x2048, .bf16⟩
  | .local _ .vmem, ⟨2, _⟩ => ⟨S128x512, .bf16⟩
  | .local _ .vmem, ⟨3, _⟩ => ⟨S1x128x2048, .bf16⟩
  | .local _ .vmem, ⟨4, _⟩ => ⟨S1x128x2048, .bf16⟩
  | .local _ .vmem, ⟨5, _⟩ => ⟨S1x128x2048, .bf16⟩
  | .local _ .vmem, ⟨6, _⟩ => ⟨S1x128x2048, .bf16⟩
  | .local _ .vmem, ⟨7, _⟩ => ⟨S1x2048, .f32⟩
  | .local _ .vmem, ⟨8, _⟩ => ⟨S1x2048, .f32⟩
  | .local _ .vmem, ⟨9, _⟩ => ⟨S512x128, .bf16⟩
  | .local _ .vmem, ⟨10, _⟩ => ⟨S1x128x2048, .bf16⟩
  | .local _ .vmem, ⟨11, _⟩ => ⟨S1x128x2048, .bf16⟩
  | .local _ .vmem, ⟨12, _⟩ => ⟨S1x512x2048, .bf16⟩
  | .local _ .vmem, ⟨13, _⟩ => ⟨S1x512x2048, .bf16⟩
  | _, _ => ⟨S2x512x65536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29_0 : Ref sig .tc := ⟨.hbm, 35, rfl⟩
abbrev main_v29_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== InvRefIdeal.lean ====
abbrev S2x512x65536 : Shape := ⟨3, ![2, 512, 65536]⟩
abbrev S2x128x65536 : Shape := ⟨3, ![2, 128, 65536]⟩
abbrev S512 : Shape := ⟨1, ![512]⟩
abbrev S256 : Shape := ⟨1, ![256]⟩
abbrev S128 : Shape := ⟨1, ![128]⟩
abbrev S256x1 : Shape := ⟨2, ![256, 1]⟩
abbrev S_ : Shape := ⟨0, ![]⟩
abbrev S1x128 : Shape := ⟨2, ![1, 128]⟩
abbrev S256x128 : Shape := ⟨2, ![256, 128]⟩
abbrev S2x256x65536 : Shape := ⟨3, ![2, 256, 65536]⟩
abbrev S2x65536x128 : Shape := ⟨3, ![2, 65536, 128]⟩
abbrev S1x512 : Shape := ⟨2, ![1, 512]⟩
abbrev S128x512 : Shape := ⟨2, ![128, 512]⟩
abbrev S65536 : Shape := ⟨1, ![65536]⟩
abbrev S1x1x65536 : Shape := ⟨3, ![1, 1, 65536]⟩
abbrev S2x65536x256 : Shape := ⟨3, ![2, 65536, 256]⟩

abbrev nBuf : Space → Nat
  | .hbm => 48
  | .vmem => 0
  | .smem => 0
  | _ => 0

abbrev bufTy : (tb : Table) → Fin (tcTables nBuf tb) → BufTy
  | .hbm, ⟨0, _⟩ => ⟨S2x512x65536, .bf16⟩
  | .hbm, ⟨1, _⟩ => ⟨S2x128x65536, .bf16⟩
  | .hbm, ⟨2, _⟩ => ⟨S2x128x65536, .bf16⟩
  | .hbm, ⟨3, _⟩ => ⟨S512, .f32⟩
  | .hbm, ⟨4, _⟩ => ⟨S256, .f32⟩
  | .hbm, ⟨5, _⟩ => ⟨S128, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S1x128, .f32⟩
  | .hbm, ⟨11, _⟩ => ⟨S256x128, .f32⟩
  | .hbm, ⟨12, _⟩ => ⟨S256x128, .f32⟩
  | .hbm, ⟨13, _⟩ => ⟨S256x128, .f32⟩
  | .hbm, ⟨14, _⟩ => ⟨S_, .f32⟩
  | .hbm, ⟨15, _⟩ => ⟨S256x128, .f32⟩
  | .hbm, ⟨16, _⟩ => ⟨S256x128, .f32⟩
  | .hbm, ⟨17, _⟩ => ⟨S256x128, .f32⟩
  | .hbm, ⟨18, _⟩ => ⟨S256x128, .f32⟩
  | .hbm, ⟨19, _⟩ => ⟨S256x128, .f32⟩
  | .hbm, ⟨20, _⟩ => ⟨S2x512x65536, .f32⟩
  | .hbm, ⟨21, _⟩ => ⟨S2x256x65536, .f32⟩
  | .hbm, ⟨22, _⟩ => ⟨S2x65536x128, .f32⟩
  | .hbm, ⟨23, _⟩ => ⟨S2x128x65536, .f32⟩
  | .hbm, ⟨24, _⟩ => ⟨S2x256x65536, .f32⟩
  | .hbm, ⟨25, _⟩ => ⟨S2x65536x128, .f32⟩
  | .hbm, ⟨26, _⟩ => ⟨S2x128x65536, .f32⟩
  | .hbm, ⟨27, _⟩ => ⟨S2x128x65536, .f32⟩
  | .hbm, ⟨28, _⟩ => ⟨S_, .f32⟩
  | .hbm, ⟨29, _⟩ => ⟨S2x128x65536, .f32⟩
  | .hbm, ⟨30, _⟩ => ⟨S2x128x65536, .f32⟩
  | .hbm, ⟨31, _⟩ => ⟨S1x512, .f32⟩
  | .hbm, ⟨32, _⟩ => ⟨S128x512, .f32⟩
  | .hbm, ⟨33, _⟩ => ⟨S65536, .f32⟩
  | .hbm, ⟨34, _⟩ => ⟨S2x128x65536, .f32⟩
  | .hbm, ⟨35, _⟩ => ⟨S2x128x65536, .f32⟩
  | .hbm, ⟨36, _⟩ => ⟨S1x1x65536, .f32⟩
  | .hbm, ⟨37, _⟩ => ⟨S2x128x65536, .f32⟩
  | .hbm, ⟨38, _⟩ => ⟨S2x128x65536, .f32⟩
  | .hbm, ⟨39, _⟩ => ⟨S2x128x65536, .f32⟩
  | .hbm, ⟨40, _⟩ => ⟨S2x128x65536, .f32⟩
  | .hbm, ⟨41, _⟩ => ⟨S2x65536x256, .f32⟩
  | .hbm, ⟨42, _⟩ => ⟨S2x256x65536, .f32⟩
  | .hbm, ⟨43, _⟩ => ⟨S2x65536x256, .f32⟩
  | .hbm, ⟨44, _⟩ => ⟨S2x256x65536, .f32⟩
  | .hbm, ⟨45, _⟩ => ⟨S2x512x65536, .f32⟩
  | .hbm, ⟨46, _⟩ => ⟨S2x128x65536, .bf16⟩
  | .hbm, ⟨47, _⟩ => ⟨S2x512x65536, .bf16⟩
  | _, _ => ⟨S2x512x65536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩

abbrev nD : Nat := 1
abbrev τ : Topo := Topo.v7x

variable {F : FTy → Type} [FloatOps F]
-- ==== Fil.lean ====
abbrev S1x2x256x128x1024 : Shape := ⟨5, ![1, 2, 256, 128, 1024]⟩
abbrev S256 : Shape := ⟨1, ![256]⟩
abbrev S256x1x1 : Shape := ⟨3, ![256, 1, 1]⟩
abbrev S128 : Shape := ⟨1, ![128]⟩
abbrev S1x128x1 : Shape := ⟨3, ![1, 128, 1]⟩
abbrev S_ : Shape := ⟨0, ![]⟩
abbrev S256x128x1 : Shape := ⟨3, ![256, 128, 1]⟩
abbrev S1x1x128 : Shape := ⟨3, ![1, 1, 128]⟩
abbrev S256x128x128 : Shape := ⟨3, ![256, 128, 128]⟩
abbrev S256x128x256 : Shape := ⟨3, ![256, 128, 256]⟩
abbrev S256x256x256 : Shape := ⟨3, ![256, 256, 256]⟩
abbrev S256x128x1024 : Shape := ⟨3, ![256, 128, 1024]⟩
abbrev S1x2x4x128x1024 : Shape := ⟨5, ![1, 2, 4, 128, 1024]⟩
abbrev S4x256x256 : Shape := ⟨3, ![4, 256, 256]⟩
abbrev S4x128x1024 : Shape := ⟨3, ![4, 128, 1024]⟩
abbrev S1x1x1x128x1024 : Shape := ⟨5, ![1, 1, 1, 128, 1024]⟩
abbrev S128x1024 : Shape := ⟨2, ![128, 1024]⟩
abbrev S256x1024 : Shape := ⟨2, ![256, 1024]⟩
abbrev S1x256x256 : Shape := ⟨3, ![1, 256, 256]⟩
abbrev S256x256 : Shape := ⟨2, ![256, 256]⟩
abbrev S1x128x1024 : Shape := ⟨3, ![1, 128, 1024]⟩

abbrev nBuf : Space → Nat
  | .hbm => 44
  | .vmem => 8
  | .smem => 0
  | _ => 0

abbrev bufTy : (tb : Table) → Fin (tcTables nBuf tb) → BufTy
  | .hbm, ⟨0, _⟩ => ⟨S1x2x256x128x1024, .bf16⟩
  | .hbm, ⟨1, _⟩ => ⟨S256, .i32⟩
  | .hbm, ⟨2, _⟩ => ⟨S256x1x1, .i32⟩
  | .hbm, ⟨3, _⟩ => ⟨S128, .i32⟩
  | .hbm, ⟨4, _⟩ => ⟨S1x128x1, .i32⟩
  | .hbm, ⟨5, _⟩ => ⟨S_, .i32⟩
  | .hbm, ⟨6, _⟩ => ⟨S1x128x1, .i32⟩
  | .hbm, ⟨7, _⟩ => ⟨S1x128x1, .i32⟩
  | .hbm, ⟨8, _⟩ => ⟨S256x128x1, .i32⟩
  | .hbm, ⟨9, _⟩ => ⟨S256x128x1, .i32⟩
  | .hbm, ⟨10, _⟩ => ⟨S256x128x1, .i32⟩
  | .hbm, ⟨11, _⟩ => ⟨S128, .i32⟩
  | .hbm, ⟨12, _⟩ => ⟨S1x1x128, .i32⟩
  | .hbm, ⟨13, _⟩ => ⟨S256x128x128, .i32⟩
  | .hbm, ⟨14, _⟩ => ⟨S256x128x128, .i32⟩
  | .hbm, ⟨15, _⟩ => ⟨S256x128x128, .i32⟩
  | .hbm, ⟨16, _⟩ => ⟨S_, .i32⟩
  | .hbm, ⟨17, _⟩ => ⟨S256x128x128, .i32⟩
  | .hbm, ⟨18, _⟩ => ⟨S256x128x128, .i32⟩
  | .hbm, ⟨19, _⟩ => ⟨S256x128x128, .f32⟩
  | .hbm, ⟨20, _⟩ => ⟨S_, .f32⟩
  | .hbm, ⟨21, _⟩ => ⟨S256x128x128, .f32⟩
  | .hbm, ⟨22, _⟩ => ⟨S256x128x128, .f32⟩
  | .hbm, ⟨23, _⟩ => ⟨S_, .f32⟩
  | .hbm, ⟨24, _⟩ => ⟨S256x128x128, .f32⟩
  | .hbm, ⟨25, _⟩ => ⟨S256x128x128, .f32⟩
  | .hbm, ⟨26, _⟩ => ⟨S256x128x128, .f32⟩
  | .hbm, ⟨27, _⟩ => ⟨S256x128x128, .f32⟩
  | .hbm, ⟨28, _⟩ => ⟨S256x128x128, .f32⟩
  | .hbm, ⟨29, _⟩ => ⟨S256x128x128, .f32⟩
  | .hbm, ⟨30, _⟩ => ⟨S256x128x256, .f32⟩
  | .hbm, ⟨31, _⟩ => ⟨S256x128x256, .f32⟩
  | .hbm, ⟨32, _⟩ => ⟨S256x256x256, .f32⟩
  | .hbm, ⟨33, _⟩ => ⟨S256x128x128, .f32⟩
  | .hbm, ⟨34, _⟩ => ⟨S256x128x128, .f32⟩
  | .hbm, ⟨35, _⟩ => ⟨S256x128x128, .f32⟩
  | .hbm, ⟨36, _⟩ => ⟨S256x128x128, .f32⟩
  | .hbm, ⟨37, _⟩ => ⟨S256x128x256, .f32⟩
  | .hbm, ⟨38, _⟩ => ⟨S256x128x256, .f32⟩
  | .hbm, ⟨39, _⟩ => ⟨S256x256x256, .f32⟩
  | .hbm, ⟨40, _⟩ => ⟨S256x256x256, .bf16⟩
  | .hbm, ⟨41, _⟩ => ⟨S256x256x256, .bf16⟩
  | .hbm, ⟨42, _⟩ => ⟨S256x128x1024, .f32⟩
  | .hbm, ⟨43, _⟩ => ⟨S256x128x1024, .f32⟩
  | .local _ .vmem, ⟨0, _⟩ => ⟨S1x2x4x128x1024, .bf16⟩
  | .local _ .vmem, ⟨1, _⟩ => ⟨S1x2x4x128x1024, .bf16⟩
  | .local _ .vmem, ⟨2, _⟩ => ⟨S4x256x256, .bf16⟩
  | .local _ .vmem, ⟨3, _⟩ => ⟨S4x256x256, .bf16⟩
  | .local _ .vmem, ⟨4, _⟩ => ⟨S4x128x1024, .f32⟩
  | .local _ .vmem, ⟨5, _⟩ => ⟨S4x128x1024, .f32⟩
  | .local _ .vmem, ⟨6, _⟩ => ⟨S4x128x1024, .f32⟩
  | .local _ .vmem, ⟨7, _⟩ => ⟨S4x128x1024, .f32⟩
  | _, _ => ⟨S1x2x256x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c_0 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37_0 : Ref sig .tc := ⟨.hbm, 42, rfl⟩
abbrev main_v37_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FilRefIdeal.lean ====
abbrev S1x2x256x128x1024 : Shape := ⟨5, ![1, 2, 256, 128, 1024]⟩
abbrev S256 : Shape := ⟨1, ![256]⟩
abbrev S256x1x1 : Shape := ⟨3, ![256, 1, 1]⟩
abbrev S128 : Shape := ⟨1, ![128]⟩
abbrev S1x128x1 : Shape := ⟨3, ![1, 128, 1]⟩
abbrev S_ : Shape := ⟨0, ![]⟩
abbrev S256x128x1 : Shape := ⟨3, ![256, 128, 1]⟩
abbrev S1x1x128 : Shape := ⟨3, ![1, 1, 128]⟩
abbrev S256x128x128 : Shape := ⟨3, ![256, 128, 128]⟩
abbrev S1x1x256x128x1024 : Shape := ⟨5, ![1, 1, 256, 128, 1024]⟩
abbrev S256x128x1024 : Shape := ⟨3, ![256, 128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x2x256x128x1024, .bf16⟩
  | .hbm, ⟨1, _⟩ => ⟨S256, .i32⟩
  | .hbm, ⟨2, _⟩ => ⟨S256x1x1, .i32⟩
  | .hbm, ⟨3, _⟩ => ⟨S128, .i32⟩
  | .hbm, ⟨4, _⟩ => ⟨S1x128x1, .i32⟩
  | .hbm, ⟨5, _⟩ => ⟨S_, .i32⟩
  | .hbm, ⟨6, _⟩ => ⟨S1x128x1, .i32⟩
  | .hbm, ⟨7, _⟩ => ⟨S1x128x1, .i32⟩
  | .hbm, ⟨8, _⟩ => ⟨S256x128x1, .i32⟩
  | .hbm, ⟨9, _⟩ => ⟨S256x128x1, .i32⟩
  | .hbm, ⟨10, _⟩ => ⟨S256x128x1, .i32⟩
  | .hbm, ⟨11, _⟩ => ⟨S128, .i32⟩
  | .hbm, ⟨12, _⟩ => ⟨S1x1x128, .i32⟩
  | .hbm, ⟨13, _⟩ => ⟨S256x128x128, .i32⟩
  | .hbm, ⟨14, _⟩ => ⟨S256x128x128, .i32⟩
  | .hbm, ⟨15, _⟩ => ⟨S256x128x128, .i32⟩
  | .hbm, ⟨16, _⟩ => ⟨S_, .i32⟩
  | .hbm, ⟨17, _⟩ => ⟨S256x128x128, .i32⟩
  | .hbm, ⟨18, _⟩ => ⟨S256x128x128, .i32⟩
  | .hbm, ⟨19, _⟩ => ⟨S256x128x128, .f32⟩
  | .hbm, ⟨20, _⟩ => ⟨S_, .f32⟩
  | .hbm, ⟨21, _⟩ => ⟨S256x128x128, .f32⟩
  | .hbm, ⟨22, _⟩ => ⟨S256x128x128, .f32⟩
  | .hbm, ⟨23, _⟩ => ⟨S_, .f32⟩
  | .hbm, ⟨24, _⟩ => ⟨S256x128x128, .f32⟩
  | .hbm, ⟨25, _⟩ => ⟨S256x128x128, .f32⟩
  | .hbm, ⟨26, _⟩ => ⟨S256x128x128, .f32⟩
  | .hbm, ⟨27, _⟩ => ⟨S256x128x128, .f32⟩
  | .hbm, ⟨28, _⟩ => ⟨S1x1x256x128x1024, .bf16⟩
  | .hbm, ⟨29, _⟩ => ⟨S256x128x1024, .bf16⟩
  | .hbm, ⟨30, _⟩ => ⟨S256x128x1024, .f32⟩
  | .hbm, ⟨31, _⟩ => ⟨S1x1x256x128x1024, .bf16⟩
  | .hbm, ⟨32, _⟩ => ⟨S256x128x1024, .bf16⟩
  | .hbm, ⟨33, _⟩ => ⟨S256x128x1024, .f32⟩
  | .hbm, ⟨34, _⟩ => ⟨S256x128x1024, .f32⟩
  | .hbm, ⟨35, _⟩ => ⟨S256x128x1024, .f32⟩
  | .hbm, ⟨36, _⟩ => ⟨S256x128x1024, .f32⟩
  | .hbm, ⟨37, _⟩ => ⟨S256x128x128, .f32⟩
  | .hbm, ⟨38, _⟩ => ⟨S256x128x1024, .f32⟩
  | .hbm, ⟨39, _⟩ => ⟨S256x128x1024, .f32⟩
  | .hbm, ⟨40, _⟩ => ⟨S256x128x1024, .f32⟩
  | _, _ => ⟨S1x2x256x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c_0 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩

abbrev nD : Nat := 1
abbrev τ : Topo := Topo.v7x

variable {F : FTy → Type} [FloatOps F]
-- ==== Mid.lean ====
abbrev S2x2x256x128x512 : Shape := ⟨5, ![2, 2, 256, 128, 512]⟩
abbrev S256x128x1024 : Shape := ⟨3, ![256, 128, 1024]⟩
abbrev S256 : Shape := ⟨1, ![256]⟩
abbrev S256x1x1 : Shape := ⟨3, ![256, 1, 1]⟩
abbrev S128 : Shape := ⟨1, ![128]⟩
abbrev S1x128x1 : Shape := ⟨3, ![1, 128, 1]⟩
abbrev S_ : Shape := ⟨0, ![]⟩
abbrev S256x128x1 : Shape := ⟨3, ![256, 128, 1]⟩
abbrev S1x1x128 : Shape := ⟨3, ![1, 1, 128]⟩
abbrev S256x128x128 : Shape := ⟨3, ![256, 128, 128]⟩
abbrev S256x128x256 : Shape := ⟨3, ![256, 128, 256]⟩
abbrev S256x256x256 : Shape := ⟨3, ![256, 256, 256]⟩
abbrev S1x2x4x128x512 : Shape := ⟨5, ![1, 2, 4, 128, 512]⟩
abbrev S4x256x256 : Shape := ⟨3, ![4, 256, 256]⟩
abbrev S4x128x512 : Shape := ⟨3, ![4, 128, 512]⟩
abbrev S1x1x1x128x512 : Shape := ⟨5, ![1, 1, 1, 128, 512]⟩
abbrev S128x512 : Shape := ⟨2, ![128, 512]⟩
abbrev S256x512 : Shape := ⟨2, ![256, 512]⟩
abbrev S1x256x256 : Shape := ⟨3, ![1, 256, 256]⟩
abbrev S256x256 : Shape := ⟨2, ![256, 256]⟩
abbrev S1x128x512 : Shape := ⟨3, ![1, 128, 512]⟩

abbrev nBuf : Space → Nat
  | .hbm => 45
  | .vmem => 12
  | .smem => 0
  | _ => 0

abbrev bufTy : (tb : Table) → Fin (tcTables nBuf tb) → BufTy
  | .hbm, ⟨0, _⟩ => ⟨S2x2x256x128x512, .bf16⟩
  | .hbm, ⟨1, _⟩ => ⟨S256x128x1024, .f32⟩
  | .hbm, ⟨2, _⟩ => ⟨S256x128x1024, .f32⟩
  | .hbm, ⟨3, _⟩ => ⟨S256, .i32⟩
  | .hbm, ⟨4, _⟩ => ⟨S256x1x1, .i32⟩
  | .hbm, ⟨5, _⟩ => ⟨S128, .i32⟩
  | .hbm, ⟨6, _⟩ => ⟨S1x128x1, .i32⟩
  | .hbm, ⟨7, _⟩ => ⟨S_, .i32⟩
  | .hbm, ⟨8, _⟩ => ⟨S1x128x1, .i32⟩
  | .hbm, ⟨9, _⟩ => ⟨S1x128x1, .i32⟩
  | .hbm, ⟨10, _⟩ => ⟨S256x128x1, .i32⟩
  | .hbm, ⟨11, _⟩ => ⟨S256x128x1, .i32⟩
  | .hbm, ⟨12, _⟩ => ⟨S256x128x1, .i32⟩
  | .hbm, ⟨13, _⟩ => ⟨S128, .i32⟩
  | .hbm, ⟨14, _⟩ => ⟨S1x1x128, .i32⟩
  | .hbm, ⟨15, _⟩ => ⟨S256x128x128, .i32⟩
  | .hbm, ⟨16, _⟩ => ⟨S256x128x128, .i32⟩
  | .hbm, ⟨17, _⟩ => ⟨S256x128x128, .i32⟩
  | .hbm, ⟨18, _⟩ => ⟨S_, .i32⟩
  | .hbm, ⟨19, _⟩ => ⟨S256x128x128, .i32⟩
  | .hbm, ⟨20, _⟩ => ⟨S256x128x128, .i32⟩
  | .hbm, ⟨21, _⟩ => ⟨S256x128x128, .f32⟩
  | .hbm, ⟨22, _⟩ => ⟨S_, .f32⟩
  | .hbm, ⟨23, _⟩ => ⟨S256x128x128, .f32⟩
  | .hbm, ⟨24, _⟩ => ⟨S256x128x128, .f32⟩
  | .hbm, ⟨25, _⟩ => ⟨S_, .f32⟩
  | .hbm, ⟨26, _⟩ => ⟨S256x128x128, .f32⟩
  | .hbm, ⟨27, _⟩ => ⟨S256x128x128, .f32⟩
  | .hbm, ⟨28, _⟩ => ⟨S256x128x128, .f32⟩
  | .hbm, ⟨29, _⟩ => ⟨S256x128x128, .f32⟩
  | .hbm, ⟨30, _⟩ => ⟨S256x128x128, .f32⟩
  | .hbm, ⟨31, _⟩ => ⟨S256x128x128, .f32⟩
  | .hbm, ⟨32, _⟩ => ⟨S256x128x256, .f32⟩
  | .hbm, ⟨33, _⟩ => ⟨S256x128x256, .f32⟩
  | .hbm, ⟨34, _⟩ => ⟨S256x256x256, .f32⟩
  | .hbm, ⟨35, _⟩ => ⟨S256x128x128, .f32⟩
  | .hbm, ⟨36, _⟩ => ⟨S256x128x128, .f32⟩
  | .hbm, ⟨37, _⟩ => ⟨S256x128x128, .f32⟩
  | .hbm, ⟨38, _⟩ => ⟨S256x128x128, .f32⟩
  | .hbm, ⟨39, _⟩ => ⟨S256x128x256, .f32⟩
  | .hbm, ⟨40, _⟩ => ⟨S256x128x256, .f32⟩
  | .hbm, ⟨41, _⟩ => ⟨S256x256x256, .f32⟩
  | .hbm, ⟨42, _⟩ => ⟨S256x256x256, .bf16⟩
  | .hbm, ⟨43, _⟩ => ⟨S256x256x256, .bf16⟩
  | .hbm, ⟨44, _⟩ => ⟨S2x2x256x128x512, .bf16⟩
  | .local _ .vmem, ⟨0, _⟩ => ⟨S1x2x4x128x512, .bf16⟩
  | .local _ .vmem, ⟨1, _⟩ => ⟨S1x2x4x128x512, .bf16⟩
  | .local _ .vmem, ⟨2, _⟩ => ⟨S4x256x256, .bf16⟩
  | .local _ .vmem, ⟨3, _⟩ => ⟨S4x256x256, .bf16⟩
  | .local _ .vmem, ⟨4, _⟩ => ⟨S4x256x256, .bf16⟩
  | .local _ .vmem, ⟨5, _⟩ => ⟨S4x256x256, .bf16⟩
  | .local _ .vmem, ⟨6, _⟩ => ⟨S4x128x512, .f32⟩
  | .local _ .vmem, ⟨7, _⟩ => ⟨S4x128x512, .f32⟩
  | .local _ .vmem, ⟨8, _⟩ => ⟨S4x128x512, .f32⟩
  | .local _ .vmem, ⟨9, _⟩ => ⟨S4x128x512, .f32⟩
  | .local _ .vmem, ⟨10, _⟩ => ⟨S1x2x4x128x512, .bf16⟩
  | .local _ .vmem, ⟨11, _⟩ => ⟨S1x2x4x128x512, .bf16⟩
  | _, _ => ⟨S2x2x256x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![64, 2], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, arg0.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, arg0.toNat, c0_i32_0.toNat, c0_i32_1.toNat]

abbrev stage0_0 : Fin 2 → Memref sig .tc .vmem S1x2x4x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x4x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MidRefIdeal.lean ====
abbrev S2x2x256x128x512 : Shape := ⟨5, ![2, 2, 256, 128, 512]⟩
abbrev S256x128x1024 : Shape := ⟨3, ![256, 128, 1024]⟩
abbrev S256 : Shape := ⟨1, ![256]⟩
abbrev S256x1x1 : Shape := ⟨3, ![256, 1, 1]⟩
abbrev S128 : Shape := ⟨1, ![128]⟩
abbrev S1x128x1 : Shape := ⟨3, ![1, 128, 1]⟩
abbrev S_ : Shape := ⟨0, ![]⟩
abbrev S256x128x1 : Shape := ⟨3, ![256, 128, 1]⟩
abbrev S1x1x128 : Shape := ⟨3, ![1, 1, 128]⟩
abbrev S256x128x128 : Shape := ⟨3, ![256, 128, 128]⟩
abbrev S2x1x256x128x512 : Shape := ⟨5, ![2, 1, 256, 128, 512]⟩
abbrev S2x256x128x512 : Shape := ⟨4, ![2, 256, 128, 512]⟩
abbrev S256x2x512x128 : Shape := ⟨4, ![256, 2, 512, 128]⟩
abbrev S256x128x512 : Shape := ⟨3, ![256, 128, 512]⟩
abbrev S1x256x128x512 : Shape := ⟨4, ![1, 256, 128, 512]⟩

abbrev nBuf : Space → Nat
  | .hbm => 76
  | .vmem => 0
  | .smem => 0
  | _ => 0

abbrev bufTy : (tb : Table) → Fin (tcTables nBuf tb) → BufTy
  | .hbm, ⟨0, _⟩ => ⟨S2x2x256x128x512, .bf16⟩
  | .hbm, ⟨1, _⟩ => ⟨S256x128x1024, .f32⟩
  | .hbm, ⟨2, _⟩ => ⟨S256x128x1024, .f32⟩
  | .hbm, ⟨3, _⟩ => ⟨S256, .i32⟩
  | .hbm, ⟨4, _⟩ => ⟨S256x1x1, .i32⟩
  | .hbm, ⟨5, _⟩ => ⟨S128, .i32⟩
  | .hbm, ⟨6, _⟩ => ⟨S1x128x1, .i32⟩
  | .hbm, ⟨7, _⟩ => ⟨S_, .i32⟩
  | .hbm, ⟨8, _⟩ => ⟨S1x128x1, .i32⟩
  | .hbm, ⟨9, _⟩ => ⟨S1x128x1, .i32⟩
  | .hbm, ⟨10, _⟩ => ⟨S256x128x1, .i32⟩
  | .hbm, ⟨11, _⟩ => ⟨S256x128x1, .i32⟩
  | .hbm, ⟨12, _⟩ => ⟨S256x128x1, .i32⟩
  | .hbm, ⟨13, _⟩ => ⟨S128, .i32⟩
  | .hbm, ⟨14, _⟩ => ⟨S1x1x128, .i32⟩
  | .hbm, ⟨15, _⟩ => ⟨S256x128x128, .i32⟩
  | .hbm, ⟨16, _⟩ => ⟨S256x128x128, .i32⟩
  | .hbm, ⟨17, _⟩ => ⟨S256x128x128, .i32⟩
  | .hbm, ⟨18, _⟩ => ⟨S_, .i32⟩
  | .hbm, ⟨19, _⟩ => ⟨S256x128x128, .i32⟩
  | .hbm, ⟨20, _⟩ => ⟨S256x128x128, .i32⟩
  | .hbm, ⟨21, _⟩ => ⟨S256x128x128, .f32⟩
  | .hbm, ⟨22, _⟩ => ⟨S_, .f32⟩
  | .hbm, ⟨23, _⟩ => ⟨S256x128x128, .f32⟩
  | .hbm, ⟨24, _⟩ => ⟨S256x128x128, .f32⟩
  | .hbm, ⟨25, _⟩ => ⟨S_, .f32⟩
  | .hbm, ⟨26, _⟩ => ⟨S256x128x128, .f32⟩
  | .hbm, ⟨27, _⟩ => ⟨S256x128x128, .f32⟩
  | .hbm, ⟨28, _⟩ => ⟨S256x128x128, .f32⟩
  | .hbm, ⟨29, _⟩ => ⟨S256x128x128, .f32⟩
  | .hbm, ⟨30, _⟩ => ⟨S2x1x256x128x512, .bf16⟩
  | .hbm, ⟨31, _⟩ => ⟨S2x256x128x512, .bf16⟩
  | .hbm, ⟨32, _⟩ => ⟨S2x256x128x512, .f32⟩
  | .hbm, ⟨33, _⟩ => ⟨S2x1x256x128x512, .bf16⟩
  | .hbm, ⟨34, _⟩ => ⟨S2x256x128x512, .bf16⟩
  | .hbm, ⟨35, _⟩ => ⟨S2x256x128x512, .f32⟩
  | .hbm, ⟨36, _⟩ => ⟨S256x2x512x128, .f32⟩
  | .hbm, ⟨37, _⟩ => ⟨S2x256x128x512, .f32⟩
  | .hbm, ⟨38, _⟩ => ⟨S256x2x512x128, .f32⟩
  | .hbm, ⟨39, _⟩ => ⟨S2x256x128x512, .f32⟩
  | .hbm, ⟨40, _⟩ => ⟨S2x256x128x512, .f32⟩
  | .hbm, ⟨41, _⟩ => ⟨S256x128x128, .f32⟩
  | .hbm, ⟨42, _⟩ => ⟨S256x2x512x128, .f32⟩
  | .hbm, ⟨43, _⟩ => ⟨S2x256x128x512, .f32⟩
  | .hbm, ⟨44, _⟩ => ⟨S256x2x512x128, .f32⟩
  | .hbm, ⟨45, _⟩ => ⟨S2x256x128x512, .f32⟩
  | .hbm, ⟨46, _⟩ => ⟨S2x256x128x512, .f32⟩
  | .hbm, ⟨47, _⟩ => ⟨S256x128x512, .f32⟩
  | .hbm, ⟨48, _⟩ => ⟨S1x256x128x512, .f32⟩
  | .hbm, ⟨49, _⟩ => ⟨S256x128x512, .f32⟩
  | .hbm, ⟨50, _⟩ => ⟨S1x256x128x512, .f32⟩
  | .hbm, ⟨51, _⟩ => ⟨S2x256x128x512, .f32⟩
  | .hbm, ⟨52, _⟩ => ⟨S2x256x128x512, .f32⟩
  | .hbm, ⟨53, _⟩ => ⟨S2x256x128x512, .f32⟩
  | .hbm, ⟨54, _⟩ => ⟨S2x256x128x512, .f32⟩
  | .hbm, ⟨55, _⟩ => ⟨S2x256x128x512, .f32⟩
  | .hbm, ⟨56, _⟩ => ⟨S2x256x128x512, .f32⟩
  | .hbm, ⟨57, _⟩ => ⟨S2x256x128x512, .f32⟩
  | .hbm, ⟨58, _⟩ => ⟨S2x256x128x512, .f32⟩
  | .hbm, ⟨59, _⟩ => ⟨S2x256x128x512, .f32⟩
  | .hbm, ⟨60, _⟩ => ⟨S2x256x128x512, .f32⟩
  | .hbm, ⟨61, _⟩ => ⟨S256x2x512x128, .f32⟩
  | .hbm, ⟨62, _⟩ => ⟨S2x256x128x512, .f32⟩
  | .hbm, ⟨63, _⟩ => ⟨S256x128x128, .f32⟩
  | .hbm, ⟨64, _⟩ => ⟨S256x2x512x128, .f32⟩
  | .hbm, ⟨65, _⟩ => ⟨S2x256x128x512, .f32⟩
  | .hbm, ⟨66, _⟩ => ⟨S2x256x128x512, .f32⟩
  | .hbm, ⟨67, _⟩ => ⟨S256x2x512x128, .f32⟩
  | .hbm, ⟨68, _⟩ => ⟨S2x256x128x512, .f32⟩
  | .hbm, ⟨69, _⟩ => ⟨S256x2x512x128, .f32⟩
  | .hbm, ⟨70, _⟩ => ⟨S2x256x128x512, .f32⟩
  | .hbm, ⟨71, _⟩ => ⟨S2x256x128x512, .f32⟩
  | .hbm, ⟨72, _⟩ => ⟨S2x1x256x128x512, .f32⟩
  | .hbm, ⟨73, _⟩ => ⟨S2x1x256x128x512, .f32⟩
  | .hbm, ⟨74, _⟩ => ⟨S2x2x256x128x512, .f32⟩
  | .hbm, ⟨75, _⟩ => ⟨S2x2x256x128x512, .bf16⟩
  | _, _ => ⟨S2x2x256x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩

abbrev nD : Nat := 1
abbrev τ : Topo := Topo.v7x

variable {F : FTy → Type} [FloatOps F]
-- ==== Full.lean ====
abbrev S1x256x131072 : Shape := ⟨3, ![1, 256, 131072]⟩
abbrev S256 : Shape := ⟨1, ![256]⟩
abbrev S256x1 : Shape := ⟨2, ![256, 1]⟩
abbrev S1x256 : Shape := ⟨2, ![1, 256]⟩
abbrev S_ : Shape := ⟨0, ![]⟩
abbrev S256x256 : Shape := ⟨2, ![256, 256]⟩
abbrev S512x256 : Shape := ⟨2, ![512, 256]⟩
abbrev S256x512 : Shape := ⟨2, ![256, 512]⟩
abbrev S1x512x131072 : Shape := ⟨3, ![1, 512, 131072]⟩
abbrev S1x256x2048 : Shape := ⟨3, ![1, 256, 2048]⟩
abbrev S1x512x2048 : Shape := ⟨3, ![1, 512, 2048]⟩
abbrev S256x2048 : Shape := ⟨2, ![256, 2048]⟩
abbrev S512x2048 : Shape := ⟨2, ![512, 2048]⟩

abbrev nBuf : Space → Nat
  | .hbm => 29
  | .vmem => 5
  | .smem => 0
  | _ => 0

abbrev bufTy : (tb : Table) → Fin (tcTables nBuf tb) → BufTy
  | .hbm, ⟨0, _⟩ => ⟨S1x256x131072, .bf16⟩
  | .hbm, ⟨1, _⟩ => ⟨S256, .i32⟩
  | .hbm, ⟨2, _⟩ => ⟨S256x1, .i32⟩
  | .hbm, ⟨3, _⟩ => ⟨S256x1, .f32⟩
  | .hbm, ⟨4, _⟩ => ⟨S256, .i32⟩
  | .hbm, ⟨5, _⟩ => ⟨S1x256, .i32⟩
  | .hbm, ⟨6, _⟩ => ⟨S1x256, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S_, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S512x256, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S256x256, .f32⟩
  | .hbm, ⟨24, _⟩ => ⟨S256x256, .f32⟩
  | .hbm, ⟨25, _⟩ => ⟨S256x512, .f32⟩
  | .hbm, ⟨26, _⟩ => ⟨S512x256, .bf16⟩
  | .hbm, ⟨27, _⟩ => ⟨S256x512, .bf16⟩
  | .hbm, ⟨28, _⟩ => ⟨S1x512x131072, .bf16⟩
  | .local _ .vmem, ⟨0, _⟩ => ⟨S1x256x2048, .bf16⟩
  | .local _ .vmem, ⟨1, _⟩ => ⟨S1x256x2048, .bf16⟩
  | .local _ .vmem, ⟨2, _⟩ => ⟨S512x256, .bf16⟩
  | .local _ .vmem, ⟨3, _⟩ => ⟨S1x512x2048, .bf16⟩
  | .local _ .vmem, ⟨4, _⟩ => ⟨S1x512x2048, .bf16⟩
  | _, _ => ⟨S1x256x131072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FullRefIdeal.lean ====
abbrev S1x256x131072 : Shape := ⟨3, ![1, 256, 131072]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S1x131072x256 : Shape := ⟨3, ![1, 131072, 256]⟩
abbrev S1x512x131072 : Shape := ⟨3, ![1, 512, 131072]⟩

abbrev nBuf : Space → Nat
  | .hbm => 23
  | .vmem => 0
  | .smem => 0
  | _ => 0

abbrev bufTy : (tb : Table) → Fin (tcTables nBuf tb) → BufTy
  | .hbm, ⟨0, _⟩ => ⟨S1x256x131072, .bf16⟩
  | .hbm, ⟨1, _⟩ => ⟨S256, .f32⟩
  | .hbm, ⟨2, _⟩ => ⟨S256x1, .f32⟩
  | .hbm, ⟨3, _⟩ => ⟨S_, .f32⟩
  | .hbm, ⟨4, _⟩ => ⟨S256x1, .f32⟩
  | .hbm, ⟨5, _⟩ => ⟨S256x1, .f32⟩
  | .hbm, ⟨6, _⟩ => ⟨S1x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S_, .f32⟩
  | .hbm, ⟨11, _⟩ => ⟨S256x256, .f32⟩
  | .hbm, ⟨12, _⟩ => ⟨S256x256, .f32⟩
  | .hbm, ⟨13, _⟩ => ⟨S1x256x131072, .f32⟩
  | .hbm, ⟨14, _⟩ => ⟨S256x256, .f32⟩
  | .hbm, ⟨15, _⟩ => ⟨S1x131072x256, .f32⟩
  | .hbm, ⟨16, _⟩ => ⟨S1x256x131072, .f32⟩
  | .hbm, ⟨17, _⟩ => ⟨S256x256, .f32⟩
  | .hbm, ⟨18, _⟩ => ⟨S256x256, .f32⟩
  | .hbm, ⟨19, _⟩ => ⟨S1x131072x256, .f32⟩
  | .hbm, ⟨20, _⟩ => ⟨S1x256x131072, .f32⟩
  | .hbm, ⟨21, _⟩ => ⟨S1x512x131072, .f32⟩
  | .hbm, ⟨22, _⟩ => ⟨S1x512x131072, .bf16⟩
  | _, _ => ⟨S1x256x131072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== Last.lean ====
abbrev S2x512x65536 : Shape := ⟨3, ![2, 512, 65536]⟩
abbrev S2x128x65536 : Shape := ⟨3, ![2, 128, 65536]⟩
abbrev S512 : Shape := ⟨1, ![512]⟩
abbrev S256 : Shape := ⟨1, ![256]⟩
abbrev S256x1 : Shape := ⟨2, ![256, 1]⟩
abbrev S128 : Shape := ⟨1, ![128]⟩
abbrev S1x128 : Shape := ⟨2, ![1, 128]⟩
abbrev S_ : Shape := ⟨0, ![]⟩
abbrev S256x128 : Shape := ⟨2, ![256, 128]⟩
abbrev S512x128 : Shape := ⟨2, ![512, 128]⟩
abbrev S128x256 : Shape := ⟨2, ![128, 256]⟩
abbrev S128x512 : Shape := ⟨2, ![128, 512]⟩
abbrev S1x512 : Shape := ⟨2, ![1, 512]⟩
abbrev S65536 : Shape := ⟨1, ![65536]⟩
abbrev S1x65536 : Shape := ⟨2, ![1, 65536]⟩
abbrev S1x512x2048 : Shape := ⟨3, ![1, 512, 2048]⟩
abbrev S1x128x2048 : Shape := ⟨3, ![1, 128, 2048]⟩
abbrev S1x2048 : Shape := ⟨2, ![1, 2048]⟩
abbrev S512x2048 : Shape := ⟨2, ![512, 2048]⟩
abbrev S128x2048 : Shape := ⟨2, ![128, 2048]⟩

abbrev nBuf : Space → Nat
  | .hbm => 36
  | .vmem => 11
  | .smem => 0
  | _ => 0

abbrev bufTy : (tb : Table) → Fin (tcTables nBuf tb) → BufTy
  | .hbm, ⟨0, _⟩ => ⟨S2x512x65536, .bf16⟩
  | .hbm, ⟨1, _⟩ => ⟨S2x128x65536, .bf16⟩
  | .hbm, ⟨2, _⟩ => ⟨S2x128x65536, .bf16⟩
  | .hbm, ⟨3, _⟩ => ⟨S512, .f32⟩
  | .hbm, ⟨4, _⟩ => ⟨S256, .i32⟩
  | .hbm, ⟨5, _⟩ => ⟨S256x1, .i32⟩
  | .hbm, ⟨6, _⟩ => ⟨S256x1, .f32⟩
  | .hbm, ⟨7, _⟩ => ⟨S128, .i32⟩
  | .hbm, ⟨8, _⟩ => ⟨S1x128, .i32⟩
  | .hbm, ⟨9, _⟩ => ⟨S1x128, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x128, .f32⟩
  | .hbm, ⟨14, _⟩ => ⟨S256x128, .f32⟩
  | .hbm, ⟨15, _⟩ => ⟨S256x128, .f32⟩
  | .hbm, ⟨16, _⟩ => ⟨S_, .f32⟩
  | .hbm, ⟨17, _⟩ => ⟨S256x128, .f32⟩
  | .hbm, ⟨18, _⟩ => ⟨S256x128, .f32⟩
  | .hbm, ⟨19, _⟩ => ⟨S256x128, .f32⟩
  | .hbm, ⟨20, _⟩ => ⟨S256x128, .f32⟩
  | .hbm, ⟨21, _⟩ => ⟨S256x128, .f32⟩
  | .hbm, ⟨22, _⟩ => ⟨S512x128, .f32⟩
  | .hbm, ⟨23, _⟩ => ⟨S256x128, .f32⟩
  | .hbm, ⟨24, _⟩ => ⟨S128x256, .f32⟩
  | .hbm, ⟨25, _⟩ => ⟨S256x128, .f32⟩
  | .hbm, ⟨26, _⟩ => ⟨S128x256, .f32⟩
  | .hbm, ⟨27, _⟩ => ⟨S128x256, .f32⟩
  | .hbm, ⟨28, _⟩ => ⟨S128x512, .f32⟩
  | .hbm, ⟨29, _⟩ => ⟨S512x128, .bf16⟩
  | .hbm, ⟨30, _⟩ => ⟨S128x512, .bf16⟩
  | .hbm, ⟨31, _⟩ => ⟨S1x512, .f32⟩
  | .hbm, ⟨32, _⟩ => ⟨S128x512, .f32⟩
  | .hbm, ⟨33, _⟩ => ⟨S65536, .f32⟩
  | .hbm, ⟨34, _⟩ => ⟨S1x65536, .f32⟩
  | .hbm, ⟨35, _⟩ => ⟨S2x128x65536, .bf16⟩
  | .local _ .vmem, ⟨0, _⟩ => ⟨S1x512x2048, .bf16⟩
  | .local _ .vmem, ⟨1, _⟩ => ⟨S1x512x2048, .bf16⟩
  | .local _ .vmem, ⟨2, _⟩ => ⟨S128x512, .bf16⟩
  | .local _ .vmem, ⟨3, _⟩ => ⟨S1x128x2048, .bf16⟩
  | .local _ .vmem, ⟨4, _⟩ => ⟨S1x128x2048, .bf16⟩
  | .local _ .vmem, ⟨5, _⟩ => ⟨S1x128x2048, .bf16⟩
  | .local _ .vmem, ⟨6, _⟩ => ⟨S1x128x2048, .bf16⟩
  | .local _ .vmem, ⟨7, _⟩ => ⟨S1x2048, .f32⟩
  | .local _ .vmem, ⟨8, _⟩ => ⟨S1x2048, .f32⟩
  | .local _ .vmem, ⟨9, _⟩ => ⟨S1x128x2048, .bf16⟩
  | .local _ .vmem, ⟨10, _⟩ => ⟨S1x128x2048, .bf16⟩
  | _, _ => ⟨S2x512x65536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== LastRefIdeal.lean ====
abbrev S2x512x65536 : Shape := ⟨3, ![2, 512, 65536]⟩
abbrev S2x128x65536 : Shape := ⟨3, ![2, 128, 65536]⟩
abbrev S512 : Shape := ⟨1, ![512]⟩
abbrev S256 : Shape := ⟨1, ![256]⟩
abbrev S128 : Shape := ⟨1, ![128]⟩
abbrev S256x1 : Shape := ⟨2, ![256, 1]⟩
abbrev S_ : Shape := ⟨0, ![]⟩
abbrev S1x128 : Shape := ⟨2, ![1, 128]⟩
abbrev S256x128 : Shape := ⟨2, ![256, 128]⟩
abbrev S2x256x65536 : Shape := ⟨3, ![2, 256, 65536]⟩
abbrev S2x65536x128 : Shape := ⟨3, ![2, 65536, 128]⟩
abbrev S1x512 : Shape := ⟨2, ![1, 512]⟩
abbrev S128x512 : Shape := ⟨2, ![128, 512]⟩
abbrev S65536 : Shape := ⟨1, ![65536]⟩
abbrev S1x1x65536 : Shape := ⟨3, ![1, 1, 65536]⟩

abbrev nBuf : Space → Nat
  | .hbm => 42
  | .vmem => 0
  | .smem => 0
  | _ => 0

abbrev bufTy : (tb : Table) → Fin (tcTables nBuf tb) → BufTy
  | .hbm, ⟨0, _⟩ => ⟨S2x512x65536, .bf16⟩
  | .hbm, ⟨1, _⟩ => ⟨S2x128x65536, .bf16⟩
  | .hbm, ⟨2, _⟩ => ⟨S2x128x65536, .bf16⟩
  | .hbm, ⟨3, _⟩ => ⟨S512, .f32⟩
  | .hbm, ⟨4, _⟩ => ⟨S256, .f32⟩
  | .hbm, ⟨5, _⟩ => ⟨S128, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S1x128, .f32⟩
  | .hbm, ⟨11, _⟩ => ⟨S256x128, .f32⟩
  | .hbm, ⟨12, _⟩ => ⟨S256x128, .f32⟩
  | .hbm, ⟨13, _⟩ => ⟨S256x128, .f32⟩
  | .hbm, ⟨14, _⟩ => ⟨S_, .f32⟩
  | .hbm, ⟨15, _⟩ => ⟨S256x128, .f32⟩
  | .hbm, ⟨16, _⟩ => ⟨S256x128, .f32⟩
  | .hbm, ⟨17, _⟩ => ⟨S256x128, .f32⟩
  | .hbm, ⟨18, _⟩ => ⟨S256x128, .f32⟩
  | .hbm, ⟨19, _⟩ => ⟨S256x128, .f32⟩
  | .hbm, ⟨20, _⟩ => ⟨S2x512x65536, .f32⟩
  | .hbm, ⟨21, _⟩ => ⟨S2x256x65536, .f32⟩
  | .hbm, ⟨22, _⟩ => ⟨S2x65536x128, .f32⟩
  | .hbm, ⟨23, _⟩ => ⟨S2x128x65536, .f32⟩
  | .hbm, ⟨24, _⟩ => ⟨S2x256x65536, .f32⟩
  | .hbm, ⟨25, _⟩ => ⟨S2x65536x128, .f32⟩
  | .hbm, ⟨26, _⟩ => ⟨S2x128x65536, .f32⟩
  | .hbm, ⟨27, _⟩ => ⟨S2x128x65536, .f32⟩
  | .hbm, ⟨28, _⟩ => ⟨S_, .f32⟩
  | .hbm, ⟨29, _⟩ => ⟨S2x128x65536, .f32⟩
  | .hbm, ⟨30, _⟩ => ⟨S2x128x65536, .f32⟩
  | .hbm, ⟨31, _⟩ => ⟨S1x512, .f32⟩
  | .hbm, ⟨32, _⟩ => ⟨S128x512, .f32⟩
  | .hbm, ⟨33, _⟩ => ⟨S65536, .f32⟩
  | .hbm, ⟨34, _⟩ => ⟨S2x128x65536, .f32⟩
  | .hbm, ⟨35, _⟩ => ⟨S2x128x65536, .f32⟩
  | .hbm, ⟨36, _⟩ => ⟨S1x1x65536, .f32⟩
  | .hbm, ⟨37, _⟩ => ⟨S2x128x65536, .f32⟩
  | .hbm, ⟨38, _⟩ => ⟨S2x128x65536, .f32⟩
  | .hbm, ⟨39, _⟩ => ⟨S2x128x65536, .f32⟩
  | .hbm, ⟨40, _⟩ => ⟨S2x128x65536, .f32⟩
  | .hbm, ⟨41, _⟩ => ⟨S2x128x65536, .bf16⟩
  | _, _ => ⟨S2x512x65536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== MidA.lean ====
abbrev S2x2x256x128x512 : Shape := ⟨5, ![2, 2, 256, 128, 512]⟩
abbrev S256x128x1024 : Shape := ⟨3, ![256, 128, 1024]⟩
abbrev S256 : Shape := ⟨1, ![256]⟩
abbrev S256x1x1 : Shape := ⟨3, ![256, 1, 1]⟩
abbrev S128 : Shape := ⟨1, ![128]⟩
abbrev S1x128x1 : Shape := ⟨3, ![1, 128, 1]⟩
abbrev S_ : Shape := ⟨0, ![]⟩
abbrev S256x128x1 : Shape := ⟨3, ![256, 128, 1]⟩
abbrev S1x1x128 : Shape := ⟨3, ![1, 1, 128]⟩
abbrev S256x128x128 : Shape := ⟨3, ![256, 128, 128]⟩
abbrev S256x128x256 : Shape := ⟨3, ![256, 128, 256]⟩
abbrev S256x256x256 : Shape := ⟨3, ![256, 256, 256]⟩
abbrev S1x2x4x128x512 : Shape := ⟨5, ![1, 2, 4, 128, 512]⟩
abbrev S4x256x256 : Shape := ⟨3, ![4, 256, 256]⟩
abbrev S4x128x512 : Shape := ⟨3, ![4, 128, 512]⟩
abbrev S1x1x1x128x512 : Shape := ⟨5, ![1, 1, 1, 128, 512]⟩
abbrev S128x512 : Shape := ⟨2, ![128, 512]⟩
abbrev S256x512 : Shape := ⟨2, ![256, 512]⟩
abbrev S1x256x256 : Shape := ⟨3, ![1, 256, 256]⟩
abbrev S256x256 : Shape := ⟨2, ![256, 256]⟩
abbrev S1x128x512 : Shape := ⟨3, ![1, 128, 512]⟩

abbrev nBuf : Space → Nat
  | .hbm => 45
  | .vmem => 12
  | .smem => 0
  | _ => 0

abbrev bufTy : (tb : Table) → Fin (tcTables nBuf tb) → BufTy
  | .hbm, ⟨0, _⟩ => ⟨S2x2x256x128x512, .bf16⟩
  | .hbm, ⟨1, _⟩ => ⟨S256x128x1024, .f32⟩
  | .hbm, ⟨2, _⟩ => ⟨S256x128x1024, .f32⟩
  | .hbm, ⟨3, _⟩ => ⟨S256, .i32⟩
  | .hbm, ⟨4, _⟩ => ⟨S256x1x1, .i32⟩
  | .hbm, ⟨5, _⟩ => ⟨S128, .i32⟩
  | .hbm, ⟨6, _⟩ => ⟨S1x128x1, .i32⟩
  | .hbm, ⟨7, _⟩ => ⟨S_, .i32⟩
  | .hbm, ⟨8, _⟩ => ⟨S1x128x1, .i32⟩
  | .hbm, ⟨9, _⟩ => ⟨S1x128x1, .i32⟩
  | .hbm, ⟨10, _⟩ => ⟨S256x128x1, .i32⟩
  | .hbm, ⟨11, _⟩ => ⟨S256x128x1, .i32⟩
  | .hbm, ⟨12, _⟩ => ⟨S256x128x1, .i32⟩
  | .hbm, ⟨13, _⟩ => ⟨S128, .i32⟩
  | .hbm, ⟨14, _⟩ => ⟨S1x1x128, .i32⟩
  | .hbm, ⟨15, _⟩ => ⟨S256x128x128, .i32⟩
  | .hbm, ⟨16, _⟩ => ⟨S256x128x128, .i32⟩
  | .hbm, ⟨17, _⟩ => ⟨S256x128x128, .i32⟩
  | .hbm, ⟨18, _⟩ => ⟨S_, .i32⟩
  | .hbm, ⟨19, _⟩ => ⟨S256x128x128, .i32⟩
  | .hbm, ⟨20, _⟩ => ⟨S256x128x128, .i32⟩
  | .hbm, ⟨21, _⟩ => ⟨S256x128x128, .f32⟩
  | .hbm, ⟨22, _⟩ => ⟨S_, .f32⟩
  | .hbm, ⟨23, _⟩ => ⟨S256x128x128, .f32⟩
  | .hbm, ⟨24, _⟩ => ⟨S256x128x128, .f32⟩
  | .hbm, ⟨25, _⟩ => ⟨S_, .f32⟩
  | .hbm, ⟨26, _⟩ => ⟨S256x128x128, .f32⟩
  | .hbm, ⟨27, _⟩ => ⟨S256x128x128, .f32⟩
  | .hbm, ⟨28, _⟩ => ⟨S256x128x128, .f32⟩
  | .hbm, ⟨29, _⟩ => ⟨S256x128x128, .f32⟩
  | .hbm, ⟨30, _⟩ => ⟨S256x128x128, .f32⟩
  | .hbm, ⟨31, _⟩ => ⟨S256x128x128, .f32⟩
  | .hbm, ⟨32, _⟩ => ⟨S256x128x256, .f32⟩
  | .hbm, ⟨33, _⟩ => ⟨S256x128x256, .f32⟩
  | .hbm, ⟨34, _⟩ => ⟨S256x256x256, .f32⟩
  | .hbm, ⟨35, _⟩ => ⟨S256x128x128, .f32⟩
  | .hbm, ⟨36, _⟩ => ⟨S256x128x128, .f32⟩
  | .hbm, ⟨37, _⟩ => ⟨S256x128x128, .f32⟩
  | .hbm, ⟨38, _⟩ => ⟨S256x128x128, .f32⟩
  | .hbm, ⟨39, _⟩ => ⟨S256x128x256, .f32⟩
  | .hbm, ⟨40, _⟩ => ⟨S256x128x256, .f32⟩
  | .hbm, ⟨41, _⟩ => ⟨S256x256x256, .f32⟩
  | .hbm, ⟨42, _⟩ => ⟨S256x256x256, .bf16⟩
  | .hbm, ⟨43, _⟩ => ⟨S256x256x256, .bf16⟩
  | .hbm, ⟨44, _⟩ => ⟨S2x2x256x128x512, .bf16⟩
  | .local _ .vmem, ⟨0, _⟩ => ⟨S1x2x4x128x512, .bf16⟩
  | .local _ .vmem, ⟨1, _⟩ => ⟨S1x2x4x128x512, .bf16⟩
  | .local _ .vmem, ⟨2, _⟩ => ⟨S4x256x256, .bf16⟩
  | .local _ .vmem, ⟨3, _⟩ => ⟨S4x256x256, .bf16⟩
  | .local _ .vmem, ⟨4, _⟩ => ⟨S4x256x256, .bf16⟩
  | .local _ .vmem, ⟨5, _⟩ => ⟨S4x256x256, .bf16⟩
  | .local _ .vmem, ⟨6, _⟩ => ⟨S4x128x512, .f32⟩
  | .local _ .vmem, ⟨7, _⟩ => ⟨S4x128x512, .f32⟩
  | .local _ .vmem, ⟨8, _⟩ => ⟨S4x128x512, .f32⟩
  | .local _ .vmem, ⟨9, _⟩ => ⟨S4x128x512, .f32⟩
  | .local _ .vmem, ⟨10, _⟩ => ⟨S1x2x4x128x512, .bf16⟩
  | .local _ .vmem, ⟨11, _⟩ => ⟨S1x2x4x128x512, .bf16⟩
  | _, _ => ⟨S2x2x256x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![64, 2], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, arg0.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, arg0.toNat, c0_i32_0.toNat, c0_i32_1.toNat]

abbrev stage0_0 : Fin 2 → Memref sig .tc .vmem S1x2x4x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x4x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MidARefIdeal.lean ====
abbrev S2x2x256x128x512 : Shape := ⟨5, ![2, 2, 256, 128, 512]⟩
abbrev S256x128x1024 : Shape := ⟨3, ![256, 128, 1024]⟩
abbrev S256 : Shape := ⟨1, ![256]⟩
abbrev S256x1x1 : Shape := ⟨3, ![256, 1, 1]⟩
abbrev S128 : Shape := ⟨1, ![128]⟩
abbrev S1x128x1 : Shape := ⟨3, ![1, 128, 1]⟩
abbrev S_ : Shape := ⟨0, ![]⟩
abbrev S256x128x1 : Shape := ⟨3, ![256, 128, 1]⟩
abbrev S1x1x128 : Shape := ⟨3, ![1, 1, 128]⟩
abbrev S256x128x128 : Shape := ⟨3, ![256, 128, 128]⟩
abbrev S2x1x256x128x512 : Shape := ⟨5, ![2, 1, 256, 128, 512]⟩
abbrev S2x256x128x512 : Shape := ⟨4, ![2, 256, 128, 512]⟩
abbrev S256x2x512x128 : Shape := ⟨4, ![256, 2, 512, 128]⟩
abbrev S256x128x512 : Shape := ⟨3, ![256, 128, 512]⟩
abbrev S1x256x128x512 : Shape := ⟨4, ![1, 256, 128, 512]⟩

abbrev nBuf : Space → Nat
  | .hbm => 76
  | .vmem => 0
  | .smem => 0
  | _ => 0

abbrev bufTy : (tb : Table) → Fin (tcTables nBuf tb) → BufTy
  | .hbm, ⟨0, _⟩ => ⟨S2x2x256x128x512, .bf16⟩
  | .hbm, ⟨1, _⟩ => ⟨S256x128x1024, .f32⟩
  | .hbm, ⟨2, _⟩ => ⟨S256x128x1024, .f32⟩
  | .hbm, ⟨3, _⟩ => ⟨S256, .i32⟩
  | .hbm, ⟨4, _⟩ => ⟨S256x1x1, .i32⟩
  | .hbm, ⟨5, _⟩ => ⟨S128, .i32⟩
  | .hbm, ⟨6, _⟩ => ⟨S1x128x1, .i32⟩
  | .hbm, ⟨7, _⟩ => ⟨S_, .i32⟩
  | .hbm, ⟨8, _⟩ => ⟨S1x128x1, .i32⟩
  | .hbm, ⟨9, _⟩ => ⟨S1x128x1, .i32⟩
  | .hbm, ⟨10, _⟩ => ⟨S256x128x1, .i32⟩
  | .hbm, ⟨11, _⟩ => ⟨S256x128x1, .i32⟩
  | .hbm, ⟨12, _⟩ => ⟨S256x128x1, .i32⟩
  | .hbm, ⟨13, _⟩ => ⟨S128, .i32⟩
  | .hbm, ⟨14, _⟩ => ⟨S1x1x128, .i32⟩
  | .hbm, ⟨15, _⟩ => ⟨S256x128x128, .i32⟩
  | .hbm, ⟨16, _⟩ => ⟨S256x128x128, .i32⟩
  | .hbm, ⟨17, _⟩ => ⟨S256x128x128, .i32⟩
  | .hbm, ⟨18, _⟩ => ⟨S_, .i32⟩
  | .hbm, ⟨19, _⟩ => ⟨S256x128x128, .i32⟩
  | .hbm, ⟨20, _⟩ => ⟨S256x128x128, .i32⟩
  | .hbm, ⟨21, _⟩ => ⟨S256x128x128, .f32⟩
  | .hbm, ⟨22, _⟩ => ⟨S_, .f32⟩
  | .hbm, ⟨23, _⟩ => ⟨S256x128x128, .f32⟩
  | .hbm, ⟨24, _⟩ => ⟨S256x128x128, .f32⟩
  | .hbm, ⟨25, _⟩ => ⟨S_, .f32⟩
  | .hbm, ⟨26, _⟩ => ⟨S256x128x128, .f32⟩
  | .hbm, ⟨27, _⟩ => ⟨S256x128x128, .f32⟩
  | .hbm, ⟨28, _⟩ => ⟨S256x128x128, .f32⟩
  | .hbm, ⟨29, _⟩ => ⟨S256x128x128, .f32⟩
  | .hbm, ⟨30, _⟩ => ⟨S2x1x256x128x512, .bf16⟩
  | .hbm, ⟨31, _⟩ => ⟨S2x256x128x512, .bf16⟩
  | .hbm, ⟨32, _⟩ => ⟨S2x256x128x512, .f32⟩
  | .hbm, ⟨33, _⟩ => ⟨S2x1x256x128x512, .bf16⟩
  | .hbm, ⟨34, _⟩ => ⟨S2x256x128x512, .bf16⟩
  | .hbm, ⟨35, _⟩ => ⟨S2x256x128x512, .f32⟩
  | .hbm, ⟨36, _⟩ => ⟨S256x2x512x128, .f32⟩
  | .hbm, ⟨37, _⟩ => ⟨S2x256x128x512, .f32⟩
  | .hbm, ⟨38, _⟩ => ⟨S256x2x512x128, .f32⟩
  | .hbm, ⟨39, _⟩ => ⟨S2x256x128x512, .f32⟩
  | .hbm, ⟨40, _⟩ => ⟨S2x256x128x512, .f32⟩
  | .hbm, ⟨41, _⟩ => ⟨S256x128x128, .f32⟩
  | .hbm, ⟨42, _⟩ => ⟨S256x2x512x128, .f32⟩
  | .hbm, ⟨43, _⟩ => ⟨S2x256x128x512, .f32⟩
  | .hbm, ⟨44, _⟩ => ⟨S256x2x512x128, .f32⟩
  | .hbm, ⟨45, _⟩ => ⟨S2x256x128x512, .f32⟩
  | .hbm, ⟨46, _⟩ => ⟨S2x256x128x512, .f32⟩
  | .hbm, ⟨47, _⟩ => ⟨S256x128x512, .f32⟩
  | .hbm, ⟨48, _⟩ => ⟨S1x256x128x512, .f32⟩
  | .hbm, ⟨49, _⟩ => ⟨S256x128x512, .f32⟩
  | .hbm, ⟨50, _⟩ => ⟨S1x256x128x512, .f32⟩
  | .hbm, ⟨51, _⟩ => ⟨S2x256x128x512, .f32⟩
  | .hbm, ⟨52, _⟩ => ⟨S2x256x128x512, .f32⟩
  | .hbm, ⟨53, _⟩ => ⟨S2x256x128x512, .f32⟩
  | .hbm, ⟨54, _⟩ => ⟨S2x256x128x512, .f32⟩
  | .hbm, ⟨55, _⟩ => ⟨S2x256x128x512, .f32⟩
  | .hbm, ⟨56, _⟩ => ⟨S2x256x128x512, .f32⟩
  | .hbm, ⟨57, _⟩ => ⟨S2x256x128x512, .f32⟩
  | .hbm, ⟨58, _⟩ => ⟨S2x256x128x512, .f32⟩
  | .hbm, ⟨59, _⟩ => ⟨S2x256x128x512, .f32⟩
  | .hbm, ⟨60, _⟩ => ⟨S2x256x128x512, .f32⟩
  | .hbm, ⟨61, _⟩ => ⟨S256x2x512x128, .f32⟩
  | .hbm, ⟨62, _⟩ => ⟨S2x256x128x512, .f32⟩
  | .hbm, ⟨63, _⟩ => ⟨S256x128x128, .f32⟩
  | .hbm, ⟨64, _⟩ => ⟨S256x2x512x128, .f32⟩
  | .hbm, ⟨65, _⟩ => ⟨S2x256x128x512, .f32⟩
  | .hbm, ⟨66, _⟩ => ⟨S2x256x128x512, .f32⟩
  | .hbm, ⟨67, _⟩ => ⟨S256x2x512x128, .f32⟩
  | .hbm, ⟨68, _⟩ => ⟨S2x256x128x512, .f32⟩
  | .hbm, ⟨69, _⟩ => ⟨S256x2x512x128, .f32⟩
  | .hbm, ⟨70, _⟩ => ⟨S2x256x128x512, .f32⟩
  | .hbm, ⟨71, _⟩ => ⟨S2x256x128x512, .f32⟩
  | .hbm, ⟨72, _⟩ => ⟨S2x1x256x128x512, .f32⟩
  | .hbm, ⟨73, _⟩ => ⟨S2x1x256x128x512, .f32⟩
  | .hbm, ⟨74, _⟩ => ⟨S2x2x256x128x512, .f32⟩
  | .hbm, ⟨75, _⟩ => ⟨S2x2x256x128x512, .bf16⟩
  | _, _ => ⟨S2x2x256x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩

abbrev nD : Nat := 1
abbrev τ : Topo := Topo.v7x

variable {F : FTy → Type} [FloatOps F]
-- ==== Proof.Moe.Step.lean ====
/-
  What one grid point of the mixture-of-experts kernel computes, read at an index over the extended reals: the two
  projections, the expert's gate picked out by the product with the selection matrix, and the step of the accumulator.
-/
module

public import proofs.«01_k».proof.Proof.Gen.MoeIdeal.Skeleton
public import Idealize.ShloMosaic.Lib.Pointwise

@[expose] public section

set_option maxRecDepth 16384

noncomputable section

namespace Cert.MoeIdeal.Hand

open Cert.MoeIdeal Cert.MoeIdeal.Gen Idealize.ShloMosaic Idealize.SL.Sem

/-- The first projection of a row block: the product with one expert's gate weights. -/
theorem proj_gate_apply (h : Vec Ideal S1024x1024 .bf16) (w : Vec Ideal S1x1024x512 .bf16) (r : Fin 1024) (f : Fin 512) :
    k0_pay4 h w (ix2 r f) = ∑ k : Fin 1024, h (ix2 r k) * w (ix3 0 k f) := by
  pointwise [k0_pay4]

/-- The second projection: the product with the same expert's up weights. -/
theorem proj_up_apply (h : Vec Ideal S1024x1024 .bf16) (w : Vec Ideal S1x1024x512 .bf16) (r : Fin 1024) (f : Fin 512) :
    k0_pay5 h w (ix2 r f) = ∑ k : Fin 1024, h (ix2 r k) * w (ix3 0 k f) := by
  pointwise [k0_pay5]

/-- The row-number test in machine words: row `k` modulo 128 is the expert's number. -/
theorem mask_word : ∀ (k : Fin 256) (e : Fin 16),
    IntOp.cmpi CmpIPredicate.eq
      (Scalar.select
        (IntOp.andi
          (IntOp.xori
            (IntOp.cmpi CmpIPredicate.slt
              (IntOp.remsi ArithUnit.vector (BitVec.ofNat 32 k.val)
                (Scalar.select (Scalar.cmpi CmpIPredicate.eq 128#32 0#32) 1#32 128#32))
              0#32)
            (Scalar.cmpi CmpIPredicate.slt (Scalar.select (Scalar.cmpi CmpIPredicate.eq 128#32 0#32) 1#32 128#32) 0#32))
          (IntOp.cmpi CmpIPredicate.ne
            (IntOp.remsi ArithUnit.vector (BitVec.ofNat 32 k.val)
              (Scalar.select (Scalar.cmpi CmpIPredicate.eq 128#32 0#32) 1#32 128#32))
            0#32))
        (IntOp.addi
          (IntOp.remsi ArithUnit.vector (BitVec.ofNat 32 k.val)
            (Scalar.select (Scalar.cmpi CmpIPredicate.eq 128#32 0#32) 1#32 128#32))
          (Scalar.select (Scalar.cmpi CmpIPredicate.eq 128#32 0#32) 1#32 128#32))
        (IntOp.remsi ArithUnit.vector (BitVec.ofNat 32 k.val)
          (Scalar.select (Scalar.cmpi CmpIPredicate.eq 128#32 0#32) 1#32 128#32)))
      (BitVec.ofNat 32 e.val)
    = if k.val % 128 = e.val then 1#1 else 0#1 := by
  decide +kernel

/-- The selection matrix: one where the row modulo 128 is the point's expert, zero elsewhere. -/
theorem mask_apply (i : grid0.Coords) (k : Fin 256) (f : Fin 512) :
    k0_pay8 i (ix2 k f) = if k.val % 128 = (i 1).val then 1#1 else 0#1 := by
  have h := mask_word k (i 1)
  pointwise [k0_pay8]
  exact h

/-- A sum over 128 lanes of which the selection keeps one. -/
theorem sum_select (e : Fin 16) (g : Fin 128 → EReal) :
    (∑ k : Fin 128, if k.val = e.val then g k else 0) = g ⟨e.val, by omega⟩ := by
  rw [Finset.sum_eq_single (⟨e.val, by omega⟩ : Fin 128)]
  · rw [if_pos rfl]
  · intro k _ hk
    rw [if_neg (fun h => hk (Fin.ext h))]
  · intro h; exact absurd (Finset.mem_univ _) h

/-- A finite value and the rest its rounding leaves add up to the value. -/
theorem add_sub_self_of_finite {g : EReal} (h₁ : g ≠ ⊤) (h₂ : g ≠ ⊥) : g + (g - g) = g := by
  rw [EReal.sub_self h₁ h₂, add_zero]

/-- One point's contribution to the accumulator at row `r` and column `d`: expert `e`'s gated hidden row times its
    down weights. -/
def contrib (h : Vec Ideal S1024x1024 .bf16) (g : Vec Ideal S1024x128 .f32) (wg wu : Vec Ideal S1x1024x512 .bf16)
    (wd : Vec Ideal S1x512x1024 .bf16) (e : Fin 16) (r d : Fin 1024) : EReal :=
  ∑ f : Fin 512,
    (∑ k : Fin 1024, h (ix2 r k) * wg (ix3 0 k f)) * Ideal.logistic (∑ k : Fin 1024, h (ix2 r k) * wg (ix3 0 k f))
      * (∑ k : Fin 1024, h (ix2 r k) * wu (ix3 0 k f)) * g (ix2 r ⟨e.val, by omega⟩) * wd (ix3 0 f d)

/-- The step of the accumulator at an index: what it held plus the point's contribution, the row's gate being finite. -/
theorem step_apply (i : grid0.Coords) (h : Vec Ideal S1024x1024 .bf16) (g : Vec Ideal S1024x128 .f32)
    (wg wu : Vec Ideal S1x1024x512 .bf16) (wd : Vec Ideal S1x512x1024 .bf16) (acc : Vec Ideal S1024x1024 .f32)
    (r d : Fin 1024) (hg : ∀ l : Fin 128, g (ix2 r l) ≠ ⊤ ∧ g (ix2 r l) ≠ ⊥) :
    k0_pay1 (k0_pay4 h wg) (k0_pay5 h wu) (k0_pay6 g) (k0_pay7 g) (k0_pay8 i) (Scalar.ofBits .f32 0x00000000#32)
      (k0_pay9 (F := Ideal)) acc wd (ix2 r d)
    = acc (ix2 r d) + contrib h g wg wu wd (i 1) r d := by
  have e16 : (i 1).val < 16 := (i 1).isLt
  pointwise [k0_pay1, k0_pay9, k0_pay6, k0_pay7]
  simp only [mask_apply, proj_gate_apply, proj_up_apply, contrib]
  congr 1
  refine Finset.sum_congr rfl fun f _ => ?_
  have s1 : ∀ k : Fin 128, (k.val % 128 = (i 1).val) = (k.val = (i 1).val) := fun k => by
    rw [Nat.mod_eq_of_lt k.isLt]
  have s2 : ∀ k : Fin 128, ((128 + k.val) % 128 = (i 1).val) = (k.val = (i 1).val) := fun k => by
    rw [Nat.add_mod_left, Nat.mod_eq_of_lt k.isLt]
  have sel : ∀ (p : Prop) [Decidable p] (x : EReal), Scalar.select (if p then 1#1 else 0#1) x 0 = if p then x else 0 := by
    intro p _ x; split <;> rfl
  simp only [s1, s2, sel]
  have q1 := sum_select (i 1) fun k => g (ix2 r k)
  have q2 := sum_select (i 1) fun k => g (ix2 r k) - g (ix2 r k)
  rw [q1, q2, add_sub_self_of_finite (hg _).1 (hg _).2]

/-- The last step: the residual plus the sixth modulation row times the accumulator. -/
theorem close_apply (x : Vec Ideal S1024x1024 .f32) (mo : Vec Ideal S1x6x1024 .f32) (a : Vec Ideal S1024x1024 .f32)
    (r d : Fin 1024) : k0_pay2 x mo a (ix2 r d) = x (ix2 r d) + mo (ix3 0 5 d) * a (ix2 r d) := by
  pointwise [k0_pay2]

/-- The reset stores zeros. -/
theorem reset_apply (r d : Fin 1024) : k0_pay3 (F := Ideal) (ix2 r d) = 0 := by
  pointwise [k0_pay3]

end Cert.MoeIdeal.Hand
-- ==== Proof.Moe.Cases.lean ====
/-
  What each case of the mixture-of-experts kernel leaves in the accumulator, and what the last case leaves in the
  output block, as the kernel's own pure values of the point's input blocks.
-/
module

public import proofs.«01_k».proof.Proof.Gen.MoeIdeal.Frame
public import Idealize.ShloMosaic.Lib.Pipeline.Value
public import Idealize.ShloMosaic.Lib.Tactic

@[expose] public section

set_option maxRecDepth 16384

noncomputable section

namespace Cert.MoeIdeal.Hand

open Cert.MoeIdeal Cert.MoeIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator after a point that found `acc` in it. -/
abbrev stepOf (i : grid0.Coords) (x0 : Vec F S1024x1024 .bf16) (x1 : Vec F S1024x128 .f32) (x4 x5 : Vec F S1x1024x512 .bf16)
    (x6 : Vec F S1x512x1024 .bf16) (acc : Vec F S1024x1024 .f32) : Vec F S1024x1024 .f32 :=
  k0_pay1 (k0_pay4 x0 x4) (k0_pay5 x0 x5) (k0_pay6 x1) (k0_pay7 x1) (k0_pay8 i) (Scalar.ofBits .f32 0x00000000#32)
    (k0_pay9 (F := F)) acc x6

variable (c : Dev nD) (i : grid0.Coords) (a2 : Memref sig .tc .vmem S1024x1024 .bf16) (h2 : a2.IsWhole)
  (a3 : Memref sig .tc .vmem S1024x128 .f32) (h3 : a3.IsWhole) (a4 : Memref sig .tc .vmem S1024x1024 .f32) (h4 : a4.IsWhole)
  (a5 : Memref sig .tc .vmem S1x6x1024 .f32) (h5 : a5.IsWhole) (a6 : Memref sig .tc .vmem S1x1024x512 .bf16) (h6 : a6.IsWhole)
  (a7 : Memref sig .tc .vmem S1x1024x512 .bf16) (h7 : a7.IsWhole) (a8 : Memref sig .tc .vmem S1x512x1024 .bf16) (h8 : a8.IsWhole)
  (a9 : Memref sig .tc .vmem S1024x1024 .f32) (h9 : a9.IsWhole) (a10 : Memref sig .tc .vmem S1024x1024 .f32) (h10 : a10.IsWhole)
  (x0 : Vec F S1024x1024 .bf16) (x1 : Vec F S1024x128 .f32) (x2 : Vec F S1024x1024 .f32) (x3 : Vec F S1x6x1024 .f32)
  (x4 : Vec F S1x1024x512 .bf16) (x5 : Vec F S1x1024x512 .bf16) (x6 : Vec F S1x512x1024 .bf16) (xs : Vec F S1024x1024 .f32)

/-- The first expert's point: the accumulator is reset and takes one step. -/
theorem scratch_first (hc0 : cond0_0 i) (hc1 : ¬cond0_1 i) :
    sout0_A_0 c i a2 h2 a3 h3 a4 h4 a5 h5 a6 h6 a7 h7 a8 h8 a9 h9 a10 h10 hc0 hc1 x0 x1 x2 x3 x4 x5 x6
      = stepOf i x0 x1 x4 x5 x6 (k0_pay3 (F := F)) := by
  unfold sout0_A_0
  rw [View.read_writes_eq_canon _ _ _ (scover0_A_0 c i a2 h2 a3 h3 a4 h4 a5 h5 a6 h6 a7 h7 a8 h8 a9 h9 a10 h10 hc0 hc1 x0 x1 x2 x3 x4 x5 x6)]
  unfold kernelRun0_A
  dsimp only
  sl_unfold_words
  rw [View.canon_cons_unit_zero (S := S1024x1024) hz2, View.readCov_unit_zero (S := S1024x1024) _ hz2]
  simp only [View.readAt_eq_ld, h2.read_unread, h3.read_unread, h6.read_unread, h7.read_unread, h8.read_unread,
    View.ld_unit_zero (S := S1024x1024) hz2, View.ld_unit_zero (S := S1024x128) hz2, View.ld_unit_zero (S := S1x1024x512) hz3,
    View.ld_unit_zero (S := S1x512x1024) hz3]

/-- A middle expert's point: one step. -/
theorem scratch_middle (hc0 : ¬cond0_0 i) (hc1 : ¬cond0_1 i) :
    sout0_B_0 c i a2 h2 a3 h3 a4 h4 a5 h5 a6 h6 a7 h7 a8 h8 a9 h9 a10 h10 hc0 hc1 x0 x1 x2 x3 x4 x5 x6 xs
      = stepOf i x0 x1 x4 x5 x6 xs := by
  unfold sout0_B_0
  rw [View.read_writes_eq_canon _ _ _ (scover0_B_0 c i a2 h2 a3 h3 a4 h4 a5 h5 a6 h6 a7 h7 a8 h8 a9 h9 a10 h10 hc0 hc1 x0 x1 x2 x3 x4 x5 x6 xs)]
  unfold kernelRun0_B
  dsimp only
  sl_unfold_words
  rw [View.canon_unit_zero hz2]
  simp only [View.readAt_eq_ld, h2.read_unread, h3.read_unread, h6.read_unread, h7.read_unread, h8.read_unread, h10.read_unread,
    View.ld_unit_zero (S := S1024x1024) hz2, View.ld_unit_zero (S := S1024x128) hz2, View.ld_unit_zero (S := S1x1024x512) hz3,
    View.ld_unit_zero (S := S1x512x1024) hz3]

/-- The last expert's point stores the residual plus the modulated accumulator after its own step. -/
theorem out_last (hc0 : ¬cond0_0 i) (hc1 : cond0_1 i) :
    out0_C_7 c i a2 h2 a3 h3 a4 h4 a5 h5 a6 h6 a7 h7 a8 h8 a9 h9 a10 h10 hc0 hc1 x0 x1 x2 x3 x4 x5 x6 xs
      = k0_pay2 x2 x3 (stepOf i x0 x1 x4 x5 x6 xs) := by
  unfold out0_C_7
  rw [View.read_writes_eq_canon _ _ _ (cover0_C_7 c i a2 h2 a3 h3 a4 h4 a5 h5 a6 h6 a7 h7 a8 h8 a9 h9 a10 h10 hc0 hc1 x0 x1 x2 x3 x4 x5 x6 xs)]
  unfold kernelRun0_C
  dsimp only
  sl_unfold_words
  rw [View.canon_unit_zero hz2]
  simp only [View.readAt_eq_ld, View.readCov_unit_zero (S := S1024x1024) _ hz2, h2.read_unread, h3.read_unread, h4.read_unread, h5.read_unread, h6.read_unread, h7.read_unread, h8.read_unread, h10.read_unread,
    View.ld_unit_zero (S := S1024x1024) hz2, View.ld_unit_zero (S := S1024x128) hz2, View.ld_unit_zero (S := S1x1024x512) hz3,
    View.ld_unit_zero (S := S1x512x1024) hz3, View.ld_unit_zero (S := S1x6x1024) hz3]

end Cert.MoeIdeal.Hand
-- ==== Proof.Moe.Blocks.lean ====
/-
  The blocks the mixture-of-experts kernel reads at a grid point, as entries of the argument arrays.
-/
module

public import proofs.«01_k».proof.Proof.Gen.MoeIdeal.Frame
public import Idealize.ShloMosaic.Lib.Pipeline.Value
public import Idealize.ShloMosaic.Lib.StableHlo.Run
public import Idealize.ShloMosaic.Lib.Pointwise
public import Idealize.ShloMosaic.Lib.Tactic

@[expose] public section

set_option maxRecDepth 16384

noncomputable section

namespace Cert.MoeIdeal.Hand

open Cert.MoeIdeal Cert.MoeIdeal.Gen Idealize.ShloMosaic Idealize.ShloMosaic.TcCoe Idealize.SL.Sem

variable (m : (ℓ : Loc nD τ sig) → Buf (Elt Ideal) ℓ)

/-- The seven argument arrays: hidden rows, gates, residual, modulation, gate weights, up weights, down weights. -/
abbrev hidden (c : Dev nD) : FVec Ideal S32768x1024 .bf16 := m ((c : Thread nD τ).loc main_arg0)
abbrev gates (c : Dev nD) : FVec Ideal S32768x128 .f32 := m ((c : Thread nD τ).loc main_arg1)
abbrev resid (c : Dev nD) : FVec Ideal S32768x1024 .f32 := m ((c : Thread nD τ).loc main_arg2)
abbrev modul (c : Dev nD) : FVec Ideal S2x6x1024 .f32 := m ((c : Thread nD τ).loc main_arg3)
abbrev wGate (c : Dev nD) : FVec Ideal S16x1024x512 .f32 := m ((c : Thread nD τ).loc main_arg4)
abbrev wUp (c : Dev nD) : FVec Ideal S16x1024x512 .f32 := m ((c : Thread nD τ).loc main_arg5)
abbrev wDown (c : Dev nD) : FVec Ideal S16x512x1024 .f32 := m ((c : Thread nD τ).loc main_arg6)

/-- The host rounds the three weights, which changes nothing over the extended reals. -/
theorem weights_v0 (c : Dev nD) : V m c main_v0 = wGate m c := by
  unfold V
  after_results <;> rfl
theorem weights_v1 (c : Dev nD) : V m c main_v1 = wUp m c := by
  unfold V
  after_results <;> rfl
theorem weights_v2 (c : Dev nD) : V m c main_v2 = wDown m c := by
  unfold V
  after_results <;> rfl

/-- Where each window's block lies at point `t`: row block `t / 16`, expert `t % 16`, batch `t / 256`. -/
theorem place : ∀ t : Fin cfg0.N,
    (win0_0.index t (0 : Fin 2) = t.val / 16 ∧ win0_0.index t (1 : Fin 2) = 0)
    ∧ (win0_1.index t (0 : Fin 2) = t.val / 16 ∧ win0_1.index t (1 : Fin 2) = 0)
    ∧ (win0_2.index t (0 : Fin 2) = t.val / 16 ∧ win0_2.index t (1 : Fin 2) = 0)
    ∧ (win0_3.index t (0 : Fin 3) = t.val / 256 ∧ win0_3.index t (1 : Fin 3) = 0 ∧ win0_3.index t (2 : Fin 3) = 0)
    ∧ (win0_4.index t (0 : Fin 3) = t.val % 16 ∧ win0_4.index t (1 : Fin 3) = 0 ∧ win0_4.index t (2 : Fin 3) = 0)
    ∧ (win0_5.index t (0 : Fin 3) = t.val % 16 ∧ win0_5.index t (1 : Fin 3) = 0 ∧ win0_5.index t (2 : Fin 3) = 0)
    ∧ (win0_6.index t (0 : Fin 3) = t.val % 16 ∧ win0_6.index t (1 : Fin 3) = 0 ∧ win0_6.index t (2 : Fin 3) = 0)
    ∧ ((grid0.coords t) 1).val = t.val % 16 :=
  (by decide +kernel : ∀ t : Fin grid0.N, _)

theorem t_lt (t : Fin cfg0.N) : t.val < 512 := lt_of_lt_of_eq t.isLt (show cfg0.N = 512 from N_0)

/-- Row `r` of the point's row block, as a row of the whole array. -/
abbrev rowOf (t : Fin cfg0.N) (r : Fin 1024) : Fin 32768 := ⟨t.val / 16 * 1024 + r.val, by have := t_lt t; omega⟩
/-- The point's expert. -/
abbrev expertOf (t : Fin cfg0.N) : Fin 16 := ⟨t.val % 16, by omega⟩
/-- The point's batch member. -/
abbrev batchOf (t : Fin cfg0.N) : Fin 2 := ⟨t.val / 256, by have := t_lt t; omega⟩

theorem hidden_block (c : Dev nD) (t : Fin cfg0.N) (r k : Fin 1024) :
    (iblk m c 0 t : Vec Ideal S1024x1024 .bf16) (ix2 r k) = hidden m c (ix2 (rowOf t r) k) := by
  obtain ⟨⟨p, q⟩, -⟩ := place t
  unfold iblk
  rw [View.read_apply]
  show V m c main_arg0 _ = _
  rw [V_main_arg0]
  unfold hidden
  congr 1
  funext a
  apply Fin.ext
  match a with
  | ⟨0, _⟩ => show win0_0.index t 0 * 1024 + 1 * r.val = t.val / 16 * 1024 + r.val; rw [p, Nat.one_mul]
  | ⟨1, _⟩ => show win0_0.index t 1 * 1024 + 1 * k.val = k.val; rw [q]; omega

theorem gates_block (c : Dev nD) (t : Fin cfg0.N) (r : Fin 1024) (l : Fin 128) :
    (iblk m c 1 t : Vec Ideal S1024x128 .f32) (ix2 r l) = gates m c (ix2 (rowOf t r) l) := by
  obtain ⟨-, ⟨p, q⟩, -⟩ := place t
  unfold iblk
  rw [View.read_apply]
  show V m c main_arg1 _ = _
  rw [V_main_arg1]
  unfold gates
  congr 1
  funext a
  apply Fin.ext
  match a with
  | ⟨0, _⟩ => show win0_1.index t 0 * 1024 + 1 * r.val = t.val / 16 * 1024 + r.val; rw [p, Nat.one_mul]
  | ⟨1, _⟩ => show win0_1.index t 1 * 128 + 1 * l.val = l.val; rw [q]; omega

theorem resid_block (c : Dev nD) (t : Fin cfg0.N) (r k : Fin 1024) :
    (iblk m c 2 t : Vec Ideal S1024x1024 .f32) (ix2 r k) = resid m c (ix2 (rowOf t r) k) := by
  obtain ⟨-, -, ⟨p, q⟩, -⟩ := place t
  unfold iblk
  rw [View.read_apply]
  show V m c main_arg2 _ = _
  rw [V_main_arg2]
  unfold resid
  congr 1
  funext a
  apply Fin.ext
  match a with
  | ⟨0, _⟩ => show win0_2.index t 0 * 1024 + 1 * r.val = t.val / 16 * 1024 + r.val; rw [p, Nat.one_mul]
  | ⟨1, _⟩ => show win0_2.index t 1 * 1024 + 1 * k.val = k.val; rw [q]; omega

theorem modul_block (c : Dev nD) (t : Fin cfg0.N) (j : Fin 6) (k : Fin 1024) :
    (iblk m c 3 t : Vec Ideal S1x6x1024 .f32) (ix3 0 j k) = modul m c (ix3 (batchOf t) j k) := by
  obtain ⟨-, -, -, ⟨p, q, s⟩, -⟩ := place t
  unfold iblk
  rw [View.read_apply]
  show V m c main_arg3 _ = _
  rw [V_main_arg3]
  unfold modul
  congr 1
  funext a
  apply Fin.ext
  match a with
  | ⟨0, _⟩ => show win0_3.index t 0 * 1 + 1 * 0 = t.val / 256; rw [p]; omega
  | ⟨1, _⟩ => show win0_3.index t 1 * 6 + 1 * j.val = j.val; rw [q]; omega
  | ⟨2, _⟩ => show win0_3.index t 2 * 1024 + 1 * k.val = k.val; rw [s]; omega

theorem wGate_block (c : Dev nD) (t : Fin cfg0.N) (k : Fin 1024) (f : Fin 512) :
    (iblk m c 4 t : Vec Ideal S1x1024x512 .bf16) (ix3 0 k f) = wGate m c (ix3 (expertOf t) k f) := by
  obtain ⟨-, -, -, -, ⟨p, q, s⟩, -⟩ := place t
  unfold iblk
  rw [View.read_apply]
  show V m c main_v0 _ = _
  rw [weights_v0]
  unfold wGate
  congr 1
  funext a
  apply Fin.ext
  match a with
  | ⟨0, _⟩ => show win0_4.index t 0 * 1 + 1 * 0 = t.val % 16; rw [p]; omega
  | ⟨1, _⟩ => show win0_4.index t 1 * 1024 + 1 * k.val = k.val; rw [q]; omega
  | ⟨2, _⟩ => show win0_4.index t 2 * 512 + 1 * f.val = f.val; rw [s]; omega

theorem wUp_block (c : Dev nD) (t : Fin cfg0.N) (k : Fin 1024) (f : Fin 512) :
    (iblk m c 5 t : Vec Ideal S1x1024x512 .bf16) (ix3 0 k f) = wUp m c (ix3 (expertOf t) k f) := by
  obtain ⟨-, -, -, -, -, ⟨p, q, s⟩, -⟩ := place t
  unfold iblk
  rw [View.read_apply]
  show V m c main_v1 _ = _
  rw [weights_v1]
  unfold wUp
  congr 1
  funext a
  apply Fin.ext
  match a with
  | ⟨0, _⟩ => show win0_5.index t 0 * 1 + 1 * 0 = t.val % 16; rw [p]; omega
  | ⟨1, _⟩ => show win0_5.index t 1 * 1024 + 1 * k.val = k.val; rw [q]; omega
  | ⟨2, _⟩ => show win0_5.index t 2 * 512 + 1 * f.val = f.val; rw [s]; omega

theorem wDown_block (c : Dev nD) (t : Fin cfg0.N) (f : Fin 512) (d : Fin 1024) :
    (iblk m c 6 t : Vec Ideal S1x512x1024 .bf16) (ix3 0 f d) = wDown m c (ix3 (expertOf t) f d) := by
  obtain ⟨-, -, -, -, -, -, ⟨p, q, s⟩, -⟩ := place t
  unfold iblk
  rw [View.read_apply]
  show V m c main_v2 _ = _
  rw [weights_v2]
  unfold wDown
  congr 1
  funext a
  apply Fin.ext
  match a with
  | ⟨0, _⟩ => show win0_6.index t 0 * 1 + 1 * 0 = t.val % 16; rw [p]; omega
  | ⟨1, _⟩ => show win0_6.index t 1 * 512 + 1 * f.val = f.val; rw [q]; omega
  | ⟨2, _⟩ => show win0_6.index t 2 * 1024 + 1 * d.val = d.val; rw [s]; omega

end Cert.MoeIdeal.Hand
-- ==== Proof.Moe.Value.lean ====
/-
  What the mixture-of-experts kernel leaves in its result, at an index: the accumulator after each point is the sum of
  the experts so far, and the last expert's point stores the residual plus the modulated sum.
-/
module

public import proofs.«01_k».proof.Proof.Moe.Step
public import proofs.«01_k».proof.Proof.Moe.Cases
public import proofs.«01_k».proof.Proof.Moe.Blocks
public import proofs.«01_k».proof.Proof.Gen.MoeIdeal.Value

@[expose] public section

set_option maxRecDepth 16384

noncomputable section

namespace Cert.MoeIdeal.Hand

open Cert.MoeIdeal Cert.MoeIdeal.Gen Cert.MoeIdeal.Value Idealize.ShloMosaic Idealize.ShloMosaic.TcCoe Idealize.SL.Sem

variable (m : (ℓ : Loc nD τ sig) → Buf (Elt Ideal) ℓ)

/-- Every gate is a finite number. -/
def GatesFinite (c : Dev nD) : Prop := ∀ (R : Fin 32768) (l : Fin 128), gates m c (ix2 R l) ≠ ⊤ ∧ gates m c (ix2 R l) ≠ ⊥

/-- Expert `e`'s part of row `R`'s result at column `d`. -/
def part (c : Dev nD) (e : Fin 16) (R : Fin 32768) (d : Fin 1024) : EReal :=
  ∑ f : Fin 512,
    (∑ k : Fin 1024, hidden m c (ix2 R k) * wGate m c (ix3 e k f))
      * Ideal.logistic (∑ k : Fin 1024, hidden m c (ix2 R k) * wGate m c (ix3 e k f))
      * (∑ k : Fin 1024, hidden m c (ix2 R k) * wUp m c (ix3 e k f)) * gates m c (ix2 R ⟨e.val, by omega⟩)
      * wDown m c (ix3 e f d)

/-- The part of the expert with a natural number, zero past the last. -/
def partN (c : Dev nD) (s : ℕ) (R : Fin 32768) (d : Fin 1024) : EReal := if h : s < 16 then part m c ⟨s, h⟩ R d else 0

/-- A point's step of the accumulator, over the arrays. -/
theorem step_point (c : Dev nD) (hg : GatesFinite m c) (t : Fin cfg0.N) (acc : Vec Ideal S1024x1024 .f32) (r d : Fin 1024) :
    stepOf (F := Ideal) (grid0.coords t) (iblk m c 0 t) (iblk m c 1 t) (iblk m c 4 t) (iblk m c 5 t) (iblk m c 6 t) acc (ix2 r d)
      = acc (ix2 r d) + partN m c (t.val % 16) (rowOf t r) d := by
  have he : (grid0.coords t) 1 = expertOf t := Fin.ext (place t).2.2.2.2.2.2.2
  refine (step_apply _ _ _ _ _ _ _ r d fun l => ?_).trans ?_
  · rw [gates_block]; exact hg _ _
  · unfold partN
    rw [dif_pos (Nat.mod_lt _ (by decide))]
    unfold contrib part
    simp only [he, hidden_block, gates_block, wGate_block, wUp_block, wDown_block]

/-- The accumulator after a point that is not a row block's last: the sum of the experts up to the point's. -/
theorem carried (c : Dev nD) (hg : GatesFinite m c) (r d : Fin 1024) : ∀ (n : ℕ) (hn : n < cfg0.N), n % 16 ≠ 15 →
    (outsAt0 m c n hn).2 (ix2 r d)
      = ∑ s ∈ Finset.range (n % 16 + 1), partN m c s (rowOf ⟨n, hn⟩ r) d := by
  have first : ∀ (n : ℕ) (hn : n < cfg0.N), n % 16 = 0 →
      (outsAt0 m c n hn).2 (ix2 r d) = ∑ s ∈ Finset.range (n % 16 + 1), partN m c s (rowOf ⟨n, hn⟩ r) d := by
    intro n hn h0
    rw [outsAt0_A m c ⟨n, hn⟩ h0 (by show ¬ n % 16 = 15; omega)]
    dsimp only
    rw [scratch_first, step_point m c hg ⟨n, hn⟩, reset_apply, zero_add]
    show partN m c (n % 16) _ d = _
    rw [h0, Finset.sum_range_one]
  intro n
  induction n with
  | zero => intro hn _; exact first 0 hn rfl
  | succ n ih =>
    intro hn h15
    by_cases h0 : (n + 1) % 16 = 0
    · exact first _ hn h0
    · have hp : n % 16 + 1 = (n + 1) % 16 := by omega
      rw [outsAt0_B m c ⟨n + 1, hn⟩ h0 h15]
      dsimp only
      rw [scratch_middle, step_point m c hg ⟨n + 1, hn⟩]
      have hI := ih (Nat.lt_of_succ_lt hn) (by omega)
      have hrow : rowOf ⟨n, Nat.lt_of_succ_lt hn⟩ r = rowOf ⟨n + 1, hn⟩ r := by
        apply Fin.ext
        show n / 16 * 1024 + r.val = (n + 1) / 16 * 1024 + r.val
        rw [show n / 16 = (n + 1) / 16 by omega]
      rw [hp, hrow] at hI
      rw [Finset.sum_range_succ, ← hI]
      rfl

/-- What the kernel's result holds: the residual plus the modulated sum of all experts. -/
theorem result_apply (c : Dev nD) (hg : GatesFinite m c) (R : Fin 32768) (d : Fin 1024) :
    G7 m c (ix2 R d) = resid m c (ix2 R d) + modul m c (ix3 ⟨R.val / 16384, by omega⟩ 5 d) * ∑ e : Fin 16, part m c e R d := by
  have hN : cfg0.N = 512 := N_0
  have hR := R.isLt
  have hd := d.isLt
  have hp : pt7Of (ix2 R d) = 16 * (R.val / 1024) + 15 := by
    show 16 * (1 * (R.val / 1024 - 0) + 1 * (d.val / 1024 - 0)) + 15 = _
    omega
  have hlt : 16 * (R.val / 1024) + 15 < cfg0.N := by rw [hN]; omega
  unfold G7
  rw [dif_pos (by rw [hp]; exact hlt), fold0_congr m c _ _ _ (by omega) hp, ← outsAt0_sweep m c _ hlt,
    outsAt0_C m c ⟨_, hlt⟩ (by dsimp only; omega) (by dsimp only; omega)]
  dsimp only
  rw [out_last]
  have hl : loc7Of (ix2 R d) = ix2 (⟨R.val % 1024, by omega⟩ : Fin 1024) d := by
    funext a; apply Fin.ext
    match a with
    | ⟨0, _⟩ => rfl
    | ⟨1, _⟩ => show d.val % 1024 = d.val; omega
  have hrow : rowOf ⟨16 * (R.val / 1024) + 15, hlt⟩ ⟨R.val % 1024, by omega⟩ = R := by
    apply Fin.ext
    show (16 * (R.val / 1024) + 15) / 16 * 1024 + R.val % 1024 = R.val
    omega
  have hbatch : batchOf ⟨16 * (R.val / 1024) + 15, hlt⟩ = ⟨R.val / 16384, by omega⟩ := by
    apply Fin.ext
    show (16 * (R.val / 1024) + 15) / 256 = R.val / 16384
    omega
  rw [hl]
  refine (close_apply _ _ _ _ _).trans ?_
  rw [resid_block, modul_block, step_point m c hg ⟨_, hlt⟩, hrow, hbatch]
  have hI := carried m c hg ⟨R.val % 1024, by omega⟩ d (16 * (R.val / 1024) + 14) (by omega) (by omega)
  have hrow' : rowOf ⟨16 * (R.val / 1024) + 14, by omega⟩ ⟨R.val % 1024, by omega⟩ = R := by
    apply Fin.ext
    show (16 * (R.val / 1024) + 14) / 16 * 1024 + R.val % 1024 = R.val
    omega
  rw [hrow', show (16 * (R.val / 1024) + 14) % 16 + 1 = 15 by omega] at hI
  have hm : (⟨16 * (R.val / 1024) + 15, hlt⟩ : Fin cfg0.N).val % 16 = 15 := by dsimp only; omega
  rw [hm]
  have hs : (outsAt0 m c (16 * (R.val / 1024) + 15 - 1) (by omega)).2 (ix2 (⟨R.val % 1024, by omega⟩ : Fin 1024) d)
      = ∑ s ∈ Finset.range 15, partN m c s R d := hI
  rw [hs, ← Finset.sum_range_succ, ← Fin.sum_univ_eq_sum_range (fun s => partN m c s R d) 16]
  congr 2

end Cert.MoeIdeal.Hand
-- ==== Proof.Moe.RefValue.lean ====
/-
  The plain mixture of experts read at an index over the extended reals: the residual plus the sixth modulation row
  times the sum over experts and hidden columns.
-/
module

public import proofs.«01_k».proof.Proof.Gen.MoeRefIdeal.Run
public import Idealize.ShloMosaic.Lib.Pointwise

@[expose] public section

set_option maxRecDepth 16384

noncomputable section

namespace Cert.MoeRefIdeal.Hand

open Cert.MoeRefIdeal Cert.MoeRefIdeal.Gen Idealize.ShloMosaic Idealize.SL.Sem

/-- The reference's result as a function of its arguments. -/
def moe (h : FVec Ideal S32768x1024 .bf16) (g : FVec Ideal S32768x128 .f32) (x : FVec Ideal S32768x1024 .f32)
    (mo : FVec Ideal S2x6x1024 .f32) (wg wu : FVec Ideal S16x1024x512 .f32) (wd : FVec Ideal S16x512x1024 .f32) :
    FVec Ideal S32768x1024 .f32 :=
  shapeCast _ (addf (shapeCast _ x shapeCasts_S32768x1024_S2x16384x1024) (mulf (broadcastInDim S2x16384x1024 ![0, 1, 2] bcast_S2x1x1024_S2x16384x1024_0_1_2 (extractStridedSlice S2x1x1024 ![0, 5, 0] mo slices_S2x6x1024_S2x1x1024_0_5_0)) (Host.dotGeneral dot_S2x16384x16x512_S16x512x1024_S2x16384x1024_23_01_01_2_n_n none (mulf (mulf (mulf (Host.dotGeneral dot_S2x16384x1024_S16x1024x512_S2x16384x16x512_2_1_01_02_n_n none (shapeCast _ (extf .f32 h bitsLt_bf16_f32) shapeCasts_S32768x1024_S2x16384x1024) wg) (Host.divf (broadcastInDim S2x16384x16x512 ![] bcast_S_S2x16384x16x512 (constant S_ .f32 0x3F800000#32)) (addf (broadcastInDim S2x16384x16x512 ![] bcast_S_S2x16384x16x512 (constant S_ .f32 0x3F800000#32)) (Host.exp (Host.negf (Host.dotGeneral dot_S2x16384x1024_S16x1024x512_S2x16384x16x512_2_1_01_02_n_n none (shapeCast _ (extf .f32 h bitsLt_bf16_f32) shapeCasts_S32768x1024_S2x16384x1024) wg)))))) (Host.dotGeneral dot_S2x16384x1024_S16x1024x512_S2x16384x16x512_2_1_01_02_n_n none (shapeCast _ (extf .f32 h bitsLt_bf16_f32) shapeCasts_S32768x1024_S2x16384x1024) wu)) (broadcastInDim S2x16384x16x512 ![0, 1, 2, 3] bcast_S2x16384x16x1_S2x16384x16x512_0_1_2_3 (broadcastInDim S2x16384x16x1 ![0, 1, 2] bcast_S2x16384x16_S2x16384x16x1_0_1_2 (shapeCast _ (extractStridedSlice S32768x16 ![0, 0] g slices_S32768x128_S32768x16_0_0) shapeCasts_S32768x16_S2x16384x16)))) wd))) shapeCasts_S2x16384x1024_S32768x1024

/-- Expert `e`'s part of a row's result at column `d`: its gated hidden row times its down weights. -/
def part (h : FVec Ideal S32768x1024 .bf16) (g : FVec Ideal S32768x128 .f32) (wg wu : FVec Ideal S16x1024x512 .f32)
    (wd : FVec Ideal S16x512x1024 .f32) (e : Fin 16) (R : Fin 32768) (d : Fin 1024) : EReal :=
  ∑ f : Fin 512,
    (∑ k : Fin 1024, h (ix2 R k) * wg (ix3 e k f)) * Ideal.logistic (∑ k : Fin 1024, h (ix2 R k) * wg (ix3 e k f))
      * (∑ k : Fin 1024, h (ix2 R k) * wu (ix3 e k f)) * g (ix2 R ⟨e.val, by omega⟩) * wd (ix3 e f d)

theorem moe_apply (h : FVec Ideal S32768x1024 .bf16) (g : FVec Ideal S32768x128 .f32) (x : FVec Ideal S32768x1024 .f32)
    (mo : FVec Ideal S2x6x1024 .f32) (wg wu : FVec Ideal S16x1024x512 .f32) (wd : FVec Ideal S16x512x1024 .f32)
    (R : Fin 32768) (d : Fin 1024) :
    moe h g x mo wg wu wd (ix2 R d)
      = x (ix2 R d) + mo (ix3 ⟨R.val / 16384, by omega⟩ 5 d) * ∑ e : Fin 16, part h g wg wu wd e R d := by
  pointwise [moe]
  rfl

end Cert.MoeRefIdeal.Hand
-- ==== Proof.Moe.Finite.lean ====
/-
  The precondition read: every gate's absolute value lies below infinity, so every gate is a finite number.
-/
module

public import proofs.«01_k».proof.Defs
public import proofs.«01_k».proof.Proof.Moe.Value
public import proofs.«01_k».proof.Proof.Gen.Pre_moe_gates_finite
public import Idealize.ShloMosaic.Lib.ReduceAll

@[expose] public section

set_option maxRecDepth 16384

noncomputable section

namespace Cert.MoeIdeal.Hand

open Idealize.ShloMosaic Idealize.ShloMosaic.TcCoe Idealize.SL.Sem

/-- The word of positive infinity denotes the top of the extended reals. -/
theorem inf_word : Ideal.ofBits .f32 0x7F800000#32 = ⊤ := by
  simp [Ideal.ofBits, Ideal.ieee]

/-- An extended real whose absolute value compares below infinity is finite. -/
theorem finite_of_abs_lt {x : EReal} (h : Ideal.cmp .olt (max x (-x)) ⊤ = 1#1) : x ≠ ⊤ ∧ x ≠ ⊥ := by
  constructor <;> rintro rfl <;> simp [Ideal.cmp] at h

theorem gatesFinite_of_pre (m : (ℓ : Loc Cert.MoeIdeal.nD Cert.MoeIdeal.τ Cert.MoeIdeal.sig) → Buf (Elt Ideal) ℓ)
    (h : Cert.Pre_MoeIdeal_moe_gates_finite m) (c : Dev Cert.MoeIdeal.nD) : GatesFinite m c := by
  intro R l
  have e := congrFun (h c) ValueIdx.ix0
  unfold Cert.Pre_moe_gates_finite.fn at e
  dsimp only at e
  haveI : Subsingleton Cert.Pre_moe_gates_finite.S_.Idx := ⟨fun a b => funext fun i => i.elim0⟩
  have q := Host.reduce_andi_all _ _ _ _ _ e (ix2 R l)
  apply finite_of_abs_lt
  rw [← inf_word]
  exact q

end Cert.MoeIdeal.Hand
-- ==== Proof.Common.lean ====
/-
  Expressions over the extended reals that several calls share.
-/
module

public import Idealize.ShloMosaic.Lib.Pointwise

@[expose] public section

set_option maxRecDepth 16384

noncomputable section

namespace Cert.Hand

open Idealize.ShloMosaic

/-- A row's root mean square normalization with gains, then scaled by one plus `sc` and shifted by `sh`. -/
def normed (x g sc sh : Fin 1024 → EReal) (k : Fin 1024) : EReal :=
  x k * Ideal.rsqrt (Ideal.div (∑ k, x k * x k) (Ideal.ofBits FTy.f32 0x44800000#32) + Ideal.ofBits FTy.f32 0x358637BD#32) * g k
    * (1 + sc k) + sh k

theorem normed_congr {x x' g g' sc sc' sh sh' : Fin 1024 → EReal} (hx : ∀ k, x k = x' k) (hg : ∀ k, g k = g' k)
    (hc : ∀ k, sc k = sc' k) (hh : ∀ k, sh k = sh' k) (k : Fin 1024) : normed x g sc sh k = normed x' g' sc' sh' k := by
  rw [show x = x' from funext hx, show g = g' from funext hg, show sc = sc' from funext hc, show sh = sh' from funext hh]

/-- A row's entry normalized by the root mean square of the 64 entries of its head. -/
def headNormed (s : Fin 512 → EReal) (j : Fin 512) : EReal :=
  s j * Ideal.rsqrt (Ideal.div (∑ d : Fin 64, s ⟨j.val / 64 * 64 + d.val, by omega⟩ * s ⟨j.val / 64 * 64 + d.val, by omega⟩)
    (Ideal.ofBits FTy.f32 0x42800000#32) + Ideal.ofBits FTy.f32 0x358637BD#32)

theorem bits_64 : Ideal.ofBits FTy.f32 0x42800000#32 = ((64 : ℝ) : EReal) := by
  simp [Ideal.ofBits, Ideal.ieee]
  rw [← EReal.coe_mul]
  norm_num

theorem bits_64th : Ideal.ofBits FTy.f32 0x3C800000#32 = (((64 : ℝ)⁻¹ : ℝ) : EReal) := by
  simp [Ideal.ofBits, Ideal.ieee]
  rw [← EReal.coe_mul]
  norm_num

theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- The sum against a table that is one sixty-fourth within a head and zero elsewhere is the mean over the head. -/
theorem head_mean (f : Fin 512 → EReal) (t : Fin 512 → EReal) (j : Fin 512)
    (ht : ∀ x : Fin 512, t x = (if x.val / 64 = j.val / 64 then 1 else 0) * Ideal.ofBits FTy.f32 0x3C800000#32) :
    ∑ x, f x * t x = Ideal.div (∑ d : Fin 64, f ⟨j.val / 64 * 64 + d.val, by omega⟩) (Ideal.ofBits FTy.f32 0x42800000#32) := by
  have h64 : ((64 : ℝ) : EReal) ≠ 0 := by exact_mod_cast (by norm_num : (64 : ℝ) ≠ 0)
  rw [bits_64, Ideal.div, if_neg h64, ← EReal.coe_inv, sum_mul_real _ _ _ (by norm_num)]
  rw [← (finProdFinEquiv (m := 8) (n := 64)).sum_comp, Fintype.sum_prod_type,
    Finset.sum_eq_single (⟨j.val / 64, by omega⟩ : Fin 8)]
  · refine Finset.sum_congr rfl fun d _ => ?_
    have e : (finProdFinEquiv ((⟨j.val / 64, by omega⟩ : Fin 8), d) : Fin 512) = ⟨j.val / 64 * 64 + d.val, by omega⟩ :=
      Fin.ext (by show d.val + 64 * (j.val / 64) = j.val / 64 * 64 + d.val; omega)
    rw [e, ht, if_pos (by show (j.val / 64 * 64 + d.val) / 64 = j.val / 64; omega), one_mul, bits_64th]
  · intro a _ ha
    refine Finset.sum_eq_zero fun d _ => ?_
    rw [ht, if_neg, zero_mul, mul_zero]
    intro h
    apply ha
    apply Fin.ext
    have : (d.val + 64 * a.val) / 64 = j.val / 64 := h
    show a.val = j.val / 64
    omega
  · intro h
    exact absurd (Finset.mem_univ _) h

/-- The tanh form of gelu. -/
def gelu (y : EReal) : EReal :=
  Ideal.ofBits FTy.f32 0x3F000000#32 * y * (1 + Ideal.tanh (Ideal.ofBits FTy.f32 1061962282#32 * (y + Ideal.ofBits FTy.f32 1027024659#32 * (y * y * y))))

theorem gelu_eq (y : EReal) : y * (Ideal.ofBits FTy.f32 0x3F000000#32 * (1 + Ideal.tanh (Ideal.ofBits FTy.f32 1061962282#32
    * (y + Ideal.ofBits FTy.f32 1027024659#32 * (y * y * y))))) = gelu y := by
  unfold gelu
  rw [← mul_assoc, mul_comm y]

end Cert.Hand
-- ==== Proof.InB.Value.lean ====
/-
  The blocks the second input projection reads and writes at a grid point, and its two results at an index.
-/
module

public import proofs.«01_k».proof.Proof.Gen.InBIdeal.Value
public import proofs.«01_k».proof.Proof.Common
public import Idealize.ShloMosaic.Lib.StableHlo.Run
public import Idealize.ShloMosaic.Lib.Tactic

@[expose] public section

set_option maxRecDepth 16384

noncomputable section

namespace Cert.InBIdeal.Hand

open Cert.Hand Cert.InBIdeal Cert.InBIdeal.Gen Idealize.ShloMosaic Idealize.ShloMosaic.TcCoe Idealize.SL.Sem

variable (m : (ℓ : Loc nD τ sig) → Buf (Elt Ideal) ℓ)

theorem points (t : Fin cfg0.N) : t.val < 64 := lt_of_lt_of_eq t.isLt (show cfg0.N = 64 from N_0)

/-- Where each window's block lies at point `t`. -/
theorem place : ∀ t : Fin cfg0.N,
    (win0_0.index t (0 : Fin 2) = t.val ∧ win0_0.index t (1 : Fin 2) = 0)
    ∧ (win0_1.index t (0 : Fin 3) = t.val / 32 ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

/-- The rows. -/
theorem block0 (c : Dev nD) (t : Fin cfg0.N) (a : Fin 512) (b : Fin 1024) :
    (iblk m c 0 t : Vec Ideal S512x1024 .f32) (ix2 a b)
      = (m ((c : Thread nD τ).loc main_arg0) : FVec Ideal S32768x1024 .f32) (ix2 ⟨t.val * 512 + a.val, by have := points t; have := a.isLt; omega⟩ b) := by
  obtain ⟨⟨p0, p1⟩, -⟩ := place t
  unfold iblk
  rw [View.read_apply]
  show V m c main_arg0 _ = _
  rw [V_main_arg0]
  congr 1
  funext x
  apply Fin.ext
  match x with
  | ⟨0, _⟩ => show win0_0.index t 0 * 512 + 1 * a.val = t.val * 512 + a.val; rw [p0]; omega
  | ⟨1, _⟩ => show win0_0.index t 1 * 1024 + 1 * b.val = b.val; rw [p1]; omega

/-- The modulation. -/
theorem block1 (c : Dev nD) (t : Fin cfg0.N) (a : Fin 1) (b : Fin 6) (d : Fin 1024) :
    (iblk m c 1 t : Vec Ideal S1x6x1024 .f32) (ix3 a b d)
      = (m ((c : Thread nD τ).loc main_arg1) : FVec Ideal S2x6x1024 .f32) (ix3 ⟨t.val / 32, by have := points t; omega⟩ b d) := by
  obtain ⟨-, ⟨p0, p1, p2⟩, -⟩ := place t
  unfold iblk
  rw [View.read_apply]
  show V m c main_arg1 _ = _
  rw [V_main_arg1]
  congr 1
  funext x
  apply Fin.ext
  match x with
  | ⟨0, _⟩ => show win0_1.index t 0 * 1 + 1 * a.val = t.val / 32; rw [p0]; omega
  | ⟨1, _⟩ => show win0_1.index t 1 * 6 + 1 * b.val = b.val; rw [p1]; omega
  | ⟨2, _⟩ => show win0_1.index t 2 * 1024 + 1 * d.val = d.val; rw [p2]; omega

/-- The norm's gains. -/
theorem block2 (c : Dev nD) (t : Fin cfg0.N) (a : Fin 1) (b : Fin 1024) :
    (iblk m c 2 t : Vec Ideal S1x1024 .f32) (ix2 a b)
      = (V m c main_v5 : FVec Ideal S1x1024 .f32) (ix2 a b) := by
  obtain ⟨-, -, ⟨p0, p1⟩, -⟩ := place t
  unfold iblk
  rw [View.read_apply]
  show V m c main_v5 _ = _
  congr 1
  funext x
  apply Fin.ext
  match x with
  | ⟨0, _⟩ => show win0_2.index t 0 * 1 + 1 * a.val = a.val; rw [p0]; omega
  | ⟨1, _⟩ => show win0_2.index t 1 * 1024 + 1 * b.val = b.val; rw [p1]; omega

/-- The first part of the weights, transposed. -/
theorem block3 (c : Dev nD) (t : Fin cfg0.N) (a : Fin 512) (b : Fin 1024) :
    (iblk m c 3 t : Vec Ideal S512x1024 .bf16) (ix2 a b)
      = (V m c main_v2 : FVec Ideal S512x1024 .bf16) (ix2 a b) := by
  obtain ⟨-, -, -, ⟨p0, p1⟩, -⟩ := place t
  unfold iblk
  rw [View.read_apply]
  show V m c main_v2 _ = _
  congr 1
  funext x
  apply Fin.ext
  match x with
  | ⟨0, _⟩ => show win0_3.index t 0 * 512 + 1 * a.val = a.val; rw [p0]; omega
  | ⟨1, _⟩ => show win0_3.index t 1 * 1024 + 1 * b.val = b.val; rw [p1]; omega

/-- The rest of the weights. -/
theorem block4 (c : Dev nD) (t : Fin cfg0.N) (a : Fin 1024) (b : Fin 1536) :
    (iblk m c 4 t : Vec Ideal S1024x1536 .bf16) (ix2 a b)
      = (V m c main_v4 : FVec Ideal S1024x1536 .bf16) (ix2 a b) := by
  obtain ⟨-, -, -, -, p0, p1⟩ := place t
  unfold iblk
  rw [View.read_apply]
  show V m c main_v4 _ = _
  congr 1
  funext x
  apply Fin.ext
  match x with
  | ⟨0, _⟩ => show win0_4.index t 0 * 1024 + 1 * a.val = a.val; rw [p0]; omega
  | ⟨1, _⟩ => show win0_4.index t 1 * 1536 + 1 * b.val = b.val; rw [p1]; omega

/-- Where point `t` writes the transposed projection. -/
theorem place5 : ∀ t : Fin cfg0.N,
    win0_5.index t (0 : Fin 2) = 0 ∧ win0_5.index t (1 : Fin 2) = t.val :=
  (by decide +kernel : ∀ t : Fin grid0.N, _)

/-- The transposed projection after the run, at an index of point `t`'s block: what the body leaves there. -/
theorem written5 (c : Dev nD) (t : Fin cfg0.N) (a : Fin 512) (b : Fin 512) :
    ((dats m 0 c).arrAt 5 cfg0.N) (ix2 a ⟨t.val * 512 + b.val, by have := points t; have := b.isLt; omega⟩)
      = (out0_5 (iblk m c 0 t) (iblk m c 1 t) (iblk m c 2 t) (iblk m c 3 t) (iblk m c 4 t)) (ix2 a b) := by
  have h := congrFun (Value.blocks5 m c t (flush0_5 t)) (ix2 a b)
  rw [View.read_apply, Value.flushed5] at h
  refine Eq.trans ?_ h
  congr 1
  obtain ⟨p0, p1⟩ := place5 t
  funext x
  apply Fin.ext
  match x with
  | ⟨0, _⟩ => show a.val = win0_5.index t 0 * 512 + 1 * a.val; rw [p0]; omega
  | ⟨1, _⟩ => show t.val * 512 + b.val = win0_5.index t 1 * 512 + 1 * b.val; rw [p1]; omega

/-- Where point `t` writes the plain projection. -/
theorem place6 : ∀ t : Fin cfg0.N,
    win0_6.index t (0 : Fin 2) = t.val ∧ win0_6.index t (1 : Fin 2) = 0 :=
  (by decide +kernel : ∀ t : Fin grid0.N, _)

/-- The plain projection after the run, at an index of point `t`'s block: what the body leaves there. -/
theorem written6 (c : Dev nD) (t : Fin cfg0.N) (a : Fin 512) (b : Fin 1536) :
    ((dats m 0 c).arrAt 6 cfg0.N) (ix2 ⟨t.val * 512 + a.val, by have := points t; have := a.isLt; omega⟩ b)
      = (out0_6 (iblk m c 0 t) (iblk m c 1 t) (iblk m c 2 t) (iblk m c 3 t) (iblk m c 4 t)) (ix2 a b) := by
  have h := congrFun (Value.blocks6 m c t (flush0_6 t)) (ix2 a b)
  rw [View.read_apply, Value.flushed6] at h
  refine Eq.trans ?_ h
  congr 1
  obtain ⟨p0, p1⟩ := place6 t
  funext x
  apply Fin.ext
  match x with
  | ⟨0, _⟩ => show t.val * 512 + a.val = win0_6.index t 0 * 512 + 1 * a.val; rw [p0]; omega
  | ⟨1, _⟩ => show b.val = win0_6.index t 1 * 1536 + 1 * b.val; rw [p1]; omega

theorem hz2 : (![0, 0] : Fin 2 → Nat) = fun _ => 0 := funext fun a => by fin_cases a <;> rfl
theorem hz3 : (![0, 0, 0] : Fin 3 → Nat) = fun _ => 0 := funext fun a => by fin_cases a <;> rfl

/-- The one store of each result's block leaves its value. -/
theorem out5_eq (x0 : Vec Ideal S512x1024 .f32) (x1 : Vec Ideal S1x6x1024 .f32) (x2 : Vec Ideal S1x1024 .f32)
    (x3 : Vec Ideal S512x1024 .bf16) (x4 : Vec Ideal S1024x1536 .bf16) :
    out0_5 x0 x1 x2 x3 x4 = k0_pay2 x1 x0 x2 x3 := by
  unfold out0_5
  rw [View.canon_unit_zero (S := S512x512) hz2, View.ld_unit_zero (S := S1x6x1024) hz3, View.ld_unit_zero (S := S512x1024) hz2,
    View.ld_unit_zero (S := S1x1024) hz2, View.ld_unit_zero (S := S512x1024) hz2]

theorem out6_eq (x0 : Vec Ideal S512x1024 .f32) (x1 : Vec Ideal S1x6x1024 .f32) (x2 : Vec Ideal S1x1024 .f32)
    (x3 : Vec Ideal S512x1024 .bf16) (x4 : Vec Ideal S1024x1536 .bf16) :
    out0_6 x0 x1 x2 x3 x4 = k0_pay3 x1 x0 x2 x4 := by
  unfold out0_6
  rw [View.canon_unit_zero (S := S512x1536) hz2, View.ld_unit_zero (S := S1x6x1024) hz3, View.ld_unit_zero (S := S512x1024) hz2,
    View.ld_unit_zero (S := S1x1024) hz2, View.ld_unit_zero (S := S1024x1536) hz2]

/-- The gains as a row. -/
theorem host_v5 (c : Dev nD) (d : Fin 1024) : (V m c main_v5 : FVec Ideal S1x1024 .f32) (ix2 0 d)
    = (m ((c : Thread nD τ).loc main_arg2) : FVec Ideal S1024 .f32) (ix1 d) := by
  have h : @Eq (FVec Ideal S1x1024 .f32) (V m c main_v5) (shapeCast S1x1024 (m ((c : Thread nD τ).loc main_arg2) : FVec Ideal S1024 .f32) shapeCasts_S1024_S1x1024) := by
    unfold V
    after_results <;> rfl
  rw [h]
  pointwise []

/-- The first 512 columns of the weights, transposed. -/
theorem host_v2 (c : Dev nD) (j : Fin 512) (k : Fin 1024) : (V m c main_v2 : FVec Ideal S512x1024 .bf16) (ix2 j k)
    = (m ((c : Thread nD τ).loc main_arg3) : FVec Ideal S1024x2048 .f32) (ix2 k ⟨j.val, by omega⟩) := by
  have h : @Eq (FVec Ideal S512x1024 .bf16) (V m c main_v2) (truncf .bf16 (transpose S512x1024 [1, 0] (extractStridedSlice S1024x512 ![0, 0] (m ((c : Thread nD τ).loc main_arg3) : FVec Ideal S1024x2048 .f32) slices_S1024x2048_S1024x512_0_0) transposes_S1024x512_S512x1024_1_0) bitsLt_bf16_f32) := by
    unfold V
    after_results <;> rfl
  rw [h]
  pointwise []

/-- The other columns of the weights. -/
theorem host_v4 (c : Dev nD) (k : Fin 1024) (j : Fin 1536) : (V m c main_v4 : FVec Ideal S1024x1536 .bf16) (ix2 k j)
    = (m ((c : Thread nD τ).loc main_arg3) : FVec Ideal S1024x2048 .f32) (ix2 k ⟨512 + j.val, by omega⟩) := by
  have h : @Eq (FVec Ideal S1024x1536 .bf16) (V m c main_v4) (truncf .bf16 (extractStridedSlice S1024x1536 ![0, 512] (m ((c : Thread nD τ).loc main_arg3) : FVec Ideal S1024x2048 .f32) slices_S1024x2048_S1024x1536_0_512) bitsLt_bf16_f32) := by
    unfold V
    after_results <;> rfl
  rw [h]
  pointwise []

theorem pay2_apply (x0 : Vec Ideal S512x1024 .f32) (x1 : Vec Ideal S1x6x1024 .f32) (x2 : Vec Ideal S1x1024 .f32)
    (x3 : Vec Ideal S512x1024 .bf16) (j : Fin 512) (r : Fin 512) : k0_pay2 x1 x0 x2 x3 (ix2 j r)
      = ∑ k, x3 (ix2 j k) * normed (fun k => x0 (ix2 r k)) (fun k => x2 (ix2 0 k)) (fun k => x1 (ix3 0 1 k)) (fun k => x1 (ix3 0 0 k)) k := by
  pointwise [k0_pay2, k0_pay1]
  rfl

theorem pay3_apply (x0 : Vec Ideal S512x1024 .f32) (x1 : Vec Ideal S1x6x1024 .f32) (x2 : Vec Ideal S1x1024 .f32)
    (x4 : Vec Ideal S1024x1536 .bf16) (j : Fin 1536) (r : Fin 512) : k0_pay3 x1 x0 x2 x4 (ix2 r j)
      = ∑ k, normed (fun k => x0 (ix2 r k)) (fun k => x2 (ix2 0 k)) (fun k => x1 (ix3 0 1 k)) (fun k => x1 (ix3 0 0 k)) k * x4 (ix2 k j) := by
  pointwise [k0_pay3, k0_pay1]
  rfl

/-- Row `R` is row `R % 512` of grid point `R / 512`. -/
theorem split (R : Fin 32768) : ∃ (t : Fin cfg0.N) (a : Fin 512) (h : t.val * 512 + a.val < 32768), R = ⟨t.val * 512 + a.val, h⟩ :=
  ⟨⟨R.val / 512, lt_of_lt_of_eq (show R.val / 512 < 64 by omega) (show 64 = cfg0.N from N_0.symm)⟩, ⟨R.val % 512, by omega⟩,
    by show R.val / 512 * 512 + R.val % 512 < 32768; omega, Fin.ext (by show R.val = R.val / 512 * 512 + R.val % 512; omega)⟩

/-- The transposed projection after the run. -/
theorem result5_apply (c : Dev nD) (j : Fin 512) (R : Fin 32768) :
    @Eq EReal (((dats m 0 c).arrAt 5 cfg0.N) (ix2 j R))
      (∑ k : Fin 1024, normed (fun k => (m ((c : Thread nD τ).loc main_arg0) : FVec Ideal S32768x1024 .f32) (ix2 R k)) (fun k => (m ((c : Thread nD τ).loc main_arg2) : FVec Ideal S1024 .f32) (ix1 k))
          (fun k => (m ((c : Thread nD τ).loc main_arg1) : FVec Ideal S2x6x1024 .f32) (ix3 ⟨R.val / 16384, by omega⟩ 1 k)) (fun k => (m ((c : Thread nD τ).loc main_arg1) : FVec Ideal S2x6x1024 .f32) (ix3 ⟨R.val / 16384, by omega⟩ 0 k)) k * (m ((c : Thread nD τ).loc main_arg3) : FVec Ideal S1024x2048 .f32) (ix2 k ⟨j.val, by omega⟩)) := by
  obtain ⟨t, a, h, rfl⟩ := split R
  have hb : (⟨(t.val * 512 + a.val) / 16384, by omega⟩ : Fin 2) = ⟨t.val / 32, by omega⟩ := Fin.ext (by show (t.val * 512 + a.val) / 16384 = t.val / 32; omega)
  refine (written5 m c t j a).trans ?_
  rw [out5_eq]
  change @Eq EReal _ _
  rw [pay2_apply]
  refine Finset.sum_congr rfl fun k _ => ?_
  rw [mul_comm]
  dsimp only
  rw [hb]
  exact congrArg₂ (· * ·) (normed_congr (fun k => block0 m c t a k) (fun k => (block2 m c t 0 k).trans (host_v5 m c k))
    (fun k => block1 m c t 0 1 k) (fun k => block1 m c t 0 0 k) k) ((block3 m c t j k).trans (host_v2 m c j k))

/-- The plain projection after the run. -/
theorem result6_apply (c : Dev nD) (R : Fin 32768) (j : Fin 1536) :
    @Eq EReal (((dats m 0 c).arrAt 6 cfg0.N) (ix2 R j))
      (∑ k : Fin 1024, normed (fun k => (m ((c : Thread nD τ).loc main_arg0) : FVec Ideal S32768x1024 .f32) (ix2 R k)) (fun k => (m ((c : Thread nD τ).loc main_arg2) : FVec Ideal S1024 .f32) (ix1 k))
          (fun k => (m ((c : Thread nD τ).loc main_arg1) : FVec Ideal S2x6x1024 .f32) (ix3 ⟨R.val / 16384, by omega⟩ 1 k)) (fun k => (m ((c : Thread nD τ).loc main_arg1) : FVec Ideal S2x6x1024 .f32) (ix3 ⟨R.val / 16384, by omega⟩ 0 k)) k * (m ((c : Thread nD τ).loc main_arg3) : FVec Ideal S1024x2048 .f32) (ix2 k ⟨512 + j.val, by omega⟩)) := by
  obtain ⟨t, a, h, rfl⟩ := split R
  have hb : (⟨(t.val * 512 + a.val) / 16384, by omega⟩ : Fin 2) = ⟨t.val / 32, by omega⟩ := Fin.ext (by show (t.val * 512 + a.val) / 16384 = t.val / 32; omega)
  refine (written6 m c t a j).trans ?_
  rw [out6_eq]
  change @Eq EReal _ _
  rw [pay3_apply]
  refine Finset.sum_congr rfl fun k _ => ?_
  dsimp only
  rw [hb]
  exact congrArg₂ (· * ·) (normed_congr (fun k => block0 m c t a k) (fun k => (block2 m c t 0 k).trans (host_v5 m c k))
    (fun k => block1 m c t 0 1 k) (fun k => block1 m c t 0 0 k) k) ((block4 m c t k j).trans (host_v4 m c k j))

end Cert.InBIdeal.Hand
-- ==== Proof.InB.RefValue.lean ====
/-
  The plain second input projection read at an index.
-/
module

public import proofs.«01_k».proof.Proof.Gen.InBRefIdeal.Run
public import proofs.«01_k».proof.Proof.Common

@[expose] public section

set_option maxRecDepth 16384

noncomputable section

namespace Cert.InBRefIdeal.Hand

open Cert.Hand Cert.InBRefIdeal Cert.InBRefIdeal.Gen Idealize.ShloMosaic Idealize.SL.Sem

def ut (x : FVec Ideal S32768x1024 .f32) (mo : FVec Ideal S2x6x1024 .f32) (g : FVec Ideal S1024 .f32) (w : FVec Ideal S1024x2048 .f32) : FVec Ideal S512x32768 .bf16 :=
  transpose S512x32768 [1, 0] (extractStridedSlice S32768x512 ![0, 0] (truncf .bf16 (Host.dotGeneral dot_S32768x1024_S1024x2048_S32768x2048_1_0_0_1_n_n none (shapeCast _ (addf (mulf (mulf (mulf (shapeCast _ x shapeCasts_S32768x1024_S2x16384x1024) (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf (shapeCast _ x shapeCasts_S32768x1024_S2x16384x1024) (shapeCast _ x shapeCasts_S32768x1024_S2x16384x1024)) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))) (broadcastInDim S2x16384x1024 ![0, 1, 2] bcast_S2x1x1024_S2x16384x1024_0_1_2 (addf (broadcastInDim S2x1x1024 ![] bcast_S_S2x1x1024 (constant S_ .f32 0x3F800000#32)) (extractStridedSlice S2x1x1024 ![0, 1, 0] mo slices_S2x6x1024_S2x1x1024_0_1_0)))) (broadcastInDim S2x16384x1024 ![0, 1, 2] bcast_S2x1x1024_S2x16384x1024_0_1_2 (extractStridedSlice S2x1x1024 ![0, 0, 0] mo slices_S2x6x1024_S2x1x1024_0_0_0))) shapeCasts_S2x16384x1024_S32768x1024) w) bitsLt_bf16_f32) slices_S32768x2048_S32768x512_0_0) transposes_S32768x512_S512x32768_1_0

def hz (x : FVec Ideal S32768x1024 .f32) (mo : FVec Ideal S2x6x1024 .f32) (g : FVec Ideal S1024 .f32) (w : FVec Ideal S1024x2048 .f32) : FVec Ideal S32768x1536 .bf16 :=
  extractStridedSlice S32768x1536 ![0, 512] (truncf .bf16 (Host.dotGeneral dot_S32768x1024_S1024x2048_S32768x2048_1_0_0_1_n_n none (shapeCast _ (addf (mulf (mulf (mulf (shapeCast _ x shapeCasts_S32768x1024_S2x16384x1024) (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf (shapeCast _ x shapeCasts_S32768x1024_S2x16384x1024) (shapeCast _ x shapeCasts_S32768x1024_S2x16384x1024)) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))) (broadcastInDim S2x16384x1024 ![0, 1, 2] bcast_S2x1x1024_S2x16384x1024_0_1_2 (addf (broadcastInDim S2x1x1024 ![] bcast_S_S2x1x1024 (constant S_ .f32 0x3F800000#32)) (extractStridedSlice S2x1x1024 ![0, 1, 0] mo slices_S2x6x1024_S2x1x1024_0_1_0)))) (broadcastInDim S2x16384x1024 ![0, 1, 2] bcast_S2x1x1024_S2x16384x1024_0_1_2 (extractStridedSlice S2x1x1024 ![0, 0, 0] mo slices_S2x6x1024_S2x1x1024_0_0_0))) shapeCasts_S2x16384x1024_S32768x1024) w) bitsLt_bf16_f32) slices_S32768x2048_S32768x1536_0_512

theorem ut_apply (x : FVec Ideal S32768x1024 .f32) (mo : FVec Ideal S2x6x1024 .f32) (g : FVec Ideal S1024 .f32) (w : FVec Ideal S1024x2048 .f32) (j : Fin 512) (R : Fin 32768) : ut x mo g w (ix2 j R)
      = ∑ k : Fin 1024, normed (fun k => x (ix2 R k)) (fun k => g (ix1 k))
          (fun k => mo (ix3 ⟨R.val / 16384, by omega⟩ 1 k)) (fun k => mo (ix3 ⟨R.val / 16384, by omega⟩ 0 k)) k * w (ix2 k ⟨j.val, by omega⟩) := by
  pointwise [ut]
  rfl

theorem hz_apply (x : FVec Ideal S32768x1024 .f32) (mo : FVec Ideal S2x6x1024 .f32) (g : FVec Ideal S1024 .f32) (w : FVec Ideal S1024x2048 .f32) (R : Fin 32768) (j : Fin 1536) : hz x mo g w (ix2 R j)
      = ∑ k : Fin 1024, normed (fun k => x (ix2 R k)) (fun k => g (ix1 k))
          (fun k => mo (ix3 ⟨R.val / 16384, by omega⟩ 1 k)) (fun k => mo (ix3 ⟨R.val / 16384, by omega⟩ 0 k)) k * w (ix2 k ⟨512 + j.val, by omega⟩) := by
  pointwise [hz]
  rfl

end Cert.InBRefIdeal.Hand
-- ==== Proof.InA.Value.lean ====
/-
  The blocks the first input projection reads and writes at a grid point, and the four results at an index.
-/
module

public import proofs.«01_k».proof.Proof.Gen.InAIdeal.Value
public import proofs.«01_k».proof.Proof.Common
public import Idealize.ShloMosaic.Lib.StableHlo.Run
public import Idealize.ShloMosaic.Lib.Tactic

@[expose] public section

set_option maxRecDepth 16384

noncomputable section

namespace Cert.InAIdeal.Hand

open Cert.Hand Cert.InAIdeal Cert.InAIdeal.Gen Idealize.ShloMosaic Idealize.ShloMosaic.TcCoe Idealize.SL.Sem

variable (m : (ℓ : Loc nD τ sig) → Buf (Elt Ideal) ℓ)

theorem points (t : Fin cfg0.N) : t.val < 64 := lt_of_lt_of_eq t.isLt (show cfg0.N = 64 from N_0)

/-- Where each window's block lies at point `t`. -/
theorem place : ∀ t : Fin cfg0.N,
    (win0_0.index t (0 : Fin 2) = t.val ∧ win0_0.index t (1 : Fin 2) = 0)
    ∧ (win0_1.index t (0 : Fin 3) = t.val / 32 ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- The rows. -/
theorem block0 (c : Dev nD) (t : Fin cfg0.N) (a : Fin 512) (b : Fin 1024) :
    (iblk m c 0 t : Vec Ideal S512x1024 .f32) (ix2 a b)
      = (m ((c : Thread nD τ).loc main_arg0) : FVec Ideal S32768x1024 .f32) (ix2 ⟨t.val * 512 + a.val, by have := points t; have := a.isLt; omega⟩ b) := by
  obtain ⟨⟨p0, p1⟩, -⟩ := place t
  unfold iblk
  rw [View.read_apply]
  show V m c main_arg0 _ = _
  rw [V_main_arg0]
  congr 1
  funext x
  apply Fin.ext
  match x with
  | ⟨0, _⟩ => show win0_0.index t 0 * 512 + 1 * a.val = t.val * 512 + a.val; rw [p0]; omega
  | ⟨1, _⟩ => show win0_0.index t 1 * 1024 + 1 * b.val = b.val; rw [p1]; omega

/-- The modulation. -/
theorem block1 (c : Dev nD) (t : Fin cfg0.N) (a : Fin 1) (b : Fin 6) (d : Fin 1024) :
    (iblk m c 1 t : Vec Ideal S1x6x1024 .f32) (ix3 a b d)
      = (m ((c : Thread nD τ).loc main_arg1) : FVec Ideal S2x6x1024 .f32) (ix3 ⟨t.val / 32, by have := points t; omega⟩ b d) := by
  obtain ⟨-, ⟨p0, p1, p2⟩, -⟩ := place t
  unfold iblk
  rw [View.read_apply]
  show V m c main_arg1 _ = _
  rw [V_main_arg1]
  congr 1
  funext x
  apply Fin.ext
  match x with
  | ⟨0, _⟩ => show win0_1.index t 0 * 1 + 1 * a.val = t.val / 32; rw [p0]; omega
  | ⟨1, _⟩ => show win0_1.index t 1 * 6 + 1 * b.val = b.val; rw [p1]; omega
  | ⟨2, _⟩ => show win0_1.index t 2 * 1024 + 1 * d.val = d.val; rw [p2]; omega

/-- The norm's gains. -/
theorem block2 (c : Dev nD) (t : Fin cfg0.N) (a : Fin 1) (b : Fin 1024) :
    (iblk m c 2 t : Vec Ideal S1x1024 .f32) (ix2 a b)
      = (V m c main_v20 : FVec Ideal S1x1024 .f32) (ix2 a b) := by
  obtain ⟨-, -, ⟨p0, p1⟩, -⟩ := place t
  unfold iblk
  rw [View.read_apply]
  show V m c main_v20 _ = _
  congr 1
  funext x
  apply Fin.ext
  match x with
  | ⟨0, _⟩ => show win0_2.index t 0 * 1 + 1 * a.val = a.val; rw [p0]; omega
  | ⟨1, _⟩ => show win0_2.index t 1 * 1024 + 1 * b.val = b.val; rw [p1]; omega

/-- The weights. -/
theorem block3 (c : Dev nD) (t : Fin cfg0.N) (a : Fin 1024) (b : Fin 2560) :
    (iblk m c 3 t : Vec Ideal S1024x2560 .bf16) (ix2 a b)
      = (V m c main_v0 : FVec Ideal S1024x2560 .bf16) (ix2 a b) := by
  obtain ⟨-, -, -, ⟨p0, p1⟩, -⟩ := place t
  unfold iblk
  rw [View.read_apply]
  show V m c main_v0 _ = _
  congr 1
  funext x
  apply Fin.ext
  match x with
  | ⟨0, _⟩ => show win0_3.index t 0 * 1024 + 1 * a.val = a.val; rw [p0]; omega
  | ⟨1, _⟩ => show win0_3.index t 1 * 2560 + 1 * b.val = b.val; rw [p1]; omega

/-- The table that averages within a head. -/
theorem block4 (c : Dev nD) (t : Fin cfg0.N) (a : Fin 512) (b : Fin 512) :
    (iblk m c 4 t : Vec Ideal S512x512 .bf16) (ix2 a b)
      = (V m c main_v9 : FVec Ideal S512x512 .bf16) (ix2 a b) := by
  obtain ⟨-, -, -, -, ⟨p0, p1⟩, -⟩ := place t
  unfold iblk
  rw [View.read_apply]
  show V m c main_v9 _ = _
  congr 1
  funext x
  apply Fin.ext
  match x with
  | ⟨0, _⟩ => show win0_4.index t 0 * 512 + 1 * a.val = a.val; rw [p0]; omega
  | ⟨1, _⟩ => show win0_4.index t 1 * 512 + 1 * b.val = b.val; rw [p1]; omega

/-- The queries' gains. -/
theorem block5 (c : Dev nD) (t : Fin cfg0.N) (a : Fin 1) (b : Fin 512) :
    (iblk m c 5 t : Vec Ideal S1x512 .f32) (ix2 a b)
      = (V m c main_v15 : FVec Ideal S1x512 .f32) (ix2 a b) := by
  obtain ⟨-, -, -, -, -, ⟨p0, p1⟩, -⟩ := place t
  unfold iblk
  rw [View.read_apply]
  show V m c main_v15 _ = _
  congr 1
  funext x
  apply Fin.ext
  match x with
  | ⟨0, _⟩ => show win0_5.index t 0 * 1 + 1 * a.val = a.val; rw [p0]; omega
  | ⟨1, _⟩ => show win0_5.index t 1 * 512 + 1 * b.val = b.val; rw [p1]; omega

/-- The keys' gains. -/
theorem block6 (c : Dev nD) (t : Fin cfg0.N) (a : Fin 1) (b : Fin 512) :
    (iblk m c 6 t : Vec Ideal S1x512 .f32) (ix2 a b)
      = (V m c main_v19 : FVec Ideal S1x512 .f32) (ix2 a b) := by
  obtain ⟨-, -, -, -, -, -, p0, p1⟩ := place t
  unfold iblk
  rw [View.read_apply]
  show V m c main_v19 _ = _
  congr 1
  funext x
  apply Fin.ext
  match x with
  | ⟨0, _⟩ => show win0_6.index t 0 * 1 + 1 * a.val = a.val; rw [p0]; omega
  | ⟨1, _⟩ => show win0_6.index t 1 * 512 + 1 * b.val = b.val; rw [p1]; omega

/-- Where point `t` writes the queries. -/
theorem place7 : ∀ t : Fin cfg0.N,
    win0_7.index t (0 : Fin 2) = t.val ∧ win0_7.index t (1 : Fin 2) = 0 :=
  (by decide +kernel : ∀ t : Fin grid0.N, _)

/-- The queries after the run, at an index of point `t`'s block: what the body leaves there. -/
theorem written7 (c : Dev nD) (t : Fin cfg0.N) (a : Fin 512) (b : Fin 512) :
    ((dats m 0 c).arrAt 7 cfg0.N) (ix2 ⟨t.val * 512 + a.val, by have := points t; have := a.isLt; omega⟩ b)
      = (out0_7 (iblk m c 0 t) (iblk m c 1 t) (iblk m c 2 t) (iblk m c 3 t) (iblk m c 4 t) (iblk m c 5 t) (iblk m c 6 t)) (ix2 a b) := by
  have h := congrFun (Value.blocks7 m c t (flush0_7 t)) (ix2 a b)
  rw [View.read_apply, Value.flushed7] at h
  refine Eq.trans ?_ h
  congr 1
  obtain ⟨p0, p1⟩ := place7 t
  funext x
  apply Fin.ext
  match x with
  | ⟨0, _⟩ => show t.val * 512 + a.val = win0_7.index t 0 * 512 + 1 * a.val; rw [p0]; omega
  | ⟨1, _⟩ => show b.val = win0_7.index t 1 * 512 + 1 * b.val; rw [p1]; omega

/-- Where point `t` writes the keys. -/
theorem place8 : ∀ t : Fin cfg0.N,
    win0_8.index t (0 : Fin 2) = t.val ∧ win0_8.index t (1 : Fin 2) = 0 :=
  (by decide +kernel : ∀ t : Fin grid0.N, _)

/-- The keys after the run, at an index of point `t`'s block: what the body leaves there. -/
theorem written8 (c : Dev nD) (t : Fin cfg0.N) (a : Fin 512) (b : Fin 512) :
    ((dats m 0 c).arrAt 8 cfg0.N) (ix2 ⟨t.val * 512 + a.val, by have := points t; have := a.isLt; omega⟩ b)
      = (out0_8 (iblk m c 0 t) (iblk m c 1 t) (iblk m c 2 t) (iblk m c 3 t) (iblk m c 4 t) (iblk m c 5 t) (iblk m c 6 t)) (ix2 a b) := by
  have h := congrFun (Value.blocks8 m c t (flush0_8 t)) (ix2 a b)
  rw [View.read_apply, Value.flushed8] at h
  refine Eq.trans ?_ h
  congr 1
  obtain ⟨p0, p1⟩ := place8 t
  funext x
  apply Fin.ext
  match x with
  | ⟨0, _⟩ => show t.val * 512 + a.val = win0_8.index t 0 * 512 + 1 * a.val; rw [p0]; omega
  | ⟨1, _⟩ => show b.val = win0_8.index t 1 * 512 + 1 * b.val; rw [p1]; omega

/-- Where point `t` writes the values. -/
theorem place9 : ∀ t : Fin cfg0.N,
    win0_9.index t (0 : Fin 2) = t.val ∧ win0_9.index t (1 : Fin 2) = 0 :=
  (by decide +kernel : ∀ t : Fin grid0.N, _)

/-- The values after the run, at an index of point `t`'s block: what the body leaves there. -/
theorem written9 (c : Dev nD) (t : Fin cfg0.N) (a : Fin 512) (b : Fin 512) :
    ((dats m 0 c).arrAt 9 cfg0.N) (ix2 ⟨t.val * 512 + a.val, by have := points t; have := a.isLt; omega⟩ b)
      = (out0_9 (iblk m c 0 t) (iblk m c 1 t) (iblk m c 2 t) (iblk m c 3 t) (iblk m c 4 t) (iblk m c 5 t) (iblk m c 6 t)) (ix2 a b) := by
  have h := congrFun (Value.blocks9 m c t (flush0_9 t)) (ix2 a b)
  rw [View.read_apply, Value.flushed9] at h
  refine Eq.trans ?_ h
  congr 1
  obtain ⟨p0, p1⟩ := place9 t
  funext x
  apply Fin.ext
  match x with
  | ⟨0, _⟩ => show t.val * 512 + a.val = win0_9.index t 0 * 512 + 1 * a.val; rw [p0]; omega
  | ⟨1, _⟩ => show b.val = win0_9.index t 1 * 512 + 1 * b.val; rw [p1]; omega

/-- Where point `t` writes the gated linear unit. -/
theorem place10 : ∀ t : Fin cfg0.N,
    win0_10.index t (0 : Fin 2) = t.val ∧ win0_10.index t (1 : Fin 2) = 0 :=
  (by decide +kernel : ∀ t : Fin grid0.N, _)

/-- The gated linear unit after the run, at an index of point `t`'s block: what the body leaves there. -/
theorem written10 (c : Dev nD) (t : Fin cfg0.N) (a : Fin 512) (b : Fin 512) :
    ((dats m 0 c).arrAt 10 cfg0.N) (ix2 ⟨t.val * 512 + a.val, by have := points t; have := a.isLt; omega⟩ b)
      = (out0_10 (iblk m c 0 t) (iblk m c 1 t) (iblk m c 2 t) (iblk m c 3 t) (iblk m c 4 t) (iblk m c 5 t) (iblk m c 6 t)) (ix2 a b) := by
  have h := congrFun (Value.blocks10 m c t (flush0_10 t)) (ix2 a b)
  rw [View.read_apply, Value.flushed10] at h
  refine Eq.trans ?_ h
  congr 1
  obtain ⟨p0, p1⟩ := place10 t
  funext x
  apply Fin.ext
  match x with
  | ⟨0, _⟩ => show t.val * 512 + a.val = win0_10.index t 0 * 512 + 1 * a.val; rw [p0]; omega
  | ⟨1, _⟩ => show b.val = win0_10.index t 1 * 512 + 1 * b.val; rw [p1]; omega

theorem hz2 : (![0, 0] : Fin 2 → Nat) = fun _ => 0 := funext fun a => by fin_cases a <;> rfl
theorem hz3 : (![0, 0, 0] : Fin 3 → Nat) = fun _ => 0 := funext fun a => by fin_cases a <;> rfl

/-- The one store of each result's block leaves its value. -/
theorem out7_eq (x0 : Vec Ideal S512x1024 .f32) (x1 : Vec Ideal S1x6x1024 .f32) (x2 : Vec Ideal S1x1024 .f32)
    (x3 : Vec Ideal S1024x2560 .bf16) (x4 : Vec Ideal S512x512 .bf16) (x5 x6 : Vec Ideal S1x512 .f32) :
    out0_7 x0 x1 x2 x3 x4 x5 x6 = k0_pay1 (k0_pay6 x1 x0 x2 x3) (k0_pay8 x1 x0 x2 x3 x4) x5 := by
  unfold out0_7
  rw [View.canon_unit_zero (S := S512x512) hz2, View.ld_unit_zero (S := S1x6x1024) hz3, View.ld_unit_zero (S := S512x1024) hz2,
    View.ld_unit_zero (S := S1x1024) hz2, View.ld_unit_zero (S := S1024x2560) hz2,
    View.ld_unit_zero (S := S512x512) hz2, View.ld_unit_zero (S := S1x512) hz2]

theorem out8_eq (x0 : Vec Ideal S512x1024 .f32) (x1 : Vec Ideal S1x6x1024 .f32) (x2 : Vec Ideal S1x1024 .f32)
    (x3 : Vec Ideal S1024x2560 .bf16) (x4 : Vec Ideal S512x512 .bf16) (x5 x6 : Vec Ideal S1x512 .f32) :
    out0_8 x0 x1 x2 x3 x4 x5 x6 = k0_pay2 (k0_pay7 x1 x0 x2 x3) (k0_pay9 x1 x0 x2 x3) (k0_pay10 x4) x6 := by
  unfold out0_8
  rw [View.canon_unit_zero (S := S512x512) hz2, View.ld_unit_zero (S := S1x6x1024) hz3, View.ld_unit_zero (S := S512x1024) hz2,
    View.ld_unit_zero (S := S1x1024) hz2, View.ld_unit_zero (S := S1024x2560) hz2,
    View.ld_unit_zero (S := S512x512) hz2, View.ld_unit_zero (S := S1x512) hz2]

theorem out9_eq (x0 : Vec Ideal S512x1024 .f32) (x1 : Vec Ideal S1x6x1024 .f32) (x2 : Vec Ideal S1x1024 .f32)
    (x3 : Vec Ideal S1024x2560 .bf16) (x4 : Vec Ideal S512x512 .bf16) (x5 x6 : Vec Ideal S1x512 .f32) :
    out0_9 x0 x1 x2 x3 x4 x5 x6 = k0_pay3 (k0_pay5 x1 x0 x2 x3) := by
  unfold out0_9 k0_pay11
  rw [View.canon_unit_zero (S := S512x512) hz2, View.ld_unit_zero (S := S1x6x1024) hz3, View.ld_unit_zero (S := S512x1024) hz2,
    View.ld_unit_zero (S := S1x1024) hz2, View.ld_unit_zero (S := S1024x2560) hz2]

theorem out10_eq (x0 : Vec Ideal S512x1024 .f32) (x1 : Vec Ideal S1x6x1024 .f32) (x2 : Vec Ideal S1x1024 .f32)
    (x3 : Vec Ideal S1024x2560 .bf16) (x4 : Vec Ideal S512x512 .bf16) (x5 x6 : Vec Ideal S1x512 .f32) :
    out0_10 x0 x1 x2 x3 x4 x5 x6 = k0_pay4 (k0_pay5 x1 x0 x2 x3) := by
  unfold out0_10 k0_pay11
  rw [View.canon_unit_zero (S := S512x512) hz2, View.ld_unit_zero (S := S1x6x1024) hz3, View.ld_unit_zero (S := S512x1024) hz2,
    View.ld_unit_zero (S := S1x1024) hz2, View.ld_unit_zero (S := S1024x2560) hz2]

/-- The gains as a row. -/
theorem host_v20 (c : Dev nD) (d : Fin 1024) : (V m c main_v20 : FVec Ideal S1x1024 .f32) (ix2 0 d)
    = (m ((c : Thread nD τ).loc main_arg2) : FVec Ideal S1024 .f32) (ix1 d) := by
  have h : @Eq (FVec Ideal S1x1024 .f32) (V m c main_v20) (shapeCast S1x1024 (m ((c : Thread nD τ).loc main_arg2) : FVec Ideal S1024 .f32) shapeCasts_S1024_S1x1024) := by
    unfold V
    simp only [hostOps0, hostOps0_1, hostOps0_2, List.flatten_cons, List.flatten_nil, List.append_nil, List.cons_append, List.nil_append]
    after_results <;> rfl
  rw [h]
  pointwise []

/-- The weights, cast. -/
theorem host_v0 (c : Dev nD) (k : Fin 1024) (j : Fin 2560) : (V m c main_v0 : FVec Ideal S1024x2560 .bf16) (ix2 k j)
    = (m ((c : Thread nD τ).loc main_arg3) : FVec Ideal S1024x2560 .f32) (ix2 k j) := by
  have h : @Eq (FVec Ideal S1024x2560 .bf16) (V m c main_v0) (truncf .bf16 (m ((c : Thread nD τ).loc main_arg3) : FVec Ideal S1024x2560 .f32) bitsLt_bf16_f32) := by
    unfold V
    simp only [hostOps0, hostOps0_1, hostOps0_2, List.flatten_cons, List.flatten_nil, List.append_nil, List.cons_append, List.nil_append]
    after_results <;> rfl
  rw [h]
  pointwise []

/-- The table that averages within a head: one sixty-fourth where row and column lie in the same head, else zero. -/
def headMean : FVec Ideal S512x512 .bf16 :=
  truncf .bf16 (shapeCast S512x512 (mulf
    (broadcastInDim S8x64x8x64 ![0, 1, 2, 3] bcast_S8x1x8x1_S8x64x8x64_0_1_2_3 (broadcastInDim S8x1x8x1 ![0, 2] bcast_S8x8_S8x1x8x1_0_2
      (uitofp .f32 (cmpi .eq (addi (iotaInDim S8x8 32 0) (broadcastInDim S8x8 ![] bcast_S_S8x8 (constantI S_ 32 0#32))) (iotaInDim S8x8 32 1)))))
    (broadcastInDim S8x64x8x64 ![0, 1, 2, 3] bcast_S1x64x1x64_S8x64x8x64_0_1_2_3 (broadcastInDim S1x64x1x64 ![1, 3] bcast_S64x64_S1x64x1x64_1_3
      (broadcastInDim S64x64 ![] bcast_S_S64x64 (constant S_ .f32 0x3C800000#32))))) shapeCasts_S8x64x8x64_S512x512) bitsLt_bf16_f32

theorem host_v9 (c : Dev nD) : @Eq (FVec Ideal S512x512 .bf16) (V m c main_v9) headMean := by
  unfold V
  simp only [hostOps0, hostOps0_1, hostOps0_2, List.flatten_cons, List.flatten_nil, List.append_nil, List.cons_append, List.nil_append]
  after_results_simp <;> rfl

theorem headMean_apply (x j : Fin 512) : headMean (ix2 x j) = (if x.val / 64 = j.val / 64 then 1 else 0) * Ideal.ofBits FTy.f32 0x3C800000#32 := by
  pointwise [headMean]
  congr 1
  rw [show IntOp.addi (BitVec.ofNat 32 (x.val / 64)) 0#32 = BitVec.ofNat 32 (x.val / 64) from BitVec.add_zero _]
  have e : (BitVec.ofNat 32 (x.val / 64) = BitVec.ofNat 32 (j.val / 64)) ↔ x.val / 64 = j.val / 64 := by
    constructor
    · intro h
      have := congrArg BitVec.toNat h
      simp only [BitVec.toNat_ofNat] at this
      omega
    · intro h; rw [h]
  by_cases h : x.val / 64 = j.val / 64
  · rw [if_pos h, h]
    show (((IntOp.cmpi CmpIPredicate.eq (BitVec.ofNat 32 (j.val / 64)) (BitVec.ofNat 32 (j.val / 64))).toNat : ℝ) : EReal) = 1
    simp [IntOp.cmpi]
  · rw [if_neg h]
    show (((IntOp.cmpi CmpIPredicate.eq (BitVec.ofNat 32 (x.val / 64)) (BitVec.ofNat 32 (j.val / 64))).toNat : ℝ) : EReal) = 0
    simp [IntOp.cmpi, e, h]

theorem host_v15 (c : Dev nD) (j : Fin 512) : @Eq EReal ((V m c main_v15 : FVec Ideal S1x512 .f32) (ix2 0 j))
    (HMul.hMul (α := EReal) (β := EReal) ((m ((c : Thread nD τ).loc main_arg4) : FVec Ideal S64 .f32) (ix1 ⟨j.val % 64, by omega⟩)) (Ideal.ofBits FTy.f32 0x3E000000#32)) := by
  have h : @Eq (FVec Ideal S1x512 .f32) (V m c main_v15) (shapeCast S1x512 (mulf (shapeCast S512 (broadcastInDim S8x64 ![0, 1] bcast_S1x64_S8x64_0_1 (shapeCast S1x64 (m ((c : Thread nD τ).loc main_arg4) : FVec Ideal S64 .f32) shapeCasts_S64_S1x64)) shapeCasts_S8x64_S512) (broadcastInDim S512 ![] bcast_S_S512 (constant S_ .f32 0x3E000000#32))) shapeCasts_S512_S1x512) := by
    unfold V
    simp only [hostOps0, hostOps0_1, hostOps0_2, List.flatten_cons, List.flatten_nil, List.append_nil, List.cons_append, List.nil_append]
    after_results_simp <;> rfl
  rw [h]
  pointwise []

theorem host_v19 (c : Dev nD) (j : Fin 512) : (V m c main_v19 : FVec Ideal S1x512 .f32) (ix2 0 j)
    = (m ((c : Thread nD τ).loc main_arg5) : FVec Ideal S64 .f32) (ix1 ⟨j.val % 64, by omega⟩) := by
  have h : @Eq (FVec Ideal S1x512 .f32) (V m c main_v19) (shapeCast S1x512 (shapeCast S512 (broadcastInDim S8x64 ![0, 1] bcast_S1x64_S8x64_0_1 (shapeCast S1x64 (m ((c : Thread nD τ).loc main_arg5) : FVec Ideal S64 .f32) shapeCasts_S64_S1x64)) shapeCasts_S8x64_S512) shapeCasts_S512_S1x512) := by
    unfold V
    simp only [hostOps0, hostOps0_1, hostOps0_2, List.flatten_cons, List.flatten_nil, List.append_nil, List.cons_append, List.nil_append]
    after_results_simp <;> rfl
  rw [h]
  pointwise []

/-- A row of a block through the projection: its normed and modulated row times the weights' column. -/
def row (x0 : Vec Ideal S512x1024 .f32) (x1 : Vec Ideal S1x6x1024 .f32) (x2 : Vec Ideal S1x1024 .f32) (x3 : Vec Ideal S1024x2560 .bf16)
    (r : Fin 512) (j : Fin 2560) : EReal :=
  ∑ k, normed (fun k => x0 (ix2 r k)) (fun k => x2 (ix2 0 k)) (fun k => x1 (ix3 0 1 k)) (fun k => x1 (ix3 0 0 k)) k * x3 (ix2 k j)

theorem pay1_apply (x0 : Vec Ideal S512x1024 .f32) (x1 : Vec Ideal S1x6x1024 .f32) (x2 : Vec Ideal S1x1024 .f32)
    (x3 : Vec Ideal S1024x2560 .bf16) (x4 : Vec Ideal S512x512 .bf16) (x5 x6 : Vec Ideal S1x512 .f32) (r j : Fin 512) (h4 : ∀ x, x4 (ix2 x j) = (if x.val / 64 = j.val / 64 then 1 else 0) * Ideal.ofBits FTy.f32 0x3C800000#32) :
    k0_pay1 (k0_pay6 x1 x0 x2 x3) (k0_pay8 x1 x0 x2 x3 x4) x5 (ix2 r j)
      = headNormed (fun j => row x0 x1 x2 x3 r ⟨j.val, by omega⟩) j * x5 (ix2 0 j) := by
  pointwise [k0_pay1, k0_pay6, k0_pay8, k0_pay5]
  rw [head_mean _ (fun x => x4 (ix2 x j)) j h4]
  rfl

theorem pay2_apply (x0 : Vec Ideal S512x1024 .f32) (x1 : Vec Ideal S1x6x1024 .f32) (x2 : Vec Ideal S1x1024 .f32)
    (x3 : Vec Ideal S1024x2560 .bf16) (x4 : Vec Ideal S512x512 .bf16) (x5 x6 : Vec Ideal S1x512 .f32) (r j : Fin 512) (h4 : ∀ x, x4 (ix2 x j) = (if x.val / 64 = j.val / 64 then 1 else 0) * Ideal.ofBits FTy.f32 0x3C800000#32) :
    k0_pay2 (k0_pay7 x1 x0 x2 x3) (k0_pay9 x1 x0 x2 x3) (k0_pay10 x4) x6 (ix2 r j)
      = headNormed (fun j => row x0 x1 x2 x3 r ⟨512 + j.val, by omega⟩) j * x6 (ix2 0 j) := by
  pointwise [k0_pay2, k0_pay7, k0_pay9, k0_pay10, k0_pay5]
  rw [head_mean _ (fun x => x4 (ix2 x j)) j h4]
  rfl

theorem pay3_apply (x0 : Vec Ideal S512x1024 .f32) (x1 : Vec Ideal S1x6x1024 .f32) (x2 : Vec Ideal S1x1024 .f32)
    (x3 : Vec Ideal S1024x2560 .bf16) (x4 : Vec Ideal S512x512 .bf16) (x5 x6 : Vec Ideal S1x512 .f32) (r j : Fin 512) : k0_pay3 (k0_pay5 x1 x0 x2 x3) (ix2 r j) = row x0 x1 x2 x3 r ⟨1024 + j.val, by omega⟩ := by
  pointwise [k0_pay3, k0_pay5]
  rfl

theorem pay4_apply (x0 : Vec Ideal S512x1024 .f32) (x1 : Vec Ideal S1x6x1024 .f32) (x2 : Vec Ideal S1x1024 .f32)
    (x3 : Vec Ideal S1024x2560 .bf16) (x4 : Vec Ideal S512x512 .bf16) (x5 x6 : Vec Ideal S1x512 .f32) (r j : Fin 512) : k0_pay4 (k0_pay5 x1 x0 x2 x3) (ix2 r j)
    = row x0 x1 x2 x3 r ⟨1536 + j.val, by omega⟩ * Ideal.logistic (row x0 x1 x2 x3 r ⟨2048 + j.val, by omega⟩) := by
  pointwise [k0_pay4, k0_pay5]
  rfl

/-- Row `R` is row `R % 512` of grid point `R / 512`. -/
theorem split (R : Fin 32768) : ∃ (t : Fin cfg0.N) (a : Fin 512) (h : t.val * 512 + a.val < 32768), R = ⟨t.val * 512 + a.val, h⟩ :=
  ⟨⟨R.val / 512, lt_of_lt_of_eq (show R.val / 512 < 64 by omega) (show 64 = cfg0.N from N_0.symm)⟩, ⟨R.val % 512, by omega⟩,
    by show R.val / 512 * 512 + R.val % 512 < 32768; omega, Fin.ext (by show R.val = R.val / 512 * 512 + R.val % 512; omega)⟩

/-- A row of the arrays through the projection. -/
def proj (x : FVec Ideal S32768x1024 .f32) (mo : FVec Ideal S2x6x1024 .f32) (g : FVec Ideal S1024 .f32) (w : FVec Ideal S1024x2560 .f32)
    (R : Fin 32768) (j : Fin 2560) : EReal :=
  ∑ k, normed (fun k => x (ix2 R k)) (fun k => g (ix1 k)) (fun k => mo (ix3 ⟨R.val / 16384, by omega⟩ 1 k))
    (fun k => mo (ix3 ⟨R.val / 16384, by omega⟩ 0 k)) k * w (ix2 k j)

theorem row_eq (c : Dev nD) (t : Fin cfg0.N) (a : Fin 512) (h : t.val * 512 + a.val < 32768) (j : Fin 2560) :
    row (iblk m c 0 t) (iblk m c 1 t) (iblk m c 2 t) (iblk m c 3 t) a j
      = proj (m ((c : Thread nD τ).loc main_arg0)) (m ((c : Thread nD τ).loc main_arg1)) (m ((c : Thread nD τ).loc main_arg2))
          (m ((c : Thread nD τ).loc main_arg3)) ⟨t.val * 512 + a.val, h⟩ j := by
  have hb : (⟨(t.val * 512 + a.val) / 16384, by omega⟩ : Fin 2) = ⟨t.val / 32, by omega⟩ := Fin.ext (by show (t.val * 512 + a.val) / 16384 = t.val / 32; omega)
  unfold row proj
  dsimp only
  rw [hb]
  refine Finset.sum_congr rfl fun k _ => ?_
  exact congrArg₂ (· * ·) (normed_congr (fun k => block0 m c t a k) (fun k => (block2 m c t 0 k).trans (host_v20 m c k))
    (fun k => block1 m c t 0 1 k) (fun k => block1 m c t 0 0 k) k) ((block3 m c t k j).trans (host_v0 m c k j))

theorem table (c : Dev nD) (t : Fin cfg0.N) (x j : Fin 512) : (iblk m c 4 t : Vec Ideal S512x512 .bf16) (ix2 x j)
    = (if x.val / 64 = j.val / 64 then 1 else 0) * Ideal.ofBits FTy.f32 0x3C800000#32 :=
  (block4 m c t x j).trans ((congrFun (host_v9 m c) (ix2 x j)).trans (headMean_apply x j))

/-- The queries after the run. -/
theorem result7_apply (c : Dev nD) (R : Fin 32768) (j : Fin 512) :
    @Eq EReal (((dats m 0 c).arrAt 7 cfg0.N) (ix2 R j))
      (headNormed (fun j => proj (m ((c : Thread nD τ).loc main_arg0)) (m ((c : Thread nD τ).loc main_arg1)) (m ((c : Thread nD τ).loc main_arg2))
          (m ((c : Thread nD τ).loc main_arg3)) R ⟨j.val, by omega⟩) j
        * (m ((c : Thread nD τ).loc main_arg4) : FVec Ideal S64 .f32) (ix1 ⟨j.val % 64, by omega⟩) * Ideal.ofBits FTy.f32 0x3E000000#32) := by
  obtain ⟨t, a, h, rfl⟩ := split R
  refine (written7 m c t a j).trans ?_
  rw [out7_eq]
  change @Eq EReal _ _
  rw [pay1_apply _ _ _ _ _ _ 0 _ _ (fun x => table m c t x j), mul_assoc]
  simp only [row_eq m c t a h]
  exact congrArg₂ (· * ·) rfl ((block5 m c t 0 j).trans (host_v15 m c j))
/-- The keys after the run. -/
theorem result8_apply (c : Dev nD) (R : Fin 32768) (j : Fin 512) :
    @Eq EReal (((dats m 0 c).arrAt 8 cfg0.N) (ix2 R j))
      (headNormed (fun j => proj (m ((c : Thread nD τ).loc main_arg0)) (m ((c : Thread nD τ).loc main_arg1)) (m ((c : Thread nD τ).loc main_arg2))
          (m ((c : Thread nD τ).loc main_arg3)) R ⟨512 + j.val, by omega⟩) j
        * (m ((c : Thread nD τ).loc main_arg5) : FVec Ideal S64 .f32) (ix1 ⟨j.val % 64, by omega⟩)) := by
  obtain ⟨t, a, h, rfl⟩ := split R
  refine (written8 m c t a j).trans ?_
  rw [out8_eq]
  change @Eq EReal _ _
  rw [pay2_apply _ _ _ _ _ 0 _ _ _ (fun x => table m c t x j)]
  simp only [row_eq m c t a h]
  exact congrArg₂ (· * ·) rfl ((block6 m c t 0 j).trans (host_v19 m c j))
/-- The values after the run. -/
theorem result9_apply (c : Dev nD) (R : Fin 32768) (j : Fin 512) :
    @Eq EReal (((dats m 0 c).arrAt 9 cfg0.N) (ix2 R j))
      (proj (m ((c : Thread nD τ).loc main_arg0)) (m ((c : Thread nD τ).loc main_arg1)) (m ((c : Thread nD τ).loc main_arg2))
          (m ((c : Thread nD τ).loc main_arg3)) R ⟨1024 + j.val, by omega⟩) := by
  obtain ⟨t, a, h, rfl⟩ := split R
  refine (written9 m c t a j).trans ?_
  rw [out9_eq]
  change @Eq EReal _ _
  rw [pay3_apply _ _ _ _ 0 0 0]
  simp only [row_eq m c t a h]
/-- The gated linear unit after the run. -/
theorem result10_apply (c : Dev nD) (R : Fin 32768) (j : Fin 512) :
    @Eq EReal (((dats m 0 c).arrAt 10 cfg0.N) (ix2 R j))
      (proj (m ((c : Thread nD τ).loc main_arg0)) (m ((c : Thread nD τ).loc main_arg1)) (m ((c : Thread nD τ).loc main_arg2))
          (m ((c : Thread nD τ).loc main_arg3)) R ⟨1536 + j.val, by omega⟩
        * Ideal.logistic (proj (m ((c : Thread nD τ).loc main_arg0)) (m ((c : Thread nD τ).loc main_arg1)) (m ((c : Thread nD τ).loc main_arg2))
          (m ((c : Thread nD τ).loc main_arg3)) R ⟨2048 + j.val, by omega⟩)) := by
  obtain ⟨t, a, h, rfl⟩ := split R
  refine (written10 m c t a j).trans ?_
  rw [out10_eq]
  change @Eq EReal _ _
  rw [pay4_apply _ _ _ _ 0 0 0]
  simp only [row_eq m c t a h]
end Cert.InAIdeal.Hand
-- ==== Proof.InA.RefValue.lean ====
/-
  The plain first input projection read at an index.
-/
module

public import proofs.«01_k».proof.Proof.Gen.InARefIdeal.Run
public import proofs.«01_k».proof.Proof.Common

@[expose] public section

set_option maxRecDepth 16384

noncomputable section

namespace Cert.InARefIdeal.Hand

open Cert.Hand Cert.InARefIdeal Cert.InARefIdeal.Gen Idealize.ShloMosaic Idealize.SL.Sem

def qq (x : FVec Ideal S32768x1024 .f32) (mo : FVec Ideal S2x6x1024 .f32) (g : FVec Ideal S1024 .f32) (w : FVec Ideal S1024x2560 .f32) (qg : FVec Ideal S64 .f32) : FVec Ideal S32768x512 .bf16 :=
  truncf .bf16 (shapeCast _ (mulf (mulf (mulf (shapeCast _ (extractStridedSlice S2x16384x512 ![0, 0, 0] (Host.dotGeneral dot_S2x16384x1024_S1024x2560_S2x16384x2560_2_0_01_1_n_n none (addf (mulf (mulf (mulf (shapeCast _ x shapeCasts_S32768x1024_S2x16384x1024) (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf (shapeCast _ x shapeCasts_S32768x1024_S2x16384x1024) (shapeCast _ x shapeCasts_S32768x1024_S2x16384x1024)) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))) (broadcastInDim S2x16384x1024 ![0, 1, 2] bcast_S2x1x1024_S2x16384x1024_0_1_2 (addf (broadcastInDim S2x1x1024 ![] bcast_S_S2x1x1024 (constant S_ .f32 0x3F800000#32)) (extractStridedSlice S2x1x1024 ![0, 1, 0] mo slices_S2x6x1024_S2x1x1024_0_1_0)))) (broadcastInDim S2x16384x1024 ![0, 1, 2] bcast_S2x1x1024_S2x16384x1024_0_1_2 (extractStridedSlice S2x1x1024 ![0, 0, 0] mo slices_S2x6x1024_S2x1x1024_0_0_0))) w) slices_S2x16384x2560_S2x16384x512_0_0_0) shapeCasts_S2x16384x512_S2x16384x8x64) (broadcastInDim S2x16384x8x64 ![0, 1, 2, 3] bcast_S2x16384x8x1_S2x16384x8x64_0_1_2_3 (Host.rsqrt (addf (Host.divf (broadcastInDim S2x16384x8x1 ![0, 1, 2] bcast_S2x16384x8_S2x16384x8x1_0_1_2 (Host.reduceAdd (mulf (shapeCast _ (extractStridedSlice S2x16384x512 ![0, 0, 0] (Host.dotGeneral dot_S2x16384x1024_S1024x2560_S2x16384x2560_2_0_01_1_n_n none (addf (mulf (mulf (mulf (shapeCast _ x shapeCasts_S32768x1024_S2x16384x1024) (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf (shapeCast _ x shapeCasts_S32768x1024_S2x16384x1024) (shapeCast _ x shapeCasts_S32768x1024_S2x16384x1024)) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))) (broadcastInDim S2x16384x1024 ![0, 1, 2] bcast_S2x1x1024_S2x16384x1024_0_1_2 (addf (broadcastInDim S2x1x1024 ![] bcast_S_S2x1x1024 (constant S_ .f32 0x3F800000#32)) (extractStridedSlice S2x1x1024 ![0, 1, 0] mo slices_S2x6x1024_S2x1x1024_0_1_0)))) (broadcastInDim S2x16384x1024 ![0, 1, 2] bcast_S2x1x1024_S2x16384x1024_0_1_2 (extractStridedSlice S2x1x1024 ![0, 0, 0] mo slices_S2x6x1024_S2x1x1024_0_0_0))) w) slices_S2x16384x2560_S2x16384x512_0_0_0) shapeCasts_S2x16384x512_S2x16384x8x64) (shapeCast _ (extractStridedSlice S2x16384x512 ![0, 0, 0] (Host.dotGeneral dot_S2x16384x1024_S1024x2560_S2x16384x2560_2_0_01_1_n_n none (addf (mulf (mulf (mulf (shapeCast _ x shapeCasts_S32768x1024_S2x16384x1024) (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf (shapeCast _ x shapeCasts_S32768x1024_S2x16384x1024) (shapeCast _ x shapeCasts_S32768x1024_S2x16384x1024)) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))) (broadcastInDim S2x16384x1024 ![0, 1, 2] bcast_S2x1x1024_S2x16384x1024_0_1_2 (addf (broadcastInDim S2x1x1024 ![] bcast_S_S2x1x1024 (constant S_ .f32 0x3F800000#32)) (extractStridedSlice S2x1x1024 ![0, 1, 0] mo slices_S2x6x1024_S2x1x1024_0_1_0)))) (broadcastInDim S2x16384x1024 ![0, 1, 2] bcast_S2x1x1024_S2x16384x1024_0_1_2 (extractStridedSlice S2x1x1024 ![0, 0, 0] mo slices_S2x6x1024_S2x1x1024_0_0_0))) w) slices_S2x16384x2560_S2x16384x512_0_0_0) shapeCasts_S2x16384x512_S2x16384x8x64)) (constant S_ .f32 0x00000000#32) reducesTo_S2x16384x8x64_S2x16384x8_d3 h_S_)) (broadcastInDim S2x16384x8x1 ![] bcast_S_S2x16384x8x1 (constant S_ .f32 0x42800000#32))) (broadcastInDim S2x16384x8x1 ![] bcast_S_S2x16384x8x1 (constant S_ .f32 0x358637BD#32)))))) (broadcastInDim S2x16384x8x64 ![0, 1, 2, 3] bcast_S1x1x1x64_S2x16384x8x64_0_1_2_3 (broadcastInDim S1x1x1x64 ![3] bcast_S64_S1x1x1x64_3 qg))) (broadcastInDim S2x16384x8x64 ![] bcast_S_S2x16384x8x64 (constant S_ .f32 0x3E000000#32))) shapeCasts_S2x16384x8x64_S32768x512) bitsLt_bf16_f32

def kk (x : FVec Ideal S32768x1024 .f32) (mo : FVec Ideal S2x6x1024 .f32) (g : FVec Ideal S1024 .f32) (w : FVec Ideal S1024x2560 .f32) (kg : FVec Ideal S64 .f32) : FVec Ideal S32768x512 .bf16 :=
  truncf .bf16 (shapeCast _ (mulf (mulf (shapeCast _ (extractStridedSlice S2x16384x512 ![0, 0, 512] (Host.dotGeneral dot_S2x16384x1024_S1024x2560_S2x16384x2560_2_0_01_1_n_n none (addf (mulf (mulf (mulf (shapeCast _ x shapeCasts_S32768x1024_S2x16384x1024) (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf (shapeCast _ x shapeCasts_S32768x1024_S2x16384x1024) (shapeCast _ x shapeCasts_S32768x1024_S2x16384x1024)) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))) (broadcastInDim S2x16384x1024 ![0, 1, 2] bcast_S2x1x1024_S2x16384x1024_0_1_2 (addf (broadcastInDim S2x1x1024 ![] bcast_S_S2x1x1024 (constant S_ .f32 0x3F800000#32)) (extractStridedSlice S2x1x1024 ![0, 1, 0] mo slices_S2x6x1024_S2x1x1024_0_1_0)))) (broadcastInDim S2x16384x1024 ![0, 1, 2] bcast_S2x1x1024_S2x16384x1024_0_1_2 (extractStridedSlice S2x1x1024 ![0, 0, 0] mo slices_S2x6x1024_S2x1x1024_0_0_0))) w) slices_S2x16384x2560_S2x16384x512_0_0_512) shapeCasts_S2x16384x512_S2x16384x8x64) (broadcastInDim S2x16384x8x64 ![0, 1, 2, 3] bcast_S2x16384x8x1_S2x16384x8x64_0_1_2_3 (Host.rsqrt (addf (Host.divf (broadcastInDim S2x16384x8x1 ![0, 1, 2] bcast_S2x16384x8_S2x16384x8x1_0_1_2 (Host.reduceAdd (mulf (shapeCast _ (extractStridedSlice S2x16384x512 ![0, 0, 512] (Host.dotGeneral dot_S2x16384x1024_S1024x2560_S2x16384x2560_2_0_01_1_n_n none (addf (mulf (mulf (mulf (shapeCast _ x shapeCasts_S32768x1024_S2x16384x1024) (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf (shapeCast _ x shapeCasts_S32768x1024_S2x16384x1024) (shapeCast _ x shapeCasts_S32768x1024_S2x16384x1024)) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))) (broadcastInDim S2x16384x1024 ![0, 1, 2] bcast_S2x1x1024_S2x16384x1024_0_1_2 (addf (broadcastInDim S2x1x1024 ![] bcast_S_S2x1x1024 (constant S_ .f32 0x3F800000#32)) (extractStridedSlice S2x1x1024 ![0, 1, 0] mo slices_S2x6x1024_S2x1x1024_0_1_0)))) (broadcastInDim S2x16384x1024 ![0, 1, 2] bcast_S2x1x1024_S2x16384x1024_0_1_2 (extractStridedSlice S2x1x1024 ![0, 0, 0] mo slices_S2x6x1024_S2x1x1024_0_0_0))) w) slices_S2x16384x2560_S2x16384x512_0_0_512) shapeCasts_S2x16384x512_S2x16384x8x64) (shapeCast _ (extractStridedSlice S2x16384x512 ![0, 0, 512] (Host.dotGeneral dot_S2x16384x1024_S1024x2560_S2x16384x2560_2_0_01_1_n_n none (addf (mulf (mulf (mulf (shapeCast _ x shapeCasts_S32768x1024_S2x16384x1024) (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf (shapeCast _ x shapeCasts_S32768x1024_S2x16384x1024) (shapeCast _ x shapeCasts_S32768x1024_S2x16384x1024)) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))) (broadcastInDim S2x16384x1024 ![0, 1, 2] bcast_S2x1x1024_S2x16384x1024_0_1_2 (addf (broadcastInDim S2x1x1024 ![] bcast_S_S2x1x1024 (constant S_ .f32 0x3F800000#32)) (extractStridedSlice S2x1x1024 ![0, 1, 0] mo slices_S2x6x1024_S2x1x1024_0_1_0)))) (broadcastInDim S2x16384x1024 ![0, 1, 2] bcast_S2x1x1024_S2x16384x1024_0_1_2 (extractStridedSlice S2x1x1024 ![0, 0, 0] mo slices_S2x6x1024_S2x1x1024_0_0_0))) w) slices_S2x16384x2560_S2x16384x512_0_0_512) shapeCasts_S2x16384x512_S2x16384x8x64)) (constant S_ .f32 0x00000000#32) reducesTo_S2x16384x8x64_S2x16384x8_d3 h_S_)) (broadcastInDim S2x16384x8x1 ![] bcast_S_S2x16384x8x1 (constant S_ .f32 0x42800000#32))) (broadcastInDim S2x16384x8x1 ![] bcast_S_S2x16384x8x1 (constant S_ .f32 0x358637BD#32)))))) (broadcastInDim S2x16384x8x64 ![0, 1, 2, 3] bcast_S1x1x1x64_S2x16384x8x64_0_1_2_3 (broadcastInDim S1x1x1x64 ![3] bcast_S64_S1x1x1x64_3 kg))) shapeCasts_S2x16384x8x64_S32768x512) bitsLt_bf16_f32

def vv (x : FVec Ideal S32768x1024 .f32) (mo : FVec Ideal S2x6x1024 .f32) (g : FVec Ideal S1024 .f32) (w : FVec Ideal S1024x2560 .f32) : FVec Ideal S32768x512 .bf16 :=
  truncf .bf16 (shapeCast _ (extractStridedSlice S2x16384x512 ![0, 0, 1024] (Host.dotGeneral dot_S2x16384x1024_S1024x2560_S2x16384x2560_2_0_01_1_n_n none (addf (mulf (mulf (mulf (shapeCast _ x shapeCasts_S32768x1024_S2x16384x1024) (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf (shapeCast _ x shapeCasts_S32768x1024_S2x16384x1024) (shapeCast _ x shapeCasts_S32768x1024_S2x16384x1024)) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))) (broadcastInDim S2x16384x1024 ![0, 1, 2] bcast_S2x1x1024_S2x16384x1024_0_1_2 (addf (broadcastInDim S2x1x1024 ![] bcast_S_S2x1x1024 (constant S_ .f32 0x3F800000#32)) (extractStridedSlice S2x1x1024 ![0, 1, 0] mo slices_S2x6x1024_S2x1x1024_0_1_0)))) (broadcastInDim S2x16384x1024 ![0, 1, 2] bcast_S2x1x1024_S2x16384x1024_0_1_2 (extractStridedSlice S2x1x1024 ![0, 0, 0] mo slices_S2x6x1024_S2x1x1024_0_0_0))) w) slices_S2x16384x2560_S2x16384x512_0_0_1024) shapeCasts_S2x16384x512_S32768x512) bitsLt_bf16_f32

def uu (x : FVec Ideal S32768x1024 .f32) (mo : FVec Ideal S2x6x1024 .f32) (g : FVec Ideal S1024 .f32) (w : FVec Ideal S1024x2560 .f32) : FVec Ideal S32768x512 .bf16 :=
  truncf .bf16 (shapeCast _ (mulf (extractStridedSlice S2x16384x512 ![0, 0, 1536] (Host.dotGeneral dot_S2x16384x1024_S1024x2560_S2x16384x2560_2_0_01_1_n_n none (addf (mulf (mulf (mulf (shapeCast _ x shapeCasts_S32768x1024_S2x16384x1024) (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf (shapeCast _ x shapeCasts_S32768x1024_S2x16384x1024) (shapeCast _ x shapeCasts_S32768x1024_S2x16384x1024)) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))) (broadcastInDim S2x16384x1024 ![0, 1, 2] bcast_S2x1x1024_S2x16384x1024_0_1_2 (addf (broadcastInDim S2x1x1024 ![] bcast_S_S2x1x1024 (constant S_ .f32 0x3F800000#32)) (extractStridedSlice S2x1x1024 ![0, 1, 0] mo slices_S2x6x1024_S2x1x1024_0_1_0)))) (broadcastInDim S2x16384x1024 ![0, 1, 2] bcast_S2x1x1024_S2x16384x1024_0_1_2 (extractStridedSlice S2x1x1024 ![0, 0, 0] mo slices_S2x6x1024_S2x1x1024_0_0_0))) w) slices_S2x16384x2560_S2x16384x512_0_0_1536) (Host.divf (broadcastInDim S2x16384x512 ![] bcast_S_S2x16384x512 (constant S_ .f32 0x3F800000#32)) (addf (broadcastInDim S2x16384x512 ![] bcast_S_S2x16384x512 (constant S_ .f32 0x3F800000#32)) (Host.exp (Host.negf (extractStridedSlice S2x16384x512 ![0, 0, 2048] (Host.dotGeneral dot_S2x16384x1024_S1024x2560_S2x16384x2560_2_0_01_1_n_n none (addf (mulf (mulf (mulf (shapeCast _ x shapeCasts_S32768x1024_S2x16384x1024) (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf (shapeCast _ x shapeCasts_S32768x1024_S2x16384x1024) (shapeCast _ x shapeCasts_S32768x1024_S2x16384x1024)) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))) (broadcastInDim S2x16384x1024 ![0, 1, 2] bcast_S2x1x1024_S2x16384x1024_0_1_2 (addf (broadcastInDim S2x1x1024 ![] bcast_S_S2x1x1024 (constant S_ .f32 0x3F800000#32)) (extractStridedSlice S2x1x1024 ![0, 1, 0] mo slices_S2x6x1024_S2x1x1024_0_1_0)))) (broadcastInDim S2x16384x1024 ![0, 1, 2] bcast_S2x1x1024_S2x16384x1024_0_1_2 (extractStridedSlice S2x1x1024 ![0, 0, 0] mo slices_S2x6x1024_S2x1x1024_0_0_0))) w) slices_S2x16384x2560_S2x16384x512_0_0_2048)))))) shapeCasts_S2x16384x512_S32768x512) bitsLt_bf16_f32

/-- A row of the arrays through the projection. -/
def proj (x : FVec Ideal S32768x1024 .f32) (mo : FVec Ideal S2x6x1024 .f32) (g : FVec Ideal S1024 .f32) (w : FVec Ideal S1024x2560 .f32)
    (R : Fin 32768) (j : Fin 2560) : EReal :=
  ∑ k, normed (fun k => x (ix2 R k)) (fun k => g (ix1 k)) (fun k => mo (ix3 ⟨R.val / 16384, by omega⟩ 1 k))
    (fun k => mo (ix3 ⟨R.val / 16384, by omega⟩ 0 k)) k * w (ix2 k j)

theorem qq_apply (x : FVec Ideal S32768x1024 .f32) (mo : FVec Ideal S2x6x1024 .f32) (g : FVec Ideal S1024 .f32) (w : FVec Ideal S1024x2560 .f32) ( qg : FVec Ideal S64 .f32) (R : Fin 32768) (j : Fin 512) :
    qq x mo g w qg (ix2 R j) = headNormed (fun j => proj x mo g w R ⟨j.val, by omega⟩) j * qg (ix1 ⟨j.val % 64, by omega⟩) * Ideal.ofBits FTy.f32 0x3E000000#32 := by
  pointwise [qq]
  rfl

theorem kk_apply (x : FVec Ideal S32768x1024 .f32) (mo : FVec Ideal S2x6x1024 .f32) (g : FVec Ideal S1024 .f32) (w : FVec Ideal S1024x2560 .f32) ( kg : FVec Ideal S64 .f32) (R : Fin 32768) (j : Fin 512) :
    kk x mo g w kg (ix2 R j) = headNormed (fun j => proj x mo g w R ⟨512 + j.val, by omega⟩) j * kg (ix1 ⟨j.val % 64, by omega⟩) := by
  pointwise [kk]
  rfl

theorem vv_apply (x : FVec Ideal S32768x1024 .f32) (mo : FVec Ideal S2x6x1024 .f32) (g : FVec Ideal S1024 .f32) (w : FVec Ideal S1024x2560 .f32)  (R : Fin 32768) (j : Fin 512) :
    vv x mo g w (ix2 R j) = proj x mo g w R ⟨1024 + j.val, by omega⟩ := by
  pointwise [vv]
  rfl

theorem uu_apply (x : FVec Ideal S32768x1024 .f32) (mo : FVec Ideal S2x6x1024 .f32) (g : FVec Ideal S1024 .f32) (w : FVec Ideal S1024x2560 .f32)  (R : Fin 32768) (j : Fin 512) :
    uu x mo g w (ix2 R j) = proj x mo g w R ⟨1536 + j.val, by omega⟩ * Ideal.logistic (proj x mo g w R ⟨2048 + j.val, by omega⟩) := by
  pointwise [uu]
  rfl

end Cert.InARefIdeal.Hand
-- ==== Proof.Post.Value.lean ====
/-
  The blocks the output gate reads and writes at a grid point.
-/
module

public import proofs.«01_k».proof.Proof.Gen.PostIdeal.Value
public import proofs.«01_k».proof.Proof.Common
public import Idealize.ShloMosaic.Lib.StableHlo.Run
public import Idealize.ShloMosaic.Lib.Tactic

@[expose] public section

set_option maxRecDepth 16384

noncomputable section

namespace Cert.PostIdeal.Hand

open Cert.Hand Cert.PostIdeal Cert.PostIdeal.Gen Idealize.ShloMosaic Idealize.ShloMosaic.TcCoe Idealize.SL.Sem

variable (m : (ℓ : Loc nD τ sig) → Buf (Elt Ideal) ℓ)

theorem points (t : Fin cfg0.N) : t.val < 64 := lt_of_lt_of_eq t.isLt (show cfg0.N = 64 from N_0)

/-- Where each window's block lies at point `t`. -/
theorem place : ∀ t : Fin cfg0.N,
    (win0_0.index t (0 : Fin 2) = 0 ∧ win0_0.index t (1 : Fin 2) = t.val)
    ∧ (win0_1.index t (0 : Fin 2) = 0 ∧ win0_1.index t (1 : Fin 2) = 0) :=
  (by decide +kernel : ∀ t : Fin grid0.N, _)

/-- The scan's outputs, transposed. -/
theorem block0 (c : Dev nD) (t : Fin cfg0.N) (a : Fin 512) (b : Fin 512) :
    (iblk m c 0 t : Vec Ideal S512x512 .f32) (ix2 a b)
      = (m ((c : Thread nD τ).loc main_arg0) : FVec Ideal S512x32768 .f32) (ix2 a ⟨t.val * 512 + b.val, by have := points t; have := b.isLt; omega⟩) := by
  obtain ⟨⟨p0, p1⟩, -⟩ := place t
  unfold iblk
  rw [View.read_apply]
  show V m c main_arg0 _ = _
  rw [V_main_arg0]
  congr 1
  funext x
  apply Fin.ext
  match x with
  | ⟨0, _⟩ => show win0_0.index t 0 * 512 + 1 * a.val = a.val; rw [p0]; omega
  | ⟨1, _⟩ => show win0_0.index t 1 * 512 + 1 * b.val = t.val * 512 + b.val; rw [p1]; omega

/-- The gate's weights. -/
theorem block1 (c : Dev nD) (t : Fin cfg0.N) (a : Fin 512) (b : Fin 512) :
    (iblk m c 1 t : Vec Ideal S512x512 .bf16) (ix2 a b)
      = (V m c main_v0 : FVec Ideal S512x512 .bf16) (ix2 a b) := by
  obtain ⟨-, p0, p1⟩ := place t
  unfold iblk
  rw [View.read_apply]
  show V m c main_v0 _ = _
  congr 1
  funext x
  apply Fin.ext
  match x with
  | ⟨0, _⟩ => show win0_1.index t 0 * 512 + 1 * a.val = a.val; rw [p0]; omega
  | ⟨1, _⟩ => show win0_1.index t 1 * 512 + 1 * b.val = b.val; rw [p1]; omega

/-- Where point `t` writes the gated rows. -/
theorem place2 : ∀ t : Fin cfg0.N,
    win0_2.index t (0 : Fin 2) = t.val ∧ win0_2.index t (1 : Fin 2) = 0 :=
  (by decide +kernel : ∀ t : Fin grid0.N, _)

/-- The gated rows after the run, at an index of point `t`'s block: what the body leaves there. -/
theorem written2 (c : Dev nD) (t : Fin cfg0.N) (a : Fin 512) (b : Fin 512) :
    ((dats m 0 c).arrAt 2 cfg0.N) (ix2 ⟨t.val * 512 + a.val, by have := points t; have := a.isLt; omega⟩ b)
      = (out0_2 (iblk m c 0 t) (iblk m c 1 t)) (ix2 a b) := by
  have h := congrFun (Value.blocks2 m c t (flush0_2 t)) (ix2 a b)
  rw [View.read_apply, Value.flushed2] at h
  refine Eq.trans ?_ h
  congr 1
  obtain ⟨p0, p1⟩ := place2 t
  funext x
  apply Fin.ext
  match x with
  | ⟨0, _⟩ => show t.val * 512 + a.val = win0_2.index t 0 * 512 + 1 * a.val; rw [p0]; omega
  | ⟨1, _⟩ => show b.val = win0_2.index t 1 * 512 + 1 * b.val; rw [p1]; omega

theorem hz2 : (![0, 0] : Fin 2 → Nat) = fun _ => 0 := funext fun a => by fin_cases a <;> rfl
theorem hz3 : (![0, 0, 0] : Fin 3 → Nat) = fun _ => 0 := funext fun a => by fin_cases a <;> rfl

/-- The one store of the block leaves its value. -/
theorem out2_eq (x0 : Vec Ideal S512x512 .f32) (x1 : Vec Ideal S512x512 .bf16) : out0_2 x0 x1 = k0_pay1 x0 x1 := by
  unfold out0_2
  rw [View.canon_unit_zero (S := S512x512) hz2, View.ld_unit_zero (S := S512x512) hz2, View.ld_unit_zero (S := S512x512) hz2]

/-- The gate's weights, cast. -/
theorem host_v0 (c : Dev nD) (j k : Fin 512) : (V m c main_v0 : FVec Ideal S512x512 .bf16) (ix2 j k)
    = (m ((c : Thread nD τ).loc main_arg1) : FVec Ideal S512x512 .f32) (ix2 j k) := by
  have h : @Eq (FVec Ideal S512x512 .bf16) (V m c main_v0) (truncf .bf16 (m ((c : Thread nD τ).loc main_arg1) : FVec Ideal S512x512 .f32) bitsLt_bf16_f32) := by
    unfold V
    after_results <;> rfl
  rw [h]
  pointwise []

theorem pay_apply (x0 : Vec Ideal S512x512 .f32) (x1 : Vec Ideal S512x512 .bf16) (r j : Fin 512) : k0_pay1 x0 x1 (ix2 r j)
    = gelu (x0 (ix2 j r)) * Ideal.logistic (∑ x, gelu (x0 (ix2 x r)) * x1 (ix2 x j)) := by
  pointwise [k0_pay1]
  rfl

/-- Row `R` is row `R % 512` of grid point `R / 512`. -/
theorem split (R : Fin 32768) : ∃ (t : Fin cfg0.N) (a : Fin 512) (h : t.val * 512 + a.val < 32768), R = ⟨t.val * 512 + a.val, h⟩ :=
  ⟨⟨R.val / 512, lt_of_lt_of_eq (show R.val / 512 < 64 by omega) (show 64 = cfg0.N from N_0.symm)⟩, ⟨R.val % 512, by omega⟩,
    by show R.val / 512 * 512 + R.val % 512 < 32768; omega, Fin.ext (by show R.val = R.val / 512 * 512 + R.val % 512; omega)⟩

/-- The gated rows after the run. -/
theorem result_apply (c : Dev nD) (R : Fin 32768) (j : Fin 512) :
    @Eq EReal (((dats m 0 c).arrAt 2 cfg0.N) (ix2 R j))
      (gelu ((m ((c : Thread nD τ).loc main_arg0) : FVec Ideal S512x32768 .f32) (ix2 j R))
        * Ideal.logistic (∑ x : Fin 512, gelu ((m ((c : Thread nD τ).loc main_arg0) : FVec Ideal S512x32768 .f32) (ix2 x R))
          * (m ((c : Thread nD τ).loc main_arg1) : FVec Ideal S512x512 .f32) (ix2 x j))) := by
  obtain ⟨t, a, h, rfl⟩ := split R
  refine (written2 m c t a j).trans ?_
  rw [out2_eq]
  change @Eq EReal _ _
  rw [pay_apply]
  refine congrArg₂ (· * ·) (congrArg gelu (block0 m c t j a)) (congrArg Ideal.logistic (Finset.sum_congr rfl fun x _ => ?_))
  exact congrArg₂ (· * ·) (congrArg gelu (block0 m c t x a)) ((block1 m c t x j).trans (host_v0 m c x j))

end Cert.PostIdeal.Hand
-- ==== Proof.Post.RefValue.lean ====
/-
  The plain output gate read at an index.
-/
module

public import proofs.«01_k».proof.Proof.Gen.PostRefIdeal.Run
public import proofs.«01_k».proof.Proof.Common

@[expose] public section

set_option maxRecDepth 16384

noncomputable section

namespace Cert.PostRefIdeal.Hand

open Cert.Hand Cert.PostRefIdeal Cert.PostRefIdeal.Gen Idealize.ShloMosaic Idealize.SL.Sem

def post (y : FVec Ideal S512x32768 .f32) (w : FVec Ideal S512x512 .f32) : FVec Ideal S32768x512 .bf16 :=
  truncf .bf16 (mulf (mulf (transpose S32768x512 [1, 0] y transposes_S512x32768_S32768x512_1_0) (mulf (broadcastInDim S32768x512 ![] bcast_S_S32768x512 (constant S_ .f32 0x3F000000#32)) (addf (broadcastInDim S32768x512 ![] bcast_S_S32768x512 (constant S_ .f32 0x3F800000#32)) (Host.tanh (mulf (broadcastInDim S32768x512 ![] bcast_S_S32768x512 (constant S_ .f32 0x3F4C422A#32)) (addf (transpose S32768x512 [1, 0] y transposes_S512x32768_S32768x512_1_0) (mulf (broadcastInDim S32768x512 ![] bcast_S_S32768x512 (constant S_ .f32 0x3D372713#32)) (mulf (mulf (transpose S32768x512 [1, 0] y transposes_S512x32768_S32768x512_1_0) (transpose S32768x512 [1, 0] y transposes_S512x32768_S32768x512_1_0)) (transpose S32768x512 [1, 0] y transposes_S512x32768_S32768x512_1_0))))))))) (Host.divf (broadcastInDim S32768x512 ![] bcast_S_S32768x512 (constant S_ .f32 0x3F800000#32)) (addf (broadcastInDim S32768x512 ![] bcast_S_S32768x512 (constant S_ .f32 0x3F800000#32)) (Host.exp (Host.negf (Host.dotGeneral dot_S32768x512_S512x512_S32768x512_1_0_0_1_n_n none (mulf (transpose S32768x512 [1, 0] y transposes_S512x32768_S32768x512_1_0) (mulf (broadcastInDim S32768x512 ![] bcast_S_S32768x512 (constant S_ .f32 0x3F000000#32)) (addf (broadcastInDim S32768x512 ![] bcast_S_S32768x512 (constant S_ .f32 0x3F800000#32)) (Host.tanh (mulf (broadcastInDim S32768x512 ![] bcast_S_S32768x512 (constant S_ .f32 0x3F4C422A#32)) (addf (transpose S32768x512 [1, 0] y transposes_S512x32768_S32768x512_1_0) (mulf (broadcastInDim S32768x512 ![] bcast_S_S32768x512 (constant S_ .f32 0x3D372713#32)) (mulf (mulf (transpose S32768x512 [1, 0] y transposes_S512x32768_S32768x512_1_0) (transpose S32768x512 [1, 0] y transposes_S512x32768_S32768x512_1_0)) (transpose S32768x512 [1, 0] y transposes_S512x32768_S32768x512_1_0))))))))) w)))))) bitsLt_bf16_f32

theorem post_apply (y : FVec Ideal S512x32768 .f32) (w : FVec Ideal S512x512 .f32) (R : Fin 32768) (j : Fin 512) : post y w (ix2 R j)
    = gelu (y (ix2 j R)) * Ideal.logistic (∑ x, gelu (y (ix2 x R)) * w (ix2 x j)) := by
  pointwise [post]
  simp only [gelu_eq]
  rfl

end Cert.PostRefIdeal.Hand
-- ==== Proof.Ada.Value.lean ====
/-
  The blocks the modulation reads and writes at a grid point.
-/
module

public import proofs.«01_k».proof.Proof.Gen.AdaIdeal.Value
public import proofs.«01_k».proof.Proof.Common
public import Idealize.ShloMosaic.Lib.StableHlo.Run
public import Idealize.ShloMosaic.Lib.Tactic

@[expose] public section

set_option maxRecDepth 16384

noncomputable section

namespace Cert.AdaIdeal.Hand

open Cert.Hand Cert.AdaIdeal Cert.AdaIdeal.Gen Idealize.ShloMosaic Idealize.ShloMosaic.TcCoe Idealize.SL.Sem

variable (m : (ℓ : Loc nD τ sig) → Buf (Elt Ideal) ℓ)

theorem points (t : Fin cfg0.N) : t.val < 12 := lt_of_lt_of_eq t.isLt (show cfg0.N = 12 from N_0)

/-- Where each window's block lies at point `t`. -/
theorem place : ∀ t : Fin cfg0.N,
    (win0_0.index t (0 : Fin 2) = 0 ∧ win0_0.index t (1 : Fin 2) = 0)
    ∧ (win0_1.index t (0 : Fin 3) = t.val / 6 ∧ win0_1.index t (1 : Fin 3) = 0 ∧ win0_1.index t (2 : Fin 3) = t.val % 6)
    ∧ (win0_2.index t (0 : Fin 3) = t.val / 6 ∧ win0_2.index t (1 : Fin 3) = 0 ∧ win0_2.index t (2 : Fin 3) = t.val % 6) :=
  (by decide +kernel : ∀ t : Fin grid0.N, _)

/-- The conditioning. -/
theorem block0 (c : Dev nD) (t : Fin cfg0.N) (a : Fin 2) (b : Fin 1024) :
    (iblk m c 0 t : Vec Ideal S2x1024 .f32) (ix2 a b)
      = (m ((c : Thread nD τ).loc main_arg0) : FVec Ideal S2x1024 .f32) (ix2 a b) := by
  obtain ⟨⟨p0, p1⟩, -⟩ := place t
  unfold iblk
  rw [View.read_apply]
  show V m c main_arg0 _ = _
  rw [V_main_arg0]
  congr 1
  funext x
  apply Fin.ext
  match x with
  | ⟨0, _⟩ => show win0_0.index t 0 * 2 + 1 * a.val = a.val; rw [p0]; omega
  | ⟨1, _⟩ => show win0_0.index t 1 * 1024 + 1 * b.val = b.val; rw [p1]; omega

/-- The layer's weights. -/
theorem block1 (c : Dev nD) (t : Fin cfg0.N) (a : Fin 1) (b : Fin 1024) (d : Fin 1024) :
    (iblk m c 1 t : Vec Ideal S1x1024x1024 .f32) (ix3 a b d)
      = (m ((c : Thread nD τ).loc main_arg1) : FVec Ideal S2x1024x6144 .f32) (ix3 ⟨t.val / 6, by have := points t; omega⟩ b ⟨t.val % 6 * 1024 + d.val, by have := points t; have := d.isLt; omega⟩) := by
  obtain ⟨-, ⟨p0, p1, p2⟩, -⟩ := place t
  unfold iblk
  rw [View.read_apply]
  show V m c main_arg1 _ = _
  rw [V_main_arg1]
  congr 1
  funext x
  apply Fin.ext
  match x with
  | ⟨0, _⟩ => show win0_1.index t 0 * 1 + 1 * a.val = t.val / 6; rw [p0]; omega
  | ⟨1, _⟩ => show win0_1.index t 1 * 1024 + 1 * b.val = b.val; rw [p1]; omega
  | ⟨2, _⟩ => show win0_1.index t 2 * 1024 + 1 * d.val = t.val % 6 * 1024 + d.val; rw [p2]; omega

/-- The layer's biases. -/
theorem block2 (c : Dev nD) (t : Fin cfg0.N) (a : Fin 1) (b : Fin 1) (d : Fin 1024) :
    (iblk m c 2 t : Vec Ideal S1x1x1024 .f32) (ix3 a b d)
      = (V m c main_v0 : FVec Ideal S2x1x6144 .f32) (ix3 ⟨t.val / 6, by have := points t; omega⟩ b ⟨t.val % 6 * 1024 + d.val, by have := points t; have := d.isLt; omega⟩) := by
  obtain ⟨-, -, p0, p1, p2⟩ := place t
  unfold iblk
  rw [View.read_apply]
  show V m c main_v0 _ = _
  congr 1
  funext x
  apply Fin.ext
  match x with
  | ⟨0, _⟩ => show win0_2.index t 0 * 1 + 1 * a.val = t.val / 6; rw [p0]; omega
  | ⟨1, _⟩ => show win0_2.index t 1 * 1 + 1 * b.val = b.val; rw [p1]; omega
  | ⟨2, _⟩ => show win0_2.index t 2 * 1024 + 1 * d.val = t.val % 6 * 1024 + d.val; rw [p2]; omega

/-- Where point `t` writes the modulation. -/
theorem place3 : ∀ t : Fin cfg0.N,
    win0_3.index t (0 : Fin 3) = t.val / 6 ∧ win0_3.index t (1 : Fin 3) = 0 ∧ win0_3.index t (2 : Fin 3) = t.val % 6 :=
  (by decide +kernel : ∀ t : Fin grid0.N, _)

/-- The modulation after the run, at an index of point `t`'s block: what the body leaves there. -/
theorem written3 (c : Dev nD) (t : Fin cfg0.N) (a : Fin 1) (b : Fin 2) (d : Fin 1024) :
    ((dats m 0 c).arrAt 3 cfg0.N) (ix3 ⟨t.val / 6, by have := points t; omega⟩ b ⟨t.val % 6 * 1024 + d.val, by have := points t; have := d.isLt; omega⟩)
      = (out0_3 (iblk m c 0 t) (iblk m c 1 t) (iblk m c 2 t)) (ix3 a b d) := by
  have h := congrFun (Value.blocks3 m c t (flush0_3 t)) (ix3 a b d)
  rw [View.read_apply, Value.flushed3] at h
  refine Eq.trans ?_ h
  congr 1
  obtain ⟨p0, p1, p2⟩ := place3 t
  funext x
  apply Fin.ext
  match x with
  | ⟨0, _⟩ => show t.val / 6 = win0_3.index t 0 * 1 + 1 * a.val; rw [p0]; omega
  | ⟨1, _⟩ => show b.val = win0_3.index t 1 * 2 + 1 * b.val; rw [p1]; omega
  | ⟨2, _⟩ => show t.val % 6 * 1024 + d.val = win0_3.index t 2 * 1024 + 1 * d.val; rw [p2]; omega

theorem hz2 : (![0, 0] : Fin 2 → Nat) = fun _ => 0 := funext fun a => by fin_cases a <;> rfl
theorem hz3 : (![0, 0, 0] : Fin 3 → Nat) = fun _ => 0 := funext fun a => by fin_cases a <;> rfl

/-- The one store of the block leaves its value. -/
theorem out3_eq (x0 : Vec Ideal S2x1024 .f32) (x1 : Vec Ideal S1x1024x1024 .f32) (x2 : Vec Ideal S1x1x1024 .f32) :
    out0_3 x0 x1 x2 = k0_pay1 x0 x1 x2 := by
  unfold out0_3
  rw [View.canon_unit_zero (S := S1x2x1024) hz3, View.ld_unit_zero (S := S2x1024) hz2, View.ld_unit_zero (S := S1x1024x1024) hz3,
    View.ld_unit_zero (S := S1x1x1024) hz3]

/-- A middle axis of one changes no entry. -/
theorem middle_apply (x : FVec Ideal S2x6144 .f32) (l : Fin 2) (d : Fin 6144) :
    shapeCast S2x1x6144 x shapeCasts_S2x6144_S2x1x6144 (ix3 l 0 d) = x (ix2 l d) := by
  refine shapeCast_apply _ _ _ _ ?_
  simp only [Shape.rowMajor_val_two, Shape.rowMajor_val_three]
  show l.val * 6144 + d.val = (l.val * 1 + 0) * 6144 + d.val
  omega

/-- The biases with a middle axis. -/
theorem host_v0 (c : Dev nD) (l : Fin 2) (d : Fin 6144) : (V m c main_v0 : FVec Ideal S2x1x6144 .f32) (ix3 l 0 d)
    = (m ((c : Thread nD τ).loc main_arg2) : FVec Ideal S2x6144 .f32) (ix2 l d) := by
  have h : @Eq (FVec Ideal S2x1x6144 .f32) (V m c main_v0) (shapeCast S2x1x6144 (m ((c : Thread nD τ).loc main_arg2) : FVec Ideal S2x6144 .f32) shapeCasts_S2x6144_S2x1x6144) := by
    unfold V
    after_results <;> rfl
  rw [h]
  exact middle_apply _ l d

theorem pay_apply (x0 : Vec Ideal S2x1024 .f32) (x1 : Vec Ideal S1x1024x1024 .f32) (x2 : Vec Ideal S1x1x1024 .f32) (b : Fin 2) (j : Fin 1024) :
    k0_pay1 x0 x1 x2 (ix3 0 b j) = ∑ x, x0 (ix2 b x) * Ideal.logistic (x0 (ix2 b x)) * x1 (ix3 0 x j) + x2 (ix3 0 0 j) := by
  pointwise [k0_pay1]

/-- Layer `l`, column `j` lie in grid point `6 l + j / 1024`. -/
theorem split (l : Fin 2) (j : Fin 6144) : ∃ (t : Fin cfg0.N) (d : Fin 1024) (h0 : t.val / 6 < 2) (h : t.val % 6 * 1024 + d.val < 6144),
    l = ⟨t.val / 6, h0⟩ ∧ j = ⟨t.val % 6 * 1024 + d.val, h⟩ :=
  ⟨⟨l.val * 6 + j.val / 1024, lt_of_lt_of_eq (show l.val * 6 + j.val / 1024 < 12 by omega) (show 12 = cfg0.N from N_0.symm)⟩, ⟨j.val % 1024, by omega⟩,
    by show (l.val * 6 + j.val / 1024) / 6 < 2; omega, by show (l.val * 6 + j.val / 1024) % 6 * 1024 + j.val % 1024 < 6144; omega,
    Fin.ext (by show l.val = (l.val * 6 + j.val / 1024) / 6; omega),
    Fin.ext (by show j.val = (l.val * 6 + j.val / 1024) % 6 * 1024 + j.val % 1024; omega)⟩

/-- The modulation after the run. -/
theorem result_apply (c : Dev nD) (l b : Fin 2) (j : Fin 6144) :
    @Eq EReal (((dats m 0 c).arrAt 3 cfg0.N) (ix3 l b j))
      (HAdd.hAdd (α := EReal) (β := EReal) (∑ x : Fin 1024, HMul.hMul (α := EReal) (β := EReal) (HMul.hMul (α := EReal) (β := EReal) ((m ((c : Thread nD τ).loc main_arg0) : FVec Ideal S2x1024 .f32) (ix2 b x))
          (Ideal.logistic ((m ((c : Thread nD τ).loc main_arg0) : FVec Ideal S2x1024 .f32) (ix2 b x))))
          ((m ((c : Thread nD τ).loc main_arg1) : FVec Ideal S2x1024x6144 .f32) (ix3 l x j)))
        ((m ((c : Thread nD τ).loc main_arg2) : FVec Ideal S2x6144 .f32) (ix2 l j))) := by
  obtain ⟨t, d, h0, h, rfl, rfl⟩ := split l j
  refine (written3 m c t 0 b d).trans ?_
  rw [out3_eq]
  change @Eq EReal _ _
  rw [pay_apply]
  refine congrArg₂ (· + ·) (Finset.sum_congr rfl fun x _ => ?_) ((block2 m c t 0 0 d).trans (host_v0 m c _ _))
  exact congrArg₂ (· * ·) (congrArg₂ (· * ·) (block0 m c t b x) (congrArg Ideal.logistic (block0 m c t b x))) (block1 m c t 0 x d)

end Cert.AdaIdeal.Hand
-- ==== Proof.Ada.RefValue.lean ====
/-
  The plain modulation read at an index.
-/
module

public import proofs.«01_k».proof.Proof.Gen.AdaRefIdeal.Run
public import proofs.«01_k».proof.Proof.Common

@[expose] public section

set_option maxRecDepth 16384

noncomputable section

namespace Cert.AdaRefIdeal.Hand

open Cert.Hand Cert.AdaRefIdeal Cert.AdaRefIdeal.Gen Idealize.ShloMosaic Idealize.SL.Sem

def ada (x : FVec Ideal S2x1024 .f32) (w : FVec Ideal S2x1024x6144 .f32) (b : FVec Ideal S2x6144 .f32) : FVec Ideal S2x2x6144 .f32 :=
  concatenate S2x2x6144 0 [⟨S1x2x6144, (broadcastInDim S1x2x6144 ![1, 2] bcast_S2x6144_S1x2x6144_1_2 (addf (Host.dotGeneral dot_S2x1024_S1024x6144_S2x6144_1_0_0_1_n_n none (mulf x (Host.divf (broadcastInDim S2x1024 ![] bcast_S_S2x1024 (constant S_ .f32 0x3F800000#32)) (addf (broadcastInDim S2x1024 ![] bcast_S_S2x1024 (constant S_ .f32 0x3F800000#32)) (Host.exp (Host.negf x))))) (shapeCast _ (extractStridedSlice S1x1024x6144 ![0, 0, 0] w slices_S2x1024x6144_S1x1024x6144_0_0_0) shapeCasts_S1x1024x6144_S1024x6144)) (broadcastInDim S2x6144 ![0, 1] bcast_S1x6144_S2x6144_0_1 (broadcastInDim S1x6144 ![1] bcast_S6144_S1x6144_1 (shapeCast _ (extractStridedSlice S1x6144 ![0, 0] b slices_S2x6144_S1x6144_0_0) shapeCasts_S1x6144_S6144)))))⟩, ⟨S1x2x6144, (broadcastInDim S1x2x6144 ![1, 2] bcast_S2x6144_S1x2x6144_1_2 (addf (Host.dotGeneral dot_S2x1024_S1024x6144_S2x6144_1_0_0_1_n_n none (mulf x (Host.divf (broadcastInDim S2x1024 ![] bcast_S_S2x1024 (constant S_ .f32 0x3F800000#32)) (addf (broadcastInDim S2x1024 ![] bcast_S_S2x1024 (constant S_ .f32 0x3F800000#32)) (Host.exp (Host.negf x))))) (shapeCast _ (extractStridedSlice S1x1024x6144 ![1, 0, 0] w slices_S2x1024x6144_S1x1024x6144_1_0_0) shapeCasts_S1x1024x6144_S1024x6144)) (broadcastInDim S2x6144 ![0, 1] bcast_S1x6144_S2x6144_0_1 (broadcastInDim S1x6144 ![1] bcast_S6144_S1x6144_1 (shapeCast _ (extractStridedSlice S1x6144 ![1, 0] b slices_S2x6144_S1x6144_1_0) shapeCasts_S1x6144_S6144)))))⟩] concatenates_S1x2x6144_S1x2x6144_S2x2x6144_d0

theorem ada_apply (x : FVec Ideal S2x1024 .f32) (w : FVec Ideal S2x1024x6144 .f32) (b : FVec Ideal S2x6144 .f32) (l : Fin 2) (i : Fin 2) (j : Fin 6144) :
    ada x w b (ix3 l i j) = ∑ k, x (ix2 i k) * Ideal.logistic (x (ix2 i k)) * w (ix3 l k j) + b (ix2 l j) := by
  pointwise [ada]
  obtain rfl | rfl : l = 0 ∨ l = 1 := by fin_cases l <;> simp
  · rfl
  · rfl

end Cert.AdaRefIdeal.Hand
-- ==== Proof.Conv.Case.lean ====
/-
  What a grid point of the convolution leaves in its output block, as values of its input blocks.
-/
module

public import proofs.«01_k».proof.Proof.Gen.ConvIdeal.Frame
public import Idealize.ShloMosaic.Lib.Pipeline.Value
public import Idealize.ShloMosaic.Lib.Pipeline.ReadBack
public import Idealize.ShloMosaic.Lib.Pointwise
public import Idealize.ShloMosaic.Lib.Tactic

@[expose] public section

set_option maxRecDepth 16384

noncomputable section

namespace Cert.ConvIdeal.Hand

open Cert.ConvIdeal Cert.ConvIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The body's value from the 31 shifted windows of rows. -/
def body (x3 : Vec F S31x512 .f32) (x4 x5 x6 : Vec F S1x512 .f32) (T : Fin 31 → Vec F S512x512 .f32) : Vec F S512x512 .bf16 :=
  k0_pay1 (k0_pay9 x3 (k0_pay7 x3 (k0_pay6 x3 (k0_pay5 x3 x4 (T 0) (T 1) (T 2) (T 3) (T 4) (T 5) (T 6)) (T 7) (T 8) (T 9) (T 10) (T 11) (T 12) (T 13) (T 14) (T 15)) (T 16) (T 17) (T 18) (T 19) (T 20) (T 21) (T 22) (T 23)) (T 24) (k0_pay8 x3) (T 25) (T 26) (T 27) (T 28) (T 29) (T 30))
    (k0_pay10 x3 (k0_pay7 x3 (k0_pay6 x3 (k0_pay5 x3 x4 (T 0) (T 1) (T 2) (T 3) (T 4) (T 5) (T 6)) (T 7) (T 8) (T 9) (T 10) (T 11) (T 12) (T 13) (T 14) (T 15)) (T 16) (T 17) (T 18) (T 19) (T 20) (T 21) (T 22) (T 23)) (T 24) (k0_pay8 x3) (T 25) (T 26) (T 27) (T 28) (T 29) (T 30)) x5 x6

/-- The rows kept for the windows: sixteen before, the block's own, sixteen after. -/
def rows (i : grid0.Coords) (x0 : Vec F S16x512 .bf16) (x1 : Vec F S512x512 .bf16) (x2 : Vec F S16x512 .bf16) : Vec F S544x512 .f32 :=
  View.canon
    [⟨Rect.unit ![528, 0] ![16, 512] inb_S544x512_S16x512_528_0, k0_pay4 i x2⟩,
      ⟨Rect.unit ![16, 0] ![512, 512] inb_S544x512_S512x512_16_0, k0_pay3 x1⟩,
      ⟨Rect.unit ![0, 0] ![16, 512] inb_S544x512_S16x512_0_0, k0_pay2 i x0⟩]

/-- 512 of the kept rows, from row `k + 1`. -/
def window (Z : Vec F S544x512 .f32) (k : Fin 31) : Vec F S512x512 .f32 :=
  fun j => Z (ix2 ⟨k.val + 1 + (j 0).val, by have h : (j 0).val < 512 := (j 0).isLt; omega⟩ (j 1))

theorem window_eq (Z : Vec F S544x512 .f32) (k : Fin 31) (n : Nat) (h : n = k.val + 1) (inb : ∀ a, (![n, 0] : Fin 2 → Nat) a + (![512, 512] : Fin 2 → Nat) a ≤ S544x512.size a) :
    (fun j => Z ((Rect.unit (s := S544x512) ![n, 0] ![512, 512] inb).idx j) : Vec F S512x512 .f32) = window Z k := by
  subst h
  funext j
  refine congrArg Z (funext fun a => Fin.ext ?_)
  match a with
  | ⟨0, _⟩ => show k.val + 1 + 1 * (j 0).val = k.val + 1 + (j 0).val; omega
  | ⟨1, _⟩ => show 0 + 1 * (j 1).val = (j 1).val; omega

variable (c : Dev nD) (i : grid0.Coords) (a1 : Memref sig .tc .vmem S16x512 .bf16) (h1 : a1.IsWhole)
  (a2 : Memref sig .tc .vmem S512x512 .bf16) (h2 : a2.IsWhole) (a3 : Memref sig .tc .vmem S16x512 .bf16) (h3 : a3.IsWhole)
  (a4 : Memref sig .tc .vmem S31x512 .f32) (h4 : a4.IsWhole) (a5 : Memref sig .tc .vmem S1x512 .f32) (h5 : a5.IsWhole)
  (a6 : Memref sig .tc .vmem S1x512 .f32) (h6 : a6.IsWhole) (a7 : Memref sig .tc .vmem S1x512 .f32) (h7 : a7.IsWhole)
  (a8 : Memref sig .tc .vmem S512x512 .bf16) (h8 : a8.IsWhole) (a9 : Memref sig .tc .vmem S544x512 .f32) (h9 : a9.IsWhole)
  (x0 : Vec F S16x512 .bf16) (x1 : Vec F S512x512 .bf16) (x2 : Vec F S16x512 .bf16) (x3 : Vec F S31x512 .f32)
  (x4 x5 x6 : Vec F S1x512 .f32)

/-- The output block of a grid point. -/
theorem out_eq : out0_A_7 c i a1 h1 a2 h2 a3 h3 a4 h4 a5 h5 a6 h6 a7 h7 a8 h8 a9 h9 x0 x1 x2 x3 x4 x5 x6
    = body x3 x4 x5 x6 (window (rows i x0 x1 x2)) := by
  unfold out0_A_7
  rw [View.read_writes_junk_eq_canon]
  unfold kernelRun0_A
  dsimp only
  sl_unfold_words
  rw [View.canon_unit_zero (S := S512x512) hz2]
  simp only [View.readAt_eq_ld, h1.read_unread, h2.read_unread, h3.read_unread, h4.read_unread, h5.read_unread, h6.read_unread, h7.read_unread,
    View.readCov_eq_canon', View.ld_unit_zero (S := S16x512) hz2, View.ld_unit_zero (S := S512x512) hz2, View.ld_unit_zero (S := S31x512) hz2, View.ld_unit_zero (S := S1x512) hz2]
  unfold body
  rw [← window_eq (rows i x0 x1 x2) 0 1 rfl inb_S544x512_S512x512_1_0]
  rw [← window_eq (rows i x0 x1 x2) 1 2 rfl inb_S544x512_S512x512_2_0]
  rw [← window_eq (rows i x0 x1 x2) 2 3 rfl inb_S544x512_S512x512_3_0]
  rw [← window_eq (rows i x0 x1 x2) 3 4 rfl inb_S544x512_S512x512_4_0]
  rw [← window_eq (rows i x0 x1 x2) 4 5 rfl inb_S544x512_S512x512_5_0]
  rw [← window_eq (rows i x0 x1 x2) 5 6 rfl inb_S544x512_S512x512_6_0]
  rw [← window_eq (rows i x0 x1 x2) 6 7 rfl inb_S544x512_S512x512_7_0]
  rw [← window_eq (rows i x0 x1 x2) 7 8 rfl inb_S544x512_S512x512_8_0]
  rw [← window_eq (rows i x0 x1 x2) 8 9 rfl inb_S544x512_S512x512_9_0]
  rw [← window_eq (rows i x0 x1 x2) 9 10 rfl inb_S544x512_S512x512_10_0]
  rw [← window_eq (rows i x0 x1 x2) 10 11 rfl inb_S544x512_S512x512_11_0]
  rw [← window_eq (rows i x0 x1 x2) 11 12 rfl inb_S544x512_S512x512_12_0]
  rw [← window_eq (rows i x0 x1 x2) 12 13 rfl inb_S544x512_S512x512_13_0]
  rw [← window_eq (rows i x0 x1 x2) 13 14 rfl inb_S544x512_S512x512_14_0]
  rw [← window_eq (rows i x0 x1 x2) 14 15 rfl inb_S544x512_S512x512_15_0]
  rw [← window_eq (rows i x0 x1 x2) 15 16 rfl inb_S544x512_S512x512_16_0]
  rw [← window_eq (rows i x0 x1 x2) 16 17 rfl inb_S544x512_S512x512_17_0]
  rw [← window_eq (rows i x0 x1 x2) 17 18 rfl inb_S544x512_S512x512_18_0]
  rw [← window_eq (rows i x0 x1 x2) 18 19 rfl inb_S544x512_S512x512_19_0]
  rw [← window_eq (rows i x0 x1 x2) 19 20 rfl inb_S544x512_S512x512_20_0]
  rw [← window_eq (rows i x0 x1 x2) 20 21 rfl inb_S544x512_S512x512_21_0]
  rw [← window_eq (rows i x0 x1 x2) 21 22 rfl inb_S544x512_S512x512_22_0]
  rw [← window_eq (rows i x0 x1 x2) 22 23 rfl inb_S544x512_S512x512_23_0]
  rw [← window_eq (rows i x0 x1 x2) 23 24 rfl inb_S544x512_S512x512_24_0]
  rw [← window_eq (rows i x0 x1 x2) 24 25 rfl inb_S544x512_S512x512_25_0]
  rw [← window_eq (rows i x0 x1 x2) 25 26 rfl inb_S544x512_S512x512_26_0]
  rw [← window_eq (rows i x0 x1 x2) 26 27 rfl inb_S544x512_S512x512_27_0]
  rw [← window_eq (rows i x0 x1 x2) 27 28 rfl inb_S544x512_S512x512_28_0]
  rw [← window_eq (rows i x0 x1 x2) 28 29 rfl inb_S544x512_S512x512_29_0]
  rw [← window_eq (rows i x0 x1 x2) 29 30 rfl inb_S544x512_S512x512_30_0]
  rw [← window_eq (rows i x0 x1 x2) 30 31 rfl inb_S544x512_S512x512_31_0]
  rfl

end Cert.ConvIdeal.Hand
-- ==== Proof.Conv.Sum.lean ====
/-
  A sum of taps, and the norm over 512 channels with the swish after it.
-/
module

public import proofs.«01_k».proof.Proof.Common

@[expose] public section

set_option maxRecDepth 16384

noncomputable section

namespace Cert.Hand

open Idealize.ShloMosaic

/-- `n` terms added one by one to `s`. -/
def chain (s : EReal) : (n : Nat) → (Fin n → EReal) → EReal
  | 0, _ => s
  | n + 1, a => chain s n (fun k => a k.castSucc) + a (Fin.last n)

/-- What the terms are added to may be added afterwards. -/
theorem chain_start (s t : EReal) : ∀ (n : Nat) (a : Fin n → EReal), chain (t + s) n a = chain t n a + s
  | 0, _ => rfl
  | n + 1, a => by
    show chain (t + s) n (fun k => a k.castSucc) + a (Fin.last n) = chain t n (fun k => a k.castSucc) + a (Fin.last n) + s
    rw [chain_start s t n, add_right_comm]

/-- A channel's value less the mean of the 512. -/
def centred (c : Fin 512 → EReal) (d : Fin 512) : EReal :=
  c d - Ideal.div (∑ k, c k) (FloatOps.ofBits (F := Ideal) FTy.f32 0x44000000#32)

/-- The mean of the squares. -/
def spread (c : Fin 512 → EReal) : EReal :=
  Ideal.div (∑ k, centred c k * centred c k) (FloatOps.ofBits (F := Ideal) FTy.f32 0x44000000#32)

/-- The norm over the channels, its gain and offset. -/
def scaled (c : Fin 512 → EReal) (g b : EReal) (d : Fin 512) : EReal :=
  centred c d * Ideal.rsqrt (spread c + FloatOps.ofBits (F := Ideal) FTy.f32 0x358637BD#32) * g + b

/-- The swish of the normed channel. -/
def channel (c : Fin 512 → EReal) (g b : EReal) (d : Fin 512) : EReal :=
  scaled c g b d * Ideal.logistic (scaled c g b d)

end Cert.Hand
-- ==== Proof.Conv.Step.lean ====
/-
  The value of a grid point of the convolution at an index, from its windows of rows.
-/
module

public import proofs.«01_k».proof.Proof.Gen.ConvIdeal.Skeleton
public import proofs.«01_k».proof.Proof.Conv.Case
public import proofs.«01_k».proof.Proof.Conv.Sum
public import Idealize.ShloMosaic.Lib.Pointwise

@[expose] public section

set_option maxRecDepth 16384

noncomputable section

namespace Cert.ConvIdeal.Hand

open Cert.Hand Cert.ConvIdeal Cert.ConvIdeal.Gen Idealize.ShloMosaic Idealize.SL.Sem

/-- The taps' sum at an index, before the norm. -/
def acc (x3 : Vec Ideal S31x512 .f32) (x4 : Vec Ideal S1x512 .f32) (T : Fin 31 → Vec Ideal S512x512 .f32) (r : Fin 512) (d : Fin 512) : EReal :=
  chain (x4 (ix2 0 d)) 31 (fun k => T k (ix2 r d) * x3 (ix2 k d))

theorem centre_apply (x3 : Vec Ideal S31x512 .f32) (x4 : Vec Ideal S1x512 .f32) (T : Fin 31 → Vec Ideal S512x512 .f32) (r : Fin 512) (d : Fin 512) :
    k0_pay9 x3 (k0_pay7 x3 (k0_pay6 x3 (k0_pay5 x3 x4 (T 0) (T 1) (T 2) (T 3) (T 4) (T 5) (T 6)) (T 7) (T 8) (T 9) (T 10) (T 11) (T 12) (T 13) (T 14) (T 15)) (T 16) (T 17) (T 18) (T 19) (T 20) (T 21) (T 22) (T 23)) (T 24) (k0_pay8 x3) (T 25) (T 26) (T 27) (T 28) (T 29) (T 30) (ix2 r d) = centred (acc x3 x4 T r) d := by
  pointwise [k0_pay9, k0_pay8, k0_pay7, k0_pay6, k0_pay5]
  rfl

theorem spread_apply (x3 : Vec Ideal S31x512 .f32) (x4 : Vec Ideal S1x512 .f32) (T : Fin 31 → Vec Ideal S512x512 .f32) (r : Fin 512) :
    k0_pay10 x3 (k0_pay7 x3 (k0_pay6 x3 (k0_pay5 x3 x4 (T 0) (T 1) (T 2) (T 3) (T 4) (T 5) (T 6)) (T 7) (T 8) (T 9) (T 10) (T 11) (T 12) (T 13) (T 14) (T 15)) (T 16) (T 17) (T 18) (T 19) (T 20) (T 21) (T 22) (T 23)) (T 24) (k0_pay8 x3) (T 25) (T 26) (T 27) (T 28) (T 29) (T 30) (ix2 r 0) = spread (acc x3 x4 T r) := by
  pointwise [k0_pay10]
  simp only [centre_apply]
  rfl

theorem body_apply (x3 : Vec Ideal S31x512 .f32) (x4 x5 x6 : Vec Ideal S1x512 .f32) (T : Fin 31 → Vec Ideal S512x512 .f32) (r : Fin 512) (d : Fin 512) :
    body x3 x4 x5 x6 T (ix2 r d) = channel (acc x3 x4 T r) (x5 (ix2 0 d)) (x6 (ix2 0 d)) d := by
  unfold body
  pointwise [k0_pay1]
  simp only [centre_apply, spread_apply]
  rfl

end Cert.ConvIdeal.Hand
-- ==== Proof.Taps.lean ====
/-
  A row of a sequence shifted by a tap, and none past its ends.
-/
module

public import proofs.«01_k».proof.Proof.Common

@[expose] public section

set_option maxRecDepth 16384

noncomputable section

namespace Cert.Hand

open Idealize.ShloMosaic

/-- The entry `k - half` rows after row `R`, and zero where that leaves the row's sequence of 16384 rows. -/
def tapped (f : Fin 32768 → EReal) (half k : Nat) (R : Fin 32768) : EReal :=
  if h : half ≤ R.val % 16384 + k ∧ R.val % 16384 + k < 16384 + half then f ⟨R.val + k - half, by omega⟩ else 0

theorem tapped_in {f : Fin 32768 → EReal} {half k : Nat} {R S : Fin 32768} (h : half ≤ R.val % 16384 + k) (h' : R.val % 16384 + k < 16384 + half)
    (hS : S.val = R.val + k - half) : tapped f half k R = f S := by
  unfold tapped
  rw [dif_pos ⟨h, h'⟩]
  exact congrArg f (Fin.ext hS.symm)

theorem tapped_out {f : Fin 32768 → EReal} {half k : Nat} {R : Fin 32768} (h : ¬(half ≤ R.val % 16384 + k ∧ R.val % 16384 + k < 16384 + half)) :
    tapped f half k R = 0 := by
  unfold tapped
  rw [dif_neg h]

/-- A tile's place within its sequence, as the kernel computes it in words. -/
theorem place_eq : ∀ n : Fin 64, (Scalar.select
            (Scalar.andi
              (Scalar.xori
                (Scalar.cmpi CmpIPredicate.slt
                  (Scalar.remsi (BitVec.ofNat 32 n.val)
                    (Scalar.select (Scalar.cmpi CmpIPredicate.eq 32#32 0#32) 1#32 32#32))
                  0#32)
                (Scalar.cmpi CmpIPredicate.slt (Scalar.select (Scalar.cmpi CmpIPredicate.eq 32#32 0#32) 1#32 32#32)
                  0#32))
              (Scalar.cmpi CmpIPredicate.ne
                (Scalar.remsi (BitVec.ofNat 32 n.val)
                  (Scalar.select (Scalar.cmpi CmpIPredicate.eq 32#32 0#32) 1#32 32#32))
                0#32))
            (Scalar.addi
              (Scalar.remsi (BitVec.ofNat 32 n.val)
                (Scalar.select (Scalar.cmpi CmpIPredicate.eq 32#32 0#32) 1#32 32#32))
              (Scalar.select (Scalar.cmpi CmpIPredicate.eq 32#32 0#32) 1#32 32#32))
            (Scalar.remsi (BitVec.ofNat 32 n.val)
              (Scalar.select (Scalar.cmpi CmpIPredicate.eq 32#32 0#32) 1#32 32#32))) = BitVec.ofNat 32 (n.val % 32) := by
  decide +kernel

theorem at_place {α : Type} (k : Fin 32) (x y : α) : ∀ n : Fin 64,
    Scalar.select (Scalar.cmpi CmpIPredicate.eq (BitVec.ofNat 32 (n.val % 32)) (BitVec.ofNat 32 k.val)) x y = if n.val % 32 = k.val then x else y := by
  intro n
  have h : ∀ (k : Fin 32) (n : Fin 64), Scalar.cmpi CmpIPredicate.eq (BitVec.ofNat 32 (n.val % 32)) (BitVec.ofNat 32 k.val)
      = if n.val % 32 = k.val then 1#1 else 0#1 := by decide +kernel
  rw [h]
  split <;> rfl

theorem at_row {α : Type} (k r : Fin 512) (x y : α) :
    Scalar.select (IntOp.cmpi CmpIPredicate.eq (BitVec.ofNat 32 r.val) (BitVec.ofNat 32 k.val)) x y = if r.val = k.val then x else y := by
  have hw : (BitVec.ofNat 32 r.val = BitVec.ofNat 32 k.val) ↔ r.val = k.val := by
    rw [← BitVec.toNat_inj, BitVec.toNat_ofNat, BitVec.toNat_ofNat, Nat.mod_eq_of_lt (by omega), Nat.mod_eq_of_lt (by omega)]
  by_cases h : r.val = k.val
  · rw [if_pos h, h]
    simp [Scalar.select, IntOp.cmpi]
  · rw [if_neg h]
    have := mt hw.1 h
    have hb : (BitVec.ofNat 32 r.val == BitVec.ofNat 32 k.val) = false := by simpa using this
    simp [Scalar.select, IntOp.cmpi, hb]

/-- The short convolution at row `R` of one channel. -/
def mixed (f : Fin 32768 → EReal) (w : Fin 3 → EReal) (b : EReal) (R : Fin 32768) : EReal :=
  tapped f 1 0 R * w 0 + tapped f 1 1 R * w 1 + tapped f 1 2 R * w 2 + b

end Cert.Hand
-- ==== Proof.Conv.Value.lean ====
/-
  The blocks the convolution reads and writes at a grid point, and its result at an index.
-/
module

public import proofs.«01_k».proof.Proof.Gen.ConvIdeal.Value
public import proofs.«01_k».proof.Proof.Conv.Step
public import proofs.«01_k».proof.Proof.Taps
public import Idealize.ShloMosaic.Lib.StableHlo.Run
public import Idealize.ShloMosaic.Lib.Tactic

@[expose] public section

set_option maxRecDepth 16384

noncomputable section

namespace Cert.ConvIdeal.Hand

open Cert.Hand Cert.ConvIdeal Cert.ConvIdeal.Gen Idealize.ShloMosaic Idealize.ShloMosaic.TcCoe Idealize.SL.Sem

variable (m : (ℓ : Loc nD τ sig) → Buf (Elt Ideal) ℓ)

theorem points (t : Fin cfg0.N) : t.val < 64 := lt_of_lt_of_eq t.isLt (show cfg0.N = 64 from N_0)

/-- Where each window's block lies at point `t`. -/
theorem place : ∀ t : Fin cfg0.N,
    (win0_0.index t (0 : Fin 2) = (t.val * 32 - 1) ∧ win0_0.index t (1 : Fin 2) = 0)
    ∧ (win0_1.index t (0 : Fin 2) = t.val ∧ win0_1.index t (1 : Fin 2) = 0)
    ∧ (win0_2.index t (0 : Fin 2) = (min (t.val * 32 + 32) 2047) ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- The rows before. -/
theorem block0 (c : Dev nD) (t : Fin cfg0.N) (a : Fin 16) (b : Fin 512) :
    (iblk m c 0 t : Vec Ideal S16x512 .bf16) (ix2 a b)
      = (m ((c : Thread nD τ).loc main_arg0) : FVec Ideal S32768x512 .bf16) (ix2 ⟨(t.val * 32 - 1) * 16 + a.val, by have := points t; have := a.isLt; omega⟩ b) := by
  obtain ⟨⟨p0, p1⟩, -⟩ := place t
  unfold iblk
  rw [View.read_apply]
  show V m c main_arg0 _ = _
  rw [V_main_arg0]
  congr 1
  funext x
  apply Fin.ext
  match x with
  | ⟨0, _⟩ => show win0_0.index t 0 * 16 + 1 * a.val = (t.val * 32 - 1) * 16 + a.val; rw [p0]; omega
  | ⟨1, _⟩ => show win0_0.index t 1 * 512 + 1 * b.val = b.val; rw [p1]; omega

/-- The rows. -/
theorem block1 (c : Dev nD) (t : Fin cfg0.N) (a : Fin 512) (b : Fin 512) :
    (iblk m c 1 t : Vec Ideal S512x512 .bf16) (ix2 a b)
      = (m ((c : Thread nD τ).loc main_arg0) : FVec Ideal S32768x512 .bf16) (ix2 ⟨t.val * 512 + a.val, by have := points t; have := a.isLt; omega⟩ b) := by
  obtain ⟨-, ⟨p0, p1⟩, -⟩ := place t
  unfold iblk
  rw [View.read_apply]
  show V m c main_arg0 _ = _
  rw [V_main_arg0]
  congr 1
  funext x
  apply Fin.ext
  match x with
  | ⟨0, _⟩ => show win0_1.index t 0 * 512 + 1 * a.val = t.val * 512 + a.val; rw [p0]; omega
  | ⟨1, _⟩ => show win0_1.index t 1 * 512 + 1 * b.val = b.val; rw [p1]; omega

/-- The rows after. -/
theorem block2 (c : Dev nD) (t : Fin cfg0.N) (a : Fin 16) (b : Fin 512) :
    (iblk m c 2 t : Vec Ideal S16x512 .bf16) (ix2 a b)
      = (m ((c : Thread nD τ).loc main_arg0) : FVec Ideal S32768x512 .bf16) (ix2 ⟨(min (t.val * 32 + 32) 2047) * 16 + a.val, by have := points t; have := a.isLt; omega⟩ b) := by
  obtain ⟨-, -, ⟨p0, p1⟩, -⟩ := place t
  unfold iblk
  rw [View.read_apply]
  show V m c main_arg0 _ = _
  rw [V_main_arg0]
  congr 1
  funext x
  apply Fin.ext
  match x with
  | ⟨0, _⟩ => show win0_2.index t 0 * 16 + 1 * a.val = (min (t.val * 32 + 32) 2047) * 16 + a.val; rw [p0]; omega
  | ⟨1, _⟩ => show win0_2.index t 1 * 512 + 1 * b.val = b.val; rw [p1]; omega

/-- The taps. -/
theorem block3 (c : Dev nD) (t : Fin cfg0.N) (a : Fin 31) (b : Fin 512) :
    (iblk m c 3 t : Vec Ideal S31x512 .f32) (ix2 a b)
      = (m ((c : Thread nD τ).loc main_arg1) : FVec Ideal S31x512 .f32) (ix2 a b) := by
  obtain ⟨-, -, -, ⟨p0, p1⟩, -⟩ := place t
  unfold iblk
  rw [View.read_apply]
  show V m c main_arg1 _ = _
  rw [V_main_arg1]
  congr 1
  funext x
  apply Fin.ext
  match x with
  | ⟨0, _⟩ => show win0_3.index t 0 * 31 + 1 * a.val = a.val; rw [p0]; omega
  | ⟨1, _⟩ => show win0_3.index t 1 * 512 + 1 * b.val = b.val; rw [p1]; omega

/-- The offsets. -/
theorem block4 (c : Dev nD) (t : Fin cfg0.N) (a : Fin 1) (b : Fin 512) :
    (iblk m c 4 t : Vec Ideal S1x512 .f32) (ix2 a b)
      = (V m c main_v0 : FVec Ideal S1x512 .f32) (ix2 a b) := by
  obtain ⟨-, -, -, -, ⟨p0, p1⟩, -⟩ := place t
  unfold iblk
  rw [View.read_apply]
  show V m c main_v0 _ = _
  congr 1
  funext x
  apply Fin.ext
  match x with
  | ⟨0, _⟩ => show win0_4.index t 0 * 1 + 1 * a.val = a.val; rw [p0]; omega
  | ⟨1, _⟩ => show win0_4.index t 1 * 512 + 1 * b.val = b.val; rw [p1]; omega

/-- The norm's gains. -/
theorem block5 (c : Dev nD) (t : Fin cfg0.N) (a : Fin 1) (b : Fin 512) :
    (iblk m c 5 t : Vec Ideal S1x512 .f32) (ix2 a b)
      = (V m c main_v1 : FVec Ideal S1x512 .f32) (ix2 a b) := by
  obtain ⟨-, -, -, -, -, ⟨p0, p1⟩, -⟩ := place t
  unfold iblk
  rw [View.read_apply]
  show V m c main_v1 _ = _
  congr 1
  funext x
  apply Fin.ext
  match x with
  | ⟨0, _⟩ => show win0_5.index t 0 * 1 + 1 * a.val = a.val; rw [p0]; omega
  | ⟨1, _⟩ => show win0_5.index t 1 * 512 + 1 * b.val = b.val; rw [p1]; omega

/-- The norm's offsets. -/
theorem block6 (c : Dev nD) (t : Fin cfg0.N) (a : Fin 1) (b : Fin 512) :
    (iblk m c 6 t : Vec Ideal S1x512 .f32) (ix2 a b)
      = (V m c main_v2 : FVec Ideal S1x512 .f32) (ix2 a b) := by
  obtain ⟨-, -, -, -, -, -, p0, p1⟩ := place t
  unfold iblk
  rw [View.read_apply]
  show V m c main_v2 _ = _
  congr 1
  funext x
  apply Fin.ext
  match x with
  | ⟨0, _⟩ => show win0_6.index t 0 * 1 + 1 * a.val = a.val; rw [p0]; omega
  | ⟨1, _⟩ => show win0_6.index t 1 * 512 + 1 * b.val = b.val; rw [p1]; omega

/-- Where point `t` writes the result. -/
theorem place7 : ∀ t : Fin cfg0.N,
    win0_7.index t (0 : Fin 2) = t.val ∧ win0_7.index t (1 : Fin 2) = 0 :=
  (by decide +kernel : ∀ t : Fin grid0.N, _)

/-- The result after the run, at an index of point `t`'s block: what the body leaves there. -/
theorem written7 (c : Dev nD) (t : Fin cfg0.N) (a : Fin 512) (b : Fin 512) :
    ((dats m 0 c).arrAt 7 cfg0.N) (ix2 ⟨t.val * 512 + a.val, by have := points t; have := a.isLt; omega⟩ b)
      = (outsAt0 m c t) (ix2 a b) := by
  have h := congrFun (Value.blocks7 m c t (flush0_7 t)) (ix2 a b)
  rw [View.read_apply, Value.flushed7] at h
  refine Eq.trans ?_ h
  congr 1
  obtain ⟨p0, p1⟩ := place7 t
  funext x
  apply Fin.ext
  match x with
  | ⟨0, _⟩ => show t.val * 512 + a.val = win0_7.index t 0 * 512 + 1 * a.val; rw [p0]; omega
  | ⟨1, _⟩ => show b.val = win0_7.index t 1 * 512 + 1 * b.val; rw [p1]; omega

/-- The offsets as a row. -/
theorem host_v0 (c : Dev nD) (d : Fin 512) : (V m c main_v0 : FVec Ideal S1x512 .f32) (ix2 0 d)
    = (m ((c : Thread nD τ).loc main_arg2) : FVec Ideal S512 .f32) (ix1 d) := by
  have h : @Eq (FVec Ideal S1x512 .f32) (V m c main_v0) (shapeCast S1x512 (m ((c : Thread nD τ).loc main_arg2) : FVec Ideal S512 .f32) shapeCasts_S512_S1x512) := by
    unfold V
    after_results <;> rfl
  rw [h]
  pointwise []

/-- The norm's gains as a row. -/
theorem host_v1 (c : Dev nD) (d : Fin 512) : (V m c main_v1 : FVec Ideal S1x512 .f32) (ix2 0 d)
    = (m ((c : Thread nD τ).loc main_arg3) : FVec Ideal S512 .f32) (ix1 d) := by
  have h : @Eq (FVec Ideal S1x512 .f32) (V m c main_v1) (shapeCast S1x512 (m ((c : Thread nD τ).loc main_arg3) : FVec Ideal S512 .f32) shapeCasts_S512_S1x512) := by
    unfold V
    after_results <;> rfl
  rw [h]
  pointwise []

/-- The norm's offsets as a row. -/
theorem host_v2 (c : Dev nD) (d : Fin 512) : (V m c main_v2 : FVec Ideal S1x512 .f32) (ix2 0 d)
    = (m ((c : Thread nD τ).loc main_arg4) : FVec Ideal S512 .f32) (ix1 d) := by
  have h : @Eq (FVec Ideal S1x512 .f32) (V m c main_v2) (shapeCast S1x512 (m ((c : Thread nD τ).loc main_arg4) : FVec Ideal S512 .f32) shapeCasts_S512_S1x512) := by
    unfold V
    after_results <;> rfl
  rw [h]
  pointwise []

/-- The grid point's coordinate is the point. -/
theorem coord_eq : ∀ t : Fin cfg0.N, (grid0.coords t 0).val = t.val :=
  (by decide +kernel : ∀ t : Fin grid0.N, _)

/-- The rows before, none at a sequence's start. -/
theorem pay2_apply (i : grid0.Coords) (x : Vec Ideal S16x512 .bf16) (r : Fin 16) (d : Fin 512) :
    k0_pay2 i x (ix2 r d) = if (i 0).val % 32 = 0 then (0 : EReal) else x (ix2 r d) := by
  pointwise [k0_pay2]
  have hi : (i 0).val < 64 := (i 0).isLt
  have hp := place_eq ⟨(i 0).val, hi⟩
  have ha := at_place (⟨0, by omega⟩ : Fin 32) (0 : EReal) (x (ix2 r d)) ⟨(i 0).val, hi⟩
  dsimp only at hp ha
  rw [hp]
  exact ha

/-- The rows after, none at a sequence's end. -/
theorem pay4_apply (i : grid0.Coords) (x : Vec Ideal S16x512 .bf16) (r : Fin 16) (d : Fin 512) :
    k0_pay4 i x (ix2 r d) = if (i 0).val % 32 = 31 then (0 : EReal) else x (ix2 r d) := by
  pointwise [k0_pay4]
  have hi : (i 0).val < 64 := (i 0).isLt
  have hp := place_eq ⟨(i 0).val, hi⟩
  have ha := at_place (⟨31, by omega⟩ : Fin 32) (0 : EReal) (x (ix2 r d)) ⟨(i 0).val, hi⟩
  dsimp only at hp ha
  rw [hp]
  exact ha

theorem pay3_apply (x : Vec Ideal S512x512 .bf16) (r : Fin 512) (d : Fin 512) : k0_pay3 x (ix2 r d) = x (ix2 r d) := by
  pointwise [k0_pay3]

/-- A kept row among the sixteen before. -/
theorem rows_before (i : grid0.Coords) (x0 : Vec Ideal S16x512 .bf16) (x1 : Vec Ideal S512x512 .bf16) (x2 : Vec Ideal S16x512 .bf16) (q : Fin 544) (d : Fin 512)
    (s : Fin 16) (h : q.val = s.val) : rows i x0 x1 x2 (ix2 q d) = k0_pay2 i x0 (ix2 s d) := by
  unfold rows
  rw [View.canon_cons_of_not_mem, View.canon_cons_of_not_mem]
  · have e : (ix2 q d : S544x512.Idx) = (Rect.unit (s := S544x512) ![0, 0] ![16, 512] inb_S544x512_S16x512_0_0).emb (ix2 s d) := by
      funext a
      apply Fin.ext
      match a with
      | ⟨0, _⟩ => show q.val = 0 + 1 * s.val; omega
      | ⟨1, _⟩ => show d.val = 0 + 1 * d.val; omega
    rw [e]
    exact View.canon_cons_emb (Val := Elt Ideal) (e := .f32) (Rect.unit (s := S544x512) ![0, 0] ![16, 512] inb_S544x512_S16x512_0_0) (k0_pay2 i x0) _ (ix2 s d)
  · intro hm
    have h1 : 16 ≤ q.val := ((Rect.mem_set_unit (inb := inb_S544x512_S512x512_16_0)).mp hm 0).1
    omega
  · intro hm
    have h1 : 528 ≤ q.val := ((Rect.mem_set_unit (inb := inb_S544x512_S16x512_528_0)).mp hm 0).1
    omega

/-- A kept row among the block's own. -/
theorem rows_own (i : grid0.Coords) (x0 : Vec Ideal S16x512 .bf16) (x1 : Vec Ideal S512x512 .bf16) (x2 : Vec Ideal S16x512 .bf16) (q : Fin 544) (d : Fin 512)
    (s : Fin 512) (h : q.val = 16 + s.val) : rows i x0 x1 x2 (ix2 q d) = k0_pay3 x1 (ix2 s d) := by
  unfold rows
  rw [View.canon_cons_of_not_mem]
  · have e : (ix2 q d : S544x512.Idx) = (Rect.unit (s := S544x512) ![16, 0] ![512, 512] inb_S544x512_S512x512_16_0).emb (ix2 s d) := by
      funext a
      apply Fin.ext
      match a with
      | ⟨0, _⟩ => show q.val = 16 + 1 * s.val; omega
      | ⟨1, _⟩ => show d.val = 0 + 1 * d.val; omega
    rw [e]
    exact View.canon_cons_emb (Val := Elt Ideal) (e := .f32) (Rect.unit (s := S544x512) ![16, 0] ![512, 512] inb_S544x512_S512x512_16_0) (k0_pay3 x1) _ (ix2 s d)
  · intro hm
    have h1 : 528 ≤ q.val := ((Rect.mem_set_unit (inb := inb_S544x512_S16x512_528_0)).mp hm 0).1
    omega

/-- A kept row among the sixteen after. -/
theorem rows_after (i : grid0.Coords) (x0 : Vec Ideal S16x512 .bf16) (x1 : Vec Ideal S512x512 .bf16) (x2 : Vec Ideal S16x512 .bf16) (q : Fin 544) (d : Fin 512)
    (s : Fin 16) (h : q.val = 528 + s.val) : rows i x0 x1 x2 (ix2 q d) = k0_pay4 i x2 (ix2 s d) := by
  unfold rows
  have e : (ix2 q d : S544x512.Idx) = (Rect.unit (s := S544x512) ![528, 0] ![16, 512] inb_S544x512_S16x512_528_0).emb (ix2 s d) := by
    funext a
    apply Fin.ext
    match a with
    | ⟨0, _⟩ => show q.val = 528 + 1 * s.val; omega
    | ⟨1, _⟩ => show d.val = 0 + 1 * d.val; omega
  rw [e]
  exact View.canon_cons_emb (Val := Elt Ideal) (e := .f32) (Rect.unit (s := S544x512) ![528, 0] ![16, 512] inb_S544x512_S16x512_528_0) (k0_pay4 i x2) _ (ix2 s d)

/-- Row `R` is row `R % 512` of grid point `R / 512`. -/
theorem split (R : Fin 32768) : ∃ (t : Fin cfg0.N) (a : Fin 512) (h : t.val * 512 + a.val < 32768), R = ⟨t.val * 512 + a.val, h⟩ :=
  ⟨⟨R.val / 512, lt_of_lt_of_eq (show R.val / 512 < 64 by omega) (show 64 = cfg0.N from N_0.symm)⟩, ⟨R.val % 512, by omega⟩,
    by show R.val / 512 * 512 + R.val % 512 < 32768; omega, Fin.ext (by show R.val = R.val / 512 * 512 + R.val % 512; omega)⟩

/-- A window's row is the input's row that the tap reaches. -/
theorem window_tapped (c : Dev nD) (t : Fin cfg0.N) (k : Fin 31) (a d : Fin 512) (h : t.val * 512 + a.val < 32768) :
    @Eq EReal (window (rows (grid0.coords t) (iblk m c 0 t) (iblk m c 1 t) (iblk m c 2 t)) k (ix2 a d))
      (tapped (fun R => (m ((c : Thread nD τ).loc main_arg0) : FVec Ideal S32768x512 .bf16) (ix2 R d)) 15 k.val ⟨t.val * 512 + a.val, h⟩) := by
  have ht := points t
  have ha := a.isLt
  have hk := k.isLt
  show @Eq EReal (rows (grid0.coords t) (iblk m c 0 t) (iblk m c 1 t) (iblk m c 2 t) (ix2 ⟨k.val + 1 + a.val, by omega⟩ d)) _
  by_cases h0 : k.val + 1 + a.val < 16
  · rw [rows_before _ _ _ _ ⟨k.val + 1 + a.val, by omega⟩ d ⟨k.val + 1 + a.val, h0⟩ rfl]
    refine (pay2_apply _ _ _ _).trans ?_
    rw [coord_eq]
    by_cases h1 : t.val % 32 = 0
    · rw [if_pos h1]
      exact (tapped_out (by dsimp only; omega)).symm
    · rw [if_neg h1]
      refine (block0 m c t ⟨k.val + 1 + a.val, h0⟩ d).trans ?_
      exact (tapped_in (f := fun R => (m ((c : Thread nD τ).loc main_arg0) : FVec Ideal S32768x512 .bf16) (ix2 R d)) (by dsimp only; omega) (by dsimp only; omega) (by dsimp only; omega)).symm
  · by_cases h1 : k.val + 1 + a.val < 528
    · rw [rows_own _ _ _ _ ⟨k.val + 1 + a.val, by omega⟩ d ⟨k.val + 1 + a.val - 16, by omega⟩ (by dsimp only; omega)]
      refine (pay3_apply _ _ _).trans ?_
      refine (block1 m c t ⟨k.val + 1 + a.val - 16, by omega⟩ d).trans ?_
      exact (tapped_in (f := fun R => (m ((c : Thread nD τ).loc main_arg0) : FVec Ideal S32768x512 .bf16) (ix2 R d)) (by dsimp only; omega) (by dsimp only; omega) (by dsimp only; omega)).symm
    · rw [rows_after _ _ _ _ ⟨k.val + 1 + a.val, by omega⟩ d ⟨k.val + 1 + a.val - 528, by omega⟩ (by dsimp only; omega)]
      refine (pay4_apply _ _ _ _).trans ?_
      rw [coord_eq]
      by_cases h2 : t.val % 32 = 31
      · rw [if_pos h2]
        exact (tapped_out (by dsimp only; omega)).symm
      · rw [if_neg h2]
        refine (block2 m c t ⟨k.val + 1 + a.val - 528, by omega⟩ d).trans ?_
        exact (tapped_in (f := fun R => (m ((c : Thread nD τ).loc main_arg0) : FVec Ideal S32768x512 .bf16) (ix2 R d)) (by dsimp only; omega) (by dsimp only; omega) (by dsimp only; omega)).symm

/-- The result after the run. -/
theorem result_apply (c : Dev nD) (R : Fin 32768) (d : Fin 512) :
    @Eq EReal (((dats m 0 c).arrAt 7 cfg0.N) (ix2 R d))
      (channel (fun d => chain 0 31 (fun k => tapped (fun R => (m ((c : Thread nD τ).loc main_arg0) : FVec Ideal S32768x512 .bf16) (ix2 R d)) 15 k.val R * (m ((c : Thread nD τ).loc main_arg1) : FVec Ideal S31x512 .f32) (ix2 k d)) + (m ((c : Thread nD τ).loc main_arg2) : FVec Ideal S512 .f32) (ix1 d))
        ((m ((c : Thread nD τ).loc main_arg3) : FVec Ideal S512 .f32) (ix1 d)) ((m ((c : Thread nD τ).loc main_arg4) : FVec Ideal S512 .f32) (ix1 d)) d) := by
  obtain ⟨t, a, h, rfl⟩ := split R
  refine (written7 m c t a d).trans ?_
  change @Eq EReal _ _
  unfold outsAt0
  rw [out_eq, body_apply]
  have hacc : acc (iblk m c 3 t) (iblk m c 4 t) (window (rows (grid0.coords t) (iblk m c 0 t) (iblk m c 1 t) (iblk m c 2 t))) a
      = fun d => chain 0 31 (fun k => tapped (fun R => (m ((c : Thread nD τ).loc main_arg0) : FVec Ideal S32768x512 .bf16) (ix2 R d)) 15 k.val ⟨t.val * 512 + a.val, h⟩ * (m ((c : Thread nD τ).loc main_arg1) : FVec Ideal S31x512 .f32) (ix2 k d)) + (m ((c : Thread nD τ).loc main_arg2) : FVec Ideal S512 .f32) (ix1 d) := by
    funext d
    unfold acc
    rw [← chain_start, zero_add]
    exact congrArg₂ (fun s f => chain s 31 f) ((block4 m c t 0 d).trans (host_v0 m c d))
      (funext fun k => congrArg₂ (· * ·) (window_tapped m c t k a d h) (block3 m c t k d))
  rw [hacc]
  exact congrArg₂ (fun g b => channel _ g b d) ((block5 m c t 0 d).trans (host_v1 m c d)) ((block6 m c t 0 d).trans (host_v2 m c d))

end Cert.ConvIdeal.Hand
-- ==== Proof.Conv.RefValue.lean ====
/-
  The plain convolution, norm and swish read at an index.
-/
module

public import proofs.«01_k».proof.Proof.Gen.ConvRefIdeal.Run
public import proofs.«01_k».proof.Proof.Taps
public import proofs.«01_k».proof.Proof.Conv.Sum

@[expose] public section

set_option maxRecDepth 16384

noncomputable section

namespace Cert.ConvRefIdeal.Hand

open Cert.Hand Cert.ConvRefIdeal Cert.ConvRefIdeal.Gen Idealize.ShloMosaic Idealize.SL.Sem

/-- Each sequence with fifteen rows of zeros at either end. -/
def padded (x : FVec Ideal S32768x512 .bf16) : FVec Ideal S2x16414x512 .f32 :=
  pad S2x16414x512 ![0, 15, 0] ![0, 15, 0] ![0, 0, 0] (shapeCast _ (extf .f32 x bitsLt_bf16_f32) shapeCasts_S32768x512_S2x16384x512) (sitofp .f32 (constantI S_ 32 0#32)) pads_S2x16384x512_S2x16414x512_000_15150_000 h_S_

/-- The first eleven taps. -/
def sum11 (y : FVec Ideal S2x16414x512 .f32) (w : FVec Ideal S31x512 .f32) : FVec Ideal S2x16384x512 .f32 :=
  addf (addf (addf (addf (addf (addf (addf (addf (addf (addf (addf (broadcastInDim S2x16384x512 ![] bcast_S_S2x16384x512 (constant S_ .f32 0x00000000#32)) (mulf (extractStridedSlice S2x16384x512 ![0, 0, 0] y slices_S2x16414x512_S2x16384x512_0_0_0) (broadcastInDim S2x16384x512 ![0, 1, 2] bcast_S1x1x512_S2x16384x512_0_1_2 (broadcastInDim S1x1x512 ![2] bcast_S512_S1x1x512_2 (shapeCast _ (extractStridedSlice S1x512 ![0, 0] w slices_S31x512_S1x512_0_0) shapeCasts_S1x512_S512))))) (mulf (extractStridedSlice S2x16384x512 ![0, 1, 0] y slices_S2x16414x512_S2x16384x512_0_1_0) (broadcastInDim S2x16384x512 ![0, 1, 2] bcast_S1x1x512_S2x16384x512_0_1_2 (broadcastInDim S1x1x512 ![2] bcast_S512_S1x1x512_2 (shapeCast _ (extractStridedSlice S1x512 ![1, 0] w slices_S31x512_S1x512_1_0) shapeCasts_S1x512_S512))))) (mulf (extractStridedSlice S2x16384x512 ![0, 2, 0] y slices_S2x16414x512_S2x16384x512_0_2_0) (broadcastInDim S2x16384x512 ![0, 1, 2] bcast_S1x1x512_S2x16384x512_0_1_2 (broadcastInDim S1x1x512 ![2] bcast_S512_S1x1x512_2 (shapeCast _ (extractStridedSlice S1x512 ![2, 0] w slices_S31x512_S1x512_2_0) shapeCasts_S1x512_S512))))) (mulf (extractStridedSlice S2x16384x512 ![0, 3, 0] y slices_S2x16414x512_S2x16384x512_0_3_0) (broadcastInDim S2x16384x512 ![0, 1, 2] bcast_S1x1x512_S2x16384x512_0_1_2 (broadcastInDim S1x1x512 ![2] bcast_S512_S1x1x512_2 (shapeCast _ (extractStridedSlice S1x512 ![3, 0] w slices_S31x512_S1x512_3_0) shapeCasts_S1x512_S512))))) (mulf (extractStridedSlice S2x16384x512 ![0, 4, 0] y slices_S2x16414x512_S2x16384x512_0_4_0) (broadcastInDim S2x16384x512 ![0, 1, 2] bcast_S1x1x512_S2x16384x512_0_1_2 (broadcastInDim S1x1x512 ![2] bcast_S512_S1x1x512_2 (shapeCast _ (extractStridedSlice S1x512 ![4, 0] w slices_S31x512_S1x512_4_0) shapeCasts_S1x512_S512))))) (mulf (extractStridedSlice S2x16384x512 ![0, 5, 0] y slices_S2x16414x512_S2x16384x512_0_5_0) (broadcastInDim S2x16384x512 ![0, 1, 2] bcast_S1x1x512_S2x16384x512_0_1_2 (broadcastInDim S1x1x512 ![2] bcast_S512_S1x1x512_2 (shapeCast _ (extractStridedSlice S1x512 ![5, 0] w slices_S31x512_S1x512_5_0) shapeCasts_S1x512_S512))))) (mulf (extractStridedSlice S2x16384x512 ![0, 6, 0] y slices_S2x16414x512_S2x16384x512_0_6_0) (broadcastInDim S2x16384x512 ![0, 1, 2] bcast_S1x1x512_S2x16384x512_0_1_2 (broadcastInDim S1x1x512 ![2] bcast_S512_S1x1x512_2 (shapeCast _ (extractStridedSlice S1x512 ![6, 0] w slices_S31x512_S1x512_6_0) shapeCasts_S1x512_S512))))) (mulf (extractStridedSlice S2x16384x512 ![0, 7, 0] y slices_S2x16414x512_S2x16384x512_0_7_0) (broadcastInDim S2x16384x512 ![0, 1, 2] bcast_S1x1x512_S2x16384x512_0_1_2 (broadcastInDim S1x1x512 ![2] bcast_S512_S1x1x512_2 (shapeCast _ (extractStridedSlice S1x512 ![7, 0] w slices_S31x512_S1x512_7_0) shapeCasts_S1x512_S512))))) (mulf (extractStridedSlice S2x16384x512 ![0, 8, 0] y slices_S2x16414x512_S2x16384x512_0_8_0) (broadcastInDim S2x16384x512 ![0, 1, 2] bcast_S1x1x512_S2x16384x512_0_1_2 (broadcastInDim S1x1x512 ![2] bcast_S512_S1x1x512_2 (shapeCast _ (extractStridedSlice S1x512 ![8, 0] w slices_S31x512_S1x512_8_0) shapeCasts_S1x512_S512))))) (mulf (extractStridedSlice S2x16384x512 ![0, 9, 0] y slices_S2x16414x512_S2x16384x512_0_9_0) (broadcastInDim S2x16384x512 ![0, 1, 2] bcast_S1x1x512_S2x16384x512_0_1_2 (broadcastInDim S1x1x512 ![2] bcast_S512_S1x1x512_2 (shapeCast _ (extractStridedSlice S1x512 ![9, 0] w slices_S31x512_S1x512_9_0) shapeCasts_S1x512_S512))))) (mulf (extractStridedSlice S2x16384x512 ![0, 10, 0] y slices_S2x16414x512_S2x16384x512_0_10_0) (broadcastInDim S2x16384x512 ![0, 1, 2] bcast_S1x1x512_S2x16384x512_0_1_2 (broadcastInDim S1x1x512 ![2] bcast_S512_S1x1x512_2 (shapeCast _ (extractStridedSlice S1x512 ![10, 0] w slices_S31x512_S1x512_10_0) shapeCasts_S1x512_S512))))

/-- The first twenty-two. -/
def sum22 (y : FVec Ideal S2x16414x512 .f32) (w : FVec Ideal S31x512 .f32) : FVec Ideal S2x16384x512 .f32 :=
  addf (addf (addf (addf (addf (addf (addf (addf (addf (addf (addf (sum11 y w) (mulf (extractStridedSlice S2x16384x512 ![0, 11, 0] y slices_S2x16414x512_S2x16384x512_0_11_0) (broadcastInDim S2x16384x512 ![0, 1, 2] bcast_S1x1x512_S2x16384x512_0_1_2 (broadcastInDim S1x1x512 ![2] bcast_S512_S1x1x512_2 (shapeCast _ (extractStridedSlice S1x512 ![11, 0] w slices_S31x512_S1x512_11_0) shapeCasts_S1x512_S512))))) (mulf (extractStridedSlice S2x16384x512 ![0, 12, 0] y slices_S2x16414x512_S2x16384x512_0_12_0) (broadcastInDim S2x16384x512 ![0, 1, 2] bcast_S1x1x512_S2x16384x512_0_1_2 (broadcastInDim S1x1x512 ![2] bcast_S512_S1x1x512_2 (shapeCast _ (extractStridedSlice S1x512 ![12, 0] w slices_S31x512_S1x512_12_0) shapeCasts_S1x512_S512))))) (mulf (extractStridedSlice S2x16384x512 ![0, 13, 0] y slices_S2x16414x512_S2x16384x512_0_13_0) (broadcastInDim S2x16384x512 ![0, 1, 2] bcast_S1x1x512_S2x16384x512_0_1_2 (broadcastInDim S1x1x512 ![2] bcast_S512_S1x1x512_2 (shapeCast _ (extractStridedSlice S1x512 ![13, 0] w slices_S31x512_S1x512_13_0) shapeCasts_S1x512_S512))))) (mulf (extractStridedSlice S2x16384x512 ![0, 14, 0] y slices_S2x16414x512_S2x16384x512_0_14_0) (broadcastInDim S2x16384x512 ![0, 1, 2] bcast_S1x1x512_S2x16384x512_0_1_2 (broadcastInDim S1x1x512 ![2] bcast_S512_S1x1x512_2 (shapeCast _ (extractStridedSlice S1x512 ![14, 0] w slices_S31x512_S1x512_14_0) shapeCasts_S1x512_S512))))) (mulf (extractStridedSlice S2x16384x512 ![0, 15, 0] y slices_S2x16414x512_S2x16384x512_0_15_0) (broadcastInDim S2x16384x512 ![0, 1, 2] bcast_S1x1x512_S2x16384x512_0_1_2 (broadcastInDim S1x1x512 ![2] bcast_S512_S1x1x512_2 (shapeCast _ (extractStridedSlice S1x512 ![15, 0] w slices_S31x512_S1x512_15_0) shapeCasts_S1x512_S512))))) (mulf (extractStridedSlice S2x16384x512 ![0, 16, 0] y slices_S2x16414x512_S2x16384x512_0_16_0) (broadcastInDim S2x16384x512 ![0, 1, 2] bcast_S1x1x512_S2x16384x512_0_1_2 (broadcastInDim S1x1x512 ![2] bcast_S512_S1x1x512_2 (shapeCast _ (extractStridedSlice S1x512 ![16, 0] w slices_S31x512_S1x512_16_0) shapeCasts_S1x512_S512))))) (mulf (extractStridedSlice S2x16384x512 ![0, 17, 0] y slices_S2x16414x512_S2x16384x512_0_17_0) (broadcastInDim S2x16384x512 ![0, 1, 2] bcast_S1x1x512_S2x16384x512_0_1_2 (broadcastInDim S1x1x512 ![2] bcast_S512_S1x1x512_2 (shapeCast _ (extractStridedSlice S1x512 ![17, 0] w slices_S31x512_S1x512_17_0) shapeCasts_S1x512_S512))))) (mulf (extractStridedSlice S2x16384x512 ![0, 18, 0] y slices_S2x16414x512_S2x16384x512_0_18_0) (broadcastInDim S2x16384x512 ![0, 1, 2] bcast_S1x1x512_S2x16384x512_0_1_2 (broadcastInDim S1x1x512 ![2] bcast_S512_S1x1x512_2 (shapeCast _ (extractStridedSlice S1x512 ![18, 0] w slices_S31x512_S1x512_18_0) shapeCasts_S1x512_S512))))) (mulf (extractStridedSlice S2x16384x512 ![0, 19, 0] y slices_S2x16414x512_S2x16384x512_0_19_0) (broadcastInDim S2x16384x512 ![0, 1, 2] bcast_S1x1x512_S2x16384x512_0_1_2 (broadcastInDim S1x1x512 ![2] bcast_S512_S1x1x512_2 (shapeCast _ (extractStridedSlice S1x512 ![19, 0] w slices_S31x512_S1x512_19_0) shapeCasts_S1x512_S512))))) (mulf (extractStridedSlice S2x16384x512 ![0, 20, 0] y slices_S2x16414x512_S2x16384x512_0_20_0) (broadcastInDim S2x16384x512 ![0, 1, 2] bcast_S1x1x512_S2x16384x512_0_1_2 (broadcastInDim S1x1x512 ![2] bcast_S512_S1x1x512_2 (shapeCast _ (extractStridedSlice S1x512 ![20, 0] w slices_S31x512_S1x512_20_0) shapeCasts_S1x512_S512))))) (mulf (extractStridedSlice S2x16384x512 ![0, 21, 0] y slices_S2x16414x512_S2x16384x512_0_21_0) (broadcastInDim S2x16384x512 ![0, 1, 2] bcast_S1x1x512_S2x16384x512_0_1_2 (broadcastInDim S1x1x512 ![2] bcast_S512_S1x1x512_2 (shapeCast _ (extractStridedSlice S1x512 ![21, 0] w slices_S31x512_S1x512_21_0) shapeCasts_S1x512_S512))))

/-- All thirty-one, and the offsets. -/
def sum31 (y : FVec Ideal S2x16414x512 .f32) (w : FVec Ideal S31x512 .f32) (b : FVec Ideal S512 .f32) : FVec Ideal S2x16384x512 .f32 :=
  addf (addf (addf (addf (addf (addf (addf (addf (addf (addf (sum22 y w) (mulf (extractStridedSlice S2x16384x512 ![0, 22, 0] y slices_S2x16414x512_S2x16384x512_0_22_0) (broadcastInDim S2x16384x512 ![0, 1, 2] bcast_S1x1x512_S2x16384x512_0_1_2 (broadcastInDim S1x1x512 ![2] bcast_S512_S1x1x512_2 (shapeCast _ (extractStridedSlice S1x512 ![22, 0] w slices_S31x512_S1x512_22_0) shapeCasts_S1x512_S512))))) (mulf (extractStridedSlice S2x16384x512 ![0, 23, 0] y slices_S2x16414x512_S2x16384x512_0_23_0) (broadcastInDim S2x16384x512 ![0, 1, 2] bcast_S1x1x512_S2x16384x512_0_1_2 (broadcastInDim S1x1x512 ![2] bcast_S512_S1x1x512_2 (shapeCast _ (extractStridedSlice S1x512 ![23, 0] w slices_S31x512_S1x512_23_0) shapeCasts_S1x512_S512))))) (mulf (extractStridedSlice S2x16384x512 ![0, 24, 0] y slices_S2x16414x512_S2x16384x512_0_24_0) (broadcastInDim S2x16384x512 ![0, 1, 2] bcast_S1x1x512_S2x16384x512_0_1_2 (broadcastInDim S1x1x512 ![2] bcast_S512_S1x1x512_2 (shapeCast _ (extractStridedSlice S1x512 ![24, 0] w slices_S31x512_S1x512_24_0) shapeCasts_S1x512_S512))))) (mulf (extractStridedSlice S2x16384x512 ![0, 25, 0] y slices_S2x16414x512_S2x16384x512_0_25_0) (broadcastInDim S2x16384x512 ![0, 1, 2] bcast_S1x1x512_S2x16384x512_0_1_2 (broadcastInDim S1x1x512 ![2] bcast_S512_S1x1x512_2 (shapeCast _ (extractStridedSlice S1x512 ![25, 0] w slices_S31x512_S1x512_25_0) shapeCasts_S1x512_S512))))) (mulf (extractStridedSlice S2x16384x512 ![0, 26, 0] y slices_S2x16414x512_S2x16384x512_0_26_0) (broadcastInDim S2x16384x512 ![0, 1, 2] bcast_S1x1x512_S2x16384x512_0_1_2 (broadcastInDim S1x1x512 ![2] bcast_S512_S1x1x512_2 (shapeCast _ (extractStridedSlice S1x512 ![26, 0] w slices_S31x512_S1x512_26_0) shapeCasts_S1x512_S512))))) (mulf (extractStridedSlice S2x16384x512 ![0, 27, 0] y slices_S2x16414x512_S2x16384x512_0_27_0) (broadcastInDim S2x16384x512 ![0, 1, 2] bcast_S1x1x512_S2x16384x512_0_1_2 (broadcastInDim S1x1x512 ![2] bcast_S512_S1x1x512_2 (shapeCast _ (extractStridedSlice S1x512 ![27, 0] w slices_S31x512_S1x512_27_0) shapeCasts_S1x512_S512))))) (mulf (extractStridedSlice S2x16384x512 ![0, 28, 0] y slices_S2x16414x512_S2x16384x512_0_28_0) (broadcastInDim S2x16384x512 ![0, 1, 2] bcast_S1x1x512_S2x16384x512_0_1_2 (broadcastInDim S1x1x512 ![2] bcast_S512_S1x1x512_2 (shapeCast _ (extractStridedSlice S1x512 ![28, 0] w slices_S31x512_S1x512_28_0) shapeCasts_S1x512_S512))))) (mulf (extractStridedSlice S2x16384x512 ![0, 29, 0] y slices_S2x16414x512_S2x16384x512_0_29_0) (broadcastInDim S2x16384x512 ![0, 1, 2] bcast_S1x1x512_S2x16384x512_0_1_2 (broadcastInDim S1x1x512 ![2] bcast_S512_S1x1x512_2 (shapeCast _ (extractStridedSlice S1x512 ![29, 0] w slices_S31x512_S1x512_29_0) shapeCasts_S1x512_S512))))) (mulf (extractStridedSlice S2x16384x512 ![0, 30, 0] y slices_S2x16414x512_S2x16384x512_0_30_0) (broadcastInDim S2x16384x512 ![0, 1, 2] bcast_S1x1x512_S2x16384x512_0_1_2 (broadcastInDim S1x1x512 ![2] bcast_S512_S1x1x512_2 (shapeCast _ (extractStridedSlice S1x512 ![30, 0] w slices_S31x512_S1x512_30_0) shapeCasts_S1x512_S512))))) (broadcastInDim S2x16384x512 ![0, 1, 2] bcast_S1x1x512_S2x16384x512_0_1_2 (broadcastInDim S1x1x512 ![2] bcast_S512_S1x1x512_2 b))

/-- The mean over the channels. -/
def mean (s : FVec Ideal S2x16384x512 .f32) : FVec Ideal S2x16384x1 .f32 :=
  Host.divf (broadcastInDim S2x16384x1 ![0, 1] bcast_S2x16384_S2x16384x1_0_1 (Host.reduceAdd s (constant S_ .f32 0x00000000#32) reducesTo_S2x16384x512_S2x16384_d2 h_S_)) (broadcastInDim S2x16384x1 ![] bcast_S_S2x16384x1 (constant S_ .f32 0x44000000#32))

/-- The values less their mean. -/
def less (s : FVec Ideal S2x16384x512 .f32) : FVec Ideal S2x16384x512 .f32 :=
  subf s (broadcastInDim S2x16384x512 ![0, 1, 2] bcast_S2x16384x1_S2x16384x512_0_1_2 (mean s))

/-- The norm. -/
def norm (s : FVec Ideal S2x16384x512 .f32) (g e : FVec Ideal S512 .f32) : FVec Ideal S2x16384x512 .f32 :=
  addf (mulf (mulf (subf s (broadcastInDim S2x16384x512 ![0, 1, 2] bcast_S2x16384x1_S2x16384x512_0_1_2 (mean s))) (broadcastInDim S2x16384x512 ![0, 1, 2] bcast_S2x16384x1_S2x16384x512_0_1_2 (Host.rsqrt (addf (Host.divf (broadcastInDim S2x16384x1 ![0, 1] bcast_S2x16384_S2x16384x1_0_1 (Host.reduceAdd (mulf (less s) (less s)) (constant S_ .f32 0x00000000#32) reducesTo_S2x16384x512_S2x16384_d2 h_S_)) (broadcastInDim S2x16384x1 ![] bcast_S_S2x16384x1 (constant S_ .f32 0x44000000#32))) (broadcastInDim S2x16384x1 ![] bcast_S_S2x16384x1 (constant S_ .f32 0x358637BD#32)))))) (broadcastInDim S2x16384x512 ![0, 1, 2] bcast_S1x1x512_S2x16384x512_0_1_2 (broadcastInDim S1x1x512 ![2] bcast_S512_S1x1x512_2 g))) (broadcastInDim S2x16384x512 ![0, 1, 2] bcast_S1x1x512_S2x16384x512_0_1_2 (broadcastInDim S1x1x512 ![2] bcast_S512_S1x1x512_2 e))

def swish (n : FVec Ideal S2x16384x512 .f32) : FVec Ideal S32768x512 .bf16 :=
  truncf .bf16 (shapeCast _ (mulf n (Host.divf (broadcastInDim S2x16384x512 ![] bcast_S_S2x16384x512 (constant S_ .f32 0x3F800000#32)) (addf (broadcastInDim S2x16384x512 ![] bcast_S_S2x16384x512 (constant S_ .f32 0x3F800000#32)) (Host.exp (Host.negf n))))) shapeCasts_S2x16384x512_S32768x512) bitsLt_bf16_f32

def conv (x : FVec Ideal S32768x512 .bf16) (w : FVec Ideal S31x512 .f32) (b : FVec Ideal S512 .f32) (g e : FVec Ideal S512 .f32) : FVec Ideal S32768x512 .bf16 :=
  swish (norm (sum31 (padded x) w b) g e)

theorem padded_out (x : FVec Ideal S32768x512 .bf16) (t : Fin 2) (i : Fin 16414) (d : Fin 512) (h : ¬(15 ≤ i.val ∧ i.val < 16384 + 15)) :
    padded x (ix3 t i d) = 0 := by
  pointwise [padded]
  rw [dif_neg]
  · show (((0#32 : BitVec 32).toInt : ℝ) : EReal) = 0
    simp
  · omega

theorem padded_in (x : FVec Ideal S32768x512 .bf16) (t : Fin 2) (i : Fin 16414) (d : Fin 512) (h : 15 ≤ i.val ∧ i.val < 16384 + 15) :
    padded x (ix3 t i d) = x (ix2 ⟨t.val * 16384 + (i.val - 15), by omega⟩ d) := by
  pointwise [padded]
  rw [dif_pos]
  omega

/-- A chain of sums with its first term taken into the start. -/
theorem chain_first (s : EReal) : (n : Nat) → (a : Fin (n + 1) → EReal) → chain s (n + 1) a = chain (s + a 0) n (fun k => a k.succ)
  | 0, _ => rfl
  | n + 1, a => congrArg (· + a (Fin.last (n + 1))) (chain_first s n (fun k => a k.castSucc))

/-- The padded row tap `k` reads for row `i`. -/
def reach : Nat → Nat → Nat
  | 0, i => i
  | n + 1, i => n + 1 + i

theorem reach_eq (k i : Nat) : reach k i = k + i := by
  cases k with
  | zero => exact (Nat.zero_add i).symm
  | succ n => rfl

theorem sum31_apply (y : FVec Ideal S2x16414x512 .f32) (w : FVec Ideal S31x512 .f32) (b : FVec Ideal S512 .f32) (t : Fin 2) (i : Fin 16384) (d : Fin 512) :
    sum31 y w b (ix3 t i d)
      = chain 0 31 (fun k => y (ix3 t ⟨reach k.val i.val, by have := reach_eq k.val i.val; omega⟩ d) * w (ix2 k d)) + b (ix1 d) := by
  rw [chain_first]
  refine Eq.trans ?_ (congrArg (fun s => chain s 30 _ + b (ix1 d)) (zero_add _).symm)
  pointwise [sum31, sum22, sum11]
  rfl

theorem less_apply (s : FVec Ideal S2x16384x512 .f32) (t : Fin 2) (i : Fin 16384) (d : Fin 512) : less s (ix3 t i d) = centred (fun d => s (ix3 t i d)) d := by
  pointwise [less, mean]
  rfl

theorem norm_apply (s : FVec Ideal S2x16384x512 .f32) (g e : FVec Ideal S512 .f32) (t : Fin 2) (i : Fin 16384) (d : Fin 512) :
    norm s g e (ix3 t i d) = scaled (fun d => s (ix3 t i d)) (g (ix1 d)) (e (ix1 d)) d := by
  pointwise [norm, mean]
  simp only [less_apply]
  rfl

theorem swish_apply (n : FVec Ideal S2x16384x512 .f32) (R : Fin 32768) (d : Fin 512) :
    swish n (ix2 R d) = n (ix3 ⟨R.val / 16384, by omega⟩ ⟨R.val % 16384, by omega⟩ d) * Ideal.logistic (n (ix3 ⟨R.val / 16384, by omega⟩ ⟨R.val % 16384, by omega⟩ d)) := by
  pointwise [swish]
  rfl

theorem tap_eq (x : FVec Ideal S32768x512 .bf16) (R : Fin 32768) (d : Fin 512) (k : Nat) (hk : k < 31) (i : Fin 16414) (hi : i.val = k + R.val % 16384) :
    padded x (ix3 ⟨R.val / 16384, by omega⟩ i d) = tapped (fun R => x (ix2 R d)) 15 k R := by
  by_cases h : 15 ≤ i.val ∧ i.val < 16384 + 15
  · refine (padded_in x _ i d h).trans (tapped_in (f := fun R => x (ix2 R d)) (by omega) (by omega) ?_).symm
    dsimp only
    omega
  · exact (padded_out x _ i d h).trans (tapped_out (by omega)).symm

/-- The result at an index. -/
theorem conv_apply (x : FVec Ideal S32768x512 .bf16) (w : FVec Ideal S31x512 .f32) (b : FVec Ideal S512 .f32) (g e : FVec Ideal S512 .f32) (R : Fin 32768) (d : Fin 512) :
    conv x w b g e (ix2 R d) = channel (fun d => chain 0 31 (fun k => tapped (fun R => x (ix2 R d)) 15 k.val R * w (ix2 k d)) + b (ix1 d)) (g (ix1 d)) (e (ix1 d)) d := by
  have hs : (fun d => sum31 (padded x) w b (ix3 ⟨R.val / 16384, by omega⟩ ⟨R.val % 16384, by omega⟩ d))
      = fun d => chain 0 31 (fun k => tapped (fun R => x (ix2 R d)) 15 k.val R * w (ix2 k d)) + b (ix1 d) := by
    funext d
    rw [sum31_apply]
    exact congrArg (fun f => chain 0 31 f + b (ix1 d)) (funext fun k => congrArg (· * w (ix2 k d)) (tap_eq x R d k.val k.isLt _ (reach_eq _ _)))
  unfold conv channel
  rw [swish_apply, norm_apply, hs]

end Cert.ConvRefIdeal.Hand
-- ==== Proof.Short.Value.lean ====
/-
  The blocks the short convolution reads and writes at a grid point, and its three results at an index.
-/
module

public import proofs.«01_k».proof.Proof.Gen.ShortIdeal.Value
public import proofs.«01_k».proof.Proof.Taps
public import Idealize.ShloMosaic.Lib.StableHlo.Run
public import Idealize.ShloMosaic.Lib.Tactic

@[expose] public section

set_option maxRecDepth 16384

noncomputable section

namespace Cert.ShortIdeal.Hand

open Cert.Hand Cert.ShortIdeal Cert.ShortIdeal.Gen Idealize.ShloMosaic Idealize.ShloMosaic.TcCoe Idealize.SL.Sem

variable (m : (ℓ : Loc nD τ sig) → Buf (Elt Ideal) ℓ)

theorem points (t : Fin cfg0.N) : t.val < 64 := lt_of_lt_of_eq t.isLt (show cfg0.N = 64 from N_0)

/-- Where each window's block lies at point `t`. -/
theorem place : ∀ t : Fin cfg0.N,
    (win0_0.index t (0 : Fin 2) = (t.val * 32 - 1) ∧ win0_0.index t (1 : Fin 2) = 0)
    ∧ (win0_1.index t (0 : Fin 2) = t.val ∧ win0_1.index t (1 : Fin 2) = 0)
    ∧ (win0_2.index t (0 : Fin 2) = (min (t.val * 32 + 32) 2047) ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

/-- The rows before. -/
theorem block0 (c : Dev nD) (t : Fin cfg0.N) (a : Fin 16) (b : Fin 1536) :
    (iblk m c 0 t : Vec Ideal S16x1536 .bf16) (ix2 a b)
      = (m ((c : Thread nD τ).loc main_arg0) : FVec Ideal S32768x1536 .bf16) (ix2 ⟨(t.val * 32 - 1) * 16 + a.val, by have := points t; have := a.isLt; omega⟩ b) := by
  obtain ⟨⟨p0, p1⟩, -⟩ := place t
  unfold iblk
  rw [View.read_apply]
  show V m c main_arg0 _ = _
  rw [V_main_arg0]
  congr 1
  funext x
  apply Fin.ext
  match x with
  | ⟨0, _⟩ => show win0_0.index t 0 * 16 + 1 * a.val = (t.val * 32 - 1) * 16 + a.val; rw [p0]; omega
  | ⟨1, _⟩ => show win0_0.index t 1 * 1536 + 1 * b.val = b.val; rw [p1]; omega

/-- The rows. -/
theorem block1 (c : Dev nD) (t : Fin cfg0.N) (a : Fin 512) (b : Fin 1536) :
    (iblk m c 1 t : Vec Ideal S512x1536 .bf16) (ix2 a b)
      = (m ((c : Thread nD τ).loc main_arg0) : FVec Ideal S32768x1536 .bf16) (ix2 ⟨t.val * 512 + a.val, by have := points t; have := a.isLt; omega⟩ b) := by
  obtain ⟨-, ⟨p0, p1⟩, -⟩ := place t
  unfold iblk
  rw [View.read_apply]
  show V m c main_arg0 _ = _
  rw [V_main_arg0]
  congr 1
  funext x
  apply Fin.ext
  match x with
  | ⟨0, _⟩ => show win0_1.index t 0 * 512 + 1 * a.val = t.val * 512 + a.val; rw [p0]; omega
  | ⟨1, _⟩ => show win0_1.index t 1 * 1536 + 1 * b.val = b.val; rw [p1]; omega

/-- The rows after. -/
theorem block2 (c : Dev nD) (t : Fin cfg0.N) (a : Fin 16) (b : Fin 1536) :
    (iblk m c 2 t : Vec Ideal S16x1536 .bf16) (ix2 a b)
      = (m ((c : Thread nD τ).loc main_arg0) : FVec Ideal S32768x1536 .bf16) (ix2 ⟨(min (t.val * 32 + 32) 2047) * 16 + a.val, by have := points t; have := a.isLt; omega⟩ b) := by
  obtain ⟨-, -, ⟨p0, p1⟩, -⟩ := place t
  unfold iblk
  rw [View.read_apply]
  show V m c main_arg0 _ = _
  rw [V_main_arg0]
  congr 1
  funext x
  apply Fin.ext
  match x with
  | ⟨0, _⟩ => show win0_2.index t 0 * 16 + 1 * a.val = (min (t.val * 32 + 32) 2047) * 16 + a.val; rw [p0]; omega
  | ⟨1, _⟩ => show win0_2.index t 1 * 1536 + 1 * b.val = b.val; rw [p1]; omega

/-- The taps. -/
theorem block3 (c : Dev nD) (t : Fin cfg0.N) (a : Fin 3) (b : Fin 1536) :
    (iblk m c 3 t : Vec Ideal S3x1536 .f32) (ix2 a b)
      = (m ((c : Thread nD τ).loc main_arg1) : FVec Ideal S3x1536 .f32) (ix2 a b) := by
  obtain ⟨-, -, -, ⟨p0, p1⟩, -⟩ := place t
  unfold iblk
  rw [View.read_apply]
  show V m c main_arg1 _ = _
  rw [V_main_arg1]
  congr 1
  funext x
  apply Fin.ext
  match x with
  | ⟨0, _⟩ => show win0_3.index t 0 * 3 + 1 * a.val = a.val; rw [p0]; omega
  | ⟨1, _⟩ => show win0_3.index t 1 * 1536 + 1 * b.val = b.val; rw [p1]; omega

/-- The offsets. -/
theorem block4 (c : Dev nD) (t : Fin cfg0.N) (a : Fin 1) (b : Fin 1536) :
    (iblk m c 4 t : Vec Ideal S1x1536 .f32) (ix2 a b)
      = (V m c main_v0 : FVec Ideal S1x1536 .f32) (ix2 a b) := by
  obtain ⟨-, -, -, -, p0, p1⟩ := place t
  unfold iblk
  rw [View.read_apply]
  show V m c main_v0 _ = _
  congr 1
  funext x
  apply Fin.ext
  match x with
  | ⟨0, _⟩ => show win0_4.index t 0 * 1 + 1 * a.val = a.val; rw [p0]; omega
  | ⟨1, _⟩ => show win0_4.index t 1 * 1536 + 1 * b.val = b.val; rw [p1]; omega

/-- Where point `t` writes the values. -/
theorem place5 : ∀ t : Fin cfg0.N,
    win0_5.index t (0 : Fin 2) = t.val ∧ win0_5.index t (1 : Fin 2) = 0 :=
  (by decide +kernel : ∀ t : Fin grid0.N, _)

/-- The values after the run, at an index of point `t`'s block: what the body leaves there. -/
theorem written5 (c : Dev nD) (t : Fin cfg0.N) (a : Fin 512) (b : Fin 512) :
    ((dats m 0 c).arrAt 5 cfg0.N) (ix2 ⟨t.val * 512 + a.val, by have := points t; have := a.isLt; omega⟩ b)
      = (out0_5 (grid0.coords t) (iblk m c 0 t) (iblk m c 1 t) (iblk m c 2 t) (iblk m c 3 t) (iblk m c 4 t)) (ix2 a b) := by
  have h := congrFun (Value.blocks5 m c t (flush0_5 t)) (ix2 a b)
  rw [View.read_apply, Value.flushed5] at h
  refine Eq.trans ?_ h
  congr 1
  obtain ⟨p0, p1⟩ := place5 t
  funext x
  apply Fin.ext
  match x with
  | ⟨0, _⟩ => show t.val * 512 + a.val = win0_5.index t 0 * 512 + 1 * a.val; rw [p0]; omega
  | ⟨1, _⟩ => show b.val = win0_5.index t 1 * 512 + 1 * b.val; rw [p1]; omega

/-- Where point `t` writes the first gates. -/
theorem place6 : ∀ t : Fin cfg0.N,
    win0_6.index t (0 : Fin 2) = t.val ∧ win0_6.index t (1 : Fin 2) = 0 :=
  (by decide +kernel : ∀ t : Fin grid0.N, _)

/-- The first gates after the run, at an index of point `t`'s block: what the body leaves there. -/
theorem written6 (c : Dev nD) (t : Fin cfg0.N) (a : Fin 512) (b : Fin 512) :
    ((dats m 0 c).arrAt 6 cfg0.N) (ix2 ⟨t.val * 512 + a.val, by have := points t; have := a.isLt; omega⟩ b)
      = (out0_6 (grid0.coords t) (iblk m c 0 t) (iblk m c 1 t) (iblk m c 2 t) (iblk m c 3 t) (iblk m c 4 t)) (ix2 a b) := by
  have h := congrFun (Value.blocks6 m c t (flush0_6 t)) (ix2 a b)
  rw [View.read_apply, Value.flushed6] at h
  refine Eq.trans ?_ h
  congr 1
  obtain ⟨p0, p1⟩ := place6 t
  funext x
  apply Fin.ext
  match x with
  | ⟨0, _⟩ => show t.val * 512 + a.val = win0_6.index t 0 * 512 + 1 * a.val; rw [p0]; omega
  | ⟨1, _⟩ => show b.val = win0_6.index t 1 * 512 + 1 * b.val; rw [p1]; omega

/-- Where point `t` writes the second gates. -/
theorem place7 : ∀ t : Fin cfg0.N,
    win0_7.index t (0 : Fin 2) = t.val ∧ win0_7.index t (1 : Fin 2) = 0 :=
  (by decide +kernel : ∀ t : Fin grid0.N, _)

/-- The second gates after the run, at an index of point `t`'s block: what the body leaves there. -/
theorem written7 (c : Dev nD) (t : Fin cfg0.N) (a : Fin 512) (b : Fin 512) :
    ((dats m 0 c).arrAt 7 cfg0.N) (ix2 ⟨t.val * 512 + a.val, by have := points t; have := a.isLt; omega⟩ b)
      = (out0_7 (grid0.coords t) (iblk m c 0 t) (iblk m c 1 t) (iblk m c 2 t) (iblk m c 3 t) (iblk m c 4 t)) (ix2 a b) := by
  have h := congrFun (Value.blocks7 m c t (flush0_7 t)) (ix2 a b)
  rw [View.read_apply, Value.flushed7] at h
  refine Eq.trans ?_ h
  congr 1
  obtain ⟨p0, p1⟩ := place7 t
  funext x
  apply Fin.ext
  match x with
  | ⟨0, _⟩ => show t.val * 512 + a.val = win0_7.index t 0 * 512 + 1 * a.val; rw [p0]; omega
  | ⟨1, _⟩ => show b.val = win0_7.index t 1 * 512 + 1 * b.val; rw [p1]; omega

theorem hz2 : (![0, 0] : Fin 2 → Nat) = fun _ => 0 := funext fun a => by fin_cases a <;> rfl
theorem hz3 : (![0, 0, 0] : Fin 3 → Nat) = fun _ => 0 := funext fun a => by fin_cases a <;> rfl

/-- The grid point's coordinate is the point. -/
theorem coord_eq : ∀ t : Fin cfg0.N, (grid0.coords t 0).val = t.val :=
  (by decide +kernel : ∀ t : Fin grid0.N, _)

theorem ofBits_zero : (FloatOps.ofBits (F := Ideal) FTy.f32 0x00000000#32 : EReal) = 0 := by
  show Ideal.ofBits FTy.f32 0x00000000#32 = 0
  simp [Ideal.ofBits, Ideal.ieee]

/-- The row before, `x1` shifted down with the last row of `x0` (none at a sequence's start) in front. -/
theorem pay6_apply (i : grid0.Coords) (x1 : Vec Ideal S512x1536 .bf16) (z : Vec Ideal S1x1536 .bf16) (r : Fin 512) (d : Fin 1536) :
    k0_pay6 i x1 z (ix2 r d) = if r.val = 0 then (if (i 0).val % 32 = 0 then (0 : EReal) else z (ix2 0 d)) else x1 (ix2 ⟨r.val - 1, by omega⟩ d) := by
  pointwise [k0_pay6, k0_pay5]
  have hi : (i 0).val < 64 := (i 0).isLt
  have hp := place_eq ⟨(i 0).val, hi⟩
  have ha := at_place (⟨0, by omega⟩ : Fin 32) (0 : EReal) (z (ix2 0 d)) ⟨(i 0).val, hi⟩
  dsimp only at hp ha
  rw [hp, ha]
  refine (at_row ⟨0, by omega⟩ r _ _).trans ?_
  by_cases hr : r.val = 0
  · rw [if_pos hr, if_pos hr]
  · rw [if_neg hr, if_neg hr]
    refine congrArg (fun s => x1 (ix2 s d)) (Fin.ext ?_)
    dsimp only
    omega

theorem pay7_apply (i : grid0.Coords) (x1 : Vec Ideal S512x1536 .bf16) (z : Vec Ideal S1x1536 .bf16) (r : Fin 512) (d : Fin 1536) :
    k0_pay7 i x1 z (ix2 r d) = if r.val = 511 then (if (i 0).val % 32 = 31 then (0 : EReal) else z (ix2 0 d)) else x1 (ix2 ⟨(r.val + 1) % 512, by omega⟩ d) := by
  pointwise [k0_pay7, k0_pay5]
  have hi : (i 0).val < 64 := (i 0).isLt
  have hp := place_eq ⟨(i 0).val, hi⟩
  have ha := at_place (⟨31, by omega⟩ : Fin 32) (0 : EReal) (z (ix2 0 d)) ⟨(i 0).val, hi⟩
  dsimp only at hp ha
  rw [hp, ha]
  refine (at_row ⟨511, by omega⟩ r _ _).trans ?_
  by_cases hr : r.val = 511
  · rw [if_pos hr, if_pos hr]
  · rw [if_neg hr, if_neg hr]
    refine congrArg (fun s => x1 (ix2 s d)) (Fin.ext ?_)
    dsimp only
    omega
theorem out5_apply (i : grid0.Coords) (x0 : Vec Ideal S16x1536 .bf16) (x1 : Vec Ideal S512x1536 .bf16) (x2 : Vec Ideal S16x1536 .bf16) (x3 : Vec Ideal S3x1536 .f32) (x4 : Vec Ideal S1x1536 .f32) (r d : Fin 512) : out0_5 i x0 x1 x2 x3 x4 (ix2 r d)
    = ((if r.val = 0 then (if (i 0).val % 32 = 0 then (0 : EReal) else x0 (ix2 15 ⟨d.val, by omega⟩)) else x1 (ix2 ⟨r.val - 1, by omega⟩ ⟨d.val, by omega⟩)) * x3 (ix2 0 ⟨d.val, by omega⟩)
      + x1 (ix2 r ⟨d.val, by omega⟩) * x3 (ix2 1 ⟨d.val, by omega⟩))
      + (if r.val = 511 then (if (i 0).val % 32 = 31 then (0 : EReal) else x2 (ix2 0 ⟨d.val, by omega⟩)) else x1 (ix2 ⟨(r.val + 1) % 512, by omega⟩ ⟨d.val, by omega⟩)) * x3 (ix2 2 ⟨d.val, by omega⟩)
      + x4 (ix2 0 ⟨d.val, by omega⟩) := by
  unfold_out out0_5
  simp only [View.canon_unit_zero (S := S512x512) hz2, View.ld_unit_zero (S := S512x1536) hz2, View.ld_unit_zero (S := S3x1536) hz2, View.ld_unit_zero (S := S1x1536) hz2]
  pointwise [k0_pay2, k0_pay1, k0_pay8]
  simp only [pay6_apply, pay7_apply]
  pointwise [k0_pay5]

theorem out6_apply (i : grid0.Coords) (x0 : Vec Ideal S16x1536 .bf16) (x1 : Vec Ideal S512x1536 .bf16) (x2 : Vec Ideal S16x1536 .bf16) (x3 : Vec Ideal S3x1536 .f32) (x4 : Vec Ideal S1x1536 .f32) (r d : Fin 512) : out0_6 i x0 x1 x2 x3 x4 (ix2 r d)
    = ((if r.val = 0 then (if (i 0).val % 32 = 0 then (0 : EReal) else x0 (ix2 15 ⟨512 + d.val, by omega⟩)) else x1 (ix2 ⟨r.val - 1, by omega⟩ ⟨512 + d.val, by omega⟩)) * x3 (ix2 0 ⟨512 + d.val, by omega⟩)
      + x1 (ix2 r ⟨512 + d.val, by omega⟩) * x3 (ix2 1 ⟨512 + d.val, by omega⟩))
      + (if r.val = 511 then (if (i 0).val % 32 = 31 then (0 : EReal) else x2 (ix2 0 ⟨512 + d.val, by omega⟩)) else x1 (ix2 ⟨(r.val + 1) % 512, by omega⟩ ⟨512 + d.val, by omega⟩)) * x3 (ix2 2 ⟨512 + d.val, by omega⟩)
      + x4 (ix2 0 ⟨512 + d.val, by omega⟩) := by
  unfold_out out0_6
  simp only [View.canon_unit_zero (S := S512x512) hz2, View.ld_unit_zero (S := S512x1536) hz2, View.ld_unit_zero (S := S3x1536) hz2, View.ld_unit_zero (S := S1x1536) hz2]
  pointwise [k0_pay3, k0_pay1, k0_pay8]
  simp only [pay6_apply, pay7_apply]
  pointwise [k0_pay5]

theorem out7_apply (i : grid0.Coords) (x0 : Vec Ideal S16x1536 .bf16) (x1 : Vec Ideal S512x1536 .bf16) (x2 : Vec Ideal S16x1536 .bf16) (x3 : Vec Ideal S3x1536 .f32) (x4 : Vec Ideal S1x1536 .f32) (r d : Fin 512) : out0_7 i x0 x1 x2 x3 x4 (ix2 r d)
    = ((if r.val = 0 then (if (i 0).val % 32 = 0 then (0 : EReal) else x0 (ix2 15 ⟨1024 + d.val, by omega⟩)) else x1 (ix2 ⟨r.val - 1, by omega⟩ ⟨1024 + d.val, by omega⟩)) * x3 (ix2 0 ⟨1024 + d.val, by omega⟩)
      + x1 (ix2 r ⟨1024 + d.val, by omega⟩) * x3 (ix2 1 ⟨1024 + d.val, by omega⟩))
      + (if r.val = 511 then (if (i 0).val % 32 = 31 then (0 : EReal) else x2 (ix2 0 ⟨1024 + d.val, by omega⟩)) else x1 (ix2 ⟨(r.val + 1) % 512, by omega⟩ ⟨1024 + d.val, by omega⟩)) * x3 (ix2 2 ⟨1024 + d.val, by omega⟩)
      + x4 (ix2 0 ⟨1024 + d.val, by omega⟩) := by
  unfold_out out0_7
  simp only [View.canon_unit_zero (S := S512x512) hz2, View.ld_unit_zero (S := S512x1536) hz2, View.ld_unit_zero (S := S3x1536) hz2, View.ld_unit_zero (S := S1x1536) hz2]
  pointwise [k0_pay4, k0_pay1, k0_pay8]
  simp only [pay6_apply, pay7_apply]
  pointwise [k0_pay5]

/-- The offsets as a row. -/
theorem host_v0 (c : Dev nD) (d : Fin 1536) : (V m c main_v0 : FVec Ideal S1x1536 .f32) (ix2 0 d)
    = (m ((c : Thread nD τ).loc main_arg2) : FVec Ideal S1536 .f32) (ix1 d) := by
  have h : @Eq (FVec Ideal S1x1536 .f32) (V m c main_v0) (shapeCast S1x1536 (m ((c : Thread nD τ).loc main_arg2) : FVec Ideal S1536 .f32) shapeCasts_S1536_S1x1536) := by
    unfold V
    after_results <;> rfl
  rw [h]
  pointwise []

/-- Row `R` is row `R % 512` of grid point `R / 512`. -/
theorem split (R : Fin 32768) : ∃ (t : Fin cfg0.N) (a : Fin 512) (h : t.val * 512 + a.val < 32768), R = ⟨t.val * 512 + a.val, h⟩ :=
  ⟨⟨R.val / 512, lt_of_lt_of_eq (show R.val / 512 < 64 by omega) (show 64 = cfg0.N from N_0.symm)⟩, ⟨R.val % 512, by omega⟩,
    by show R.val / 512 * 512 + R.val % 512 < 32768; omega, Fin.ext (by show R.val = R.val / 512 * 512 + R.val % 512; omega)⟩

/-- The row before, inside the blocks at a grid point. -/
theorem before_eq (f : Fin 32768 → EReal) (t : Fin cfg0.N) (a : Fin 512) (h : t.val * 512 + a.val < 32768) (h0 : (t.val * 32 - 1) * 16 + 15 < 32768)
    (h1 : t.val * 512 + (a.val - 1) < 32768) :
    (if a.val = 0 then (if (grid0.coords t 0).val % 32 = 0 then (0 : EReal) else f ⟨(t.val * 32 - 1) * 16 + 15, h0⟩) else f ⟨t.val * 512 + (a.val - 1), h1⟩)
      = tapped f 1 0 ⟨t.val * 512 + a.val, h⟩ := by
  rw [coord_eq]
  have := a.isLt
  by_cases ha : a.val = 0
  · rw [if_pos ha]
    by_cases ht : t.val % 32 = 0
    · rw [if_pos ht]
      exact (tapped_out (by dsimp only; omega)).symm
    · rw [if_neg ht]
      exact (tapped_in (by dsimp only; omega) (by dsimp only; omega) (by dsimp only; omega)).symm
  · rw [if_neg ha]
    exact (tapped_in (by dsimp only; omega) (by dsimp only; omega) (by dsimp only; omega)).symm

/-- The row after, inside the blocks at a grid point. -/
theorem after_eq (f : Fin 32768 → EReal) (t : Fin cfg0.N) (a : Fin 512) (h : t.val * 512 + a.val < 32768) (h0 : min (t.val * 32 + 32) 2047 * 16 + 0 < 32768)
    (h1 : t.val * 512 + ((a.val + 1) % 512) < 32768) :
    (if a.val = 511 then (if (grid0.coords t 0).val % 32 = 31 then (0 : EReal) else f ⟨min (t.val * 32 + 32) 2047 * 16 + 0, h0⟩) else f ⟨t.val * 512 + ((a.val + 1) % 512), h1⟩)
      = tapped f 1 2 ⟨t.val * 512 + a.val, h⟩ := by
  rw [coord_eq]
  have := a.isLt
  by_cases ha : a.val = 511
  · rw [if_pos ha]
    by_cases ht : t.val % 32 = 31
    · rw [if_pos ht]
      exact (tapped_out (by dsimp only; omega)).symm
    · rw [if_neg ht]
      have := points t
      exact (tapped_in (by dsimp only; omega) (by dsimp only; omega) (by dsimp only; omega)).symm
  · rw [if_neg ha]
    exact (tapped_in (by dsimp only; omega) (by dsimp only; omega) (by dsimp only; omega)).symm

theorem here_eq (f : Fin 32768 → EReal) (R : Fin 32768) : f R = tapped f 1 1 R :=
  (tapped_in (by omega) (by omega) (by omega)).symm

/-- Result 5 after the run. -/
theorem result5_apply (c : Dev nD) (R : Fin 32768) (d : Fin 512) :
    @Eq EReal (((dats m 0 c).arrAt 5 cfg0.N) (ix2 R d))
      (mixed (fun R => (m ((c : Thread nD τ).loc main_arg0) : FVec Ideal S32768x1536 .bf16) (ix2 R ⟨d.val, by omega⟩)) (fun k => (m ((c : Thread nD τ).loc main_arg1) : FVec Ideal S3x1536 .f32) (ix2 k ⟨d.val, by omega⟩)) ((m ((c : Thread nD τ).loc main_arg2) : FVec Ideal S1536 .f32) (ix1 ⟨d.val, by omega⟩)) R) := by
  obtain ⟨t, a, h, rfl⟩ := split R
  refine (written5 m c t a d).trans ?_
  change @Eq EReal _ _
  rw [out5_apply]
  unfold mixed
  have e3 := fun k d => block3 m c t k d
  have e4 := fun d => (block4 m c t 0 d).trans (host_v0 m c d)
  have e0 := fun r d => block0 m c t r d
  have e1 := fun r d => block1 m c t r d
  have e2 := fun r d => block2 m c t r d
  simp only [e0, e1, e2, e3, e4]
  refine congrArg₂ (· + ·) (congrArg₂ (· + ·) (congrArg₂ (· + ·) (congrArg₂ (· * ·) ?_ rfl) (congrArg₂ (· * ·) ?_ rfl)) (congrArg₂ (· * ·) ?_ rfl)) rfl
  · exact before_eq (fun R => (m ((c : Thread nD τ).loc main_arg0) : FVec Ideal S32768x1536 .bf16) (ix2 R ⟨d.val, by omega⟩)) t a h _ _
  · exact here_eq (fun R => (m ((c : Thread nD τ).loc main_arg0) : FVec Ideal S32768x1536 .bf16) (ix2 R ⟨d.val, by omega⟩)) _
  · exact after_eq (fun R => (m ((c : Thread nD τ).loc main_arg0) : FVec Ideal S32768x1536 .bf16) (ix2 R ⟨d.val, by omega⟩)) t a h _ _

/-- Result 6 after the run. -/
theorem result6_apply (c : Dev nD) (R : Fin 32768) (d : Fin 512) :
    @Eq EReal (((dats m 0 c).arrAt 6 cfg0.N) (ix2 R d))
      (mixed (fun R => (m ((c : Thread nD τ).loc main_arg0) : FVec Ideal S32768x1536 .bf16) (ix2 R ⟨512 + d.val, by omega⟩)) (fun k => (m ((c : Thread nD τ).loc main_arg1) : FVec Ideal S3x1536 .f32) (ix2 k ⟨512 + d.val, by omega⟩)) ((m ((c : Thread nD τ).loc main_arg2) : FVec Ideal S1536 .f32) (ix1 ⟨512 + d.val, by omega⟩)) R) := by
  obtain ⟨t, a, h, rfl⟩ := split R
  refine (written6 m c t a d).trans ?_
  change @Eq EReal _ _
  rw [out6_apply]
  unfold mixed
  have e3 := fun k d => block3 m c t k d
  have e4 := fun d => (block4 m c t 0 d).trans (host_v0 m c d)
  have e0 := fun r d => block0 m c t r d
  have e1 := fun r d => block1 m c t r d
  have e2 := fun r d => block2 m c t r d
  simp only [e0, e1, e2, e3, e4]
  refine congrArg₂ (· + ·) (congrArg₂ (· + ·) (congrArg₂ (· + ·) (congrArg₂ (· * ·) ?_ rfl) (congrArg₂ (· * ·) ?_ rfl)) (congrArg₂ (· * ·) ?_ rfl)) rfl
  · exact before_eq (fun R => (m ((c : Thread nD τ).loc main_arg0) : FVec Ideal S32768x1536 .bf16) (ix2 R ⟨512 + d.val, by omega⟩)) t a h _ _
  · exact here_eq (fun R => (m ((c : Thread nD τ).loc main_arg0) : FVec Ideal S32768x1536 .bf16) (ix2 R ⟨512 + d.val, by omega⟩)) _
  · exact after_eq (fun R => (m ((c : Thread nD τ).loc main_arg0) : FVec Ideal S32768x1536 .bf16) (ix2 R ⟨512 + d.val, by omega⟩)) t a h _ _

/-- Result 7 after the run. -/
theorem result7_apply (c : Dev nD) (R : Fin 32768) (d : Fin 512) :
    @Eq EReal (((dats m 0 c).arrAt 7 cfg0.N) (ix2 R d))
      (mixed (fun R => (m ((c : Thread nD τ).loc main_arg0) : FVec Ideal S32768x1536 .bf16) (ix2 R ⟨1024 + d.val, by omega⟩)) (fun k => (m ((c : Thread nD τ).loc main_arg1) : FVec Ideal S3x1536 .f32) (ix2 k ⟨1024 + d.val, by omega⟩)) ((m ((c : Thread nD τ).loc main_arg2) : FVec Ideal S1536 .f32) (ix1 ⟨1024 + d.val, by omega⟩)) R) := by
  obtain ⟨t, a, h, rfl⟩ := split R
  refine (written7 m c t a d).trans ?_
  change @Eq EReal _ _
  rw [out7_apply]
  unfold mixed
  have e3 := fun k d => block3 m c t k d
  have e4 := fun d => (block4 m c t 0 d).trans (host_v0 m c d)
  have e0 := fun r d => block0 m c t r d
  have e1 := fun r d => block1 m c t r d
  have e2 := fun r d => block2 m c t r d
  simp only [e0, e1, e2, e3, e4]
  refine congrArg₂ (· + ·) (congrArg₂ (· + ·) (congrArg₂ (· + ·) (congrArg₂ (· * ·) ?_ rfl) (congrArg₂ (· * ·) ?_ rfl)) (congrArg₂ (· * ·) ?_ rfl)) rfl
  · exact before_eq (fun R => (m ((c : Thread nD τ).loc main_arg0) : FVec Ideal S32768x1536 .bf16) (ix2 R ⟨1024 + d.val, by omega⟩)) t a h _ _
  · exact here_eq (fun R => (m ((c : Thread nD τ).loc main_arg0) : FVec Ideal S32768x1536 .bf16) (ix2 R ⟨1024 + d.val, by omega⟩)) _
  · exact after_eq (fun R => (m ((c : Thread nD τ).loc main_arg0) : FVec Ideal S32768x1536 .bf16) (ix2 R ⟨1024 + d.val, by omega⟩)) t a h _ _

end Cert.ShortIdeal.Hand
-- ==== Proof.Short.RefValue.lean ====
/-
  The plain short convolution read at an index.
-/
module

public import proofs.«01_k».proof.Proof.Gen.ShortRefIdeal.Run
public import proofs.«01_k».proof.Proof.Taps

@[expose] public section

set_option maxRecDepth 16384

noncomputable section

namespace Cert.ShortRefIdeal.Hand

open Cert.Hand Cert.ShortRefIdeal Cert.ShortRefIdeal.Gen Idealize.ShloMosaic Idealize.SL.Sem

/-- Each sequence with one row of zeros at either end. -/
def padded (x : FVec Ideal S32768x1536 .bf16) : FVec Ideal S2x16386x1536 .f32 :=
  pad S2x16386x1536 ![0, 1, 0] ![0, 1, 0] ![0, 0, 0] (shapeCast _ (extf .f32 x bitsLt_bf16_f32) shapeCasts_S32768x1536_S2x16384x1536) (sitofp .f32 (constantI S_ 32 0#32)) pads_S2x16384x1536_S2x16386x1536_000_110_000 h_S_

/-- The three taps over the padded sequences. -/
def summed (y : FVec Ideal S2x16386x1536 .f32) (w : FVec Ideal S3x1536 .f32) (b : FVec Ideal S1536 .f32) : FVec Ideal S32768x1536 .bf16 :=
  truncf .bf16 (shapeCast _ (addf (addf (addf (addf (broadcastInDim S2x16384x1536 ![] bcast_S_S2x16384x1536 (constant S_ .f32 0x00000000#32)) (mulf (extractStridedSlice S2x16384x1536 ![0, 0, 0] y slices_S2x16386x1536_S2x16384x1536_0_0_0) (broadcastInDim S2x16384x1536 ![0, 1, 2] bcast_S1x1x1536_S2x16384x1536_0_1_2 (broadcastInDim S1x1x1536 ![2] bcast_S1536_S1x1x1536_2 (shapeCast _ (extractStridedSlice S1x1536 ![0, 0] w slices_S3x1536_S1x1536_0_0) shapeCasts_S1x1536_S1536))))) (mulf (extractStridedSlice S2x16384x1536 ![0, 1, 0] y slices_S2x16386x1536_S2x16384x1536_0_1_0) (broadcastInDim S2x16384x1536 ![0, 1, 2] bcast_S1x1x1536_S2x16384x1536_0_1_2 (broadcastInDim S1x1x1536 ![2] bcast_S1536_S1x1x1536_2 (shapeCast _ (extractStridedSlice S1x1536 ![1, 0] w slices_S3x1536_S1x1536_1_0) shapeCasts_S1x1536_S1536))))) (mulf (extractStridedSlice S2x16384x1536 ![0, 2, 0] y slices_S2x16386x1536_S2x16384x1536_0_2_0) (broadcastInDim S2x16384x1536 ![0, 1, 2] bcast_S1x1x1536_S2x16384x1536_0_1_2 (broadcastInDim S1x1x1536 ![2] bcast_S1536_S1x1x1536_2 (shapeCast _ (extractStridedSlice S1x1536 ![2, 0] w slices_S3x1536_S1x1536_2_0) shapeCasts_S1x1536_S1536))))) (broadcastInDim S2x16384x1536 ![0, 1, 2] bcast_S1x1x1536_S2x16384x1536_0_1_2 (broadcastInDim S1x1x1536 ![2] bcast_S1536_S1x1x1536_2 b))) shapeCasts_S2x16384x1536_S32768x1536) bitsLt_bf16_f32

theorem padded_out (x : FVec Ideal S32768x1536 .bf16) (t : Fin 2) (i : Fin 16386) (d : Fin 1536) (h : ¬(1 ≤ i.val ∧ i.val < 16384 + 1)) :
    padded x (ix3 t i d) = 0 := by
  pointwise [padded]
  rw [dif_neg]
  · show (((0#32 : BitVec 32).toInt : ℝ) : EReal) = 0
    simp
  · omega

theorem padded_in (x : FVec Ideal S32768x1536 .bf16) (t : Fin 2) (i : Fin 16386) (d : Fin 1536) (h : 1 ≤ i.val ∧ i.val < 16384 + 1) :
    padded x (ix3 t i d) = x (ix2 ⟨t.val * 16384 + (i.val - 1), by omega⟩ d) := by
  pointwise [padded]
  rw [dif_pos]
  omega

theorem summed_apply (y : FVec Ideal S2x16386x1536 .f32) (w : FVec Ideal S3x1536 .f32) (b : FVec Ideal S1536 .f32) (R : Fin 32768) (d : Fin 1536) :
    summed y w b (ix2 R d) = 0 + y (ix3 ⟨R.val / 16384, by omega⟩ ⟨R.val % 16384, by omega⟩ d) * w (ix2 0 d)
      + y (ix3 ⟨R.val / 16384, by omega⟩ ⟨1 + R.val % 16384, by omega⟩ d) * w (ix2 1 d)
      + y (ix3 ⟨R.val / 16384, by omega⟩ ⟨2 + R.val % 16384, by omega⟩ d) * w (ix2 2 d) + b (ix1 d) := by
  pointwise [summed]

theorem tap_eq (x : FVec Ideal S32768x1536 .bf16) (R : Fin 32768) (d : Fin 1536) (k : Nat) (hk : k < 3) (i : Fin 16386) (hi : i.val = k + R.val % 16384) :
    padded x (ix3 ⟨R.val / 16384, by omega⟩ i d) = tapped (fun R => x (ix2 R d)) 1 k R := by
  by_cases h : 1 ≤ i.val ∧ i.val < 16384 + 1
  · refine (padded_in x _ i d h).trans (tapped_in (f := fun R => x (ix2 R d)) (by omega) (by omega) ?_).symm
    dsimp only
    omega
  · exact (padded_out x _ i d h).trans (tapped_out (by omega)).symm

theorem summed_padded (x : FVec Ideal S32768x1536 .bf16) (w : FVec Ideal S3x1536 .f32) (b : FVec Ideal S1536 .f32) (R : Fin 32768) (d : Fin 1536) :
    summed (padded x) w b (ix2 R d) = mixed (fun R => x (ix2 R d)) (fun k => w (ix2 k d)) (b (ix1 d)) R := by
  rw [summed_apply, tap_eq x R d 0 (by omega) _ (by dsimp only; omega), tap_eq x R d 1 (by omega) _ rfl, tap_eq x R d 2 (by omega) _ rfl]
  unfold mixed
  rw [zero_add]

def values (x : FVec Ideal S32768x1536 .bf16) (w : FVec Ideal S3x1536 .f32) (b : FVec Ideal S1536 .f32) : FVec Ideal S32768x512 .bf16 :=
  extractStridedSlice S32768x512 ![0, 0] (summed (padded x) w b) slices_S32768x1536_S32768x512_0_0

theorem values_apply (x : FVec Ideal S32768x1536 .bf16) (w : FVec Ideal S3x1536 .f32) (b : FVec Ideal S1536 .f32) (R : Fin 32768) (d : Fin 512) :
    values x w b (ix2 R d) = mixed (fun R => x (ix2 R ⟨d.val, by omega⟩)) (fun k => w (ix2 k ⟨d.val, by omega⟩)) (b (ix1 ⟨d.val, by omega⟩)) R := by
  refine Eq.trans ?_ (summed_padded x w b R ⟨d.val, by omega⟩)
  pointwise [values]

def first (x : FVec Ideal S32768x1536 .bf16) (w : FVec Ideal S3x1536 .f32) (b : FVec Ideal S1536 .f32) : FVec Ideal S32768x512 .bf16 :=
  extractStridedSlice S32768x512 ![0, 512] (summed (padded x) w b) slices_S32768x1536_S32768x512_0_512

theorem first_apply (x : FVec Ideal S32768x1536 .bf16) (w : FVec Ideal S3x1536 .f32) (b : FVec Ideal S1536 .f32) (R : Fin 32768) (d : Fin 512) :
    first x w b (ix2 R d) = mixed (fun R => x (ix2 R ⟨512 + d.val, by omega⟩)) (fun k => w (ix2 k ⟨512 + d.val, by omega⟩)) (b (ix1 ⟨512 + d.val, by omega⟩)) R := by
  refine Eq.trans ?_ (summed_padded x w b R ⟨512 + d.val, by omega⟩)
  pointwise [first]

def second (x : FVec Ideal S32768x1536 .bf16) (w : FVec Ideal S3x1536 .f32) (b : FVec Ideal S1536 .f32) : FVec Ideal S32768x512 .bf16 :=
  extractStridedSlice S32768x512 ![0, 1024] (summed (padded x) w b) slices_S32768x1536_S32768x512_0_1024

theorem second_apply (x : FVec Ideal S32768x1536 .bf16) (w : FVec Ideal S3x1536 .f32) (b : FVec Ideal S1536 .f32) (R : Fin 32768) (d : Fin 512) :
    second x w b (ix2 R d) = mixed (fun R => x (ix2 R ⟨1024 + d.val, by omega⟩)) (fun k => w (ix2 k ⟨1024 + d.val, by omega⟩)) (b (ix1 ⟨1024 + d.val, by omega⟩)) R := by
  refine Eq.trans ?_ (summed_padded x w b R ⟨1024 + d.val, by omega⟩)
  pointwise [second]

end Cert.ShortRefIdeal.Hand
-- ==== Proof.Out.Router.lean ====
/-
  Which entries a stable sort puts first, and the choice of two experts out of sixteen.
-/
module

public import Idealize.ShloMosaic.Lib.Pointwise
public import Idealize.ShloMosaic.Lib.SortFacts

@[expose] public section

set_option maxRecDepth 16384

noncomputable section

namespace Cert.Hand

open Idealize.ShloMosaic

/-- Entry `a` comes before entry `b`: it is greater, or equal and of the lower index. -/
def Ahead {n : Nat} (f : Fin n → EReal) (a b : Fin n) : Prop := f b < f a ∨ (f a = f b ∧ a < b)

theorem Ahead.trans {n : Nat} {f : Fin n → EReal} {a b c : Fin n} (h : Ahead f a b) (h' : Ahead f b c) : Ahead f a c := by
  rcases h with h | ⟨h, l⟩ <;> rcases h' with h' | ⟨h', l'⟩
  · exact Or.inl (h'.trans h)
  · exact Or.inl (h' ▸ h)
  · exact Or.inl (h ▸ h')
  · exact Or.inr ⟨h.trans h', l.trans l'⟩

theorem Ahead.irrefl {n : Nat} {f : Fin n → EReal} {a : Fin n} (h : Ahead f a a) : False := by
  rcases h with h | ⟨_, l⟩
  · exact lt_irrefl _ h
  · exact lt_irrefl _ l

section StableSort

variable {n : Nat} {f : Fin n → EReal} {R : Fin n → Fin n → Bool} (hR : ∀ k k', R k k' = true ↔ f k' < f k)

include hR in
theorem insert_ahead (a : Fin n) (l : List (Fin n)) (hl : l.Pairwise (Ahead f)) (ha : ∀ x ∈ l, a < x) :
    (insertBefore R a l).Pairwise (Ahead f) ∧ ∀ x ∈ insertBefore R a l, x = a ∨ x ∈ l := by
  induction l with
  | nil => exact ⟨List.pairwise_singleton _ _, fun x hx => Or.inl (List.mem_singleton.mp hx)⟩
  | cons b l ih =>
    obtain ⟨hb, hl⟩ := List.pairwise_cons.mp hl
    obtain ⟨i1, i2⟩ := ih hl fun x hx => ha x (List.mem_cons_of_mem b hx)
    unfold insertBefore
    split
    · rename_i hba
      have hlt : f a < f b := (hR b a).mp hba
      refine ⟨List.pairwise_cons.mpr ⟨fun x hx => ?_, i1⟩, fun x hx => ?_⟩
      · rcases i2 x hx with rfl | hx
        · exact Or.inl hlt
        · exact hb x hx
      · rcases List.mem_cons.mp hx with rfl | hx
        · exact Or.inr List.mem_cons_self
        · exact (i2 x hx).imp id (List.mem_cons_of_mem b)
    · rename_i hba
      have hle : f b ≤ f a := not_lt.mp fun h => hba ((hR b a).mpr h)
      have hab : Ahead f a b := (lt_or_eq_of_le hle).imp id fun e => ⟨e.symm, ha b List.mem_cons_self⟩
      refine ⟨List.pairwise_cons.mpr ⟨fun x hx => ?_, List.pairwise_cons.mpr ⟨hb, hl⟩⟩, fun x hx => List.mem_cons.mp hx⟩
      rcases List.mem_cons.mp hx with rfl | hx
      · exact hab
      · exact hab.trans (hb x hx)

include hR in
theorem sorted_ahead (l : List (Fin n)) (hl : l.Pairwise (· < ·)) : (stableSort R l).Pairwise (Ahead f) := by
  induction l with
  | nil => exact List.Pairwise.nil
  | cons a l ih =>
    obtain ⟨ha, hl⟩ := List.pairwise_cons.mp hl
    unfold stableSort
    exact (insert_ahead hR a _ (ih hl) fun x hx => ha x ((perm_stableSort R l).mem_iff.mp hx)).1

include hR in
/-- A stable sort, greater first, puts what comes before at the lower position. -/
theorem sortedFrom_ahead {i j : Fin n} (h : i < j) : Ahead f (sortedFrom R i) (sortedFrom R j) :=
  List.pairwise_iff_get.mp (sorted_ahead hR (List.finRange n) (List.pairwise_lt_finRange n)) _ _ h

include hR in
theorem sortedFrom_lt_of_ahead {i j : Fin n} (h : Ahead f (sortedFrom R i) (sortedFrom R j)) : i < j := by
  rcases lt_trichotomy i j with l | rfl | l
  · exact l
  · exact h.irrefl.elim
  · exact (h.trans (sortedFrom_ahead hR l)).irrefl.elim

open Classical in
/-- How many entries come before entry `e`. -/
def rank (f : Fin n → EReal) (e : Fin n) : Nat := (Finset.univ.filter fun x => Ahead f x e).card

include hR in
/-- The entry a stable sort puts at position `k` has `k` entries before it. -/
theorem rank_sortedFrom (k : Fin n) : rank f (sortedFrom R k) = k.val := by
  classical
  unfold rank
  rw [show (Finset.univ.filter fun x => Ahead f x (sortedFrom R k)) = (Finset.Iio k).image (sortedFrom R) from ?_]
  · rw [Finset.card_image_of_injective _ (sortedFrom_injective R), Fin.card_Iio]
  · ext x
    simp only [Finset.mem_filter, Finset.mem_univ, true_and, Finset.mem_image, Finset.mem_Iio]
    constructor
    · intro h
      obtain ⟨i, rfl⟩ := sortedFrom_surjective R x
      exact ⟨i, sortedFrom_lt_of_ahead hR h, rfl⟩
    · rintro ⟨i, hi, rfl⟩
      exact sortedFrom_ahead hR hi

include hR in
theorem sortedFrom_eq_iff (k e : Fin n) : sortedFrom R k = e ↔ rank f e = k.val := by
  constructor
  · rintro rfl
    exact rank_sortedFrom hR k
  · intro h
    obtain ⟨i, rfl⟩ := sortedFrom_surjective R e
    rw [rank_sortedFrom hR] at h
    rw [Fin.ext h]

end StableSort

/-- The sum of the two greatest of four. -/
def topTwo (a b c d : EReal) : EReal :=
  max (max a b) (max c d) + max (min (max a b) (max c d)) (max (min a b) (min c d))

theorem topTwo_of (f : Fin 4 → EReal) (p q : Fin 4) (h : ∀ x, x ≠ p → Ahead f p x) (h' : ∀ x, x ≠ p → x ≠ q → Ahead f q x)
    (hn : p ≠ q) : f p + f q = topTwo (f 0) (f 1) (f 2) (f 3) := by
  have g : ∀ x, f x ≤ f p := fun x => by
    by_cases e : x = p
    · rw [e]
    · rcases h x e with l | l
      · exact l.le
      · exact l.1.ge
  have g' : ∀ x, x ≠ p → f x ≤ f q := fun x e => by
    by_cases e' : x = q
    · rw [e']
    · rcases h' x e e' with l | l
      · exact l.le
      · exact l.1.ge
  clear h h'
  have g0 := g 0
  have g1 := g 1
  have g2 := g 2
  have g3 := g 3
  have k0 := g' 0
  have k1 := g' 1
  have k2 := g' 2
  have k3 := g' 3
  clear g g'
  unfold topTwo
  fin_cases p <;> fin_cases q <;> simp at hn k0 k1 k2 k3 g0 g1 g2 g3 ⊢ <;> simp [*]

theorem topTwo_sorted {f : Fin 4 → EReal} {R : Fin 4 → Fin 4 → Bool} (hR : ∀ k k', R k k' = true ↔ f k' < f k) :
    f (sortedFrom R 0) + f (sortedFrom R 1) = topTwo (f 0) (f 1) (f 2) (f 3) := by
  refine topTwo_of f _ _ (fun x hx => ?_) (fun x hx hx' => ?_) fun e => absurd (sortedFrom_injective R e) (by decide)
  · obtain ⟨i, rfl⟩ := sortedFrom_surjective R x
    exact sortedFrom_ahead hR (Fin.pos_of_ne_zero fun e => hx (congrArg _ e))
  · obtain ⟨i, rfl⟩ := sortedFrom_surjective R x
    refine sortedFrom_ahead hR ?_
    have h0 : i ≠ 0 := fun e => hx (congrArg _ e)
    have h1 : i ≠ 1 := fun e => hx' (congrArg _ e)
    have a0 : i.val ≠ 0 := fun e => h0 (Fin.ext e)
    have a1 : i.val ≠ 1 := fun e => h1 (Fin.ext e)
    show 1 < i.val
    omega

/-- The first of the greatest of four. -/
def firstBest (g : Fin 4 → EReal) : Fin 4 :=
  if max (max (g 0) (g 1)) (g 2) < g 3 then 3 else if max (g 0) (g 1) < g 2 then 2 else if g 0 < g 1 then 1 else 0

theorem firstBest_ahead (g : Fin 4 → EReal) (x : Fin 4) (hx : x ≠ firstBest g) : Ahead g (firstBest g) x := by
  generalize hp : firstBest g = p at *
  unfold firstBest at hp
  by_contra hc
  obtain ⟨c1, c2⟩ := not_or.mp hc
  have c3 : g p ≤ g x := not_lt.mp c1
  have c4 : g p = g x → x < p := fun e => lt_of_le_of_ne (not_lt.mp fun l => c2 ⟨e, l⟩) hx
  have c5 : ¬ x < p → g p < g x := fun l => lt_of_le_of_ne c3 fun e => l (c4 e)
  clear c1 c2 hc
  split_ifs at hp with h h' h'' <;> subst hp
  · obtain ⟨h, h2⟩ := max_lt_iff.mp h
    obtain ⟨h0, h1⟩ := max_lt_iff.mp h
    fin_cases x <;> simp at hx c3 <;> order
  · obtain ⟨h0, h1⟩ := max_lt_iff.mp h'
    have h := not_lt.mp h
    fin_cases x
    · change g 2 ≤ g 0 at c3; order
    · change g 2 ≤ g 1 at c3; order
    · exact hx rfl
    · have c : g 2 < g 3 := c5 (by decide)
      rcases le_max_iff.mp h with h | h
      · rcases le_max_iff.mp h with h | h <;> order
      · order
  · have h := not_lt.mp h
    have h' := not_lt.mp h'
    fin_cases x
    · change g 1 ≤ g 0 at c3; order
    · exact hx rfl
    · have c : g 1 < g 2 := c5 (by decide)
      rcases le_max_iff.mp h' with h' | h' <;> order
    · have c : g 1 < g 3 := c5 (by decide)
      rcases le_max_iff.mp h with h | h
      · rcases le_max_iff.mp h with h | h <;> order
      · rcases le_max_iff.mp h' with h' | h' <;> order
  · have h := not_lt.mp h
    have h' := not_lt.mp h'
    have h'' := not_lt.mp h''
    fin_cases x
    · exact hx rfl
    · have c : g 0 < g 1 := c5 (by decide)
      order
    · have c : g 0 < g 2 := c5 (by decide)
      rcases le_max_iff.mp h' with h' | h' <;> order
    · have c : g 0 < g 3 := c5 (by decide)
      rcases le_max_iff.mp h with h | h
      · rcases le_max_iff.mp h with h | h <;> order
      · rcases le_max_iff.mp h' with h' | h' <;> order

theorem firstBest_sorted {g : Fin 4 → EReal} {R : Fin 4 → Fin 4 → Bool} (hR : ∀ k k', R k k' = true ↔ g k' < g k) :
    sortedFrom R 0 = firstBest g := by
  by_contra hne
  obtain ⟨i, hi⟩ := sortedFrom_surjective R (firstBest g)
  have h := firstBest_ahead g _ hne
  rw [← hi] at h
  exact absurd (sortedFrom_lt_of_ahead hR h) (Fin.not_lt_zero i)

/-- A value kept where its group is the best one and fewer than two of its group's entries come before it. -/
def kept (best k : BitVec 32) (p q r : Prop) [Decidable p] [Decidable q] [Decidable r] (x : EReal) : EReal :=
  Scalar.select (IntOp.cmpi .slt (Scalar.select (IntOp.cmpi .eq best k)
    (IntOp.addi (IntOp.addi (IntOp.addi 0#32 (if p then 1#32 else 0#32)) (if q then 1#32 else 0#32)) (if r then 1#32 else 0#32)) 2#32) 2#32) x 0

/-- The values kept of the sixteen, as the kernel computes them. -/
def keptAll (s b : Fin 16 → EReal) (best : BitVec 32) : Fin 16 → EReal :=
  ![kept best 0#32 (b 0 < b 1) (b 0 < b 2) (b 0 < b 3) (s 0),
    kept best 0#32 (b 1 ≤ b 0) (b 1 < b 2) (b 1 < b 3) (s 1),
    kept best 0#32 (b 2 ≤ b 0) (b 2 ≤ b 1) (b 2 < b 3) (s 2),
    kept best 0#32 (b 3 ≤ b 0) (b 3 ≤ b 1) (b 3 ≤ b 2) (s 3),
    kept best 1#32 (b 4 < b 5) (b 4 < b 6) (b 4 < b 7) (s 4),
    kept best 1#32 (b 5 ≤ b 4) (b 5 < b 6) (b 5 < b 7) (s 5),
    kept best 1#32 (b 6 ≤ b 4) (b 6 ≤ b 5) (b 6 < b 7) (s 6),
    kept best 1#32 (b 7 ≤ b 4) (b 7 ≤ b 5) (b 7 ≤ b 6) (s 7),
    kept best 2#32 (b 8 < b 9) (b 8 < b 10) (b 8 < b 11) (s 8),
    kept best 2#32 (b 9 ≤ b 8) (b 9 < b 10) (b 9 < b 11) (s 9),
    kept best 2#32 (b 10 ≤ b 8) (b 10 ≤ b 9) (b 10 < b 11) (s 10),
    kept best 2#32 (b 11 ≤ b 8) (b 11 ≤ b 9) (b 11 ≤ b 10) (s 11),
    kept best 3#32 (b 12 < b 13) (b 12 < b 14) (b 12 < b 15) (s 12),
    kept best 3#32 (b 13 ≤ b 12) (b 13 < b 14) (b 13 < b 15) (s 13),
    kept best 3#32 (b 14 ≤ b 12) (b 14 ≤ b 13) (b 14 < b 15) (s 14),
    kept best 3#32 (b 15 ≤ b 12) (b 15 ≤ b 13) (b 15 ≤ b 14) (s 15)]

/-- The entry of the sixteen a lane holds, and zero on the other lanes. -/
def placed (v : Fin 16 → EReal) (l : Fin 128) : EReal :=
  Scalar.select (IntOp.cmpi .eq (BitVec.ofNat 32 l.val) 15#32) (v 15) (Scalar.select (IntOp.cmpi .eq (BitVec.ofNat 32 l.val) 14#32) (v 14) (Scalar.select (IntOp.cmpi .eq (BitVec.ofNat 32 l.val) 13#32) (v 13) (Scalar.select (IntOp.cmpi .eq (BitVec.ofNat 32 l.val) 12#32) (v 12) (Scalar.select (IntOp.cmpi .eq (BitVec.ofNat 32 l.val) 11#32) (v 11) (Scalar.select (IntOp.cmpi .eq (BitVec.ofNat 32 l.val) 10#32) (v 10) (Scalar.select (IntOp.cmpi .eq (BitVec.ofNat 32 l.val) 9#32) (v 9) (Scalar.select (IntOp.cmpi .eq (BitVec.ofNat 32 l.val) 8#32) (v 8) (Scalar.select (IntOp.cmpi .eq (BitVec.ofNat 32 l.val) 7#32) (v 7) (Scalar.select (IntOp.cmpi .eq (BitVec.ofNat 32 l.val) 6#32) (v 6) (Scalar.select (IntOp.cmpi .eq (BitVec.ofNat 32 l.val) 5#32) (v 5) (Scalar.select (IntOp.cmpi .eq (BitVec.ofNat 32 l.val) 4#32) (v 4) (Scalar.select (IntOp.cmpi .eq (BitVec.ofNat 32 l.val) 3#32) (v 3) (Scalar.select (IntOp.cmpi .eq (BitVec.ofNat 32 l.val) 2#32) (v 2) (Scalar.select (IntOp.cmpi .eq (BitVec.ofNat 32 l.val) 1#32) (v 1) (Scalar.select (IntOp.cmpi .eq (BitVec.ofNat 32 l.val) 0#32) (v 0) (0))))))))))))))))

def total (v : Fin 16 → EReal) : EReal := v 0 + v 1 + v 2 + v 3 + v 4 + v 5 + v 6 + v 7 + v 8 + v 9 + v 10 + v 11 + v 12 + v 13 + v 14 + v 15

theorem total_eq (v : Fin 16 → EReal) : total v = ∑ e, v e := by
  simp only [Fin.sum_univ_succ, total, Fin.sum_univ_zero]
  simp only [add_assoc, add_zero]
  rfl

theorem placed_eq (v : Fin 16 → EReal) (l : Fin 128) : placed v l = if h : l.val < 16 then v ⟨l.val, h⟩ else 0 := by
  unfold placed
  fin_cases l <;> rfl

/-- The scores of the four groups. -/
def groupScore (b : Fin 16 → EReal) (g : Fin 4) : EReal :=
  topTwo (b ⟨4 * g.val, by omega⟩) (b ⟨4 * g.val + 1, by omega⟩) (b ⟨4 * g.val + 2, by omega⟩) (b ⟨4 * g.val + 3, by omega⟩)

/-- The group with the best score. -/
def bestGroup (b : Fin 16 → EReal) : Fin 4 := firstBest (groupScore b)

/-- An expert is chosen where it is among the first two of the best group. -/
def Chosen (b : Fin 16 → EReal) (e : Fin 16) : Prop :=
  bestGroup b = ⟨e.val / 4, by omega⟩ ∧ rank (fun j : Fin 4 => b ⟨4 * (e.val / 4) + j.val, by omega⟩) ⟨e.val % 4, by omega⟩ < 2

open Classical in
/-- The score of a chosen expert, and zero for the others. -/
def gated (s b : Fin 16 → EReal) (e : Fin 16) : EReal := if Chosen b e then s e else 0

/-- A lane's gate: the expert's gated score over the sum of them, and zero over that sum past the sixteen experts. -/
def gateOf (s b : Fin 16 → EReal) (l : Fin 128) : EReal :=
  Ideal.div (if h : l.val < 16 then gated s b ⟨l.val, h⟩ else 0) (∑ e, gated s b e)

theorem kept_eq (g k : Fin 4) (p q r : Prop) [Decidable p] [Decidable q] [Decidable r] (x : EReal) :
    kept (BitVec.ofNat 32 g.val) (BitVec.ofNat 32 k.val) p q r x
      = if g = k ∧ (if p then 1 else 0) + (if q then 1 else 0) + (if r then 1 else 0) < 2 then x else 0 := by
  unfold kept
  fin_cases g <;> fin_cases k <;> by_cases hp : p <;> by_cases hq : q <;> by_cases hr : r <;> simp only [hp, hq, hr, if_true, if_false] <;> rfl

theorem rank_four (f : Fin 4 → EReal) : ∀ k, rank f k = (![(if f 0 < f 1 then 1 else 0) + (if f 0 < f 2 then 1 else 0) + (if f 0 < f 3 then 1 else 0),
    (if f 1 ≤ f 0 then 1 else 0) + (if f 1 < f 2 then 1 else 0) + (if f 1 < f 3 then 1 else 0),
    (if f 2 ≤ f 0 then 1 else 0) + (if f 2 ≤ f 1 then 1 else 0) + (if f 2 < f 3 then 1 else 0),
    (if f 3 ≤ f 0 then 1 else 0) + (if f 3 ≤ f 1 then 1 else 0) + (if f 3 ≤ f 2 then 1 else 0)] : Fin 4 → Nat) k := by
  classical
  have key : ∀ a b, Ahead f a b ↔ if a < b then f b ≤ f a else f b < f a := fun a b => by
    unfold Ahead
    by_cases h : a < b
    · simp only [h, and_true, if_true, le_iff_lt_or_eq, eq_comm]
    · simp only [h, and_false, or_false, if_false]
  intro k
  unfold rank
  rw [Finset.card_filter, Fin.sum_univ_four]
  simp only [key]
  fin_cases k <;> simp

theorem kept_0 (y0 y1 y2 y3 : EReal) (f : Fin 4 → EReal) (hf : f = ![y0, y1, y2, y3]) (bg g : Fin 4) (x : EReal) [Decidable (bg = g ∧ rank f 0 < 2)] :
    kept (BitVec.ofNat 32 bg.val) (BitVec.ofNat 32 g.val) (y0 < y1) (y0 < y2) (y0 < y3) x = if bg = g ∧ rank f 0 < 2 then x else 0 := by
  subst hf
  rw [kept_eq]
  exact if_congr (and_congr Iff.rfl (by rw [rank_four _ 0]; rfl)) rfl rfl

theorem kept_1 (y0 y1 y2 y3 : EReal) (f : Fin 4 → EReal) (hf : f = ![y0, y1, y2, y3]) (bg g : Fin 4) (x : EReal) [Decidable (bg = g ∧ rank f 1 < 2)] :
    kept (BitVec.ofNat 32 bg.val) (BitVec.ofNat 32 g.val) (y1 ≤ y0) (y1 < y2) (y1 < y3) x = if bg = g ∧ rank f 1 < 2 then x else 0 := by
  subst hf
  rw [kept_eq]
  exact if_congr (and_congr Iff.rfl (by rw [rank_four _ 1]; rfl)) rfl rfl

theorem kept_2 (y0 y1 y2 y3 : EReal) (f : Fin 4 → EReal) (hf : f = ![y0, y1, y2, y3]) (bg g : Fin 4) (x : EReal) [Decidable (bg = g ∧ rank f 2 < 2)] :
    kept (BitVec.ofNat 32 bg.val) (BitVec.ofNat 32 g.val) (y2 ≤ y0) (y2 ≤ y1) (y2 < y3) x = if bg = g ∧ rank f 2 < 2 then x else 0 := by
  subst hf
  rw [kept_eq]
  exact if_congr (and_congr Iff.rfl (by rw [rank_four _ 2]; rfl)) rfl rfl

theorem kept_3 (y0 y1 y2 y3 : EReal) (f : Fin 4 → EReal) (hf : f = ![y0, y1, y2, y3]) (bg g : Fin 4) (x : EReal) [Decidable (bg = g ∧ rank f 3 < 2)] :
    kept (BitVec.ofNat 32 bg.val) (BitVec.ofNat 32 g.val) (y3 ≤ y0) (y3 ≤ y1) (y3 ≤ y2) x = if bg = g ∧ rank f 3 < 2 then x else 0 := by
  subst hf
  rw [kept_eq]
  exact if_congr (and_congr Iff.rfl (by rw [rank_four _ 3]; rfl)) rfl rfl

theorem keptAll_0 (s b : Fin 16 → EReal) : keptAll s b (BitVec.ofNat 32 (bestGroup b).val) 0 = gated s b 0 := by
  unfold keptAll gated
  simp only [Matrix.cons_val]
  have hf : (fun j : Fin 4 => b ⟨4 * ((0 : Fin 16).val / 4) + j.val, by omega⟩) = ![b 0, b 1, b 2, b 3] := by
    funext j
    fin_cases j <;> rfl
  have h := kept_0 (b 0) (b 1) (b 2) (b 3) _ hf (bestGroup b) 0 (s 0)
  classical exact h.trans (if_congr Iff.rfl rfl rfl)

theorem keptAll_1 (s b : Fin 16 → EReal) : keptAll s b (BitVec.ofNat 32 (bestGroup b).val) 1 = gated s b 1 := by
  unfold keptAll gated
  simp only [Matrix.cons_val]
  have hf : (fun j : Fin 4 => b ⟨4 * ((1 : Fin 16).val / 4) + j.val, by omega⟩) = ![b 0, b 1, b 2, b 3] := by
    funext j
    fin_cases j <;> rfl
  have h := kept_1 (b 0) (b 1) (b 2) (b 3) _ hf (bestGroup b) 0 (s 1)
  classical exact h.trans (if_congr Iff.rfl rfl rfl)

theorem keptAll_2 (s b : Fin 16 → EReal) : keptAll s b (BitVec.ofNat 32 (bestGroup b).val) 2 = gated s b 2 := by
  unfold keptAll gated
  simp only [Matrix.cons_val]
  have hf : (fun j : Fin 4 => b ⟨4 * ((2 : Fin 16).val / 4) + j.val, by omega⟩) = ![b 0, b 1, b 2, b 3] := by
    funext j
    fin_cases j <;> rfl
  have h := kept_2 (b 0) (b 1) (b 2) (b 3) _ hf (bestGroup b) 0 (s 2)
  classical exact h.trans (if_congr Iff.rfl rfl rfl)

theorem keptAll_3 (s b : Fin 16 → EReal) : keptAll s b (BitVec.ofNat 32 (bestGroup b).val) 3 = gated s b 3 := by
  unfold keptAll gated
  simp only [Matrix.cons_val]
  have hf : (fun j : Fin 4 => b ⟨4 * ((3 : Fin 16).val / 4) + j.val, by omega⟩) = ![b 0, b 1, b 2, b 3] := by
    funext j
    fin_cases j <;> rfl
  have h := kept_3 (b 0) (b 1) (b 2) (b 3) _ hf (bestGroup b) 0 (s 3)
  classical exact h.trans (if_congr Iff.rfl rfl rfl)

theorem keptAll_4 (s b : Fin 16 → EReal) : keptAll s b (BitVec.ofNat 32 (bestGroup b).val) 4 = gated s b 4 := by
  unfold keptAll gated
  simp only [Matrix.cons_val]
  have hf : (fun j : Fin 4 => b ⟨4 * ((4 : Fin 16).val / 4) + j.val, by omega⟩) = ![b 4, b 5, b 6, b 7] := by
    funext j
    fin_cases j <;> rfl
  have h := kept_0 (b 4) (b 5) (b 6) (b 7) _ hf (bestGroup b) 1 (s 4)
  classical exact h.trans (if_congr Iff.rfl rfl rfl)

theorem keptAll_5 (s b : Fin 16 → EReal) : keptAll s b (BitVec.ofNat 32 (bestGroup b).val) 5 = gated s b 5 := by
  unfold keptAll gated
  simp only [Matrix.cons_val]
  have hf : (fun j : Fin 4 => b ⟨4 * ((5 : Fin 16).val / 4) + j.val, by omega⟩) = ![b 4, b 5, b 6, b 7] := by
    funext j
    fin_cases j <;> rfl
  have h := kept_1 (b 4) (b 5) (b 6) (b 7) _ hf (bestGroup b) 1 (s 5)
  classical exact h.trans (if_congr Iff.rfl rfl rfl)

theorem keptAll_6 (s b : Fin 16 → EReal) : keptAll s b (BitVec.ofNat 32 (bestGroup b).val) 6 = gated s b 6 := by
  unfold keptAll gated
  simp only [Matrix.cons_val]
  have hf : (fun j : Fin 4 => b ⟨4 * ((6 : Fin 16).val / 4) + j.val, by omega⟩) = ![b 4, b 5, b 6, b 7] := by
    funext j
    fin_cases j <;> rfl
  have h := kept_2 (b 4) (b 5) (b 6) (b 7) _ hf (bestGroup b) 1 (s 6)
  classical exact h.trans (if_congr Iff.rfl rfl rfl)

theorem keptAll_7 (s b : Fin 16 → EReal) : keptAll s b (BitVec.ofNat 32 (bestGroup b).val) 7 = gated s b 7 := by
  unfold keptAll gated
  simp only [Matrix.cons_val]
  have hf : (fun j : Fin 4 => b ⟨4 * ((7 : Fin 16).val / 4) + j.val, by omega⟩) = ![b 4, b 5, b 6, b 7] := by
    funext j
    fin_cases j <;> rfl
  have h := kept_3 (b 4) (b 5) (b 6) (b 7) _ hf (bestGroup b) 1 (s 7)
  classical exact h.trans (if_congr Iff.rfl rfl rfl)

theorem keptAll_8 (s b : Fin 16 → EReal) : keptAll s b (BitVec.ofNat 32 (bestGroup b).val) 8 = gated s b 8 := by
  unfold keptAll gated
  simp only [Matrix.cons_val]
  have hf : (fun j : Fin 4 => b ⟨4 * ((8 : Fin 16).val / 4) + j.val, by omega⟩) = ![b 8, b 9, b 10, b 11] := by
    funext j
    fin_cases j <;> rfl
  have h := kept_0 (b 8) (b 9) (b 10) (b 11) _ hf (bestGroup b) 2 (s 8)
  classical exact h.trans (if_congr Iff.rfl rfl rfl)

theorem keptAll_9 (s b : Fin 16 → EReal) : keptAll s b (BitVec.ofNat 32 (bestGroup b).val) 9 = gated s b 9 := by
  unfold keptAll gated
  simp only [Matrix.cons_val]
  have hf : (fun j : Fin 4 => b ⟨4 * ((9 : Fin 16).val / 4) + j.val, by omega⟩) = ![b 8, b 9, b 10, b 11] := by
    funext j
    fin_cases j <;> rfl
  have h := kept_1 (b 8) (b 9) (b 10) (b 11) _ hf (bestGroup b) 2 (s 9)
  classical exact h.trans (if_congr Iff.rfl rfl rfl)

theorem keptAll_10 (s b : Fin 16 → EReal) : keptAll s b (BitVec.ofNat 32 (bestGroup b).val) 10 = gated s b 10 := by
  unfold keptAll gated
  simp only [Matrix.cons_val]
  have hf : (fun j : Fin 4 => b ⟨4 * ((10 : Fin 16).val / 4) + j.val, by omega⟩) = ![b 8, b 9, b 10, b 11] := by
    funext j
    fin_cases j <;> rfl
  have h := kept_2 (b 8) (b 9) (b 10) (b 11) _ hf (bestGroup b) 2 (s 10)
  classical exact h.trans (if_congr Iff.rfl rfl rfl)

theorem keptAll_11 (s b : Fin 16 → EReal) : keptAll s b (BitVec.ofNat 32 (bestGroup b).val) 11 = gated s b 11 := by
  unfold keptAll gated
  simp only [Matrix.cons_val]
  have hf : (fun j : Fin 4 => b ⟨4 * ((11 : Fin 16).val / 4) + j.val, by omega⟩) = ![b 8, b 9, b 10, b 11] := by
    funext j
    fin_cases j <;> rfl
  have h := kept_3 (b 8) (b 9) (b 10) (b 11) _ hf (bestGroup b) 2 (s 11)
  classical exact h.trans (if_congr Iff.rfl rfl rfl)

theorem keptAll_12 (s b : Fin 16 → EReal) : keptAll s b (BitVec.ofNat 32 (bestGroup b).val) 12 = gated s b 12 := by
  unfold keptAll gated
  simp only [Matrix.cons_val]
  have hf : (fun j : Fin 4 => b ⟨4 * ((12 : Fin 16).val / 4) + j.val, by omega⟩) = ![b 12, b 13, b 14, b 15] := by
    funext j
    fin_cases j <;> rfl
  have h := kept_0 (b 12) (b 13) (b 14) (b 15) _ hf (bestGroup b) 3 (s 12)
  classical exact h.trans (if_congr Iff.rfl rfl rfl)

theorem keptAll_13 (s b : Fin 16 → EReal) : keptAll s b (BitVec.ofNat 32 (bestGroup b).val) 13 = gated s b 13 := by
  unfold keptAll gated
  simp only [Matrix.cons_val]
  have hf : (fun j : Fin 4 => b ⟨4 * ((13 : Fin 16).val / 4) + j.val, by omega⟩) = ![b 12, b 13, b 14, b 15] := by
    funext j
    fin_cases j <;> rfl
  have h := kept_1 (b 12) (b 13) (b 14) (b 15) _ hf (bestGroup b) 3 (s 13)
  classical exact h.trans (if_congr Iff.rfl rfl rfl)

theorem keptAll_14 (s b : Fin 16 → EReal) : keptAll s b (BitVec.ofNat 32 (bestGroup b).val) 14 = gated s b 14 := by
  unfold keptAll gated
  simp only [Matrix.cons_val]
  have hf : (fun j : Fin 4 => b ⟨4 * ((14 : Fin 16).val / 4) + j.val, by omega⟩) = ![b 12, b 13, b 14, b 15] := by
    funext j
    fin_cases j <;> rfl
  have h := kept_2 (b 12) (b 13) (b 14) (b 15) _ hf (bestGroup b) 3 (s 14)
  classical exact h.trans (if_congr Iff.rfl rfl rfl)

theorem keptAll_15 (s b : Fin 16 → EReal) : keptAll s b (BitVec.ofNat 32 (bestGroup b).val) 15 = gated s b 15 := by
  unfold keptAll gated
  simp only [Matrix.cons_val]
  have hf : (fun j : Fin 4 => b ⟨4 * ((15 : Fin 16).val / 4) + j.val, by omega⟩) = ![b 12, b 13, b 14, b 15] := by
    funext j
    fin_cases j <;> rfl
  have h := kept_3 (b 12) (b 13) (b 14) (b 15) _ hf (bestGroup b) 3 (s 15)
  classical exact h.trans (if_congr Iff.rfl rfl rfl)

theorem keptAll_eq (s b : Fin 16 → EReal) (e : Fin 16) : keptAll s b (BitVec.ofNat 32 (bestGroup b).val) e = gated s b e := by
  fin_cases e
  · exact keptAll_0 s b
  · exact keptAll_1 s b
  · exact keptAll_2 s b
  · exact keptAll_3 s b
  · exact keptAll_4 s b
  · exact keptAll_5 s b
  · exact keptAll_6 s b
  · exact keptAll_7 s b
  · exact keptAll_8 s b
  · exact keptAll_9 s b
  · exact keptAll_10 s b
  · exact keptAll_11 s b
  · exact keptAll_12 s b
  · exact keptAll_13 s b
  · exact keptAll_14 s b
  · exact keptAll_15 s b

/-- The entries of one group of four. -/
def inGroup (g : Fin 4) (j : Fin 4) : Fin 16 := ⟨4 * g.val + j.val, by omega⟩

theorem inGroup_inj (g : Fin 4) : Function.Injective (inGroup g) := fun i j h => Fin.ext (by
  have := congrArg Fin.val h
  have : 4 * g.val + i.val = 4 * g.val + j.val := this
  omega)

/-- The entries of the best group, and minus infinity elsewhere. -/
def masked (b : Fin 16 → EReal) (e : Fin 16) : EReal := if (bestGroup b).val = e.val / 4 then b e else ⊥

theorem masked_in (b : Fin 16 → EReal) (j : Fin 4) : masked b (inGroup (bestGroup b) j) = b (inGroup (bestGroup b) j) :=
  if_pos (by show (bestGroup b).val = (4 * (bestGroup b).val + j.val) / 4; omega)

theorem masked_out (b : Fin 16 → EReal) (e : Fin 16) (h : (bestGroup b).val ≠ e.val / 4) : masked b e = ⊥ := if_neg h

theorem ahead_in (b : Fin 16 → EReal) (i j : Fin 4) : Ahead (masked b) (inGroup (bestGroup b) i) (inGroup (bestGroup b) j)
    ↔ Ahead (fun j => b (inGroup (bestGroup b) j)) i j := by
  unfold Ahead
  rw [masked_in, masked_in]
  refine or_congr Iff.rfl (and_congr Iff.rfl ?_)
  show 4 * (bestGroup b).val + i.val < 4 * (bestGroup b).val + j.val ↔ i.val < j.val
  omega

theorem Ahead.asymm {n : Nat} {f : Fin n → EReal} {a b : Fin n} (h : Ahead f a b) (h' : Ahead f b a) : False := (h.trans h').irrefl

theorem lt_iff_order (f : Fin 4 → EReal) : ∀ k k' : Fin 4, (decide (f k' < f k)) = true ↔ f k' < f k := fun _ _ => decide_eq_true_iff

/-- The best group's two first entries come before every entry outside the group. -/
theorem first_two_ahead (b : Fin 16 → EReal) (e : Fin 16) (he : (bestGroup b).val ≠ e.val / 4) (i : Fin 4) (hi : i.val < 2) :
    Ahead (masked b) (inGroup (bestGroup b) (sortedFrom (fun k k' => decide (b (inGroup (bestGroup b) k') < b (inGroup (bestGroup b) k))) i)) e := by
  have hR := lt_iff_order fun j => b (inGroup (bestGroup b) j)
  have hsum := topTwo_sorted hR
  unfold Ahead
  rw [masked_out b e he, masked_in]
  by_cases hs : groupScore b (bestGroup b) = ⊥
  · have h0 : bestGroup b = 0 := by
      by_contra hne
      rcases firstBest_ahead (groupScore b) 0 (Ne.symm hne) with h | ⟨_, h⟩
      · exact absurd (hs ▸ h : groupScore b 0 < ⊥) not_lt_bot
      · exact absurd h (Fin.not_lt_zero _)
    rcases eq_or_lt_of_le (bot_le (a := b (inGroup (bestGroup b) (sortedFrom (fun k k' => decide (b (inGroup (bestGroup b) k') < b (inGroup (bestGroup b) k))) i)))) with h | h
    · refine Or.inr ⟨h.symm, ?_⟩
      show 4 * (bestGroup b).val + _ < e.val
      have := (sortedFrom (fun k k' => decide (b (inGroup (bestGroup b) k') < b (inGroup (bestGroup b) k))) i).isLt
      have hz : (bestGroup b).val = 0 := congrArg Fin.val h0
      omega
    · exact Or.inl h
  · have hs' : groupScore b (bestGroup b) = topTwo (b (inGroup (bestGroup b) 0)) (b (inGroup (bestGroup b) 1)) (b (inGroup (bestGroup b) 2)) (b (inGroup (bestGroup b) 3)) := rfl
    rw [hs', ← hsum, EReal.add_eq_bot_iff, not_or] at hs
    refine Or.inl (bot_lt_iff_ne_bot.mpr ?_)
    rcases (show i = 0 ∨ i = 1 from by omega) with rfl | rfl
    · exact hs.1
    · exact hs.2

/-- Among the masked entries the first two are the best group's first two. -/
theorem rank_masked (b : Fin 16 → EReal) (e : Fin 16) : rank (masked b) e < 2 ↔ Chosen b e := by
  classical
  have hR := lt_iff_order fun j => b (inGroup (bestGroup b) j)
  by_cases he : (bestGroup b).val = e.val / 4
  · obtain ⟨k, rfl⟩ : ∃ k, e = inGroup (bestGroup b) k := ⟨⟨e.val % 4, by omega⟩, Fin.ext (by show e.val = 4 * (bestGroup b).val + e.val % 4; omega)⟩
    have hc : Chosen b (inGroup (bestGroup b) k) ↔ rank (fun j => b (inGroup (bestGroup b) j)) k < 2 := by
      unfold Chosen
      have hd : (inGroup (bestGroup b) k).val / 4 = (bestGroup b).val := he.symm
      have hm : (⟨(inGroup (bestGroup b) k).val % 4, by omega⟩ : Fin 4) = k :=
        Fin.ext (by show (4 * (bestGroup b).val + k.val) % 4 = k.val; omega)
      rw [hm]
      have hf : (fun j : Fin 4 => b ⟨4 * ((inGroup (bestGroup b) k).val / 4) + j.val, by omega⟩) = fun j => b (inGroup (bestGroup b) j) :=
        funext fun j => congrArg b (Fin.ext (by show 4 * ((inGroup (bestGroup b) k).val / 4) + j.val = 4 * (bestGroup b).val + j.val; omega))
      rw [hf]
      exact and_iff_right (Fin.ext hd.symm)
    rw [hc]
    have him : (Finset.univ.filter fun i => Ahead (fun j => b (inGroup (bestGroup b) j)) i k).image (inGroup (bestGroup b))
        ⊆ Finset.univ.filter fun x => Ahead (masked b) x (inGroup (bestGroup b) k) := by
      intro x hx
      obtain ⟨i, hi, rfl⟩ := Finset.mem_image.mp hx
      exact Finset.mem_filter.mpr ⟨Finset.mem_univ _, (ahead_in b i k).mpr (Finset.mem_filter.mp hi).2⟩
    have hcard := Finset.card_image_of_injective (Finset.univ.filter fun i => Ahead (fun j => b (inGroup (bestGroup b) j)) i k) (inGroup_inj (bestGroup b))
    constructor
    · intro h
      refine lt_of_le_of_lt ?_ h
      unfold rank
      rw [← hcard]
      exact Finset.card_le_card him
    · intro h
      refine lt_of_le_of_lt ?_ h
      unfold rank
      rw [← hcard]
      refine Finset.card_le_card fun x hx => ?_
      have hx := (Finset.mem_filter.mp hx).2
      by_cases hxg : (bestGroup b).val = x.val / 4
      · obtain ⟨i, rfl⟩ : ∃ i, x = inGroup (bestGroup b) i := ⟨⟨x.val % 4, by omega⟩, Fin.ext (by show x.val = 4 * (bestGroup b).val + x.val % 4; omega)⟩
        exact Finset.mem_image.mpr ⟨i, Finset.mem_filter.mpr ⟨Finset.mem_univ _, (ahead_in b i k).mp hx⟩, rfl⟩
      · obtain ⟨i, rfl⟩ := sortedFrom_surjective (fun k k' => decide (b (inGroup (bestGroup b) k') < b (inGroup (bestGroup b) k))) k
        rw [rank_sortedFrom hR] at h
        exact ((first_two_ahead b x hxg i h).asymm hx).elim
  · constructor
    · intro h
      exfalso
      refine absurd h (not_lt.mpr ?_)
      have hne : inGroup (bestGroup b) (sortedFrom (fun k k' => decide (b (inGroup (bestGroup b) k') < b (inGroup (bestGroup b) k))) 0)
          ≠ inGroup (bestGroup b) (sortedFrom (fun k k' => decide (b (inGroup (bestGroup b) k') < b (inGroup (bestGroup b) k))) 1) := fun h =>
        absurd (sortedFrom_injective _ (inGroup_inj _ h)) (by decide)
      rw [← Finset.card_pair hne]
      refine Finset.card_le_card fun x hx => Finset.mem_filter.mpr ⟨Finset.mem_univ _, ?_⟩
      rcases Finset.mem_insert.mp hx with rfl | hx
      · exact first_two_ahead b e he 0 (by decide)
      · rw [Finset.mem_singleton.mp hx]
        exact first_two_ahead b e he 1 (by decide)
    · intro h
      exact (he (congrArg Fin.val h.1)).elim

theorem bits32_inj {n : Nat} (h : n ≤ 16) (a b : Fin n) : BitVec.ofNat 32 a.val = BitVec.ofNat 32 b.val ↔ a = b := by
  constructor
  · intro e
    have := congrArg BitVec.toNat e
    rw [BitVec.toNat_ofNat, BitVec.toNat_ofNat, Nat.mod_eq_of_lt (by omega), Nat.mod_eq_of_lt (by omega)] at this
    exact Fin.ext this
  · rintro rfl
    rfl

open Classical in
/-- The one-hot rows of the first two of the masked entries sum to one at the chosen experts and to zero elsewhere. -/
theorem one_hots (b : Fin 16 → EReal) {R : Fin 16 → Fin 16 → Bool} (hR : ∀ k k', R k k' = true ↔ masked b k' < masked b k) (e : Fin 16) :
    ((if BitVec.ofNat 32 (sortedFrom R 0).val = BitVec.ofNat 32 e.val then 1 else 0)
      + (if BitVec.ofNat 32 (sortedFrom R 1).val = BitVec.ofNat 32 e.val then 1 else 0) : EReal) = if Chosen b e then 1 else 0 := by
  simp only [bits32_inj (le_refl 16), sortedFrom_eq_iff hR, ← rank_masked]
  have h0 : ((0 : Fin 16).val) = 0 := rfl
  have h1 : ((1 : Fin 16).val) = 1 := rfl
  rw [h0, h1]
  by_cases a0 : rank (masked b) e = 0
  · simp [a0]
  · by_cases a1 : rank (masked b) e = 1
    · simp [a1]
    · have : ¬ rank (masked b) e < 2 := by omega
      simp [a0, a1, this]

/-- A row plus the modulated product of the two halves of the attended row with the weights. -/
def xRow (A B : Fin 512 → EReal) (x mo : Fin 1024 → EReal) (wa wb : Fin 512 → Fin 1024 → EReal) (j : Fin 1024) : EReal :=
  x j + mo j * (∑ k, A k * wa k j + ∑ k, B k * wb k j)

theorem xRow_congr {A A' B B' : Fin 512 → EReal} {x x' mo mo' : Fin 1024 → EReal} {wa wa' wb wb' : Fin 512 → Fin 1024 → EReal}
    (hA : ∀ k, A k = A' k) (hB : ∀ k, B k = B' k) (hx : ∀ k, x k = x' k) (hm : ∀ k, mo k = mo' k) (ha : ∀ k j, wa k j = wa' k j)
    (hb : ∀ k j, wb k j = wb' k j) (j : Fin 1024) : xRow A B x mo wa wb j = xRow A' B' x' mo' wa' wb' j := by
  rw [show A = A' from funext hA, show B = B' from funext hB, show x = x' from funext hx, show mo = mo' from funext hm,
    show wa = wa' from funext fun k => funext (ha k), show wb = wb' from funext fun k => funext (hb k)]

/-- An expert's score of a row. -/
def score (h : Fin 1024 → EReal) (rw : Fin 1024 → Fin 16 → EReal) (e : Fin 16) : EReal := Ideal.logistic (∑ k, h k * rw k e)

/-- A row's gates from the row and the router's weights and biases. -/
def gatesOf (h : Fin 1024 → EReal) (rw : Fin 1024 → Fin 16 → EReal) (rb : Fin 16 → EReal) (l : Fin 128) : EReal :=
  gateOf (score h rw) (fun e => score h rw e + rb e) l

theorem gatesOf_congr {h h' : Fin 1024 → EReal} {rw rw' : Fin 1024 → Fin 16 → EReal} {rb rb' : Fin 16 → EReal}
    (hh : ∀ k, h k = h' k) (hw : ∀ k e, rw k e = rw' k e) (hb : ∀ e, rb e = rb' e) (l : Fin 128) :
    gatesOf h rw rb l = gatesOf h' rw' rb' l := by
  rw [show h = h' from funext hh, show rw = rw' from funext fun k => funext (hw k), show rb = rb' from funext hb]

end Cert.Hand
-- ==== Proof.Out.Value.lean ====
/-
  The blocks the output projection reads and writes at a grid point, and its three results at an index.
-/
module

public import proofs.«01_k».proof.Proof.Gen.OutIdeal.Value
public import proofs.«01_k».proof.Proof.Common
public import proofs.«01_k».proof.Proof.Out.Router
public import Idealize.ShloMosaic.Lib.StableHlo.Run
public import Idealize.ShloMosaic.Lib.Tactic

@[expose] public section

set_option maxRecDepth 16384

noncomputable section

namespace Cert.OutIdeal.Hand

open Cert.Hand Cert.OutIdeal Cert.OutIdeal.Gen Idealize.ShloMosaic Idealize.ShloMosaic.TcCoe Idealize.SL.Sem

variable (m : (ℓ : Loc nD τ sig) → Buf (Elt Ideal) ℓ)

theorem points (t : Fin cfg0.N) : t.val < 64 := lt_of_lt_of_eq t.isLt (show cfg0.N = 64 from N_0)

/-- Where each window's block lies at point `t`. -/
theorem place : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 3) = t.val / 32 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = 1 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- The first half of the attended rows. -/
theorem block0 (c : Dev nD) (t : Fin cfg0.N) (a : Fin 512) (b : Fin 512) :
    (iblk m c 0 t : Vec Ideal S512x512 .bf16) (ix2 a b)
      = (m ((c : Thread nD τ).loc main_arg0) : FVec Ideal S32768x512 .bf16) (ix2 ⟨t.val * 512 + a.val, by have := points t; have := a.isLt; omega⟩ b) := by
  obtain ⟨⟨p0, p1⟩, -⟩ := place t
  unfold iblk
  rw [View.read_apply]
  show V m c main_arg0 _ = _
  rw [V_main_arg0]
  congr 1
  funext x
  apply Fin.ext
  match x with
  | ⟨0, _⟩ => show win0_0.index t 0 * 512 + 1 * a.val = t.val * 512 + a.val; rw [p0]; omega
  | ⟨1, _⟩ => show win0_0.index t 1 * 512 + 1 * b.val = b.val; rw [p1]; omega

/-- The second half of the attended rows. -/
theorem block1 (c : Dev nD) (t : Fin cfg0.N) (a : Fin 512) (b : Fin 512) :
    (iblk m c 1 t : Vec Ideal S512x512 .bf16) (ix2 a b)
      = (m ((c : Thread nD τ).loc main_arg1) : FVec Ideal S32768x512 .bf16) (ix2 ⟨t.val * 512 + a.val, by have := points t; have := a.isLt; omega⟩ b) := by
  obtain ⟨-, ⟨p0, p1⟩, -⟩ := place t
  unfold iblk
  rw [View.read_apply]
  show V m c main_arg1 _ = _
  rw [V_main_arg1]
  congr 1
  funext x
  apply Fin.ext
  match x with
  | ⟨0, _⟩ => show win0_1.index t 0 * 512 + 1 * a.val = t.val * 512 + a.val; rw [p0]; omega
  | ⟨1, _⟩ => show win0_1.index t 1 * 512 + 1 * b.val = b.val; rw [p1]; omega

/-- The rows. -/
theorem block2 (c : Dev nD) (t : Fin cfg0.N) (a : Fin 512) (b : Fin 1024) :
    (iblk m c 2 t : Vec Ideal S512x1024 .f32) (ix2 a b)
      = (m ((c : Thread nD τ).loc main_arg2) : FVec Ideal S32768x1024 .f32) (ix2 ⟨t.val * 512 + a.val, by have := points t; have := a.isLt; omega⟩ b) := by
  obtain ⟨-, -, ⟨p0, p1⟩, -⟩ := place t
  unfold iblk
  rw [View.read_apply]
  show V m c main_arg2 _ = _
  rw [V_main_arg2]
  congr 1
  funext x
  apply Fin.ext
  match x with
  | ⟨0, _⟩ => show win0_2.index t 0 * 512 + 1 * a.val = t.val * 512 + a.val; rw [p0]; omega
  | ⟨1, _⟩ => show win0_2.index t 1 * 1024 + 1 * b.val = b.val; rw [p1]; omega

/-- The modulation. -/
theorem block3 (c : Dev nD) (t : Fin cfg0.N) (a : Fin 1) (b : Fin 6) (d : Fin 1024) :
    (iblk m c 3 t : Vec Ideal S1x6x1024 .f32) (ix3 a b d)
      = (m ((c : Thread nD τ).loc main_arg3) : FVec Ideal S2x6x1024 .f32) (ix3 ⟨t.val / 32, by have := points t; omega⟩ b d) := by
  obtain ⟨-, -, -, ⟨p0, p1, p2⟩, -⟩ := place t
  unfold iblk
  rw [View.read_apply]
  show V m c main_arg3 _ = _
  rw [V_main_arg3]
  congr 1
  funext x
  apply Fin.ext
  match x with
  | ⟨0, _⟩ => show win0_3.index t 0 * 1 + 1 * a.val = t.val / 32; rw [p0]; omega
  | ⟨1, _⟩ => show win0_3.index t 1 * 6 + 1 * b.val = b.val; rw [p1]; omega
  | ⟨2, _⟩ => show win0_3.index t 2 * 1024 + 1 * d.val = d.val; rw [p2]; omega

/-- The first half of the weights. -/
theorem block4 (c : Dev nD) (t : Fin cfg0.N) (a : Fin 512) (b : Fin 1024) :
    (iblk m c 4 t : Vec Ideal S512x1024 .bf16) (ix2 a b)
      = (V m c main_v0 : FVec Ideal S1024x1024 .bf16) (ix2 ⟨0 * 512 + a.val, by have := points t; have := a.isLt; omega⟩ b) := by
  obtain ⟨-, -, -, -, ⟨p0, p1⟩, -⟩ := place t
  unfold iblk
  rw [View.read_apply]
  show V m c main_v0 _ = _
  congr 1
  funext x
  apply Fin.ext
  match x with
  | ⟨0, _⟩ => show win0_4.index t 0 * 512 + 1 * a.val = 0 * 512 + a.val; rw [p0]; omega
  | ⟨1, _⟩ => show win0_4.index t 1 * 1024 + 1 * b.val = b.val; rw [p1]; omega

/-- The second half of the weights. -/
theorem block5 (c : Dev nD) (t : Fin cfg0.N) (a : Fin 512) (b : Fin 1024) :
    (iblk m c 5 t : Vec Ideal S512x1024 .bf16) (ix2 a b)
      = (V m c main_v0 : FVec Ideal S1024x1024 .bf16) (ix2 ⟨1 * 512 + a.val, by have := points t; have := a.isLt; omega⟩ b) := by
  obtain ⟨-, -, -, -, -, ⟨p0, p1⟩, -⟩ := place t
  unfold iblk
  rw [View.read_apply]
  show V m c main_v0 _ = _
  congr 1
  funext x
  apply Fin.ext
  match x with
  | ⟨0, _⟩ => show win0_5.index t 0 * 512 + 1 * a.val = 1 * 512 + a.val; rw [p0]; omega
  | ⟨1, _⟩ => show win0_5.index t 1 * 1024 + 1 * b.val = b.val; rw [p1]; omega

/-- The norm's gains. -/
theorem block6 (c : Dev nD) (t : Fin cfg0.N) (a : Fin 1) (b : Fin 1024) :
    (iblk m c 6 t : Vec Ideal S1x1024 .f32) (ix2 a b)
      = (V m c main_v1 : FVec Ideal S1x1024 .f32) (ix2 a b) := by
  obtain ⟨-, -, -, -, -, -, ⟨p0, p1⟩, -⟩ := place t
  unfold iblk
  rw [View.read_apply]
  show V m c main_v1 _ = _
  congr 1
  funext x
  apply Fin.ext
  match x with
  | ⟨0, _⟩ => show win0_6.index t 0 * 1 + 1 * a.val = a.val; rw [p0]; omega
  | ⟨1, _⟩ => show win0_6.index t 1 * 1024 + 1 * b.val = b.val; rw [p1]; omega

/-- The router's weights. -/
theorem block7 (c : Dev nD) (t : Fin cfg0.N) (a : Fin 1024) (b : Fin 128) :
    (iblk m c 7 t : Vec Ideal S1024x128 .f32) (ix2 a b)
      = (V m c main_v2 : FVec Ideal S1024x128 .f32) (ix2 a b) := by
  obtain ⟨-, -, -, -, -, -, -, ⟨p0, p1⟩, -⟩ := place t
  unfold iblk
  rw [View.read_apply]
  show V m c main_v2 _ = _
  congr 1
  funext x
  apply Fin.ext
  match x with
  | ⟨0, _⟩ => show win0_7.index t 0 * 1024 + 1 * a.val = a.val; rw [p0]; omega
  | ⟨1, _⟩ => show win0_7.index t 1 * 128 + 1 * b.val = b.val; rw [p1]; omega

/-- The router's biases. -/
theorem block8 (c : Dev nD) (t : Fin cfg0.N) (a : Fin 16) (b : Fin 1) :
    (iblk m c 8 t : Vec Ideal S16x1 .f32) (ix2 a b)
      = (V m c main_v3 : FVec Ideal S16x1 .f32) (ix2 a b) := by
  obtain ⟨-, -, -, -, -, -, -, -, p0, p1⟩ := place t
  unfold iblk
  rw [View.read_apply]
  show V m c main_v3 _ = _
  congr 1
  funext x
  apply Fin.ext
  match x with
  | ⟨0, _⟩ => show win0_8.index t 0 * 16 + 1 * a.val = a.val; rw [p0]; omega
  | ⟨1, _⟩ => show win0_8.index t 1 * 1 + 1 * b.val = b.val; rw [p1]; omega

/-- Where point `t` writes the projected rows. -/
theorem place9 : ∀ t : Fin cfg0.N,
    win0_9.index t (0 : Fin 2) = t.val ∧ win0_9.index t (1 : Fin 2) = 0 :=
  (by decide +kernel : ∀ t : Fin grid0.N, _)

/-- The projected rows after the run, at an index of point `t`'s block: what the body leaves there. -/
theorem written9 (c : Dev nD) (t : Fin cfg0.N) (a : Fin 512) (b : Fin 1024) :
    ((dats m 0 c).arrAt 9 cfg0.N) (ix2 ⟨t.val * 512 + a.val, by have := points t; have := a.isLt; omega⟩ b)
      = (out0_9 (iblk m c 0 t) (iblk m c 1 t) (iblk m c 2 t) (iblk m c 3 t) (iblk m c 4 t) (iblk m c 5 t) (iblk m c 6 t) (iblk m c 7 t) (iblk m c 8 t)) (ix2 a b) := by
  have h := congrFun (Value.blocks9 m c t (flush0_9 t)) (ix2 a b)
  rw [View.read_apply, Value.flushed9] at h
  refine Eq.trans ?_ h
  congr 1
  obtain ⟨p0, p1⟩ := place9 t
  funext x
  apply Fin.ext
  match x with
  | ⟨0, _⟩ => show t.val * 512 + a.val = win0_9.index t 0 * 512 + 1 * a.val; rw [p0]; omega
  | ⟨1, _⟩ => show b.val = win0_9.index t 1 * 1024 + 1 * b.val; rw [p1]; omega

/-- Where point `t` writes the normalized rows. -/
theorem place10 : ∀ t : Fin cfg0.N,
    win0_10.index t (0 : Fin 2) = t.val ∧ win0_10.index t (1 : Fin 2) = 0 :=
  (by decide +kernel : ∀ t : Fin grid0.N, _)

/-- The normalized rows after the run, at an index of point `t`'s block: what the body leaves there. -/
theorem written10 (c : Dev nD) (t : Fin cfg0.N) (a : Fin 512) (b : Fin 1024) :
    ((dats m 0 c).arrAt 10 cfg0.N) (ix2 ⟨t.val * 512 + a.val, by have := points t; have := a.isLt; omega⟩ b)
      = (out0_10 (iblk m c 0 t) (iblk m c 1 t) (iblk m c 2 t) (iblk m c 3 t) (iblk m c 4 t) (iblk m c 5 t) (iblk m c 6 t) (iblk m c 7 t) (iblk m c 8 t)) (ix2 a b) := by
  have h := congrFun (Value.blocks10 m c t (flush0_10 t)) (ix2 a b)
  rw [View.read_apply, Value.flushed10] at h
  refine Eq.trans ?_ h
  congr 1
  obtain ⟨p0, p1⟩ := place10 t
  funext x
  apply Fin.ext
  match x with
  | ⟨0, _⟩ => show t.val * 512 + a.val = win0_10.index t 0 * 512 + 1 * a.val; rw [p0]; omega
  | ⟨1, _⟩ => show b.val = win0_10.index t 1 * 1024 + 1 * b.val; rw [p1]; omega

/-- Where point `t` writes the gates. -/
theorem place11 : ∀ t : Fin cfg0.N,
    win0_11.index t (0 : Fin 2) = t.val ∧ win0_11.index t (1 : Fin 2) = 0 :=
  (by decide +kernel : ∀ t : Fin grid0.N, _)

/-- The gates after the run, at an index of point `t`'s block: what the body leaves there. -/
theorem written11 (c : Dev nD) (t : Fin cfg0.N) (a : Fin 512) (b : Fin 128) :
    ((dats m 0 c).arrAt 11 cfg0.N) (ix2 ⟨t.val * 512 + a.val, by have := points t; have := a.isLt; omega⟩ b)
      = (out0_11 (iblk m c 0 t) (iblk m c 1 t) (iblk m c 2 t) (iblk m c 3 t) (iblk m c 4 t) (iblk m c 5 t) (iblk m c 6 t) (iblk m c 7 t) (iblk m c 8 t)) (ix2 a b) := by
  have h := congrFun (Value.blocks11 m c t (flush0_11 t)) (ix2 a b)
  rw [View.read_apply, Value.flushed11] at h
  refine Eq.trans ?_ h
  congr 1
  obtain ⟨p0, p1⟩ := place11 t
  funext x
  apply Fin.ext
  match x with
  | ⟨0, _⟩ => show t.val * 512 + a.val = win0_11.index t 0 * 512 + 1 * a.val; rw [p0]; omega
  | ⟨1, _⟩ => show b.val = win0_11.index t 1 * 128 + 1 * b.val; rw [p1]; omega

theorem hz2 : (![0, 0] : Fin 2 → Nat) = fun _ => 0 := funext fun a => by fin_cases a <;> rfl
theorem hz3 : (![0, 0, 0] : Fin 3 → Nat) = fun _ => 0 := funext fun a => by fin_cases a <;> rfl

section Body

variable (x0 x1 : Vec Ideal S512x512 .bf16) (x2 : Vec Ideal S512x1024 .f32) (x3 : Vec Ideal S1x6x1024 .f32) (x4 x5 : Vec Ideal S512x1024 .bf16) (x6 : Vec Ideal S1x1024 .f32) (x7 : Vec Ideal S1024x128 .f32) (x8 : Vec Ideal S16x1 .f32)

theorem out9_eq : out0_9 x0 x1 x2 x3 x4 x5 x6 x7 x8 = k0_pay3 x3 x0 x4 x1 x5 x2 := by
  unfold out0_9
  simp only [View.canon_unit_zero (S := S512x1024) hz2, View.ld_unit_zero (S := S512x512) hz2, View.ld_unit_zero (S := S512x1024) hz2, View.ld_unit_zero (S := S1x6x1024) hz3]

theorem out10_eq : out0_10 x0 x1 x2 x3 x4 x5 x6 x7 x8 = k0_pay8 (k0_pay4 x3) (k0_pay5 x3 x0 x4 x1 x5 x2 x6) (k0_pay6 x3) := by
  unfold_out out0_10
  simp only [View.canon_unit_zero (S := S512x1024) hz2, View.ld_unit_zero (S := S512x512) hz2, View.ld_unit_zero (S := S512x1024) hz2, View.ld_unit_zero (S := S1x6x1024) hz3, View.ld_unit_zero (S := S1x1024) hz2]

theorem pay3_apply (r : Fin 512) (j : Fin 1024) : k0_pay3 x3 x0 x4 x1 x5 x2 (ix2 r j)
    = xRow (fun k => x0 (ix2 r k)) (fun k => x1 (ix2 r k)) (fun k => x2 (ix2 r k)) (fun k => x3 (ix3 0 2 k)) (fun k j => x4 (ix2 k j)) (fun k j => x5 (ix2 k j)) j := by
  pointwise [k0_pay3, k0_pay2]
  rfl

theorem pay5_apply (r : Fin 512) (j : Fin 1024) : k0_pay5 x3 x0 x4 x1 x5 x2 x6 (ix2 r j) * k0_pay6 x3 (ix2 0 j) + k0_pay4 x3 (ix2 0 j)
    = normed (xRow (fun k => x0 (ix2 r k)) (fun k => x1 (ix2 r k)) (fun k => x2 (ix2 r k)) (fun k => x3 (ix3 0 2 k)) (fun k j => x4 (ix2 k j)) (fun k j => x5 (ix2 k j))) (fun k => x6 (ix2 0 k)) (fun k => x3 (ix3 0 4 k)) (fun k => x3 (ix3 0 3 k)) j := by
  pointwise [k0_pay5, k0_pay6, k0_pay4]
  simp only [pay3_apply]
  pointwise [k0_pay2]
  rfl

theorem pay8_apply (r : Fin 512) (j : Fin 1024) : k0_pay8 (k0_pay4 x3) (k0_pay5 x3 x0 x4 x1 x5 x2 x6) (k0_pay6 x3) (ix2 r j)
    = normed (xRow (fun k => x0 (ix2 r k)) (fun k => x1 (ix2 r k)) (fun k => x2 (ix2 r k)) (fun k => x3 (ix3 0 2 k)) (fun k j => x4 (ix2 k j)) (fun k j => x5 (ix2 k j))) (fun k => x6 (ix2 0 k)) (fun k => x3 (ix3 0 4 k)) (fun k => x3 (ix3 0 3 k)) j := by
  refine Eq.trans ?_ (pay5_apply x0 x1 x2 x3 x4 x5 x6 r j)
  pointwise [k0_pay8, k0_pay7]

theorem pay9_apply (r : Fin 512) (e : Fin 16) : k0_pay9 (k0_pay4 x3) (k0_pay5 x3 x0 x4 x1 x5 x2 x6) (k0_pay6 x3) x7 (ix2 ⟨e.val, by omega⟩ r)
    = score (normed (xRow (fun k => x0 (ix2 r k)) (fun k => x1 (ix2 r k)) (fun k => x2 (ix2 r k)) (fun k => x3 (ix3 0 2 k)) (fun k j => x4 (ix2 k j)) (fun k j => x5 (ix2 k j))) (fun k => x6 (ix2 0 k)) (fun k => x3 (ix3 0 4 k)) (fun k => x3 (ix3 0 3 k))) (fun k e => x7 (ix2 k ⟨e.val, by omega⟩)) e := by
  refine Eq.trans ?_ (congrArg Ideal.logistic (Finset.sum_congr rfl fun k _ => congrArg (· * _) (pay5_apply x0 x1 x2 x3 x4 x5 x6 r k)))
  pointwise [k0_pay9, k0_pay7]

end Body

theorem biased_0 (p4 p6 : FVec Ideal S1x1024 .f32) (p5 : FVec Ideal S512x1024 .f32) (x7 : Vec Ideal S1024x128 .f32) (x8 : Vec Ideal S16x1 .f32) (r : Fin 512) :
    k0_pay11 p4 p5 p6 x7 x8 (ix2 0 r) = k0_pay9 p4 p5 p6 x7 (ix2 0 r) + x8 (ix2 0 0) := by
  pointwise [k0_pay11, k0_pay10]

theorem biased_1 (p4 p6 : FVec Ideal S1x1024 .f32) (p5 : FVec Ideal S512x1024 .f32) (x7 : Vec Ideal S1024x128 .f32) (x8 : Vec Ideal S16x1 .f32) (r : Fin 512) :
    k0_pay12 p4 p5 p6 x7 x8 (ix2 0 r) = k0_pay9 p4 p5 p6 x7 (ix2 1 r) + x8 (ix2 1 0) := by
  pointwise [k0_pay12, k0_pay10]

theorem biased_2 (p4 p6 : FVec Ideal S1x1024 .f32) (p5 : FVec Ideal S512x1024 .f32) (x7 : Vec Ideal S1024x128 .f32) (x8 : Vec Ideal S16x1 .f32) (r : Fin 512) :
    k0_pay13 p4 p5 p6 x7 x8 (ix2 0 r) = k0_pay9 p4 p5 p6 x7 (ix2 2 r) + x8 (ix2 2 0) := by
  pointwise [k0_pay13, k0_pay10]

theorem biased_3 (p4 p6 : FVec Ideal S1x1024 .f32) (p5 : FVec Ideal S512x1024 .f32) (x7 : Vec Ideal S1024x128 .f32) (x8 : Vec Ideal S16x1 .f32) (r : Fin 512) :
    k0_pay14 p4 p5 p6 x7 x8 (ix2 0 r) = k0_pay9 p4 p5 p6 x7 (ix2 3 r) + x8 (ix2 3 0) := by
  pointwise [k0_pay14, k0_pay10]

theorem biased_4 (p4 p6 : FVec Ideal S1x1024 .f32) (p5 : FVec Ideal S512x1024 .f32) (x7 : Vec Ideal S1024x128 .f32) (x8 : Vec Ideal S16x1 .f32) (r : Fin 512) :
    k0_pay15 p4 p5 p6 x7 x8 (ix2 0 r) = k0_pay9 p4 p5 p6 x7 (ix2 4 r) + x8 (ix2 4 0) := by
  pointwise [k0_pay15, k0_pay10]

theorem biased_5 (p4 p6 : FVec Ideal S1x1024 .f32) (p5 : FVec Ideal S512x1024 .f32) (x7 : Vec Ideal S1024x128 .f32) (x8 : Vec Ideal S16x1 .f32) (r : Fin 512) :
    k0_pay16 p4 p5 p6 x7 x8 (ix2 0 r) = k0_pay9 p4 p5 p6 x7 (ix2 5 r) + x8 (ix2 5 0) := by
  pointwise [k0_pay16, k0_pay10]

theorem biased_6 (p4 p6 : FVec Ideal S1x1024 .f32) (p5 : FVec Ideal S512x1024 .f32) (x7 : Vec Ideal S1024x128 .f32) (x8 : Vec Ideal S16x1 .f32) (r : Fin 512) :
    k0_pay17 p4 p5 p6 x7 x8 (ix2 0 r) = k0_pay9 p4 p5 p6 x7 (ix2 6 r) + x8 (ix2 6 0) := by
  pointwise [k0_pay17, k0_pay10]

theorem biased_7 (p4 p6 : FVec Ideal S1x1024 .f32) (p5 : FVec Ideal S512x1024 .f32) (x7 : Vec Ideal S1024x128 .f32) (x8 : Vec Ideal S16x1 .f32) (r : Fin 512) :
    k0_pay18 p4 p5 p6 x7 x8 (ix2 0 r) = k0_pay9 p4 p5 p6 x7 (ix2 7 r) + x8 (ix2 7 0) := by
  pointwise [k0_pay18, k0_pay10]

theorem biased_8 (p4 p6 : FVec Ideal S1x1024 .f32) (p5 : FVec Ideal S512x1024 .f32) (x7 : Vec Ideal S1024x128 .f32) (x8 : Vec Ideal S16x1 .f32) (r : Fin 512) :
    k0_pay19 p4 p5 p6 x7 x8 (ix2 0 r) = k0_pay9 p4 p5 p6 x7 (ix2 8 r) + x8 (ix2 8 0) := by
  pointwise [k0_pay19, k0_pay10]

theorem biased_9 (p4 p6 : FVec Ideal S1x1024 .f32) (p5 : FVec Ideal S512x1024 .f32) (x7 : Vec Ideal S1024x128 .f32) (x8 : Vec Ideal S16x1 .f32) (r : Fin 512) :
    k0_pay22 (k0_pay20 p4 p5 p6 x7) (k0_pay21 x8) (ix2 0 r) = k0_pay9 p4 p5 p6 x7 (ix2 9 r) + x8 (ix2 9 0) := by
  pointwise [k0_pay22, k0_pay20, k0_pay21, k0_pay10]

theorem biased_10 (p4 p6 : FVec Ideal S1x1024 .f32) (p5 : FVec Ideal S512x1024 .f32) (x7 : Vec Ideal S1024x128 .f32) (x8 : Vec Ideal S16x1 .f32) (r : Fin 512) :
    k0_pay23 (k0_pay9 p4 p5 p6 x7) (k0_pay10 x8) (ix2 0 r) = k0_pay9 p4 p5 p6 x7 (ix2 10 r) + x8 (ix2 10 0) := by
  pointwise [k0_pay23, k0_pay10]

theorem biased_11 (p4 p6 : FVec Ideal S1x1024 .f32) (p5 : FVec Ideal S512x1024 .f32) (x7 : Vec Ideal S1024x128 .f32) (x8 : Vec Ideal S16x1 .f32) (r : Fin 512) :
    k0_pay24 (k0_pay9 p4 p5 p6 x7) (k0_pay10 x8) (ix2 0 r) = k0_pay9 p4 p5 p6 x7 (ix2 11 r) + x8 (ix2 11 0) := by
  pointwise [k0_pay24, k0_pay10]

theorem biased_12 (p4 p6 : FVec Ideal S1x1024 .f32) (p5 : FVec Ideal S512x1024 .f32) (x7 : Vec Ideal S1024x128 .f32) (x8 : Vec Ideal S16x1 .f32) (r : Fin 512) :
    k0_pay25 (k0_pay9 p4 p5 p6 x7) (k0_pay10 x8) (ix2 0 r) = k0_pay9 p4 p5 p6 x7 (ix2 12 r) + x8 (ix2 12 0) := by
  pointwise [k0_pay25, k0_pay10]

theorem biased_13 (p4 p6 : FVec Ideal S1x1024 .f32) (p5 : FVec Ideal S512x1024 .f32) (x7 : Vec Ideal S1024x128 .f32) (x8 : Vec Ideal S16x1 .f32) (r : Fin 512) :
    k0_pay26 (k0_pay9 p4 p5 p6 x7) (k0_pay10 x8) (ix2 0 r) = k0_pay9 p4 p5 p6 x7 (ix2 13 r) + x8 (ix2 13 0) := by
  pointwise [k0_pay26, k0_pay10]

theorem biased_14 (p4 p6 : FVec Ideal S1x1024 .f32) (p5 : FVec Ideal S512x1024 .f32) (x7 : Vec Ideal S1024x128 .f32) (x8 : Vec Ideal S16x1 .f32) (r : Fin 512) :
    k0_pay27 (k0_pay9 p4 p5 p6 x7) (k0_pay10 x8) (ix2 0 r) = k0_pay9 p4 p5 p6 x7 (ix2 14 r) + x8 (ix2 14 0) := by
  pointwise [k0_pay27, k0_pay10]

theorem biased_15 (p4 p6 : FVec Ideal S1x1024 .f32) (p5 : FVec Ideal S512x1024 .f32) (x7 : Vec Ideal S1024x128 .f32) (x8 : Vec Ideal S16x1 .f32) (r : Fin 512) :
    k0_pay28 (k0_pay9 p4 p5 p6 x7) (k0_pay10 x8) (ix2 0 r) = k0_pay9 p4 p5 p6 x7 (ix2 15 r) + x8 (ix2 15 0) := by
  pointwise [k0_pay28, k0_pay10]

/-- The best group's word from the four groups' scores. -/
theorem pay36_apply (g0 g1 g2 g3 g4 : FVec Ideal S1x512 .f32) (Q : Fin 4 → EReal) (r : Fin 512) (h0 : g0 (ix2 0 r) = Q 0)
    (h1 : g1 (ix2 0 r) = Q 1) (h2 : g2 (ix2 0 r) = Q 2) (h3 : @Eq EReal (g3 (ix2 0 r) + g4 (ix2 0 r)) (Q 3)) :
    k0_pay36 g0 g1 g2 g3 g4 (ix2 0 r) = BitVec.ofNat 32 (firstBest Q).val := by
  pointwise [k0_pay36]
  rw [h0, h1, h2, h3]
  simp only [← max_def_lt]
  unfold firstBest
  split_ifs <;> rfl

/-- The stored gates in terms of the scores, the biased scores and the groups' scores. -/
theorem gates_apply (v45 : FVec Ideal S128x512 .f32) (b0 b1 b2 b3 b4 b5 b6 b7 b8 b9 b10 b11 b12 b13 b14 b15 : FVec Ideal S1x512 .f32)
    (g0 g1 g2 g3 g4 : FVec Ideal S1x512 .f32) (r : Fin 512) (l : Fin 128) :
    (k0_pay1 (iota .tc S128x512 32 [0] iota_S128x512_d0_w32) (k0_pay90 (iota .tc S128x512 32 [0] iota_S128x512_d0_w32) (k0_pay88 v45 (k0_pay36 g0 g1 g2 g3 g4) (iota .tc S128x512 32 [0] iota_S128x512_d0_w32) (k0_pay83 v45 b12 b13 b14 b15 (k0_pay36 g0 g1 g2 g3 g4) (iota .tc S128x512 32 [0] iota_S128x512_d0_w32) (k0_pay79 v45 b8 b9 b10 b11 (k0_pay36 g0 g1 g2 g3 g4) (iota .tc S128x512 32 [0] iota_S128x512_d0_w32) (k0_pay72 v45 b9 b11 (k0_pay36 g0 g1 g2 g3 g4) (iota .tc S128x512 32 [0] iota_S128x512_d0_w32) (k0_pay67 v45 b8 b9 b10 b11 (k0_pay36 g0 g1 g2 g3 g4) (iota .tc S128x512 32 [0] iota_S128x512_d0_w32) (k0_pay62 v45 (k0_pay36 g0 g1 g2 g3 g4) (iota .tc S128x512 32 [0] iota_S128x512_d0_w32) (k0_pay57 v45 b5 b6 b7 (k0_pay36 g0 g1 g2 g3 g4) (iota .tc S128x512 32 [0] iota_S128x512_d0_w32) (k0_pay52 v45 b4 b5 b6 b7 (k0_pay36 g0 g1 g2 g3 g4) (iota .tc S128x512 32 [0] iota_S128x512_d0_w32) (k0_pay47 v45 b2 b3 (k0_pay36 g0 g1 g2 g3 g4) (iota .tc S128x512 32 [0] iota_S128x512_d0_w32) (k0_pay42 v45 b0 b1 b2 b3 (k0_pay36 g0 g1 g2 g3 g4) (iota .tc S128x512 32 [0] iota_S128x512_d0_w32) (k0_pay37) (k0_pay38 v45 b0 b1 b2 b3 g0 g1 g2 g3 g4) 0#32) (k0_pay43 b0 b2) (k0_pay44 b1 b2) 1#32 0#32) (k0_pay48 b0 b1 b2 b3 (k0_pay36 g0 g1 g2 g3 g4))) (k0_pay53) (k0_pay54 b4 b5)) (k0_pay58 b4 b5 b6) (k0_pay59 b6 b7) 0#32 (k0_pay60)) (k0_pay63 v45 b4 b5 b6 b7 (k0_pay36 g0 g1 g2 g3 g4))) (k0_pay68 b8 b9) (k0_pay69 b9 b10) 1#32) (k0_pay73 b8 b9 b10 b11) (k0_pay74 (k0_pay36 g0 g1 g2 g3 g4)) (k0_pay75)) (k0_pay80)) (k0_pay84 b12 b13 b14) (k0_pay85 b13 b15) 1#32 0#32) (k0_pay89 v45 b12 b13 b14 b15 (k0_pay36 g0 g1 g2 g3 g4))) (k0_pay91 v45 b12 b13 b14 b15 (k0_pay36 g0 g1 g2 g3 g4)) (k0_pay92 v45 b12 b13 b14 b15 (k0_pay36 g0 g1 g2 g3 g4) (k0_pay87 v45 (k0_pay36 g0 g1 g2 g3 g4) (k0_pay82 v45 b12 b13 b14 b15 (k0_pay36 g0 g1 g2 g3 g4) (k0_pay78 v45 b8 b9 b10 b11 (k0_pay36 g0 g1 g2 g3 g4) (k0_pay71 v45 b9 b11 (k0_pay36 g0 g1 g2 g3 g4) (k0_pay66 v45 b8 b9 b10 b11 (k0_pay36 g0 g1 g2 g3 g4) (k0_pay64 v45 b4 b5 b6 b7 (k0_pay36 g0 g1 g2 g3 g4) (k0_pay56 v45 b5 b6 b7 (k0_pay36 g0 g1 g2 g3 g4) (k0_pay51 v45 b4 b5 b6 b7 (k0_pay36 g0 g1 g2 g3 g4) (k0_pay46 v45 b2 b3 (k0_pay36 g0 g1 g2 g3 g4) (k0_pay41 v45 b0 b1 b2 b3 (k0_pay36 g0 g1 g2 g3 g4) (k0_pay39 v45 b0 b1 b2 b3 g0 g1 g2 g3 g4)) (k0_pay43 b0 b2) (k0_pay44 b1 b2) 1#32 0#32) (k0_pay48 b0 b1 b2 b3 (k0_pay36 g0 g1 g2 g3 g4))) (k0_pay53) (k0_pay54 b4 b5)) (k0_pay58 b4 b5 b6) (k0_pay59 b6 b7) 0#32 (k0_pay60))) (k0_pay68 b8 b9) (k0_pay69 b9 b10) 1#32) (k0_pay73 b8 b9 b10 b11) (k0_pay74 (k0_pay36 g0 g1 g2 g3 g4)) (k0_pay75)) (k0_pay80)) (k0_pay84 b12 b13 b14) (k0_pay85 b13 b15) 1#32 0#32) (k0_pay89 v45 b12 b13 b14 b15 (k0_pay36 g0 g1 g2 g3 g4))) k0_pay93 : FVec Ideal S512x128 .f32) (ix2 r l)
      = Ideal.div (placed (keptAll (fun e => v45 (ix2 ⟨e.val, by omega⟩ r)) ![b0 (ix2 0 r), b1 (ix2 0 r), b2 (ix2 0 r), b3 (ix2 0 r), b4 (ix2 0 r), b5 (ix2 0 r), b6 (ix2 0 r), b7 (ix2 0 r), b8 (ix2 0 r), b9 (ix2 0 r), b10 (ix2 0 r), b11 (ix2 0 r), b12 (ix2 0 r), b13 (ix2 0 r), b14 (ix2 0 r), b15 (ix2 0 r)] (k0_pay36 g0 g1 g2 g3 g4 (ix2 0 r))) l) (total (keptAll (fun e => v45 (ix2 ⟨e.val, by omega⟩ r)) ![b0 (ix2 0 r), b1 (ix2 0 r), b2 (ix2 0 r), b3 (ix2 0 r), b4 (ix2 0 r), b5 (ix2 0 r), b6 (ix2 0 r), b7 (ix2 0 r), b8 (ix2 0 r), b9 (ix2 0 r), b10 (ix2 0 r), b11 (ix2 0 r), b12 (ix2 0 r), b13 (ix2 0 r), b14 (ix2 0 r), b15 (ix2 0 r)] (k0_pay36 g0 g1 g2 g3 g4 (ix2 0 r)))) := by
  pointwise [k0_pay1, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
  simp only [placed, total, keptAll, kept, Matrix.cons_val]
  rfl

/-- The groups' scores the kernel computes choose the best group. -/
theorem best_apply (p4 p6 : FVec Ideal S1x1024 .f32) (p5 : FVec Ideal S512x1024 .f32) (x7 : Vec Ideal S1024x128 .f32) (x8 : Vec Ideal S16x1 .f32)
    (B : Fin 16 → EReal) (r : Fin 512) (hB : ∀ e : Fin 16, k0_pay9 p4 p5 p6 x7 (ix2 ⟨e.val, by omega⟩ r) + x8 (ix2 e 0) = B e) :
    k0_pay36 (k0_pay29 (k0_pay11 p4 p5 p6 x7 x8) (k0_pay12 p4 p5 p6 x7 x8) (k0_pay13 p4 p5 p6 x7 x8) (k0_pay14 p4 p5 p6 x7 x8)) (k0_pay30 (k0_pay15 p4 p5 p6 x7 x8) (k0_pay16 p4 p5 p6 x7 x8) (k0_pay17 p4 p5 p6 x7 x8) (k0_pay18 p4 p5 p6 x7 x8)) (k0_pay31 (k0_pay9 p4 p5 p6 x7) (k0_pay10 x8) (k0_pay19 p4 p5 p6 x7 x8) (k0_pay20 p4 p5 p6 x7) (k0_pay21 x8)) (k0_pay34 (k0_pay9 p4 p5 p6 x7) (k0_pay10 x8)) (k0_pay35 (k0_pay9 p4 p5 p6 x7) (k0_pay10 x8)) (ix2 0 r)
      = BitVec.ofNat 32 (bestGroup B).val := by
  have b0 := (biased_0 p4 p6 p5 x7 x8 r).trans (hB 0)
  have b1 := (biased_1 p4 p6 p5 x7 x8 r).trans (hB 1)
  have b2 := (biased_2 p4 p6 p5 x7 x8 r).trans (hB 2)
  have b3 := (biased_3 p4 p6 p5 x7 x8 r).trans (hB 3)
  have b4 := (biased_4 p4 p6 p5 x7 x8 r).trans (hB 4)
  have b5 := (biased_5 p4 p6 p5 x7 x8 r).trans (hB 5)
  have b6 := (biased_6 p4 p6 p5 x7 x8 r).trans (hB 6)
  have b7 := (biased_7 p4 p6 p5 x7 x8 r).trans (hB 7)
  have b8 := (biased_8 p4 p6 p5 x7 x8 r).trans (hB 8)
  have b9 := (biased_9 p4 p6 p5 x7 x8 r).trans (hB 9)
  have b10 := (biased_10 p4 p6 p5 x7 x8 r).trans (hB 10)
  have b11 := (biased_11 p4 p6 p5 x7 x8 r).trans (hB 11)
  have b12 := (biased_12 p4 p6 p5 x7 x8 r).trans (hB 12)
  have b13 := (biased_13 p4 p6 p5 x7 x8 r).trans (hB 13)
  have b14 := (biased_14 p4 p6 p5 x7 x8 r).trans (hB 14)
  have b15 := (biased_15 p4 p6 p5 x7 x8 r).trans (hB 15)
  refine pay36_apply _ _ _ _ _ (groupScore B) r ?_ ?_ ?_ ?_
  · pointwise [k0_pay29]
    rw [b0, b1, b2, b3]
    rfl
  · pointwise [k0_pay30]
    rw [b4, b5, b6, b7]
    rfl
  · pointwise [k0_pay31]
    rw [b8, b9, b10, b11]
    rfl
  · pointwise [k0_pay34, k0_pay35, k0_pay32, k0_pay33]
    rw [b12, b13, b14, b15]
    rfl

theorem out11_apply (x0 x1 : Vec Ideal S512x512 .bf16) (x2 : Vec Ideal S512x1024 .f32) (x3 : Vec Ideal S1x6x1024 .f32) (x4 x5 : Vec Ideal S512x1024 .bf16) (x6 : Vec Ideal S1x1024 .f32) (x7 : Vec Ideal S1024x128 .f32) (x8 : Vec Ideal S16x1 .f32) (r : Fin 512) (l : Fin 128) :
    out0_11 x0 x1 x2 x3 x4 x5 x6 x7 x8 (ix2 r l)
      = gatesOf (normed (xRow (fun k => x0 (ix2 r k)) (fun k => x1 (ix2 r k)) (fun k => x2 (ix2 r k)) (fun k => x3 (ix3 0 2 k)) (fun k j => x4 (ix2 k j)) (fun k j => x5 (ix2 k j))) (fun k => x6 (ix2 0 k)) (fun k => x3 (ix3 0 4 k)) (fun k => x3 (ix3 0 3 k))) (fun k e => x7 (ix2 k ⟨e.val, by omega⟩)) (fun e => x8 (ix2 e 0)) l := by
  unfold_out out0_11
  simp only [View.canon_unit_zero (S := S512x128) hz2, View.ld_unit_zero (S := S512x512) hz2, View.ld_unit_zero (S := S512x1024) hz2, View.ld_unit_zero (S := S1x6x1024) hz3, View.ld_unit_zero (S := S1x1024) hz2, View.ld_unit_zero (S := S1024x128) hz2, View.ld_unit_zero (S := S16x1) hz2]
  refine (gates_apply (k0_pay9 (k0_pay4 x3) (k0_pay5 x3 x0 x4 x1 x5 x2 x6) (k0_pay6 x3) x7) (k0_pay11 (k0_pay4 x3) (k0_pay5 x3 x0 x4 x1 x5 x2 x6) (k0_pay6 x3) x7 x8) (k0_pay12 (k0_pay4 x3) (k0_pay5 x3 x0 x4 x1 x5 x2 x6) (k0_pay6 x3) x7 x8) (k0_pay13 (k0_pay4 x3) (k0_pay5 x3 x0 x4 x1 x5 x2 x6) (k0_pay6 x3) x7 x8) (k0_pay14 (k0_pay4 x3) (k0_pay5 x3 x0 x4 x1 x5 x2 x6) (k0_pay6 x3) x7 x8) (k0_pay15 (k0_pay4 x3) (k0_pay5 x3 x0 x4 x1 x5 x2 x6) (k0_pay6 x3) x7 x8) (k0_pay16 (k0_pay4 x3) (k0_pay5 x3 x0 x4 x1 x5 x2 x6) (k0_pay6 x3) x7 x8) (k0_pay17 (k0_pay4 x3) (k0_pay5 x3 x0 x4 x1 x5 x2 x6) (k0_pay6 x3) x7 x8) (k0_pay18 (k0_pay4 x3) (k0_pay5 x3 x0 x4 x1 x5 x2 x6) (k0_pay6 x3) x7 x8) (k0_pay19 (k0_pay4 x3) (k0_pay5 x3 x0 x4 x1 x5 x2 x6) (k0_pay6 x3) x7 x8) (k0_pay22 (k0_pay20 (k0_pay4 x3) (k0_pay5 x3 x0 x4 x1 x5 x2 x6) (k0_pay6 x3) x7) (k0_pay21 x8)) (k0_pay23 (k0_pay9 (k0_pay4 x3) (k0_pay5 x3 x0 x4 x1 x5 x2 x6) (k0_pay6 x3) x7) (k0_pay10 x8)) (k0_pay24 (k0_pay9 (k0_pay4 x3) (k0_pay5 x3 x0 x4 x1 x5 x2 x6) (k0_pay6 x3) x7) (k0_pay10 x8)) (k0_pay25 (k0_pay9 (k0_pay4 x3) (k0_pay5 x3 x0 x4 x1 x5 x2 x6) (k0_pay6 x3) x7) (k0_pay10 x8)) (k0_pay26 (k0_pay9 (k0_pay4 x3) (k0_pay5 x3 x0 x4 x1 x5 x2 x6) (k0_pay6 x3) x7) (k0_pay10 x8)) (k0_pay27 (k0_pay9 (k0_pay4 x3) (k0_pay5 x3 x0 x4 x1 x5 x2 x6) (k0_pay6 x3) x7) (k0_pay10 x8)) (k0_pay28 (k0_pay9 (k0_pay4 x3) (k0_pay5 x3 x0 x4 x1 x5 x2 x6) (k0_pay6 x3) x7) (k0_pay10 x8)) (k0_pay29 (k0_pay11 (k0_pay4 x3) (k0_pay5 x3 x0 x4 x1 x5 x2 x6) (k0_pay6 x3) x7 x8) (k0_pay12 (k0_pay4 x3) (k0_pay5 x3 x0 x4 x1 x5 x2 x6) (k0_pay6 x3) x7 x8) (k0_pay13 (k0_pay4 x3) (k0_pay5 x3 x0 x4 x1 x5 x2 x6) (k0_pay6 x3) x7 x8) (k0_pay14 (k0_pay4 x3) (k0_pay5 x3 x0 x4 x1 x5 x2 x6) (k0_pay6 x3) x7 x8)) (k0_pay30 (k0_pay15 (k0_pay4 x3) (k0_pay5 x3 x0 x4 x1 x5 x2 x6) (k0_pay6 x3) x7 x8) (k0_pay16 (k0_pay4 x3) (k0_pay5 x3 x0 x4 x1 x5 x2 x6) (k0_pay6 x3) x7 x8) (k0_pay17 (k0_pay4 x3) (k0_pay5 x3 x0 x4 x1 x5 x2 x6) (k0_pay6 x3) x7 x8) (k0_pay18 (k0_pay4 x3) (k0_pay5 x3 x0 x4 x1 x5 x2 x6) (k0_pay6 x3) x7 x8)) (k0_pay31 (k0_pay9 (k0_pay4 x3) (k0_pay5 x3 x0 x4 x1 x5 x2 x6) (k0_pay6 x3) x7) (k0_pay10 x8) (k0_pay19 (k0_pay4 x3) (k0_pay5 x3 x0 x4 x1 x5 x2 x6) (k0_pay6 x3) x7 x8) (k0_pay20 (k0_pay4 x3) (k0_pay5 x3 x0 x4 x1 x5 x2 x6) (k0_pay6 x3) x7) (k0_pay21 x8)) (k0_pay34 (k0_pay9 (k0_pay4 x3) (k0_pay5 x3 x0 x4 x1 x5 x2 x6) (k0_pay6 x3) x7) (k0_pay10 x8)) (k0_pay35 (k0_pay9 (k0_pay4 x3) (k0_pay5 x3 x0 x4 x1 x5 x2 x6) (k0_pay6 x3) x7) (k0_pay10 x8)) r l).trans ?_
  have hs : ∀ e : Fin 16, @Eq EReal (k0_pay9 (k0_pay4 x3) (k0_pay5 x3 x0 x4 x1 x5 x2 x6) (k0_pay6 x3) x7 (ix2 ⟨e.val, by omega⟩ r)) _ := pay9_apply x0 x1 x2 x3 x4 x5 x6 x7 r
  rw [best_apply (k0_pay4 x3) (k0_pay6 x3) (k0_pay5 x3 x0 x4 x1 x5 x2 x6) x7 x8 (fun e => score (normed (xRow (fun k => x0 (ix2 r k)) (fun k => x1 (ix2 r k)) (fun k => x2 (ix2 r k)) (fun k => x3 (ix3 0 2 k)) (fun k j => x4 (ix2 k j)) (fun k j => x5 (ix2 k j))) (fun k => x6 (ix2 0 k)) (fun k => x3 (ix3 0 4 k)) (fun k => x3 (ix3 0 3 k))) (fun k e => x7 (ix2 k ⟨e.val, by omega⟩)) e + x8 (ix2 e 0)) r
    fun e => congrArg (· + _) (hs e)]
  have hb : (![(k0_pay11 (k0_pay4 x3) (k0_pay5 x3 x0 x4 x1 x5 x2 x6) (k0_pay6 x3) x7 x8) (ix2 0 r), (k0_pay12 (k0_pay4 x3) (k0_pay5 x3 x0 x4 x1 x5 x2 x6) (k0_pay6 x3) x7 x8) (ix2 0 r), (k0_pay13 (k0_pay4 x3) (k0_pay5 x3 x0 x4 x1 x5 x2 x6) (k0_pay6 x3) x7 x8) (ix2 0 r), (k0_pay14 (k0_pay4 x3) (k0_pay5 x3 x0 x4 x1 x5 x2 x6) (k0_pay6 x3) x7 x8) (ix2 0 r), (k0_pay15 (k0_pay4 x3) (k0_pay5 x3 x0 x4 x1 x5 x2 x6) (k0_pay6 x3) x7 x8) (ix2 0 r), (k0_pay16 (k0_pay4 x3) (k0_pay5 x3 x0 x4 x1 x5 x2 x6) (k0_pay6 x3) x7 x8) (ix2 0 r), (k0_pay17 (k0_pay4 x3) (k0_pay5 x3 x0 x4 x1 x5 x2 x6) (k0_pay6 x3) x7 x8) (ix2 0 r), (k0_pay18 (k0_pay4 x3) (k0_pay5 x3 x0 x4 x1 x5 x2 x6) (k0_pay6 x3) x7 x8) (ix2 0 r), (k0_pay19 (k0_pay4 x3) (k0_pay5 x3 x0 x4 x1 x5 x2 x6) (k0_pay6 x3) x7 x8) (ix2 0 r), (k0_pay22 (k0_pay20 (k0_pay4 x3) (k0_pay5 x3 x0 x4 x1 x5 x2 x6) (k0_pay6 x3) x7) (k0_pay21 x8)) (ix2 0 r), (k0_pay23 (k0_pay9 (k0_pay4 x3) (k0_pay5 x3 x0 x4 x1 x5 x2 x6) (k0_pay6 x3) x7) (k0_pay10 x8)) (ix2 0 r), (k0_pay24 (k0_pay9 (k0_pay4 x3) (k0_pay5 x3 x0 x4 x1 x5 x2 x6) (k0_pay6 x3) x7) (k0_pay10 x8)) (ix2 0 r), (k0_pay25 (k0_pay9 (k0_pay4 x3) (k0_pay5 x3 x0 x4 x1 x5 x2 x6) (k0_pay6 x3) x7) (k0_pay10 x8)) (ix2 0 r), (k0_pay26 (k0_pay9 (k0_pay4 x3) (k0_pay5 x3 x0 x4 x1 x5 x2 x6) (k0_pay6 x3) x7) (k0_pay10 x8)) (ix2 0 r), (k0_pay27 (k0_pay9 (k0_pay4 x3) (k0_pay5 x3 x0 x4 x1 x5 x2 x6) (k0_pay6 x3) x7) (k0_pay10 x8)) (ix2 0 r), (k0_pay28 (k0_pay9 (k0_pay4 x3) (k0_pay5 x3 x0 x4 x1 x5 x2 x6) (k0_pay6 x3) x7) (k0_pay10 x8)) (ix2 0 r)] : Fin 16 → EReal)
      = fun e => score (normed (xRow (fun k => x0 (ix2 r k)) (fun k => x1 (ix2 r k)) (fun k => x2 (ix2 r k)) (fun k => x3 (ix3 0 2 k)) (fun k j => x4 (ix2 k j)) (fun k j => x5 (ix2 k j))) (fun k => x6 (ix2 0 k)) (fun k => x3 (ix3 0 4 k)) (fun k => x3 (ix3 0 3 k))) (fun k e => x7 (ix2 k ⟨e.val, by omega⟩)) e + x8 (ix2 e 0) := by
    funext e
    fin_cases e
    · exact (biased_0 (k0_pay4 x3) (k0_pay6 x3) (k0_pay5 x3 x0 x4 x1 x5 x2 x6) x7 x8 r).trans (congrArg (· + _) (hs 0))
    · exact (biased_1 (k0_pay4 x3) (k0_pay6 x3) (k0_pay5 x3 x0 x4 x1 x5 x2 x6) x7 x8 r).trans (congrArg (· + _) (hs 1))
    · exact (biased_2 (k0_pay4 x3) (k0_pay6 x3) (k0_pay5 x3 x0 x4 x1 x5 x2 x6) x7 x8 r).trans (congrArg (· + _) (hs 2))
    · exact (biased_3 (k0_pay4 x3) (k0_pay6 x3) (k0_pay5 x3 x0 x4 x1 x5 x2 x6) x7 x8 r).trans (congrArg (· + _) (hs 3))
    · exact (biased_4 (k0_pay4 x3) (k0_pay6 x3) (k0_pay5 x3 x0 x4 x1 x5 x2 x6) x7 x8 r).trans (congrArg (· + _) (hs 4))
    · exact (biased_5 (k0_pay4 x3) (k0_pay6 x3) (k0_pay5 x3 x0 x4 x1 x5 x2 x6) x7 x8 r).trans (congrArg (· + _) (hs 5))
    · exact (biased_6 (k0_pay4 x3) (k0_pay6 x3) (k0_pay5 x3 x0 x4 x1 x5 x2 x6) x7 x8 r).trans (congrArg (· + _) (hs 6))
    · exact (biased_7 (k0_pay4 x3) (k0_pay6 x3) (k0_pay5 x3 x0 x4 x1 x5 x2 x6) x7 x8 r).trans (congrArg (· + _) (hs 7))
    · exact (biased_8 (k0_pay4 x3) (k0_pay6 x3) (k0_pay5 x3 x0 x4 x1 x5 x2 x6) x7 x8 r).trans (congrArg (· + _) (hs 8))
    · exact (biased_9 (k0_pay4 x3) (k0_pay6 x3) (k0_pay5 x3 x0 x4 x1 x5 x2 x6) x7 x8 r).trans (congrArg (· + _) (hs 9))
    · exact (biased_10 (k0_pay4 x3) (k0_pay6 x3) (k0_pay5 x3 x0 x4 x1 x5 x2 x6) x7 x8 r).trans (congrArg (· + _) (hs 10))
    · exact (biased_11 (k0_pay4 x3) (k0_pay6 x3) (k0_pay5 x3 x0 x4 x1 x5 x2 x6) x7 x8 r).trans (congrArg (· + _) (hs 11))
    · exact (biased_12 (k0_pay4 x3) (k0_pay6 x3) (k0_pay5 x3 x0 x4 x1 x5 x2 x6) x7 x8 r).trans (congrArg (· + _) (hs 12))
    · exact (biased_13 (k0_pay4 x3) (k0_pay6 x3) (k0_pay5 x3 x0 x4 x1 x5 x2 x6) x7 x8 r).trans (congrArg (· + _) (hs 13))
    · exact (biased_14 (k0_pay4 x3) (k0_pay6 x3) (k0_pay5 x3 x0 x4 x1 x5 x2 x6) x7 x8 r).trans (congrArg (· + _) (hs 14))
    · exact (biased_15 (k0_pay4 x3) (k0_pay6 x3) (k0_pay5 x3 x0 x4 x1 x5 x2 x6) x7 x8 r).trans (congrArg (· + _) (hs 15))
  rw [hb, show (fun e : Fin 16 => (k0_pay9 (k0_pay4 x3) (k0_pay5 x3 x0 x4 x1 x5 x2 x6) (k0_pay6 x3) x7 (ix2 ⟨e.val, by omega⟩ r) : EReal)) = _ from funext hs]
  rw [placed_eq, total_eq]
  simp only [keptAll_eq]
  rfl

/-- The weights. -/
theorem host_v0 (c : Dev nD) (k j : Fin 1024) : (V m c main_v0 : FVec Ideal S1024x1024 .bf16) (ix2 k j)
    = (m ((c : Thread nD τ).loc main_arg4) : FVec Ideal S1024x1024 .f32) (ix2 k j) := by
  have h : @Eq (FVec Ideal S1024x1024 .bf16) (V m c main_v0) (truncf .bf16 (m ((c : Thread nD τ).loc main_arg4) : FVec Ideal S1024x1024 .f32) bitsLt_bf16_f32) := by
    unfold V
    simp only [hostOps0, hostOps0_1, hostOps0_2, List.flatten_cons, List.flatten_nil, List.append_nil, List.cons_append, List.nil_append]
    after_results_simp <;> rfl
  rw [h]
  pointwise []

/-- The gains as a row. -/
theorem host_v1 (c : Dev nD) (d : Fin 1024) : (V m c main_v1 : FVec Ideal S1x1024 .f32) (ix2 0 d)
    = (m ((c : Thread nD τ).loc main_arg5) : FVec Ideal S1024 .f32) (ix1 d) := by
  have h : @Eq (FVec Ideal S1x1024 .f32) (V m c main_v1) (shapeCast S1x1024 (m ((c : Thread nD τ).loc main_arg5) : FVec Ideal S1024 .f32) shapeCasts_S1024_S1x1024) := by
    unfold V
    simp only [hostOps0, hostOps0_1, hostOps0_2, List.flatten_cons, List.flatten_nil, List.append_nil, List.cons_append, List.nil_append]
    after_results_simp <;> rfl
  rw [h]
  pointwise []

/-- The router's weights, padded to 128 columns. -/
theorem host_v2 (c : Dev nD) (k : Fin 1024) (e : Fin 16) : (V m c main_v2 : FVec Ideal S1024x128 .f32) (ix2 k ⟨e.val, by omega⟩)
    = (m ((c : Thread nD τ).loc main_arg6) : FVec Ideal S1024x16 .f32) (ix2 k e) := by
  have h : @Eq (FVec Ideal S1024x128 .f32) (V m c main_v2)
      (pad S1024x128 ![0, 0] ![0, 112] ![0, 0] (m ((c : Thread nD τ).loc main_arg6) : FVec Ideal S1024x16 .f32) (sitofp .f32 (constantI S_ 32 0#32))
        pads_S1024x16_S1024x128_000_01120 h_S_) := by
    unfold V
    simp only [hostOps0, hostOps0_1, hostOps0_2, List.flatten_cons, List.flatten_nil, List.append_nil, List.cons_append, List.nil_append]
    after_results_simp <;> rfl
  rw [h]
  pointwise []
  rw [dif_pos]
  intro a
  have he : e.val < 16 := e.isLt
  have hk : k.val < 1024 := k.isLt
  fin_cases a
  · show 0 ≤ k.val ∧ (k.val - 0) % (0 + 1) = 0 ∧ (k.val - 0) / (0 + 1) < 1024
    omega
  · show 0 ≤ e.val ∧ (e.val - 0) % (0 + 1) = 0 ∧ (e.val - 0) / (0 + 1) < 16
    omega

/-- The biases as a column. -/
theorem host_v3 (c : Dev nD) (e : Fin 16) : (V m c main_v3 : FVec Ideal S16x1 .f32) (ix2 e 0)
    = (m ((c : Thread nD τ).loc main_arg7) : FVec Ideal S16 .f32) (ix1 e) := by
  have h : @Eq (FVec Ideal S16x1 .f32) (V m c main_v3) (shapeCast S16x1 (m ((c : Thread nD τ).loc main_arg7) : FVec Ideal S16 .f32) shapeCasts_S16_S16x1) := by
    unfold V
    simp only [hostOps0, hostOps0_1, hostOps0_2, List.flatten_cons, List.flatten_nil, List.append_nil, List.cons_append, List.nil_append]
    after_results_simp <;> rfl
  rw [h]
  pointwise []

/-- Row `R` is row `R % 512` of grid point `R / 512`. -/
theorem split (R : Fin 32768) : ∃ (t : Fin cfg0.N) (a : Fin 512) (h : t.val * 512 + a.val < 32768), R = ⟨t.val * 512 + a.val, h⟩ :=
  ⟨⟨R.val / 512, lt_of_lt_of_eq (show R.val / 512 < 64 by omega) (show 64 = cfg0.N from N_0.symm)⟩, ⟨R.val % 512, by omega⟩,
    by show R.val / 512 * 512 + R.val % 512 < 32768; omega, Fin.ext (by show R.val = R.val / 512 * 512 + R.val % 512; omega)⟩

/-- The projected rows after the run. -/
theorem result9_apply (c : Dev nD) (R : Fin 32768) (j : Fin 1024) :
    @Eq EReal (((dats m 0 c).arrAt 9 cfg0.N) (ix2 R j))
      (xRow (fun k => (m ((c : Thread nD τ).loc main_arg0) : FVec Ideal S32768x512 .bf16) (ix2 R k)) (fun k => (m ((c : Thread nD τ).loc main_arg1) : FVec Ideal S32768x512 .bf16) (ix2 R k)) (fun k => (m ((c : Thread nD τ).loc main_arg2) : FVec Ideal S32768x1024 .f32) (ix2 R k)) (fun k => (m ((c : Thread nD τ).loc main_arg3) : FVec Ideal S2x6x1024 .f32) (ix3 ⟨R.val / 16384, by omega⟩ 2 k))
        (fun k j => (m ((c : Thread nD τ).loc main_arg4) : FVec Ideal S1024x1024 .f32) (ix2 ⟨k.val, by omega⟩ j)) (fun k j => (m ((c : Thread nD τ).loc main_arg4) : FVec Ideal S1024x1024 .f32) (ix2 ⟨512 + k.val, by omega⟩ j)) j) := by
  obtain ⟨t, a, h, rfl⟩ := split R
  have hb : (⟨(t.val * 512 + a.val) / 16384, by omega⟩ : Fin 2) = ⟨t.val / 32, by omega⟩ := Fin.ext (by show (t.val * 512 + a.val) / 16384 = t.val / 32; omega)
  refine (written9 m c t a j).trans ?_
  rw [out9_eq]
  change @Eq EReal _ _
  rw [pay3_apply]
  rw [hb]
  exact (xRow_congr (fun k => block0 m c t a k) (fun k => block1 m c t a k) (fun k => block2 m c t a k) (fun k => block3 m c t 0 2 k)
    (fun k j => (block4 m c t k j).trans ((host_v0 m c _ j).trans (congrArg (fun q => (m ((c : Thread nD τ).loc main_arg4) : FVec Ideal S1024x1024 .f32) (ix2 q j)) (Fin.ext (by show 0 * 512 + k.val = k.val; omega)))))
    (fun k j => (block5 m c t k j).trans ((host_v0 m c _ j).trans (congrArg (fun q => (m ((c : Thread nD τ).loc main_arg4) : FVec Ideal S1024x1024 .f32) (ix2 q j)) (Fin.ext (by show 1 * 512 + k.val = 512 + k.val; omega))))) j)

/-- The normalized rows after the run. -/
theorem result10_apply (c : Dev nD) (R : Fin 32768) (j : Fin 1024) :
    @Eq EReal (((dats m 0 c).arrAt 10 cfg0.N) (ix2 R j))
      (normed (xRow (fun k => (m ((c : Thread nD τ).loc main_arg0) : FVec Ideal S32768x512 .bf16) (ix2 R k)) (fun k => (m ((c : Thread nD τ).loc main_arg1) : FVec Ideal S32768x512 .bf16) (ix2 R k)) (fun k => (m ((c : Thread nD τ).loc main_arg2) : FVec Ideal S32768x1024 .f32) (ix2 R k)) (fun k => (m ((c : Thread nD τ).loc main_arg3) : FVec Ideal S2x6x1024 .f32) (ix3 ⟨R.val / 16384, by omega⟩ 2 k))
        (fun k j => (m ((c : Thread nD τ).loc main_arg4) : FVec Ideal S1024x1024 .f32) (ix2 ⟨k.val, by omega⟩ j)) (fun k j => (m ((c : Thread nD τ).loc main_arg4) : FVec Ideal S1024x1024 .f32) (ix2 ⟨512 + k.val, by omega⟩ j)))
        (fun k => (m ((c : Thread nD τ).loc main_arg5) : FVec Ideal S1024 .f32) (ix1 k)) (fun k => (m ((c : Thread nD τ).loc main_arg3) : FVec Ideal S2x6x1024 .f32) (ix3 ⟨R.val / 16384, by omega⟩ 4 k)) (fun k => (m ((c : Thread nD τ).loc main_arg3) : FVec Ideal S2x6x1024 .f32) (ix3 ⟨R.val / 16384, by omega⟩ 3 k)) j) := by
  obtain ⟨t, a, h, rfl⟩ := split R
  have hb : (⟨(t.val * 512 + a.val) / 16384, by omega⟩ : Fin 2) = ⟨t.val / 32, by omega⟩ := Fin.ext (by show (t.val * 512 + a.val) / 16384 = t.val / 32; omega)
  refine (written10 m c t a j).trans ?_
  rw [out10_eq]
  change @Eq EReal _ _
  rw [pay8_apply]
  rw [hb]
  exact normed_congr (xRow_congr (fun k => block0 m c t a k) (fun k => block1 m c t a k) (fun k => block2 m c t a k) (fun k => block3 m c t 0 2 k)
    (fun k j => (block4 m c t k j).trans ((host_v0 m c _ j).trans (congrArg (fun q => (m ((c : Thread nD τ).loc main_arg4) : FVec Ideal S1024x1024 .f32) (ix2 q j)) (Fin.ext (by show 0 * 512 + k.val = k.val; omega)))))
    (fun k j => (block5 m c t k j).trans ((host_v0 m c _ j).trans (congrArg (fun q => (m ((c : Thread nD τ).loc main_arg4) : FVec Ideal S1024x1024 .f32) (ix2 q j)) (Fin.ext (by show 1 * 512 + k.val = 512 + k.val; omega)))))) (fun k => (block6 m c t 0 k).trans (host_v1 m c k))
    (fun k => block3 m c t 0 4 k) (fun k => block3 m c t 0 3 k) j

/-- The gates after the run. -/
theorem result11_apply (c : Dev nD) (R : Fin 32768) (l : Fin 128) :
    @Eq EReal (((dats m 0 c).arrAt 11 cfg0.N) (ix2 R l))
      (gatesOf (normed (xRow (fun k => (m ((c : Thread nD τ).loc main_arg0) : FVec Ideal S32768x512 .bf16) (ix2 R k)) (fun k => (m ((c : Thread nD τ).loc main_arg1) : FVec Ideal S32768x512 .bf16) (ix2 R k)) (fun k => (m ((c : Thread nD τ).loc main_arg2) : FVec Ideal S32768x1024 .f32) (ix2 R k)) (fun k => (m ((c : Thread nD τ).loc main_arg3) : FVec Ideal S2x6x1024 .f32) (ix3 ⟨R.val / 16384, by omega⟩ 2 k))
        (fun k j => (m ((c : Thread nD τ).loc main_arg4) : FVec Ideal S1024x1024 .f32) (ix2 ⟨k.val, by omega⟩ j)) (fun k j => (m ((c : Thread nD τ).loc main_arg4) : FVec Ideal S1024x1024 .f32) (ix2 ⟨512 + k.val, by omega⟩ j)))
        (fun k => (m ((c : Thread nD τ).loc main_arg5) : FVec Ideal S1024 .f32) (ix1 k)) (fun k => (m ((c : Thread nD τ).loc main_arg3) : FVec Ideal S2x6x1024 .f32) (ix3 ⟨R.val / 16384, by omega⟩ 4 k)) (fun k => (m ((c : Thread nD τ).loc main_arg3) : FVec Ideal S2x6x1024 .f32) (ix3 ⟨R.val / 16384, by omega⟩ 3 k))) (fun k e => (m ((c : Thread nD τ).loc main_arg6) : FVec Ideal S1024x16 .f32) (ix2 k e)) (fun e => (m ((c : Thread nD τ).loc main_arg7) : FVec Ideal S16 .f32) (ix1 e)) l) := by
  obtain ⟨t, a, h, rfl⟩ := split R
  have hb : (⟨(t.val * 512 + a.val) / 16384, by omega⟩ : Fin 2) = ⟨t.val / 32, by omega⟩ := Fin.ext (by show (t.val * 512 + a.val) / 16384 = t.val / 32; omega)
  refine (written11 m c t a l).trans ?_
  change @Eq EReal _ _
  rw [out11_apply]
  rw [hb]
  exact gatesOf_congr (normed_congr (xRow_congr (fun k => block0 m c t a k) (fun k => block1 m c t a k) (fun k => block2 m c t a k) (fun k => block3 m c t 0 2 k)
    (fun k j => (block4 m c t k j).trans ((host_v0 m c _ j).trans (congrArg (fun q => (m ((c : Thread nD τ).loc main_arg4) : FVec Ideal S1024x1024 .f32) (ix2 q j)) (Fin.ext (by show 0 * 512 + k.val = k.val; omega)))))
    (fun k j => (block5 m c t k j).trans ((host_v0 m c _ j).trans (congrArg (fun q => (m ((c : Thread nD τ).loc main_arg4) : FVec Ideal S1024x1024 .f32) (ix2 q j)) (Fin.ext (by show 1 * 512 + k.val = 512 + k.val; omega)))))) (fun k => (block6 m c t 0 k).trans (host_v1 m c k))
    (fun k => block3 m c t 0 4 k) (fun k => block3 m c t 0 3 k)) (fun k e => (block7 m c t k _).trans (host_v2 m c k e))
    (fun e => (block8 m c t e 0).trans (host_v3 m c e)) l

end Cert.OutIdeal.Hand
-- ==== Proof.Out.RefValue.lean ====
/-
  The plain output projection, norm and router, piece by piece at an index.
-/
module

public import proofs.«01_k».proof.Proof.Gen.OutRefIdeal.Run
public import proofs.«01_k».proof.Proof.Common
public import proofs.«01_k».proof.Proof.Out.Router

@[expose] public section

set_option maxRecDepth 16384

noncomputable section

namespace Cert.OutRefIdeal.Hand

open Cert.Hand Cert.OutRefIdeal Cert.OutRefIdeal.Gen Idealize.ShloMosaic Idealize.SL.Sem

def mix3 (a b : FVec Ideal S32768x512 .bf16) : FVec Ideal S2x16384x1024 .f32 :=
  shapeCast _ (extf .f32 (concatenate S32768x1024 1 [⟨S32768x512, a⟩, ⟨S32768x512, b⟩] concatenates_S32768x512_S32768x512_S32768x1024_d1) bitsLt_bf16_f32) shapeCasts_S32768x1024_S2x16384x1024

def x3 (M : FVec Ideal S2x16384x1024 .f32) (x : FVec Ideal S32768x1024 .f32) (mo : FVec Ideal S2x6x1024 .f32) (w : FVec Ideal S1024x1024 .f32) : FVec Ideal S2x16384x1024 .f32 :=
  addf (shapeCast _ x shapeCasts_S32768x1024_S2x16384x1024) (mulf (broadcastInDim S2x16384x1024 ![0, 1, 2] bcast_S2x1x1024_S2x16384x1024_0_1_2 (extractStridedSlice S2x1x1024 ![0, 2, 0] mo slices_S2x6x1024_S2x1x1024_0_2_0)) (Host.dotGeneral dot_S2x16384x1024_S1024x1024_S2x16384x1024_2_0_01_1_n_n none M w))

def h3 (X : FVec Ideal S2x16384x1024 .f32) (mo : FVec Ideal S2x6x1024 .f32) (g : FVec Ideal S1024 .f32) : FVec Ideal S2x16384x1024 .f32 :=
  addf (mulf (mulf (mulf X (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf X X) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))) (broadcastInDim S2x16384x1024 ![0, 1, 2] bcast_S2x1x1024_S2x16384x1024_0_1_2 (addf (broadcastInDim S2x1x1024 ![] bcast_S_S2x1x1024 (constant S_ .f32 0x3F800000#32)) (extractStridedSlice S2x1x1024 ![0, 4, 0] mo slices_S2x6x1024_S2x1x1024_0_4_0)))) (broadcastInDim S2x16384x1024 ![0, 1, 2] bcast_S2x1x1024_S2x16384x1024_0_1_2 (extractStridedSlice S2x1x1024 ![0, 3, 0] mo slices_S2x6x1024_S2x1x1024_0_3_0))

def s3 (H : FVec Ideal S2x16384x1024 .f32) (rw : FVec Ideal S1024x16 .f32) : FVec Ideal S2x16384x16 .f32 :=
  Host.divf (broadcastInDim S2x16384x16 ![] bcast_S_S2x16384x16 (constant S_ .f32 0x3F800000#32)) (addf (broadcastInDim S2x16384x16 ![] bcast_S_S2x16384x16 (constant S_ .f32 0x3F800000#32)) (Host.exp (Host.negf (Host.dotGeneral dot_S2x16384x1024_S1024x16_S2x16384x16_2_0_01_1_n_n none H rw))))

def b3 (S : FVec Ideal S2x16384x16 .f32) (rb : FVec Ideal S16 .f32) : FVec Ideal S2x16384x16 .f32 :=
  addf S (broadcastInDim S2x16384x16 ![0, 1, 2] bcast_S1x1x16_S2x16384x16_0_1_2 (broadcastInDim S1x1x16 ![2] bcast_S16_S1x1x16_2 rb))

def tv3 (B : FVec Ideal S2x16384x16 .f32) : FVec Ideal S2x16384x4x2 .f32 :=
  (Host.topK S2x16384x4x2 3 (FloatOps.cmpfTotal .gt) (shapeCast _ B shapeCasts_S2x16384x16_S2x16384x4x4) sliceFits_S2x16384x4x4_S2x16384x4x2).1

def gs3 (T : FVec Ideal S2x16384x4x2 .f32) : FVec Ideal S2x16384x4 .f32 :=
  Host.reduceAdd T (constant S_ .f32 0x00000000#32) reducesTo_S2x16384x4x2_S2x16384x4_d3 h_S_

def ti3 (Q : FVec Ideal S2x16384x4 .f32) : IVec S2x16384x1 32 :=
  (Host.topK S2x16384x1 2 (FloatOps.cmpfTotal .gt) Q sliceFits_S2x16384x4_S2x16384x1).2

def grp  : IVec S16 32 :=
  select (andi (cmpi .ne (signi (iotaInDim S16 32 0)) (broadcastInDim S16 ![] bcast_S_S16 (signi (id (constantI S_ 32 4#32))))) (cmpi .ne (Host.remsi (iotaInDim S16 32 0) (broadcastInDim S16 ![] bcast_S_S16 (id (constantI S_ 32 4#32)))) (broadcastInDim S16 ![] bcast_S_S16 (constantI S_ 32 0#32)))) (subi (Host.divsi (iotaInDim S16 32 0) (broadcastInDim S16 ![] bcast_S_S16 (id (constantI S_ 32 4#32)))) (broadcastInDim S16 ![] bcast_S_S16 (constantI S_ 32 1#32))) (Host.divsi (iotaInDim S16 32 0) (broadcastInDim S16 ![] bcast_S_S16 (id (constantI S_ 32 4#32))))

def mk3 (I : IVec S2x16384x1 32) (B : FVec Ideal S2x16384x16 .f32) : FVec Ideal S2x16384x16 .f32 :=
  select (cmpi .eq (broadcastInDim S2x16384x16 ![0, 1, 2] bcast_S1x1x16_S2x16384x16_0_1_2 (broadcastInDim S1x1x16 ![2] bcast_S16_S1x1x16_2 grp)) (broadcastInDim S2x16384x16 ![0, 1, 2] bcast_S2x16384x1_S2x16384x16_0_1_2 (broadcastInDim S2x16384x1 ![0, 1] bcast_S2x16384_S2x16384x1_0_1 (shapeCast _ I shapeCasts_S2x16384x1_S2x16384)))) B (broadcastInDim S2x16384x16 ![] bcast_S_S2x16384x16 (id (constant S_ .f32 0xFF800000#32)))

def to3 (K : FVec Ideal S2x16384x16 .f32) : IVec S2x16384x2 32 :=
  (Host.topK S2x16384x2 2 (FloatOps.cmpfTotal .gt) K sliceFits_S2x16384x16_S2x16384x2).2

def ch3 (O : IVec S2x16384x2 32) : FVec Ideal S2x16384x16 .f32 :=
  Host.reduceAdd (uitofp .f32 (cmpi .eq (broadcastInDim S2x16384x2x16 ![0, 1, 2, 3] bcast_S2x16384x2x1_S2x16384x2x16_0_1_2_3 (broadcastInDim S2x16384x2x1 ![0, 1, 2] bcast_S2x16384x2_S2x16384x2x1_0_1_2 O)) (broadcastInDim S2x16384x2x16 ![0, 1, 2, 3] bcast_S1x1x1x16_S2x16384x2x16_0_1_2_3 (iotaInDim S1x1x1x16 32 3)))) (constant S_ .f32 0x00000000#32) reducesTo_S2x16384x2x16_S2x16384x16_d2 h_S_

def gt3 (S C : FVec Ideal S2x16384x16 .f32) : FVec Ideal S32768x128 .f32 :=
  shapeCast _ (Host.divf (pad S2x16384x128 ![0, 0, 0] ![0, 0, 112] ![0, 0, 0] (mulf S C) (sitofp .f32 (constantI S_ 32 0#32)) pads_S2x16384x16_S2x16384x128_000_000_01120 h_S_) (broadcastInDim S2x16384x128 ![0, 1, 2] bcast_S2x16384x1_S2x16384x128_0_1_2 (broadcastInDim S2x16384x1 ![0, 1] bcast_S2x16384_S2x16384x1_0_1 (Host.reduceAdd (pad S2x16384x128 ![0, 0, 0] ![0, 0, 112] ![0, 0, 0] (mulf S C) (sitofp .f32 (constantI S_ 32 0#32)) pads_S2x16384x16_S2x16384x128_000_000_01120 h_S_) (constant S_ .f32 0x00000000#32) reducesTo_S2x16384x128_S2x16384_d2 h_S_)))) shapeCasts_S2x16384x128_S32768x128

theorem neg_inf : Ideal.ofBits FTy.f32 0xFF800000#32 = ⊥ := by
  simp [Ideal.ofBits, Ideal.ieee]

theorem one_hot (a b : BitVec 32) : (FloatOps.uitofp (F := Ideal) FTy.f32 (IntOp.cmpi CmpIPredicate.eq a b) : EReal) = if a = b then 1 else 0 := by
  unfold IntOp.cmpi
  by_cases h : a = b
  · simp [h, FloatOps.uitofp]
  · simp [h, FloatOps.uitofp]

theorem mix3_apply (a b : FVec Ideal S32768x512 .bf16) (t : Fin 2) (i : Fin 16384) (k : Fin 1024) :
    mix3 a b (ix3 t i k) = if h : k.val < 512 then a (ix2 ⟨t.val * 16384 + i.val, by omega⟩ ⟨k.val, h⟩)
      else b (ix2 ⟨t.val * 16384 + i.val, by omega⟩ ⟨k.val - 512, by omega⟩) := by
  pointwise [mix3]

theorem x3_apply (M : FVec Ideal S2x16384x1024 .f32) (x : FVec Ideal S32768x1024 .f32) (mo : FVec Ideal S2x6x1024 .f32) (w : FVec Ideal S1024x1024 .f32) (t : Fin 2) (i : Fin 16384) (j : Fin 1024) :
    x3 M x mo w (ix3 t i j) = x (ix2 ⟨t.val * 16384 + i.val, by omega⟩ j) + mo (ix3 t 2 j) * ∑ k : Fin 1024, M (ix3 t i k) * w (ix2 k j) := by
  pointwise [x3]

theorem h3_apply (X : FVec Ideal S2x16384x1024 .f32) (mo : FVec Ideal S2x6x1024 .f32) (g : FVec Ideal S1024 .f32) (t : Fin 2) (i : Fin 16384) (j : Fin 1024) :
    h3 X mo g (ix3 t i j) = normed (fun k => X (ix3 t i k)) (fun k => g (ix1 k)) (fun k => mo (ix3 t 4 k)) (fun k => mo (ix3 t 3 k)) j := by
  pointwise [h3]
  rfl

theorem s3_apply (H : FVec Ideal S2x16384x1024 .f32) (rw : FVec Ideal S1024x16 .f32) (t : Fin 2) (i : Fin 16384) (e : Fin 16) :
    s3 H rw (ix3 t i e) = Ideal.logistic (∑ k : Fin 1024, H (ix3 t i k) * rw (ix2 k e)) := by
  pointwise [s3]
  rfl

theorem b3_apply (S : FVec Ideal S2x16384x16 .f32) (rb : FVec Ideal S16 .f32) (t : Fin 2) (i : Fin 16384) (e : Fin 16) :
    b3 S rb (ix3 t i e) = S (ix3 t i e) + rb (ix1 e) := by
  pointwise [b3]

theorem gs3_apply (T : FVec Ideal S2x16384x4x2 .f32) (t : Fin 2) (i : Fin 16384) (e : Fin 4) :
    gs3 T (ix3 t i e) = T (ix4 t i e 0) + T (ix4 t i e 1) := by
  pointwise [gs3]
  exact Fin.sum_univ_two _

theorem grp_apply (e : Fin 16) : grp (ix1 e) = BitVec.ofNat 32 (e.val / 4) := by
  pointwise [grp]
  fin_cases e <;> decide

theorem mk3_apply (I : IVec S2x16384x1 32) (B : FVec Ideal S2x16384x16 .f32) (t : Fin 2) (i : Fin 16384) (e : Fin 16) :
    mk3 I B (ix3 t i e) = if I (ix3 t i 0) = BitVec.ofNat 32 (e.val / 4) then B (ix3 t i e) else ⊥ := by
  pointwise [mk3]
  have hn : (id (constant S_ FTy.f32 4286578688#32) : FVec Ideal S_ .f32) ix0 = (⊥ : EReal) := neg_inf
  rw [grp_apply, hn]
  unfold Scalar.select IntOp.cmpi
  by_cases h : I (ix3 t i 0) = BitVec.ofNat 32 (e.val / 4)
  · simp [h]
  · have h' : (BitVec.ofNat 32 (e.val / 4) == I (ix3 t i 0)) = false := beq_eq_false_iff_ne.mpr (Ne.symm h)
    simp [h, h']

theorem ch3_apply (O : IVec S2x16384x2 32) (t : Fin 2) (i : Fin 16384) (e : Fin 16) :
    ch3 O (ix3 t i e) = (if O (ix3 t i 0) = BitVec.ofNat 32 e.val then 1 else 0) + (if O (ix3 t i 1) = BitVec.ofNat 32 e.val then 1 else 0) := by
  pointwise [ch3]
  rw [Fin.sum_univ_two, one_hot, one_hot]

theorem gt3_apply (S C : FVec Ideal S2x16384x16 .f32) (R : Fin 32768) (l : Fin 128) :
    gt3 S C (ix2 R l) = Ideal.div (if h : l.val < 16 then S (ix3 ⟨R.val / 16384, by omega⟩ ⟨R.val % 16384, by omega⟩ ⟨l.val, h⟩) * C (ix3 ⟨R.val / 16384, by omega⟩ ⟨R.val % 16384, by omega⟩ ⟨l.val, h⟩) else 0)
      (∑ e : Fin 16, S (ix3 ⟨R.val / 16384, by omega⟩ ⟨R.val % 16384, by omega⟩ e) * C (ix3 ⟨R.val / 16384, by omega⟩ ⟨R.val % 16384, by omega⟩ e)) := by
  pointwise [gt3]
  have hz : (FloatOps.sitofp (F := Ideal) FTy.f32 (0#32) : EReal) = 0 := by
    show ((((0#32).toInt : ℝ)) : EReal) = 0
    simp
  have h1 : R.val / 16384 < 2 := by omega
  have h2 : R.val % 16384 < 16384 := by omega
  simp only [h1, h2, true_and, and_true, and_false, dif_pos, dite_false, hz, Finset.sum_const_zero, add_zero, and_self]

/-- Which of two positions is the greater entry's. -/
def order {n : Nat} (f : Fin n → EReal) (k k' : Fin n) : Bool := FloatOps.cmpfTotal (F := Ideal) (φ := .f32) .gt (f k) (f k') == 1#1

theorem order_iff {n : Nat} (f : Fin n → EReal) (k k' : Fin n) : order f k k' = true ↔ f k' < f k := by
  show (Ideal.cmp .ogt (f k) (f k') == 1#1) = true ↔ f k' < f k
  unfold Ideal.cmp
  by_cases h : f k' < f k <;> simp [h]

theorem topK4 (Y : FVec Ideal S2x16384x4x4 .f32) (t : Fin 2) (i : Fin 16384) (e : Fin 4) (k : Fin 2) :
    (Host.topK S2x16384x4x2 3 (FloatOps.cmpfTotal .gt) Y sliceFits_S2x16384x4x4_S2x16384x4x2).1 (ix4 t i e k)
      = Y (ix4 t i e (sortedFrom (order fun q => Y (ix4 t i e q)) ⟨k.val, by omega⟩)) := by
  have al : ∀ (k q : Fin 4), (ix4 t i e k : S2x16384x4x4.Idx).along (3 : Fin 4) q = ix4 t i e q := fun k q =>
    funext fun a => by fin_cases a <;> rfl
  unfold Host.topK Host.sort2
  dsimp only
  rw [dif_pos (show 3 < S2x16384x4x4.rank from by decide)]
  pointwise []
  simp only [al]

  rfl

theorem topK1 (Y : FVec Ideal S2x16384x4 .f32) (t : Fin 2) (i : Fin 16384) :
    (Host.topK S2x16384x1 2 (FloatOps.cmpfTotal .gt) Y sliceFits_S2x16384x4_S2x16384x1).2 (ix3 t i 0)
      = BitVec.ofNat 32 (sortedFrom (order fun q => Y (ix3 t i q)) 0).val := by
  have al : ∀ (k q : Fin 4), (ix3 t i k : S2x16384x4.Idx).along (2 : Fin 3) q = ix3 t i q := fun k q =>
    funext fun a => by fin_cases a <;> rfl
  unfold Host.topK Host.sort2
  dsimp only
  rw [dif_pos (show 2 < S2x16384x4.rank from by decide)]
  pointwise []
  simp only [al]

  rfl

theorem topK2 (Y : FVec Ideal S2x16384x16 .f32) (t : Fin 2) (i : Fin 16384) (k : Fin 2) :
    (Host.topK S2x16384x2 2 (FloatOps.cmpfTotal .gt) Y sliceFits_S2x16384x16_S2x16384x2).2 (ix3 t i k)
      = BitVec.ofNat 32 (sortedFrom (order fun q => Y (ix3 t i q)) ⟨k.val, by omega⟩).val := by
  have al : ∀ (k q : Fin 16), (ix3 t i k : S2x16384x16.Idx).along (2 : Fin 3) q = ix3 t i q := fun k q =>
    funext fun a => by fin_cases a <;> rfl
  unfold Host.topK Host.sort2
  dsimp only
  rw [dif_pos (show 2 < S2x16384x16.rank from by decide)]
  pointwise []
  simp only [al]

  rfl

/-- The top two of a group add to the group's score. -/
theorem group_apply (B : FVec Ideal S2x16384x16 .f32) (t : Fin 2) (i : Fin 16384) (e : Fin 4) :
    gs3 (tv3 B) (ix3 t i e) = groupScore (fun k => B (ix3 t i k)) e := by
  rw [gs3_apply]
  unfold tv3
  rw [topK4, topK4]
  refine (topTwo_sorted (f := fun q => (shapeCast S2x16384x4x4 B shapeCasts_S2x16384x16_S2x16384x4x4) (ix4 t i e q)) (order_iff _)).trans ?_
  pointwise []
  unfold groupScore
  simp only [Nat.mul_comm e.val 4]

/-- The word the group choice leaves. -/
theorem best_apply (B : FVec Ideal S2x16384x16 .f32) (t : Fin 2) (i : Fin 16384) :
    ti3 (gs3 (tv3 B)) (ix3 t i 0) = BitVec.ofNat 32 (bestGroup fun k => B (ix3 t i k)).val := by
  unfold ti3
  rw [topK1, firstBest_sorted (order_iff _)]
  simp only [group_apply]
  rfl

theorem masked_apply (B : FVec Ideal S2x16384x16 .f32) (t : Fin 2) (i : Fin 16384) (e : Fin 16) :
    mk3 (ti3 (gs3 (tv3 B))) B (ix3 t i e) = masked (fun k => B (ix3 t i k)) e := by
  rw [mk3_apply, best_apply]
  unfold masked
  classical exact if_congr ((bits32_inj (by decide : 4 ≤ 16) _ (⟨e.val / 4, by omega⟩ : Fin 4)).trans Fin.ext_iff) rfl rfl

open Classical in
theorem chosen_apply (B : FVec Ideal S2x16384x16 .f32) (t : Fin 2) (i : Fin 16384) (e : Fin 16) :
    ch3 (to3 (mk3 (ti3 (gs3 (tv3 B))) B)) (ix3 t i e) = if Chosen (fun k => B (ix3 t i k)) e then (1 : EReal) else 0 := by
  rw [ch3_apply]
  unfold to3
  rw [topK2, topK2]
  have hf : (fun q => mk3 (ti3 (gs3 (tv3 B))) B (ix3 t i q)) = masked (fun k => B (ix3 t i k)) := funext (masked_apply B t i)
  refine Eq.trans ?_ (one_hots (fun k => B (ix3 t i k)) (order_iff _) e)
  rw [← hf]
  exact congrArg₂ (· + ·) (if_congr Iff.rfl rfl rfl) (if_congr Iff.rfl rfl rfl)

/-- A row of the projected sum. -/
def xo (a b : FVec Ideal S32768x512 .bf16) (x : FVec Ideal S32768x1024 .f32) (mo : FVec Ideal S2x6x1024 .f32) (w : FVec Ideal S1024x1024 .f32) : FVec Ideal S32768x1024 .f32 :=
  shapeCast _ (x3 (mix3 a b) x mo w) shapeCasts_S2x16384x1024_S32768x1024

/-- The normalized rows. -/
def ho (a b : FVec Ideal S32768x512 .bf16) (x : FVec Ideal S32768x1024 .f32) (mo : FVec Ideal S2x6x1024 .f32) (w : FVec Ideal S1024x1024 .f32) (g : FVec Ideal S1024 .f32) : FVec Ideal S32768x1024 .bf16 :=
  truncf .bf16 (shapeCast _ (h3 (x3 (mix3 a b) x mo w) mo g) shapeCasts_S2x16384x1024_S32768x1024) bitsLt_bf16_f32

/-- The gates. -/
def gate (a b : FVec Ideal S32768x512 .bf16) (x : FVec Ideal S32768x1024 .f32) (mo : FVec Ideal S2x6x1024 .f32) (w : FVec Ideal S1024x1024 .f32) (g : FVec Ideal S1024 .f32) (rw : FVec Ideal S1024x16 .f32) (rb : FVec Ideal S16 .f32) : FVec Ideal S32768x128 .f32 :=
  gt3 (s3 (h3 (x3 (mix3 a b) x mo w) mo g) rw) (ch3 (to3 (mk3 (ti3 (gs3 (tv3 (b3 (s3 (h3 (x3 (mix3 a b) x mo w) mo g) rw) rb)))) (b3 (s3 (h3 (x3 (mix3 a b) x mo w) mo g) rw) rb))))

theorem xrow_apply (a b : FVec Ideal S32768x512 .bf16) (x : FVec Ideal S32768x1024 .f32) (mo : FVec Ideal S2x6x1024 .f32) (w : FVec Ideal S1024x1024 .f32) (R : Fin 32768) (j : Fin 1024) :
    x3 (mix3 a b) x mo w (ix3 ⟨R.val / 16384, by omega⟩ ⟨R.val % 16384, by omega⟩ j) = xRow (fun k => a (ix2 R k)) (fun k => b (ix2 R k)) (fun k => x (ix2 R k)) (fun k => mo (ix3 ⟨R.val / 16384, by omega⟩ 2 k))
        (fun k j => w (ix2 ⟨k.val, by omega⟩ j)) (fun k j => w (ix2 ⟨512 + k.val, by omega⟩ j)) j := by
  rw [x3_apply]
  simp only [mix3_apply]
  have hR : ∀ h, (⟨R.val / 16384 * 16384 + R.val % 16384, h⟩ : Fin 32768) = R := fun h => Fin.ext (Nat.div_add_mod' _ _)
  simp only [hR]
  unfold xRow
  refine congrArg (fun z => x (ix2 R j) + mo (ix3 _ 2 j) * z) ?_
  refine (Fin.sum_univ_add (a := 512) (b := 512) _).trans (congrArg₂ (· + ·) ?_ ?_)
  · refine Finset.sum_congr rfl fun k _ => ?_
    rw [dif_pos (show (Fin.castAdd 512 k).val < 512 from k.isLt)]
    rfl
  · refine Finset.sum_congr rfl fun k _ => ?_
    rw [dif_neg (show ¬(Fin.natAdd 512 k).val < 512 from Nat.not_lt.mpr (Nat.le_add_right 512 k.val))]
    refine congrArg₂ (· * ·) (congrArg (fun q => b (ix2 R q)) (Fin.ext ?_)) rfl
    show 512 + k.val - 512 = k.val
    omega

theorem hrow_apply (a b : FVec Ideal S32768x512 .bf16) (x : FVec Ideal S32768x1024 .f32) (mo : FVec Ideal S2x6x1024 .f32) (w : FVec Ideal S1024x1024 .f32) (g : FVec Ideal S1024 .f32) (R : Fin 32768) (j : Fin 1024) :
    h3 (x3 (mix3 a b) x mo w) mo g (ix3 ⟨R.val / 16384, by omega⟩ ⟨R.val % 16384, by omega⟩ j) = normed (xRow (fun k => a (ix2 R k)) (fun k => b (ix2 R k)) (fun k => x (ix2 R k)) (fun k => mo (ix3 ⟨R.val / 16384, by omega⟩ 2 k))
        (fun k j => w (ix2 ⟨k.val, by omega⟩ j)) (fun k j => w (ix2 ⟨512 + k.val, by omega⟩ j)))
        (fun k => g (ix1 k)) (fun k => mo (ix3 ⟨R.val / 16384, by omega⟩ 4 k)) (fun k => mo (ix3 ⟨R.val / 16384, by omega⟩ 3 k)) j := by
  rw [h3_apply]
  exact normed_congr (xrow_apply a b x mo w R) (fun _ => rfl) (fun _ => rfl) (fun _ => rfl) j

theorem xo_apply (a b : FVec Ideal S32768x512 .bf16) (x : FVec Ideal S32768x1024 .f32) (mo : FVec Ideal S2x6x1024 .f32) (w : FVec Ideal S1024x1024 .f32) (R : Fin 32768) (j : Fin 1024) :
    xo a b x mo w (ix2 R j) = xRow (fun k => a (ix2 R k)) (fun k => b (ix2 R k)) (fun k => x (ix2 R k)) (fun k => mo (ix3 ⟨R.val / 16384, by omega⟩ 2 k))
        (fun k j => w (ix2 ⟨k.val, by omega⟩ j)) (fun k j => w (ix2 ⟨512 + k.val, by omega⟩ j)) j := by
  refine Eq.trans ?_ (xrow_apply a b x mo w R j)
  pointwise [xo]

theorem ho_apply (a b : FVec Ideal S32768x512 .bf16) (x : FVec Ideal S32768x1024 .f32) (mo : FVec Ideal S2x6x1024 .f32) (w : FVec Ideal S1024x1024 .f32) (g : FVec Ideal S1024 .f32) (R : Fin 32768) (j : Fin 1024) :
    ho a b x mo w g (ix2 R j) = normed (xRow (fun k => a (ix2 R k)) (fun k => b (ix2 R k)) (fun k => x (ix2 R k)) (fun k => mo (ix3 ⟨R.val / 16384, by omega⟩ 2 k))
        (fun k j => w (ix2 ⟨k.val, by omega⟩ j)) (fun k j => w (ix2 ⟨512 + k.val, by omega⟩ j)))
        (fun k => g (ix1 k)) (fun k => mo (ix3 ⟨R.val / 16384, by omega⟩ 4 k)) (fun k => mo (ix3 ⟨R.val / 16384, by omega⟩ 3 k)) j := by
  refine Eq.trans ?_ (hrow_apply a b x mo w g R j)
  pointwise [ho]

theorem gated_apply (S B : FVec Ideal S2x16384x16 .f32) (R : Fin 32768) (l : Fin 128) :
    gt3 S (ch3 (to3 (mk3 (ti3 (gs3 (tv3 B))) B))) (ix2 R l)
      = gateOf (fun e => S (ix3 ⟨R.val / 16384, by omega⟩ ⟨R.val % 16384, by omega⟩ e)) (fun e => B (ix3 ⟨R.val / 16384, by omega⟩ ⟨R.val % 16384, by omega⟩ e)) l := by
  rw [gt3_apply]
  simp only [chosen_apply, mul_ite, mul_one, mul_zero]
  rfl

theorem gate_apply (a b : FVec Ideal S32768x512 .bf16) (x : FVec Ideal S32768x1024 .f32) (mo : FVec Ideal S2x6x1024 .f32) (w : FVec Ideal S1024x1024 .f32) (g : FVec Ideal S1024 .f32) (rw : FVec Ideal S1024x16 .f32) (rb : FVec Ideal S16 .f32) (R : Fin 32768) (l : Fin 128) :
    gate a b x mo w g rw rb (ix2 R l) = gatesOf (normed (xRow (fun k => a (ix2 R k)) (fun k => b (ix2 R k)) (fun k => x (ix2 R k)) (fun k => mo (ix3 ⟨R.val / 16384, by omega⟩ 2 k))
        (fun k j => w (ix2 ⟨k.val, by omega⟩ j)) (fun k j => w (ix2 ⟨512 + k.val, by omega⟩ j)))
        (fun k => g (ix1 k)) (fun k => mo (ix3 ⟨R.val / 16384, by omega⟩ 4 k)) (fun k => mo (ix3 ⟨R.val / 16384, by omega⟩ 3 k))) (fun k e => rw (ix2 k e)) (fun e => rb (ix1 e)) l := by
  have hs : ∀ e : Fin 16, s3 (h3 (x3 (mix3 a b) x mo w) mo g) rw (ix3 ⟨R.val / 16384, by omega⟩ ⟨R.val % 16384, by omega⟩ e) = score (normed (xRow (fun k => a (ix2 R k)) (fun k => b (ix2 R k)) (fun k => x (ix2 R k)) (fun k => mo (ix3 ⟨R.val / 16384, by omega⟩ 2 k))
        (fun k j => w (ix2 ⟨k.val, by omega⟩ j)) (fun k j => w (ix2 ⟨512 + k.val, by omega⟩ j)))
        (fun k => g (ix1 k)) (fun k => mo (ix3 ⟨R.val / 16384, by omega⟩ 4 k)) (fun k => mo (ix3 ⟨R.val / 16384, by omega⟩ 3 k))) (fun k e => rw (ix2 k e)) e := by
    intro e
    rw [s3_apply]
    exact congrArg Ideal.logistic (Finset.sum_congr rfl fun k _ => congrArg (· * _) (hrow_apply a b x mo w g R k))
  have hb : (fun e : Fin 16 => (b3 (s3 (h3 (x3 (mix3 a b) x mo w) mo g) rw) rb (ix3 ⟨R.val / 16384, by omega⟩ ⟨R.val % 16384, by omega⟩ e) : EReal)) = fun e => score (normed (xRow (fun k => a (ix2 R k)) (fun k => b (ix2 R k)) (fun k => x (ix2 R k)) (fun k => mo (ix3 ⟨R.val / 16384, by omega⟩ 2 k))
        (fun k j => w (ix2 ⟨k.val, by omega⟩ j)) (fun k j => w (ix2 ⟨512 + k.val, by omega⟩ j)))
        (fun k => g (ix1 k)) (fun k => mo (ix3 ⟨R.val / 16384, by omega⟩ 4 k)) (fun k => mo (ix3 ⟨R.val / 16384, by omega⟩ 3 k))) (fun k e => rw (ix2 k e)) e + rb (ix1 e) :=
    funext fun e => (b3_apply _ _ _ _ _).trans (congrArg (· + _) (hs e))
  unfold gate
  refine (gated_apply _ _ R l).trans ?_
  exact congrArg₂ (fun s b => gateOf s b l) (funext hs) hb

end Cert.OutRefIdeal.Hand
-- ==== Proof.Att.Head.lean ====
/-
  The values a grid point of the attention stores, head by head.
-/
module

public import proofs.«01_k».proof.Proof.Gen.AttIdeal.Frame
public import Idealize.ShloMosaic.Lib.Pointwise
public import Idealize.ShloMosaic.Lib.Tactic

@[expose] public section

set_option maxRecDepth 16384

noncomputable section

namespace Cert.AttIdeal.Hand

open Cert.AttIdeal Cert.AttIdeal.Gen Idealize.ShloMosaic Idealize.ShloMosaic.TcCoe Idealize.SL.Sem

variable {F : FTy → Type} [FloatOps F]

/-- A block of scores: the products of queries and keys, and the biases. -/
def scores (q k : Vec F S256x128 .bf16) (b : Vec F S1x1x256x256 .bf16) : FVec F S256x256 .f32 :=
  addf (matmul dot_S256x128_S256x128_S256x256_1_1_0_0_n_n none q k (constant S256x256 .f32 0x00000000#32))
    (extf .f32 (shapeCast S256x256 b shapeCasts_S1x1x256x256_S256x256 : FVec F S256x256 .bf16) bitsLt_bf16_f32)

/-- A block's greatest score of each query. -/
def most (s : FVec F S256x256 .f32) : FVec F S256x1 .f32 :=
  shapeCast S256x1 (multiReduction .maximumf [1] S256 s 0xFF800000#32 reduces_S256x256_S256 (.inl rfl) rfl) shapeCasts_S256_S256x1

/-- The three blocks' greatest score. -/
def top (s0 s1 s2 : FVec F S256x256 .f32) : FVec F S256x1 .f32 := maximumf (maximumf (most s0) (most s1)) (most s2)

/-- The exponentials of the scores less the greatest. -/
def weight (s : FVec F S256x256 .f32) (t : FVec F S256x1 .f32) : FVec F S256x256 .f32 := exp (subf s (broadcastTo S256x256 t broadcasts_S256x1_S256x256))

def added (w : FVec F S256x256 .f32) : FVec F S256x1 .f32 :=
  shapeCast S256x1 (multiReduction .add [1] S256 w 0x00000000#32 reduces_S256x256_S256 (.inl rfl) rfl) shapeCasts_S256_S256x1

def carried (w : FVec F S256x256 .f32) (v : Vec F S256x128 .bf16) : FVec F S256x128 .f32 :=
  matmul dot_S256x256_S256x128_S256x128_1_0_0_1_n_n none (truncf .bf16 w bitsLt_bf16_f32) v (constant S256x128 .f32 0x00000000#32)

/-- A head's result: the weighted sum of the values over the sum of the weights. -/
def head (s0 s1 s2 : FVec F S256x256 .f32) (v0 v1 v2 : Vec F S256x128 .bf16) : FVec F S256x128 .f32 :=
  divf (addf (addf (carried (weight s0 (top s0 s1 s2)) v0) (carried (weight s1 (top s0 s1 s2)) v1)) (carried (weight s2 (top s0 s1 s2)) v2))
    (broadcastTo S256x128 (addf (addf (added (weight s0 (top s0 s1 s2))) (added (weight s1 (top s0 s1 s2)))) (added (weight s2 (top s0 s1 s2)))) broadcasts_S256x1_S256x128)

/-- Two heads' results side by side. -/
def pair (q k0 k1 k2 v0 v1 v2 : Vec F S256x128 .bf16) (a0 a1 a2 b0 b1 b2 : Vec F S1x1x256x256 .bf16) : FVec F S256x128 .bf16 :=
  truncf .bf16 (select k0_pay2
    (head (scores (k0_pay3 q) k0 a0) (scores (k0_pay3 q) k1 a1) (scores (k0_pay3 q) k2 a2) v0 v1 v2)
    (head (scores (k0_pay10 k0_pay2 q) k0 b0) (scores (k0_pay10 k0_pay2 q) k1 b1) (scores (k0_pay10 k0_pay2 q) k2 b2) v0 v1 v2)) bitsLt_bf16_f32

/-- What the body leaves in the output block: four pairs of heads. -/
theorem out_eq (x0 : Vec F S256x512 .bf16) (x1 : Vec F S256x512 .bf16) (x2 : Vec F S256x512 .bf16) (x3 : Vec F S256x512 .bf16) (x4 : Vec F S256x512 .bf16) (x5 : Vec F S256x512 .bf16) (x6 : Vec F S256x512 .bf16) (x7 : Vec F S1x8x256x768 .bf16) :
    out0_8 x0 x1 x2 x3 x4 x5 x6 x7 = View.canon [⟨r0_21, pair (View.ld x0 r0_21) (View.ld x1 r0_21) (View.ld x2 r0_21) (View.ld x3 r0_21) (View.ld x4 r0_21) (View.ld x5 r0_21) (View.ld x6 r0_21) (View.ld x7 r0_22) (View.ld x7 r0_23) (View.ld x7 r0_24) (View.ld x7 r0_25) (View.ld x7 r0_26) (View.ld x7 r0_27)⟩,
      ⟨r0_14, pair (View.ld x0 r0_14) (View.ld x1 r0_14) (View.ld x2 r0_14) (View.ld x3 r0_14) (View.ld x4 r0_14) (View.ld x5 r0_14) (View.ld x6 r0_14) (View.ld x7 r0_15) (View.ld x7 r0_16) (View.ld x7 r0_17) (View.ld x7 r0_18) (View.ld x7 r0_19) (View.ld x7 r0_20)⟩,
      ⟨r0_7, pair (View.ld x0 r0_7) (View.ld x1 r0_7) (View.ld x2 r0_7) (View.ld x3 r0_7) (View.ld x4 r0_7) (View.ld x5 r0_7) (View.ld x6 r0_7) (View.ld x7 r0_8) (View.ld x7 r0_9) (View.ld x7 r0_10) (View.ld x7 r0_11) (View.ld x7 r0_12) (View.ld x7 r0_13)⟩,
      ⟨r0_0, pair (View.ld x0 r0_0) (View.ld x1 r0_0) (View.ld x2 r0_0) (View.ld x3 r0_0) (View.ld x4 r0_0) (View.ld x5 r0_0) (View.ld x6 r0_0) (View.ld x7 r0_1) (View.ld x7 r0_2) (View.ld x7 r0_3) (View.ld x7 r0_4) (View.ld x7 r0_5) (View.ld x7 r0_6)⟩] := rfl

end Cert.AttIdeal.Hand
-- ==== Proof.Att.Sum.lean ====
/-
  Softmax over three blocks of keys and over their union.
-/
module

public import proofs.«01_k».proof.Proof.Common

@[expose] public section

set_option maxRecDepth 16384

noncomputable section

namespace Cert.Hand

open Idealize.ShloMosaic

/-- The greatest of finitely many. -/
def greatest {n : Nat} (s : Fin n → EReal) : EReal := Finset.univ.fold (FloatOps.maximumf (F := Ideal) (φ := FTy.f32)) (⊥ : EReal) s

/-- A sum over 128 by halves. -/
theorem sum_halves (f : Fin 128 → EReal) : ∑ e, f e = (∑ e : Fin 64, f ⟨e.val, by omega⟩) + ∑ e : Fin 64, f ⟨64 + e.val, by omega⟩ :=
  Fin.sum_univ_add (a := 64) (b := 64) f

/-- A sum over 768 by thirds. -/
theorem sum_thirds (f : Fin 768 → EReal) :
    ∑ k, f k = (∑ k : Fin 256, f ⟨0 + k.val, by omega⟩) + (∑ k : Fin 256, f ⟨256 + k.val, by omega⟩) + ∑ k : Fin 256, f ⟨512 + k.val, by omega⟩ := by
  have e := Fin.sum_univ_add (a := 512) (b := 256) f
  have e' := Fin.sum_univ_add (a := 256) (b := 256) fun i : Fin 512 => f (Fin.castAdd 256 i)
  refine e.trans ?_
  rw [e']
  refine congrArg₂ (· + ·) (congrArg₂ (· + ·) (Finset.sum_congr rfl fun k _ => congrArg f (Fin.ext ?_)) rfl) rfl
  show k.val = 0 + k.val
  omega

/-- The word of minus infinity denotes the bottom of the extended reals. -/
theorem neg_inf_word : Ideal.ofBits FTy.f32 0xFF800000#32 = ⊥ := by
  simp [Ideal.ofBits, Ideal.ieee]

theorem greatest_le {n : Nat} (s : Fin n → EReal) (x : EReal) : greatest s ≤ x ↔ ∀ k, s k ≤ x := by
  show Finset.univ.fold max (⊥ : EReal) s ≤ x ↔ _
  rw [Finset.fold_max_le]
  simp

/-- The greatest of 768 is the greatest of its thirds' greatest. -/
theorem greatest_thirds (f : Fin 768 → EReal) :
    greatest f = max (max (greatest fun k : Fin 256 => f ⟨0 + k.val, by omega⟩) (greatest fun k : Fin 256 => f ⟨256 + k.val, by omega⟩))
      (greatest fun k : Fin 256 => f ⟨512 + k.val, by omega⟩) := by
  apply eq_of_forall_ge_iff
  intro x
  rw [max_le_iff, max_le_iff, greatest_le, greatest_le, greatest_le, greatest_le]
  constructor
  · intro h
    exact ⟨⟨fun k => h _, fun k => h _⟩, fun k => h _⟩
  · rintro ⟨⟨h0, h1⟩, h2⟩ k
    by_cases a : k.val < 256
    · have := h0 ⟨k.val, a⟩
      refine le_of_eq_of_le (congrArg f (Fin.ext ?_)) this
      show k.val = 0 + k.val
      omega
    · by_cases b : k.val < 512
      · have := h1 ⟨k.val - 256, by omega⟩
        refine le_of_eq_of_le (congrArg f (Fin.ext ?_)) this
        show k.val = 256 + (k.val - 256)
        omega
      · have := h2 ⟨k.val - 512, by omega⟩
        refine le_of_eq_of_le (congrArg f (Fin.ext ?_)) this
        show k.val = 512 + (k.val - 512)
        omega

/-- Which of the three tables of biases a block of rows takes. -/
def edge (r : Fin 64) : Fin 3 := if r.val = 0 then 0 else if r.val = 63 then 2 else 1

/-- The three blocks' weighted values over the sum of the weights. -/
def blended (s0 s1 s2 v0 v1 v2 : Fin 256 → EReal) : EReal :=
  Ideal.div
    ((∑ k, Ideal.exp (s0 k - max (max (greatest s0) (greatest s1)) (greatest s2)) * v0 k)
      + (∑ k, Ideal.exp (s1 k - max (max (greatest s0) (greatest s1)) (greatest s2)) * v1 k)
      + ∑ k, Ideal.exp (s2 k - max (max (greatest s0) (greatest s1)) (greatest s2)) * v2 k)
    ((∑ k, Ideal.exp (s0 k - max (max (greatest s0) (greatest s1)) (greatest s2)))
      + (∑ k, Ideal.exp (s1 k - max (max (greatest s0) (greatest s1)) (greatest s2)))
      + ∑ k, Ideal.exp (s2 k - max (max (greatest s0) (greatest s1)) (greatest s2)))

/-- The same by softmax: each value by its weight over the sum of the weights. -/
def softened (s v : Fin 768 → EReal) : EReal :=
  ∑ k, v k * Ideal.div (Ideal.exp (s k - greatest s)) (∑ i, Ideal.exp (s i - greatest s))

theorem greatest_real (s : Fin 768 → EReal) (h : ∀ k, s k ≠ ⊤ ∧ s k ≠ ⊥) : greatest s ≠ ⊤ ∧ greatest s ≠ ⊥ := by
  constructor
  · have hm : greatest s < ⊤ := by
      show Finset.univ.fold max (⊥ : EReal) s < ⊤
      rw [Finset.fold_max_lt]
      exact ⟨bot_lt_top, fun k _ => lt_top_iff_ne_top.mpr (h k).1⟩
    exact hm.ne
  · intro e
    have := (greatest_le s ⊥).mp e.le 0
    exact (h 0).2 (le_bot_iff.mp this)

/-- With finite scores the quotients may be taken before the sum over the keys or after. -/
theorem softened_eq (s v : Fin 768 → EReal) (h : ∀ k, s k ≠ ⊤ ∧ s k ≠ ⊥) :
    softened s v = blended (fun k => s ⟨0 + k.val, by omega⟩) (fun k => s ⟨256 + k.val, by omega⟩) (fun k => s ⟨512 + k.val, by omega⟩)
      (fun k => v ⟨0 + k.val, by omega⟩) (fun k => v ⟨256 + k.val, by omega⟩) (fun k => v ⟨512 + k.val, by omega⟩) := by
  have hb : blended (fun k => s ⟨0 + k.val, by omega⟩) (fun k => s ⟨256 + k.val, by omega⟩) (fun k => s ⟨512 + k.val, by omega⟩)
      (fun k => v ⟨0 + k.val, by omega⟩) (fun k => v ⟨256 + k.val, by omega⟩) (fun k => v ⟨512 + k.val, by omega⟩)
      = Ideal.div (∑ k, Ideal.exp (s k - greatest s) * v k) (∑ k, Ideal.exp (s k - greatest s)) := by
    rw [sum_thirds, sum_thirds fun k => Ideal.exp (s k - greatest s), greatest_thirds s]
    rfl
  rw [hb]
  unfold softened
  obtain ⟨ht, hbt⟩ := greatest_real s h
  generalize greatest s = g at ht hbt ⊢
  lift g to ℝ using ⟨ht, hbt⟩
  have he : ∀ k, ∃ p : ℝ, 0 < p ∧ Ideal.exp (s k - (g : EReal)) = (p : EReal) := by
    intro k
    obtain ⟨h1, h2⟩ := h k
    generalize s k = a at h1 h2 ⊢
    lift a to ℝ using ⟨h1, h2⟩
    exact ⟨Real.exp (a - g), Real.exp_pos _, rfl⟩
  choose p hp hpe using he
  simp only [hpe]
  have hs : (∑ k, ((p k : ℝ) : EReal)) = ((∑ k, p k : ℝ) : EReal) := by
    induction (Finset.univ : Finset (Fin 768)) using Finset.induction_on with
    | empty => simp
    | insert a t ha ih => rw [Finset.sum_insert ha, Finset.sum_insert ha, ih, EReal.coe_add]
  rw [hs]
  have hl : 0 < ∑ k, p k := Finset.sum_pos (fun k _ => hp k) ⟨0, Finset.mem_univ _⟩
  generalize (∑ k, p k) = l at hl ⊢
  have hn : (l : EReal) ≠ 0 := by
    intro e
    exact hl.ne' (EReal.coe_eq_zero.mp e)
  have hd : ∀ x : EReal, Ideal.div x (l : EReal) = x * ((l⁻¹ : ℝ) : EReal) := by
    intro x
    unfold Ideal.div
    rw [if_neg hn, EReal.coe_inv]
  simp only [hd]
  rw [sum_mul_real _ _ _ (inv_nonneg.mpr hl.le)]
  refine Finset.sum_congr rfl fun k _ => ?_
  rw [← mul_assoc, mul_comm (v k)]

end Cert.Hand
-- ==== Proof.Att.Read.lean ====
/-
  A head of the attention read at an index.
-/
module

public import proofs.«01_k».proof.Proof.Att.Head
public import proofs.«01_k».proof.Proof.Att.Sum

@[expose] public section

set_option maxRecDepth 16384

noncomputable section

namespace Cert.AttIdeal.Hand

open Cert.Hand Cert.AttIdeal Cert.AttIdeal.Gen Idealize.ShloMosaic Idealize.ShloMosaic.TcCoe Idealize.SL.Sem

theorem scores_apply (q k : Vec Ideal S256x128 .bf16) (b : Vec Ideal S1x1x256x256 .bf16) (r s : Fin 256) :
    scores q k b (ix2 r s) = (∑ e : Fin 128, q (ix2 r e) * k (ix2 s e)) + b (ix4 0 0 r s) := by
  pointwise [scores]

theorem most_apply (s : FVec Ideal S256x256 .f32) (r : Fin 256) : most s (ix2 r 0) = greatest (fun k => s (ix2 r k)) := by
  unfold greatest
  rw [← neg_inf_word]
  pointwise [most]

theorem added_apply (w : FVec Ideal S256x256 .f32) (r : Fin 256) : added w (ix2 r 0) = ∑ k : Fin 256, w (ix2 r k) := by
  pointwise [added]

theorem weight_apply (s : FVec Ideal S256x256 .f32) (t : FVec Ideal S256x1 .f32) (r k : Fin 256) : weight s t (ix2 r k) = Ideal.exp (s (ix2 r k) - t (ix2 r 0)) := by
  pointwise [weight]

theorem carried_apply (w : FVec Ideal S256x256 .f32) (v : Vec Ideal S256x128 .bf16) (r : Fin 256) (d : Fin 128) : carried w v (ix2 r d) = ∑ k : Fin 256, w (ix2 r k) * v (ix2 k d) := by
  pointwise [carried]

theorem top_apply (s0 s1 s2 : FVec Ideal S256x256 .f32) (r : Fin 256) :
    top s0 s1 s2 (ix2 r 0) = max (max (greatest (fun k => s0 (ix2 r k))) (greatest (fun k => s1 (ix2 r k)))) (greatest (fun k => s2 (ix2 r k))) := by
  rw [← most_apply, ← most_apply, ← most_apply]
  rfl

/-- A head's result at an index. -/
theorem head_apply (s0 s1 s2 : FVec Ideal S256x256 .f32) (v0 v1 v2 : Vec Ideal S256x128 .bf16) (r : Fin 256) (d : Fin 128) :
    head s0 s1 s2 v0 v1 v2 (ix2 r d) = blended (fun k => s0 (ix2 r k)) (fun k => s1 (ix2 r k)) (fun k => s2 (ix2 r k))
      (fun k => v0 (ix2 k d)) (fun k => v1 (ix2 k d)) (fun k => v2 (ix2 k d)) := by
  have e : head s0 s1 s2 v0 v1 v2 (ix2 r d)
      = Ideal.div (carried (weight s0 (top s0 s1 s2)) v0 (ix2 r d) + carried (weight s1 (top s0 s1 s2)) v1 (ix2 r d) + carried (weight s2 (top s0 s1 s2)) v2 (ix2 r d))
        (added (weight s0 (top s0 s1 s2)) (ix2 r 0) + added (weight s1 (top s0 s1 s2)) (ix2 r 0) + added (weight s2 (top s0 s1 s2)) (ix2 r 0)) := by
    pointwise [head]
  rw [e]
  simp only [carried_apply, added_apply, weight_apply, top_apply]
  rfl

/-- Whether a lane belongs to the first head. -/
theorem lane_eq : ∀ e : Fin 128, IntOp.cmpi .slt (BitVec.ofNat 32 e.val) 64#32 = if e.val < 64 then 1#1 else 0#1 := by decide

theorem pay2_apply (r : Fin 256) (e : Fin 128) : k0_pay2 (ix2 r e) = if e.val < 64 then 1#1 else 0#1 := by
  rw [← lane_eq]
  pointwise [k0_pay2]

/-- The first head's lanes of the queries. -/
theorem low_apply (q : Vec Ideal S256x128 .bf16) (r : Fin 256) (e : Fin 128) : k0_pay3 q (ix2 r e) = if e.val < 64 then q (ix2 r e) else (0 : EReal) := by
  pointwise [k0_pay3, k0_pay2]
  rw [lane_eq]
  split_ifs <;> rfl

/-- The second head's. -/
theorem high_apply (q : Vec Ideal S256x128 .bf16) (r : Fin 256) (e : Fin 128) : k0_pay10 k0_pay2 q (ix2 r e) = if e.val < 64 then (0 : EReal) else q (ix2 r e) := by
  pointwise [k0_pay10, k0_pay2]
  rw [lane_eq]
  split_ifs <;> rfl

theorem pair_low (q k0 k1 k2 v0 v1 v2 : Vec Ideal S256x128 .bf16) (a0 a1 a2 b0 b1 b2 : Vec Ideal S1x1x256x256 .bf16) (r : Fin 256) (d : Fin 128) (hd : d.val < 64) :
    pair q k0 k1 k2 v0 v1 v2 a0 a1 a2 b0 b1 b2 (ix2 r d)
      = head (scores (k0_pay3 q) k0 a0) (scores (k0_pay3 q) k1 a1) (scores (k0_pay3 q) k2 a2) v0 v1 v2 (ix2 r d) := by
  show Scalar.select (k0_pay2 (ix2 r d)) _ _ = _
  rw [pay2_apply, if_pos hd]
  rfl

theorem pair_high (q k0 k1 k2 v0 v1 v2 : Vec Ideal S256x128 .bf16) (a0 a1 a2 b0 b1 b2 : Vec Ideal S1x1x256x256 .bf16) (r : Fin 256) (d : Fin 128) (hd : ¬ d.val < 64) :
    pair q k0 k1 k2 v0 v1 v2 a0 a1 a2 b0 b1 b2 (ix2 r d)
      = head (scores (k0_pay10 k0_pay2 q) k0 b0) (scores (k0_pay10 k0_pay2 q) k1 b1) (scores (k0_pay10 k0_pay2 q) k2 b2) v0 v1 v2 (ix2 r d) := by
  show Scalar.select (k0_pay2 (ix2 r d)) _ _ = _
  rw [pay2_apply, if_neg hd]
  rfl

/-- The first head's scores: the first half of the lanes. -/
theorem scores_low (q k : Vec Ideal S256x128 .bf16) (b : Vec Ideal S1x1x256x256 .bf16) (r s : Fin 256) :
    scores (k0_pay3 q) k b (ix2 r s) = (∑ e : Fin 64, q (ix2 r ⟨e.val, by omega⟩) * k (ix2 s ⟨e.val, by omega⟩)) + b (ix4 0 0 r s) := by
  rw [scores_apply]
  congr 1
  rw [sum_halves]
  refine Eq.trans (congrArg₂ (· + ·) (Finset.sum_congr rfl fun e _ => ?_) (Finset.sum_eq_zero fun e _ => ?_)) (add_zero _)
  · rw [low_apply, if_pos (show (⟨e.val, by omega⟩ : Fin 128).val < 64 from e.isLt)]
  · rw [low_apply, if_neg (show ¬ (⟨64 + e.val, by omega⟩ : Fin 128).val < 64 by show ¬ 64 + e.val < 64; omega)]
    exact zero_mul (M₀ := EReal) _

/-- The second head's: the second half. -/
theorem scores_high (q k : Vec Ideal S256x128 .bf16) (b : Vec Ideal S1x1x256x256 .bf16) (r s : Fin 256) :
    scores (k0_pay10 k0_pay2 q) k b (ix2 r s) = (∑ e : Fin 64, q (ix2 r ⟨64 + e.val, by omega⟩) * k (ix2 s ⟨64 + e.val, by omega⟩)) + b (ix4 0 0 r s) := by
  rw [scores_apply]
  congr 1
  rw [sum_halves]
  refine Eq.trans (congrArg₂ (· + ·) (Finset.sum_eq_zero fun e _ => ?_) (Finset.sum_congr rfl fun e _ => ?_)) (zero_add _)
  · rw [high_apply, if_pos (show (⟨e.val, by omega⟩ : Fin 128).val < 64 from e.isLt)]
    exact zero_mul (M₀ := EReal) _
  · rw [high_apply, if_neg (show ¬ (⟨64 + e.val, by omega⟩ : Fin 128).val < 64 by show ¬ 64 + e.val < 64; omega)]

end Cert.AttIdeal.Hand
-- ==== Proof.Att.Common.lean ====
/-
  Attention of a row to the three blocks of rows around it.
-/
module

public import proofs.«01_k».proof.Proof.Att.Sum

@[expose] public section

set_option maxRecDepth 16384

noncomputable section

namespace Cert.Hand

open Idealize.ShloMosaic

theorem blended_congr {s0 s1 s2 v0 v1 v2 s0' s1' s2' v0' v1' v2' : Fin 256 → EReal} (h0 : ∀ k, s0 k = s0' k) (h1 : ∀ k, s1 k = s1' k)
    (h2 : ∀ k, s2 k = s2' k) (g0 : ∀ k, v0 k = v0' k) (g1 : ∀ k, v1 k = v1' k) (g2 : ∀ k, v2 k = v2' k) :
    blended s0 s1 s2 v0 v1 v2 = blended s0' s1' s2' v0' v1' v2' := by
  rw [funext h0, funext h1, funext h2, funext g0, funext g1, funext g2]

/-- A row's score with row `i` of block `j` of the three around its own. -/
def scoreAt (q k : Fin 32768 → Fin 512 → EReal) (w : Fin 3 → Fin 8 → Fin 256 → Fin 768 → EReal) (b : Fin 2) (r : Fin 64) (a : Fin 256) (h : Fin 8) (j : Fin 3) (i : Fin 256) : EReal :=
  (∑ e : Fin 64, q ⟨(b.val * 64 + r.val) * 256 + a.val, by omega⟩ ⟨h.val * 64 + e.val, by omega⟩ * k ⟨(b.val * 64 + (min (r.val - 1) 61 + j.val)) * 256 + i.val, by omega⟩ ⟨h.val * 64 + e.val, by omega⟩)
    + w (edge r) h a ⟨256 * j.val + i.val, by omega⟩

/-- The value row `i` of block `j` brings. -/
def valueAt (v : Fin 32768 → Fin 512 → EReal) (b : Fin 2) (r : Fin 64) (h : Fin 8) (d : Fin 64) (j : Fin 3) (i : Fin 256) : EReal :=
  v ⟨(b.val * 64 + (min (r.val - 1) 61 + j.val)) * 256 + i.val, by omega⟩ ⟨h.val * 64 + d.val, by omega⟩

/-- A head's result of a row. -/
def attended (q k v : Fin 32768 → Fin 512 → EReal) (w : Fin 3 → Fin 8 → Fin 256 → Fin 768 → EReal) (b : Fin 2) (r : Fin 64) (a : Fin 256) (h : Fin 8) (d : Fin 64) : EReal :=
  blended (scoreAt q k w b r a h 0) (scoreAt q k w b r a h 1) (scoreAt q k w b r a h 2) (valueAt v b r h d 0) (valueAt v b r h d 1) (valueAt v b r h d 2)

end Cert.Hand
-- ==== Proof.Att.Block.lean ====
/-
  The output block of the attention at an index, from the input blocks.
-/
module

public import proofs.«01_k».proof.Proof.Att.Read
public import proofs.«01_k».proof.Proof.Att.Common

@[expose] public section

set_option maxRecDepth 16384

noncomputable section

namespace Cert.AttIdeal.Hand

open Cert.Hand Cert.AttIdeal Cert.AttIdeal.Gen Idealize.ShloMosaic Idealize.ShloMosaic.TcCoe Idealize.SL.Sem

/-- A head's result from the blocks a grid point reads. -/
def ofBlocks (x0 : Vec Ideal S256x512 .bf16) (x1 : Vec Ideal S256x512 .bf16) (x2 : Vec Ideal S256x512 .bf16) (x3 : Vec Ideal S256x512 .bf16) (x4 : Vec Ideal S256x512 .bf16) (x5 : Vec Ideal S256x512 .bf16) (x6 : Vec Ideal S256x512 .bf16) (x7 : Vec Ideal S1x8x256x768 .bf16) (h : Fin 8) (a : Fin 256) (d : Fin 64) : EReal :=
  blended (fun k : Fin 256 => (∑ e : Fin 64, x0 (ix2 a ⟨h.val * 64 + e.val, by omega⟩) * x1 (ix2 k ⟨h.val * 64 + e.val, by omega⟩)) + x7 (ix4 0 h a ⟨0 + k.val, by omega⟩))
    (fun k : Fin 256 => (∑ e : Fin 64, x0 (ix2 a ⟨h.val * 64 + e.val, by omega⟩) * x2 (ix2 k ⟨h.val * 64 + e.val, by omega⟩)) + x7 (ix4 0 h a ⟨256 + k.val, by omega⟩))
    (fun k : Fin 256 => (∑ e : Fin 64, x0 (ix2 a ⟨h.val * 64 + e.val, by omega⟩) * x3 (ix2 k ⟨h.val * 64 + e.val, by omega⟩)) + x7 (ix4 0 h a ⟨512 + k.val, by omega⟩))
    (fun k => x4 (ix2 k ⟨h.val * 64 + d.val, by omega⟩)) (fun k => x5 (ix2 k ⟨h.val * 64 + d.val, by omega⟩)) (fun k => x6 (ix2 k ⟨h.val * 64 + d.val, by omega⟩))

theorem lane0 (x : Vec Ideal S256x512 .bf16) (a : Fin 256) (e : Fin 64) :
    View.ld x r0_0 (ix2 a ⟨e.val, by omega⟩) = x (ix2 a ⟨0 + e.val, by omega⟩) := by
  refine congrArg x (funext fun i => Fin.ext ?_)
  match i with
  | ⟨0, _⟩ => show 0 + 1 * a.val = a.val; omega
  | ⟨1, _⟩ => show 0 + 1 * e.val = 0 + e.val; omega

theorem bias0_0 (x : Vec Ideal S1x8x256x768 .bf16) (a k : Fin 256) :
    View.ld x r0_1 (ix4 0 0 a k) = x (ix4 0 0 a ⟨0 + k.val, by omega⟩) := by
  refine congrArg x (funext fun i => Fin.ext ?_)
  match i with
  | ⟨0, _⟩ => rfl
  | ⟨1, _⟩ => rfl
  | ⟨2, _⟩ => show 0 + 1 * a.val = a.val; omega
  | ⟨3, _⟩ => show 0 + 1 * k.val = 0 + k.val; omega

theorem bias0_1 (x : Vec Ideal S1x8x256x768 .bf16) (a k : Fin 256) :
    View.ld x r0_2 (ix4 0 0 a k) = x (ix4 0 0 a ⟨256 + k.val, by omega⟩) := by
  refine congrArg x (funext fun i => Fin.ext ?_)
  match i with
  | ⟨0, _⟩ => rfl
  | ⟨1, _⟩ => rfl
  | ⟨2, _⟩ => show 0 + 1 * a.val = a.val; omega
  | ⟨3, _⟩ => show 256 + 1 * k.val = 256 + k.val; omega

theorem bias0_2 (x : Vec Ideal S1x8x256x768 .bf16) (a k : Fin 256) :
    View.ld x r0_3 (ix4 0 0 a k) = x (ix4 0 0 a ⟨512 + k.val, by omega⟩) := by
  refine congrArg x (funext fun i => Fin.ext ?_)
  match i with
  | ⟨0, _⟩ => rfl
  | ⟨1, _⟩ => rfl
  | ⟨2, _⟩ => show 0 + 1 * a.val = a.val; omega
  | ⟨3, _⟩ => show 512 + 1 * k.val = 512 + k.val; omega

/-- Head 0. -/
theorem out_head0 (x0 : Vec Ideal S256x512 .bf16) (x1 : Vec Ideal S256x512 .bf16) (x2 : Vec Ideal S256x512 .bf16) (x3 : Vec Ideal S256x512 .bf16) (x4 : Vec Ideal S256x512 .bf16) (x5 : Vec Ideal S256x512 .bf16) (x6 : Vec Ideal S256x512 .bf16) (x7 : Vec Ideal S1x8x256x768 .bf16) (a : Fin 256) (d : Fin 64) :
    @Eq EReal (out0_8 x0 x1 x2 x3 x4 x5 x6 x7 (ix2 a ⟨0 + d.val, by omega⟩)) (ofBlocks x0 x1 x2 x3 x4 x5 x6 x7 0 a d) := by
  rw [out_eq]
  rw [View.canon_cons_of_not_mem, View.canon_cons_of_not_mem, View.canon_cons_of_not_mem]
  · have e : (ix2 a ⟨0 + d.val, by omega⟩ : S256x512.Idx) = r0_0.emb (ix2 a ⟨d.val, by omega⟩) := by
      funext i
      apply Fin.ext
      match i with
      | ⟨0, _⟩ => show a.val = 0 + 1 * a.val; omega
      | ⟨1, _⟩ => show 0 + d.val = 0 + 1 * d.val; omega
    rw [e]
    refine (View.canon_cons_emb (Val := Elt Ideal) (e := .bf16) r0_0 _ _ (ix2 a ⟨d.val, by omega⟩)).trans ?_
    refine (pair_low _ _ _ _ _ _ _ _ _ _ _ _ _ a ⟨d.val, by omega⟩ d.isLt).trans ?_
    refine (head_apply _ _ _ _ _ _ a _).trans ?_
    simp only [scores_low]
    exact blended_congr
      (fun k => congrArg₂ (· + ·) (Finset.sum_congr rfl fun e _ => congrArg₂ (· * ·) (lane0 x0 a e) (lane0 x1 k e)) (bias0_0 x7 a k))
      (fun k => congrArg₂ (· + ·) (Finset.sum_congr rfl fun e _ => congrArg₂ (· * ·) (lane0 x0 a e) (lane0 x2 k e)) (bias0_1 x7 a k))
      (fun k => congrArg₂ (· + ·) (Finset.sum_congr rfl fun e _ => congrArg₂ (· * ·) (lane0 x0 a e) (lane0 x3 k e)) (bias0_2 x7 a k))
      (fun k => lane0 x4 k d) (fun k => lane0 x5 k d) (fun k => lane0 x6 k d)
  · intro hm
    have h1 : 128 ≤ 0 + d.val := ((Rect.mem_set_unit (inb := inb_S256x512_S256x128_0_128)).mp hm 1).1
    omega
  · intro hm
    have h1 : 256 ≤ 0 + d.val := ((Rect.mem_set_unit (inb := inb_S256x512_S256x128_0_256)).mp hm 1).1
    omega
  · intro hm
    have h1 : 384 ≤ 0 + d.val := ((Rect.mem_set_unit (inb := inb_S256x512_S256x128_0_384)).mp hm 1).1
    omega

theorem lane1 (x : Vec Ideal S256x512 .bf16) (a : Fin 256) (e : Fin 64) :
    View.ld x r0_0 (ix2 a ⟨64 + e.val, by omega⟩) = x (ix2 a ⟨64 + e.val, by omega⟩) := by
  refine congrArg x (funext fun i => Fin.ext ?_)
  match i with
  | ⟨0, _⟩ => show 0 + 1 * a.val = a.val; omega
  | ⟨1, _⟩ => show 0 + 1 * (64 + e.val) = 64 + e.val; omega

theorem bias1_0 (x : Vec Ideal S1x8x256x768 .bf16) (a k : Fin 256) :
    View.ld x r0_4 (ix4 0 0 a k) = x (ix4 0 1 a ⟨0 + k.val, by omega⟩) := by
  refine congrArg x (funext fun i => Fin.ext ?_)
  match i with
  | ⟨0, _⟩ => rfl
  | ⟨1, _⟩ => rfl
  | ⟨2, _⟩ => show 0 + 1 * a.val = a.val; omega
  | ⟨3, _⟩ => show 0 + 1 * k.val = 0 + k.val; omega

theorem bias1_1 (x : Vec Ideal S1x8x256x768 .bf16) (a k : Fin 256) :
    View.ld x r0_5 (ix4 0 0 a k) = x (ix4 0 1 a ⟨256 + k.val, by omega⟩) := by
  refine congrArg x (funext fun i => Fin.ext ?_)
  match i with
  | ⟨0, _⟩ => rfl
  | ⟨1, _⟩ => rfl
  | ⟨2, _⟩ => show 0 + 1 * a.val = a.val; omega
  | ⟨3, _⟩ => show 256 + 1 * k.val = 256 + k.val; omega

theorem bias1_2 (x : Vec Ideal S1x8x256x768 .bf16) (a k : Fin 256) :
    View.ld x r0_6 (ix4 0 0 a k) = x (ix4 0 1 a ⟨512 + k.val, by omega⟩) := by
  refine congrArg x (funext fun i => Fin.ext ?_)
  match i with
  | ⟨0, _⟩ => rfl
  | ⟨1, _⟩ => rfl
  | ⟨2, _⟩ => show 0 + 1 * a.val = a.val; omega
  | ⟨3, _⟩ => show 512 + 1 * k.val = 512 + k.val; omega

/-- Head 1. -/
theorem out_head1 (x0 : Vec Ideal S256x512 .bf16) (x1 : Vec Ideal S256x512 .bf16) (x2 : Vec Ideal S256x512 .bf16) (x3 : Vec Ideal S256x512 .bf16) (x4 : Vec Ideal S256x512 .bf16) (x5 : Vec Ideal S256x512 .bf16) (x6 : Vec Ideal S256x512 .bf16) (x7 : Vec Ideal S1x8x256x768 .bf16) (a : Fin 256) (d : Fin 64) :
    @Eq EReal (out0_8 x0 x1 x2 x3 x4 x5 x6 x7 (ix2 a ⟨64 + d.val, by omega⟩)) (ofBlocks x0 x1 x2 x3 x4 x5 x6 x7 1 a d) := by
  rw [out_eq]
  rw [View.canon_cons_of_not_mem, View.canon_cons_of_not_mem, View.canon_cons_of_not_mem]
  · have e : (ix2 a ⟨64 + d.val, by omega⟩ : S256x512.Idx) = r0_0.emb (ix2 a ⟨64 + d.val, by omega⟩) := by
      funext i
      apply Fin.ext
      match i with
      | ⟨0, _⟩ => show a.val = 0 + 1 * a.val; omega
      | ⟨1, _⟩ => show 64 + d.val = 0 + 1 * (64 + d.val); omega
    rw [e]
    refine (View.canon_cons_emb (Val := Elt Ideal) (e := .bf16) r0_0 _ _ (ix2 a ⟨64 + d.val, by omega⟩)).trans ?_
    refine (pair_high _ _ _ _ _ _ _ _ _ _ _ _ _ a ⟨64 + d.val, by omega⟩ (by show ¬ 64 + d.val < 64; omega)).trans ?_
    refine (head_apply _ _ _ _ _ _ a _).trans ?_
    simp only [scores_high]
    exact blended_congr
      (fun k => congrArg₂ (· + ·) (Finset.sum_congr rfl fun e _ => congrArg₂ (· * ·) (lane1 x0 a e) (lane1 x1 k e)) (bias1_0 x7 a k))
      (fun k => congrArg₂ (· + ·) (Finset.sum_congr rfl fun e _ => congrArg₂ (· * ·) (lane1 x0 a e) (lane1 x2 k e)) (bias1_1 x7 a k))
      (fun k => congrArg₂ (· + ·) (Finset.sum_congr rfl fun e _ => congrArg₂ (· * ·) (lane1 x0 a e) (lane1 x3 k e)) (bias1_2 x7 a k))
      (fun k => lane1 x4 k d) (fun k => lane1 x5 k d) (fun k => lane1 x6 k d)
  · intro hm
    have h1 : 128 ≤ 64 + d.val := ((Rect.mem_set_unit (inb := inb_S256x512_S256x128_0_128)).mp hm 1).1
    omega
  · intro hm
    have h1 : 256 ≤ 64 + d.val := ((Rect.mem_set_unit (inb := inb_S256x512_S256x128_0_256)).mp hm 1).1
    omega
  · intro hm
    have h1 : 384 ≤ 64 + d.val := ((Rect.mem_set_unit (inb := inb_S256x512_S256x128_0_384)).mp hm 1).1
    omega

theorem lane2 (x : Vec Ideal S256x512 .bf16) (a : Fin 256) (e : Fin 64) :
    View.ld x r0_7 (ix2 a ⟨e.val, by omega⟩) = x (ix2 a ⟨128 + e.val, by omega⟩) := by
  refine congrArg x (funext fun i => Fin.ext ?_)
  match i with
  | ⟨0, _⟩ => show 0 + 1 * a.val = a.val; omega
  | ⟨1, _⟩ => show 128 + 1 * e.val = 128 + e.val; omega

theorem bias2_0 (x : Vec Ideal S1x8x256x768 .bf16) (a k : Fin 256) :
    View.ld x r0_8 (ix4 0 0 a k) = x (ix4 0 2 a ⟨0 + k.val, by omega⟩) := by
  refine congrArg x (funext fun i => Fin.ext ?_)
  match i with
  | ⟨0, _⟩ => rfl
  | ⟨1, _⟩ => rfl
  | ⟨2, _⟩ => show 0 + 1 * a.val = a.val; omega
  | ⟨3, _⟩ => show 0 + 1 * k.val = 0 + k.val; omega

theorem bias2_1 (x : Vec Ideal S1x8x256x768 .bf16) (a k : Fin 256) :
    View.ld x r0_9 (ix4 0 0 a k) = x (ix4 0 2 a ⟨256 + k.val, by omega⟩) := by
  refine congrArg x (funext fun i => Fin.ext ?_)
  match i with
  | ⟨0, _⟩ => rfl
  | ⟨1, _⟩ => rfl
  | ⟨2, _⟩ => show 0 + 1 * a.val = a.val; omega
  | ⟨3, _⟩ => show 256 + 1 * k.val = 256 + k.val; omega

theorem bias2_2 (x : Vec Ideal S1x8x256x768 .bf16) (a k : Fin 256) :
    View.ld x r0_10 (ix4 0 0 a k) = x (ix4 0 2 a ⟨512 + k.val, by omega⟩) := by
  refine congrArg x (funext fun i => Fin.ext ?_)
  match i with
  | ⟨0, _⟩ => rfl
  | ⟨1, _⟩ => rfl
  | ⟨2, _⟩ => show 0 + 1 * a.val = a.val; omega
  | ⟨3, _⟩ => show 512 + 1 * k.val = 512 + k.val; omega

/-- Head 2. -/
theorem out_head2 (x0 : Vec Ideal S256x512 .bf16) (x1 : Vec Ideal S256x512 .bf16) (x2 : Vec Ideal S256x512 .bf16) (x3 : Vec Ideal S256x512 .bf16) (x4 : Vec Ideal S256x512 .bf16) (x5 : Vec Ideal S256x512 .bf16) (x6 : Vec Ideal S256x512 .bf16) (x7 : Vec Ideal S1x8x256x768 .bf16) (a : Fin 256) (d : Fin 64) :
    @Eq EReal (out0_8 x0 x1 x2 x3 x4 x5 x6 x7 (ix2 a ⟨128 + d.val, by omega⟩)) (ofBlocks x0 x1 x2 x3 x4 x5 x6 x7 2 a d) := by
  rw [out_eq]
  rw [View.canon_cons_of_not_mem, View.canon_cons_of_not_mem]
  · have e : (ix2 a ⟨128 + d.val, by omega⟩ : S256x512.Idx) = r0_7.emb (ix2 a ⟨d.val, by omega⟩) := by
      funext i
      apply Fin.ext
      match i with
      | ⟨0, _⟩ => show a.val = 0 + 1 * a.val; omega
      | ⟨1, _⟩ => show 128 + d.val = 128 + 1 * d.val; omega
    rw [e]
    refine (View.canon_cons_emb (Val := Elt Ideal) (e := .bf16) r0_7 _ _ (ix2 a ⟨d.val, by omega⟩)).trans ?_
    refine (pair_low _ _ _ _ _ _ _ _ _ _ _ _ _ a ⟨d.val, by omega⟩ d.isLt).trans ?_
    refine (head_apply _ _ _ _ _ _ a _).trans ?_
    simp only [scores_low]
    exact blended_congr
      (fun k => congrArg₂ (· + ·) (Finset.sum_congr rfl fun e _ => congrArg₂ (· * ·) (lane2 x0 a e) (lane2 x1 k e)) (bias2_0 x7 a k))
      (fun k => congrArg₂ (· + ·) (Finset.sum_congr rfl fun e _ => congrArg₂ (· * ·) (lane2 x0 a e) (lane2 x2 k e)) (bias2_1 x7 a k))
      (fun k => congrArg₂ (· + ·) (Finset.sum_congr rfl fun e _ => congrArg₂ (· * ·) (lane2 x0 a e) (lane2 x3 k e)) (bias2_2 x7 a k))
      (fun k => lane2 x4 k d) (fun k => lane2 x5 k d) (fun k => lane2 x6 k d)
  · intro hm
    have h1 : 256 ≤ 128 + d.val := ((Rect.mem_set_unit (inb := inb_S256x512_S256x128_0_256)).mp hm 1).1
    omega
  · intro hm
    have h1 : 384 ≤ 128 + d.val := ((Rect.mem_set_unit (inb := inb_S256x512_S256x128_0_384)).mp hm 1).1
    omega

theorem lane3 (x : Vec Ideal S256x512 .bf16) (a : Fin 256) (e : Fin 64) :
    View.ld x r0_7 (ix2 a ⟨64 + e.val, by omega⟩) = x (ix2 a ⟨192 + e.val, by omega⟩) := by
  refine congrArg x (funext fun i => Fin.ext ?_)
  match i with
  | ⟨0, _⟩ => show 0 + 1 * a.val = a.val; omega
  | ⟨1, _⟩ => show 128 + 1 * (64 + e.val) = 192 + e.val; omega

theorem bias3_0 (x : Vec Ideal S1x8x256x768 .bf16) (a k : Fin 256) :
    View.ld x r0_11 (ix4 0 0 a k) = x (ix4 0 3 a ⟨0 + k.val, by omega⟩) := by
  refine congrArg x (funext fun i => Fin.ext ?_)
  match i with
  | ⟨0, _⟩ => rfl
  | ⟨1, _⟩ => rfl
  | ⟨2, _⟩ => show 0 + 1 * a.val = a.val; omega
  | ⟨3, _⟩ => show 0 + 1 * k.val = 0 + k.val; omega

theorem bias3_1 (x : Vec Ideal S1x8x256x768 .bf16) (a k : Fin 256) :
    View.ld x r0_12 (ix4 0 0 a k) = x (ix4 0 3 a ⟨256 + k.val, by omega⟩) := by
  refine congrArg x (funext fun i => Fin.ext ?_)
  match i with
  | ⟨0, _⟩ => rfl
  | ⟨1, _⟩ => rfl
  | ⟨2, _⟩ => show 0 + 1 * a.val = a.val; omega
  | ⟨3, _⟩ => show 256 + 1 * k.val = 256 + k.val; omega

theorem bias3_2 (x : Vec Ideal S1x8x256x768 .bf16) (a k : Fin 256) :
    View.ld x r0_13 (ix4 0 0 a k) = x (ix4 0 3 a ⟨512 + k.val, by omega⟩) := by
  refine congrArg x (funext fun i => Fin.ext ?_)
  match i with
  | ⟨0, _⟩ => rfl
  | ⟨1, _⟩ => rfl
  | ⟨2, _⟩ => show 0 + 1 * a.val = a.val; omega
  | ⟨3, _⟩ => show 512 + 1 * k.val = 512 + k.val; omega

/-- Head 3. -/
theorem out_head3 (x0 : Vec Ideal S256x512 .bf16) (x1 : Vec Ideal S256x512 .bf16) (x2 : Vec Ideal S256x512 .bf16) (x3 : Vec Ideal S256x512 .bf16) (x4 : Vec Ideal S256x512 .bf16) (x5 : Vec Ideal S256x512 .bf16) (x6 : Vec Ideal S256x512 .bf16) (x7 : Vec Ideal S1x8x256x768 .bf16) (a : Fin 256) (d : Fin 64) :
    @Eq EReal (out0_8 x0 x1 x2 x3 x4 x5 x6 x7 (ix2 a ⟨192 + d.val, by omega⟩)) (ofBlocks x0 x1 x2 x3 x4 x5 x6 x7 3 a d) := by
  rw [out_eq]
  rw [View.canon_cons_of_not_mem, View.canon_cons_of_not_mem]
  · have e : (ix2 a ⟨192 + d.val, by omega⟩ : S256x512.Idx) = r0_7.emb (ix2 a ⟨64 + d.val, by omega⟩) := by
      funext i
      apply Fin.ext
      match i with
      | ⟨0, _⟩ => show a.val = 0 + 1 * a.val; omega
      | ⟨1, _⟩ => show 192 + d.val = 128 + 1 * (64 + d.val); omega
    rw [e]
    refine (View.canon_cons_emb (Val := Elt Ideal) (e := .bf16) r0_7 _ _ (ix2 a ⟨64 + d.val, by omega⟩)).trans ?_
    refine (pair_high _ _ _ _ _ _ _ _ _ _ _ _ _ a ⟨64 + d.val, by omega⟩ (by show ¬ 64 + d.val < 64; omega)).trans ?_
    refine (head_apply _ _ _ _ _ _ a _).trans ?_
    simp only [scores_high]
    exact blended_congr
      (fun k => congrArg₂ (· + ·) (Finset.sum_congr rfl fun e _ => congrArg₂ (· * ·) (lane3 x0 a e) (lane3 x1 k e)) (bias3_0 x7 a k))
      (fun k => congrArg₂ (· + ·) (Finset.sum_congr rfl fun e _ => congrArg₂ (· * ·) (lane3 x0 a e) (lane3 x2 k e)) (bias3_1 x7 a k))
      (fun k => congrArg₂ (· + ·) (Finset.sum_congr rfl fun e _ => congrArg₂ (· * ·) (lane3 x0 a e) (lane3 x3 k e)) (bias3_2 x7 a k))
      (fun k => lane3 x4 k d) (fun k => lane3 x5 k d) (fun k => lane3 x6 k d)
  · intro hm
    have h1 : 256 ≤ 192 + d.val := ((Rect.mem_set_unit (inb := inb_S256x512_S256x128_0_256)).mp hm 1).1
    omega
  · intro hm
    have h1 : 384 ≤ 192 + d.val := ((Rect.mem_set_unit (inb := inb_S256x512_S256x128_0_384)).mp hm 1).1
    omega

theorem lane4 (x : Vec Ideal S256x512 .bf16) (a : Fin 256) (e : Fin 64) :
    View.ld x r0_14 (ix2 a ⟨e.val, by omega⟩) = x (ix2 a ⟨256 + e.val, by omega⟩) := by
  refine congrArg x (funext fun i => Fin.ext ?_)
  match i with
  | ⟨0, _⟩ => show 0 + 1 * a.val = a.val; omega
  | ⟨1, _⟩ => show 256 + 1 * e.val = 256 + e.val; omega

theorem bias4_0 (x : Vec Ideal S1x8x256x768 .bf16) (a k : Fin 256) :
    View.ld x r0_15 (ix4 0 0 a k) = x (ix4 0 4 a ⟨0 + k.val, by omega⟩) := by
  refine congrArg x (funext fun i => Fin.ext ?_)
  match i with
  | ⟨0, _⟩ => rfl
  | ⟨1, _⟩ => rfl
  | ⟨2, _⟩ => show 0 + 1 * a.val = a.val; omega
  | ⟨3, _⟩ => show 0 + 1 * k.val = 0 + k.val; omega

theorem bias4_1 (x : Vec Ideal S1x8x256x768 .bf16) (a k : Fin 256) :
    View.ld x r0_16 (ix4 0 0 a k) = x (ix4 0 4 a ⟨256 + k.val, by omega⟩) := by
  refine congrArg x (funext fun i => Fin.ext ?_)
  match i with
  | ⟨0, _⟩ => rfl
  | ⟨1, _⟩ => rfl
  | ⟨2, _⟩ => show 0 + 1 * a.val = a.val; omega
  | ⟨3, _⟩ => show 256 + 1 * k.val = 256 + k.val; omega

theorem bias4_2 (x : Vec Ideal S1x8x256x768 .bf16) (a k : Fin 256) :
    View.ld x r0_17 (ix4 0 0 a k) = x (ix4 0 4 a ⟨512 + k.val, by omega⟩) := by
  refine congrArg x (funext fun i => Fin.ext ?_)
  match i with
  | ⟨0, _⟩ => rfl
  | ⟨1, _⟩ => rfl
  | ⟨2, _⟩ => show 0 + 1 * a.val = a.val; omega
  | ⟨3, _⟩ => show 512 + 1 * k.val = 512 + k.val; omega

/-- Head 4. -/
theorem out_head4 (x0 : Vec Ideal S256x512 .bf16) (x1 : Vec Ideal S256x512 .bf16) (x2 : Vec Ideal S256x512 .bf16) (x3 : Vec Ideal S256x512 .bf16) (x4 : Vec Ideal S256x512 .bf16) (x5 : Vec Ideal S256x512 .bf16) (x6 : Vec Ideal S256x512 .bf16) (x7 : Vec Ideal S1x8x256x768 .bf16) (a : Fin 256) (d : Fin 64) :
    @Eq EReal (out0_8 x0 x1 x2 x3 x4 x5 x6 x7 (ix2 a ⟨256 + d.val, by omega⟩)) (ofBlocks x0 x1 x2 x3 x4 x5 x6 x7 4 a d) := by
  rw [out_eq]
  rw [View.canon_cons_of_not_mem]
  · have e : (ix2 a ⟨256 + d.val, by omega⟩ : S256x512.Idx) = r0_14.emb (ix2 a ⟨d.val, by omega⟩) := by
      funext i
      apply Fin.ext
      match i with
      | ⟨0, _⟩ => show a.val = 0 + 1 * a.val; omega
      | ⟨1, _⟩ => show 256 + d.val = 256 + 1 * d.val; omega
    rw [e]
    refine (View.canon_cons_emb (Val := Elt Ideal) (e := .bf16) r0_14 _ _ (ix2 a ⟨d.val, by omega⟩)).trans ?_
    refine (pair_low _ _ _ _ _ _ _ _ _ _ _ _ _ a ⟨d.val, by omega⟩ d.isLt).trans ?_
    refine (head_apply _ _ _ _ _ _ a _).trans ?_
    simp only [scores_low]
    exact blended_congr
      (fun k => congrArg₂ (· + ·) (Finset.sum_congr rfl fun e _ => congrArg₂ (· * ·) (lane4 x0 a e) (lane4 x1 k e)) (bias4_0 x7 a k))
      (fun k => congrArg₂ (· + ·) (Finset.sum_congr rfl fun e _ => congrArg₂ (· * ·) (lane4 x0 a e) (lane4 x2 k e)) (bias4_1 x7 a k))
      (fun k => congrArg₂ (· + ·) (Finset.sum_congr rfl fun e _ => congrArg₂ (· * ·) (lane4 x0 a e) (lane4 x3 k e)) (bias4_2 x7 a k))
      (fun k => lane4 x4 k d) (fun k => lane4 x5 k d) (fun k => lane4 x6 k d)
  · intro hm
    have h1 : 384 ≤ 256 + d.val := ((Rect.mem_set_unit (inb := inb_S256x512_S256x128_0_384)).mp hm 1).1
    omega

theorem lane5 (x : Vec Ideal S256x512 .bf16) (a : Fin 256) (e : Fin 64) :
    View.ld x r0_14 (ix2 a ⟨64 + e.val, by omega⟩) = x (ix2 a ⟨320 + e.val, by omega⟩) := by
  refine congrArg x (funext fun i => Fin.ext ?_)
  match i with
  | ⟨0, _⟩ => show 0 + 1 * a.val = a.val; omega
  | ⟨1, _⟩ => show 256 + 1 * (64 + e.val) = 320 + e.val; omega

theorem bias5_0 (x : Vec Ideal S1x8x256x768 .bf16) (a k : Fin 256) :
    View.ld x r0_18 (ix4 0 0 a k) = x (ix4 0 5 a ⟨0 + k.val, by omega⟩) := by
  refine congrArg x (funext fun i => Fin.ext ?_)
  match i with
  | ⟨0, _⟩ => rfl
  | ⟨1, _⟩ => rfl
  | ⟨2, _⟩ => show 0 + 1 * a.val = a.val; omega
  | ⟨3, _⟩ => show 0 + 1 * k.val = 0 + k.val; omega

theorem bias5_1 (x : Vec Ideal S1x8x256x768 .bf16) (a k : Fin 256) :
    View.ld x r0_19 (ix4 0 0 a k) = x (ix4 0 5 a ⟨256 + k.val, by omega⟩) := by
  refine congrArg x (funext fun i => Fin.ext ?_)
  match i with
  | ⟨0, _⟩ => rfl
  | ⟨1, _⟩ => rfl
  | ⟨2, _⟩ => show 0 + 1 * a.val = a.val; omega
  | ⟨3, _⟩ => show 256 + 1 * k.val = 256 + k.val; omega

theorem bias5_2 (x : Vec Ideal S1x8x256x768 .bf16) (a k : Fin 256) :
    View.ld x r0_20 (ix4 0 0 a k) = x (ix4 0 5 a ⟨512 + k.val, by omega⟩) := by
  refine congrArg x (funext fun i => Fin.ext ?_)
  match i with
  | ⟨0, _⟩ => rfl
  | ⟨1, _⟩ => rfl
  | ⟨2, _⟩ => show 0 + 1 * a.val = a.val; omega
  | ⟨3, _⟩ => show 512 + 1 * k.val = 512 + k.val; omega

/-- Head 5. -/
theorem out_head5 (x0 : Vec Ideal S256x512 .bf16) (x1 : Vec Ideal S256x512 .bf16) (x2 : Vec Ideal S256x512 .bf16) (x3 : Vec Ideal S256x512 .bf16) (x4 : Vec Ideal S256x512 .bf16) (x5 : Vec Ideal S256x512 .bf16) (x6 : Vec Ideal S256x512 .bf16) (x7 : Vec Ideal S1x8x256x768 .bf16) (a : Fin 256) (d : Fin 64) :
    @Eq EReal (out0_8 x0 x1 x2 x3 x4 x5 x6 x7 (ix2 a ⟨320 + d.val, by omega⟩)) (ofBlocks x0 x1 x2 x3 x4 x5 x6 x7 5 a d) := by
  rw [out_eq]
  rw [View.canon_cons_of_not_mem]
  · have e : (ix2 a ⟨320 + d.val, by omega⟩ : S256x512.Idx) = r0_14.emb (ix2 a ⟨64 + d.val, by omega⟩) := by
      funext i
      apply Fin.ext
      match i with
      | ⟨0, _⟩ => show a.val = 0 + 1 * a.val; omega
      | ⟨1, _⟩ => show 320 + d.val = 256 + 1 * (64 + d.val); omega
    rw [e]
    refine (View.canon_cons_emb (Val := Elt Ideal) (e := .bf16) r0_14 _ _ (ix2 a ⟨64 + d.val, by omega⟩)).trans ?_
    refine (pair_high _ _ _ _ _ _ _ _ _ _ _ _ _ a ⟨64 + d.val, by omega⟩ (by show ¬ 64 + d.val < 64; omega)).trans ?_
    refine (head_apply _ _ _ _ _ _ a _).trans ?_
    simp only [scores_high]
    exact blended_congr
      (fun k => congrArg₂ (· + ·) (Finset.sum_congr rfl fun e _ => congrArg₂ (· * ·) (lane5 x0 a e) (lane5 x1 k e)) (bias5_0 x7 a k))
      (fun k => congrArg₂ (· + ·) (Finset.sum_congr rfl fun e _ => congrArg₂ (· * ·) (lane5 x0 a e) (lane5 x2 k e)) (bias5_1 x7 a k))
      (fun k => congrArg₂ (· + ·) (Finset.sum_congr rfl fun e _ => congrArg₂ (· * ·) (lane5 x0 a e) (lane5 x3 k e)) (bias5_2 x7 a k))
      (fun k => lane5 x4 k d) (fun k => lane5 x5 k d) (fun k => lane5 x6 k d)
  · intro hm
    have h1 : 384 ≤ 320 + d.val := ((Rect.mem_set_unit (inb := inb_S256x512_S256x128_0_384)).mp hm 1).1
    omega

theorem lane6 (x : Vec Ideal S256x512 .bf16) (a : Fin 256) (e : Fin 64) :
    View.ld x r0_21 (ix2 a ⟨e.val, by omega⟩) = x (ix2 a ⟨384 + e.val, by omega⟩) := by
  refine congrArg x (funext fun i => Fin.ext ?_)
  match i with
  | ⟨0, _⟩ => show 0 + 1 * a.val = a.val; omega
  | ⟨1, _⟩ => show 384 + 1 * e.val = 384 + e.val; omega

theorem bias6_0 (x : Vec Ideal S1x8x256x768 .bf16) (a k : Fin 256) :
    View.ld x r0_22 (ix4 0 0 a k) = x (ix4 0 6 a ⟨0 + k.val, by omega⟩) := by
  refine congrArg x (funext fun i => Fin.ext ?_)
  match i with
  | ⟨0, _⟩ => rfl
  | ⟨1, _⟩ => rfl
  | ⟨2, _⟩ => show 0 + 1 * a.val = a.val; omega
  | ⟨3, _⟩ => show 0 + 1 * k.val = 0 + k.val; omega

theorem bias6_1 (x : Vec Ideal S1x8x256x768 .bf16) (a k : Fin 256) :
    View.ld x r0_23 (ix4 0 0 a k) = x (ix4 0 6 a ⟨256 + k.val, by omega⟩) := by
  refine congrArg x (funext fun i => Fin.ext ?_)
  match i with
  | ⟨0, _⟩ => rfl
  | ⟨1, _⟩ => rfl
  | ⟨2, _⟩ => show 0 + 1 * a.val = a.val; omega
  | ⟨3, _⟩ => show 256 + 1 * k.val = 256 + k.val; omega

theorem bias6_2 (x : Vec Ideal S1x8x256x768 .bf16) (a k : Fin 256) :
    View.ld x r0_24 (ix4 0 0 a k) = x (ix4 0 6 a ⟨512 + k.val, by omega⟩) := by
  refine congrArg x (funext fun i => Fin.ext ?_)
  match i with
  | ⟨0, _⟩ => rfl
  | ⟨1, _⟩ => rfl
  | ⟨2, _⟩ => show 0 + 1 * a.val = a.val; omega
  | ⟨3, _⟩ => show 512 + 1 * k.val = 512 + k.val; omega

/-- Head 6. -/
theorem out_head6 (x0 : Vec Ideal S256x512 .bf16) (x1 : Vec Ideal S256x512 .bf16) (x2 : Vec Ideal S256x512 .bf16) (x3 : Vec Ideal S256x512 .bf16) (x4 : Vec Ideal S256x512 .bf16) (x5 : Vec Ideal S256x512 .bf16) (x6 : Vec Ideal S256x512 .bf16) (x7 : Vec Ideal S1x8x256x768 .bf16) (a : Fin 256) (d : Fin 64) :
    @Eq EReal (out0_8 x0 x1 x2 x3 x4 x5 x6 x7 (ix2 a ⟨384 + d.val, by omega⟩)) (ofBlocks x0 x1 x2 x3 x4 x5 x6 x7 6 a d) := by
  rw [out_eq]
  · have e : (ix2 a ⟨384 + d.val, by omega⟩ : S256x512.Idx) = r0_21.emb (ix2 a ⟨d.val, by omega⟩) := by
      funext i
      apply Fin.ext
      match i with
      | ⟨0, _⟩ => show a.val = 0 + 1 * a.val; omega
      | ⟨1, _⟩ => show 384 + d.val = 384 + 1 * d.val; omega
    rw [e]
    refine (View.canon_cons_emb (Val := Elt Ideal) (e := .bf16) r0_21 _ _ (ix2 a ⟨d.val, by omega⟩)).trans ?_
    refine (pair_low _ _ _ _ _ _ _ _ _ _ _ _ _ a ⟨d.val, by omega⟩ d.isLt).trans ?_
    refine (head_apply _ _ _ _ _ _ a _).trans ?_
    simp only [scores_low]
    exact blended_congr
      (fun k => congrArg₂ (· + ·) (Finset.sum_congr rfl fun e _ => congrArg₂ (· * ·) (lane6 x0 a e) (lane6 x1 k e)) (bias6_0 x7 a k))
      (fun k => congrArg₂ (· + ·) (Finset.sum_congr rfl fun e _ => congrArg₂ (· * ·) (lane6 x0 a e) (lane6 x2 k e)) (bias6_1 x7 a k))
      (fun k => congrArg₂ (· + ·) (Finset.sum_congr rfl fun e _ => congrArg₂ (· * ·) (lane6 x0 a e) (lane6 x3 k e)) (bias6_2 x7 a k))
      (fun k => lane6 x4 k d) (fun k => lane6 x5 k d) (fun k => lane6 x6 k d)

theorem lane7 (x : Vec Ideal S256x512 .bf16) (a : Fin 256) (e : Fin 64) :
    View.ld x r0_21 (ix2 a ⟨64 + e.val, by omega⟩) = x (ix2 a ⟨448 + e.val, by omega⟩) := by
  refine congrArg x (funext fun i => Fin.ext ?_)
  match i with
  | ⟨0, _⟩ => show 0 + 1 * a.val = a.val; omega
  | ⟨1, _⟩ => show 384 + 1 * (64 + e.val) = 448 + e.val; omega

theorem bias7_0 (x : Vec Ideal S1x8x256x768 .bf16) (a k : Fin 256) :
    View.ld x r0_25 (ix4 0 0 a k) = x (ix4 0 7 a ⟨0 + k.val, by omega⟩) := by
  refine congrArg x (funext fun i => Fin.ext ?_)
  match i with
  | ⟨0, _⟩ => rfl
  | ⟨1, _⟩ => rfl
  | ⟨2, _⟩ => show 0 + 1 * a.val = a.val; omega
  | ⟨3, _⟩ => show 0 + 1 * k.val = 0 + k.val; omega

theorem bias7_1 (x : Vec Ideal S1x8x256x768 .bf16) (a k : Fin 256) :
    View.ld x r0_26 (ix4 0 0 a k) = x (ix4 0 7 a ⟨256 + k.val, by omega⟩) := by
  refine congrArg x (funext fun i => Fin.ext ?_)
  match i with
  | ⟨0, _⟩ => rfl
  | ⟨1, _⟩ => rfl
  | ⟨2, _⟩ => show 0 + 1 * a.val = a.val; omega
  | ⟨3, _⟩ => show 256 + 1 * k.val = 256 + k.val; omega

theorem bias7_2 (x : Vec Ideal S1x8x256x768 .bf16) (a k : Fin 256) :
    View.ld x r0_27 (ix4 0 0 a k) = x (ix4 0 7 a ⟨512 + k.val, by omega⟩) := by
  refine congrArg x (funext fun i => Fin.ext ?_)
  match i with
  | ⟨0, _⟩ => rfl
  | ⟨1, _⟩ => rfl
  | ⟨2, _⟩ => show 0 + 1 * a.val = a.val; omega
  | ⟨3, _⟩ => show 512 + 1 * k.val = 512 + k.val; omega

/-- Head 7. -/
theorem out_head7 (x0 : Vec Ideal S256x512 .bf16) (x1 : Vec Ideal S256x512 .bf16) (x2 : Vec Ideal S256x512 .bf16) (x3 : Vec Ideal S256x512 .bf16) (x4 : Vec Ideal S256x512 .bf16) (x5 : Vec Ideal S256x512 .bf16) (x6 : Vec Ideal S256x512 .bf16) (x7 : Vec Ideal S1x8x256x768 .bf16) (a : Fin 256) (d : Fin 64) :
    @Eq EReal (out0_8 x0 x1 x2 x3 x4 x5 x6 x7 (ix2 a ⟨448 + d.val, by omega⟩)) (ofBlocks x0 x1 x2 x3 x4 x5 x6 x7 7 a d) := by
  rw [out_eq]
  · have e : (ix2 a ⟨448 + d.val, by omega⟩ : S256x512.Idx) = r0_21.emb (ix2 a ⟨64 + d.val, by omega⟩) := by
      funext i
      apply Fin.ext
      match i with
      | ⟨0, _⟩ => show a.val = 0 + 1 * a.val; omega
      | ⟨1, _⟩ => show 448 + d.val = 384 + 1 * (64 + d.val); omega
    rw [e]
    refine (View.canon_cons_emb (Val := Elt Ideal) (e := .bf16) r0_21 _ _ (ix2 a ⟨64 + d.val, by omega⟩)).trans ?_
    refine (pair_high _ _ _ _ _ _ _ _ _ _ _ _ _ a ⟨64 + d.val, by omega⟩ (by show ¬ 64 + d.val < 64; omega)).trans ?_
    refine (head_apply _ _ _ _ _ _ a _).trans ?_
    simp only [scores_high]
    exact blended_congr
      (fun k => congrArg₂ (· + ·) (Finset.sum_congr rfl fun e _ => congrArg₂ (· * ·) (lane7 x0 a e) (lane7 x1 k e)) (bias7_0 x7 a k))
      (fun k => congrArg₂ (· + ·) (Finset.sum_congr rfl fun e _ => congrArg₂ (· * ·) (lane7 x0 a e) (lane7 x2 k e)) (bias7_1 x7 a k))
      (fun k => congrArg₂ (· + ·) (Finset.sum_congr rfl fun e _ => congrArg₂ (· * ·) (lane7 x0 a e) (lane7 x3 k e)) (bias7_2 x7 a k))
      (fun k => lane7 x4 k d) (fun k => lane7 x5 k d) (fun k => lane7 x6 k d)

/-- The block at a row, a head and a lane of it. -/
theorem out_apply (x0 : Vec Ideal S256x512 .bf16) (x1 : Vec Ideal S256x512 .bf16) (x2 : Vec Ideal S256x512 .bf16) (x3 : Vec Ideal S256x512 .bf16) (x4 : Vec Ideal S256x512 .bf16) (x5 : Vec Ideal S256x512 .bf16) (x6 : Vec Ideal S256x512 .bf16) (x7 : Vec Ideal S1x8x256x768 .bf16) (h : Fin 8) (a : Fin 256) (d : Fin 64) :
    @Eq EReal (out0_8 x0 x1 x2 x3 x4 x5 x6 x7 (ix2 a ⟨h.val * 64 + d.val, by omega⟩)) (ofBlocks x0 x1 x2 x3 x4 x5 x6 x7 h a d) := by
  match h with
  | ⟨0, _⟩ => exact out_head0 x0 x1 x2 x3 x4 x5 x6 x7 a d
  | ⟨1, _⟩ => exact out_head1 x0 x1 x2 x3 x4 x5 x6 x7 a d
  | ⟨2, _⟩ => exact out_head2 x0 x1 x2 x3 x4 x5 x6 x7 a d
  | ⟨3, _⟩ => exact out_head3 x0 x1 x2 x3 x4 x5 x6 x7 a d
  | ⟨4, _⟩ => exact out_head4 x0 x1 x2 x3 x4 x5 x6 x7 a d
  | ⟨5, _⟩ => exact out_head5 x0 x1 x2 x3 x4 x5 x6 x7 a d
  | ⟨6, _⟩ => exact out_head6 x0 x1 x2 x3 x4 x5 x6 x7 a d
  | ⟨7, _⟩ => exact out_head7 x0 x1 x2 x3 x4 x5 x6 x7 a d

end Cert.AttIdeal.Hand
-- ==== Proof.Att.Value.lean ====
/-
  The blocks the attention reads and writes at a grid point, and its result at an index.
-/
module

public import proofs.«01_k».proof.Proof.Gen.AttIdeal.Value
public import proofs.«01_k».proof.Proof.Att.Block
public import proofs.«01_k».proof.Proof.Att.Common
public import Idealize.ShloMosaic.Lib.StableHlo.Run
public import Idealize.ShloMosaic.Lib.Tactic

@[expose] public section

set_option maxRecDepth 16384

noncomputable section

namespace Cert.AttIdeal.Hand

open Cert.Hand Cert.AttIdeal Cert.AttIdeal.Gen Idealize.ShloMosaic Idealize.ShloMosaic.TcCoe Idealize.SL.Sem

variable (m : (ℓ : Loc nD τ sig) → Buf (Elt Ideal) ℓ)

theorem points (t : Fin cfg0.N) : t.val < 128 := lt_of_lt_of_eq t.isLt (show cfg0.N = 128 from N_0)

/-- Where each window's block lies at point `t`. -/
theorem place : ∀ t : Fin cfg0.N,
    (win0_0.index t (0 : Fin 2) = t.val ∧ win0_0.index t (1 : Fin 2) = 0)
    ∧ (win0_1.index t (0 : Fin 2) = (t.val / 64 * 64 + (min (t.val % 64 - 1) 61 + 0)) ∧ win0_1.index t (1 : Fin 2) = 0)
    ∧ (win0_2.index t (0 : Fin 2) = (t.val / 64 * 64 + (min (t.val % 64 - 1) 61 + 1)) ∧ win0_2.index t (1 : Fin 2) = 0)
    ∧ (win0_3.index t (0 : Fin 2) = (t.val / 64 * 64 + (min (t.val % 64 - 1) 61 + 2)) ∧ win0_3.index t (1 : Fin 2) = 0)
    ∧ (win0_4.index t (0 : Fin 2) = (t.val / 64 * 64 + (min (t.val % 64 - 1) 61 + 0)) ∧ win0_4.index t (1 : Fin 2) = 0)
    ∧ (win0_5.index t (0 : Fin 2) = (t.val / 64 * 64 + (min (t.val % 64 - 1) 61 + 1)) ∧ win0_5.index t (1 : Fin 2) = 0)
    ∧ (win0_6.index t (0 : Fin 2) = (t.val / 64 * 64 + (min (t.val % 64 - 1) 61 + 2)) ∧ win0_6.index t (1 : Fin 2) = 0)
    ∧ (win0_7.index t (0 : Fin 4) = (edge ⟨t.val % 64, Nat.mod_lt _ (by decide)⟩).val ∧ win0_7.index t (1 : Fin 4) = 0 ∧ win0_7.index t (2 : Fin 4) = 0 ∧ win0_7.index t (3 : Fin 4) = 0) :=
  (by decide +kernel : ∀ t : Fin grid0.N, _)

/-- The queries. -/
theorem block0 (c : Dev nD) (t : Fin cfg0.N) (a : Fin 256) (b : Fin 512) :
    (iblk m c 0 t : Vec Ideal S256x512 .bf16) (ix2 a b)
      = (m ((c : Thread nD τ).loc main_arg0) : FVec Ideal S32768x512 .bf16) (ix2 ⟨t.val * 256 + a.val, by have := points t; have := a.isLt; omega⟩ b) := by
  obtain ⟨⟨p0, p1⟩, -⟩ := place t
  unfold iblk
  rw [View.read_apply]
  show V m c main_arg0 _ = _
  rw [V_main_arg0]
  congr 1
  funext x
  apply Fin.ext
  match x with
  | ⟨0, _⟩ => show win0_0.index t 0 * 256 + 1 * a.val = t.val * 256 + a.val; rw [p0]; omega
  | ⟨1, _⟩ => show win0_0.index t 1 * 512 + 1 * b.val = b.val; rw [p1]; omega

/-- Block 0 of the keys. -/
theorem block1 (c : Dev nD) (t : Fin cfg0.N) (a : Fin 256) (b : Fin 512) :
    (iblk m c 1 t : Vec Ideal S256x512 .bf16) (ix2 a b)
      = (m ((c : Thread nD τ).loc main_arg1) : FVec Ideal S32768x512 .bf16) (ix2 ⟨(t.val / 64 * 64 + (min (t.val % 64 - 1) 61 + 0)) * 256 + a.val, by have := points t; have := a.isLt; omega⟩ b) := by
  obtain ⟨-, ⟨p0, p1⟩, -⟩ := place t
  unfold iblk
  rw [View.read_apply]
  show V m c main_arg1 _ = _
  rw [V_main_arg1]
  congr 1
  funext x
  apply Fin.ext
  match x with
  | ⟨0, _⟩ => show win0_1.index t 0 * 256 + 1 * a.val = (t.val / 64 * 64 + (min (t.val % 64 - 1) 61 + 0)) * 256 + a.val; rw [p0]; omega
  | ⟨1, _⟩ => show win0_1.index t 1 * 512 + 1 * b.val = b.val; rw [p1]; omega

/-- Block 1 of the keys. -/
theorem block2 (c : Dev nD) (t : Fin cfg0.N) (a : Fin 256) (b : Fin 512) :
    (iblk m c 2 t : Vec Ideal S256x512 .bf16) (ix2 a b)
      = (m ((c : Thread nD τ).loc main_arg1) : FVec Ideal S32768x512 .bf16) (ix2 ⟨(t.val / 64 * 64 + (min (t.val % 64 - 1) 61 + 1)) * 256 + a.val, by have := points t; have := a.isLt; omega⟩ b) := by
  obtain ⟨-, -, ⟨p0, p1⟩, -⟩ := place t
  unfold iblk
  rw [View.read_apply]
  show V m c main_arg1 _ = _
  rw [V_main_arg1]
  congr 1
  funext x
  apply Fin.ext
  match x with
  | ⟨0, _⟩ => show win0_2.index t 0 * 256 + 1 * a.val = (t.val / 64 * 64 + (min (t.val % 64 - 1) 61 + 1)) * 256 + a.val; rw [p0]; omega
  | ⟨1, _⟩ => show win0_2.index t 1 * 512 + 1 * b.val = b.val; rw [p1]; omega

/-- Block 2 of the keys. -/
theorem block3 (c : Dev nD) (t : Fin cfg0.N) (a : Fin 256) (b : Fin 512) :
    (iblk m c 3 t : Vec Ideal S256x512 .bf16) (ix2 a b)
      = (m ((c : Thread nD τ).loc main_arg1) : FVec Ideal S32768x512 .bf16) (ix2 ⟨(t.val / 64 * 64 + (min (t.val % 64 - 1) 61 + 2)) * 256 + a.val, by have := points t; have := a.isLt; omega⟩ b) := by
  obtain ⟨-, -, -, ⟨p0, p1⟩, -⟩ := place t
  unfold iblk
  rw [View.read_apply]
  show V m c main_arg1 _ = _
  rw [V_main_arg1]
  congr 1
  funext x
  apply Fin.ext
  match x with
  | ⟨0, _⟩ => show win0_3.index t 0 * 256 + 1 * a.val = (t.val / 64 * 64 + (min (t.val % 64 - 1) 61 + 2)) * 256 + a.val; rw [p0]; omega
  | ⟨1, _⟩ => show win0_3.index t 1 * 512 + 1 * b.val = b.val; rw [p1]; omega

/-- Block 0 of the values. -/
theorem block4 (c : Dev nD) (t : Fin cfg0.N) (a : Fin 256) (b : Fin 512) :
    (iblk m c 4 t : Vec Ideal S256x512 .bf16) (ix2 a b)
      = (m ((c : Thread nD τ).loc main_arg2) : FVec Ideal S32768x512 .bf16) (ix2 ⟨(t.val / 64 * 64 + (min (t.val % 64 - 1) 61 + 0)) * 256 + a.val, by have := points t; have := a.isLt; omega⟩ b) := by
  obtain ⟨-, -, -, -, ⟨p0, p1⟩, -⟩ := place t
  unfold iblk
  rw [View.read_apply]
  show V m c main_arg2 _ = _
  rw [V_main_arg2]
  congr 1
  funext x
  apply Fin.ext
  match x with
  | ⟨0, _⟩ => show win0_4.index t 0 * 256 + 1 * a.val = (t.val / 64 * 64 + (min (t.val % 64 - 1) 61 + 0)) * 256 + a.val; rw [p0]; omega
  | ⟨1, _⟩ => show win0_4.index t 1 * 512 + 1 * b.val = b.val; rw [p1]; omega

/-- Block 1 of the values. -/
theorem block5 (c : Dev nD) (t : Fin cfg0.N) (a : Fin 256) (b : Fin 512) :
    (iblk m c 5 t : Vec Ideal S256x512 .bf16) (ix2 a b)
      = (m ((c : Thread nD τ).loc main_arg2) : FVec Ideal S32768x512 .bf16) (ix2 ⟨(t.val / 64 * 64 + (min (t.val % 64 - 1) 61 + 1)) * 256 + a.val, by have := points t; have := a.isLt; omega⟩ b) := by
  obtain ⟨-, -, -, -, -, ⟨p0, p1⟩, -⟩ := place t
  unfold iblk
  rw [View.read_apply]
  show V m c main_arg2 _ = _
  rw [V_main_arg2]
  congr 1
  funext x
  apply Fin.ext
  match x with
  | ⟨0, _⟩ => show win0_5.index t 0 * 256 + 1 * a.val = (t.val / 64 * 64 + (min (t.val % 64 - 1) 61 + 1)) * 256 + a.val; rw [p0]; omega
  | ⟨1, _⟩ => show win0_5.index t 1 * 512 + 1 * b.val = b.val; rw [p1]; omega

/-- Block 2 of the values. -/
theorem block6 (c : Dev nD) (t : Fin cfg0.N) (a : Fin 256) (b : Fin 512) :
    (iblk m c 6 t : Vec Ideal S256x512 .bf16) (ix2 a b)
      = (m ((c : Thread nD τ).loc main_arg2) : FVec Ideal S32768x512 .bf16) (ix2 ⟨(t.val / 64 * 64 + (min (t.val % 64 - 1) 61 + 2)) * 256 + a.val, by have := points t; have := a.isLt; omega⟩ b) := by
  obtain ⟨-, -, -, -, -, -, ⟨p0, p1⟩, -⟩ := place t
  unfold iblk
  rw [View.read_apply]
  show V m c main_arg2 _ = _
  rw [V_main_arg2]
  congr 1
  funext x
  apply Fin.ext
  match x with
  | ⟨0, _⟩ => show win0_6.index t 0 * 256 + 1 * a.val = (t.val / 64 * 64 + (min (t.val % 64 - 1) 61 + 2)) * 256 + a.val; rw [p0]; omega
  | ⟨1, _⟩ => show win0_6.index t 1 * 512 + 1 * b.val = b.val; rw [p1]; omega

/-- The biases. -/
theorem block7 (c : Dev nD) (t : Fin cfg0.N) (h : Fin 8) (a : Fin 256) (k : Fin 768) :
    (iblk m c 7 t : Vec Ideal S1x8x256x768 .bf16) (ix4 0 h a k)
      = (m ((c : Thread nD τ).loc main_arg3) : FVec Ideal S3x8x256x768 .bf16) (ix4 (edge ⟨t.val % 64, Nat.mod_lt _ (by decide)⟩) h a k) := by
  obtain ⟨-, -, -, -, -, -, -, p0, p1, p2, p3⟩ := place t
  unfold iblk
  rw [View.read_apply]
  show V m c main_arg3 _ = _
  rw [V_main_arg3]
  congr 1
  funext x
  apply Fin.ext
  match x with
  | ⟨0, _⟩ => show win0_7.index t 0 * 1 + 1 * 0 = (edge ⟨t.val % 64, Nat.mod_lt _ (by decide)⟩).val; rw [p0]; omega
  | ⟨1, _⟩ => show win0_7.index t 1 * 8 + 1 * h.val = h.val; rw [p1]; omega
  | ⟨2, _⟩ => show win0_7.index t 2 * 256 + 1 * a.val = a.val; rw [p2]; omega
  | ⟨3, _⟩ => show win0_7.index t 3 * 768 + 1 * k.val = k.val; rw [p3]; omega

/-- Where point `t` writes the result. -/
theorem place8 : ∀ t : Fin cfg0.N,
    win0_8.index t (0 : Fin 2) = t.val ∧ win0_8.index t (1 : Fin 2) = 0 :=
  (by decide +kernel : ∀ t : Fin grid0.N, _)

/-- The result after the run, at an index of point `t`'s block: what the body leaves there. -/
theorem written8 (c : Dev nD) (t : Fin cfg0.N) (a : Fin 256) (b : Fin 512) :
    ((dats m 0 c).arrAt 8 cfg0.N) (ix2 ⟨t.val * 256 + a.val, by have := points t; have := a.isLt; omega⟩ b)
      = (out0_8 (iblk m c 0 t) (iblk m c 1 t) (iblk m c 2 t) (iblk m c 3 t) (iblk m c 4 t) (iblk m c 5 t) (iblk m c 6 t) (iblk m c 7 t)) (ix2 a b) := by
  have h := congrFun (Value.blocks8 m c t (flush0_8 t)) (ix2 a b)
  rw [View.read_apply, Value.flushed8] at h
  refine Eq.trans ?_ h
  congr 1
  obtain ⟨p0, p1⟩ := place8 t
  funext x
  apply Fin.ext
  match x with
  | ⟨0, _⟩ => show t.val * 256 + a.val = win0_8.index t 0 * 256 + 1 * a.val; rw [p0]; omega
  | ⟨1, _⟩ => show b.val = win0_8.index t 1 * 512 + 1 * b.val; rw [p1]; omega

/-- The result after the run, at a row of a block and a lane of a head. -/
theorem result_apply (c : Dev nD) (b : Fin 2) (r : Fin 64) (a : Fin 256) (h : Fin 8) (d : Fin 64) :
    @Eq EReal (((dats m 0 c).arrAt 8 cfg0.N) (ix2 ⟨(b.val * 64 + r.val) * 256 + a.val, by omega⟩ ⟨h.val * 64 + d.val, by omega⟩))
      (attended (fun R j => (m ((c : Thread nD τ).loc main_arg0) : FVec Ideal S32768x512 .bf16) (ix2 R j)) (fun R j => (m ((c : Thread nD τ).loc main_arg1) : FVec Ideal S32768x512 .bf16) (ix2 R j)) (fun R j => (m ((c : Thread nD τ).loc main_arg2) : FVec Ideal S32768x512 .bf16) (ix2 R j))
        (fun i h a k => (m ((c : Thread nD τ).loc main_arg3) : FVec Ideal S3x8x256x768 .bf16) (ix4 i h a k)) b r a h d) := by
  obtain ⟨t, ht⟩ : ∃ t : Fin cfg0.N, t.val = b.val * 64 + r.val := ⟨⟨b.val * 64 + r.val, lt_of_lt_of_eq (by omega : b.val * 64 + r.val < 128) N_0.symm⟩, rfl⟩
  have hq : t.val / 64 = b.val := by omega
  have hr : t.val % 64 = r.val := by omega
  have hrow : ∀ i : Fin 256, (⟨t.val * 256 + i.val, by have := points t; omega⟩ : Fin 32768) = ⟨(b.val * 64 + r.val) * 256 + i.val, by omega⟩ := fun i => Fin.ext (by show t.val * 256 + i.val = (b.val * 64 + r.val) * 256 + i.val; rw [ht])
  have hkv : ∀ (j : Fin 3) (i : Fin 256), (⟨(t.val / 64 * 64 + (min (t.val % 64 - 1) 61 + j.val)) * 256 + i.val, by have := points t; omega⟩ : Fin 32768) = ⟨(b.val * 64 + (min (r.val - 1) 61 + j.val)) * 256 + i.val, by omega⟩ :=
    fun j i => Fin.ext (by show (t.val / 64 * 64 + (min (t.val % 64 - 1) 61 + j.val)) * 256 + i.val = _; rw [hq, hr])
  have he : (edge ⟨t.val % 64, Nat.mod_lt _ (by decide)⟩) = edge r := congrArg edge (Fin.ext hr)
  rw [← hrow a]
  refine (written8 m c t a ⟨h.val * 64 + d.val, by omega⟩).trans ?_
  refine (out_apply _ _ _ _ _ _ _ _ h a d).trans ?_
  unfold ofBlocks attended
  refine blended_congr ?_ ?_ ?_ ?_ ?_ ?_
  · intro k
    refine congrArg₂ (· + ·) (Finset.sum_congr rfl fun e _ => congrArg₂ (· * ·) ((block0 m c t a _).trans ?_) ((block1 m c t k _).trans ?_)) ((block7 m c t h a _).trans ?_)
    · rw [hrow a]
    · exact congrArg (fun R => (m ((c : Thread nD τ).loc main_arg1) : FVec Ideal S32768x512 .bf16) (ix2 R _)) (hkv 0 k)
    · exact congrArg (fun i => (m ((c : Thread nD τ).loc main_arg3) : FVec Ideal S3x8x256x768 .bf16) (ix4 i h a _)) he
  · intro k
    refine congrArg₂ (· + ·) (Finset.sum_congr rfl fun e _ => congrArg₂ (· * ·) ((block0 m c t a _).trans ?_) ((block2 m c t k _).trans ?_)) ((block7 m c t h a _).trans ?_)
    · rw [hrow a]
    · exact congrArg (fun R => (m ((c : Thread nD τ).loc main_arg1) : FVec Ideal S32768x512 .bf16) (ix2 R _)) (hkv 1 k)
    · exact congrArg (fun i => (m ((c : Thread nD τ).loc main_arg3) : FVec Ideal S3x8x256x768 .bf16) (ix4 i h a _)) he
  · intro k
    refine congrArg₂ (· + ·) (Finset.sum_congr rfl fun e _ => congrArg₂ (· * ·) ((block0 m c t a _).trans ?_) ((block3 m c t k _).trans ?_)) ((block7 m c t h a _).trans ?_)
    · rw [hrow a]
    · exact congrArg (fun R => (m ((c : Thread nD τ).loc main_arg1) : FVec Ideal S32768x512 .bf16) (ix2 R _)) (hkv 2 k)
    · exact congrArg (fun i => (m ((c : Thread nD τ).loc main_arg3) : FVec Ideal S3x8x256x768 .bf16) (ix4 i h a _)) he
  · intro k
    refine (block4 m c t k _).trans ?_
    exact congrArg (fun R => (m ((c : Thread nD τ).loc main_arg2) : FVec Ideal S32768x512 .bf16) (ix2 R _)) (hkv 0 k)
  · intro k
    refine (block5 m c t k _).trans ?_
    exact congrArg (fun R => (m ((c : Thread nD τ).loc main_arg2) : FVec Ideal S32768x512 .bf16) (ix2 R _)) (hkv 1 k)
  · intro k
    refine (block6 m c t k _).trans ?_
    exact congrArg (fun R => (m ((c : Thread nD τ).loc main_arg2) : FVec Ideal S32768x512 .bf16) (ix2 R _)) (hkv 2 k)

end Cert.AttIdeal.Hand
-- ==== Proof.Att.RefValue.lean ====
/-
  The plain attention read at an index.
-/
module

public import proofs.«01_k».proof.Proof.Gen.AttRefIdeal.Run
public import proofs.«01_k».proof.Proof.Att.Sum
public import Idealize.ShloMosaic.Lib.Pointwise

@[expose] public section

set_option maxRecDepth 16384

noncomputable section

namespace Cert.AttRefIdeal.Hand

open Cert.Hand Cert.AttRefIdeal Cert.AttRefIdeal.Gen Idealize.ShloMosaic Idealize.ShloMosaic.TcCoe Idealize.SL.Sem

/-- A row's heads, by blocks of rows. -/
def heads (x : FVec Ideal S32768x512 .bf16) : FVec Ideal S2x64x256x8x64 .f32 :=
  shapeCast _ (extf .f32 x bitsLt_bf16_f32) shapeCasts_S32768x512_S2x64x256x8x64

theorem heads_apply (x : FVec Ideal S32768x512 .bf16) (b : Fin 2) (r : Fin 64) (k : Fin 256) (h : Fin 8) (d : Fin 64) :
    heads x (ix5 b r k h d) = x (ix2 ⟨(b.val * 64 + r.val) * 256 + k.val, by omega⟩ ⟨h.val * 64 + d.val, by omega⟩) := by
  pointwise [heads]
  congr 3
  omega

/-- Block 0 of the three around each. -/
def part0 (t : FVec Ideal S2x64x256x8x64 .f32) : FVec Ideal S2x64x256x8x64 .f32 :=
  concatenate S2x64x256x8x64 1 [⟨S2x1x256x8x64, extractStridedSlice S2x1x256x8x64 ![0, 0, 0, 0, 0] t slices_S2x64x256x8x64_S2x1x256x8x64_0_0_0_0_0⟩, ⟨S2x62x256x8x64, extractStridedSlice S2x62x256x8x64 ![0, 0, 0, 0, 0] t slices_S2x64x256x8x64_S2x62x256x8x64_0_0_0_0_0⟩, ⟨S2x1x256x8x64, extractStridedSlice S2x1x256x8x64 ![0, 61, 0, 0, 0] t slices_S2x64x256x8x64_S2x1x256x8x64_0_61_0_0_0⟩] concatenates_S2x1x256x8x64_S2x62x256x8x64_S2x1x256x8x64_S2x64x256x8x64_d1

theorem part0_apply (t : FVec Ideal S2x64x256x8x64 .f32) (b : Fin 2) (r : Fin 64) (k : Fin 256) (h : Fin 8) (d : Fin 64) :
    part0 t (ix5 b r k h d) = t (ix5 b ⟨min (r.val - 1) 61 + 0, by omega⟩ k h d) := by
  pointwise [part0]
  split_ifs with h1 h2
  all_goals
    refine congrArg t (congrArg (fun i => ix5 b i k h d) (Fin.ext ?_))
    first
      | (show _ = min (r.val - 1) 61 + 0; dsimp only; omega)
      | (show _ = min (r.val - 1) 61 + 0; omega)

/-- Block 1 of the three around each. -/
def part1 (t : FVec Ideal S2x64x256x8x64 .f32) : FVec Ideal S2x64x256x8x64 .f32 :=
  concatenate S2x64x256x8x64 1 [⟨S2x1x256x8x64, extractStridedSlice S2x1x256x8x64 ![0, 1, 0, 0, 0] t slices_S2x64x256x8x64_S2x1x256x8x64_0_1_0_0_0⟩, ⟨S2x62x256x8x64, extractStridedSlice S2x62x256x8x64 ![0, 1, 0, 0, 0] t slices_S2x64x256x8x64_S2x62x256x8x64_0_1_0_0_0⟩, ⟨S2x1x256x8x64, extractStridedSlice S2x1x256x8x64 ![0, 62, 0, 0, 0] t slices_S2x64x256x8x64_S2x1x256x8x64_0_62_0_0_0⟩] concatenates_S2x1x256x8x64_S2x62x256x8x64_S2x1x256x8x64_S2x64x256x8x64_d1

theorem part1_apply (t : FVec Ideal S2x64x256x8x64 .f32) (b : Fin 2) (r : Fin 64) (k : Fin 256) (h : Fin 8) (d : Fin 64) :
    part1 t (ix5 b r k h d) = t (ix5 b ⟨min (r.val - 1) 61 + 1, by omega⟩ k h d) := by
  pointwise [part1]
  split_ifs with h1 h2
  all_goals
    refine congrArg t (congrArg (fun i => ix5 b i k h d) (Fin.ext ?_))
    first
      | (show _ = min (r.val - 1) 61 + 1; dsimp only; omega)
      | (show _ = min (r.val - 1) 61 + 1; omega)

/-- Block 2 of the three around each. -/
def part2 (t : FVec Ideal S2x64x256x8x64 .f32) : FVec Ideal S2x64x256x8x64 .f32 :=
  concatenate S2x64x256x8x64 1 [⟨S2x1x256x8x64, extractStridedSlice S2x1x256x8x64 ![0, 2, 0, 0, 0] t slices_S2x64x256x8x64_S2x1x256x8x64_0_2_0_0_0⟩, ⟨S2x62x256x8x64, extractStridedSlice S2x62x256x8x64 ![0, 2, 0, 0, 0] t slices_S2x64x256x8x64_S2x62x256x8x64_0_2_0_0_0⟩, ⟨S2x1x256x8x64, extractStridedSlice S2x1x256x8x64 ![0, 63, 0, 0, 0] t slices_S2x64x256x8x64_S2x1x256x8x64_0_63_0_0_0⟩] concatenates_S2x1x256x8x64_S2x62x256x8x64_S2x1x256x8x64_S2x64x256x8x64_d1

theorem part2_apply (t : FVec Ideal S2x64x256x8x64 .f32) (b : Fin 2) (r : Fin 64) (k : Fin 256) (h : Fin 8) (d : Fin 64) :
    part2 t (ix5 b r k h d) = t (ix5 b ⟨min (r.val - 1) 61 + 2, by omega⟩ k h d) := by
  pointwise [part2]
  split_ifs with h1 h2
  all_goals
    refine congrArg t (congrArg (fun i => ix5 b i k h d) (Fin.ext ?_))
    first
      | (show _ = min (r.val - 1) 61 + 2; dsimp only; omega)
      | (show _ = min (r.val - 1) 61 + 2; omega)

/-- The three blocks around each. -/
def around (t : FVec Ideal S2x64x256x8x64 .f32) : FVec Ideal S2x64x768x8x64 .f32 :=
  concatenate S2x64x768x8x64 2 [⟨S2x64x256x8x64, part0 t⟩, ⟨S2x64x256x8x64, part1 t⟩, ⟨S2x64x256x8x64, part2 t⟩] concatenates_S2x64x256x8x64_S2x64x256x8x64_S2x64x256x8x64_S2x64x768x8x64_d2

theorem around0 (t : FVec Ideal S2x64x256x8x64 .f32) (b : Fin 2) (r : Fin 64) (k : Fin 256) (h : Fin 8) (d : Fin 64) :
    around t (ix5 b r ⟨0 + k.val, by omega⟩ h d) = t (ix5 b ⟨min (r.val - 1) 61 + 0, by omega⟩ k h d) := by
  rw [← part0_apply t]
  pointwise [around]

theorem around1 (t : FVec Ideal S2x64x256x8x64 .f32) (b : Fin 2) (r : Fin 64) (k : Fin 256) (h : Fin 8) (d : Fin 64) :
    around t (ix5 b r ⟨256 + k.val, by omega⟩ h d) = t (ix5 b ⟨min (r.val - 1) 61 + 1, by omega⟩ k h d) := by
  rw [← part1_apply t]
  pointwise [around]

theorem around2 (t : FVec Ideal S2x64x256x8x64 .f32) (b : Fin 2) (r : Fin 64) (k : Fin 256) (h : Fin 8) (d : Fin 64) :
    around t (ix5 b r ⟨512 + k.val, by omega⟩ h d) = t (ix5 b ⟨min (r.val - 1) 61 + 2, by omega⟩ k h d) := by
  rw [← part2_apply t]
  pointwise [around]
  rw [dif_neg (by omega), dif_neg (by omega)]
  refine congrArg (part2 t) (congrArg (fun i => ix5 b r i h d) (Fin.ext ?_))
  show 512 + k.val - 256 - 256 = k.val
  omega

/-- Each block's biases. -/
def table (w : FVec Ideal S3x8x256x768 .bf16) : FVec Ideal S64x8x256x768 .f32 :=
  concatenate S64x8x256x768 0 [⟨S1x8x256x768, extractStridedSlice S1x8x256x768 ![0, 0, 0, 0] (extf .f32 w bitsLt_bf16_f32 : FVec Ideal S3x8x256x768 .f32) slices_S3x8x256x768_S1x8x256x768_0_0_0_0⟩, ⟨S62x8x256x768, broadcastInDim S62x8x256x768 ![0, 1, 2, 3] bcast_S1x8x256x768_S62x8x256x768_0_1_2_3 (extractStridedSlice S1x8x256x768 ![1, 0, 0, 0] (extf .f32 w bitsLt_bf16_f32 : FVec Ideal S3x8x256x768 .f32) slices_S3x8x256x768_S1x8x256x768_1_0_0_0)⟩, ⟨S1x8x256x768, extractStridedSlice S1x8x256x768 ![2, 0, 0, 0] (extf .f32 w bitsLt_bf16_f32 : FVec Ideal S3x8x256x768 .f32) slices_S3x8x256x768_S1x8x256x768_2_0_0_0⟩] concatenates_S1x8x256x768_S62x8x256x768_S1x8x256x768_S64x8x256x768_d0

/-- Which biases a block takes: the first block its own, the last its own. -/
theorem table_apply (w : FVec Ideal S3x8x256x768 .bf16) (r : Fin 64) (h : Fin 8) (q : Fin 256) (k : Fin 768) :
    table w (ix4 r h q k) = w (ix4 (edge r) h q k) := by
  pointwise [table]
  have hr := r.isLt
  by_cases h1 : r.val < 1
  · have he : edge r = 0 := by
      unfold edge
      rw [if_pos (by omega)]
    rw [dif_pos h1, he]
    exact congrArg w (congrArg (fun i => ix4 i h q k) (Fin.ext (show r.val = 0 by omega)))
  · rw [dif_neg h1]
    by_cases h2 : r.val - 1 < 62
    · have he : edge r = 1 := by
        unfold edge
        rw [if_neg (by omega), if_neg (by omega)]
      rw [dif_pos h2, he]
    · have he : edge r = 2 := by
        unfold edge
        rw [if_neg (by omega), if_pos (by omega)]
      rw [dif_neg h2, he]
      exact congrArg w (congrArg (fun i => ix4 i h q k) (Fin.ext (show 2 + (r.val - 1 - 62) = 2 by omega)))

/-- The scores. -/
def scored (q k : FVec Ideal S32768x512 .bf16) (w : FVec Ideal S3x8x256x768 .bf16) : FVec Ideal S2x64x8x256x768 .f32 :=
  addf (Host.dotGeneral dot_S2x64x256x8x64_S2x64x768x8x64_S2x64x8x256x768_4_4_2_2_013_013 none (heads q) (around (heads k))) (broadcastInDim S2x64x8x256x768 ![0, 1, 2, 3, 4] bcast_S1x64x8x256x768_S2x64x8x256x768_0_1_2_3_4 (broadcastInDim S1x64x8x256x768 ![1, 2, 3, 4] bcast_S64x8x256x768_S1x64x8x256x768_1_2_3_4 (table w)))

theorem scored_apply (q k : FVec Ideal S32768x512 .bf16) (w : FVec Ideal S3x8x256x768 .bf16) (b : Fin 2) (r : Fin 64) (h : Fin 8) (a : Fin 256) (s : Fin 768) :
    scored q k w (ix5 b r h a s) = (∑ d : Fin 64, heads q (ix5 b r a h d) * around (heads k) (ix5 b r s h d)) + w (ix4 (edge r) h a s) := by
  rw [← table_apply w]
  pointwise [scored]

/-- The greatest of each row of scores. -/
def peak (s : FVec Ideal S2x64x8x256x768 .f32) : FVec Ideal S2x64x8x256 .f32 :=
  maximumf (broadcastInDim S2x64x8x256 ![] bcast_S_S2x64x8x256 (constant S_ .f32 0xFF800000#32)) (Host.reduce FloatOps.maximumf s (constant S_ .f32 0xFF800000#32) reducesTo_S2x64x8x256x768_S2x64x8x256_d4 h_S_)

theorem max_at (x y : FVec Ideal S2x64x8x256 .f32) (i : S2x64x8x256.Idx) : maximumf x y i = max (x i) (y i) := rfl

theorem floor_at (i : S2x64x8x256.Idx) :
    (broadcastInDim S2x64x8x256 ![] bcast_S_S2x64x8x256 (constant S_ .f32 0xFF800000#32) : FVec Ideal S2x64x8x256 .f32) i = Ideal.ofBits FTy.f32 0xFF800000#32 := rfl

theorem keys_reduced : S2x64x8x256x768.Reduces [4] S2x64x8x256 := by decide

theorem lift_at (hr : S2x64x8x256x768.Reduces [4] S2x64x8x256) (b : Fin 2) (r : Fin 64) (h : Fin 8) (a : Fin 256) (k : Fin 768) :
    hr.lift (ix4 b r h a) k = ix5 b r h a k := by
  funext x
  apply Fin.ext
  match x with
  | ⟨0, _⟩ => rfl
  | ⟨1, _⟩ => rfl
  | ⟨2, _⟩ => rfl
  | ⟨3, _⟩ => rfl
  | ⟨4, _⟩ => rfl

theorem reduced_at (hr : S2x64x8x256x768.Reduces [4] S2x64x8x256) (s : FVec Ideal S2x64x8x256x768 .f32) (i : S2x64x8x256.Idx) :
    Host.reduce (FloatOps.maximumf (F := Ideal) (φ := .f32)) s (constant S_ .f32 0xFF800000#32) reducesTo_S2x64x8x256x768_S2x64x8x256_d4 h_S_ i
      = greatest (fun k : Fin 768 => s (hr.lift i k)) := by
  rw [Host.reduce_eq_fold_single _ _ _ _ hr]
  unfold greatest
  rw [← neg_inf_word]
  have hc : ∀ i, (constant S_ .f32 0xFF800000#32 : FVec Ideal S_ .f32) i = Ideal.ofBits FTy.f32 0xFF800000#32 := fun _ => rfl
  rw [hc]
  rfl

theorem peak_apply (s : FVec Ideal S2x64x8x256x768 .f32) (b : Fin 2) (r : Fin 64) (h : Fin 8) (a : Fin 256) :
    peak s (ix4 b r h a) = greatest (fun k => s (ix5 b r h a k)) := by
  unfold peak
  rw [max_at, floor_at, reduced_at keys_reduced, neg_inf_word]
  refine (max_eq_right bot_le).trans (congrArg greatest (funext fun k => congrArg s (lift_at _ b r h a k)))

def raised (s : FVec Ideal S2x64x8x256x768 .f32) : FVec Ideal S2x64x8x256x768 .f32 :=
  Host.exp (subf s (broadcastInDim S2x64x8x256x768 ![0, 1, 2, 3, 4] bcast_S2x64x8x256x1_S2x64x8x256x768_0_1_2_3_4 (broadcastInDim S2x64x8x256x1 ![0, 1, 2, 3] bcast_S2x64x8x256_S2x64x8x256x1_0_1_2_3 (peak s))))

theorem raised_apply (s : FVec Ideal S2x64x8x256x768 .f32) (b : Fin 2) (r : Fin 64) (h : Fin 8) (a : Fin 256) (k : Fin 768) :
    raised s (ix5 b r h a k) = Ideal.exp (s (ix5 b r h a k) - peak s (ix4 b r h a)) := by
  pointwise [raised]

/-- The softmax of each row of scores. -/
def soft (s : FVec Ideal S2x64x8x256x768 .f32) : FVec Ideal S2x64x8x256x768 .f32 :=
  Host.divf (raised s) (broadcastInDim S2x64x8x256x768 ![0, 1, 2, 3, 4] bcast_S2x64x8x256x1_S2x64x8x256x768_0_1_2_3_4 (broadcastInDim S2x64x8x256x1 ![0, 1, 2, 3] bcast_S2x64x8x256_S2x64x8x256x1_0_1_2_3 (Host.reduceAdd (raised s) (constant S_ .f32 0x00000000#32) reducesTo_S2x64x8x256x768_S2x64x8x256_d4 h_S_)))

theorem soft_apply (s : FVec Ideal S2x64x8x256x768 .f32) (b : Fin 2) (r : Fin 64) (h : Fin 8) (a : Fin 256) (k : Fin 768) :
    soft s (ix5 b r h a k) = Ideal.div (raised s (ix5 b r h a k)) (∑ i : Fin 768, raised s (ix5 b r h a i)) := by
  pointwise [soft]

/-- The weighted values, as rows again. -/
def mixed (p : FVec Ideal S2x64x8x256x768 .f32) (v : FVec Ideal S32768x512 .bf16) : FVec Ideal S32768x512 .bf16 :=
  truncf .bf16 (shapeCast _ (transpose S2x64x256x8x64 [0, 1, 4, 2, 3] (Host.dotGeneral dot_S2x64x768x8x64_S2x64x8x256x768_S2x64x8x64x256_2_4_4_3_013_012 none (around (heads v)) p) transposes_S2x64x8x64x256_S2x64x256x8x64_0_1_4_2_3) shapeCasts_S2x64x256x8x64_S32768x512) bitsLt_bf16_f32

theorem mixed_apply (p : FVec Ideal S2x64x8x256x768 .f32) (v : FVec Ideal S32768x512 .bf16) (b : Fin 2) (r : Fin 64) (h : Fin 8) (a : Fin 256) (d : Fin 64) :
    mixed p v (ix2 ⟨(b.val * 64 + r.val) * 256 + a.val, by omega⟩ ⟨h.val * 64 + d.val, by omega⟩)
      = ∑ k : Fin 768, around (heads v) (ix5 b r k h d) * p (ix5 b r h a k) := by
  have e : mixed p v (ix2 ⟨(b.val * 64 + r.val) * 256 + a.val, by omega⟩ ⟨h.val * 64 + d.val, by omega⟩)
      = (Host.dotGeneral dot_S2x64x768x8x64_S2x64x8x256x768_S2x64x8x64x256_2_4_4_3_013_012 none (around (heads v)) p : FVec Ideal S2x64x8x64x256 .f32) (ix5 b r h d a) := by
    pointwise [mixed]
  rw [e]
  pointwise []

theorem res_eq (m : (ℓ : Loc nD τ sig) → Buf (Elt Ideal) ℓ) (c : Dev nD) :
    Value.res_out0 m c = mixed (soft (scored (m ((c.tc : Thread nD τ).loc main_arg0)) (m ((c.tc : Thread nD τ).loc main_arg1)) (m ((c.tc : Thread nD τ).loc main_arg3)))) (m ((c.tc : Thread nD τ).loc main_arg2)) := rfl

end Cert.AttRefIdeal.Hand
-- ==== Proof.Att.Finite.lean ====
/-
  The precondition read: the queries, the keys and the biases are finite numbers.
-/
module

public import proofs.«01_k».proof.Defs
public import proofs.«01_k».proof.Proof.Moe.Finite
public import proofs.«01_k».proof.Proof.Gen.AttIdeal.Value
public import proofs.«01_k».proof.Proof.Gen.Pre_att_scores_finite
public import Idealize.ShloMosaic.Lib.ReduceAll

@[expose] public section

set_option maxRecDepth 16384

noncomputable section

namespace Cert.AttIdeal.Hand

open Idealize.ShloMosaic Idealize.ShloMosaic.TcCoe Idealize.SL.Sem

theorem both : ∀ x y : BitVec 1, IntOp.andi x y = 1#1 → x = 1#1 ∧ y = 1#1 := by decide

theorem finite_of_pre (m : (ℓ : Loc Cert.AttIdeal.nD Cert.AttIdeal.τ Cert.AttIdeal.sig) → Buf (Elt Ideal) ℓ)
    (h : Cert.Pre_AttIdeal_att_scores_finite m) (c : Dev Cert.AttIdeal.nD) :
    (∀ R j, @Ne EReal ((m ((c : Thread Cert.AttIdeal.nD Cert.AttIdeal.τ).loc Cert.AttIdeal.main_arg0) : FVec Ideal Cert.AttIdeal.S32768x512 .bf16) (ix2 R j)) ⊤ ∧ @Ne EReal ((m ((c : Thread Cert.AttIdeal.nD Cert.AttIdeal.τ).loc Cert.AttIdeal.main_arg0) : FVec Ideal Cert.AttIdeal.S32768x512 .bf16) (ix2 R j)) ⊥)
    ∧ (∀ R j, @Ne EReal ((m ((c : Thread Cert.AttIdeal.nD Cert.AttIdeal.τ).loc Cert.AttIdeal.main_arg1) : FVec Ideal Cert.AttIdeal.S32768x512 .bf16) (ix2 R j)) ⊤ ∧ @Ne EReal ((m ((c : Thread Cert.AttIdeal.nD Cert.AttIdeal.τ).loc Cert.AttIdeal.main_arg1) : FVec Ideal Cert.AttIdeal.S32768x512 .bf16) (ix2 R j)) ⊥)
    ∧ (∀ i h a s, @Ne EReal ((m ((c : Thread Cert.AttIdeal.nD Cert.AttIdeal.τ).loc Cert.AttIdeal.main_arg3) : FVec Ideal Cert.AttIdeal.S3x8x256x768 .bf16) (ix4 i h a s)) ⊤ ∧ @Ne EReal ((m ((c : Thread Cert.AttIdeal.nD Cert.AttIdeal.τ).loc Cert.AttIdeal.main_arg3) : FVec Ideal Cert.AttIdeal.S3x8x256x768 .bf16) (ix4 i h a s)) ⊥) := by
  have e := congrFun (h c) ValueIdx.ix0
  unfold Cert.Pre_att_scores_finite.fn at e
  dsimp only at e
  haveI : Subsingleton Cert.Pre_att_scores_finite.S_.Idx := ⟨fun a b => funext fun i => i.elim0⟩
  obtain ⟨e, e2⟩ := both _ _ e
  obtain ⟨e0, e1⟩ := both _ _ e
  refine ⟨fun R j => ?_, fun R j => ?_, fun i h a s => ?_⟩
  · have q := Host.reduce_andi_all _ _ _ _ _ e0 (ix2 R j)
    apply Cert.MoeIdeal.Hand.finite_of_abs_lt
    rw [← Cert.MoeIdeal.Hand.inf_word]
    exact q
  · have q := Host.reduce_andi_all _ _ _ _ _ e1 (ix2 R j)
    apply Cert.MoeIdeal.Hand.finite_of_abs_lt
    rw [← Cert.MoeIdeal.Hand.inf_word]
    exact q
  · have q := Host.reduce_andi_all _ _ _ _ _ e2 (ix4 i h a s)
    apply Cert.MoeIdeal.Hand.finite_of_abs_lt
    rw [← Cert.MoeIdeal.Hand.inf_word]
    exact q

end Cert.AttIdeal.Hand
-- ==== Proof.Att.Scores.lean ====
/-
  Scores of finite queries, keys and biases are finite.
-/
module

public import proofs.«01_k».proof.Proof.Att.Common

@[expose] public section

set_option maxRecDepth 16384

noncomputable section

namespace Cert.Hand

open Idealize.ShloMosaic

theorem real_of {x : EReal} (h : x ≠ ⊤ ∧ x ≠ ⊥) : ∃ y : ℝ, x = (y : EReal) := by
  obtain ⟨h1, h2⟩ := h
  lift x to ℝ using ⟨h1, h2⟩
  exact ⟨x, rfl⟩

theorem sum_real {ι : Type} (s : Finset ι) (f : ι → EReal) (h : ∀ i, ∃ y : ℝ, f i = (y : EReal)) : ∃ y : ℝ, ∑ i ∈ s, f i = (y : EReal) := by
  classical
  induction s using Finset.induction_on with
  | empty => exact ⟨0, by simp⟩
  | insert a t ha ih =>
    obtain ⟨y, hy⟩ := ih
    obtain ⟨z, hz⟩ := h a
    exact ⟨z + y, by rw [Finset.sum_insert ha, hy, hz, EReal.coe_add]⟩

theorem scoreAt_real (q k : Fin 32768 → Fin 512 → EReal) (w : Fin 3 → Fin 8 → Fin 256 → Fin 768 → EReal) (hq : ∀ R j, q R j ≠ ⊤ ∧ q R j ≠ ⊥) (hk : ∀ R j, k R j ≠ ⊤ ∧ k R j ≠ ⊥)
    (hw : ∀ i h a s, w i h a s ≠ ⊤ ∧ w i h a s ≠ ⊥) (b : Fin 2) (r : Fin 64) (a : Fin 256) (h : Fin 8) (j : Fin 3) (i : Fin 256) :
    scoreAt q k w b r a h j i ≠ ⊤ ∧ scoreAt q k w b r a h j i ≠ ⊥ := by
  have hs := sum_real Finset.univ (fun e : Fin 64 => q ⟨(b.val * 64 + r.val) * 256 + a.val, by omega⟩ ⟨h.val * 64 + e.val, by omega⟩ * k ⟨(b.val * 64 + (min (r.val - 1) 61 + j.val)) * 256 + i.val, by omega⟩ ⟨h.val * 64 + e.val, by omega⟩) (by
    intro e
    obtain ⟨x, hx⟩ := real_of (hq ⟨(b.val * 64 + r.val) * 256 + a.val, by omega⟩ ⟨h.val * 64 + e.val, by omega⟩)
    obtain ⟨y, hy⟩ := real_of (hk ⟨(b.val * 64 + (min (r.val - 1) 61 + j.val)) * 256 + i.val, by omega⟩ ⟨h.val * 64 + e.val, by omega⟩)
    exact ⟨x * y, by rw [hx, hy, EReal.coe_mul]⟩)
  obtain ⟨y, hy⟩ := hs
  obtain ⟨z, hz⟩ := real_of (hw (edge r) h a ⟨256 * j.val + i.val, by omega⟩)
  have e : scoreAt q k w b r a h j i = ((y + z : ℝ) : EReal) := by
    unfold scoreAt
    rw [hy, hz, EReal.coe_add]
  rw [e]
  exact ⟨EReal.coe_ne_top _, EReal.coe_ne_bot _⟩

/-- The softmax over the union of the three blocks is the three blocks' blend. -/
theorem softened_attended (q k v : Fin 32768 → Fin 512 → EReal) (w : Fin 3 → Fin 8 → Fin 256 → Fin 768 → EReal) (hq : ∀ R j, q R j ≠ ⊤ ∧ q R j ≠ ⊥) (hk : ∀ R j, k R j ≠ ⊤ ∧ k R j ≠ ⊥)
    (hw : ∀ i h a s, w i h a s ≠ ⊤ ∧ w i h a s ≠ ⊥) (b : Fin 2) (r : Fin 64) (a : Fin 256) (h : Fin 8) (d : Fin 64) (s u : Fin 768 → EReal)
    (hs : ∀ (j : Fin 3) (i : Fin 256), s ⟨256 * j.val + i.val, by omega⟩ = scoreAt q k w b r a h j i)
    (hu : ∀ (j : Fin 3) (i : Fin 256), u ⟨256 * j.val + i.val, by omega⟩ = valueAt v b r h d j i) :
    softened s u = attended q k v w b r a h d := by
  rw [softened_eq s u]
  · unfold attended
    exact blended_congr (hs 0) (hs 1) (hs 2) (hu 0) (hu 1) (hu 2)
  · intro i
    have e : i = ⟨256 * (⟨i.val / 256, by omega⟩ : Fin 3).val + (⟨i.val % 256, by omega⟩ : Fin 256).val, by dsimp only; omega⟩ := Fin.ext (by dsimp only; omega)
    rw [e, hs]
    exact scoreAt_real q k w hq hk hw b r a h _ _

end Cert.Hand
-- ==== Proof.Att.Tie.lean ====
/-
  The plain attention of finite queries, keys and biases, as the blend of the three blocks.
-/
module

public import proofs.«01_k».proof.Proof.Att.RefValue
public import proofs.«01_k».proof.Proof.Att.Scores

@[expose] public section

set_option maxRecDepth 16384

noncomputable section

namespace Cert.AttRefIdeal.Hand

open Cert.Hand Cert.AttRefIdeal Cert.AttRefIdeal.Gen Idealize.ShloMosaic Idealize.ShloMosaic.TcCoe Idealize.SL.Sem

theorem scored_at (q k : FVec Ideal S32768x512 .bf16) (w : FVec Ideal S3x8x256x768 .bf16) (b : Fin 2) (r : Fin 64) (a : Fin 256) (h : Fin 8) (j : Fin 3) (i : Fin 256) :
    scored q k w (ix5 b r h a ⟨256 * j.val + i.val, by omega⟩)
      = scoreAt (fun R j => q (ix2 R j)) (fun R j => k (ix2 R j)) (fun i h a s => w (ix4 i h a s)) b r a h j i := by
  refine (scored_apply q k w b r h a _).trans ?_
  refine congrArg₂ (· + ·) (Finset.sum_congr rfl fun e _ => congrArg₂ (· * ·) (heads_apply q b r a h e) ?_) rfl
  match j with
  | ⟨0, _⟩ => exact (around0 _ b r i h e).trans (heads_apply k b _ i h e)
  | ⟨1, _⟩ => exact (around1 _ b r i h e).trans (heads_apply k b _ i h e)
  | ⟨2, _⟩ => exact (around2 _ b r i h e).trans (heads_apply k b _ i h e)

theorem value_at (v : FVec Ideal S32768x512 .bf16) (b : Fin 2) (r : Fin 64) (h : Fin 8) (d : Fin 64) (j : Fin 3) (i : Fin 256) :
    around (heads v) (ix5 b r ⟨256 * j.val + i.val, by omega⟩ h d) = valueAt (fun R j => v (ix2 R j)) b r h d j i := by
  match j with
  | ⟨0, _⟩ => exact (around0 _ b r i h d).trans (heads_apply v b _ i h d)
  | ⟨1, _⟩ => exact (around1 _ b r i h d).trans (heads_apply v b _ i h d)
  | ⟨2, _⟩ => exact (around2 _ b r i h d).trans (heads_apply v b _ i h d)

theorem mixed_soft (q k v : FVec Ideal S32768x512 .bf16) (w : FVec Ideal S3x8x256x768 .bf16) (b : Fin 2) (r : Fin 64) (a : Fin 256) (h : Fin 8) (d : Fin 64) :
    mixed (soft (scored q k w)) v (ix2 ⟨(b.val * 64 + r.val) * 256 + a.val, by omega⟩ ⟨h.val * 64 + d.val, by omega⟩)
      = softened (fun s => scored q k w (ix5 b r h a s)) (fun s => around (heads v) (ix5 b r s h d)) := by
  refine (mixed_apply _ v b r h a d).trans ?_
  unfold softened
  refine Finset.sum_congr rfl fun s _ => congrArg₂ (· * ·) rfl ?_
  refine (soft_apply _ b r h a s).trans ?_
  refine congrArg₂ Ideal.div ?_ (Finset.sum_congr rfl fun i _ => ?_)
  · refine (raised_apply _ b r h a s).trans ?_
    rw [peak_apply]
  · refine (raised_apply _ b r h a i).trans ?_
    rw [peak_apply]

theorem result_apply (q k v : FVec Ideal S32768x512 .bf16) (w : FVec Ideal S3x8x256x768 .bf16) (hq : ∀ R j, @Ne EReal (q (ix2 R j)) ⊤ ∧ @Ne EReal (q (ix2 R j)) ⊥)
    (hk : ∀ R j, @Ne EReal (k (ix2 R j)) ⊤ ∧ @Ne EReal (k (ix2 R j)) ⊥) (hw : ∀ i h a s, @Ne EReal (w (ix4 i h a s)) ⊤ ∧ @Ne EReal (w (ix4 i h a s)) ⊥)
    (b : Fin 2) (r : Fin 64) (a : Fin 256) (h : Fin 8) (d : Fin 64) :
    @Eq EReal (mixed (soft (scored q k w)) v (ix2 ⟨(b.val * 64 + r.val) * 256 + a.val, by omega⟩ ⟨h.val * 64 + d.val, by omega⟩))
      (attended (fun R j => q (ix2 R j)) (fun R j => k (ix2 R j)) (fun R j => v (ix2 R j)) (fun i h a s => w (ix4 i h a s)) b r a h d) :=
  (mixed_soft q k v w b r a h d).trans (softened_attended _ _ _ _ hq hk hw b r a h d _ _ (scored_at q k w b r a h) (value_at v b r h d))

end Cert.AttRefIdeal.Hand
-- ==== Proof.Fft.lean ====
/-
  The angles of the transforms of 256 points, and sums over two halves.
-/
module

public import Idealize.ShloMosaic.Lib.Pointwise

@[expose] public section

set_option maxRecDepth 16384

noncomputable section

namespace Cert.Hand

open Idealize.ShloMosaic

/-- The angle of point `k` and row `r` of the transform of 256 points. -/
def angle (k : Fin 256) (r : Fin 128) : EReal :=
  Ideal.div (Ideal.ofBits FTy.f32 1086918619#32 * FloatOps.sitofp (F := Ideal) FTy.f32 (BitVec.ofNat 32 k.val)
    * FloatOps.sitofp (F := Ideal) FTy.f32 (BitVec.ofNat 32 r.val)) (Ideal.ofBits FTy.f32 1132462080#32)

/-- The cosines for the first 256 rows, the sines' negatives for the others. -/
def wave (k : Fin 512) (r : Fin 128) : EReal :=
  if h : k.val < 256 then Ideal.cos (angle ⟨k.val, h⟩ r) else -Ideal.sin (angle ⟨k.val - 256, by omega⟩ r)

theorem wave_pos (k : Fin 512) (r : Fin 128) (h : k.val < 256) : wave k r = Ideal.cos (angle ⟨k.val, h⟩ r) := dif_pos h

theorem wave_neg (k : Fin 512) (r : Fin 128) (h : ¬ k.val < 256) : wave k r = -Ideal.sin (angle ⟨k.val - 256, by omega⟩ r) := dif_neg h

theorem wave_left (k : Fin 256) (r : Fin 128) : wave ⟨k.val, by omega⟩ r = Ideal.cos (angle k r) := dif_pos k.isLt

theorem wave_right (k : Fin 256) (r : Fin 128) : wave ⟨256 + k.val, by omega⟩ r = -Ideal.sin (angle k r) := by
  refine (dif_neg (show ¬ 256 + k.val < 256 by omega)).trans ?_
  congr 3
  exact Fin.ext (Nat.add_sub_cancel_left ..)

/-- A sum over 512 is the sum over its two halves. -/
theorem sum_halves_512 (f : Fin 512 → EReal) : ∑ x, f x = ∑ a : Fin 256, f ⟨a.val, by omega⟩ + ∑ a : Fin 256, f ⟨256 + a.val, by omega⟩ :=
  Fin.sum_univ_add (a := 256) (b := 256) f

/-- A sum over 256 is the sum over its two halves. -/
theorem sum_halves_256 (f : Fin 256 → EReal) : ∑ x, f x = ∑ a : Fin 128, f ⟨a.val, by omega⟩ + ∑ a : Fin 128, f ⟨128 + a.val, by omega⟩ :=
  Fin.sum_univ_add (a := 128) (b := 128) f

/-- The inverse transform of 256 points at a column, the bias' share of the input and the gate. -/
def restored (d : Fin 512 → EReal) (z g b : EReal) (r : Fin 128) : EReal :=
  g * ((∑ k, wave k r * d k) * Ideal.ofBits FTy.f32 939524096#32 + z * b)

theorem restored_congr {d d' : Fin 512 → EReal} {z z' g g' b b' : EReal} (hd : ∀ k, d k = d' k) (hz : z = z') (hg : g = g') (hb : b = b')
    (r : Fin 128) : restored d z g b r = restored d' z' g' b' r := by
  rw [show d = d' from funext hd, hz, hg, hb]

end Cert.Hand
-- ==== Proof.Dft.Value.lean ====
/-
  The blocks the first transform reads and writes at a grid point.
-/
module

public import proofs.«01_k».proof.Proof.Gen.DftIdeal.Value
public import proofs.«01_k».proof.Proof.Fft
public import Idealize.ShloMosaic.Lib.StableHlo.Run
public import Idealize.ShloMosaic.Lib.Tactic

@[expose] public section

set_option maxRecDepth 16384

noncomputable section

namespace Cert.DftIdeal.Hand

open Cert.Hand Cert.DftIdeal Cert.DftIdeal.Gen Idealize.ShloMosaic Idealize.ShloMosaic.TcCoe Idealize.SL.Sem

variable (m : (ℓ : Loc nD τ sig) → Buf (Elt Ideal) ℓ)

theorem points (t : Fin cfg0.N) : t.val < 64 := lt_of_lt_of_eq t.isLt (show cfg0.N = 64 from N_0)

/-- Where each window's block lies at point `t`. -/
theorem place : ∀ t : Fin cfg0.N,
    (win0_0.index t (0 : Fin 3) = t.val / 32 ∧ win0_0.index t (1 : Fin 3) = 0 ∧ win0_0.index t (2 : Fin 3) = t.val % 32)
    ∧ (win0_1.index t (0 : Fin 2) = 0 ∧ win0_1.index t (1 : Fin 2) = 0) :=
  (by decide +kernel : ∀ t : Fin grid0.N, _)

/-- The input. -/
theorem block0 (c : Dev nD) (t : Fin cfg0.N) (a : Fin 1) (b : Fin 128) (d : Fin 2048) :
    (iblk m c 0 t : Vec Ideal S1x128x2048 .bf16) (ix3 a b d)
      = (m ((c : Thread nD τ).loc main_arg0) : FVec Ideal S2x128x65536 .bf16) (ix3 ⟨t.val / 32, by have := points t; omega⟩ b ⟨t.val % 32 * 2048 + d.val, by have := points t; have := d.isLt; omega⟩) := by
  obtain ⟨⟨p0, p1, p2⟩, -⟩ := place t
  unfold iblk
  rw [View.read_apply]
  show V m c main_arg0 _ = _
  rw [V_main_arg0]
  congr 1
  funext x
  apply Fin.ext
  match x with
  | ⟨0, _⟩ => show win0_0.index t 0 * 1 + 1 * a.val = t.val / 32; rw [p0]; omega
  | ⟨1, _⟩ => show win0_0.index t 1 * 128 + 1 * b.val = b.val; rw [p1]; omega
  | ⟨2, _⟩ => show win0_0.index t 2 * 2048 + 1 * d.val = t.val % 32 * 2048 + d.val; rw [p2]; omega

/-- The table. -/
theorem block1 (c : Dev nD) (t : Fin cfg0.N) (a : Fin 512) (b : Fin 128) :
    (iblk m c 1 t : Vec Ideal S512x128 .bf16) (ix2 a b)
      = (V m c main_v23 : FVec Ideal S512x128 .bf16) (ix2 a b) := by
  obtain ⟨-, p0, p1⟩ := place t
  unfold iblk
  rw [View.read_apply]
  show V m c main_v23 _ = _
  congr 1
  funext x
  apply Fin.ext
  match x with
  | ⟨0, _⟩ => show win0_1.index t 0 * 512 + 1 * a.val = a.val; rw [p0]; omega
  | ⟨1, _⟩ => show win0_1.index t 1 * 128 + 1 * b.val = b.val; rw [p1]; omega

/-- Where point `t` writes the transform. -/
theorem place2 : ∀ t : Fin cfg0.N,
    win0_2.index t (0 : Fin 3) = t.val / 32 ∧ win0_2.index t (1 : Fin 3) = 0 ∧ win0_2.index t (2 : Fin 3) = t.val % 32 :=
  (by decide +kernel : ∀ t : Fin grid0.N, _)

/-- The transform after the run, at an index of point `t`'s block: what the body leaves there. -/
theorem written2 (c : Dev nD) (t : Fin cfg0.N) (a : Fin 1) (b : Fin 512) (d : Fin 2048) :
    ((dats m 0 c).arrAt 2 cfg0.N) (ix3 ⟨t.val / 32, by have := points t; omega⟩ b ⟨t.val % 32 * 2048 + d.val, by have := points t; have := d.isLt; omega⟩)
      = (out0_2 (iblk m c 0 t) (iblk m c 1 t)) (ix3 a b d) := by
  have h := congrFun (Value.blocks2 m c t (flush0_2 t)) (ix3 a b d)
  rw [View.read_apply, Value.flushed2] at h
  refine Eq.trans ?_ h
  congr 1
  obtain ⟨p0, p1, p2⟩ := place2 t
  funext x
  apply Fin.ext
  match x with
  | ⟨0, _⟩ => show t.val / 32 = win0_2.index t 0 * 1 + 1 * a.val; rw [p0]; omega
  | ⟨1, _⟩ => show b.val = win0_2.index t 1 * 512 + 1 * b.val; rw [p1]; omega
  | ⟨2, _⟩ => show t.val % 32 * 2048 + d.val = win0_2.index t 2 * 2048 + 1 * d.val; rw [p2]; omega

theorem hz2 : (![0, 0] : Fin 2 → Nat) = fun _ => 0 := funext fun a => by fin_cases a <;> rfl
theorem hz3 : (![0, 0, 0] : Fin 3 → Nat) = fun _ => 0 := funext fun a => by fin_cases a <;> rfl

/-- The one store of the block leaves its value. -/
theorem out2_eq (x0 : Vec Ideal S1x128x2048 .bf16) (x1 : Vec Ideal S512x128 .bf16) : out0_2 x0 x1 = k0_pay1 x1 x0 := by
  unfold out0_2
  rw [View.canon_unit_zero (S := S1x512x2048) hz3, View.ld_unit_zero (S := S1x128x2048) hz3, View.ld_unit_zero (S := S512x128) hz2]

theorem pay_apply (x0 : Vec Ideal S1x128x2048 .bf16) (x1 : Vec Ideal S512x128 .bf16) (k : Fin 512) (j : Fin 2048) :
    k0_pay1 x1 x0 (ix3 0 k j) = ∑ r : Fin 128, x1 (ix2 k r) * x0 (ix3 0 r j) := by
  pointwise [k0_pay1]

/-- The angles. -/
def angles : FVec Ideal S256x128 .f32 :=
  Host.divf (mulf (broadcastInDim S256x128 ![0, 1] bcast_S256x1_S256x128_0_1 (mulf (broadcastInDim S256x1 ![] bcast_S_S256x1 (constant S_ .f32 0x40C90FDB#32)) (sitofp .f32 (broadcastInDim S256x1 ![0] bcast_S256_S256x1_0 (iotaInDim S256 32 0))))) (broadcastInDim S256x128 ![0, 1] bcast_S1x128_S256x128_0_1 (sitofp .f32 (broadcastInDim S1x128 ![1] bcast_S128_S1x128_1 (iotaInDim S128 32 0))))) (broadcastInDim S256x128 ![] bcast_S_S256x128 (constant S_ .f32 0x43800000#32))

theorem angles_apply (k : Fin 256) (r : Fin 128) : angles (ix2 k r) = angle k r := by
  pointwise [angles]
  rfl

/-- The forward table. -/
theorem table (c : Dev nD) (k : Fin 512) (r : Fin 128) : (V m c main_v23 : FVec Ideal S512x128 .bf16) (ix2 k r) = wave k r := by
  have h : @Eq (FVec Ideal S512x128 .bf16) (V m c main_v23) (truncf .bf16 (concatenate S512x128 0 [⟨S256x128, Host.cos angles⟩, ⟨S256x128, Host.negf (Host.sin angles)⟩] concatenates_S256x128_S256x128_S512x128_d0) bitsLt_bf16_f32) := by
    unfold V
    after_results <;> rfl
  rw [h]
  pointwise []
  simp only [angles_apply]
  rfl

/-- A batch and a column lie in one grid point. -/
theorem split (b : Fin 2) (j : Fin 65536) : ∃ (t : Fin cfg0.N) (x : Fin 2048) (h : t.val / 32 < 2) (h' : t.val % 32 * 2048 + x.val < 65536), b = ⟨t.val / 32, h⟩ ∧ j = ⟨t.val % 32 * 2048 + x.val, h'⟩ :=
  ⟨⟨b.val * 32 + j.val / 2048, lt_of_lt_of_eq (show b.val * 32 + j.val / 2048 < 64 by omega) (show 64 = cfg0.N from N_0.symm)⟩, ⟨j.val % 2048, by omega⟩,
    by show (b.val * 32 + j.val / 2048) / 32 < 2; omega, by show (b.val * 32 + j.val / 2048) % 32 * 2048 + j.val % 2048 < 65536; omega,
    Fin.ext (by show b.val = (b.val * 32 + j.val / 2048) / 32; omega), Fin.ext (by show j.val = (b.val * 32 + j.val / 2048) % 32 * 2048 + j.val % 2048; omega)⟩

/-- The transform after the run. -/
theorem result_apply (c : Dev nD) (b : Fin 2) (k : Fin 512) (j : Fin 65536) :
    @Eq EReal (((dats m 0 c).arrAt 2 cfg0.N) (ix3 b k j))
      (∑ r : Fin 128, wave k r * (m ((c : Thread nD τ).loc main_arg0) : FVec Ideal S2x128x65536 .bf16) (ix3 b r j)) := by
  obtain ⟨t, x, h, h', rfl, rfl⟩ := split b j
  refine (written2 m c t 0 k x).trans ?_
  rw [out2_eq]
  refine (pay_apply _ _ k x).trans (Finset.sum_congr rfl fun r _ => ?_)
  exact congrArg₂ (· * ·) ((block1 m c t k r).trans (table m c k r)) (block0 m c t 0 r x)

end Cert.DftIdeal.Hand
-- ==== Proof.Dft.RefValue.lean ====
/-
  The plain first transform read at an index.
-/
module

public import proofs.«01_k».proof.Proof.Gen.DftRefIdeal.Run
public import proofs.«01_k».proof.Proof.Fft

@[expose] public section

set_option maxRecDepth 16384

noncomputable section

namespace Cert.DftRefIdeal.Hand

open Cert.Hand Cert.DftRefIdeal Cert.DftRefIdeal.Gen Idealize.ShloMosaic Idealize.ShloMosaic.TcCoe Idealize.SL.Sem

/-- The angles. -/
def angles : FVec Ideal S256x128 .f32 :=
  Host.divf (mulf (broadcastInDim S256x128 ![0, 1] bcast_S256x1_S256x128_0_1 (mulf (broadcastInDim S256x1 ![] bcast_S_S256x1 (constant S_ .f32 0x40C90FDB#32)) (broadcastInDim S256x1 ![0] bcast_S256_S256x1_0 (sitofp .f32 (iotaInDim S256 32 0))))) (broadcastInDim S256x128 ![0, 1] bcast_S1x128_S256x128_0_1 (broadcastInDim S1x128 ![1] bcast_S128_S1x128_1 (sitofp .f32 (iotaInDim S128 32 0))))) (broadcastInDim S256x128 ![] bcast_S_S256x128 (constant S_ .f32 0x43800000#32))

theorem angles_apply (k : Fin 256) (r : Fin 128) : angles (ix2 k r) = angle k r := by
  pointwise [angles]
  rfl

/-- The transform: the real parts, then the imaginary. -/
def dft (z : FVec Ideal S2x128x65536 .f32) : FVec Ideal S2x512x65536 .bf16 :=
  truncf .bf16 (concatenate S2x512x65536 1 [⟨S2x256x65536, (transpose S2x256x65536 [0, 2, 1] (Host.dotGeneral dot_S2x128x65536_S256x128_S2x65536x256_1_1_02_0_n_n none z (Host.cos angles)) transposes_S2x65536x256_S2x256x65536_0_2_1)⟩, ⟨S2x256x65536, (transpose S2x256x65536 [0, 2, 1] (Host.dotGeneral dot_S2x128x65536_S256x128_S2x65536x256_1_1_02_0_n_n none z (Host.negf (Host.sin angles))) transposes_S2x65536x256_S2x256x65536_0_2_1)⟩] concatenates_S2x256x65536_S2x256x65536_S2x512x65536_d1) bitsLt_bf16_f32

theorem dft_apply (z : FVec Ideal S2x128x65536 .f32) (b : Fin 2) (k : Fin 512) (j : Fin 65536) :
    dft z (ix3 b k j) = ∑ r : Fin 128, wave k r * z (ix3 b r j) := by
  pointwise [dft]
  by_cases h : k.val < 256
  · rw [dif_pos h]
    refine Finset.sum_congr rfl fun r _ => ?_
    rw [angles_apply, mul_comm, wave_pos k r h]
  · rw [dif_neg h]
    refine Finset.sum_congr rfl fun r _ => ?_
    rw [angles_apply, mul_comm, wave_neg k r h]

end Cert.DftRefIdeal.Hand
-- ==== Proof.Inv.Value.lean ====
/-
  The blocks the inverse transform reads and writes at a grid point.
-/
module

public import proofs.«01_k».proof.Proof.Gen.InvIdeal.Value
public import proofs.«01_k».proof.Proof.Fft
public import Idealize.ShloMosaic.Lib.StableHlo.Run
public import Idealize.ShloMosaic.Lib.Tactic

@[expose] public section

set_option maxRecDepth 16384

noncomputable section

namespace Cert.InvIdeal.Hand

open Cert.Hand Cert.InvIdeal Cert.InvIdeal.Gen Idealize.ShloMosaic Idealize.ShloMosaic.TcCoe Idealize.SL.Sem

variable (m : (ℓ : Loc nD τ sig) → Buf (Elt Ideal) ℓ)

theorem points (t : Fin cfg0.N) : t.val < 64 := lt_of_lt_of_eq t.isLt (show cfg0.N = 64 from N_0)

/-- Where each window's block lies at point `t`. -/
theorem place : ∀ t : Fin cfg0.N,
    (win0_0.index t (0 : Fin 3) = t.val / 32 ∧ win0_0.index t (1 : Fin 3) = 0 ∧ win0_0.index t (2 : Fin 3) = t.val % 32)
    ∧ (win0_1.index t (0 : Fin 2) = 0 ∧ win0_1.index t (1 : Fin 2) = 0)
    ∧ (win0_2.index t (0 : Fin 3) = t.val / 32 ∧ win0_2.index t (1 : Fin 3) = 0 ∧ win0_2.index t (2 : Fin 3) = t.val % 32)
    ∧ (win0_3.index t (0 : Fin 3) = t.val / 32 ∧ win0_3.index t (1 : Fin 3) = 0 ∧ win0_3.index t (2 : Fin 3) = t.val % 32)
    ∧ (win0_4.index t (0 : Fin 2) = 0 ∧ win0_4.index t (1 : Fin 2) = t.val % 32)
    ∧ (win0_5.index t (0 : Fin 2) = 0 ∧ win0_5.index t (1 : Fin 2) = 0) :=
  (by decide +kernel : ∀ t : Fin grid0.N, _)

/-- The product of transforms. -/
theorem block0 (c : Dev nD) (t : Fin cfg0.N) (a : Fin 1) (b : Fin 512) (d : Fin 2048) :
    (iblk m c 0 t : Vec Ideal S1x512x2048 .bf16) (ix3 a b d)
      = (m ((c : Thread nD τ).loc main_arg0) : FVec Ideal S2x512x65536 .bf16) (ix3 ⟨t.val / 32, by have := points t; omega⟩ b ⟨t.val % 32 * 2048 + d.val, by have := points t; have := d.isLt; omega⟩) := by
  obtain ⟨⟨p0, p1, p2⟩, -⟩ := place t
  unfold iblk
  rw [View.read_apply]
  show V m c main_arg0 _ = _
  rw [V_main_arg0]
  congr 1
  funext x
  apply Fin.ext
  match x with
  | ⟨0, _⟩ => show win0_0.index t 0 * 1 + 1 * a.val = t.val / 32; rw [p0]; omega
  | ⟨1, _⟩ => show win0_0.index t 1 * 512 + 1 * b.val = b.val; rw [p1]; omega
  | ⟨2, _⟩ => show win0_0.index t 2 * 2048 + 1 * d.val = t.val % 32 * 2048 + d.val; rw [p2]; omega

/-- The inverse table. -/
theorem block1 (c : Dev nD) (t : Fin cfg0.N) (a : Fin 128) (b : Fin 512) :
    (iblk m c 1 t : Vec Ideal S128x512 .bf16) (ix2 a b)
      = (V m c main_v24 : FVec Ideal S128x512 .bf16) (ix2 a b) := by
  obtain ⟨-, ⟨p0, p1⟩, -⟩ := place t
  unfold iblk
  rw [View.read_apply]
  show V m c main_v24 _ = _
  congr 1
  funext x
  apply Fin.ext
  match x with
  | ⟨0, _⟩ => show win0_1.index t 0 * 128 + 1 * a.val = a.val; rw [p0]; omega
  | ⟨1, _⟩ => show win0_1.index t 1 * 512 + 1 * b.val = b.val; rw [p1]; omega

/-- The input. -/
theorem block2 (c : Dev nD) (t : Fin cfg0.N) (a : Fin 1) (b : Fin 128) (d : Fin 2048) :
    (iblk m c 2 t : Vec Ideal S1x128x2048 .bf16) (ix3 a b d)
      = (m ((c : Thread nD τ).loc main_arg1) : FVec Ideal S2x128x65536 .bf16) (ix3 ⟨t.val / 32, by have := points t; omega⟩ b ⟨t.val % 32 * 2048 + d.val, by have := points t; have := d.isLt; omega⟩) := by
  obtain ⟨-, -, ⟨p0, p1, p2⟩, -⟩ := place t
  unfold iblk
  rw [View.read_apply]
  show V m c main_arg1 _ = _
  rw [V_main_arg1]
  congr 1
  funext x
  apply Fin.ext
  match x with
  | ⟨0, _⟩ => show win0_2.index t 0 * 1 + 1 * a.val = t.val / 32; rw [p0]; omega
  | ⟨1, _⟩ => show win0_2.index t 1 * 128 + 1 * b.val = b.val; rw [p1]; omega
  | ⟨2, _⟩ => show win0_2.index t 2 * 2048 + 1 * d.val = t.val % 32 * 2048 + d.val; rw [p2]; omega

/-- The gate. -/
theorem block3 (c : Dev nD) (t : Fin cfg0.N) (a : Fin 1) (b : Fin 128) (d : Fin 2048) :
    (iblk m c 3 t : Vec Ideal S1x128x2048 .bf16) (ix3 a b d)
      = (m ((c : Thread nD τ).loc main_arg2) : FVec Ideal S2x128x65536 .bf16) (ix3 ⟨t.val / 32, by have := points t; omega⟩ b ⟨t.val % 32 * 2048 + d.val, by have := points t; have := d.isLt; omega⟩) := by
  obtain ⟨-, -, -, ⟨p0, p1, p2⟩, -⟩ := place t
  unfold iblk
  rw [View.read_apply]
  show V m c main_arg2 _ = _
  rw [V_main_arg2]
  congr 1
  funext x
  apply Fin.ext
  match x with
  | ⟨0, _⟩ => show win0_3.index t 0 * 1 + 1 * a.val = t.val / 32; rw [p0]; omega
  | ⟨1, _⟩ => show win0_3.index t 1 * 128 + 1 * b.val = b.val; rw [p1]; omega
  | ⟨2, _⟩ => show win0_3.index t 2 * 2048 + 1 * d.val = t.val % 32 * 2048 + d.val; rw [p2]; omega

/-- The bias. -/
theorem block4 (c : Dev nD) (t : Fin cfg0.N) (a : Fin 1) (b : Fin 2048) :
    (iblk m c 4 t : Vec Ideal S1x2048 .f32) (ix2 a b)
      = (V m c main_v28 : FVec Ideal S1x65536 .f32) (ix2 a ⟨t.val % 32 * 2048 + b.val, by have := points t; have := b.isLt; omega⟩) := by
  obtain ⟨-, -, -, -, ⟨p0, p1⟩, -⟩ := place t
  unfold iblk
  rw [View.read_apply]
  show V m c main_v28 _ = _
  congr 1
  funext x
  apply Fin.ext
  match x with
  | ⟨0, _⟩ => show win0_4.index t 0 * 1 + 1 * a.val = a.val; rw [p0]; omega
  | ⟨1, _⟩ => show win0_4.index t 1 * 2048 + 1 * b.val = t.val % 32 * 2048 + b.val; rw [p1]; omega

/-- The forward table. -/
theorem block5 (c : Dev nD) (t : Fin cfg0.N) (a : Fin 512) (b : Fin 128) :
    (iblk m c 5 t : Vec Ideal S512x128 .bf16) (ix2 a b)
      = (V m c main_v23 : FVec Ideal S512x128 .bf16) (ix2 a b) := by
  obtain ⟨-, -, -, -, -, p0, p1⟩ := place t
  unfold iblk
  rw [View.read_apply]
  show V m c main_v23 _ = _
  congr 1
  funext x
  apply Fin.ext
  match x with
  | ⟨0, _⟩ => show win0_5.index t 0 * 512 + 1 * a.val = a.val; rw [p0]; omega
  | ⟨1, _⟩ => show win0_5.index t 1 * 128 + 1 * b.val = b.val; rw [p1]; omega

/-- Where point `t` writes the gated rows. -/
theorem place6 : ∀ t : Fin cfg0.N,
    win0_6.index t (0 : Fin 3) = t.val / 32 ∧ win0_6.index t (1 : Fin 3) = 0 ∧ win0_6.index t (2 : Fin 3) = t.val % 32 :=
  (by decide +kernel : ∀ t : Fin grid0.N, _)

/-- The gated rows after the run, at an index of point `t`'s block: what the body leaves there. -/
theorem written6 (c : Dev nD) (t : Fin cfg0.N) (a : Fin 1) (b : Fin 128) (d : Fin 2048) :
    ((dats m 0 c).arrAt 6 cfg0.N) (ix3 ⟨t.val / 32, by have := points t; omega⟩ b ⟨t.val % 32 * 2048 + d.val, by have := points t; have := d.isLt; omega⟩)
      = (out0_6 (iblk m c 0 t) (iblk m c 1 t) (iblk m c 2 t) (iblk m c 3 t) (iblk m c 4 t) (iblk m c 5 t)) (ix3 a b d) := by
  have h := congrFun (Value.blocks6 m c t (flush0_6 t)) (ix3 a b d)
  rw [View.read_apply, Value.flushed6] at h
  refine Eq.trans ?_ h
  congr 1
  obtain ⟨p0, p1, p2⟩ := place6 t
  funext x
  apply Fin.ext
  match x with
  | ⟨0, _⟩ => show t.val / 32 = win0_6.index t 0 * 1 + 1 * a.val; rw [p0]; omega
  | ⟨1, _⟩ => show b.val = win0_6.index t 1 * 128 + 1 * b.val; rw [p1]; omega
  | ⟨2, _⟩ => show t.val % 32 * 2048 + d.val = win0_6.index t 2 * 2048 + 1 * d.val; rw [p2]; omega

/-- Where point `t` writes their transform. -/
theorem place7 : ∀ t : Fin cfg0.N,
    win0_7.index t (0 : Fin 3) = t.val / 32 ∧ win0_7.index t (1 : Fin 3) = 0 ∧ win0_7.index t (2 : Fin 3) = t.val % 32 :=
  (by decide +kernel : ∀ t : Fin grid0.N, _)

/-- Their transform after the run, at an index of point `t`'s block: what the body leaves there. -/
theorem written7 (c : Dev nD) (t : Fin cfg0.N) (a : Fin 1) (b : Fin 512) (d : Fin 2048) :
    ((dats m 0 c).arrAt 7 cfg0.N) (ix3 ⟨t.val / 32, by have := points t; omega⟩ b ⟨t.val % 32 * 2048 + d.val, by have := points t; have := d.isLt; omega⟩)
      = (out0_7 (iblk m c 0 t) (iblk m c 1 t) (iblk m c 2 t) (iblk m c 3 t) (iblk m c 4 t) (iblk m c 5 t)) (ix3 a b d) := by
  have h := congrFun (Value.blocks7 m c t (flush0_7 t)) (ix3 a b d)
  rw [View.read_apply, Value.flushed7] at h
  refine Eq.trans ?_ h
  congr 1
  obtain ⟨p0, p1, p2⟩ := place7 t
  funext x
  apply Fin.ext
  match x with
  | ⟨0, _⟩ => show t.val / 32 = win0_7.index t 0 * 1 + 1 * a.val; rw [p0]; omega
  | ⟨1, _⟩ => show b.val = win0_7.index t 1 * 512 + 1 * b.val; rw [p1]; omega
  | ⟨2, _⟩ => show t.val % 32 * 2048 + d.val = win0_7.index t 2 * 2048 + 1 * d.val; rw [p2]; omega

theorem hz2 : (![0, 0] : Fin 2 → Nat) = fun _ => 0 := funext fun a => by fin_cases a <;> rfl
theorem hz3 : (![0, 0, 0] : Fin 3 → Nat) = fun _ => 0 := funext fun a => by fin_cases a <;> rfl

/-- The stores of the blocks leave their values. -/
theorem out6_eq (x0 : Vec Ideal S1x512x2048 .bf16) (x1 : Vec Ideal S128x512 .bf16) (x2 : Vec Ideal S1x128x2048 .bf16) (x3 : Vec Ideal S1x128x2048 .bf16) (x4 : Vec Ideal S1x2048 .f32) (x5 : Vec Ideal S512x128 .bf16) : out0_6 x0 x1 x2 x3 x4 x5 = k0_pay2 x1 x0 x3 x2 x4 := by
  unfold out0_6
  rw [View.canon_unit_zero (S := S1x128x2048) hz3, View.ld_unit_zero (S := S128x512) hz2, View.ld_unit_zero (S := S1x512x2048) hz3,
    View.ld_unit_zero (S := S1x128x2048) hz3, View.ld_unit_zero (S := S1x128x2048) hz3, View.ld_unit_zero (S := S1x2048) hz2]

theorem out7_eq (x0 : Vec Ideal S1x512x2048 .bf16) (x1 : Vec Ideal S128x512 .bf16) (x2 : Vec Ideal S1x128x2048 .bf16) (x3 : Vec Ideal S1x128x2048 .bf16) (x4 : Vec Ideal S1x2048 .f32) (x5 : Vec Ideal S512x128 .bf16) : out0_7 x0 x1 x2 x3 x4 x5 = k0_pay3 x1 x0 x3 x2 x4 x5 := by
  unfold out0_7
  rw [View.canon_unit_zero (S := S1x512x2048) hz3, View.ld_unit_zero (S := S128x512) hz2, View.ld_unit_zero (S := S1x512x2048) hz3,
    View.ld_unit_zero (S := S1x128x2048) hz3, View.ld_unit_zero (S := S1x128x2048) hz3, View.ld_unit_zero (S := S1x2048) hz2, View.ld_unit_zero (S := S512x128) hz2]

theorem pay1_apply (x0 : Vec Ideal S1x512x2048 .bf16) (x1 : Vec Ideal S128x512 .bf16) (x2 : Vec Ideal S1x128x2048 .bf16) (x3 : Vec Ideal S1x128x2048 .bf16) (x4 : Vec Ideal S1x2048 .f32) (r : Fin 128) (j : Fin 2048) :
    k0_pay1 x1 x0 x3 x2 x4 (ix2 r j)
      = x3 (ix3 0 r j) * ((∑ k : Fin 512, x1 (ix2 r k) * x0 (ix3 0 k j)) * Ideal.ofBits FTy.f32 939524096#32 + x2 (ix3 0 r j) * x4 (ix2 0 j)) := by
  pointwise [k0_pay1]

theorem pay2_apply (x0 : Vec Ideal S1x512x2048 .bf16) (x1 : Vec Ideal S128x512 .bf16) (x2 : Vec Ideal S1x128x2048 .bf16) (x3 : Vec Ideal S1x128x2048 .bf16) (x4 : Vec Ideal S1x2048 .f32) (r : Fin 128) (j : Fin 2048) : k0_pay2 x1 x0 x3 x2 x4 (ix3 0 r j) = k0_pay1 x1 x0 x3 x2 x4 (ix2 r j) := by
  pointwise [k0_pay2]

theorem pay3_apply (x0 : Vec Ideal S1x512x2048 .bf16) (x1 : Vec Ideal S128x512 .bf16) (x2 : Vec Ideal S1x128x2048 .bf16) (x3 : Vec Ideal S1x128x2048 .bf16) (x4 : Vec Ideal S1x2048 .f32) (x5 : Vec Ideal S512x128 .bf16) (k : Fin 512) (j : Fin 2048) :
    k0_pay3 x1 x0 x3 x2 x4 x5 (ix3 0 k j) = ∑ r : Fin 128, x5 (ix2 k r) * k0_pay1 x1 x0 x3 x2 x4 (ix2 r j) := by
  pointwise [k0_pay3]

/-- The angles. -/
def angles : FVec Ideal S256x128 .f32 :=
  Host.divf (mulf (broadcastInDim S256x128 ![0, 1] bcast_S256x1_S256x128_0_1 (mulf (broadcastInDim S256x1 ![] bcast_S_S256x1 (constant S_ .f32 0x40C90FDB#32)) (sitofp .f32 (broadcastInDim S256x1 ![0] bcast_S256_S256x1_0 (iotaInDim S256 32 0))))) (broadcastInDim S256x128 ![0, 1] bcast_S1x128_S256x128_0_1 (sitofp .f32 (broadcastInDim S1x128 ![1] bcast_S128_S1x128_1 (iotaInDim S128 32 0))))) (broadcastInDim S256x128 ![] bcast_S_S256x128 (constant S_ .f32 0x43800000#32))

theorem angles_apply (k : Fin 256) (r : Fin 128) : angles (ix2 k r) = angle k r := by
  pointwise [angles]
  rfl

/-- The forward table. -/
theorem table (c : Dev nD) (k : Fin 512) (r : Fin 128) : (V m c main_v23 : FVec Ideal S512x128 .bf16) (ix2 k r) = wave k r := by
  have h : @Eq (FVec Ideal S512x128 .bf16) (V m c main_v23) (truncf .bf16 (concatenate S512x128 0 [⟨S256x128, Host.cos angles⟩, ⟨S256x128, Host.negf (Host.sin angles)⟩] concatenates_S256x128_S256x128_S512x128_d0) bitsLt_bf16_f32) := by
    unfold V
    after_results <;> rfl
  rw [h]
  pointwise []
  simp only [angles_apply]
  rfl

/-- The inverse table. -/
theorem inverse (c : Dev nD) (r : Fin 128) (k : Fin 512) : (V m c main_v24 : FVec Ideal S128x512 .bf16) (ix2 r k) = wave k r := by
  have h : @Eq (FVec Ideal S128x512 .bf16) (V m c main_v24) (truncf .bf16 (concatenate S128x512 1 [⟨S128x256, transpose S128x256 [1, 0] (Host.cos angles) transposes_S256x128_S128x256_1_0⟩, ⟨S128x256, Host.negf (transpose S128x256 [1, 0] (Host.sin angles) transposes_S256x128_S128x256_1_0)⟩] concatenates_S128x256_S128x256_S128x512_d1) bitsLt_bf16_f32) := by
    unfold V
    after_results <;> rfl
  rw [h]
  pointwise []
  simp only [angles_apply]
  rfl

/-- The bias, once for each of the 128 groups of columns. -/
theorem bias (c : Dev nD) (j : Fin 65536) : (V m c main_v28 : FVec Ideal S1x65536 .f32) (ix2 0 j)
    = (m ((c : Thread nD τ).loc main_arg3) : FVec Ideal S512 .f32) (ix1 ⟨j.val % 512, by omega⟩) := by
  have h : @Eq (FVec Ideal S1x65536 .f32) (V m c main_v28) (shapeCast _ (shapeCast _ (broadcastInDim S128x512 ![0, 1] bcast_S1x512_S128x512_0_1 (shapeCast _ (m ((c : Thread nD τ).loc main_arg3) : FVec Ideal S512 .f32) shapeCasts_S512_S1x512)) shapeCasts_S128x512_S65536) shapeCasts_S65536_S1x65536) := by
    unfold V
    after_results <;> rfl
  rw [h]
  pointwise []

/-- A batch and a column lie in one grid point. -/
theorem split (b : Fin 2) (j : Fin 65536) : ∃ (t : Fin cfg0.N) (x : Fin 2048) (h : t.val / 32 < 2) (h' : t.val % 32 * 2048 + x.val < 65536), b = ⟨t.val / 32, h⟩ ∧ j = ⟨t.val % 32 * 2048 + x.val, h'⟩ :=
  ⟨⟨b.val * 32 + j.val / 2048, lt_of_lt_of_eq (show b.val * 32 + j.val / 2048 < 64 by omega) (show 64 = cfg0.N from N_0.symm)⟩, ⟨j.val % 2048, by omega⟩,
    by show (b.val * 32 + j.val / 2048) / 32 < 2; omega, by show (b.val * 32 + j.val / 2048) % 32 * 2048 + j.val % 2048 < 65536; omega,
    Fin.ext (by show b.val = (b.val * 32 + j.val / 2048) / 32; omega), Fin.ext (by show j.val = (b.val * 32 + j.val / 2048) % 32 * 2048 + j.val % 2048; omega)⟩

/-- The gated rows, of the launch's arguments. -/
def gated (c : Dev nD) (b : Fin 2) (r : Fin 128) (j : Fin 65536) : EReal :=
  restored (fun k => (m ((c : Thread nD τ).loc main_arg0) : FVec Ideal S2x512x65536 .bf16) (ix3 b k j)) ((m ((c : Thread nD τ).loc main_arg1) : FVec Ideal S2x128x65536 .bf16) (ix3 b r j))
    ((m ((c : Thread nD τ).loc main_arg2) : FVec Ideal S2x128x65536 .bf16) (ix3 b r j)) ((m ((c : Thread nD τ).loc main_arg3) : FVec Ideal S512 .f32) (ix1 ⟨j.val % 512, by omega⟩)) r

theorem body (c : Dev nD) (t : Fin cfg0.N) (r : Fin 128) (x : Fin 2048) (h : t.val / 32 < 2) (h' : t.val % 32 * 2048 + x.val < 65536) :
    @Eq EReal (k0_pay1 (iblk m c 1 t : Vec Ideal S128x512 .bf16) (iblk m c 0 t : Vec Ideal S1x512x2048 .bf16) (iblk m c 3 t : Vec Ideal S1x128x2048 .bf16) (iblk m c 2 t : Vec Ideal S1x128x2048 .bf16) (iblk m c 4 t : Vec Ideal S1x2048 .f32) (ix2 r x))
      (gated m c ⟨t.val / 32, h⟩ r ⟨t.val % 32 * 2048 + x.val, h'⟩) := by
  refine (pay1_apply _ _ _ _ _ r x).trans ?_
  refine congrArg₂ (· * ·) (block3 m c t 0 r x) (congrArg₂ (· + ·) (congrArg₂ (· * ·) (Finset.sum_congr rfl fun k _ => ?_) rfl)
    (congrArg₂ (· * ·) (block2 m c t 0 r x) ((block4 m c t 0 x).trans (bias m c _))))
  exact congrArg₂ (· * ·) ((block1 m c t r k).trans (inverse m c r k)) (block0 m c t 0 k x)

/-- The gated rows after the run. -/
theorem result6_apply (c : Dev nD) (b : Fin 2) (r : Fin 128) (j : Fin 65536) :
    @Eq EReal (((dats m 0 c).arrAt 6 cfg0.N) (ix3 b r j)) (gated m c b r j) := by
  obtain ⟨t, x, h, h', rfl, rfl⟩ := split b j
  refine (written6 m c t 0 r x).trans ?_
  rw [out6_eq]
  exact (pay2_apply _ _ _ _ _ r x).trans (body m c t r x h h')

/-- Their transform after the run. -/
theorem result7_apply (c : Dev nD) (b : Fin 2) (k : Fin 512) (j : Fin 65536) :
    @Eq EReal (((dats m 0 c).arrAt 7 cfg0.N) (ix3 b k j)) (∑ r : Fin 128, wave k r * gated m c b r j) := by
  obtain ⟨t, x, h, h', rfl, rfl⟩ := split b j
  refine (written7 m c t 0 k x).trans ?_
  rw [out7_eq]
  refine (pay3_apply _ _ _ _ _ _ k x).trans (Finset.sum_congr rfl fun r _ => ?_)
  exact congrArg₂ (· * ·) ((block5 m c t k r).trans (table m c k r)) (body m c t r x h h')

end Cert.InvIdeal.Hand
-- ==== Proof.Inv.RefValue.lean ====
/-
  The plain inverse transform read at an index.
-/
module

public import proofs.«01_k».proof.Proof.Gen.InvRefIdeal.Run
public import proofs.«01_k».proof.Proof.Fft

@[expose] public section

set_option maxRecDepth 16384

noncomputable section

namespace Cert.InvRefIdeal.Hand

open Cert.Hand Cert.InvRefIdeal Cert.InvRefIdeal.Gen Idealize.ShloMosaic Idealize.ShloMosaic.TcCoe Idealize.SL.Sem

/-- The angles. -/
def angles : FVec Ideal S256x128 .f32 :=
  Host.divf (mulf (broadcastInDim S256x128 ![0, 1] bcast_S256x1_S256x128_0_1 (mulf (broadcastInDim S256x1 ![] bcast_S_S256x1 (constant S_ .f32 0x40C90FDB#32)) (broadcastInDim S256x1 ![0] bcast_S256_S256x1_0 (sitofp .f32 (iotaInDim S256 32 0))))) (broadcastInDim S256x128 ![0, 1] bcast_S1x128_S256x128_0_1 (broadcastInDim S1x128 ![1] bcast_S128_S1x128_1 (sitofp .f32 (iotaInDim S128 32 0))))) (broadcastInDim S256x128 ![] bcast_S_S256x128 (constant S_ .f32 0x43800000#32))

theorem angles_apply (k : Fin 256) (r : Fin 128) : angles (ix2 k r) = angle k r := by
  pointwise [angles]
  rfl

/-- The transform: the real parts, then the imaginary. -/
def dft (z : FVec Ideal S2x128x65536 .f32) : FVec Ideal S2x512x65536 .bf16 :=
  truncf .bf16 (concatenate S2x512x65536 1 [⟨S2x256x65536, (transpose S2x256x65536 [0, 2, 1] (Host.dotGeneral dot_S2x128x65536_S256x128_S2x65536x256_1_1_02_0_n_n none z (Host.cos angles)) transposes_S2x65536x256_S2x256x65536_0_2_1)⟩, ⟨S2x256x65536, (transpose S2x256x65536 [0, 2, 1] (Host.dotGeneral dot_S2x128x65536_S256x128_S2x65536x256_1_1_02_0_n_n none z (Host.negf (Host.sin angles))) transposes_S2x65536x256_S2x256x65536_0_2_1)⟩] concatenates_S2x256x65536_S2x256x65536_S2x512x65536_d1) bitsLt_bf16_f32

theorem dft_apply (z : FVec Ideal S2x128x65536 .f32) (b : Fin 2) (k : Fin 512) (j : Fin 65536) :
    dft z (ix3 b k j) = ∑ r : Fin 128, wave k r * z (ix3 b r j) := by
  pointwise [dft]
  by_cases h : k.val < 256
  · rw [dif_pos h]
    refine Finset.sum_congr rfl fun r _ => ?_
    rw [angles_apply, mul_comm, wave_pos k r h]
  · rw [dif_neg h]
    refine Finset.sum_congr rfl fun r _ => ?_
    rw [angles_apply, mul_comm, wave_neg k r h]

/-- The gated rows. -/
def rows (d : FVec Ideal S2x512x65536 .bf16) (z g : FVec Ideal S2x128x65536 .bf16) (w : FVec Ideal S512 .f32) : FVec Ideal S2x128x65536 .f32 :=
  mulf (extf .f32 g bitsLt_bf16_f32) (addf (mulf (addf (transpose S2x128x65536 [0, 2, 1] (Host.dotGeneral dot_S2x256x65536_S256x128_S2x65536x128_1_0_02_1_n_n none (extractStridedSlice S2x256x65536 ![0, 0, 0] (extf .f32 d bitsLt_bf16_f32) slices_S2x512x65536_S2x256x65536_0_0_0) (Host.cos angles)) transposes_S2x65536x128_S2x128x65536_0_2_1) (transpose S2x128x65536 [0, 2, 1] (Host.dotGeneral dot_S2x256x65536_S256x128_S2x65536x128_1_0_02_1_n_n none (extractStridedSlice S2x256x65536 ![0, 256, 0] (extf .f32 d bitsLt_bf16_f32) slices_S2x512x65536_S2x256x65536_0_256_0) (Host.negf (Host.sin angles))) transposes_S2x65536x128_S2x128x65536_0_2_1)) (broadcastInDim S2x128x65536 ![] bcast_S_S2x128x65536 (constant S_ .f32 0x38000000#32))) (mulf (extf .f32 z bitsLt_bf16_f32) (broadcastInDim S2x128x65536 ![0, 1, 2] bcast_S1x1x65536_S2x128x65536_0_1_2 (broadcastInDim S1x1x65536 ![2] bcast_S65536_S1x1x65536_2 (shapeCast _ (broadcastInDim S128x512 ![0, 1] bcast_S1x512_S128x512_0_1 (broadcastInDim S1x512 ![1] bcast_S512_S1x512_1 w)) shapeCasts_S128x512_S65536)))))

theorem rows_apply (d : FVec Ideal S2x512x65536 .bf16) (z g : FVec Ideal S2x128x65536 .bf16) (w : FVec Ideal S512 .f32) (b : Fin 2) (r : Fin 128) (j : Fin 65536) :
    rows d z g w (ix3 b r j) = restored (fun k => d (ix3 b k j)) (z (ix3 b r j)) (g (ix3 b r j)) (w (ix1 ⟨j.val % 512, by omega⟩)) r := by
  pointwise [rows]
  unfold restored
  rw [sum_halves_512]
  refine congrArg₂ (· * ·) rfl (congrArg₂ (· + ·) (congrArg₂ (· * ·) (congrArg₂ (· + ·) (Finset.sum_congr rfl fun k _ => ?_) (Finset.sum_congr rfl fun k _ => ?_)) rfl) rfl)
  · rw [wave_left, angles_apply, mul_comm]
  · rw [wave_right, angles_apply, mul_comm]

/-- The rows, and their transform. -/
def fin (d : FVec Ideal S2x512x65536 .bf16) (z g : FVec Ideal S2x128x65536 .bf16) (w : FVec Ideal S512 .f32) : FVec Ideal S2x128x65536 .bf16 := truncf .bf16 (rows d z g w) bitsLt_bf16_f32

theorem fin_apply (d : FVec Ideal S2x512x65536 .bf16) (z g : FVec Ideal S2x128x65536 .bf16) (w : FVec Ideal S512 .f32) (b : Fin 2) (r : Fin 128) (j : Fin 65536) :
    fin d z g w (ix3 b r j) = restored (fun k => d (ix3 b k j)) (z (ix3 b r j)) (g (ix3 b r j)) (w (ix1 ⟨j.val % 512, by omega⟩)) r :=
  rows_apply d z g w b r j

def again (d : FVec Ideal S2x512x65536 .bf16) (z g : FVec Ideal S2x128x65536 .bf16) (w : FVec Ideal S512 .f32) : FVec Ideal S2x512x65536 .bf16 := dft (rows d z g w)

theorem again_apply (d : FVec Ideal S2x512x65536 .bf16) (z g : FVec Ideal S2x128x65536 .bf16) (w : FVec Ideal S512 .f32) (b : Fin 2) (k : Fin 512) (j : Fin 65536) :
    again d z g w (ix3 b k j) = ∑ r : Fin 128, wave k r * restored (fun k => d (ix3 b k j)) (z (ix3 b r j)) (g (ix3 b r j)) (w (ix1 ⟨j.val % 512, by omega⟩)) r :=
  (dft_apply _ b k j).trans (Finset.sum_congr rfl fun r _ => congrArg₂ (· * ·) rfl (rows_apply d z g w b r j))

end Cert.InvRefIdeal.Hand
-- ==== Proof.Turn.lean ====
/-
  The transforms of 128 points with the factors between the two transforms.
-/
module

public import proofs.«01_k».proof.Proof.Fft

@[expose] public section

set_option maxRecDepth 16384

noncomputable section

namespace Cert.Hand

open Idealize.ShloMosaic

/-- The angle of point `256 q + k` and row `m`. -/
def turn (k : Fin 256) (q m : Fin 128) : EReal :=
  Ideal.div (Ideal.ofBits FTy.f32 1086918619#32 * FloatOps.sitofp (F := Ideal) FTy.f32
    (IntOp.remsi ArithUnit.host (IntOp.muli (IntOp.addi (BitVec.ofNat 32 k.val) (IntOp.muli 256#32 (BitVec.ofNat 32 q.val))) (BitVec.ofNat 32 m.val)) 32768#32)) (Ideal.ofBits FTy.f32 1191182336#32)

/-- The real part of the transform at point `q`. -/
def foreRe (T : Fin 128 → Fin 128 → EReal) (x y : Fin 128 → EReal) (q : Fin 128) : EReal := ∑ m, Ideal.cos (T q m) * x m + ∑ m, Ideal.sin (T q m) * y m

/-- The imaginary part. -/
def foreIm (T : Fin 128 → Fin 128 → EReal) (x y : Fin 128 → EReal) (q : Fin 128) : EReal := ∑ m, -Ideal.sin (T q m) * x m + ∑ m, Ideal.cos (T q m) * y m

/-- The real part of the inverse transform at row `m`. -/
def backRe (T : Fin 128 → Fin 128 → EReal) (x y : Fin 128 → EReal) (m : Fin 128) : EReal := ∑ q, Ideal.cos (T q m) * x q + ∑ q, -Ideal.sin (T q m) * y q

/-- The imaginary part. -/
def backIm (T : Fin 128 → Fin 128 → EReal) (x y : Fin 128 → EReal) (m : Fin 128) : EReal := ∑ q, Ideal.sin (T q m) * x q + ∑ q, Ideal.cos (T q m) * y q

/-- The table of the transform: rows the real and the imaginary results, columns the real and the imaginary inputs. -/
def fore (T : Fin 128 → Fin 128 → EReal) (p x : Fin 256) : EReal :=
  if h : p.val < 128 then
    if h' : x.val < 128 then Ideal.cos (T ⟨p.val, h⟩ ⟨x.val, h'⟩) else - -Ideal.sin (T ⟨p.val, h⟩ ⟨x.val - 128, by omega⟩)
  else
    if h' : x.val < 128 then -Ideal.sin (T ⟨p.val - 128, by omega⟩ ⟨x.val, h'⟩) else Ideal.cos (T ⟨p.val - 128, by omega⟩ ⟨x.val - 128, by omega⟩)

/-- The table of the inverse transform. -/
def back (T : Fin 128 → Fin 128 → EReal) (p x : Fin 256) : EReal :=
  if h : p.val < 128 then
    if h' : x.val < 128 then Ideal.cos (T ⟨x.val, h'⟩ ⟨p.val, h⟩) else - - -Ideal.sin (T ⟨x.val - 128, by omega⟩ ⟨p.val, h⟩)
  else
    if h' : x.val < 128 then - -Ideal.sin (T ⟨x.val, h'⟩ ⟨p.val - 128, by omega⟩) else Ideal.cos (T ⟨x.val - 128, by omega⟩ ⟨p.val - 128, by omega⟩)

theorem low_lt (a : Fin 128) : (⟨a.val, by omega⟩ : Fin 256).val < 128 := a.isLt

theorem high_ge (a : Fin 128) : ¬ (⟨128 + a.val, by omega⟩ : Fin 256).val < 128 := by
  show ¬ 128 + a.val < 128
  omega

theorem high_sub (a : Fin 128) (h : 128 + a.val - 128 < 128) : (⟨128 + a.val - 128, h⟩ : Fin 128) = a := Fin.ext (Nat.add_sub_cancel_left ..)

theorem fore_ll (T : Fin 128 → Fin 128 → EReal) (q m : Fin 128) : fore T ⟨q.val, by omega⟩ ⟨m.val, by omega⟩ = Ideal.cos (T q m) := by
  unfold fore
  rw [dif_pos (low_lt q), dif_pos (low_lt m)]

theorem fore_lh (T : Fin 128 → Fin 128 → EReal) (q m : Fin 128) : fore T ⟨q.val, by omega⟩ ⟨128 + m.val, by omega⟩ = Ideal.sin (T q m) := by
  unfold fore
  rw [dif_pos (low_lt q), dif_neg (high_ge m)]
  rw [neg_neg]
  simp only [high_sub]

theorem fore_hl (T : Fin 128 → Fin 128 → EReal) (q m : Fin 128) : fore T ⟨128 + q.val, by omega⟩ ⟨m.val, by omega⟩ = -Ideal.sin (T q m) := by
  unfold fore
  rw [dif_neg (high_ge q), dif_pos (low_lt m)]
  simp only [high_sub]

theorem fore_hh (T : Fin 128 → Fin 128 → EReal) (q m : Fin 128) : fore T ⟨128 + q.val, by omega⟩ ⟨128 + m.val, by omega⟩ = Ideal.cos (T q m) := by
  unfold fore
  rw [dif_neg (high_ge q), dif_neg (high_ge m)]
  simp only [high_sub]

theorem back_ll (T : Fin 128 → Fin 128 → EReal) (q m : Fin 128) : back T ⟨q.val, by omega⟩ ⟨m.val, by omega⟩ = Ideal.cos (T m q) := by
  unfold back
  rw [dif_pos (low_lt q), dif_pos (low_lt m)]

theorem back_lh (T : Fin 128 → Fin 128 → EReal) (q m : Fin 128) : back T ⟨q.val, by omega⟩ ⟨128 + m.val, by omega⟩ = -Ideal.sin (T m q) := by
  unfold back
  rw [dif_pos (low_lt q), dif_neg (high_ge m)]
  rw [neg_neg]
  simp only [high_sub]

theorem back_hl (T : Fin 128 → Fin 128 → EReal) (q m : Fin 128) : back T ⟨128 + q.val, by omega⟩ ⟨m.val, by omega⟩ = Ideal.sin (T m q) := by
  unfold back
  rw [dif_neg (high_ge q), dif_pos (low_lt m)]
  rw [neg_neg]
  simp only [high_sub]

theorem back_hh (T : Fin 128 → Fin 128 → EReal) (q m : Fin 128) : back T ⟨128 + q.val, by omega⟩ ⟨128 + m.val, by omega⟩ = Ideal.cos (T m q) := by
  unfold back
  rw [dif_neg (high_ge q), dif_neg (high_ge m)]
  simp only [high_sub]

theorem foreRe_eq (T : Fin 128 → Fin 128 → EReal) (x y : Fin 128 → EReal) (q : Fin 128) :
    ∑ m : Fin 128, fore T ⟨q.val, by omega⟩ ⟨m.val, by omega⟩ * x m + ∑ m : Fin 128, fore T ⟨q.val, by omega⟩ ⟨128 + m.val, by omega⟩ * y m = foreRe T x y q := by
  simp only [fore_ll, fore_lh]
  rfl

theorem foreIm_eq (T : Fin 128 → Fin 128 → EReal) (x y : Fin 128 → EReal) (q : Fin 128) :
    ∑ m : Fin 128, fore T ⟨128 + q.val, by omega⟩ ⟨m.val, by omega⟩ * x m + ∑ m : Fin 128, fore T ⟨128 + q.val, by omega⟩ ⟨128 + m.val, by omega⟩ * y m = foreIm T x y q := by
  simp only [fore_hl, fore_hh]
  rfl

theorem backRe_eq (T : Fin 128 → Fin 128 → EReal) (x y : Fin 128 → EReal) (q : Fin 128) :
    ∑ m : Fin 128, back T ⟨q.val, by omega⟩ ⟨m.val, by omega⟩ * x m + ∑ m : Fin 128, back T ⟨q.val, by omega⟩ ⟨128 + m.val, by omega⟩ * y m = backRe T x y q := by
  simp only [back_ll, back_lh]
  rfl

theorem backIm_eq (T : Fin 128 → Fin 128 → EReal) (x y : Fin 128 → EReal) (q : Fin 128) :
    ∑ m : Fin 128, back T ⟨128 + q.val, by omega⟩ ⟨m.val, by omega⟩ * x m + ∑ m : Fin 128, back T ⟨128 + q.val, by omega⟩ ⟨128 + m.val, by omega⟩ * y m = backIm T x y q := by
  simp only [back_hl, back_hh]
  rfl

end Cert.Hand
-- ==== Proof.Fil.Block.lean ====
/-
  A grid point of the filters' transform, read at an index.
-/
module

public import proofs.«01_k».proof.Proof.Gen.FilIdeal.Value
public import proofs.«01_k».proof.Proof.Turn
public import Idealize.ShloMosaic.Lib.StableHlo.Run
public import Idealize.ShloMosaic.Lib.Tactic

@[expose] public section

set_option maxRecDepth 16384

noncomputable section

namespace Cert.FilIdeal.Hand

open Cert.Hand Cert.FilIdeal Cert.FilIdeal.Gen Idealize.ShloMosaic Idealize.ShloMosaic.TcCoe Idealize.SL.Sem

theorem part0_0 (x : Vec Ideal S1x2x4x128x1024 .bf16) (m : Fin 128) (c : Fin 1024) : View.ld x r0_0 (ix5 0 0 0 m c) = x (ix5 0 0 0 m c) := by
  refine congrArg x (funext fun i => Fin.ext ?_)
  match i with
  | ⟨0, _⟩ => rfl
  | ⟨1, _⟩ => rfl
  | ⟨2, _⟩ => rfl
  | ⟨3, _⟩ => show 0 + 1 * m.val = m.val; omega
  | ⟨4, _⟩ => show 0 + 1 * c.val = c.val; omega

theorem part1_0 (x : Vec Ideal S1x2x4x128x1024 .bf16) (m : Fin 128) (c : Fin 1024) : View.ld x r0_1 (ix5 0 0 0 m c) = x (ix5 0 1 0 m c) := by
  refine congrArg x (funext fun i => Fin.ext ?_)
  match i with
  | ⟨0, _⟩ => rfl
  | ⟨1, _⟩ => rfl
  | ⟨2, _⟩ => rfl
  | ⟨3, _⟩ => show 0 + 1 * m.val = m.val; omega
  | ⟨4, _⟩ => show 0 + 1 * c.val = c.val; omega

theorem grid_0 (x : Vec Ideal S4x256x256 .bf16) (p q : Fin 256) : View.ld x r0_2 (ix3 0 p q) = x (ix3 0 p q) := by
  refine congrArg x (funext fun i => Fin.ext ?_)
  match i with
  | ⟨0, _⟩ => rfl
  | ⟨1, _⟩ => show 0 + 1 * p.val = p.val; omega
  | ⟨2, _⟩ => show 0 + 1 * q.val = q.val; omega

theorem part0_1 (x : Vec Ideal S1x2x4x128x1024 .bf16) (m : Fin 128) (c : Fin 1024) : View.ld x r0_4 (ix5 0 0 0 m c) = x (ix5 0 0 1 m c) := by
  refine congrArg x (funext fun i => Fin.ext ?_)
  match i with
  | ⟨0, _⟩ => rfl
  | ⟨1, _⟩ => rfl
  | ⟨2, _⟩ => rfl
  | ⟨3, _⟩ => show 0 + 1 * m.val = m.val; omega
  | ⟨4, _⟩ => show 0 + 1 * c.val = c.val; omega

theorem part1_1 (x : Vec Ideal S1x2x4x128x1024 .bf16) (m : Fin 128) (c : Fin 1024) : View.ld x r0_5 (ix5 0 0 0 m c) = x (ix5 0 1 1 m c) := by
  refine congrArg x (funext fun i => Fin.ext ?_)
  match i with
  | ⟨0, _⟩ => rfl
  | ⟨1, _⟩ => rfl
  | ⟨2, _⟩ => rfl
  | ⟨3, _⟩ => show 0 + 1 * m.val = m.val; omega
  | ⟨4, _⟩ => show 0 + 1 * c.val = c.val; omega

theorem grid_1 (x : Vec Ideal S4x256x256 .bf16) (p q : Fin 256) : View.ld x r0_6 (ix3 0 p q) = x (ix3 1 p q) := by
  refine congrArg x (funext fun i => Fin.ext ?_)
  match i with
  | ⟨0, _⟩ => rfl
  | ⟨1, _⟩ => show 0 + 1 * p.val = p.val; omega
  | ⟨2, _⟩ => show 0 + 1 * q.val = q.val; omega

theorem part0_2 (x : Vec Ideal S1x2x4x128x1024 .bf16) (m : Fin 128) (c : Fin 1024) : View.ld x r0_8 (ix5 0 0 0 m c) = x (ix5 0 0 2 m c) := by
  refine congrArg x (funext fun i => Fin.ext ?_)
  match i with
  | ⟨0, _⟩ => rfl
  | ⟨1, _⟩ => rfl
  | ⟨2, _⟩ => rfl
  | ⟨3, _⟩ => show 0 + 1 * m.val = m.val; omega
  | ⟨4, _⟩ => show 0 + 1 * c.val = c.val; omega

theorem part1_2 (x : Vec Ideal S1x2x4x128x1024 .bf16) (m : Fin 128) (c : Fin 1024) : View.ld x r0_9 (ix5 0 0 0 m c) = x (ix5 0 1 2 m c) := by
  refine congrArg x (funext fun i => Fin.ext ?_)
  match i with
  | ⟨0, _⟩ => rfl
  | ⟨1, _⟩ => rfl
  | ⟨2, _⟩ => rfl
  | ⟨3, _⟩ => show 0 + 1 * m.val = m.val; omega
  | ⟨4, _⟩ => show 0 + 1 * c.val = c.val; omega

theorem grid_2 (x : Vec Ideal S4x256x256 .bf16) (p q : Fin 256) : View.ld x r0_10 (ix3 0 p q) = x (ix3 2 p q) := by
  refine congrArg x (funext fun i => Fin.ext ?_)
  match i with
  | ⟨0, _⟩ => rfl
  | ⟨1, _⟩ => show 0 + 1 * p.val = p.val; omega
  | ⟨2, _⟩ => show 0 + 1 * q.val = q.val; omega

theorem part0_3 (x : Vec Ideal S1x2x4x128x1024 .bf16) (m : Fin 128) (c : Fin 1024) : View.ld x r0_12 (ix5 0 0 0 m c) = x (ix5 0 0 3 m c) := by
  refine congrArg x (funext fun i => Fin.ext ?_)
  match i with
  | ⟨0, _⟩ => rfl
  | ⟨1, _⟩ => rfl
  | ⟨2, _⟩ => rfl
  | ⟨3, _⟩ => show 0 + 1 * m.val = m.val; omega
  | ⟨4, _⟩ => show 0 + 1 * c.val = c.val; omega

theorem part1_3 (x : Vec Ideal S1x2x4x128x1024 .bf16) (m : Fin 128) (c : Fin 1024) : View.ld x r0_13 (ix5 0 0 0 m c) = x (ix5 0 1 3 m c) := by
  refine congrArg x (funext fun i => Fin.ext ?_)
  match i with
  | ⟨0, _⟩ => rfl
  | ⟨1, _⟩ => rfl
  | ⟨2, _⟩ => rfl
  | ⟨3, _⟩ => show 0 + 1 * m.val = m.val; omega
  | ⟨4, _⟩ => show 0 + 1 * c.val = c.val; omega

theorem grid_3 (x : Vec Ideal S4x256x256 .bf16) (p q : Fin 256) : View.ld x r0_14 (ix3 0 p q) = x (ix3 3 p q) := by
  refine congrArg x (funext fun i => Fin.ext ?_)
  match i with
  | ⟨0, _⟩ => rfl
  | ⟨1, _⟩ => show 0 + 1 * p.val = p.val; omega
  | ⟨2, _⟩ => show 0 + 1 * q.val = q.val; omega

theorem pay1_apply (x y : Vec Ideal S1x1x1x128x1024 .bf16) (g : Vec Ideal S1x256x256 .bf16) (p : Fin 256) (c : Fin 1024) :
    k0_pay1 x y g (ix2 p c) = ∑ m : Fin 128, g (ix3 0 p ⟨m.val, by omega⟩) * x (ix5 0 0 0 m c) + ∑ m : Fin 128, g (ix3 0 p ⟨128 + m.val, by omega⟩) * y (ix5 0 0 0 m c) := by
  pointwise [k0_pay1]

theorem pay2_apply (x y : Vec Ideal S1x1x1x128x1024 .bf16) (g : Vec Ideal S1x256x256 .bf16) (q : Fin 128) (c : Fin 1024) :
    k0_pay2 x y g (ix3 0 q c) = k0_pay1 x y g (ix2 ⟨q.val, by omega⟩ c) := by
  pointwise [k0_pay2]

theorem pay3_apply (x y : Vec Ideal S1x1x1x128x1024 .bf16) (g : Vec Ideal S1x256x256 .bf16) (q : Fin 128) (c : Fin 1024) :
    k0_pay3 x y g (ix3 0 q c) = k0_pay1 x y g (ix2 ⟨128 + q.val, by omega⟩ c) := by
  pointwise [k0_pay3]

/-- A row of a table against one frequency's real and imaginary columns. -/
def line (x0 : Vec Ideal S1x2x4x128x1024 .bf16) (x1 : Vec Ideal S4x256x256 .bf16) (j : Fin 4) (p : Fin 256) (c : Fin 1024) : EReal :=
  ∑ m : Fin 128, x1 (ix3 j p ⟨m.val, by omega⟩) * x0 (ix5 0 0 j m c) + ∑ m : Fin 128, x1 (ix3 j p ⟨128 + m.val, by omega⟩) * x0 (ix5 0 1 j m c)

theorem line_0 (x0 : Vec Ideal S1x2x4x128x1024 .bf16) (x1 : Vec Ideal S4x256x256 .bf16) (p : Fin 256) (c : Fin 1024) : k0_pay1 (View.ld x0 r0_0) (View.ld x0 r0_1) (View.ld x1 r0_2) (ix2 p c) = line x0 x1 0 p c := by
  refine (pay1_apply _ _ _ p c).trans ?_
  exact congrArg₂ (· + ·) (Finset.sum_congr rfl fun m _ => congrArg₂ (· * ·) (grid_0 x1 p _) (part0_0 x0 m c)) (Finset.sum_congr rfl fun m _ => congrArg₂ (· * ·) (grid_0 x1 p _) (part1_0 x0 m c))

theorem line_1 (x0 : Vec Ideal S1x2x4x128x1024 .bf16) (x1 : Vec Ideal S4x256x256 .bf16) (p : Fin 256) (c : Fin 1024) : k0_pay1 (View.ld x0 r0_4) (View.ld x0 r0_5) (View.ld x1 r0_6) (ix2 p c) = line x0 x1 1 p c := by
  refine (pay1_apply _ _ _ p c).trans ?_
  exact congrArg₂ (· + ·) (Finset.sum_congr rfl fun m _ => congrArg₂ (· * ·) (grid_1 x1 p _) (part0_1 x0 m c)) (Finset.sum_congr rfl fun m _ => congrArg₂ (· * ·) (grid_1 x1 p _) (part1_1 x0 m c))

theorem line_2 (x0 : Vec Ideal S1x2x4x128x1024 .bf16) (x1 : Vec Ideal S4x256x256 .bf16) (p : Fin 256) (c : Fin 1024) : k0_pay1 (View.ld x0 r0_8) (View.ld x0 r0_9) (View.ld x1 r0_10) (ix2 p c) = line x0 x1 2 p c := by
  refine (pay1_apply _ _ _ p c).trans ?_
  exact congrArg₂ (· + ·) (Finset.sum_congr rfl fun m _ => congrArg₂ (· * ·) (grid_2 x1 p _) (part0_2 x0 m c)) (Finset.sum_congr rfl fun m _ => congrArg₂ (· * ·) (grid_2 x1 p _) (part1_2 x0 m c))

theorem line_3 (x0 : Vec Ideal S1x2x4x128x1024 .bf16) (x1 : Vec Ideal S4x256x256 .bf16) (p : Fin 256) (c : Fin 1024) : k0_pay1 (View.ld x0 r0_12) (View.ld x0 r0_13) (View.ld x1 r0_14) (ix2 p c) = line x0 x1 3 p c := by
  refine (pay1_apply _ _ _ p c).trans ?_
  exact congrArg₂ (· + ·) (Finset.sum_congr rfl fun m _ => congrArg₂ (· * ·) (grid_3 x1 p _) (part0_3 x0 m c)) (Finset.sum_congr rfl fun m _ => congrArg₂ (· * ·) (grid_3 x1 p _) (part1_3 x0 m c))

/-- What the body leaves in output block 2: four frequencies. -/
theorem out2_eq (x0 : Vec Ideal S1x2x4x128x1024 .bf16) (x1 : Vec Ideal S4x256x256 .bf16) :
    out0_2 x0 x1 = View.canon [⟨r0_15, k0_pay2 (View.ld x0 r0_12) (View.ld x0 r0_13) (View.ld x1 r0_14)⟩,
      ⟨r0_11, k0_pay2 (View.ld x0 r0_8) (View.ld x0 r0_9) (View.ld x1 r0_10)⟩,
      ⟨r0_7, k0_pay2 (View.ld x0 r0_4) (View.ld x0 r0_5) (View.ld x1 r0_6)⟩,
      ⟨r0_3, k0_pay2 (View.ld x0 r0_0) (View.ld x0 r0_1) (View.ld x1 r0_2)⟩] := rfl

theorem out2_0 (x0 : Vec Ideal S1x2x4x128x1024 .bf16) (x1 : Vec Ideal S4x256x256 .bf16) (q : Fin 128) (c : Fin 1024) :
    @Eq EReal (out0_2 x0 x1 (ix3 0 q c)) (line x0 x1 0 ⟨q.val, by omega⟩ c) := by
  rw [out2_eq]
  rw [View.canon_cons_of_not_mem, View.canon_cons_of_not_mem, View.canon_cons_of_not_mem]
  · have e : (ix3 0 q c : S4x128x1024.Idx) = r0_3.emb (ix3 0 q c) := by
      funext i
      apply Fin.ext
      match i with
      | ⟨0, _⟩ => rfl
      | ⟨1, _⟩ => show q.val = 0 + 1 * q.val; omega
      | ⟨2, _⟩ => show c.val = 0 + 1 * c.val; omega
    rw [e]
    refine (View.canon_cons_emb (Val := Elt Ideal) (e := .f32) r0_3 _ _ (ix3 0 q c)).trans ?_
    exact (pay2_apply _ _ _ q c).trans (line_0 x0 x1 _ c)
  · intro hm
    have h1 : 1 ≤ 0 := ((Rect.mem_set_unit (inb := inb_S4x128x1024_S1x128x1024_1_0_0)).mp hm 0).1
    omega
  · intro hm
    have h1 : 2 ≤ 0 := ((Rect.mem_set_unit (inb := inb_S4x128x1024_S1x128x1024_2_0_0)).mp hm 0).1
    omega
  · intro hm
    have h1 : 3 ≤ 0 := ((Rect.mem_set_unit (inb := inb_S4x128x1024_S1x128x1024_3_0_0)).mp hm 0).1
    omega

theorem out2_1 (x0 : Vec Ideal S1x2x4x128x1024 .bf16) (x1 : Vec Ideal S4x256x256 .bf16) (q : Fin 128) (c : Fin 1024) :
    @Eq EReal (out0_2 x0 x1 (ix3 1 q c)) (line x0 x1 1 ⟨q.val, by omega⟩ c) := by
  rw [out2_eq]
  rw [View.canon_cons_of_not_mem, View.canon_cons_of_not_mem]
  · have e : (ix3 1 q c : S4x128x1024.Idx) = r0_7.emb (ix3 0 q c) := by
      funext i
      apply Fin.ext
      match i with
      | ⟨0, _⟩ => rfl
      | ⟨1, _⟩ => show q.val = 0 + 1 * q.val; omega
      | ⟨2, _⟩ => show c.val = 0 + 1 * c.val; omega
    rw [e]
    refine (View.canon_cons_emb (Val := Elt Ideal) (e := .f32) r0_7 _ _ (ix3 0 q c)).trans ?_
    exact (pay2_apply _ _ _ q c).trans (line_1 x0 x1 _ c)
  · intro hm
    have h1 : 2 ≤ 1 := ((Rect.mem_set_unit (inb := inb_S4x128x1024_S1x128x1024_2_0_0)).mp hm 0).1
    omega
  · intro hm
    have h1 : 3 ≤ 1 := ((Rect.mem_set_unit (inb := inb_S4x128x1024_S1x128x1024_3_0_0)).mp hm 0).1
    omega

theorem out2_2 (x0 : Vec Ideal S1x2x4x128x1024 .bf16) (x1 : Vec Ideal S4x256x256 .bf16) (q : Fin 128) (c : Fin 1024) :
    @Eq EReal (out0_2 x0 x1 (ix3 2 q c)) (line x0 x1 2 ⟨q.val, by omega⟩ c) := by
  rw [out2_eq]
  rw [View.canon_cons_of_not_mem]
  · have e : (ix3 2 q c : S4x128x1024.Idx) = r0_11.emb (ix3 0 q c) := by
      funext i
      apply Fin.ext
      match i with
      | ⟨0, _⟩ => rfl
      | ⟨1, _⟩ => show q.val = 0 + 1 * q.val; omega
      | ⟨2, _⟩ => show c.val = 0 + 1 * c.val; omega
    rw [e]
    refine (View.canon_cons_emb (Val := Elt Ideal) (e := .f32) r0_11 _ _ (ix3 0 q c)).trans ?_
    exact (pay2_apply _ _ _ q c).trans (line_2 x0 x1 _ c)
  · intro hm
    have h1 : 3 ≤ 2 := ((Rect.mem_set_unit (inb := inb_S4x128x1024_S1x128x1024_3_0_0)).mp hm 0).1
    omega

theorem out2_3 (x0 : Vec Ideal S1x2x4x128x1024 .bf16) (x1 : Vec Ideal S4x256x256 .bf16) (q : Fin 128) (c : Fin 1024) :
    @Eq EReal (out0_2 x0 x1 (ix3 3 q c)) (line x0 x1 3 ⟨q.val, by omega⟩ c) := by
  rw [out2_eq]
  · have e : (ix3 3 q c : S4x128x1024.Idx) = r0_15.emb (ix3 0 q c) := by
      funext i
      apply Fin.ext
      match i with
      | ⟨0, _⟩ => rfl
      | ⟨1, _⟩ => show q.val = 0 + 1 * q.val; omega
      | ⟨2, _⟩ => show c.val = 0 + 1 * c.val; omega
    rw [e]
    refine (View.canon_cons_emb (Val := Elt Ideal) (e := .f32) r0_15 _ _ (ix3 0 q c)).trans ?_
    exact (pay2_apply _ _ _ q c).trans (line_3 x0 x1 _ c)

theorem out2_apply (x0 : Vec Ideal S1x2x4x128x1024 .bf16) (x1 : Vec Ideal S4x256x256 .bf16) (j : Fin 4) (q : Fin 128) (c : Fin 1024) :
    @Eq EReal (out0_2 x0 x1 (ix3 j q c)) (line x0 x1 j ⟨q.val, by omega⟩ c) := by
  match j with
  | ⟨0, _⟩ => exact out2_0 x0 x1 q c
  | ⟨1, _⟩ => exact out2_1 x0 x1 q c
  | ⟨2, _⟩ => exact out2_2 x0 x1 q c
  | ⟨3, _⟩ => exact out2_3 x0 x1 q c

/-- What the body leaves in output block 3: four frequencies. -/
theorem out3_eq (x0 : Vec Ideal S1x2x4x128x1024 .bf16) (x1 : Vec Ideal S4x256x256 .bf16) :
    out0_3 x0 x1 = View.canon [⟨r0_15, k0_pay3 (View.ld x0 r0_12) (View.ld x0 r0_13) (View.ld x1 r0_14)⟩,
      ⟨r0_11, k0_pay3 (View.ld x0 r0_8) (View.ld x0 r0_9) (View.ld x1 r0_10)⟩,
      ⟨r0_7, k0_pay3 (View.ld x0 r0_4) (View.ld x0 r0_5) (View.ld x1 r0_6)⟩,
      ⟨r0_3, k0_pay3 (View.ld x0 r0_0) (View.ld x0 r0_1) (View.ld x1 r0_2)⟩] := rfl

theorem out3_0 (x0 : Vec Ideal S1x2x4x128x1024 .bf16) (x1 : Vec Ideal S4x256x256 .bf16) (q : Fin 128) (c : Fin 1024) :
    @Eq EReal (out0_3 x0 x1 (ix3 0 q c)) (line x0 x1 0 ⟨128 + q.val, by omega⟩ c) := by
  rw [out3_eq]
  rw [View.canon_cons_of_not_mem, View.canon_cons_of_not_mem, View.canon_cons_of_not_mem]
  · have e : (ix3 0 q c : S4x128x1024.Idx) = r0_3.emb (ix3 0 q c) := by
      funext i
      apply Fin.ext
      match i with
      | ⟨0, _⟩ => rfl
      | ⟨1, _⟩ => show q.val = 0 + 1 * q.val; omega
      | ⟨2, _⟩ => show c.val = 0 + 1 * c.val; omega
    rw [e]
    refine (View.canon_cons_emb (Val := Elt Ideal) (e := .f32) r0_3 _ _ (ix3 0 q c)).trans ?_
    exact (pay3_apply _ _ _ q c).trans (line_0 x0 x1 _ c)
  · intro hm
    have h1 : 1 ≤ 0 := ((Rect.mem_set_unit (inb := inb_S4x128x1024_S1x128x1024_1_0_0)).mp hm 0).1
    omega
  · intro hm
    have h1 : 2 ≤ 0 := ((Rect.mem_set_unit (inb := inb_S4x128x1024_S1x128x1024_2_0_0)).mp hm 0).1
    omega
  · intro hm
    have h1 : 3 ≤ 0 := ((Rect.mem_set_unit (inb := inb_S4x128x1024_S1x128x1024_3_0_0)).mp hm 0).1
    omega

theorem out3_1 (x0 : Vec Ideal S1x2x4x128x1024 .bf16) (x1 : Vec Ideal S4x256x256 .bf16) (q : Fin 128) (c : Fin 1024) :
    @Eq EReal (out0_3 x0 x1 (ix3 1 q c)) (line x0 x1 1 ⟨128 + q.val, by omega⟩ c) := by
  rw [out3_eq]
  rw [View.canon_cons_of_not_mem, View.canon_cons_of_not_mem]
  · have e : (ix3 1 q c : S4x128x1024.Idx) = r0_7.emb (ix3 0 q c) := by
      funext i
      apply Fin.ext
      match i with
      | ⟨0, _⟩ => rfl
      | ⟨1, _⟩ => show q.val = 0 + 1 * q.val; omega
      | ⟨2, _⟩ => show c.val = 0 + 1 * c.val; omega
    rw [e]
    refine (View.canon_cons_emb (Val := Elt Ideal) (e := .f32) r0_7 _ _ (ix3 0 q c)).trans ?_
    exact (pay3_apply _ _ _ q c).trans (line_1 x0 x1 _ c)
  · intro hm
    have h1 : 2 ≤ 1 := ((Rect.mem_set_unit (inb := inb_S4x128x1024_S1x128x1024_2_0_0)).mp hm 0).1
    omega
  · intro hm
    have h1 : 3 ≤ 1 := ((Rect.mem_set_unit (inb := inb_S4x128x1024_S1x128x1024_3_0_0)).mp hm 0).1
    omega

theorem out3_2 (x0 : Vec Ideal S1x2x4x128x1024 .bf16) (x1 : Vec Ideal S4x256x256 .bf16) (q : Fin 128) (c : Fin 1024) :
    @Eq EReal (out0_3 x0 x1 (ix3 2 q c)) (line x0 x1 2 ⟨128 + q.val, by omega⟩ c) := by
  rw [out3_eq]
  rw [View.canon_cons_of_not_mem]
  · have e : (ix3 2 q c : S4x128x1024.Idx) = r0_11.emb (ix3 0 q c) := by
      funext i
      apply Fin.ext
      match i with
      | ⟨0, _⟩ => rfl
      | ⟨1, _⟩ => show q.val = 0 + 1 * q.val; omega
      | ⟨2, _⟩ => show c.val = 0 + 1 * c.val; omega
    rw [e]
    refine (View.canon_cons_emb (Val := Elt Ideal) (e := .f32) r0_11 _ _ (ix3 0 q c)).trans ?_
    exact (pay3_apply _ _ _ q c).trans (line_2 x0 x1 _ c)
  · intro hm
    have h1 : 3 ≤ 2 := ((Rect.mem_set_unit (inb := inb_S4x128x1024_S1x128x1024_3_0_0)).mp hm 0).1
    omega

theorem out3_3 (x0 : Vec Ideal S1x2x4x128x1024 .bf16) (x1 : Vec Ideal S4x256x256 .bf16) (q : Fin 128) (c : Fin 1024) :
    @Eq EReal (out0_3 x0 x1 (ix3 3 q c)) (line x0 x1 3 ⟨128 + q.val, by omega⟩ c) := by
  rw [out3_eq]
  · have e : (ix3 3 q c : S4x128x1024.Idx) = r0_15.emb (ix3 0 q c) := by
      funext i
      apply Fin.ext
      match i with
      | ⟨0, _⟩ => rfl
      | ⟨1, _⟩ => show q.val = 0 + 1 * q.val; omega
      | ⟨2, _⟩ => show c.val = 0 + 1 * c.val; omega
    rw [e]
    refine (View.canon_cons_emb (Val := Elt Ideal) (e := .f32) r0_15 _ _ (ix3 0 q c)).trans ?_
    exact (pay3_apply _ _ _ q c).trans (line_3 x0 x1 _ c)

theorem out3_apply (x0 : Vec Ideal S1x2x4x128x1024 .bf16) (x1 : Vec Ideal S4x256x256 .bf16) (j : Fin 4) (q : Fin 128) (c : Fin 1024) :
    @Eq EReal (out0_3 x0 x1 (ix3 j q c)) (line x0 x1 j ⟨128 + q.val, by omega⟩ c) := by
  match j with
  | ⟨0, _⟩ => exact out3_0 x0 x1 q c
  | ⟨1, _⟩ => exact out3_1 x0 x1 q c
  | ⟨2, _⟩ => exact out3_2 x0 x1 q c
  | ⟨3, _⟩ => exact out3_3 x0 x1 q c

end Cert.FilIdeal.Hand
-- ==== Proof.Fil.Value.lean ====
/-
  The filters' transform after the run, read at an index.
-/
module

public import proofs.«01_k».proof.Proof.Gen.FilIdeal.Value
public import proofs.«01_k».proof.Proof.Turn
public import proofs.«01_k».proof.Proof.Fil.Block
public import Idealize.ShloMosaic.Lib.StableHlo.Run
public import Idealize.ShloMosaic.Lib.Tactic

@[expose] public section

set_option maxRecDepth 16384

noncomputable section

namespace Cert.FilIdeal.Hand

open Cert.Hand Cert.FilIdeal Cert.FilIdeal.Gen Idealize.ShloMosaic Idealize.ShloMosaic.TcCoe Idealize.SL.Sem

variable (m : (ℓ : Loc nD τ sig) → Buf (Elt Ideal) ℓ)

theorem points (t : Fin cfg0.N) : t.val < 64 := lt_of_lt_of_eq t.isLt (show cfg0.N = 64 from N_0)

/-- Where each window's block lies at point `t`. -/
theorem place : ∀ t : Fin cfg0.N,
    (win0_0.index t (0 : Fin 5) = 0 ∧ win0_0.index t (1 : Fin 5) = 0 ∧ win0_0.index t (2 : Fin 5) = t.val ∧ win0_0.index t (3 : Fin 5) = 0 ∧ win0_0.index t (4 : Fin 5) = 0)
    ∧ (win0_1.index t (0 : Fin 3) = t.val ∧ win0_1.index t (1 : Fin 3) = 0 ∧ win0_1.index t (2 : Fin 3) = 0) :=
  (by decide +kernel : ∀ t : Fin grid0.N, _)

/-- The first transforms. -/
theorem block0 (c : Dev nD) (t : Fin cfg0.N) (a : Fin 1) (b : Fin 2) (d : Fin 4) (e : Fin 128) (f : Fin 1024) :
    (iblk m c 0 t : Vec Ideal S1x2x4x128x1024 .bf16) (ix5 a b d e f)
      = (m ((c : Thread nD τ).loc main_arg0) : FVec Ideal S1x2x256x128x1024 .bf16) (ix5 a b ⟨t.val * 4 + d.val, by have := points t; have := d.isLt; omega⟩ e f) := by
  obtain ⟨⟨p0, p1, p2, p3, p4⟩, -⟩ := place t
  unfold iblk
  rw [View.read_apply]
  show V m c main_arg0 _ = _
  rw [V_main_arg0]
  congr 1
  funext x
  apply Fin.ext
  match x with
  | ⟨0, _⟩ => show win0_0.index t 0 * 1 + 1 * a.val = a.val; rw [p0]; omega
  | ⟨1, _⟩ => show win0_0.index t 1 * 2 + 1 * b.val = b.val; rw [p1]; omega
  | ⟨2, _⟩ => show win0_0.index t 2 * 4 + 1 * d.val = t.val * 4 + d.val; rw [p2]; omega
  | ⟨3, _⟩ => show win0_0.index t 3 * 128 + 1 * e.val = e.val; rw [p3]; omega
  | ⟨4, _⟩ => show win0_0.index t 4 * 1024 + 1 * f.val = f.val; rw [p4]; omega

/-- The table. -/
theorem block1 (c : Dev nD) (t : Fin cfg0.N) (a : Fin 4) (b : Fin 256) (d : Fin 256) :
    (iblk m c 1 t : Vec Ideal S4x256x256 .bf16) (ix3 a b d)
      = (V m c main_v35 : FVec Ideal S256x256x256 .bf16) (ix3 ⟨t.val * 4 + a.val, by have := points t; have := a.isLt; omega⟩ b d) := by
  obtain ⟨-, p0, p1, p2⟩ := place t
  unfold iblk
  rw [View.read_apply]
  show V m c main_v35 _ = _
  congr 1
  funext x
  apply Fin.ext
  match x with
  | ⟨0, _⟩ => show win0_1.index t 0 * 4 + 1 * a.val = t.val * 4 + a.val; rw [p0]; omega
  | ⟨1, _⟩ => show win0_1.index t 1 * 256 + 1 * b.val = b.val; rw [p1]; omega
  | ⟨2, _⟩ => show win0_1.index t 2 * 256 + 1 * d.val = d.val; rw [p2]; omega

/-- Where point `t` writes the real parts. -/
theorem place2 : ∀ t : Fin cfg0.N,
    win0_2.index t (0 : Fin 3) = t.val ∧ win0_2.index t (1 : Fin 3) = 0 ∧ win0_2.index t (2 : Fin 3) = 0 :=
  (by decide +kernel : ∀ t : Fin grid0.N, _)

/-- The real parts after the run, at an index of point `t`'s block: what the body leaves there. -/
theorem written2 (c : Dev nD) (t : Fin cfg0.N) (a : Fin 4) (b : Fin 128) (d : Fin 1024) :
    ((dats m 0 c).arrAt 2 cfg0.N) (ix3 ⟨t.val * 4 + a.val, by have := points t; have := a.isLt; omega⟩ b d)
      = (out0_2 (iblk m c 0 t) (iblk m c 1 t)) (ix3 a b d) := by
  have h := congrFun (Value.blocks2 m c t (flush0_2 t)) (ix3 a b d)
  rw [View.read_apply, Value.flushed2] at h
  refine Eq.trans ?_ h
  congr 1
  obtain ⟨p0, p1, p2⟩ := place2 t
  funext x
  apply Fin.ext
  match x with
  | ⟨0, _⟩ => show t.val * 4 + a.val = win0_2.index t 0 * 4 + 1 * a.val; rw [p0]; omega
  | ⟨1, _⟩ => show b.val = win0_2.index t 1 * 128 + 1 * b.val; rw [p1]; omega
  | ⟨2, _⟩ => show d.val = win0_2.index t 2 * 1024 + 1 * d.val; rw [p2]; omega

/-- Where point `t` writes the imaginary parts. -/
theorem place3 : ∀ t : Fin cfg0.N,
    win0_3.index t (0 : Fin 3) = t.val ∧ win0_3.index t (1 : Fin 3) = 0 ∧ win0_3.index t (2 : Fin 3) = 0 :=
  (by decide +kernel : ∀ t : Fin grid0.N, _)

/-- The imaginary parts after the run, at an index of point `t`'s block: what the body leaves there. -/
theorem written3 (c : Dev nD) (t : Fin cfg0.N) (a : Fin 4) (b : Fin 128) (d : Fin 1024) :
    ((dats m 0 c).arrAt 3 cfg0.N) (ix3 ⟨t.val * 4 + a.val, by have := points t; have := a.isLt; omega⟩ b d)
      = (out0_3 (iblk m c 0 t) (iblk m c 1 t)) (ix3 a b d) := by
  have h := congrFun (Value.blocks3 m c t (flush0_3 t)) (ix3 a b d)
  rw [View.read_apply, Value.flushed3] at h
  refine Eq.trans ?_ h
  congr 1
  obtain ⟨p0, p1, p2⟩ := place3 t
  funext x
  apply Fin.ext
  match x with
  | ⟨0, _⟩ => show t.val * 4 + a.val = win0_3.index t 0 * 4 + 1 * a.val; rw [p0]; omega
  | ⟨1, _⟩ => show b.val = win0_3.index t 1 * 128 + 1 * b.val; rw [p1]; omega
  | ⟨2, _⟩ => show d.val = win0_3.index t 2 * 1024 + 1 * d.val; rw [p2]; omega

/-- The angles. -/
def angles : FVec Ideal S256x128x128 .f32 :=
  (Host.divf (mulf (broadcastInDim S256x128x128 ![] bcast_S_S256x128x128 (constant S_ .f32 0x40C90FDB#32)) (sitofp .f32 (Host.remsi (muli (broadcastInDim S256x128x128 ![0, 1, 2] bcast_S256x128x1_S256x128x128_0_1_2 (addi (broadcastInDim S256x128x1 ![0, 1, 2] bcast_S256x1x1_S256x128x1_0_1_2 (broadcastInDim S256x1x1 ![0] bcast_S256_S256x1x1_0 (iotaInDim S256 32 0))) (broadcastInDim S256x128x1 ![0, 1, 2] bcast_S1x128x1_S256x128x1_0_1_2 (muli (broadcastInDim S1x128x1 ![] bcast_S_S1x128x1 (constantI S_ 32 256#32)) (broadcastInDim S1x128x1 ![1] bcast_S128_S1x128x1_1 (iotaInDim S128 32 0)))))) (broadcastInDim S256x128x128 ![0, 1, 2] bcast_S1x1x128_S256x128x128_0_1_2 (broadcastInDim S1x1x128 ![2] bcast_S128_S1x1x128_2 (iotaInDim S128 32 0)))) (broadcastInDim S256x128x128 ![] bcast_S_S256x128x128 (constantI S_ 32 32768#32))))) (broadcastInDim S256x128x128 ![] bcast_S_S256x128x128 (constant S_ .f32 0x47000000#32)))

theorem angles_apply (k : Fin 256) (q m : Fin 128) : angles (ix3 k q m) = turn k q m := by
  pointwise [angles]
  rfl

/-- The table of the transform. -/
theorem table (c : Dev nD) (k : Fin 256) (p x : Fin 256) : (V m c main_v35 : FVec Ideal S256x256x256 .bf16) (ix3 k p x) = fore (turn k) p x := by
  have h : @Eq (FVec Ideal S256x256x256 .bf16) (V m c main_v35) (truncf .bf16 (concatenate S256x256x256 1 [⟨S256x128x256, concatenate S256x128x256 2 [⟨S256x128x128, Host.cos angles⟩, ⟨S256x128x128, Host.negf (Host.negf (Host.sin angles))⟩] concatenates_S256x128x128_S256x128x128_S256x128x256_d2⟩, ⟨S256x128x256, concatenate S256x128x256 2 [⟨S256x128x128, Host.negf (Host.sin angles)⟩, ⟨S256x128x128, Host.cos angles⟩] concatenates_S256x128x128_S256x128x128_S256x128x256_d2⟩] concatenates_S256x128x256_S256x128x256_S256x256x256_d1) bitsLt_bf16_f32) := by
    unfold V
    after_results <;> rfl
  rw [h]
  pointwise []
  simp only [angles_apply]
  rfl

/-- A frequency lies in one grid point. -/
theorem split (k : Fin 256) : ∃ (t : Fin cfg0.N) (j : Fin 4) (h : t.val * 4 + j.val < 256), k = ⟨t.val * 4 + j.val, h⟩ :=
  ⟨⟨k.val / 4, lt_of_lt_of_eq (show k.val / 4 < 64 by omega) (show 64 = cfg0.N from N_0.symm)⟩, ⟨k.val % 4, by omega⟩,
    by show k.val / 4 * 4 + k.val % 4 < 256; omega, Fin.ext (by show k.val = k.val / 4 * 4 + k.val % 4; omega)⟩

theorem line_apply (c : Dev nD) (t : Fin cfg0.N) (j : Fin 4) (h : t.val * 4 + j.val < 256) (p : Fin 256) (x : Fin 1024) :
    line (iblk m c 0 t : Vec Ideal S1x2x4x128x1024 .bf16) (iblk m c 1 t : Vec Ideal S4x256x256 .bf16) j p x
      = ∑ a : Fin 128, fore (turn ⟨t.val * 4 + j.val, h⟩) p ⟨a.val, by omega⟩ * (m ((c : Thread nD τ).loc main_arg0) : FVec Ideal S1x2x256x128x1024 .bf16) (ix5 0 0 ⟨t.val * 4 + j.val, h⟩ a x)
        + ∑ a : Fin 128, fore (turn ⟨t.val * 4 + j.val, h⟩) p ⟨128 + a.val, by omega⟩ * (m ((c : Thread nD τ).loc main_arg0) : FVec Ideal S1x2x256x128x1024 .bf16) (ix5 0 1 ⟨t.val * 4 + j.val, h⟩ a x) :=
  congrArg₂ (· + ·)
    (Finset.sum_congr rfl fun a _ => congrArg₂ (· * ·) ((block1 m c t j p _).trans (table m c _ p _)) (block0 m c t 0 0 j a x))
    (Finset.sum_congr rfl fun a _ => congrArg₂ (· * ·) ((block1 m c t j p _).trans (table m c _ p _)) (block0 m c t 0 1 j a x))

/-- The real parts after the run. -/
theorem result2_apply (c : Dev nD) (k : Fin 256) (q : Fin 128) (x : Fin 1024) :
    @Eq EReal (((dats m 0 c).arrAt 2 cfg0.N) (ix3 k q x))
      (foreRe (turn k) (fun a => (m ((c : Thread nD τ).loc main_arg0) : FVec Ideal S1x2x256x128x1024 .bf16) (ix5 0 0 k a x)) (fun a => (m ((c : Thread nD τ).loc main_arg0) : FVec Ideal S1x2x256x128x1024 .bf16) (ix5 0 1 k a x)) q) := by
  obtain ⟨t, j, h, rfl⟩ := split k
  refine (written2 m c t j q x).trans ?_
  refine (out2_apply _ _ j q x).trans ?_
  exact (line_apply m c t j h _ x).trans (foreRe_eq _ _ _ q)

/-- The imaginary parts after the run. -/
theorem result3_apply (c : Dev nD) (k : Fin 256) (q : Fin 128) (x : Fin 1024) :
    @Eq EReal (((dats m 0 c).arrAt 3 cfg0.N) (ix3 k q x))
      (foreIm (turn k) (fun a => (m ((c : Thread nD τ).loc main_arg0) : FVec Ideal S1x2x256x128x1024 .bf16) (ix5 0 0 k a x)) (fun a => (m ((c : Thread nD τ).loc main_arg0) : FVec Ideal S1x2x256x128x1024 .bf16) (ix5 0 1 k a x)) q) := by
  obtain ⟨t, j, h, rfl⟩ := split k
  refine (written3 m c t j q x).trans ?_
  refine (out3_apply _ _ j q x).trans ?_
  exact (line_apply m c t j h _ x).trans (foreIm_eq _ _ _ q)

end Cert.FilIdeal.Hand
-- ==== Proof.Fil.RefValue.lean ====
/-
  The plain transform of the filters read at an index.
-/
module

public import proofs.«01_k».proof.Proof.Gen.FilRefIdeal.Run
public import proofs.«01_k».proof.Proof.Turn

@[expose] public section

set_option maxRecDepth 16384

noncomputable section

namespace Cert.FilRefIdeal.Hand

open Cert.Hand Cert.FilRefIdeal Cert.FilRefIdeal.Gen Idealize.ShloMosaic Idealize.ShloMosaic.TcCoe Idealize.SL.Sem

/-- The angles. -/
def angles : FVec Ideal S256x128x128 .f32 :=
  (Host.divf (mulf (broadcastInDim S256x128x128 ![] bcast_S_S256x128x128 (constant S_ .f32 0x40C90FDB#32)) (sitofp .f32 (Host.remsi (muli (broadcastInDim S256x128x128 ![0, 1, 2] bcast_S256x128x1_S256x128x128_0_1_2 (addi (broadcastInDim S256x128x1 ![0, 1, 2] bcast_S256x1x1_S256x128x1_0_1_2 (broadcastInDim S256x1x1 ![0] bcast_S256_S256x1x1_0 (iotaInDim S256 32 0))) (broadcastInDim S256x128x1 ![0, 1, 2] bcast_S1x128x1_S256x128x1_0_1_2 (muli (broadcastInDim S1x128x1 ![] bcast_S_S1x128x1 (constantI S_ 32 256#32)) (broadcastInDim S1x128x1 ![1] bcast_S128_S1x128x1_1 (iotaInDim S128 32 0)))))) (broadcastInDim S256x128x128 ![0, 1, 2] bcast_S1x1x128_S256x128x128_0_1_2 (broadcastInDim S1x1x128 ![2] bcast_S128_S1x1x128_2 (iotaInDim S128 32 0)))) (broadcastInDim S256x128x128 ![] bcast_S_S256x128x128 (constantI S_ 32 32768#32))))) (broadcastInDim S256x128x128 ![] bcast_S_S256x128x128 (constant S_ .f32 0x47000000#32)))

theorem angles_apply (k : Fin 256) (q m : Fin 128) : angles (ix3 k q m) = turn k q m := by
  pointwise [angles]
  rfl

def real (a : FVec Ideal S1x2x256x128x1024 .bf16) : FVec Ideal S256x128x1024 .f32 :=
  addf (Host.dotGeneral dot_S256x128x128_S256x128x1024_S256x128x1024_2_1_1_2_0_0 none (Host.cos angles) (extf .f32 (shapeCast _ (extractStridedSlice S1x1x256x128x1024 ![0, 0, 0, 0, 0] a slices_S1x2x256x128x1024_S1x1x256x128x1024_0_0_0_0_0) shapeCasts_S1x1x256x128x1024_S256x128x1024) bitsLt_bf16_f32)) (Host.dotGeneral dot_S256x128x128_S256x128x1024_S256x128x1024_2_1_1_2_0_0 none (Host.sin angles) (extf .f32 (shapeCast _ (extractStridedSlice S1x1x256x128x1024 ![0, 1, 0, 0, 0] a slices_S1x2x256x128x1024_S1x1x256x128x1024_0_1_0_0_0) shapeCasts_S1x1x256x128x1024_S256x128x1024) bitsLt_bf16_f32))

theorem real_apply (a : FVec Ideal S1x2x256x128x1024 .bf16) (k : Fin 256) (q : Fin 128) (x : Fin 1024) :
    real a (ix3 k q x) = foreRe (turn k) (fun m => a (ix5 0 0 k m x)) (fun m => a (ix5 0 1 k m x)) q := by
  pointwise [real]
  simp only [angles_apply]
  rfl

def imag (a : FVec Ideal S1x2x256x128x1024 .bf16) : FVec Ideal S256x128x1024 .f32 :=
  addf (Host.dotGeneral dot_S256x128x128_S256x128x1024_S256x128x1024_2_1_1_2_0_0 none (Host.negf (Host.sin angles)) (extf .f32 (shapeCast _ (extractStridedSlice S1x1x256x128x1024 ![0, 0, 0, 0, 0] a slices_S1x2x256x128x1024_S1x1x256x128x1024_0_0_0_0_0) shapeCasts_S1x1x256x128x1024_S256x128x1024) bitsLt_bf16_f32)) (Host.dotGeneral dot_S256x128x128_S256x128x1024_S256x128x1024_2_1_1_2_0_0 none (Host.cos angles) (extf .f32 (shapeCast _ (extractStridedSlice S1x1x256x128x1024 ![0, 1, 0, 0, 0] a slices_S1x2x256x128x1024_S1x1x256x128x1024_0_1_0_0_0) shapeCasts_S1x1x256x128x1024_S256x128x1024) bitsLt_bf16_f32))

theorem imag_apply (a : FVec Ideal S1x2x256x128x1024 .bf16) (k : Fin 256) (q : Fin 128) (x : Fin 1024) :
    imag a (ix3 k q x) = foreIm (turn k) (fun m => a (ix5 0 0 k m x)) (fun m => a (ix5 0 1 k m x)) q := by
  pointwise [imag]
  simp only [angles_apply]
  rfl

end Cert.FilRefIdeal.Hand
-- ==== Proof.Mid.Block.lean ====
/-
  A grid point of the middle of the convolution, read at an index.
-/
module

public import proofs.«01_k».proof.Proof.Gen.MidIdeal.Value
public import proofs.«01_k».proof.Proof.Turn
public import Idealize.ShloMosaic.Lib.StableHlo.Run
public import Idealize.ShloMosaic.Lib.Tactic

@[expose] public section

set_option maxRecDepth 16384

noncomputable section

namespace Cert.MidIdeal.Hand

open Cert.Hand Cert.MidIdeal Cert.MidIdeal.Gen Idealize.ShloMosaic Idealize.ShloMosaic.TcCoe Idealize.SL.Sem

theorem part0_0 (x : Vec Ideal S1x2x4x128x512 .bf16) (m : Fin 128) (c : Fin 512) : View.ld x r0_0 (ix5 0 0 0 m c) = x (ix5 0 0 0 m c) := by
  refine congrArg x (funext fun i => Fin.ext ?_)
  match i with
  | ⟨0, _⟩ => rfl
  | ⟨1, _⟩ => rfl
  | ⟨2, _⟩ => rfl
  | ⟨3, _⟩ => show 0 + 1 * m.val = m.val; omega
  | ⟨4, _⟩ => show 0 + 1 * c.val = c.val; omega

theorem part1_0 (x : Vec Ideal S1x2x4x128x512 .bf16) (m : Fin 128) (c : Fin 512) : View.ld x r0_1 (ix5 0 0 0 m c) = x (ix5 0 1 0 m c) := by
  refine congrArg x (funext fun i => Fin.ext ?_)
  match i with
  | ⟨0, _⟩ => rfl
  | ⟨1, _⟩ => rfl
  | ⟨2, _⟩ => rfl
  | ⟨3, _⟩ => show 0 + 1 * m.val = m.val; omega
  | ⟨4, _⟩ => show 0 + 1 * c.val = c.val; omega

theorem grid_0 (x : Vec Ideal S4x256x256 .bf16) (p q : Fin 256) : View.ld x r0_2 (ix3 0 p q) = x (ix3 0 p q) := by
  refine congrArg x (funext fun i => Fin.ext ?_)
  match i with
  | ⟨0, _⟩ => rfl
  | ⟨1, _⟩ => show 0 + 1 * p.val = p.val; omega
  | ⟨2, _⟩ => show 0 + 1 * q.val = q.val; omega

theorem part0_1 (x : Vec Ideal S1x2x4x128x512 .bf16) (m : Fin 128) (c : Fin 512) : View.ld x r0_4 (ix5 0 0 0 m c) = x (ix5 0 0 1 m c) := by
  refine congrArg x (funext fun i => Fin.ext ?_)
  match i with
  | ⟨0, _⟩ => rfl
  | ⟨1, _⟩ => rfl
  | ⟨2, _⟩ => rfl
  | ⟨3, _⟩ => show 0 + 1 * m.val = m.val; omega
  | ⟨4, _⟩ => show 0 + 1 * c.val = c.val; omega

theorem part1_1 (x : Vec Ideal S1x2x4x128x512 .bf16) (m : Fin 128) (c : Fin 512) : View.ld x r0_5 (ix5 0 0 0 m c) = x (ix5 0 1 1 m c) := by
  refine congrArg x (funext fun i => Fin.ext ?_)
  match i with
  | ⟨0, _⟩ => rfl
  | ⟨1, _⟩ => rfl
  | ⟨2, _⟩ => rfl
  | ⟨3, _⟩ => show 0 + 1 * m.val = m.val; omega
  | ⟨4, _⟩ => show 0 + 1 * c.val = c.val; omega

theorem grid_1 (x : Vec Ideal S4x256x256 .bf16) (p q : Fin 256) : View.ld x r0_6 (ix3 0 p q) = x (ix3 1 p q) := by
  refine congrArg x (funext fun i => Fin.ext ?_)
  match i with
  | ⟨0, _⟩ => rfl
  | ⟨1, _⟩ => show 0 + 1 * p.val = p.val; omega
  | ⟨2, _⟩ => show 0 + 1 * q.val = q.val; omega

theorem part0_2 (x : Vec Ideal S1x2x4x128x512 .bf16) (m : Fin 128) (c : Fin 512) : View.ld x r0_8 (ix5 0 0 0 m c) = x (ix5 0 0 2 m c) := by
  refine congrArg x (funext fun i => Fin.ext ?_)
  match i with
  | ⟨0, _⟩ => rfl
  | ⟨1, _⟩ => rfl
  | ⟨2, _⟩ => rfl
  | ⟨3, _⟩ => show 0 + 1 * m.val = m.val; omega
  | ⟨4, _⟩ => show 0 + 1 * c.val = c.val; omega

theorem part1_2 (x : Vec Ideal S1x2x4x128x512 .bf16) (m : Fin 128) (c : Fin 512) : View.ld x r0_9 (ix5 0 0 0 m c) = x (ix5 0 1 2 m c) := by
  refine congrArg x (funext fun i => Fin.ext ?_)
  match i with
  | ⟨0, _⟩ => rfl
  | ⟨1, _⟩ => rfl
  | ⟨2, _⟩ => rfl
  | ⟨3, _⟩ => show 0 + 1 * m.val = m.val; omega
  | ⟨4, _⟩ => show 0 + 1 * c.val = c.val; omega

theorem grid_2 (x : Vec Ideal S4x256x256 .bf16) (p q : Fin 256) : View.ld x r0_10 (ix3 0 p q) = x (ix3 2 p q) := by
  refine congrArg x (funext fun i => Fin.ext ?_)
  match i with
  | ⟨0, _⟩ => rfl
  | ⟨1, _⟩ => show 0 + 1 * p.val = p.val; omega
  | ⟨2, _⟩ => show 0 + 1 * q.val = q.val; omega

theorem part0_3 (x : Vec Ideal S1x2x4x128x512 .bf16) (m : Fin 128) (c : Fin 512) : View.ld x r0_12 (ix5 0 0 0 m c) = x (ix5 0 0 3 m c) := by
  refine congrArg x (funext fun i => Fin.ext ?_)
  match i with
  | ⟨0, _⟩ => rfl
  | ⟨1, _⟩ => rfl
  | ⟨2, _⟩ => rfl
  | ⟨3, _⟩ => show 0 + 1 * m.val = m.val; omega
  | ⟨4, _⟩ => show 0 + 1 * c.val = c.val; omega

theorem part1_3 (x : Vec Ideal S1x2x4x128x512 .bf16) (m : Fin 128) (c : Fin 512) : View.ld x r0_13 (ix5 0 0 0 m c) = x (ix5 0 1 3 m c) := by
  refine congrArg x (funext fun i => Fin.ext ?_)
  match i with
  | ⟨0, _⟩ => rfl
  | ⟨1, _⟩ => rfl
  | ⟨2, _⟩ => rfl
  | ⟨3, _⟩ => show 0 + 1 * m.val = m.val; omega
  | ⟨4, _⟩ => show 0 + 1 * c.val = c.val; omega

theorem grid_3 (x : Vec Ideal S4x256x256 .bf16) (p q : Fin 256) : View.ld x r0_14 (ix3 0 p q) = x (ix3 3 p q) := by
  refine congrArg x (funext fun i => Fin.ext ?_)
  match i with
  | ⟨0, _⟩ => rfl
  | ⟨1, _⟩ => show 0 + 1 * p.val = p.val; omega
  | ⟨2, _⟩ => show 0 + 1 * q.val = q.val; omega

theorem filter_0 (x : Vec Ideal S4x128x512 .f32) (q : Fin 128) (c : Fin 512) : View.ld x r0_3 (ix3 0 q c) = x (ix3 0 q c) := by
  refine congrArg x (funext fun i => Fin.ext ?_)
  match i with
  | ⟨0, _⟩ => rfl
  | ⟨1, _⟩ => show 0 + 1 * q.val = q.val; omega
  | ⟨2, _⟩ => show 0 + 1 * c.val = c.val; omega

theorem filter_1 (x : Vec Ideal S4x128x512 .f32) (q : Fin 128) (c : Fin 512) : View.ld x r0_7 (ix3 0 q c) = x (ix3 1 q c) := by
  refine congrArg x (funext fun i => Fin.ext ?_)
  match i with
  | ⟨0, _⟩ => rfl
  | ⟨1, _⟩ => show 0 + 1 * q.val = q.val; omega
  | ⟨2, _⟩ => show 0 + 1 * c.val = c.val; omega

theorem filter_2 (x : Vec Ideal S4x128x512 .f32) (q : Fin 128) (c : Fin 512) : View.ld x r0_11 (ix3 0 q c) = x (ix3 2 q c) := by
  refine congrArg x (funext fun i => Fin.ext ?_)
  match i with
  | ⟨0, _⟩ => rfl
  | ⟨1, _⟩ => show 0 + 1 * q.val = q.val; omega
  | ⟨2, _⟩ => show 0 + 1 * c.val = c.val; omega

theorem filter_3 (x : Vec Ideal S4x128x512 .f32) (q : Fin 128) (c : Fin 512) : View.ld x r0_15 (ix3 0 q c) = x (ix3 3 q c) := by
  refine congrArg x (funext fun i => Fin.ext ?_)
  match i with
  | ⟨0, _⟩ => rfl
  | ⟨1, _⟩ => show 0 + 1 * q.val = q.val; omega
  | ⟨2, _⟩ => show 0 + 1 * c.val = c.val; omega

/-- The transform of a frequency's columns. -/
def first (x y : Vec Ideal S1x1x1x128x512 .bf16) (g : Vec Ideal S1x256x256 .bf16) : FVec Ideal S256x512 .f32 :=
  matmul dot_S256x256_S256x512_S256x512_1_0_0_1_n_n none (shapeCast S256x256 g shapeCasts_S1x256x256_S256x256 : FVec Ideal S256x256 .bf16)
    (concatenate S256x512 0 [⟨S128x512, (shapeCast S128x512 x shapeCasts_S1x1x1x128x512_S128x512 : FVec Ideal S128x512 .bf16)⟩, ⟨S128x512, (shapeCast S128x512 y shapeCasts_S1x1x1x128x512_S128x512 : FVec Ideal S128x512 .bf16)⟩] concatenates_S128x512_S128x512_S256x512_d0 : FVec Ideal S256x512 .bf16)
    (constant S256x512 .f32 0x00000000#32)

/-- The product with the filter's transform. -/
def times (z : FVec Ideal S256x512 .f32) (kr ki : Vec Ideal S1x128x512 .f32) : FVec Ideal S256x512 .bf16 :=
  truncf .bf16 (concatenate S256x512 0 [⟨S128x512, subf (mulf (extractStridedSlice S128x512 ![0, 0] z slices_S256x512_o0_0_S128x512) (shapeCast S128x512 kr shapeCasts_S1x128x512_S128x512)) (mulf (extractStridedSlice S128x512 ![128, 0] z slices_S256x512_o128_0_S128x512) (shapeCast S128x512 ki shapeCasts_S1x128x512_S128x512))⟩,
    ⟨S128x512, addf (mulf (extractStridedSlice S128x512 ![0, 0] z slices_S256x512_o0_0_S128x512) (shapeCast S128x512 ki shapeCasts_S1x128x512_S128x512)) (mulf (extractStridedSlice S128x512 ![128, 0] z slices_S256x512_o128_0_S128x512) (shapeCast S128x512 kr shapeCasts_S1x128x512_S128x512))⟩] concatenates_S128x512_S128x512_S256x512_d0) bitsLt_bf16_f32

/-- The inverse transform. -/
def second (h : Vec Ideal S1x256x256 .bf16) (y : FVec Ideal S256x512 .bf16) : FVec Ideal S256x512 .f32 :=
  matmul dot_S256x256_S256x512_S256x512_1_0_0_1_n_n none (shapeCast S256x256 h shapeCasts_S1x256x256_S256x256 : FVec Ideal S256x256 .bf16) y (constant S256x512 .f32 0x00000000#32)

theorem pay4_eq (x y : Vec Ideal S1x1x1x128x512 .bf16) (g : Vec Ideal S1x256x256 .bf16) (kr ki : Vec Ideal S1x128x512 .f32) (h : Vec Ideal S1x256x256 .bf16) : k0_pay4 x y g kr ki h = second h (times (first x y g) kr ki) := rfl

theorem first_apply (x y : Vec Ideal S1x1x1x128x512 .bf16) (g : Vec Ideal S1x256x256 .bf16) (p : Fin 256) (c : Fin 512) :
    first x y g (ix2 p c) = ∑ m : Fin 128, g (ix3 0 p ⟨m.val, by omega⟩) * x (ix5 0 0 0 m c) + ∑ m : Fin 128, g (ix3 0 p ⟨128 + m.val, by omega⟩) * y (ix5 0 0 0 m c) := by
  pointwise [first]

theorem times_low (z : FVec Ideal S256x512 .f32) (kr ki : Vec Ideal S1x128x512 .f32) (q : Fin 128) (c : Fin 512) :
    times z kr ki (ix2 ⟨q.val, by omega⟩ c) = z (ix2 ⟨q.val, by omega⟩ c) * kr (ix3 0 q c) - z (ix2 ⟨128 + q.val, by omega⟩ c) * ki (ix3 0 q c) := by
  pointwise [times]

theorem times_high (z : FVec Ideal S256x512 .f32) (kr ki : Vec Ideal S1x128x512 .f32) (q : Fin 128) (c : Fin 512) :
    times z kr ki (ix2 ⟨128 + q.val, by omega⟩ c) = z (ix2 ⟨q.val, by omega⟩ c) * ki (ix3 0 q c) + z (ix2 ⟨128 + q.val, by omega⟩ c) * kr (ix3 0 q c) := by
  pointwise [times]

theorem second_apply (h : Vec Ideal S1x256x256 .bf16) (y : FVec Ideal S256x512 .bf16) (p : Fin 256) (c : Fin 512) :
    second h y (ix2 p c) = ∑ q : Fin 128, h (ix3 0 p ⟨q.val, by omega⟩) * y (ix2 ⟨q.val, by omega⟩ c) + ∑ q : Fin 128, h (ix3 0 p ⟨128 + q.val, by omega⟩) * y (ix2 ⟨128 + q.val, by omega⟩ c) := by
  pointwise [second]
  exact sum_halves_256 _

theorem low_apply (x y : Vec Ideal S1x1x1x128x512 .bf16) (g : Vec Ideal S1x256x256 .bf16) (kr ki : Vec Ideal S1x128x512 .f32) (h : Vec Ideal S1x256x256 .bf16) (q : Fin 128) (c : Fin 512) : k0_pay6 (k0_pay5 x y g kr ki h) (ix5 0 0 0 q c) = k0_pay4 x y g kr ki h (ix2 ⟨q.val, by omega⟩ c) := by
  pointwise [k0_pay6, k0_pay5]

theorem high_apply (z : FVec Ideal S256x512 .f32) (q : Fin 128) (c : Fin 512) : k0_pay7 z (ix5 0 0 0 q c) = z (ix2 ⟨128 + q.val, by omega⟩ c) := by
  pointwise [k0_pay7]

/-- A row of the transform's table against a frequency's columns. -/
def line (a : Fin 2 → Fin 128 → EReal) (g : Fin 256 → Fin 256 → EReal) (p : Fin 256) : EReal :=
  ∑ m : Fin 128, g p ⟨m.val, by omega⟩ * a 0 m + ∑ m : Fin 128, g p ⟨128 + m.val, by omega⟩ * a 1 m

/-- A row of the inverse transform's table against the products with the filter. -/
def cell (a : Fin 2 → Fin 128 → EReal) (g h : Fin 256 → Fin 256 → EReal) (kr ki : Fin 128 → EReal) (p : Fin 256) : EReal :=
  ∑ q : Fin 128, h p ⟨q.val, by omega⟩ * (line a g ⟨q.val, by omega⟩ * kr q - line a g ⟨128 + q.val, by omega⟩ * ki q)
    + ∑ q : Fin 128, h p ⟨128 + q.val, by omega⟩ * (line a g ⟨q.val, by omega⟩ * ki q + line a g ⟨128 + q.val, by omega⟩ * kr q)

theorem line_congr {a a' : Fin 2 → Fin 128 → EReal} {g g' : Fin 256 → Fin 256 → EReal} (ha : ∀ i m, a i m = a' i m) (hg : ∀ p x, g p x = g' p x) (p : Fin 256) :
    line a g p = line a' g' p := by
  rw [show a = a' from funext fun i => funext (ha i), show g = g' from funext fun p => funext (hg p)]

theorem cell_congr {a a' : Fin 2 → Fin 128 → EReal} {g g' h h' : Fin 256 → Fin 256 → EReal} {kr kr' ki ki' : Fin 128 → EReal} (ha : ∀ i m, a i m = a' i m) (hg : ∀ p x, g p x = g' p x)
    (hh : ∀ p x, h p x = h' p x) (hr : ∀ q, kr q = kr' q) (hi : ∀ q, ki q = ki' q) (p : Fin 256) : cell a g h kr ki p = cell a' g' h' kr' ki' p := by
  rw [show a = a' from funext fun i => funext (ha i), show g = g' from funext fun p => funext (hg p), show h = h' from funext fun p => funext (hh p),
    show kr = kr' from funext hr, show ki = ki' from funext hi]

theorem pay4_apply (x y : Vec Ideal S1x1x1x128x512 .bf16) (g : Vec Ideal S1x256x256 .bf16) (kr ki : Vec Ideal S1x128x512 .f32) (h : Vec Ideal S1x256x256 .bf16) (p : Fin 256) (c : Fin 512) :
    k0_pay4 x y g kr ki h (ix2 p c)
      = cell (fun i m => if i = 0 then x (ix5 0 0 0 m c) else y (ix5 0 0 0 m c)) (fun p x => g (ix3 0 p x)) (fun p x => h (ix3 0 p x)) (fun q => kr (ix3 0 q c)) (fun q => ki (ix3 0 q c)) p := by
  rw [pay4_eq]
  refine (second_apply h _ p c).trans ?_
  refine congrArg₂ (· + ·) (Finset.sum_congr rfl fun q _ => ?_) (Finset.sum_congr rfl fun q _ => ?_)
  · refine congrArg₂ (· * ·) rfl ((times_low _ kr ki q c).trans ?_)
    exact congrArg₂ (· - ·) (congrArg₂ (· * ·) (first_apply x y g _ c) rfl) (congrArg₂ (· * ·) (first_apply x y g _ c) rfl)
  · refine congrArg₂ (· * ·) rfl ((times_high _ kr ki q c).trans ?_)
    exact congrArg₂ (· + ·) (congrArg₂ (· * ·) (first_apply x y g _ c) rfl) (congrArg₂ (· * ·) (first_apply x y g _ c) rfl)

theorem cell_0 (x0 : Vec Ideal S1x2x4x128x512 .bf16) (x1 x2 : Vec Ideal S4x256x256 .bf16) (x3 x4 : Vec Ideal S4x128x512 .f32) (p : Fin 256) (c : Fin 512) : k0_pay4 (View.ld x0 r0_0) (View.ld x0 r0_1) (View.ld x1 r0_2) (View.ld x3 r0_3) (View.ld x4 r0_3) (View.ld x2 r0_2) (ix2 p c) = cell (fun i m => x0 (ix5 0 i 0 m c)) (fun p x => x1 (ix3 0 p x)) (fun p x => x2 (ix3 0 p x)) (fun q => x3 (ix3 0 q c)) (fun q => x4 (ix3 0 q c)) p := by
  refine (pay4_apply _ _ _ _ _ _ p c).trans ?_
  refine cell_congr (fun i a => ?_) (fun p x => grid_0 x1 p x) (fun p x => grid_0 x2 p x) (fun q => filter_0 x3 q c) (fun q => filter_0 x4 q c) p
  match i with
  | ⟨0, _⟩ => exact part0_0 x0 a c
  | ⟨1, _⟩ => exact part1_0 x0 a c

theorem cell_1 (x0 : Vec Ideal S1x2x4x128x512 .bf16) (x1 x2 : Vec Ideal S4x256x256 .bf16) (x3 x4 : Vec Ideal S4x128x512 .f32) (p : Fin 256) (c : Fin 512) : k0_pay4 (View.ld x0 r0_4) (View.ld x0 r0_5) (View.ld x1 r0_6) (View.ld x3 r0_7) (View.ld x4 r0_7) (View.ld x2 r0_6) (ix2 p c) = cell (fun i m => x0 (ix5 0 i 1 m c)) (fun p x => x1 (ix3 1 p x)) (fun p x => x2 (ix3 1 p x)) (fun q => x3 (ix3 1 q c)) (fun q => x4 (ix3 1 q c)) p := by
  refine (pay4_apply _ _ _ _ _ _ p c).trans ?_
  refine cell_congr (fun i a => ?_) (fun p x => grid_1 x1 p x) (fun p x => grid_1 x2 p x) (fun q => filter_1 x3 q c) (fun q => filter_1 x4 q c) p
  match i with
  | ⟨0, _⟩ => exact part0_1 x0 a c
  | ⟨1, _⟩ => exact part1_1 x0 a c

theorem cell_2 (x0 : Vec Ideal S1x2x4x128x512 .bf16) (x1 x2 : Vec Ideal S4x256x256 .bf16) (x3 x4 : Vec Ideal S4x128x512 .f32) (p : Fin 256) (c : Fin 512) : k0_pay4 (View.ld x0 r0_8) (View.ld x0 r0_9) (View.ld x1 r0_10) (View.ld x3 r0_11) (View.ld x4 r0_11) (View.ld x2 r0_10) (ix2 p c) = cell (fun i m => x0 (ix5 0 i 2 m c)) (fun p x => x1 (ix3 2 p x)) (fun p x => x2 (ix3 2 p x)) (fun q => x3 (ix3 2 q c)) (fun q => x4 (ix3 2 q c)) p := by
  refine (pay4_apply _ _ _ _ _ _ p c).trans ?_
  refine cell_congr (fun i a => ?_) (fun p x => grid_2 x1 p x) (fun p x => grid_2 x2 p x) (fun q => filter_2 x3 q c) (fun q => filter_2 x4 q c) p
  match i with
  | ⟨0, _⟩ => exact part0_2 x0 a c
  | ⟨1, _⟩ => exact part1_2 x0 a c

theorem cell_3 (x0 : Vec Ideal S1x2x4x128x512 .bf16) (x1 x2 : Vec Ideal S4x256x256 .bf16) (x3 x4 : Vec Ideal S4x128x512 .f32) (p : Fin 256) (c : Fin 512) : k0_pay4 (View.ld x0 r0_12) (View.ld x0 r0_13) (View.ld x1 r0_14) (View.ld x3 r0_15) (View.ld x4 r0_15) (View.ld x2 r0_14) (ix2 p c) = cell (fun i m => x0 (ix5 0 i 3 m c)) (fun p x => x1 (ix3 3 p x)) (fun p x => x2 (ix3 3 p x)) (fun q => x3 (ix3 3 q c)) (fun q => x4 (ix3 3 q c)) p := by
  refine (pay4_apply _ _ _ _ _ _ p c).trans ?_
  refine cell_congr (fun i a => ?_) (fun p x => grid_3 x1 p x) (fun p x => grid_3 x2 p x) (fun q => filter_3 x3 q c) (fun q => filter_3 x4 q c) p
  match i with
  | ⟨0, _⟩ => exact part0_3 x0 a c
  | ⟨1, _⟩ => exact part1_3 x0 a c

/-- What the body leaves in the output block: four frequencies, real and imaginary. -/
theorem out_eq (x0 : Vec Ideal S1x2x4x128x512 .bf16) (x1 x2 : Vec Ideal S4x256x256 .bf16) (x3 x4 : Vec Ideal S4x128x512 .f32) :
    out0_5 x0 x1 x2 x3 x4 = View.canon [⟨r0_13, k0_pay7 (k0_pay4 (View.ld x0 r0_12) (View.ld x0 r0_13) (View.ld x1 r0_14) (View.ld x3 r0_15) (View.ld x4 r0_15) (View.ld x2 r0_14))⟩,
      ⟨r0_12, k0_pay6 (k0_pay5 (View.ld x0 r0_12) (View.ld x0 r0_13) (View.ld x1 r0_14) (View.ld x3 r0_15) (View.ld x4 r0_15) (View.ld x2 r0_14))⟩,
      ⟨r0_9, k0_pay7 (k0_pay4 (View.ld x0 r0_8) (View.ld x0 r0_9) (View.ld x1 r0_10) (View.ld x3 r0_11) (View.ld x4 r0_11) (View.ld x2 r0_10))⟩,
      ⟨r0_8, k0_pay6 (k0_pay5 (View.ld x0 r0_8) (View.ld x0 r0_9) (View.ld x1 r0_10) (View.ld x3 r0_11) (View.ld x4 r0_11) (View.ld x2 r0_10))⟩,
      ⟨r0_5, k0_pay7 (k0_pay4 (View.ld x0 r0_4) (View.ld x0 r0_5) (View.ld x1 r0_6) (View.ld x3 r0_7) (View.ld x4 r0_7) (View.ld x2 r0_6))⟩,
      ⟨r0_4, k0_pay6 (k0_pay5 (View.ld x0 r0_4) (View.ld x0 r0_5) (View.ld x1 r0_6) (View.ld x3 r0_7) (View.ld x4 r0_7) (View.ld x2 r0_6))⟩,
      ⟨r0_1, k0_pay7 (k0_pay4 (View.ld x0 r0_0) (View.ld x0 r0_1) (View.ld x1 r0_2) (View.ld x3 r0_3) (View.ld x4 r0_3) (View.ld x2 r0_2))⟩,
      ⟨r0_0, k0_pay6 (k0_pay5 (View.ld x0 r0_0) (View.ld x0 r0_1) (View.ld x1 r0_2) (View.ld x3 r0_3) (View.ld x4 r0_3) (View.ld x2 r0_2))⟩] := rfl

theorem out0_0 (x0 : Vec Ideal S1x2x4x128x512 .bf16) (x1 x2 : Vec Ideal S4x256x256 .bf16) (x3 x4 : Vec Ideal S4x128x512 .f32) (q : Fin 128) (c : Fin 512) :
    @Eq EReal (out0_5 x0 x1 x2 x3 x4 (ix5 0 0 0 q c)) (cell (fun i m => x0 (ix5 0 i 0 m c)) (fun p x => x1 (ix3 0 p x)) (fun p x => x2 (ix3 0 p x)) (fun q => x3 (ix3 0 q c)) (fun q => x4 (ix3 0 q c)) ⟨q.val, by omega⟩) := by
  rw [out_eq]
  rw [View.canon_cons_of_not_mem, View.canon_cons_of_not_mem, View.canon_cons_of_not_mem, View.canon_cons_of_not_mem, View.canon_cons_of_not_mem, View.canon_cons_of_not_mem, View.canon_cons_of_not_mem]
  · have e : (ix5 0 0 0 q c : S1x2x4x128x512.Idx) = r0_0.emb (ix5 0 0 0 q c) := by
      funext i
      apply Fin.ext
      match i with
      | ⟨0, _⟩ => rfl
      | ⟨1, _⟩ => rfl
      | ⟨2, _⟩ => rfl
      | ⟨3, _⟩ => show q.val = 0 + 1 * q.val; omega
      | ⟨4, _⟩ => show c.val = 0 + 1 * c.val; omega
    rw [e]
    refine (View.canon_cons_emb (Val := Elt Ideal) (e := .bf16) r0_0 _ _ (ix5 0 0 0 q c)).trans ?_
    exact (low_apply _ _ _ _ _ _ q c).trans (cell_0 x0 x1 x2 x3 x4 _ c)
  · intro hm
    have h1 : 1 ≤ 0 := ((Rect.mem_set_unit (inb := inb_S1x2x4x128x512_S1x1x1x128x512_0_1_0_0_0)).mp hm 1).1
    omega
  · intro hm
    have h1 : 1 ≤ 0 := ((Rect.mem_set_unit (inb := inb_S1x2x4x128x512_S1x1x1x128x512_0_0_1_0_0)).mp hm 2).1
    omega
  · intro hm
    have h1 : 1 ≤ 0 := ((Rect.mem_set_unit (inb := inb_S1x2x4x128x512_S1x1x1x128x512_0_1_1_0_0)).mp hm 2).1
    omega
  · intro hm
    have h1 : 2 ≤ 0 := ((Rect.mem_set_unit (inb := inb_S1x2x4x128x512_S1x1x1x128x512_0_0_2_0_0)).mp hm 2).1
    omega
  · intro hm
    have h1 : 2 ≤ 0 := ((Rect.mem_set_unit (inb := inb_S1x2x4x128x512_S1x1x1x128x512_0_1_2_0_0)).mp hm 2).1
    omega
  · intro hm
    have h1 : 3 ≤ 0 := ((Rect.mem_set_unit (inb := inb_S1x2x4x128x512_S1x1x1x128x512_0_0_3_0_0)).mp hm 2).1
    omega
  · intro hm
    have h1 : 3 ≤ 0 := ((Rect.mem_set_unit (inb := inb_S1x2x4x128x512_S1x1x1x128x512_0_1_3_0_0)).mp hm 2).1
    omega

theorem out1_0 (x0 : Vec Ideal S1x2x4x128x512 .bf16) (x1 x2 : Vec Ideal S4x256x256 .bf16) (x3 x4 : Vec Ideal S4x128x512 .f32) (q : Fin 128) (c : Fin 512) :
    @Eq EReal (out0_5 x0 x1 x2 x3 x4 (ix5 0 1 0 q c)) (cell (fun i m => x0 (ix5 0 i 0 m c)) (fun p x => x1 (ix3 0 p x)) (fun p x => x2 (ix3 0 p x)) (fun q => x3 (ix3 0 q c)) (fun q => x4 (ix3 0 q c)) ⟨128 + q.val, by omega⟩) := by
  rw [out_eq]
  rw [View.canon_cons_of_not_mem, View.canon_cons_of_not_mem, View.canon_cons_of_not_mem, View.canon_cons_of_not_mem, View.canon_cons_of_not_mem, View.canon_cons_of_not_mem]
  · have e : (ix5 0 1 0 q c : S1x2x4x128x512.Idx) = r0_1.emb (ix5 0 0 0 q c) := by
      funext i
      apply Fin.ext
      match i with
      | ⟨0, _⟩ => rfl
      | ⟨1, _⟩ => rfl
      | ⟨2, _⟩ => rfl
      | ⟨3, _⟩ => show q.val = 0 + 1 * q.val; omega
      | ⟨4, _⟩ => show c.val = 0 + 1 * c.val; omega
    rw [e]
    refine (View.canon_cons_emb (Val := Elt Ideal) (e := .bf16) r0_1 _ _ (ix5 0 0 0 q c)).trans ?_
    exact (high_apply _ q c).trans (cell_0 x0 x1 x2 x3 x4 _ c)
  · intro hm
    have h1 : 1 ≤ 0 := ((Rect.mem_set_unit (inb := inb_S1x2x4x128x512_S1x1x1x128x512_0_0_1_0_0)).mp hm 2).1
    omega
  · intro hm
    have h1 : 1 ≤ 0 := ((Rect.mem_set_unit (inb := inb_S1x2x4x128x512_S1x1x1x128x512_0_1_1_0_0)).mp hm 2).1
    omega
  · intro hm
    have h1 : 2 ≤ 0 := ((Rect.mem_set_unit (inb := inb_S1x2x4x128x512_S1x1x1x128x512_0_0_2_0_0)).mp hm 2).1
    omega
  · intro hm
    have h1 : 2 ≤ 0 := ((Rect.mem_set_unit (inb := inb_S1x2x4x128x512_S1x1x1x128x512_0_1_2_0_0)).mp hm 2).1
    omega
  · intro hm
    have h1 : 3 ≤ 0 := ((Rect.mem_set_unit (inb := inb_S1x2x4x128x512_S1x1x1x128x512_0_0_3_0_0)).mp hm 2).1
    omega
  · intro hm
    have h1 : 3 ≤ 0 := ((Rect.mem_set_unit (inb := inb_S1x2x4x128x512_S1x1x1x128x512_0_1_3_0_0)).mp hm 2).1
    omega

theorem out0_1 (x0 : Vec Ideal S1x2x4x128x512 .bf16) (x1 x2 : Vec Ideal S4x256x256 .bf16) (x3 x4 : Vec Ideal S4x128x512 .f32) (q : Fin 128) (c : Fin 512) :
    @Eq EReal (out0_5 x0 x1 x2 x3 x4 (ix5 0 0 1 q c)) (cell (fun i m => x0 (ix5 0 i 1 m c)) (fun p x => x1 (ix3 1 p x)) (fun p x => x2 (ix3 1 p x)) (fun q => x3 (ix3 1 q c)) (fun q => x4 (ix3 1 q c)) ⟨q.val, by omega⟩) := by
  rw [out_eq]
  rw [View.canon_cons_of_not_mem, View.canon_cons_of_not_mem, View.canon_cons_of_not_mem, View.canon_cons_of_not_mem, View.canon_cons_of_not_mem]
  · have e : (ix5 0 0 1 q c : S1x2x4x128x512.Idx) = r0_4.emb (ix5 0 0 0 q c) := by
      funext i
      apply Fin.ext
      match i with
      | ⟨0, _⟩ => rfl
      | ⟨1, _⟩ => rfl
      | ⟨2, _⟩ => rfl
      | ⟨3, _⟩ => show q.val = 0 + 1 * q.val; omega
      | ⟨4, _⟩ => show c.val = 0 + 1 * c.val; omega
    rw [e]
    refine (View.canon_cons_emb (Val := Elt Ideal) (e := .bf16) r0_4 _ _ (ix5 0 0 0 q c)).trans ?_
    exact (low_apply _ _ _ _ _ _ q c).trans (cell_1 x0 x1 x2 x3 x4 _ c)
  · intro hm
    have h1 : 1 ≤ 0 := ((Rect.mem_set_unit (inb := inb_S1x2x4x128x512_S1x1x1x128x512_0_1_1_0_0)).mp hm 1).1
    omega
  · intro hm
    have h1 : 2 ≤ 1 := ((Rect.mem_set_unit (inb := inb_S1x2x4x128x512_S1x1x1x128x512_0_0_2_0_0)).mp hm 2).1
    omega
  · intro hm
    have h1 : 2 ≤ 1 := ((Rect.mem_set_unit (inb := inb_S1x2x4x128x512_S1x1x1x128x512_0_1_2_0_0)).mp hm 2).1
    omega
  · intro hm
    have h1 : 3 ≤ 1 := ((Rect.mem_set_unit (inb := inb_S1x2x4x128x512_S1x1x1x128x512_0_0_3_0_0)).mp hm 2).1
    omega
  · intro hm
    have h1 : 3 ≤ 1 := ((Rect.mem_set_unit (inb := inb_S1x2x4x128x512_S1x1x1x128x512_0_1_3_0_0)).mp hm 2).1
    omega

theorem out1_1 (x0 : Vec Ideal S1x2x4x128x512 .bf16) (x1 x2 : Vec Ideal S4x256x256 .bf16) (x3 x4 : Vec Ideal S4x128x512 .f32) (q : Fin 128) (c : Fin 512) :
    @Eq EReal (out0_5 x0 x1 x2 x3 x4 (ix5 0 1 1 q c)) (cell (fun i m => x0 (ix5 0 i 1 m c)) (fun p x => x1 (ix3 1 p x)) (fun p x => x2 (ix3 1 p x)) (fun q => x3 (ix3 1 q c)) (fun q => x4 (ix3 1 q c)) ⟨128 + q.val, by omega⟩) := by
  rw [out_eq]
  rw [View.canon_cons_of_not_mem, View.canon_cons_of_not_mem, View.canon_cons_of_not_mem, View.canon_cons_of_not_mem]
  · have e : (ix5 0 1 1 q c : S1x2x4x128x512.Idx) = r0_5.emb (ix5 0 0 0 q c) := by
      funext i
      apply Fin.ext
      match i with
      | ⟨0, _⟩ => rfl
      | ⟨1, _⟩ => rfl
      | ⟨2, _⟩ => rfl
      | ⟨3, _⟩ => show q.val = 0 + 1 * q.val; omega
      | ⟨4, _⟩ => show c.val = 0 + 1 * c.val; omega
    rw [e]
    refine (View.canon_cons_emb (Val := Elt Ideal) (e := .bf16) r0_5 _ _ (ix5 0 0 0 q c)).trans ?_
    exact (high_apply _ q c).trans (cell_1 x0 x1 x2 x3 x4 _ c)
  · intro hm
    have h1 : 2 ≤ 1 := ((Rect.mem_set_unit (inb := inb_S1x2x4x128x512_S1x1x1x128x512_0_0_2_0_0)).mp hm 2).1
    omega
  · intro hm
    have h1 : 2 ≤ 1 := ((Rect.mem_set_unit (inb := inb_S1x2x4x128x512_S1x1x1x128x512_0_1_2_0_0)).mp hm 2).1
    omega
  · intro hm
    have h1 : 3 ≤ 1 := ((Rect.mem_set_unit (inb := inb_S1x2x4x128x512_S1x1x1x128x512_0_0_3_0_0)).mp hm 2).1
    omega
  · intro hm
    have h1 : 3 ≤ 1 := ((Rect.mem_set_unit (inb := inb_S1x2x4x128x512_S1x1x1x128x512_0_1_3_0_0)).mp hm 2).1
    omega

theorem out0_2 (x0 : Vec Ideal S1x2x4x128x512 .bf16) (x1 x2 : Vec Ideal S4x256x256 .bf16) (x3 x4 : Vec Ideal S4x128x512 .f32) (q : Fin 128) (c : Fin 512) :
    @Eq EReal (out0_5 x0 x1 x2 x3 x4 (ix5 0 0 2 q c)) (cell (fun i m => x0 (ix5 0 i 2 m c)) (fun p x => x1 (ix3 2 p x)) (fun p x => x2 (ix3 2 p x)) (fun q => x3 (ix3 2 q c)) (fun q => x4 (ix3 2 q c)) ⟨q.val, by omega⟩) := by
  rw [out_eq]
  rw [View.canon_cons_of_not_mem, View.canon_cons_of_not_mem, View.canon_cons_of_not_mem]
  · have e : (ix5 0 0 2 q c : S1x2x4x128x512.Idx) = r0_8.emb (ix5 0 0 0 q c) := by
      funext i
      apply Fin.ext
      match i with
      | ⟨0, _⟩ => rfl
      | ⟨1, _⟩ => rfl
      | ⟨2, _⟩ => rfl
      | ⟨3, _⟩ => show q.val = 0 + 1 * q.val; omega
      | ⟨4, _⟩ => show c.val = 0 + 1 * c.val; omega
    rw [e]
    refine (View.canon_cons_emb (Val := Elt Ideal) (e := .bf16) r0_8 _ _ (ix5 0 0 0 q c)).trans ?_
    exact (low_apply _ _ _ _ _ _ q c).trans (cell_2 x0 x1 x2 x3 x4 _ c)
  · intro hm
    have h1 : 1 ≤ 0 := ((Rect.mem_set_unit (inb := inb_S1x2x4x128x512_S1x1x1x128x512_0_1_2_0_0)).mp hm 1).1
    omega
  · intro hm
    have h1 : 3 ≤ 2 := ((Rect.mem_set_unit (inb := inb_S1x2x4x128x512_S1x1x1x128x512_0_0_3_0_0)).mp hm 2).1
    omega
  · intro hm
    have h1 : 3 ≤ 2 := ((Rect.mem_set_unit (inb := inb_S1x2x4x128x512_S1x1x1x128x512_0_1_3_0_0)).mp hm 2).1
    omega

theorem out1_2 (x0 : Vec Ideal S1x2x4x128x512 .bf16) (x1 x2 : Vec Ideal S4x256x256 .bf16) (x3 x4 : Vec Ideal S4x128x512 .f32) (q : Fin 128) (c : Fin 512) :
    @Eq EReal (out0_5 x0 x1 x2 x3 x4 (ix5 0 1 2 q c)) (cell (fun i m => x0 (ix5 0 i 2 m c)) (fun p x => x1 (ix3 2 p x)) (fun p x => x2 (ix3 2 p x)) (fun q => x3 (ix3 2 q c)) (fun q => x4 (ix3 2 q c)) ⟨128 + q.val, by omega⟩) := by
  rw [out_eq]
  rw [View.canon_cons_of_not_mem, View.canon_cons_of_not_mem]
  · have e : (ix5 0 1 2 q c : S1x2x4x128x512.Idx) = r0_9.emb (ix5 0 0 0 q c) := by
      funext i
      apply Fin.ext
      match i with
      | ⟨0, _⟩ => rfl
      | ⟨1, _⟩ => rfl
      | ⟨2, _⟩ => rfl
      | ⟨3, _⟩ => show q.val = 0 + 1 * q.val; omega
      | ⟨4, _⟩ => show c.val = 0 + 1 * c.val; omega
    rw [e]
    refine (View.canon_cons_emb (Val := Elt Ideal) (e := .bf16) r0_9 _ _ (ix5 0 0 0 q c)).trans ?_
    exact (high_apply _ q c).trans (cell_2 x0 x1 x2 x3 x4 _ c)
  · intro hm
    have h1 : 3 ≤ 2 := ((Rect.mem_set_unit (inb := inb_S1x2x4x128x512_S1x1x1x128x512_0_0_3_0_0)).mp hm 2).1
    omega
  · intro hm
    have h1 : 3 ≤ 2 := ((Rect.mem_set_unit (inb := inb_S1x2x4x128x512_S1x1x1x128x512_0_1_3_0_0)).mp hm 2).1
    omega

theorem out0_3 (x0 : Vec Ideal S1x2x4x128x512 .bf16) (x1 x2 : Vec Ideal S4x256x256 .bf16) (x3 x4 : Vec Ideal S4x128x512 .f32) (q : Fin 128) (c : Fin 512) :
    @Eq EReal (out0_5 x0 x1 x2 x3 x4 (ix5 0 0 3 q c)) (cell (fun i m => x0 (ix5 0 i 3 m c)) (fun p x => x1 (ix3 3 p x)) (fun p x => x2 (ix3 3 p x)) (fun q => x3 (ix3 3 q c)) (fun q => x4 (ix3 3 q c)) ⟨q.val, by omega⟩) := by
  rw [out_eq]
  rw [View.canon_cons_of_not_mem]
  · have e : (ix5 0 0 3 q c : S1x2x4x128x512.Idx) = r0_12.emb (ix5 0 0 0 q c) := by
      funext i
      apply Fin.ext
      match i with
      | ⟨0, _⟩ => rfl
      | ⟨1, _⟩ => rfl
      | ⟨2, _⟩ => rfl
      | ⟨3, _⟩ => show q.val = 0 + 1 * q.val; omega
      | ⟨4, _⟩ => show c.val = 0 + 1 * c.val; omega
    rw [e]
    refine (View.canon_cons_emb (Val := Elt Ideal) (e := .bf16) r0_12 _ _ (ix5 0 0 0 q c)).trans ?_
    exact (low_apply _ _ _ _ _ _ q c).trans (cell_3 x0 x1 x2 x3 x4 _ c)
  · intro hm
    have h1 : 1 ≤ 0 := ((Rect.mem_set_unit (inb := inb_S1x2x4x128x512_S1x1x1x128x512_0_1_3_0_0)).mp hm 1).1
    omega

theorem out1_3 (x0 : Vec Ideal S1x2x4x128x512 .bf16) (x1 x2 : Vec Ideal S4x256x256 .bf16) (x3 x4 : Vec Ideal S4x128x512 .f32) (q : Fin 128) (c : Fin 512) :
    @Eq EReal (out0_5 x0 x1 x2 x3 x4 (ix5 0 1 3 q c)) (cell (fun i m => x0 (ix5 0 i 3 m c)) (fun p x => x1 (ix3 3 p x)) (fun p x => x2 (ix3 3 p x)) (fun q => x3 (ix3 3 q c)) (fun q => x4 (ix3 3 q c)) ⟨128 + q.val, by omega⟩) := by
  rw [out_eq]
  · have e : (ix5 0 1 3 q c : S1x2x4x128x512.Idx) = r0_13.emb (ix5 0 0 0 q c) := by
      funext i
      apply Fin.ext
      match i with
      | ⟨0, _⟩ => rfl
      | ⟨1, _⟩ => rfl
      | ⟨2, _⟩ => rfl
      | ⟨3, _⟩ => show q.val = 0 + 1 * q.val; omega
      | ⟨4, _⟩ => show c.val = 0 + 1 * c.val; omega
    rw [e]
    refine (View.canon_cons_emb (Val := Elt Ideal) (e := .bf16) r0_13 _ _ (ix5 0 0 0 q c)).trans ?_
    exact (high_apply _ q c).trans (cell_3 x0 x1 x2 x3 x4 _ c)

theorem out0_apply (x0 : Vec Ideal S1x2x4x128x512 .bf16) (x1 x2 : Vec Ideal S4x256x256 .bf16) (x3 x4 : Vec Ideal S4x128x512 .f32) (j : Fin 4) (q : Fin 128) (c : Fin 512) :
    @Eq EReal (out0_5 x0 x1 x2 x3 x4 (ix5 0 0 j q c)) (cell (fun i m => x0 (ix5 0 i j m c)) (fun p x => x1 (ix3 j p x)) (fun p x => x2 (ix3 j p x)) (fun q => x3 (ix3 j q c)) (fun q => x4 (ix3 j q c)) ⟨q.val, by omega⟩) := by
  match j with
  | ⟨0, _⟩ => exact out0_0 x0 x1 x2 x3 x4 q c
  | ⟨1, _⟩ => exact out0_1 x0 x1 x2 x3 x4 q c
  | ⟨2, _⟩ => exact out0_2 x0 x1 x2 x3 x4 q c
  | ⟨3, _⟩ => exact out0_3 x0 x1 x2 x3 x4 q c

theorem out1_apply (x0 : Vec Ideal S1x2x4x128x512 .bf16) (x1 x2 : Vec Ideal S4x256x256 .bf16) (x3 x4 : Vec Ideal S4x128x512 .f32) (j : Fin 4) (q : Fin 128) (c : Fin 512) :
    @Eq EReal (out0_5 x0 x1 x2 x3 x4 (ix5 0 1 j q c)) (cell (fun i m => x0 (ix5 0 i j m c)) (fun p x => x1 (ix3 j p x)) (fun p x => x2 (ix3 j p x)) (fun q => x3 (ix3 j q c)) (fun q => x4 (ix3 j q c)) ⟨128 + q.val, by omega⟩) := by
  match j with
  | ⟨0, _⟩ => exact out1_0 x0 x1 x2 x3 x4 q c
  | ⟨1, _⟩ => exact out1_1 x0 x1 x2 x3 x4 q c
  | ⟨2, _⟩ => exact out1_2 x0 x1 x2 x3 x4 q c
  | ⟨3, _⟩ => exact out1_3 x0 x1 x2 x3 x4 q c

end Cert.MidIdeal.Hand
-- ==== Proof.Mid.Value.lean ====
/-
  The middle of the convolution after the run, read at an index.
-/
module

public import proofs.«01_k».proof.Proof.Gen.MidIdeal.Value
public import proofs.«01_k».proof.Proof.Turn
public import proofs.«01_k».proof.Proof.Mid.Block
public import Idealize.ShloMosaic.Lib.StableHlo.Run
public import Idealize.ShloMosaic.Lib.Tactic

@[expose] public section

set_option maxRecDepth 16384

noncomputable section

namespace Cert.MidIdeal.Hand

open Cert.Hand Cert.MidIdeal Cert.MidIdeal.Gen Idealize.ShloMosaic Idealize.ShloMosaic.TcCoe Idealize.SL.Sem

variable (m : (ℓ : Loc nD τ sig) → Buf (Elt Ideal) ℓ)

theorem points (t : Fin cfg0.N) : t.val < 128 := lt_of_lt_of_eq t.isLt (show cfg0.N = 128 from N_0)

/-- Where each window's block lies at point `t`. -/
theorem place : ∀ t : Fin cfg0.N,
    (win0_0.index t (0 : Fin 5) = t.val % 2 ∧ win0_0.index t (1 : Fin 5) = 0 ∧ win0_0.index t (2 : Fin 5) = t.val / 2 ∧ win0_0.index t (3 : Fin 5) = 0 ∧ win0_0.index t (4 : Fin 5) = 0)
    ∧ (win0_1.index t (0 : Fin 3) = t.val / 2 ∧ win0_1.index t (1 : Fin 3) = 0 ∧ win0_1.index t (2 : Fin 3) = 0)
    ∧ (win0_2.index t (0 : Fin 3) = t.val / 2 ∧ win0_2.index t (1 : Fin 3) = 0 ∧ win0_2.index t (2 : Fin 3) = 0)
    ∧ (win0_3.index t (0 : Fin 3) = t.val / 2 ∧ win0_3.index t (1 : Fin 3) = 0 ∧ win0_3.index t (2 : Fin 3) = 1)
    ∧ (win0_4.index t (0 : Fin 3) = t.val / 2 ∧ win0_4.index t (1 : Fin 3) = 0 ∧ win0_4.index t (2 : Fin 3) = 1) :=
  (by decide +kernel : ∀ t : Fin grid0.N, _)

/-- The first transforms. -/
theorem block0 (c : Dev nD) (t : Fin cfg0.N) (a : Fin 1) (b : Fin 2) (d : Fin 4) (e : Fin 128) (f : Fin 512) :
    (iblk m c 0 t : Vec Ideal S1x2x4x128x512 .bf16) (ix5 a b d e f)
      = (m ((c : Thread nD τ).loc main_arg0) : FVec Ideal S2x2x256x128x512 .bf16) (ix5 ⟨t.val % 2, by have := points t; omega⟩ b ⟨t.val / 2 * 4 + d.val, by have := points t; have := d.isLt; omega⟩ e f) := by
  obtain ⟨⟨p0, p1, p2, p3, p4⟩, -⟩ := place t
  unfold iblk
  rw [View.read_apply]
  show V m c main_arg0 _ = _
  rw [V_main_arg0]
  congr 1
  funext x
  apply Fin.ext
  match x with
  | ⟨0, _⟩ => show win0_0.index t 0 * 1 + 1 * a.val = t.val % 2; rw [p0]; omega
  | ⟨1, _⟩ => show win0_0.index t 1 * 2 + 1 * b.val = b.val; rw [p1]; omega
  | ⟨2, _⟩ => show win0_0.index t 2 * 4 + 1 * d.val = t.val / 2 * 4 + d.val; rw [p2]; omega
  | ⟨3, _⟩ => show win0_0.index t 3 * 128 + 1 * e.val = e.val; rw [p3]; omega
  | ⟨4, _⟩ => show win0_0.index t 4 * 512 + 1 * f.val = f.val; rw [p4]; omega

/-- The table. -/
theorem block1 (c : Dev nD) (t : Fin cfg0.N) (a : Fin 4) (b : Fin 256) (d : Fin 256) :
    (iblk m c 1 t : Vec Ideal S4x256x256 .bf16) (ix3 a b d)
      = (V m c main_v35 : FVec Ideal S256x256x256 .bf16) (ix3 ⟨t.val / 2 * 4 + a.val, by have := points t; have := a.isLt; omega⟩ b d) := by
  obtain ⟨-, ⟨p0, p1, p2⟩, -⟩ := place t
  unfold iblk
  rw [View.read_apply]
  show V m c main_v35 _ = _
  congr 1
  funext x
  apply Fin.ext
  match x with
  | ⟨0, _⟩ => show win0_1.index t 0 * 4 + 1 * a.val = t.val / 2 * 4 + a.val; rw [p0]; omega
  | ⟨1, _⟩ => show win0_1.index t 1 * 256 + 1 * b.val = b.val; rw [p1]; omega
  | ⟨2, _⟩ => show win0_1.index t 2 * 256 + 1 * d.val = d.val; rw [p2]; omega

/-- The inverse table. -/
theorem block2 (c : Dev nD) (t : Fin cfg0.N) (a : Fin 4) (b : Fin 256) (d : Fin 256) :
    (iblk m c 2 t : Vec Ideal S4x256x256 .bf16) (ix3 a b d)
      = (V m c main_v36 : FVec Ideal S256x256x256 .bf16) (ix3 ⟨t.val / 2 * 4 + a.val, by have := points t; have := a.isLt; omega⟩ b d) := by
  obtain ⟨-, -, ⟨p0, p1, p2⟩, -⟩ := place t
  unfold iblk
  rw [View.read_apply]
  show V m c main_v36 _ = _
  congr 1
  funext x
  apply Fin.ext
  match x with
  | ⟨0, _⟩ => show win0_2.index t 0 * 4 + 1 * a.val = t.val / 2 * 4 + a.val; rw [p0]; omega
  | ⟨1, _⟩ => show win0_2.index t 1 * 256 + 1 * b.val = b.val; rw [p1]; omega
  | ⟨2, _⟩ => show win0_2.index t 2 * 256 + 1 * d.val = d.val; rw [p2]; omega

/-- The filters' real parts. -/
theorem block3 (c : Dev nD) (t : Fin cfg0.N) (a : Fin 4) (b : Fin 128) (d : Fin 512) :
    (iblk m c 3 t : Vec Ideal S4x128x512 .f32) (ix3 a b d)
      = (m ((c : Thread nD τ).loc main_arg1) : FVec Ideal S256x128x1024 .f32) (ix3 ⟨t.val / 2 * 4 + a.val, by have := points t; have := a.isLt; omega⟩ b ⟨1 * 512 + d.val, by have := points t; have := d.isLt; omega⟩) := by
  obtain ⟨-, -, -, ⟨p0, p1, p2⟩, -⟩ := place t
  unfold iblk
  rw [View.read_apply]
  show V m c main_arg1 _ = _
  rw [V_main_arg1]
  congr 1
  funext x
  apply Fin.ext
  match x with
  | ⟨0, _⟩ => show win0_3.index t 0 * 4 + 1 * a.val = t.val / 2 * 4 + a.val; rw [p0]; omega
  | ⟨1, _⟩ => show win0_3.index t 1 * 128 + 1 * b.val = b.val; rw [p1]; omega
  | ⟨2, _⟩ => show win0_3.index t 2 * 512 + 1 * d.val = 1 * 512 + d.val; rw [p2]; omega

/-- The filters' imaginary parts. -/
theorem block4 (c : Dev nD) (t : Fin cfg0.N) (a : Fin 4) (b : Fin 128) (d : Fin 512) :
    (iblk m c 4 t : Vec Ideal S4x128x512 .f32) (ix3 a b d)
      = (m ((c : Thread nD τ).loc main_arg2) : FVec Ideal S256x128x1024 .f32) (ix3 ⟨t.val / 2 * 4 + a.val, by have := points t; have := a.isLt; omega⟩ b ⟨1 * 512 + d.val, by have := points t; have := d.isLt; omega⟩) := by
  obtain ⟨-, -, -, -, p0, p1, p2⟩ := place t
  unfold iblk
  rw [View.read_apply]
  show V m c main_arg2 _ = _
  rw [V_main_arg2]
  congr 1
  funext x
  apply Fin.ext
  match x with
  | ⟨0, _⟩ => show win0_4.index t 0 * 4 + 1 * a.val = t.val / 2 * 4 + a.val; rw [p0]; omega
  | ⟨1, _⟩ => show win0_4.index t 1 * 128 + 1 * b.val = b.val; rw [p1]; omega
  | ⟨2, _⟩ => show win0_4.index t 2 * 512 + 1 * d.val = 1 * 512 + d.val; rw [p2]; omega

/-- Where point `t` writes the inverse transform. -/
theorem place5 : ∀ t : Fin cfg0.N,
    win0_5.index t (0 : Fin 5) = t.val % 2 ∧ win0_5.index t (1 : Fin 5) = 0 ∧ win0_5.index t (2 : Fin 5) = t.val / 2 ∧ win0_5.index t (3 : Fin 5) = 0 ∧ win0_5.index t (4 : Fin 5) = 0 :=
  (by decide +kernel : ∀ t : Fin grid0.N, _)

/-- The inverse transform after the run, at an index of point `t`'s block: what the body leaves there. -/
theorem written5 (c : Dev nD) (t : Fin cfg0.N) (a : Fin 1) (b : Fin 2) (d : Fin 4) (e : Fin 128) (f : Fin 512) :
    ((dats m 0 c).arrAt 5 cfg0.N) (ix5 ⟨t.val % 2, by have := points t; omega⟩ b ⟨t.val / 2 * 4 + d.val, by have := points t; have := d.isLt; omega⟩ e f)
      = (out0_5 (iblk m c 0 t) (iblk m c 1 t) (iblk m c 2 t) (iblk m c 3 t) (iblk m c 4 t)) (ix5 a b d e f) := by
  have h := congrFun (Value.blocks5 m c t (flush0_5 t)) (ix5 a b d e f)
  rw [View.read_apply, Value.flushed5] at h
  refine Eq.trans ?_ h
  congr 1
  obtain ⟨p0, p1, p2, p3, p4⟩ := place5 t
  funext x
  apply Fin.ext
  match x with
  | ⟨0, _⟩ => show t.val % 2 = win0_5.index t 0 * 1 + 1 * a.val; rw [p0]; omega
  | ⟨1, _⟩ => show b.val = win0_5.index t 1 * 2 + 1 * b.val; rw [p1]; omega
  | ⟨2, _⟩ => show t.val / 2 * 4 + d.val = win0_5.index t 2 * 4 + 1 * d.val; rw [p2]; omega
  | ⟨3, _⟩ => show e.val = win0_5.index t 3 * 128 + 1 * e.val; rw [p3]; omega
  | ⟨4, _⟩ => show f.val = win0_5.index t 4 * 512 + 1 * f.val; rw [p4]; omega

/-- The angles. -/
def angles : FVec Ideal S256x128x128 .f32 :=
  (Host.divf (mulf (broadcastInDim S256x128x128 ![] bcast_S_S256x128x128 (constant S_ .f32 0x40C90FDB#32)) (sitofp .f32 (Host.remsi (muli (broadcastInDim S256x128x128 ![0, 1, 2] bcast_S256x128x1_S256x128x128_0_1_2 (addi (broadcastInDim S256x128x1 ![0, 1, 2] bcast_S256x1x1_S256x128x1_0_1_2 (broadcastInDim S256x1x1 ![0] bcast_S256_S256x1x1_0 (iotaInDim S256 32 0))) (broadcastInDim S256x128x1 ![0, 1, 2] bcast_S1x128x1_S256x128x1_0_1_2 (muli (broadcastInDim S1x128x1 ![] bcast_S_S1x128x1 (constantI S_ 32 256#32)) (broadcastInDim S1x128x1 ![1] bcast_S128_S1x128x1_1 (iotaInDim S128 32 0)))))) (broadcastInDim S256x128x128 ![0, 1, 2] bcast_S1x1x128_S256x128x128_0_1_2 (broadcastInDim S1x1x128 ![2] bcast_S128_S1x1x128_2 (iotaInDim S128 32 0)))) (broadcastInDim S256x128x128 ![] bcast_S_S256x128x128 (constantI S_ 32 32768#32))))) (broadcastInDim S256x128x128 ![] bcast_S_S256x128x128 (constant S_ .f32 0x47000000#32)))

theorem angles_apply (k : Fin 256) (q m : Fin 128) : angles (ix3 k q m) = turn k q m := by
  pointwise [angles]
  rfl

/-- The table of the transform. -/
theorem table (c : Dev nD) (k : Fin 256) (p x : Fin 256) : (V m c main_v35 : FVec Ideal S256x256x256 .bf16) (ix3 k p x) = fore (turn k) p x := by
  have h : @Eq (FVec Ideal S256x256x256 .bf16) (V m c main_v35) (truncf .bf16 (concatenate S256x256x256 1 [⟨S256x128x256, concatenate S256x128x256 2 [⟨S256x128x128, Host.cos angles⟩, ⟨S256x128x128, Host.negf (Host.negf (Host.sin angles))⟩] concatenates_S256x128x128_S256x128x128_S256x128x256_d2⟩, ⟨S256x128x256, concatenate S256x128x256 2 [⟨S256x128x128, Host.negf (Host.sin angles)⟩, ⟨S256x128x128, Host.cos angles⟩] concatenates_S256x128x128_S256x128x128_S256x128x256_d2⟩] concatenates_S256x128x256_S256x128x256_S256x256x256_d1) bitsLt_bf16_f32) := by
    unfold V
    after_results <;> rfl
  rw [h]
  pointwise []
  simp only [angles_apply]
  rfl

/-- The table of the inverse transform. -/
theorem inverse (c : Dev nD) (k : Fin 256) (p x : Fin 256) : (V m c main_v36 : FVec Ideal S256x256x256 .bf16) (ix3 k p x) = back (turn k) p x := by
  have h : @Eq (FVec Ideal S256x256x256 .bf16) (V m c main_v36) (truncf .bf16 (concatenate S256x256x256 1 [⟨S256x128x256, concatenate S256x128x256 2 [⟨S256x128x128, transpose S256x128x128 [0, 2, 1] (Host.cos angles) transposes_S256x128x128_S256x128x128_0_2_1⟩, ⟨S256x128x128, Host.negf (Host.negf (transpose S256x128x128 [0, 2, 1] (Host.negf (Host.sin angles)) transposes_S256x128x128_S256x128x128_0_2_1))⟩] concatenates_S256x128x128_S256x128x128_S256x128x256_d2⟩, ⟨S256x128x256, concatenate S256x128x256 2 [⟨S256x128x128, Host.negf (transpose S256x128x128 [0, 2, 1] (Host.negf (Host.sin angles)) transposes_S256x128x128_S256x128x128_0_2_1)⟩, ⟨S256x128x128, transpose S256x128x128 [0, 2, 1] (Host.cos angles) transposes_S256x128x128_S256x128x128_0_2_1⟩] concatenates_S256x128x128_S256x128x128_S256x128x256_d2⟩] concatenates_S256x128x256_S256x128x256_S256x256x256_d1) bitsLt_bf16_f32) := by
    unfold V
    after_results <;> rfl
  rw [h]
  pointwise []
  simp only [angles_apply]
  rfl

/-- A frequency and a batch lie in one grid point. -/
theorem split (b : Fin 2) (k : Fin 256) : ∃ (t : Fin cfg0.N) (j : Fin 4) (h : t.val % 2 < 2) (h' : t.val / 2 * 4 + j.val < 256), b = ⟨t.val % 2, h⟩ ∧ k = ⟨t.val / 2 * 4 + j.val, h'⟩ :=
  ⟨⟨k.val / 4 * 2 + b.val, lt_of_lt_of_eq (show k.val / 4 * 2 + b.val < 128 by omega) (show 128 = cfg0.N from N_0.symm)⟩, ⟨k.val % 4, by omega⟩,
    by show (k.val / 4 * 2 + b.val) % 2 < 2; omega, by show (k.val / 4 * 2 + b.val) / 2 * 4 + k.val % 4 < 256; omega,
    Fin.ext (by show b.val = (k.val / 4 * 2 + b.val) % 2; omega), Fin.ext (by show k.val = (k.val / 4 * 2 + b.val) / 2 * 4 + k.val % 4; omega)⟩

/-- The cell of a batch, a frequency and a channel, of the launch's arguments. -/
def whole (c : Dev nD) (b : Fin 2) (k : Fin 256) (x : Fin 512) (p : Fin 256) : EReal :=
  cell (fun i a => (m ((c : Thread nD τ).loc main_arg0) : FVec Ideal S2x2x256x128x512 .bf16) (ix5 b i k a x)) (fore (turn k)) (back (turn k))
    (fun q => (m ((c : Thread nD τ).loc main_arg1) : FVec Ideal S256x128x1024 .f32) (ix3 k q ⟨512 + x.val, by omega⟩)) (fun q => (m ((c : Thread nD τ).loc main_arg2) : FVec Ideal S256x128x1024 .f32) (ix3 k q ⟨512 + x.val, by omega⟩)) p

theorem cell_apply (c : Dev nD) (t : Fin cfg0.N) (j : Fin 4) (h : t.val % 2 < 2) (h' : t.val / 2 * 4 + j.val < 256) (x : Fin 512) (p : Fin 256) :
    cell (fun i a => (iblk m c 0 t : Vec Ideal S1x2x4x128x512 .bf16) (ix5 0 i j a x)) (fun p y => (iblk m c 1 t : Vec Ideal S4x256x256 .bf16) (ix3 j p y)) (fun p y => (iblk m c 2 t : Vec Ideal S4x256x256 .bf16) (ix3 j p y))
      (fun q => (iblk m c 3 t : Vec Ideal S4x128x512 .f32) (ix3 j q x)) (fun q => (iblk m c 4 t : Vec Ideal S4x128x512 .f32) (ix3 j q x)) p
      = whole m c ⟨t.val % 2, h⟩ ⟨t.val / 2 * 4 + j.val, h'⟩ x p := by
  refine cell_congr (fun i a => block0 m c t 0 i j a x) (fun p y => (block1 m c t j p y).trans (table m c _ p y)) (fun p y => (block2 m c t j p y).trans (inverse m c _ p y))
    (fun q => (block3 m c t j q x).trans (congrArg (fun e => (m ((c : Thread nD τ).loc main_arg1) : FVec Ideal S256x128x1024 .f32) (ix3 ⟨t.val / 2 * 4 + j.val, h'⟩ q e)) (Fin.ext (by show 1 * 512 + x.val = 512 + x.val; omega))))
    (fun q => (block4 m c t j q x).trans (congrArg (fun e => (m ((c : Thread nD τ).loc main_arg2) : FVec Ideal S256x128x1024 .f32) (ix3 ⟨t.val / 2 * 4 + j.val, h'⟩ q e)) (Fin.ext (by show 1 * 512 + x.val = 512 + x.val; omega)))) p

/-- The real part of the inverse transform of the product. -/
theorem whole0 (c : Dev nD) (b : Fin 2) (k : Fin 256) (x : Fin 512) (q : Fin 128) :
    whole m c b k x ⟨q.val, by omega⟩ = backRe (turn k)
      (fun q => foreRe (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg1) : FVec Ideal S256x128x1024 .f32) (ix3 k q ⟨512 + x.val, by omega⟩) - foreIm (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg2) : FVec Ideal S256x128x1024 .f32) (ix3 k q ⟨512 + x.val, by omega⟩))
      (fun q => foreRe (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg2) : FVec Ideal S256x128x1024 .f32) (ix3 k q ⟨512 + x.val, by omega⟩) + foreIm (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg1) : FVec Ideal S256x128x1024 .f32) (ix3 k q ⟨512 + x.val, by omega⟩)) q := by
  unfold whole cell line
  simp only [foreRe_eq, foreIm_eq]
  exact backRe_eq _ _ _ q

/-- The real parts after the run. -/
theorem result0_apply (c : Dev nD) (b : Fin 2) (k : Fin 256) (q : Fin 128) (x : Fin 512) :
    @Eq EReal (((dats m 0 c).arrAt 5 cfg0.N) (ix5 b 0 k q x)) (backRe (turn k)
      (fun q => foreRe (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg1) : FVec Ideal S256x128x1024 .f32) (ix3 k q ⟨512 + x.val, by omega⟩) - foreIm (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg2) : FVec Ideal S256x128x1024 .f32) (ix3 k q ⟨512 + x.val, by omega⟩))
      (fun q => foreRe (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg2) : FVec Ideal S256x128x1024 .f32) (ix3 k q ⟨512 + x.val, by omega⟩) + foreIm (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg1) : FVec Ideal S256x128x1024 .f32) (ix3 k q ⟨512 + x.val, by omega⟩)) q) := by
  obtain ⟨t, j, h, h', rfl, rfl⟩ := split b k
  refine (written5 m c t 0 0 j q x).trans ?_
  refine (out0_apply _ _ _ _ _ j q x).trans ?_
  exact (cell_apply m c t j h h' x _).trans (whole0 m c _ _ x q)

/-- The imaginary part of the inverse transform of the product. -/
theorem whole1 (c : Dev nD) (b : Fin 2) (k : Fin 256) (x : Fin 512) (q : Fin 128) :
    whole m c b k x ⟨128 + q.val, by omega⟩ = backIm (turn k)
      (fun q => foreRe (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg1) : FVec Ideal S256x128x1024 .f32) (ix3 k q ⟨512 + x.val, by omega⟩) - foreIm (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg2) : FVec Ideal S256x128x1024 .f32) (ix3 k q ⟨512 + x.val, by omega⟩))
      (fun q => foreRe (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg2) : FVec Ideal S256x128x1024 .f32) (ix3 k q ⟨512 + x.val, by omega⟩) + foreIm (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg1) : FVec Ideal S256x128x1024 .f32) (ix3 k q ⟨512 + x.val, by omega⟩)) q := by
  unfold whole cell line
  simp only [foreRe_eq, foreIm_eq]
  exact backIm_eq _ _ _ q

/-- The imaginary parts after the run. -/
theorem result1_apply (c : Dev nD) (b : Fin 2) (k : Fin 256) (q : Fin 128) (x : Fin 512) :
    @Eq EReal (((dats m 0 c).arrAt 5 cfg0.N) (ix5 b 1 k q x)) (backIm (turn k)
      (fun q => foreRe (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg1) : FVec Ideal S256x128x1024 .f32) (ix3 k q ⟨512 + x.val, by omega⟩) - foreIm (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg2) : FVec Ideal S256x128x1024 .f32) (ix3 k q ⟨512 + x.val, by omega⟩))
      (fun q => foreRe (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg2) : FVec Ideal S256x128x1024 .f32) (ix3 k q ⟨512 + x.val, by omega⟩) + foreIm (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg1) : FVec Ideal S256x128x1024 .f32) (ix3 k q ⟨512 + x.val, by omega⟩)) q) := by
  obtain ⟨t, j, h, h', rfl, rfl⟩ := split b k
  refine (written5 m c t 0 1 j q x).trans ?_
  refine (out1_apply _ _ _ _ _ j q x).trans ?_
  exact (cell_apply m c t j h h' x _).trans (whole1 m c _ _ x q)

end Cert.MidIdeal.Hand
-- ==== Proof.Mid.RefValue.lean ====
/-
  The plain middle of the convolution read at an index.
-/
module

public import proofs.«01_k».proof.Proof.Gen.MidRefIdeal.Run
public import proofs.«01_k».proof.Proof.Turn

@[expose] public section

set_option maxRecDepth 16384

noncomputable section

namespace Cert.MidRefIdeal.Hand

open Cert.Hand Cert.MidRefIdeal Cert.MidRefIdeal.Gen Idealize.ShloMosaic Idealize.ShloMosaic.TcCoe Idealize.SL.Sem

/-- The angles. -/
def angles : FVec Ideal S256x128x128 .f32 :=
  (Host.divf (mulf (broadcastInDim S256x128x128 ![] bcast_S_S256x128x128 (constant S_ .f32 0x40C90FDB#32)) (sitofp .f32 (Host.remsi (muli (broadcastInDim S256x128x128 ![0, 1, 2] bcast_S256x128x1_S256x128x128_0_1_2 (addi (broadcastInDim S256x128x1 ![0, 1, 2] bcast_S256x1x1_S256x128x1_0_1_2 (broadcastInDim S256x1x1 ![0] bcast_S256_S256x1x1_0 (iotaInDim S256 32 0))) (broadcastInDim S256x128x1 ![0, 1, 2] bcast_S1x128x1_S256x128x1_0_1_2 (muli (broadcastInDim S1x128x1 ![] bcast_S_S1x128x1 (constantI S_ 32 256#32)) (broadcastInDim S1x128x1 ![1] bcast_S128_S1x128x1_1 (iotaInDim S128 32 0)))))) (broadcastInDim S256x128x128 ![0, 1, 2] bcast_S1x1x128_S256x128x128_0_1_2 (broadcastInDim S1x1x128 ![2] bcast_S128_S1x1x128_2 (iotaInDim S128 32 0)))) (broadcastInDim S256x128x128 ![] bcast_S_S256x128x128 (constantI S_ 32 32768#32))))) (broadcastInDim S256x128x128 ![] bcast_S_S256x128x128 (constant S_ .f32 0x47000000#32)))

theorem angles_apply (k : Fin 256) (q m : Fin 128) : angles (ix3 k q m) = turn k q m := by
  pointwise [angles]
  rfl

def fwdRe (a : FVec Ideal S2x2x256x128x512 .bf16) : FVec Ideal S2x256x128x512 .f32 := addf (transpose S2x256x128x512 [1, 0, 3, 2] (Host.dotGeneral dot_S2x256x128x512_S256x128x128_S256x2x512x128_2_2_03_1_1_0 none (extf .f32 (shapeCast _ (extractStridedSlice S2x1x256x128x512 ![0, 0, 0, 0, 0] a slices_S2x2x256x128x512_S2x1x256x128x512_0_0_0_0_0) shapeCasts_S2x1x256x128x512_S2x256x128x512) bitsLt_bf16_f32) (Host.cos angles)) transposes_S256x2x512x128_S2x256x128x512_1_0_3_2) (transpose S2x256x128x512 [1, 0, 3, 2] (Host.dotGeneral dot_S2x256x128x512_S256x128x128_S256x2x512x128_2_2_03_1_1_0 none (extf .f32 (shapeCast _ (extractStridedSlice S2x1x256x128x512 ![0, 1, 0, 0, 0] a slices_S2x2x256x128x512_S2x1x256x128x512_0_1_0_0_0) shapeCasts_S2x1x256x128x512_S2x256x128x512) bitsLt_bf16_f32) (Host.sin angles)) transposes_S256x2x512x128_S2x256x128x512_1_0_3_2)

theorem fwdRe_apply (a : FVec Ideal S2x2x256x128x512 .bf16) (b : Fin 2) (k : Fin 256) (q : Fin 128) (x : Fin 512) :
    fwdRe a (ix4 b k q x) = foreRe (turn k) (fun m => a (ix5 b 0 k m x)) (fun m => a (ix5 b 1 k m x)) q := by
  pointwise [fwdRe]
  simp only [angles_apply]
  exact congrArg₂ (· + ·) (Finset.sum_congr rfl fun m _ => mul_comm _ _) (Finset.sum_congr rfl fun m _ => mul_comm _ _)

def fwdIm (a : FVec Ideal S2x2x256x128x512 .bf16) : FVec Ideal S2x256x128x512 .f32 := addf (transpose S2x256x128x512 [1, 0, 3, 2] (Host.dotGeneral dot_S2x256x128x512_S256x128x128_S256x2x512x128_2_2_03_1_1_0 none (extf .f32 (shapeCast _ (extractStridedSlice S2x1x256x128x512 ![0, 0, 0, 0, 0] a slices_S2x2x256x128x512_S2x1x256x128x512_0_0_0_0_0) shapeCasts_S2x1x256x128x512_S2x256x128x512) bitsLt_bf16_f32) (Host.negf (Host.sin angles))) transposes_S256x2x512x128_S2x256x128x512_1_0_3_2) (transpose S2x256x128x512 [1, 0, 3, 2] (Host.dotGeneral dot_S2x256x128x512_S256x128x128_S256x2x512x128_2_2_03_1_1_0 none (extf .f32 (shapeCast _ (extractStridedSlice S2x1x256x128x512 ![0, 1, 0, 0, 0] a slices_S2x2x256x128x512_S2x1x256x128x512_0_1_0_0_0) shapeCasts_S2x1x256x128x512_S2x256x128x512) bitsLt_bf16_f32) (Host.cos angles)) transposes_S256x2x512x128_S2x256x128x512_1_0_3_2)

theorem fwdIm_apply (a : FVec Ideal S2x2x256x128x512 .bf16) (b : Fin 2) (k : Fin 256) (q : Fin 128) (x : Fin 512) :
    fwdIm a (ix4 b k q x) = foreIm (turn k) (fun m => a (ix5 b 0 k m x)) (fun m => a (ix5 b 1 k m x)) q := by
  pointwise [fwdIm]
  simp only [angles_apply]
  exact congrArg₂ (· + ·) (Finset.sum_congr rfl fun m _ => mul_comm _ _) (Finset.sum_congr rfl fun m _ => mul_comm _ _)

def prodRe (a : FVec Ideal S2x2x256x128x512 .bf16) (kr ki : FVec Ideal S256x128x1024 .f32) : FVec Ideal S2x256x128x512 .f32 := subf (mulf (fwdRe a) (broadcastInDim S2x256x128x512 ![0, 1, 2, 3] bcast_S1x256x128x512_S2x256x128x512_0_1_2_3 (broadcastInDim S1x256x128x512 ![1, 2, 3] bcast_S256x128x512_S1x256x128x512_1_2_3 (extractStridedSlice S256x128x512 ![0, 0, 512] kr slices_S256x128x1024_S256x128x512_0_0_512)))) (mulf (fwdIm a) (broadcastInDim S2x256x128x512 ![0, 1, 2, 3] bcast_S1x256x128x512_S2x256x128x512_0_1_2_3 (broadcastInDim S1x256x128x512 ![1, 2, 3] bcast_S256x128x512_S1x256x128x512_1_2_3 (extractStridedSlice S256x128x512 ![0, 0, 512] ki slices_S256x128x1024_S256x128x512_0_0_512))))

theorem prodRe_apply (a : FVec Ideal S2x2x256x128x512 .bf16) (kr ki : FVec Ideal S256x128x1024 .f32) (b : Fin 2) (k : Fin 256) (q : Fin 128) (x : Fin 512) :
    prodRe a kr ki (ix4 b k q x) = fwdRe a (ix4 b k q x) * kr (ix3 k q ⟨512 + x.val, by omega⟩) - fwdIm a (ix4 b k q x) * ki (ix3 k q ⟨512 + x.val, by omega⟩) := by
  pointwise [prodRe]

def prodIm (a : FVec Ideal S2x2x256x128x512 .bf16) (kr ki : FVec Ideal S256x128x1024 .f32) : FVec Ideal S2x256x128x512 .f32 := addf (mulf (fwdRe a) (broadcastInDim S2x256x128x512 ![0, 1, 2, 3] bcast_S1x256x128x512_S2x256x128x512_0_1_2_3 (broadcastInDim S1x256x128x512 ![1, 2, 3] bcast_S256x128x512_S1x256x128x512_1_2_3 (extractStridedSlice S256x128x512 ![0, 0, 512] ki slices_S256x128x1024_S256x128x512_0_0_512)))) (mulf (fwdIm a) (broadcastInDim S2x256x128x512 ![0, 1, 2, 3] bcast_S1x256x128x512_S2x256x128x512_0_1_2_3 (broadcastInDim S1x256x128x512 ![1, 2, 3] bcast_S256x128x512_S1x256x128x512_1_2_3 (extractStridedSlice S256x128x512 ![0, 0, 512] kr slices_S256x128x1024_S256x128x512_0_0_512))))

theorem prodIm_apply (a : FVec Ideal S2x2x256x128x512 .bf16) (kr ki : FVec Ideal S256x128x1024 .f32) (b : Fin 2) (k : Fin 256) (q : Fin 128) (x : Fin 512) :
    prodIm a kr ki (ix4 b k q x) = fwdRe a (ix4 b k q x) * ki (ix3 k q ⟨512 + x.val, by omega⟩) + fwdIm a (ix4 b k q x) * kr (ix3 k q ⟨512 + x.val, by omega⟩) := by
  pointwise [prodIm]

def invRe (y z : FVec Ideal S2x256x128x512 .f32) : FVec Ideal S2x256x128x512 .f32 := addf (transpose S2x256x128x512 [1, 0, 3, 2] (Host.dotGeneral dot_S2x256x128x512_S256x128x128_S256x2x512x128_2_1_03_2_1_0 none y (Host.cos angles)) transposes_S256x2x512x128_S2x256x128x512_1_0_3_2) (transpose S2x256x128x512 [1, 0, 3, 2] (Host.dotGeneral dot_S2x256x128x512_S256x128x128_S256x2x512x128_2_1_03_2_1_0 none z (Host.negf (Host.sin angles))) transposes_S256x2x512x128_S2x256x128x512_1_0_3_2)

theorem invRe_apply (y z : FVec Ideal S2x256x128x512 .f32) (b : Fin 2) (k : Fin 256) (m : Fin 128) (x : Fin 512) :
    invRe y z (ix4 b k m x) = backRe (turn k) (fun q => y (ix4 b k q x)) (fun q => z (ix4 b k q x)) m := by
  pointwise [invRe]
  simp only [angles_apply]
  exact congrArg₂ (· + ·) (Finset.sum_congr rfl fun q _ => mul_comm _ _) (Finset.sum_congr rfl fun q _ => mul_comm _ _)

def invIm (y z : FVec Ideal S2x256x128x512 .f32) : FVec Ideal S2x256x128x512 .f32 := addf (transpose S2x256x128x512 [1, 0, 3, 2] (Host.dotGeneral dot_S2x256x128x512_S256x128x128_S256x2x512x128_2_1_03_2_1_0 none y (Host.sin angles)) transposes_S256x2x512x128_S2x256x128x512_1_0_3_2) (transpose S2x256x128x512 [1, 0, 3, 2] (Host.dotGeneral dot_S2x256x128x512_S256x128x128_S256x2x512x128_2_1_03_2_1_0 none z (Host.cos angles)) transposes_S256x2x512x128_S2x256x128x512_1_0_3_2)

theorem invIm_apply (y z : FVec Ideal S2x256x128x512 .f32) (b : Fin 2) (k : Fin 256) (m : Fin 128) (x : Fin 512) :
    invIm y z (ix4 b k m x) = backIm (turn k) (fun q => y (ix4 b k q x)) (fun q => z (ix4 b k q x)) m := by
  pointwise [invIm]
  simp only [angles_apply]
  exact congrArg₂ (· + ·) (Finset.sum_congr rfl fun q _ => mul_comm _ _) (Finset.sum_congr rfl fun q _ => mul_comm _ _)

def mid (a : FVec Ideal S2x2x256x128x512 .bf16) (kr ki : FVec Ideal S256x128x1024 .f32) : FVec Ideal S2x2x256x128x512 .bf16 :=
  truncf .bf16 (concatenate S2x2x256x128x512 1 [⟨S2x1x256x128x512, (broadcastInDim S2x1x256x128x512 ![0, 2, 3, 4] bcast_S2x256x128x512_S2x1x256x128x512_0_2_3_4 (invRe (prodRe a kr ki) (prodIm a kr ki)))⟩,
    ⟨S2x1x256x128x512, (broadcastInDim S2x1x256x128x512 ![0, 2, 3, 4] bcast_S2x256x128x512_S2x1x256x128x512_0_2_3_4 (invIm (prodRe a kr ki) (prodIm a kr ki)))⟩] concatenates_S2x1x256x128x512_S2x1x256x128x512_S2x2x256x128x512_d1) bitsLt_bf16_f32

theorem mid0_apply (a : FVec Ideal S2x2x256x128x512 .bf16) (kr ki : FVec Ideal S256x128x1024 .f32) (b : Fin 2) (k : Fin 256) (m : Fin 128) (x : Fin 512) :
    mid a kr ki (ix5 b 0 k m x) = backRe (turn k)
      (fun q => foreRe (turn k) (fun m => a (ix5 b 0 k m x)) (fun m => a (ix5 b 1 k m x)) q * kr (ix3 k q ⟨512 + x.val, by omega⟩) - foreIm (turn k) (fun m => a (ix5 b 0 k m x)) (fun m => a (ix5 b 1 k m x)) q * ki (ix3 k q ⟨512 + x.val, by omega⟩))
      (fun q => foreRe (turn k) (fun m => a (ix5 b 0 k m x)) (fun m => a (ix5 b 1 k m x)) q * ki (ix3 k q ⟨512 + x.val, by omega⟩) + foreIm (turn k) (fun m => a (ix5 b 0 k m x)) (fun m => a (ix5 b 1 k m x)) q * kr (ix3 k q ⟨512 + x.val, by omega⟩)) m := by
  have h : mid a kr ki (ix5 b 0 k m x) = invRe (prodRe a kr ki) (prodIm a kr ki) (ix4 b k m x) := by
    pointwise [mid]
  rw [h, invRe_apply]
  simp only [prodRe_apply, prodIm_apply, fwdRe_apply, fwdIm_apply]

theorem mid1_apply (a : FVec Ideal S2x2x256x128x512 .bf16) (kr ki : FVec Ideal S256x128x1024 .f32) (b : Fin 2) (k : Fin 256) (m : Fin 128) (x : Fin 512) :
    mid a kr ki (ix5 b 1 k m x) = backIm (turn k)
      (fun q => foreRe (turn k) (fun m => a (ix5 b 0 k m x)) (fun m => a (ix5 b 1 k m x)) q * kr (ix3 k q ⟨512 + x.val, by omega⟩) - foreIm (turn k) (fun m => a (ix5 b 0 k m x)) (fun m => a (ix5 b 1 k m x)) q * ki (ix3 k q ⟨512 + x.val, by omega⟩))
      (fun q => foreRe (turn k) (fun m => a (ix5 b 0 k m x)) (fun m => a (ix5 b 1 k m x)) q * ki (ix3 k q ⟨512 + x.val, by omega⟩) + foreIm (turn k) (fun m => a (ix5 b 0 k m x)) (fun m => a (ix5 b 1 k m x)) q * kr (ix3 k q ⟨512 + x.val, by omega⟩)) m := by
  have h : mid a kr ki (ix5 b 1 k m x) = invIm (prodRe a kr ki) (prodIm a kr ki) (ix4 b k m x) := by
    pointwise [mid]
  rw [h, invIm_apply]
  simp only [prodRe_apply, prodIm_apply, fwdRe_apply, fwdIm_apply]

variable (m : (ℓ : Loc nD τ sig) → Buf (Elt Ideal) ℓ)

theorem res0_eq (c : Dev nD) : Value.res_out0 m c = mid (m ((c.tc : Thread nD τ).loc main_arg0)) (m ((c.tc : Thread nD τ).loc main_arg1)) (m ((c.tc : Thread nD τ).loc main_arg2)) := rfl

end Cert.MidRefIdeal.Hand
-- ==== Proof.FftFull.lean ====
/-
  The angles of the full transform of 256 points.
-/
module

public import proofs.«01_k».proof.Proof.Fft

@[expose] public section

set_option maxRecDepth 16384

noncomputable section

namespace Cert.Hand

open Idealize.ShloMosaic

/-- The angle of point `k` and row `r`. -/
def angleFull (k r : Fin 256) : EReal :=
  Ideal.div (Ideal.ofBits FTy.f32 1086918619#32 * FloatOps.sitofp (F := Ideal) FTy.f32 (BitVec.ofNat 32 k.val)
    * FloatOps.sitofp (F := Ideal) FTy.f32 (BitVec.ofNat 32 r.val)) (Ideal.ofBits FTy.f32 1132462080#32)

/-- The cosines for the first 256 rows, the sines' negatives for the others. -/
def waveFull (k : Fin 512) (r : Fin 256) : EReal :=
  if h : k.val < 256 then Ideal.cos (angleFull ⟨k.val, h⟩ r) else -Ideal.sin (angleFull ⟨k.val - 256, by omega⟩ r)

end Cert.Hand
-- ==== Proof.Full.Value.lean ====
/-
  The blocks the filters' first transform reads and writes at a grid point.
-/
module

public import proofs.«01_k».proof.Proof.Gen.FullIdeal.Value
public import proofs.«01_k».proof.Proof.FftFull
public import Idealize.ShloMosaic.Lib.StableHlo.Run
public import Idealize.ShloMosaic.Lib.Tactic

@[expose] public section

set_option maxRecDepth 16384

noncomputable section

namespace Cert.FullIdeal.Hand

open Cert.Hand Cert.FullIdeal Cert.FullIdeal.Gen Idealize.ShloMosaic Idealize.ShloMosaic.TcCoe Idealize.SL.Sem

variable (m : (ℓ : Loc nD τ sig) → Buf (Elt Ideal) ℓ)

theorem points (t : Fin cfg0.N) : t.val < 64 := lt_of_lt_of_eq t.isLt (show cfg0.N = 64 from N_0)

/-- Where each window's block lies at point `t`. -/
theorem place : ∀ t : Fin cfg0.N,
    (win0_0.index t (0 : Fin 3) = 0 ∧ win0_0.index t (1 : Fin 3) = 0 ∧ win0_0.index t (2 : Fin 3) = t.val)
    ∧ (win0_1.index t (0 : Fin 2) = 0 ∧ win0_1.index t (1 : Fin 2) = 0) :=
  (by decide +kernel : ∀ t : Fin grid0.N, _)

/-- The input. -/
theorem block0 (c : Dev nD) (t : Fin cfg0.N) (a : Fin 1) (b : Fin 256) (d : Fin 2048) :
    (iblk m c 0 t : Vec Ideal S1x256x2048 .bf16) (ix3 a b d)
      = (m ((c : Thread nD τ).loc main_arg0) : FVec Ideal S1x256x131072 .bf16) (ix3 a b ⟨t.val * 2048 + d.val, by have := points t; have := d.isLt; omega⟩) := by
  obtain ⟨⟨p0, p1, p2⟩, -⟩ := place t
  unfold iblk
  rw [View.read_apply]
  show V m c main_arg0 _ = _
  rw [V_main_arg0]
  congr 1
  funext x
  apply Fin.ext
  match x with
  | ⟨0, _⟩ => show win0_0.index t 0 * 1 + 1 * a.val = a.val; rw [p0]; omega
  | ⟨1, _⟩ => show win0_0.index t 1 * 256 + 1 * b.val = b.val; rw [p1]; omega
  | ⟨2, _⟩ => show win0_0.index t 2 * 2048 + 1 * d.val = t.val * 2048 + d.val; rw [p2]; omega

/-- The table. -/
theorem block1 (c : Dev nD) (t : Fin cfg0.N) (a : Fin 512) (b : Fin 256) :
    (iblk m c 1 t : Vec Ideal S512x256 .bf16) (ix2 a b)
      = (V m c main_v23 : FVec Ideal S512x256 .bf16) (ix2 a b) := by
  obtain ⟨-, p0, p1⟩ := place t
  unfold iblk
  rw [View.read_apply]
  show V m c main_v23 _ = _
  congr 1
  funext x
  apply Fin.ext
  match x with
  | ⟨0, _⟩ => show win0_1.index t 0 * 512 + 1 * a.val = a.val; rw [p0]; omega
  | ⟨1, _⟩ => show win0_1.index t 1 * 256 + 1 * b.val = b.val; rw [p1]; omega

/-- Where point `t` writes the transform. -/
theorem place2 : ∀ t : Fin cfg0.N,
    win0_2.index t (0 : Fin 3) = 0 ∧ win0_2.index t (1 : Fin 3) = 0 ∧ win0_2.index t (2 : Fin 3) = t.val :=
  (by decide +kernel : ∀ t : Fin grid0.N, _)

/-- The transform after the run, at an index of point `t`'s block: what the body leaves there. -/
theorem written2 (c : Dev nD) (t : Fin cfg0.N) (a : Fin 1) (b : Fin 512) (d : Fin 2048) :
    ((dats m 0 c).arrAt 2 cfg0.N) (ix3 a b ⟨t.val * 2048 + d.val, by have := points t; have := d.isLt; omega⟩)
      = (out0_2 (iblk m c 0 t) (iblk m c 1 t)) (ix3 a b d) := by
  have h := congrFun (Value.blocks2 m c t (flush0_2 t)) (ix3 a b d)
  rw [View.read_apply, Value.flushed2] at h
  refine Eq.trans ?_ h
  congr 1
  obtain ⟨p0, p1, p2⟩ := place2 t
  funext x
  apply Fin.ext
  match x with
  | ⟨0, _⟩ => show a.val = win0_2.index t 0 * 1 + 1 * a.val; rw [p0]; omega
  | ⟨1, _⟩ => show b.val = win0_2.index t 1 * 512 + 1 * b.val; rw [p1]; omega
  | ⟨2, _⟩ => show t.val * 2048 + d.val = win0_2.index t 2 * 2048 + 1 * d.val; rw [p2]; omega

theorem hz2 : (![0, 0] : Fin 2 → Nat) = fun _ => 0 := funext fun a => by fin_cases a <;> rfl
theorem hz3 : (![0, 0, 0] : Fin 3 → Nat) = fun _ => 0 := funext fun a => by fin_cases a <;> rfl

/-- The one store of the block leaves its value. -/
theorem out2_eq (x0 : Vec Ideal S1x256x2048 .bf16) (x1 : Vec Ideal S512x256 .bf16) : out0_2 x0 x1 = k0_pay1 x1 x0 := by
  unfold out0_2
  rw [View.canon_unit_zero (S := S1x512x2048) hz3, View.ld_unit_zero (S := S1x256x2048) hz3, View.ld_unit_zero (S := S512x256) hz2]

theorem pay_apply (x0 : Vec Ideal S1x256x2048 .bf16) (x1 : Vec Ideal S512x256 .bf16) (k : Fin 512) (j : Fin 2048) :
    k0_pay1 x1 x0 (ix3 0 k j) = ∑ r : Fin 256, x1 (ix2 k r) * x0 (ix3 0 r j) := by
  pointwise [k0_pay1]

/-- The angles. -/
def angles : FVec Ideal S256x256 .f32 :=
  Host.divf (mulf (broadcastInDim S256x256 ![0, 1] bcast_S256x1_S256x256_0_1 (mulf (broadcastInDim S256x1 ![] bcast_S_S256x1 (constant S_ .f32 0x40C90FDB#32)) (sitofp .f32 (broadcastInDim S256x1 ![0] bcast_S256_S256x1_0 (iotaInDim S256 32 0))))) (broadcastInDim S256x256 ![0, 1] bcast_S1x256_S256x256_0_1 (sitofp .f32 (broadcastInDim S1x256 ![1] bcast_S256_S1x256_1 (iotaInDim S256 32 0))))) (broadcastInDim S256x256 ![] bcast_S_S256x256 (constant S_ .f32 0x43800000#32))

theorem angles_apply (k : Fin 256) (r : Fin 256) : angles (ix2 k r) = angleFull k r := by
  pointwise [angles]
  rfl

/-- The forward table. -/
theorem table (c : Dev nD) (k : Fin 512) (r : Fin 256) : (V m c main_v23 : FVec Ideal S512x256 .bf16) (ix2 k r) = waveFull k r := by
  have h : @Eq (FVec Ideal S512x256 .bf16) (V m c main_v23) (truncf .bf16 (concatenate S512x256 0 [⟨S256x256, Host.cos angles⟩, ⟨S256x256, Host.negf (Host.sin angles)⟩] concatenates_S256x256_S256x256_S512x256_d0) bitsLt_bf16_f32) := by
    unfold V
    after_results <;> rfl
  rw [h]
  pointwise []
  simp only [angles_apply]
  rfl

/-- A column lies in one grid point. -/
theorem split (j : Fin 131072) : ∃ (t : Fin cfg0.N) (x : Fin 2048) (h : t.val * 2048 + x.val < 131072), j = ⟨t.val * 2048 + x.val, h⟩ :=
  ⟨⟨j.val / 2048, lt_of_lt_of_eq (show j.val / 2048 < 64 by omega) (show 64 = cfg0.N from N_0.symm)⟩, ⟨j.val % 2048, by omega⟩,
    by show j.val / 2048 * 2048 + j.val % 2048 < 131072; omega, Fin.ext (by show j.val = j.val / 2048 * 2048 + j.val % 2048; omega)⟩

/-- The transform after the run. -/
theorem result_apply (c : Dev nD) (b : Fin 1) (k : Fin 512) (j : Fin 131072) :
    @Eq EReal (((dats m 0 c).arrAt 2 cfg0.N) (ix3 b k j))
      (∑ r : Fin 256, waveFull k r * (m ((c : Thread nD τ).loc main_arg0) : FVec Ideal S1x256x131072 .bf16) (ix3 b r j)) := by
  obtain rfl : b = 0 := Fin.eq_zero b
  obtain ⟨t, x, h, rfl⟩ := split j
  refine (written2 m c t 0 k x).trans ?_
  rw [out2_eq]
  refine (pay_apply _ _ k x).trans (Finset.sum_congr rfl fun r _ => ?_)
  exact congrArg₂ (· * ·) ((block1 m c t k r).trans (table m c k r)) (block0 m c t 0 r x)

end Cert.FullIdeal.Hand
-- ==== Proof.Full.RefValue.lean ====
/-
  The filters' plain first transform read at an index.
-/
module

public import proofs.«01_k».proof.Proof.Gen.FullRefIdeal.Run
public import proofs.«01_k».proof.Proof.FftFull

@[expose] public section

set_option maxRecDepth 16384

noncomputable section

namespace Cert.FullRefIdeal.Hand

open Cert.Hand Cert.FullRefIdeal Cert.FullRefIdeal.Gen Idealize.ShloMosaic Idealize.ShloMosaic.TcCoe Idealize.SL.Sem

/-- The angles. -/
def angles : FVec Ideal S256x256 .f32 :=
  Host.divf (mulf (broadcastInDim S256x256 ![0, 1] bcast_S256x1_S256x256_0_1 (mulf (broadcastInDim S256x1 ![] bcast_S_S256x1 (constant S_ .f32 0x40C90FDB#32)) (broadcastInDim S256x1 ![0] bcast_S256_S256x1_0 (sitofp .f32 (iotaInDim S256 32 0))))) (broadcastInDim S256x256 ![0, 1] bcast_S1x256_S256x256_0_1 (broadcastInDim S1x256 ![1] bcast_S256_S1x256_1 (sitofp .f32 (iotaInDim S256 32 0))))) (broadcastInDim S256x256 ![] bcast_S_S256x256 (constant S_ .f32 0x43800000#32))

theorem angles_apply (k : Fin 256) (r : Fin 256) : angles (ix2 k r) = angleFull k r := by
  pointwise [angles]
  rfl

/-- The transform: the real parts, then the imaginary. -/
def dft (z : FVec Ideal S1x256x131072 .bf16) : FVec Ideal S1x512x131072 .bf16 :=
  truncf .bf16 (concatenate S1x512x131072 1 [⟨S1x256x131072, (transpose S1x256x131072 [0, 2, 1] (Host.dotGeneral dot_S1x256x131072_S256x256_S1x131072x256_1_1_02_0_n_n none (extf .f32 z bitsLt_bf16_f32) (Host.cos angles)) transposes_S1x131072x256_S1x256x131072_0_2_1)⟩, ⟨S1x256x131072, (transpose S1x256x131072 [0, 2, 1] (Host.dotGeneral dot_S1x256x131072_S256x256_S1x131072x256_1_1_02_0_n_n none (extf .f32 z bitsLt_bf16_f32) (Host.negf (Host.sin angles))) transposes_S1x131072x256_S1x256x131072_0_2_1)⟩] concatenates_S1x256x131072_S1x256x131072_S1x512x131072_d1) bitsLt_bf16_f32

theorem dft_apply (z : FVec Ideal S1x256x131072 .bf16) (b : Fin 1) (k : Fin 512) (j : Fin 131072) :
    dft z (ix3 b k j) = ∑ r : Fin 256, waveFull k r * z (ix3 b r j) := by
  obtain rfl : b = 0 := Fin.eq_zero b
  pointwise [dft]
  by_cases h : k.val < 256
  · rw [dif_pos h]
    refine Finset.sum_congr rfl fun r _ => ?_
    rw [angles_apply, mul_comm, waveFull, dif_pos h]
  · rw [dif_neg h]
    refine Finset.sum_congr rfl fun r _ => ?_
    rw [angles_apply, mul_comm, waveFull, dif_neg h]

end Cert.FullRefIdeal.Hand
-- ==== Proof.Last.Value.lean ====
/-
  The blocks the inverse transform without chaining reads and writes at a grid point.
-/
module

public import proofs.«01_k».proof.Proof.Gen.LastIdeal.Value
public import proofs.«01_k».proof.Proof.Fft
public import Idealize.ShloMosaic.Lib.StableHlo.Run
public import Idealize.ShloMosaic.Lib.Tactic

@[expose] public section

set_option maxRecDepth 16384

noncomputable section

namespace Cert.LastIdeal.Hand

open Cert.Hand Cert.LastIdeal Cert.LastIdeal.Gen Idealize.ShloMosaic Idealize.ShloMosaic.TcCoe Idealize.SL.Sem

variable (m : (ℓ : Loc nD τ sig) → Buf (Elt Ideal) ℓ)

theorem points (t : Fin cfg0.N) : t.val < 64 := lt_of_lt_of_eq t.isLt (show cfg0.N = 64 from N_0)

/-- Where each window's block lies at point `t`. -/
theorem place : ∀ t : Fin cfg0.N,
    (win0_0.index t (0 : Fin 3) = t.val / 32 ∧ win0_0.index t (1 : Fin 3) = 0 ∧ win0_0.index t (2 : Fin 3) = t.val % 32)
    ∧ (win0_1.index t (0 : Fin 2) = 0 ∧ win0_1.index t (1 : Fin 2) = 0)
    ∧ (win0_2.index t (0 : Fin 3) = t.val / 32 ∧ win0_2.index t (1 : Fin 3) = 0 ∧ win0_2.index t (2 : Fin 3) = t.val % 32)
    ∧ (win0_3.index t (0 : Fin 3) = t.val / 32 ∧ win0_3.index t (1 : Fin 3) = 0 ∧ win0_3.index t (2 : Fin 3) = t.val % 32)
    ∧ (win0_4.index t (0 : Fin 2) = 0 ∧ win0_4.index t (1 : Fin 2) = t.val % 32) :=
  (by decide +kernel : ∀ t : Fin grid0.N, _)

/-- The product of transforms. -/
theorem block0 (c : Dev nD) (t : Fin cfg0.N) (a : Fin 1) (b : Fin 512) (d : Fin 2048) :
    (iblk m c 0 t : Vec Ideal S1x512x2048 .bf16) (ix3 a b d)
      = (m ((c : Thread nD τ).loc main_arg0) : FVec Ideal S2x512x65536 .bf16) (ix3 ⟨t.val / 32, by have := points t; omega⟩ b ⟨t.val % 32 * 2048 + d.val, by have := points t; have := d.isLt; omega⟩) := by
  obtain ⟨⟨p0, p1, p2⟩, -⟩ := place t
  unfold iblk
  rw [View.read_apply]
  show V m c main_arg0 _ = _
  rw [V_main_arg0]
  congr 1
  funext x
  apply Fin.ext
  match x with
  | ⟨0, _⟩ => show win0_0.index t 0 * 1 + 1 * a.val = t.val / 32; rw [p0]; omega
  | ⟨1, _⟩ => show win0_0.index t 1 * 512 + 1 * b.val = b.val; rw [p1]; omega
  | ⟨2, _⟩ => show win0_0.index t 2 * 2048 + 1 * d.val = t.val % 32 * 2048 + d.val; rw [p2]; omega

/-- The inverse table. -/
theorem block1 (c : Dev nD) (t : Fin cfg0.N) (a : Fin 128) (b : Fin 512) :
    (iblk m c 1 t : Vec Ideal S128x512 .bf16) (ix2 a b)
      = (V m c main_v24 : FVec Ideal S128x512 .bf16) (ix2 a b) := by
  obtain ⟨-, ⟨p0, p1⟩, -⟩ := place t
  unfold iblk
  rw [View.read_apply]
  show V m c main_v24 _ = _
  congr 1
  funext x
  apply Fin.ext
  match x with
  | ⟨0, _⟩ => show win0_1.index t 0 * 128 + 1 * a.val = a.val; rw [p0]; omega
  | ⟨1, _⟩ => show win0_1.index t 1 * 512 + 1 * b.val = b.val; rw [p1]; omega

/-- The input. -/
theorem block2 (c : Dev nD) (t : Fin cfg0.N) (a : Fin 1) (b : Fin 128) (d : Fin 2048) :
    (iblk m c 2 t : Vec Ideal S1x128x2048 .bf16) (ix3 a b d)
      = (m ((c : Thread nD τ).loc main_arg1) : FVec Ideal S2x128x65536 .bf16) (ix3 ⟨t.val / 32, by have := points t; omega⟩ b ⟨t.val % 32 * 2048 + d.val, by have := points t; have := d.isLt; omega⟩) := by
  obtain ⟨-, -, ⟨p0, p1, p2⟩, -⟩ := place t
  unfold iblk
  rw [View.read_apply]
  show V m c main_arg1 _ = _
  rw [V_main_arg1]
  congr 1
  funext x
  apply Fin.ext
  match x with
  | ⟨0, _⟩ => show win0_2.index t 0 * 1 + 1 * a.val = t.val / 32; rw [p0]; omega
  | ⟨1, _⟩ => show win0_2.index t 1 * 128 + 1 * b.val = b.val; rw [p1]; omega
  | ⟨2, _⟩ => show win0_2.index t 2 * 2048 + 1 * d.val = t.val % 32 * 2048 + d.val; rw [p2]; omega

/-- The gate. -/
theorem block3 (c : Dev nD) (t : Fin cfg0.N) (a : Fin 1) (b : Fin 128) (d : Fin 2048) :
    (iblk m c 3 t : Vec Ideal S1x128x2048 .bf16) (ix3 a b d)
      = (m ((c : Thread nD τ).loc main_arg2) : FVec Ideal S2x128x65536 .bf16) (ix3 ⟨t.val / 32, by have := points t; omega⟩ b ⟨t.val % 32 * 2048 + d.val, by have := points t; have := d.isLt; omega⟩) := by
  obtain ⟨-, -, -, ⟨p0, p1, p2⟩, -⟩ := place t
  unfold iblk
  rw [View.read_apply]
  show V m c main_arg2 _ = _
  rw [V_main_arg2]
  congr 1
  funext x
  apply Fin.ext
  match x with
  | ⟨0, _⟩ => show win0_3.index t 0 * 1 + 1 * a.val = t.val / 32; rw [p0]; omega
  | ⟨1, _⟩ => show win0_3.index t 1 * 128 + 1 * b.val = b.val; rw [p1]; omega
  | ⟨2, _⟩ => show win0_3.index t 2 * 2048 + 1 * d.val = t.val % 32 * 2048 + d.val; rw [p2]; omega

/-- The bias. -/
theorem block4 (c : Dev nD) (t : Fin cfg0.N) (a : Fin 1) (b : Fin 2048) :
    (iblk m c 4 t : Vec Ideal S1x2048 .f32) (ix2 a b)
      = (V m c main_v28 : FVec Ideal S1x65536 .f32) (ix2 a ⟨t.val % 32 * 2048 + b.val, by have := points t; have := b.isLt; omega⟩) := by
  obtain ⟨-, -, -, -, p0, p1⟩ := place t
  unfold iblk
  rw [View.read_apply]
  show V m c main_v28 _ = _
  congr 1
  funext x
  apply Fin.ext
  match x with
  | ⟨0, _⟩ => show win0_4.index t 0 * 1 + 1 * a.val = a.val; rw [p0]; omega
  | ⟨1, _⟩ => show win0_4.index t 1 * 2048 + 1 * b.val = t.val % 32 * 2048 + b.val; rw [p1]; omega

/-- Where point `t` writes the gated rows. -/
theorem place5 : ∀ t : Fin cfg0.N,
    win0_5.index t (0 : Fin 3) = t.val / 32 ∧ win0_5.index t (1 : Fin 3) = 0 ∧ win0_5.index t (2 : Fin 3) = t.val % 32 :=
  (by decide +kernel : ∀ t : Fin grid0.N, _)

/-- The gated rows after the run, at an index of point `t`'s block: what the body leaves there. -/
theorem written5 (c : Dev nD) (t : Fin cfg0.N) (a : Fin 1) (b : Fin 128) (d : Fin 2048) :
    ((dats m 0 c).arrAt 5 cfg0.N) (ix3 ⟨t.val / 32, by have := points t; omega⟩ b ⟨t.val % 32 * 2048 + d.val, by have := points t; have := d.isLt; omega⟩)
      = (out0_5 (iblk m c 0 t) (iblk m c 1 t) (iblk m c 2 t) (iblk m c 3 t) (iblk m c 4 t)) (ix3 a b d) := by
  have h := congrFun (Value.blocks5 m c t (flush0_5 t)) (ix3 a b d)
  rw [View.read_apply, Value.flushed5] at h
  refine Eq.trans ?_ h
  congr 1
  obtain ⟨p0, p1, p2⟩ := place5 t
  funext x
  apply Fin.ext
  match x with
  | ⟨0, _⟩ => show t.val / 32 = win0_5.index t 0 * 1 + 1 * a.val; rw [p0]; omega
  | ⟨1, _⟩ => show b.val = win0_5.index t 1 * 128 + 1 * b.val; rw [p1]; omega
  | ⟨2, _⟩ => show t.val % 32 * 2048 + d.val = win0_5.index t 2 * 2048 + 1 * d.val; rw [p2]; omega

theorem hz2 : (![0, 0] : Fin 2 → Nat) = fun _ => 0 := funext fun a => by fin_cases a <;> rfl
theorem hz3 : (![0, 0, 0] : Fin 3 → Nat) = fun _ => 0 := funext fun a => by fin_cases a <;> rfl

/-- The one store of the block leaves its value. -/
theorem out5_eq (x0 : Vec Ideal S1x512x2048 .bf16) (x1 : Vec Ideal S128x512 .bf16) (x2 : Vec Ideal S1x128x2048 .bf16) (x3 : Vec Ideal S1x128x2048 .bf16) (x4 : Vec Ideal S1x2048 .f32) : out0_5 x0 x1 x2 x3 x4 = k0_pay1 x1 x0 x3 x2 x4 := by
  unfold out0_5
  rw [View.canon_unit_zero (S := S1x128x2048) hz3, View.ld_unit_zero (S := S128x512) hz2, View.ld_unit_zero (S := S1x512x2048) hz3,
    View.ld_unit_zero (S := S1x128x2048) hz3, View.ld_unit_zero (S := S1x128x2048) hz3, View.ld_unit_zero (S := S1x2048) hz2]

theorem pay_apply (x0 : Vec Ideal S1x512x2048 .bf16) (x1 : Vec Ideal S128x512 .bf16) (x2 : Vec Ideal S1x128x2048 .bf16) (x3 : Vec Ideal S1x128x2048 .bf16) (x4 : Vec Ideal S1x2048 .f32) (r : Fin 128) (j : Fin 2048) :
    k0_pay1 x1 x0 x3 x2 x4 (ix3 0 r j)
      = x3 (ix3 0 r j) * ((∑ k : Fin 512, x1 (ix2 r k) * x0 (ix3 0 k j)) * Ideal.ofBits FTy.f32 939524096#32 + x2 (ix3 0 r j) * x4 (ix2 0 j)) := by
  pointwise [k0_pay1]

/-- The angles. -/
def angles : FVec Ideal S256x128 .f32 :=
  Host.divf (mulf (broadcastInDim S256x128 ![0, 1] bcast_S256x1_S256x128_0_1 (mulf (broadcastInDim S256x1 ![] bcast_S_S256x1 (constant S_ .f32 0x40C90FDB#32)) (sitofp .f32 (broadcastInDim S256x1 ![0] bcast_S256_S256x1_0 (iotaInDim S256 32 0))))) (broadcastInDim S256x128 ![0, 1] bcast_S1x128_S256x128_0_1 (sitofp .f32 (broadcastInDim S1x128 ![1] bcast_S128_S1x128_1 (iotaInDim S128 32 0))))) (broadcastInDim S256x128 ![] bcast_S_S256x128 (constant S_ .f32 0x43800000#32))

theorem angles_apply (k : Fin 256) (r : Fin 128) : angles (ix2 k r) = angle k r := by
  pointwise [angles]
  rfl

/-- The inverse table. -/
theorem inverse (c : Dev nD) (r : Fin 128) (k : Fin 512) : (V m c main_v24 : FVec Ideal S128x512 .bf16) (ix2 r k) = wave k r := by
  have h : @Eq (FVec Ideal S128x512 .bf16) (V m c main_v24) (truncf .bf16 (concatenate S128x512 1 [⟨S128x256, transpose S128x256 [1, 0] (Host.cos angles) transposes_S256x128_S128x256_1_0⟩, ⟨S128x256, Host.negf (transpose S128x256 [1, 0] (Host.sin angles) transposes_S256x128_S128x256_1_0)⟩] concatenates_S128x256_S128x256_S128x512_d1) bitsLt_bf16_f32) := by
    unfold V
    after_results <;> rfl
  rw [h]
  pointwise []
  simp only [angles_apply]
  rfl

/-- The bias, once for each of the 128 groups of columns. -/
theorem bias (c : Dev nD) (j : Fin 65536) : (V m c main_v28 : FVec Ideal S1x65536 .f32) (ix2 0 j)
    = (m ((c : Thread nD τ).loc main_arg3) : FVec Ideal S512 .f32) (ix1 ⟨j.val % 512, by omega⟩) := by
  have h : @Eq (FVec Ideal S1x65536 .f32) (V m c main_v28) (shapeCast _ (shapeCast _ (broadcastInDim S128x512 ![0, 1] bcast_S1x512_S128x512_0_1 (shapeCast _ (m ((c : Thread nD τ).loc main_arg3) : FVec Ideal S512 .f32) shapeCasts_S512_S1x512)) shapeCasts_S128x512_S65536) shapeCasts_S65536_S1x65536) := by
    unfold V
    after_results <;> rfl
  rw [h]
  pointwise []

/-- A batch and a column lie in one grid point. -/
theorem split (b : Fin 2) (j : Fin 65536) : ∃ (t : Fin cfg0.N) (x : Fin 2048) (h : t.val / 32 < 2) (h' : t.val % 32 * 2048 + x.val < 65536), b = ⟨t.val / 32, h⟩ ∧ j = ⟨t.val % 32 * 2048 + x.val, h'⟩ :=
  ⟨⟨b.val * 32 + j.val / 2048, lt_of_lt_of_eq (show b.val * 32 + j.val / 2048 < 64 by omega) (show 64 = cfg0.N from N_0.symm)⟩, ⟨j.val % 2048, by omega⟩,
    by show (b.val * 32 + j.val / 2048) / 32 < 2; omega, by show (b.val * 32 + j.val / 2048) % 32 * 2048 + j.val % 2048 < 65536; omega,
    Fin.ext (by show b.val = (b.val * 32 + j.val / 2048) / 32; omega), Fin.ext (by show j.val = (b.val * 32 + j.val / 2048) % 32 * 2048 + j.val % 2048; omega)⟩

/-- The gated rows, of the launch's arguments. -/
def gated (c : Dev nD) (b : Fin 2) (r : Fin 128) (j : Fin 65536) : EReal :=
  restored (fun k => (m ((c : Thread nD τ).loc main_arg0) : FVec Ideal S2x512x65536 .bf16) (ix3 b k j)) ((m ((c : Thread nD τ).loc main_arg1) : FVec Ideal S2x128x65536 .bf16) (ix3 b r j))
    ((m ((c : Thread nD τ).loc main_arg2) : FVec Ideal S2x128x65536 .bf16) (ix3 b r j)) ((m ((c : Thread nD τ).loc main_arg3) : FVec Ideal S512 .f32) (ix1 ⟨j.val % 512, by omega⟩)) r

theorem body (c : Dev nD) (t : Fin cfg0.N) (r : Fin 128) (x : Fin 2048) (h : t.val / 32 < 2) (h' : t.val % 32 * 2048 + x.val < 65536) :
    @Eq EReal (k0_pay1 (iblk m c 1 t : Vec Ideal S128x512 .bf16) (iblk m c 0 t : Vec Ideal S1x512x2048 .bf16) (iblk m c 3 t : Vec Ideal S1x128x2048 .bf16) (iblk m c 2 t : Vec Ideal S1x128x2048 .bf16) (iblk m c 4 t : Vec Ideal S1x2048 .f32) (ix3 0 r x))
      (gated m c ⟨t.val / 32, h⟩ r ⟨t.val % 32 * 2048 + x.val, h'⟩) := by
  refine (pay_apply _ _ _ _ _ r x).trans ?_
  refine congrArg₂ (· * ·) (block3 m c t 0 r x) (congrArg₂ (· + ·) (congrArg₂ (· * ·) (Finset.sum_congr rfl fun k _ => ?_) rfl)
    (congrArg₂ (· * ·) (block2 m c t 0 r x) ((block4 m c t 0 x).trans (bias m c _))))
  exact congrArg₂ (· * ·) ((block1 m c t r k).trans (inverse m c r k)) (block0 m c t 0 k x)

/-- The gated rows after the run. -/
theorem result_apply (c : Dev nD) (b : Fin 2) (r : Fin 128) (j : Fin 65536) :
    @Eq EReal (((dats m 0 c).arrAt 5 cfg0.N) (ix3 b r j)) (gated m c b r j) := by
  obtain ⟨t, x, h, h', rfl, rfl⟩ := split b j
  refine (written5 m c t 0 r x).trans ?_
  rw [out5_eq]
  exact body m c t r x h h'

end Cert.LastIdeal.Hand
-- ==== Proof.Last.RefValue.lean ====
/-
  The plain inverse transform without chaining read at an index.
-/
module

public import proofs.«01_k».proof.Proof.Gen.LastRefIdeal.Run
public import proofs.«01_k».proof.Proof.Fft

@[expose] public section

set_option maxRecDepth 16384

noncomputable section

namespace Cert.LastRefIdeal.Hand

open Cert.Hand Cert.LastRefIdeal Cert.LastRefIdeal.Gen Idealize.ShloMosaic Idealize.ShloMosaic.TcCoe Idealize.SL.Sem

/-- The angles. -/
def angles : FVec Ideal S256x128 .f32 :=
  Host.divf (mulf (broadcastInDim S256x128 ![0, 1] bcast_S256x1_S256x128_0_1 (mulf (broadcastInDim S256x1 ![] bcast_S_S256x1 (constant S_ .f32 0x40C90FDB#32)) (broadcastInDim S256x1 ![0] bcast_S256_S256x1_0 (sitofp .f32 (iotaInDim S256 32 0))))) (broadcastInDim S256x128 ![0, 1] bcast_S1x128_S256x128_0_1 (broadcastInDim S1x128 ![1] bcast_S128_S1x128_1 (sitofp .f32 (iotaInDim S128 32 0))))) (broadcastInDim S256x128 ![] bcast_S_S256x128 (constant S_ .f32 0x43800000#32))

theorem angles_apply (k : Fin 256) (r : Fin 128) : angles (ix2 k r) = angle k r := by
  pointwise [angles]
  rfl

/-- The gated rows. -/
def rows (d : FVec Ideal S2x512x65536 .bf16) (z g : FVec Ideal S2x128x65536 .bf16) (w : FVec Ideal S512 .f32) : FVec Ideal S2x128x65536 .f32 :=
  mulf (extf .f32 g bitsLt_bf16_f32) (addf (mulf (addf (transpose S2x128x65536 [0, 2, 1] (Host.dotGeneral dot_S2x256x65536_S256x128_S2x65536x128_1_0_02_1_n_n none (extractStridedSlice S2x256x65536 ![0, 0, 0] (extf .f32 d bitsLt_bf16_f32) slices_S2x512x65536_S2x256x65536_0_0_0) (Host.cos angles)) transposes_S2x65536x128_S2x128x65536_0_2_1) (transpose S2x128x65536 [0, 2, 1] (Host.dotGeneral dot_S2x256x65536_S256x128_S2x65536x128_1_0_02_1_n_n none (extractStridedSlice S2x256x65536 ![0, 256, 0] (extf .f32 d bitsLt_bf16_f32) slices_S2x512x65536_S2x256x65536_0_256_0) (Host.negf (Host.sin angles))) transposes_S2x65536x128_S2x128x65536_0_2_1)) (broadcastInDim S2x128x65536 ![] bcast_S_S2x128x65536 (constant S_ .f32 0x38000000#32))) (mulf (extf .f32 z bitsLt_bf16_f32) (broadcastInDim S2x128x65536 ![0, 1, 2] bcast_S1x1x65536_S2x128x65536_0_1_2 (broadcastInDim S1x1x65536 ![2] bcast_S65536_S1x1x65536_2 (shapeCast _ (broadcastInDim S128x512 ![0, 1] bcast_S1x512_S128x512_0_1 (broadcastInDim S1x512 ![1] bcast_S512_S1x512_1 w)) shapeCasts_S128x512_S65536)))))

theorem rows_apply (d : FVec Ideal S2x512x65536 .bf16) (z g : FVec Ideal S2x128x65536 .bf16) (w : FVec Ideal S512 .f32) (b : Fin 2) (r : Fin 128) (j : Fin 65536) :
    rows d z g w (ix3 b r j) = restored (fun k => d (ix3 b k j)) (z (ix3 b r j)) (g (ix3 b r j)) (w (ix1 ⟨j.val % 512, by omega⟩)) r := by
  pointwise [rows]
  unfold restored
  rw [sum_halves_512]
  refine congrArg₂ (· * ·) rfl (congrArg₂ (· + ·) (congrArg₂ (· * ·) (congrArg₂ (· + ·) (Finset.sum_congr rfl fun k _ => ?_) (Finset.sum_congr rfl fun k _ => ?_)) rfl) rfl)
  · rw [wave_left, angles_apply, mul_comm]
  · rw [wave_right, angles_apply, mul_comm]

/-- The rows as the result. -/
def fin (d : FVec Ideal S2x512x65536 .bf16) (z g : FVec Ideal S2x128x65536 .bf16) (w : FVec Ideal S512 .f32) : FVec Ideal S2x128x65536 .bf16 := truncf .bf16 (rows d z g w) bitsLt_bf16_f32

theorem fin_apply (d : FVec Ideal S2x512x65536 .bf16) (z g : FVec Ideal S2x128x65536 .bf16) (w : FVec Ideal S512 .f32) (b : Fin 2) (r : Fin 128) (j : Fin 65536) :
    fin d z g w (ix3 b r j) = restored (fun k => d (ix3 b k j)) (z (ix3 b r j)) (g (ix3 b r j)) (w (ix1 ⟨j.val % 512, by omega⟩)) r :=
  rows_apply d z g w b r j

end Cert.LastRefIdeal.Hand
-- ==== Proof.MidA.Value.lean ====
/-
  The middle of the convolution of the first order after the run, read at an index.
-/
module

public import proofs.«01_k».proof.Proof.Gen.MidAIdeal.Value
public import proofs.«01_k».proof.Proof.Turn
public import proofs.«01_k».proof.Proof.Mid.Block
public import Idealize.ShloMosaic.Lib.StableHlo.Run
public import Idealize.ShloMosaic.Lib.Tactic

@[expose] public section

set_option maxRecDepth 16384

noncomputable section

namespace Cert.MidAIdeal.Hand

open Cert.Hand Cert.MidAIdeal Cert.MidAIdeal.Gen Idealize.ShloMosaic Idealize.ShloMosaic.TcCoe Idealize.SL.Sem
open Cert.MidIdeal.Hand (cell cell_congr line out0_apply out1_apply)

variable (m : (ℓ : Loc nD τ sig) → Buf (Elt Ideal) ℓ)

theorem points (t : Fin cfg0.N) : t.val < 128 := lt_of_lt_of_eq t.isLt (show cfg0.N = 128 from N_0)

/-- Where each window's block lies at point `t`. -/
theorem place : ∀ t : Fin cfg0.N,
    (win0_0.index t (0 : Fin 5) = t.val % 2 ∧ win0_0.index t (1 : Fin 5) = 0 ∧ win0_0.index t (2 : Fin 5) = t.val / 2 ∧ win0_0.index t (3 : Fin 5) = 0 ∧ win0_0.index t (4 : Fin 5) = 0)
    ∧ (win0_1.index t (0 : Fin 3) = t.val / 2 ∧ win0_1.index t (1 : Fin 3) = 0 ∧ win0_1.index t (2 : Fin 3) = 0)
    ∧ (win0_2.index t (0 : Fin 3) = t.val / 2 ∧ win0_2.index t (1 : Fin 3) = 0 ∧ win0_2.index t (2 : Fin 3) = 0)
    ∧ (win0_3.index t (0 : Fin 3) = t.val / 2 ∧ win0_3.index t (1 : Fin 3) = 0 ∧ win0_3.index t (2 : Fin 3) = 0)
    ∧ (win0_4.index t (0 : Fin 3) = t.val / 2 ∧ win0_4.index t (1 : Fin 3) = 0 ∧ win0_4.index t (2 : Fin 3) = 0) :=
  (by decide +kernel : ∀ t : Fin grid0.N, _)

/-- The first transforms. -/
theorem block0 (c : Dev nD) (t : Fin cfg0.N) (a : Fin 1) (b : Fin 2) (d : Fin 4) (e : Fin 128) (f : Fin 512) :
    (iblk m c 0 t : Vec Ideal S1x2x4x128x512 .bf16) (ix5 a b d e f)
      = (m ((c : Thread nD τ).loc main_arg0) : FVec Ideal S2x2x256x128x512 .bf16) (ix5 ⟨t.val % 2, by have := points t; omega⟩ b ⟨t.val / 2 * 4 + d.val, by have := points t; have := d.isLt; omega⟩ e f) := by
  obtain ⟨⟨p0, p1, p2, p3, p4⟩, -⟩ := place t
  unfold iblk
  rw [View.read_apply]
  show V m c main_arg0 _ = _
  rw [V_main_arg0]
  congr 1
  funext x
  apply Fin.ext
  match x with
  | ⟨0, _⟩ => show win0_0.index t 0 * 1 + 1 * a.val = t.val % 2; rw [p0]; omega
  | ⟨1, _⟩ => show win0_0.index t 1 * 2 + 1 * b.val = b.val; rw [p1]; omega
  | ⟨2, _⟩ => show win0_0.index t 2 * 4 + 1 * d.val = t.val / 2 * 4 + d.val; rw [p2]; omega
  | ⟨3, _⟩ => show win0_0.index t 3 * 128 + 1 * e.val = e.val; rw [p3]; omega
  | ⟨4, _⟩ => show win0_0.index t 4 * 512 + 1 * f.val = f.val; rw [p4]; omega

/-- The table. -/
theorem block1 (c : Dev nD) (t : Fin cfg0.N) (a : Fin 4) (b : Fin 256) (d : Fin 256) :
    (iblk m c 1 t : Vec Ideal S4x256x256 .bf16) (ix3 a b d)
      = (V m c main_v35 : FVec Ideal S256x256x256 .bf16) (ix3 ⟨t.val / 2 * 4 + a.val, by have := points t; have := a.isLt; omega⟩ b d) := by
  obtain ⟨-, ⟨p0, p1, p2⟩, -⟩ := place t
  unfold iblk
  rw [View.read_apply]
  show V m c main_v35 _ = _
  congr 1
  funext x
  apply Fin.ext
  match x with
  | ⟨0, _⟩ => show win0_1.index t 0 * 4 + 1 * a.val = t.val / 2 * 4 + a.val; rw [p0]; omega
  | ⟨1, _⟩ => show win0_1.index t 1 * 256 + 1 * b.val = b.val; rw [p1]; omega
  | ⟨2, _⟩ => show win0_1.index t 2 * 256 + 1 * d.val = d.val; rw [p2]; omega

/-- The inverse table. -/
theorem block2 (c : Dev nD) (t : Fin cfg0.N) (a : Fin 4) (b : Fin 256) (d : Fin 256) :
    (iblk m c 2 t : Vec Ideal S4x256x256 .bf16) (ix3 a b d)
      = (V m c main_v36 : FVec Ideal S256x256x256 .bf16) (ix3 ⟨t.val / 2 * 4 + a.val, by have := points t; have := a.isLt; omega⟩ b d) := by
  obtain ⟨-, -, ⟨p0, p1, p2⟩, -⟩ := place t
  unfold iblk
  rw [View.read_apply]
  show V m c main_v36 _ = _
  congr 1
  funext x
  apply Fin.ext
  match x with
  | ⟨0, _⟩ => show win0_2.index t 0 * 4 + 1 * a.val = t.val / 2 * 4 + a.val; rw [p0]; omega
  | ⟨1, _⟩ => show win0_2.index t 1 * 256 + 1 * b.val = b.val; rw [p1]; omega
  | ⟨2, _⟩ => show win0_2.index t 2 * 256 + 1 * d.val = d.val; rw [p2]; omega

/-- The filters' real parts. -/
theorem block3 (c : Dev nD) (t : Fin cfg0.N) (a : Fin 4) (b : Fin 128) (d : Fin 512) :
    (iblk m c 3 t : Vec Ideal S4x128x512 .f32) (ix3 a b d)
      = (m ((c : Thread nD τ).loc main_arg1) : FVec Ideal S256x128x1024 .f32) (ix3 ⟨t.val / 2 * 4 + a.val, by have := points t; have := a.isLt; omega⟩ b ⟨0 * 512 + d.val, by have := points t; have := d.isLt; omega⟩) := by
  obtain ⟨-, -, -, ⟨p0, p1, p2⟩, -⟩ := place t
  unfold iblk
  rw [View.read_apply]
  show V m c main_arg1 _ = _
  rw [V_main_arg1]
  congr 1
  funext x
  apply Fin.ext
  match x with
  | ⟨0, _⟩ => show win0_3.index t 0 * 4 + 1 * a.val = t.val / 2 * 4 + a.val; rw [p0]; omega
  | ⟨1, _⟩ => show win0_3.index t 1 * 128 + 1 * b.val = b.val; rw [p1]; omega
  | ⟨2, _⟩ => show win0_3.index t 2 * 512 + 1 * d.val = 0 * 512 + d.val; rw [p2]; omega

/-- The filters' imaginary parts. -/
theorem block4 (c : Dev nD) (t : Fin cfg0.N) (a : Fin 4) (b : Fin 128) (d : Fin 512) :
    (iblk m c 4 t : Vec Ideal S4x128x512 .f32) (ix3 a b d)
      = (m ((c : Thread nD τ).loc main_arg2) : FVec Ideal S256x128x1024 .f32) (ix3 ⟨t.val / 2 * 4 + a.val, by have := points t; have := a.isLt; omega⟩ b ⟨0 * 512 + d.val, by have := points t; have := d.isLt; omega⟩) := by
  obtain ⟨-, -, -, -, p0, p1, p2⟩ := place t
  unfold iblk
  rw [View.read_apply]
  show V m c main_arg2 _ = _
  rw [V_main_arg2]
  congr 1
  funext x
  apply Fin.ext
  match x with
  | ⟨0, _⟩ => show win0_4.index t 0 * 4 + 1 * a.val = t.val / 2 * 4 + a.val; rw [p0]; omega
  | ⟨1, _⟩ => show win0_4.index t 1 * 128 + 1 * b.val = b.val; rw [p1]; omega
  | ⟨2, _⟩ => show win0_4.index t 2 * 512 + 1 * d.val = 0 * 512 + d.val; rw [p2]; omega

/-- Where point `t` writes the inverse transform. -/
theorem place5 : ∀ t : Fin cfg0.N,
    win0_5.index t (0 : Fin 5) = t.val % 2 ∧ win0_5.index t (1 : Fin 5) = 0 ∧ win0_5.index t (2 : Fin 5) = t.val / 2 ∧ win0_5.index t (3 : Fin 5) = 0 ∧ win0_5.index t (4 : Fin 5) = 0 :=
  (by decide +kernel : ∀ t : Fin grid0.N, _)

/-- The inverse transform after the run, at an index of point `t`'s block: what the body leaves there. -/
theorem written5 (c : Dev nD) (t : Fin cfg0.N) (a : Fin 1) (b : Fin 2) (d : Fin 4) (e : Fin 128) (f : Fin 512) :
    ((dats m 0 c).arrAt 5 cfg0.N) (ix5 ⟨t.val % 2, by have := points t; omega⟩ b ⟨t.val / 2 * 4 + d.val, by have := points t; have := d.isLt; omega⟩ e f)
      = (out0_5 (iblk m c 0 t) (iblk m c 1 t) (iblk m c 2 t) (iblk m c 3 t) (iblk m c 4 t)) (ix5 a b d e f) := by
  have h := congrFun (Value.blocks5 m c t (flush0_5 t)) (ix5 a b d e f)
  rw [View.read_apply, Value.flushed5] at h
  refine Eq.trans ?_ h
  congr 1
  obtain ⟨p0, p1, p2, p3, p4⟩ := place5 t
  funext x
  apply Fin.ext
  match x with
  | ⟨0, _⟩ => show t.val % 2 = win0_5.index t 0 * 1 + 1 * a.val; rw [p0]; omega
  | ⟨1, _⟩ => show b.val = win0_5.index t 1 * 2 + 1 * b.val; rw [p1]; omega
  | ⟨2, _⟩ => show t.val / 2 * 4 + d.val = win0_5.index t 2 * 4 + 1 * d.val; rw [p2]; omega
  | ⟨3, _⟩ => show e.val = win0_5.index t 3 * 128 + 1 * e.val; rw [p3]; omega
  | ⟨4, _⟩ => show f.val = win0_5.index t 4 * 512 + 1 * f.val; rw [p4]; omega

/-- The angles. -/
def angles : FVec Ideal S256x128x128 .f32 :=
  (Host.divf (mulf (broadcastInDim S256x128x128 ![] bcast_S_S256x128x128 (constant S_ .f32 0x40C90FDB#32)) (sitofp .f32 (Host.remsi (muli (broadcastInDim S256x128x128 ![0, 1, 2] bcast_S256x128x1_S256x128x128_0_1_2 (addi (broadcastInDim S256x128x1 ![0, 1, 2] bcast_S256x1x1_S256x128x1_0_1_2 (broadcastInDim S256x1x1 ![0] bcast_S256_S256x1x1_0 (iotaInDim S256 32 0))) (broadcastInDim S256x128x1 ![0, 1, 2] bcast_S1x128x1_S256x128x1_0_1_2 (muli (broadcastInDim S1x128x1 ![] bcast_S_S1x128x1 (constantI S_ 32 256#32)) (broadcastInDim S1x128x1 ![1] bcast_S128_S1x128x1_1 (iotaInDim S128 32 0)))))) (broadcastInDim S256x128x128 ![0, 1, 2] bcast_S1x1x128_S256x128x128_0_1_2 (broadcastInDim S1x1x128 ![2] bcast_S128_S1x1x128_2 (iotaInDim S128 32 0)))) (broadcastInDim S256x128x128 ![] bcast_S_S256x128x128 (constantI S_ 32 32768#32))))) (broadcastInDim S256x128x128 ![] bcast_S_S256x128x128 (constant S_ .f32 0x47000000#32)))

theorem angles_apply (k : Fin 256) (q m : Fin 128) : angles (ix3 k q m) = turn k q m := by
  pointwise [angles]
  rfl

/-- The table of the transform. -/
theorem table (c : Dev nD) (k : Fin 256) (p x : Fin 256) : (V m c main_v35 : FVec Ideal S256x256x256 .bf16) (ix3 k p x) = fore (turn k) p x := by
  have h : @Eq (FVec Ideal S256x256x256 .bf16) (V m c main_v35) (truncf .bf16 (concatenate S256x256x256 1 [⟨S256x128x256, concatenate S256x128x256 2 [⟨S256x128x128, Host.cos angles⟩, ⟨S256x128x128, Host.negf (Host.negf (Host.sin angles))⟩] concatenates_S256x128x128_S256x128x128_S256x128x256_d2⟩, ⟨S256x128x256, concatenate S256x128x256 2 [⟨S256x128x128, Host.negf (Host.sin angles)⟩, ⟨S256x128x128, Host.cos angles⟩] concatenates_S256x128x128_S256x128x128_S256x128x256_d2⟩] concatenates_S256x128x256_S256x128x256_S256x256x256_d1) bitsLt_bf16_f32) := by
    unfold V
    after_results <;> rfl
  rw [h]
  pointwise []
  simp only [angles_apply]
  rfl

/-- The table of the inverse transform. -/
theorem inverse (c : Dev nD) (k : Fin 256) (p x : Fin 256) : (V m c main_v36 : FVec Ideal S256x256x256 .bf16) (ix3 k p x) = back (turn k) p x := by
  have h : @Eq (FVec Ideal S256x256x256 .bf16) (V m c main_v36) (truncf .bf16 (concatenate S256x256x256 1 [⟨S256x128x256, concatenate S256x128x256 2 [⟨S256x128x128, transpose S256x128x128 [0, 2, 1] (Host.cos angles) transposes_S256x128x128_S256x128x128_0_2_1⟩, ⟨S256x128x128, Host.negf (Host.negf (transpose S256x128x128 [0, 2, 1] (Host.negf (Host.sin angles)) transposes_S256x128x128_S256x128x128_0_2_1))⟩] concatenates_S256x128x128_S256x128x128_S256x128x256_d2⟩, ⟨S256x128x256, concatenate S256x128x256 2 [⟨S256x128x128, Host.negf (transpose S256x128x128 [0, 2, 1] (Host.negf (Host.sin angles)) transposes_S256x128x128_S256x128x128_0_2_1)⟩, ⟨S256x128x128, transpose S256x128x128 [0, 2, 1] (Host.cos angles) transposes_S256x128x128_S256x128x128_0_2_1⟩] concatenates_S256x128x128_S256x128x128_S256x128x256_d2⟩] concatenates_S256x128x256_S256x128x256_S256x256x256_d1) bitsLt_bf16_f32) := by
    unfold V
    after_results <;> rfl
  rw [h]
  pointwise []
  simp only [angles_apply]
  rfl

/-- Both orders' bodies compute the same block of their blocks. -/
theorem same (x0 : Vec Ideal S1x2x4x128x512 .bf16) (x1 x2 : Vec Ideal S4x256x256 .bf16) (x3 x4 : Vec Ideal S4x128x512 .f32) :
    out0_5 x0 x1 x2 x3 x4 = Cert.MidIdeal.Gen.out0_5 x0 x1 x2 x3 x4 := rfl

/-- A frequency and a batch lie in one grid point. -/
theorem split (b : Fin 2) (k : Fin 256) : ∃ (t : Fin cfg0.N) (j : Fin 4) (h : t.val % 2 < 2) (h' : t.val / 2 * 4 + j.val < 256), b = ⟨t.val % 2, h⟩ ∧ k = ⟨t.val / 2 * 4 + j.val, h'⟩ :=
  ⟨⟨k.val / 4 * 2 + b.val, lt_of_lt_of_eq (show k.val / 4 * 2 + b.val < 128 by omega) (show 128 = cfg0.N from N_0.symm)⟩, ⟨k.val % 4, by omega⟩,
    by show (k.val / 4 * 2 + b.val) % 2 < 2; omega, by show (k.val / 4 * 2 + b.val) / 2 * 4 + k.val % 4 < 256; omega,
    Fin.ext (by show b.val = (k.val / 4 * 2 + b.val) % 2; omega), Fin.ext (by show k.val = (k.val / 4 * 2 + b.val) / 2 * 4 + k.val % 4; omega)⟩

/-- The cell of a batch, a frequency and a channel, of the launch's arguments. -/
def whole (c : Dev nD) (b : Fin 2) (k : Fin 256) (x : Fin 512) (p : Fin 256) : EReal :=
  cell (fun i a => (m ((c : Thread nD τ).loc main_arg0) : FVec Ideal S2x2x256x128x512 .bf16) (ix5 b i k a x)) (fore (turn k)) (back (turn k))
    (fun q => (m ((c : Thread nD τ).loc main_arg1) : FVec Ideal S256x128x1024 .f32) (ix3 k q ⟨x.val, by omega⟩)) (fun q => (m ((c : Thread nD τ).loc main_arg2) : FVec Ideal S256x128x1024 .f32) (ix3 k q ⟨x.val, by omega⟩)) p

theorem cell_apply (c : Dev nD) (t : Fin cfg0.N) (j : Fin 4) (h : t.val % 2 < 2) (h' : t.val / 2 * 4 + j.val < 256) (x : Fin 512) (p : Fin 256) :
    cell (fun i a => (iblk m c 0 t : Vec Ideal S1x2x4x128x512 .bf16) (ix5 0 i j a x)) (fun p y => (iblk m c 1 t : Vec Ideal S4x256x256 .bf16) (ix3 j p y)) (fun p y => (iblk m c 2 t : Vec Ideal S4x256x256 .bf16) (ix3 j p y))
      (fun q => (iblk m c 3 t : Vec Ideal S4x128x512 .f32) (ix3 j q x)) (fun q => (iblk m c 4 t : Vec Ideal S4x128x512 .f32) (ix3 j q x)) p
      = whole m c ⟨t.val % 2, h⟩ ⟨t.val / 2 * 4 + j.val, h'⟩ x p := by
  refine cell_congr (fun i a => block0 m c t 0 i j a x) (fun p y => (block1 m c t j p y).trans (table m c _ p y)) (fun p y => (block2 m c t j p y).trans (inverse m c _ p y))
    (fun q => (block3 m c t j q x).trans (congrArg (fun e => (m ((c : Thread nD τ).loc main_arg1) : FVec Ideal S256x128x1024 .f32) (ix3 ⟨t.val / 2 * 4 + j.val, h'⟩ q e)) (Fin.ext (by show 0 * 512 + x.val = x.val; omega))))
    (fun q => (block4 m c t j q x).trans (congrArg (fun e => (m ((c : Thread nD τ).loc main_arg2) : FVec Ideal S256x128x1024 .f32) (ix3 ⟨t.val / 2 * 4 + j.val, h'⟩ q e)) (Fin.ext (by show 0 * 512 + x.val = x.val; omega)))) p

/-- The real part of the inverse transform of the product. -/
theorem whole0 (c : Dev nD) (b : Fin 2) (k : Fin 256) (x : Fin 512) (q : Fin 128) :
    whole m c b k x ⟨q.val, by omega⟩ = backRe (turn k)
      (fun q => foreRe (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg1) : FVec Ideal S256x128x1024 .f32) (ix3 k q ⟨x.val, by omega⟩) - foreIm (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg2) : FVec Ideal S256x128x1024 .f32) (ix3 k q ⟨x.val, by omega⟩))
      (fun q => foreRe (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg2) : FVec Ideal S256x128x1024 .f32) (ix3 k q ⟨x.val, by omega⟩) + foreIm (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg1) : FVec Ideal S256x128x1024 .f32) (ix3 k q ⟨x.val, by omega⟩)) q := by
  unfold whole cell line
  simp only [foreRe_eq, foreIm_eq]
  exact backRe_eq _ _ _ q

/-- The real parts after the run. -/
theorem result0_apply (c : Dev nD) (b : Fin 2) (k : Fin 256) (q : Fin 128) (x : Fin 512) :
    @Eq EReal (((dats m 0 c).arrAt 5 cfg0.N) (ix5 b 0 k q x)) (backRe (turn k)
      (fun q => foreRe (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg1) : FVec Ideal S256x128x1024 .f32) (ix3 k q ⟨x.val, by omega⟩) - foreIm (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg2) : FVec Ideal S256x128x1024 .f32) (ix3 k q ⟨x.val, by omega⟩))
      (fun q => foreRe (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg2) : FVec Ideal S256x128x1024 .f32) (ix3 k q ⟨x.val, by omega⟩) + foreIm (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg1) : FVec Ideal S256x128x1024 .f32) (ix3 k q ⟨x.val, by omega⟩)) q) := by
  obtain ⟨t, j, h, h', rfl, rfl⟩ := split b k
  refine (written5 m c t 0 0 j q x).trans ?_
  rw [same]
  refine (out0_apply _ _ _ _ _ j q x).trans ?_
  exact (cell_apply m c t j h h' x _).trans (whole0 m c _ _ x q)

/-- The imaginary part of the inverse transform of the product. -/
theorem whole1 (c : Dev nD) (b : Fin 2) (k : Fin 256) (x : Fin 512) (q : Fin 128) :
    whole m c b k x ⟨128 + q.val, by omega⟩ = backIm (turn k)
      (fun q => foreRe (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg1) : FVec Ideal S256x128x1024 .f32) (ix3 k q ⟨x.val, by omega⟩) - foreIm (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg2) : FVec Ideal S256x128x1024 .f32) (ix3 k q ⟨x.val, by omega⟩))
      (fun q => foreRe (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg2) : FVec Ideal S256x128x1024 .f32) (ix3 k q ⟨x.val, by omega⟩) + foreIm (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg1) : FVec Ideal S256x128x1024 .f32) (ix3 k q ⟨x.val, by omega⟩)) q := by
  unfold whole cell line
  simp only [foreRe_eq, foreIm_eq]
  exact backIm_eq _ _ _ q

/-- The imaginary parts after the run. -/
theorem result1_apply (c : Dev nD) (b : Fin 2) (k : Fin 256) (q : Fin 128) (x : Fin 512) :
    @Eq EReal (((dats m 0 c).arrAt 5 cfg0.N) (ix5 b 1 k q x)) (backIm (turn k)
      (fun q => foreRe (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg1) : FVec Ideal S256x128x1024 .f32) (ix3 k q ⟨x.val, by omega⟩) - foreIm (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg2) : FVec Ideal S256x128x1024 .f32) (ix3 k q ⟨x.val, by omega⟩))
      (fun q => foreRe (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg2) : FVec Ideal S256x128x1024 .f32) (ix3 k q ⟨x.val, by omega⟩) + foreIm (turn k) (fun a => (m ((c : Thread nD τ).loc main_arg0) : FVec Ideal S2x2x256x128x512 .bf16) (ix5 b 0 k a x)) (fun a => (m ((c : Thread nD τ).loc main_arg0) : FVec Ideal S2x2x256x128x512 .bf16) (ix5 b 1 k a x)) q * (m ((c : Thread nD τ).loc main_arg1) : FVec Ideal S256x128x1024 .f32) (ix3 k q ⟨x.val, by omega⟩)) q) := by
  obtain ⟨t, j, h, h', rfl, rfl⟩ := split b k
  refine (written5 m c t 0 1 j q x).trans ?_
  rw [same]
  refine (out1_apply _ _ _ _ _ j q x).trans ?_
  exact (cell_apply m c t j h h' x _).trans (whole1 m c _ _ x q)

end Cert.MidAIdeal.Hand
-- ==== Proof.MidA.RefValue.lean ====
/-
  The plain middle of the convolution read at an index.
-/
module

public import proofs.«01_k».proof.Proof.Gen.MidARefIdeal.Run
public import proofs.«01_k».proof.Proof.Turn

@[expose] public section

set_option maxRecDepth 16384

noncomputable section

namespace Cert.MidARefIdeal.Hand

open Cert.Hand Cert.MidARefIdeal Cert.MidARefIdeal.Gen Idealize.ShloMosaic Idealize.ShloMosaic.TcCoe Idealize.SL.Sem

/-- The angles. -/
def angles : FVec Ideal S256x128x128 .f32 :=
  (Host.divf (mulf (broadcastInDim S256x128x128 ![] bcast_S_S256x128x128 (constant S_ .f32 0x40C90FDB#32)) (sitofp .f32 (Host.remsi (muli (broadcastInDim S256x128x128 ![0, 1, 2] bcast_S256x128x1_S256x128x128_0_1_2 (addi (broadcastInDim S256x128x1 ![0, 1, 2] bcast_S256x1x1_S256x128x1_0_1_2 (broadcastInDim S256x1x1 ![0] bcast_S256_S256x1x1_0 (iotaInDim S256 32 0))) (broadcastInDim S256x128x1 ![0, 1, 2] bcast_S1x128x1_S256x128x1_0_1_2 (muli (broadcastInDim S1x128x1 ![] bcast_S_S1x128x1 (constantI S_ 32 256#32)) (broadcastInDim S1x128x1 ![1] bcast_S128_S1x128x1_1 (iotaInDim S128 32 0)))))) (broadcastInDim S256x128x128 ![0, 1, 2] bcast_S1x1x128_S256x128x128_0_1_2 (broadcastInDim S1x1x128 ![2] bcast_S128_S1x1x128_2 (iotaInDim S128 32 0)))) (broadcastInDim S256x128x128 ![] bcast_S_S256x128x128 (constantI S_ 32 32768#32))))) (broadcastInDim S256x128x128 ![] bcast_S_S256x128x128 (constant S_ .f32 0x47000000#32)))

theorem angles_apply (k : Fin 256) (q m : Fin 128) : angles (ix3 k q m) = turn k q m := by
  pointwise [angles]
  rfl

def fwdRe (a : FVec Ideal S2x2x256x128x512 .bf16) : FVec Ideal S2x256x128x512 .f32 := addf (transpose S2x256x128x512 [1, 0, 3, 2] (Host.dotGeneral dot_S2x256x128x512_S256x128x128_S256x2x512x128_2_2_03_1_1_0 none (extf .f32 (shapeCast _ (extractStridedSlice S2x1x256x128x512 ![0, 0, 0, 0, 0] a slices_S2x2x256x128x512_S2x1x256x128x512_0_0_0_0_0) shapeCasts_S2x1x256x128x512_S2x256x128x512) bitsLt_bf16_f32) (Host.cos angles)) transposes_S256x2x512x128_S2x256x128x512_1_0_3_2) (transpose S2x256x128x512 [1, 0, 3, 2] (Host.dotGeneral dot_S2x256x128x512_S256x128x128_S256x2x512x128_2_2_03_1_1_0 none (extf .f32 (shapeCast _ (extractStridedSlice S2x1x256x128x512 ![0, 1, 0, 0, 0] a slices_S2x2x256x128x512_S2x1x256x128x512_0_1_0_0_0) shapeCasts_S2x1x256x128x512_S2x256x128x512) bitsLt_bf16_f32) (Host.sin angles)) transposes_S256x2x512x128_S2x256x128x512_1_0_3_2)

theorem fwdRe_apply (a : FVec Ideal S2x2x256x128x512 .bf16) (b : Fin 2) (k : Fin 256) (q : Fin 128) (x : Fin 512) :
    fwdRe a (ix4 b k q x) = foreRe (turn k) (fun m => a (ix5 b 0 k m x)) (fun m => a (ix5 b 1 k m x)) q := by
  pointwise [fwdRe]
  simp only [angles_apply]
  exact congrArg₂ (· + ·) (Finset.sum_congr rfl fun m _ => mul_comm _ _) (Finset.sum_congr rfl fun m _ => mul_comm _ _)

def fwdIm (a : FVec Ideal S2x2x256x128x512 .bf16) : FVec Ideal S2x256x128x512 .f32 := addf (transpose S2x256x128x512 [1, 0, 3, 2] (Host.dotGeneral dot_S2x256x128x512_S256x128x128_S256x2x512x128_2_2_03_1_1_0 none (extf .f32 (shapeCast _ (extractStridedSlice S2x1x256x128x512 ![0, 0, 0, 0, 0] a slices_S2x2x256x128x512_S2x1x256x128x512_0_0_0_0_0) shapeCasts_S2x1x256x128x512_S2x256x128x512) bitsLt_bf16_f32) (Host.negf (Host.sin angles))) transposes_S256x2x512x128_S2x256x128x512_1_0_3_2) (transpose S2x256x128x512 [1, 0, 3, 2] (Host.dotGeneral dot_S2x256x128x512_S256x128x128_S256x2x512x128_2_2_03_1_1_0 none (extf .f32 (shapeCast _ (extractStridedSlice S2x1x256x128x512 ![0, 1, 0, 0, 0] a slices_S2x2x256x128x512_S2x1x256x128x512_0_1_0_0_0) shapeCasts_S2x1x256x128x512_S2x256x128x512) bitsLt_bf16_f32) (Host.cos angles)) transposes_S256x2x512x128_S2x256x128x512_1_0_3_2)

theorem fwdIm_apply (a : FVec Ideal S2x2x256x128x512 .bf16) (b : Fin 2) (k : Fin 256) (q : Fin 128) (x : Fin 512) :
    fwdIm a (ix4 b k q x) = foreIm (turn k) (fun m => a (ix5 b 0 k m x)) (fun m => a (ix5 b 1 k m x)) q := by
  pointwise [fwdIm]
  simp only [angles_apply]
  exact congrArg₂ (· + ·) (Finset.sum_congr rfl fun m _ => mul_comm _ _) (Finset.sum_congr rfl fun m _ => mul_comm _ _)

def prodRe (a : FVec Ideal S2x2x256x128x512 .bf16) (kr ki : FVec Ideal S256x128x1024 .f32) : FVec Ideal S2x256x128x512 .f32 := subf (mulf (fwdRe a) (broadcastInDim S2x256x128x512 ![0, 1, 2, 3] bcast_S1x256x128x512_S2x256x128x512_0_1_2_3 (broadcastInDim S1x256x128x512 ![1, 2, 3] bcast_S256x128x512_S1x256x128x512_1_2_3 (extractStridedSlice S256x128x512 ![0, 0, 0] kr slices_S256x128x1024_S256x128x512_0_0_0)))) (mulf (fwdIm a) (broadcastInDim S2x256x128x512 ![0, 1, 2, 3] bcast_S1x256x128x512_S2x256x128x512_0_1_2_3 (broadcastInDim S1x256x128x512 ![1, 2, 3] bcast_S256x128x512_S1x256x128x512_1_2_3 (extractStridedSlice S256x128x512 ![0, 0, 0] ki slices_S256x128x1024_S256x128x512_0_0_0))))

theorem prodRe_apply (a : FVec Ideal S2x2x256x128x512 .bf16) (kr ki : FVec Ideal S256x128x1024 .f32) (b : Fin 2) (k : Fin 256) (q : Fin 128) (x : Fin 512) :
    prodRe a kr ki (ix4 b k q x) = fwdRe a (ix4 b k q x) * kr (ix3 k q ⟨x.val, by omega⟩) - fwdIm a (ix4 b k q x) * ki (ix3 k q ⟨x.val, by omega⟩) := by
  pointwise [prodRe]

def prodIm (a : FVec Ideal S2x2x256x128x512 .bf16) (kr ki : FVec Ideal S256x128x1024 .f32) : FVec Ideal S2x256x128x512 .f32 := addf (mulf (fwdRe a) (broadcastInDim S2x256x128x512 ![0, 1, 2, 3] bcast_S1x256x128x512_S2x256x128x512_0_1_2_3 (broadcastInDim S1x256x128x512 ![1, 2, 3] bcast_S256x128x512_S1x256x128x512_1_2_3 (extractStridedSlice S256x128x512 ![0, 0, 0] ki slices_S256x128x1024_S256x128x512_0_0_0)))) (mulf (fwdIm a) (broadcastInDim S2x256x128x512 ![0, 1, 2, 3] bcast_S1x256x128x512_S2x256x128x512_0_1_2_3 (broadcastInDim S1x256x128x512 ![1, 2, 3] bcast_S256x128x512_S1x256x128x512_1_2_3 (extractStridedSlice S256x128x512 ![0, 0, 0] kr slices_S256x128x1024_S256x128x512_0_0_0))))

theorem prodIm_apply (a : FVec Ideal S2x2x256x128x512 .bf16) (kr ki : FVec Ideal S256x128x1024 .f32) (b : Fin 2) (k : Fin 256) (q : Fin 128) (x : Fin 512) :
    prodIm a kr ki (ix4 b k q x) = fwdRe a (ix4 b k q x) * ki (ix3 k q ⟨x.val, by omega⟩) + fwdIm a (ix4 b k q x) * kr (ix3 k q ⟨x.val, by omega⟩) := by
  pointwise [prodIm]

def invRe (y z : FVec Ideal S2x256x128x512 .f32) : FVec Ideal S2x256x128x512 .f32 := addf (transpose S2x256x128x512 [1, 0, 3, 2] (Host.dotGeneral dot_S2x256x128x512_S256x128x128_S256x2x512x128_2_1_03_2_1_0 none y (Host.cos angles)) transposes_S256x2x512x128_S2x256x128x512_1_0_3_2) (transpose S2x256x128x512 [1, 0, 3, 2] (Host.dotGeneral dot_S2x256x128x512_S256x128x128_S256x2x512x128_2_1_03_2_1_0 none z (Host.negf (Host.sin angles))) transposes_S256x2x512x128_S2x256x128x512_1_0_3_2)

theorem invRe_apply (y z : FVec Ideal S2x256x128x512 .f32) (b : Fin 2) (k : Fin 256) (m : Fin 128) (x : Fin 512) :
    invRe y z (ix4 b k m x) = backRe (turn k) (fun q => y (ix4 b k q x)) (fun q => z (ix4 b k q x)) m := by
  pointwise [invRe]
  simp only [angles_apply]
  exact congrArg₂ (· + ·) (Finset.sum_congr rfl fun q _ => mul_comm _ _) (Finset.sum_congr rfl fun q _ => mul_comm _ _)

def invIm (y z : FVec Ideal S2x256x128x512 .f32) : FVec Ideal S2x256x128x512 .f32 := addf (transpose S2x256x128x512 [1, 0, 3, 2] (Host.dotGeneral dot_S2x256x128x512_S256x128x128_S256x2x512x128_2_1_03_2_1_0 none y (Host.sin angles)) transposes_S256x2x512x128_S2x256x128x512_1_0_3_2) (transpose S2x256x128x512 [1, 0, 3, 2] (Host.dotGeneral dot_S2x256x128x512_S256x128x128_S256x2x512x128_2_1_03_2_1_0 none z (Host.cos angles)) transposes_S256x2x512x128_S2x256x128x512_1_0_3_2)

theorem invIm_apply (y z : FVec Ideal S2x256x128x512 .f32) (b : Fin 2) (k : Fin 256) (m : Fin 128) (x : Fin 512) :
    invIm y z (ix4 b k m x) = backIm (turn k) (fun q => y (ix4 b k q x)) (fun q => z (ix4 b k q x)) m := by
  pointwise [invIm]
  simp only [angles_apply]
  exact congrArg₂ (· + ·) (Finset.sum_congr rfl fun q _ => mul_comm _ _) (Finset.sum_congr rfl fun q _ => mul_comm _ _)

def mid (a : FVec Ideal S2x2x256x128x512 .bf16) (kr ki : FVec Ideal S256x128x1024 .f32) : FVec Ideal S2x2x256x128x512 .bf16 :=
  truncf .bf16 (concatenate S2x2x256x128x512 1 [⟨S2x1x256x128x512, (broadcastInDim S2x1x256x128x512 ![0, 2, 3, 4] bcast_S2x256x128x512_S2x1x256x128x512_0_2_3_4 (invRe (prodRe a kr ki) (prodIm a kr ki)))⟩,
    ⟨S2x1x256x128x512, (broadcastInDim S2x1x256x128x512 ![0, 2, 3, 4] bcast_S2x256x128x512_S2x1x256x128x512_0_2_3_4 (invIm (prodRe a kr ki) (prodIm a kr ki)))⟩] concatenates_S2x1x256x128x512_S2x1x256x128x512_S2x2x256x128x512_d1) bitsLt_bf16_f32

theorem mid0_apply (a : FVec Ideal S2x2x256x128x512 .bf16) (kr ki : FVec Ideal S256x128x1024 .f32) (b : Fin 2) (k : Fin 256) (m : Fin 128) (x : Fin 512) :
    mid a kr ki (ix5 b 0 k m x) = backRe (turn k)
      (fun q => foreRe (turn k) (fun m => a (ix5 b 0 k m x)) (fun m => a (ix5 b 1 k m x)) q * kr (ix3 k q ⟨x.val, by omega⟩) - foreIm (turn k) (fun m => a (ix5 b 0 k m x)) (fun m => a (ix5 b 1 k m x)) q * ki (ix3 k q ⟨x.val, by omega⟩))
      (fun q => foreRe (turn k) (fun m => a (ix5 b 0 k m x)) (fun m => a (ix5 b 1 k m x)) q * ki (ix3 k q ⟨x.val, by omega⟩) + foreIm (turn k) (fun m => a (ix5 b 0 k m x)) (fun m => a (ix5 b 1 k m x)) q * kr (ix3 k q ⟨x.val, by omega⟩)) m := by
  have h : mid a kr ki (ix5 b 0 k m x) = invRe (prodRe a kr ki) (prodIm a kr ki) (ix4 b k m x) := by
    pointwise [mid]
  rw [h, invRe_apply]
  simp only [prodRe_apply, prodIm_apply, fwdRe_apply, fwdIm_apply]

theorem mid1_apply (a : FVec Ideal S2x2x256x128x512 .bf16) (kr ki : FVec Ideal S256x128x1024 .f32) (b : Fin 2) (k : Fin 256) (m : Fin 128) (x : Fin 512) :
    mid a kr ki (ix5 b 1 k m x) = backIm (turn k)
      (fun q => foreRe (turn k) (fun m => a (ix5 b 0 k m x)) (fun m => a (ix5 b 1 k m x)) q * kr (ix3 k q ⟨x.val, by omega⟩) - foreIm (turn k) (fun m => a (ix5 b 0 k m x)) (fun m => a (ix5 b 1 k m x)) q * ki (ix3 k q ⟨x.val, by omega⟩))
      (fun q => foreRe (turn k) (fun m => a (ix5 b 0 k m x)) (fun m => a (ix5 b 1 k m x)) q * ki (ix3 k q ⟨x.val, by omega⟩) + foreIm (turn k) (fun m => a (ix5 b 0 k m x)) (fun m => a (ix5 b 1 k m x)) q * kr (ix3 k q ⟨x.val, by omega⟩)) m := by
  have h : mid a kr ki (ix5 b 1 k m x) = invIm (prodRe a kr ki) (prodIm a kr ki) (ix4 b k m x) := by
    pointwise [mid]
  rw [h, invIm_apply]
  simp only [prodRe_apply, prodIm_apply, fwdRe_apply, fwdIm_apply]

variable (m : (ℓ : Loc nD τ sig) → Buf (Elt Ideal) ℓ)

theorem res0_eq (c : Dev nD) : Value.res_out0 m c = mid (m ((c.tc : Thread nD τ).loc main_arg0)) (m ((c.tc : Thread nD τ).loc main_arg1)) (m ((c.tc : Thread nD τ).loc main_arg2)) := rfl

end Cert.MidARefIdeal.Hand
-- ==== Proof.lean ====
/- Every claim of the certificate: the frames by the generated runs, each value claim by the two sides read at an index
   in the modules of its call (`Proof/<Call>/`). -/
module

public import proofs.«01_k».proof.Defs
public import proofs.«01_k».proof.Proof.Gen.Moe.Frame
public import proofs.«01_k».proof.Proof.Gen.MoeIdeal.Value
public import proofs.«01_k».proof.Proof.Gen.MoeRefIdeal.Run
public import proofs.«01_k».proof.Proof.Gen.InB.Frame
public import proofs.«01_k».proof.Proof.Gen.InBIdeal.Value
public import proofs.«01_k».proof.Proof.Gen.InBRefIdeal.Run
public import proofs.«01_k».proof.Proof.Gen.InA.Frame
public import proofs.«01_k».proof.Proof.Gen.InAIdeal.Value
public import proofs.«01_k».proof.Proof.Gen.InARefIdeal.Run
public import proofs.«01_k».proof.Proof.Gen.Post.Frame
public import proofs.«01_k».proof.Proof.Gen.PostIdeal.Value
public import proofs.«01_k».proof.Proof.Gen.PostRefIdeal.Run
public import proofs.«01_k».proof.Proof.Gen.Ada.Frame
public import proofs.«01_k».proof.Proof.Gen.AdaIdeal.Value
public import proofs.«01_k».proof.Proof.Gen.AdaRefIdeal.Run
public import proofs.«01_k».proof.Proof.Gen.Conv.Frame
public import proofs.«01_k».proof.Proof.Gen.ConvIdeal.Value
public import proofs.«01_k».proof.Proof.Gen.ConvRefIdeal.Run
public import proofs.«01_k».proof.Proof.Gen.Short.Frame
public import proofs.«01_k».proof.Proof.Gen.ShortIdeal.Value
public import proofs.«01_k».proof.Proof.Gen.ShortRefIdeal.Run
public import proofs.«01_k».proof.Proof.Gen.Out.Frame
public import proofs.«01_k».proof.Proof.Gen.OutIdeal.Value
public import proofs.«01_k».proof.Proof.Gen.OutRefIdeal.Run
public import proofs.«01_k».proof.Proof.Gen.Att.Frame
public import proofs.«01_k».proof.Proof.Gen.AttIdeal.Value
public import proofs.«01_k».proof.Proof.Gen.AttRefIdeal.Run
public import proofs.«01_k».proof.Proof.Gen.Dft.Frame
public import proofs.«01_k».proof.Proof.Gen.DftIdeal.Value
public import proofs.«01_k».proof.Proof.Gen.DftRefIdeal.Run
public import proofs.«01_k».proof.Proof.Gen.Inv.Frame
public import proofs.«01_k».proof.Proof.Gen.InvIdeal.Value
public import proofs.«01_k».proof.Proof.Gen.InvRefIdeal.Run
public import proofs.«01_k».proof.Proof.Gen.Fil.Frame
public import proofs.«01_k».proof.Proof.Gen.FilIdeal.Value
public import proofs.«01_k».proof.Proof.Gen.FilRefIdeal.Run
public import proofs.«01_k».proof.Proof.Gen.Mid.Frame
public import proofs.«01_k».proof.Proof.Gen.MidIdeal.Value
public import proofs.«01_k».proof.Proof.Gen.MidRefIdeal.Run
public import proofs.«01_k».proof.Proof.Gen.Full.Frame
public import proofs.«01_k».proof.Proof.Gen.FullIdeal.Value
public import proofs.«01_k».proof.Proof.Gen.FullRefIdeal.Run
public import proofs.«01_k».proof.Proof.Gen.Last.Frame
public import proofs.«01_k».proof.Proof.Gen.LastIdeal.Value
public import proofs.«01_k».proof.Proof.Gen.LastRefIdeal.Run
public import proofs.«01_k».proof.Proof.Gen.MidA.Frame
public import proofs.«01_k».proof.Proof.Gen.MidAIdeal.Value
public import proofs.«01_k».proof.Proof.Gen.MidARefIdeal.Run
public import proofs.«01_k».proof.Proof.Gen.Pre_moe_gates_finite
public import proofs.«01_k».proof.Proof.Gen.Pre_att_scores_finite
public import proofs.«01_k».proof.Proof.Moe.Value
public import proofs.«01_k».proof.Proof.Moe.RefValue
public import proofs.«01_k».proof.Proof.Moe.Finite
public import proofs.«01_k».proof.Proof.InB.Value
public import proofs.«01_k».proof.Proof.InB.RefValue
public import proofs.«01_k».proof.Proof.InA.Value
public import proofs.«01_k».proof.Proof.InA.RefValue
public import proofs.«01_k».proof.Proof.Post.Value
public import proofs.«01_k».proof.Proof.Post.RefValue
public import proofs.«01_k».proof.Proof.Ada.Value
public import proofs.«01_k».proof.Proof.Ada.RefValue
public import proofs.«01_k».proof.Proof.Conv.Value
public import proofs.«01_k».proof.Proof.Conv.RefValue
public import proofs.«01_k».proof.Proof.Short.Value
public import proofs.«01_k».proof.Proof.Short.RefValue
public import proofs.«01_k».proof.Proof.Out.Value
public import proofs.«01_k».proof.Proof.Out.RefValue
public import proofs.«01_k».proof.Proof.Att.Value
public import proofs.«01_k».proof.Proof.Att.RefValue
public import proofs.«01_k».proof.Proof.Att.Finite
public import proofs.«01_k».proof.Proof.Att.Tie
public import proofs.«01_k».proof.Proof.Dft.Value
public import proofs.«01_k».proof.Proof.Dft.RefValue
public import proofs.«01_k».proof.Proof.Inv.Value
public import proofs.«01_k».proof.Proof.Inv.RefValue
public import proofs.«01_k».proof.Proof.Fil.Value
public import proofs.«01_k».proof.Proof.Fil.RefValue
public import proofs.«01_k».proof.Proof.Mid.Value
public import proofs.«01_k».proof.Proof.Mid.RefValue
public import proofs.«01_k».proof.Proof.Full.Value
public import proofs.«01_k».proof.Proof.Full.RefValue
public import proofs.«01_k».proof.Proof.Last.Value
public import proofs.«01_k».proof.Proof.Last.RefValue
public import proofs.«01_k».proof.Proof.MidA.Value
public import proofs.«01_k».proof.Proof.MidA.RefValue
public import Idealize.ShloMosaic.Adequacy
public import Idealize.ShloMosaic.Init
public import Idealize.ShloMosaic.Lib.Quiescent

@[expose] public section

noncomputable section

namespace Cert.Proof

open Idealize.ShloMosaic Idealize.SL.Sem

/-- The reference of Moe runs to completion from every memory and leaves its arguments as launched. -/
theorem quiescent_MoeRefIdeal : quiescent_MoeRefIdeal := fun m ρ _ =>
  (θ_run Cert.MoeRefIdeal.defs _ _).mono (fun r h => ⟨fun c => (h c).2, sem_eq_zero_of_no_sems (by decide) r.2⟩)
    (Cert.MoeRefIdeal.Value.run (F := Ideal) m ρ)

/-- The reference of InB runs to completion from every memory and leaves its arguments as launched. -/
theorem quiescent_InBRefIdeal : quiescent_InBRefIdeal := fun m ρ _ =>
  (θ_run Cert.InBRefIdeal.defs _ _).mono (fun r h => ⟨fun c => (h c).2.2, sem_eq_zero_of_no_sems (by decide) r.2⟩)
    (Cert.InBRefIdeal.Value.run (F := Ideal) m ρ)

/-- The reference of InA runs to completion from every memory and leaves its arguments as launched. -/
theorem quiescent_InARefIdeal : quiescent_InARefIdeal := fun m ρ _ =>
  (θ_run Cert.InARefIdeal.defs _ _).mono (fun r h => ⟨fun c => (h c).2.2.2.2, sem_eq_zero_of_no_sems (by decide) r.2⟩)
    (Cert.InARefIdeal.Value.run (F := Ideal) m ρ)

/-- The reference of Post runs to completion from every memory and leaves its arguments as launched. -/
theorem quiescent_PostRefIdeal : quiescent_PostRefIdeal := fun m ρ _ =>
  (θ_run Cert.PostRefIdeal.defs _ _).mono (fun r h => ⟨fun c => (h c).2, sem_eq_zero_of_no_sems (by decide) r.2⟩)
    (Cert.PostRefIdeal.Value.run (F := Ideal) m ρ)

/-- The reference of Ada runs to completion from every memory and leaves its arguments as launched. -/
theorem quiescent_AdaRefIdeal : quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

/-- The reference of Conv runs to completion from every memory and leaves its arguments as launched. -/
theorem quiescent_ConvRefIdeal : quiescent_ConvRefIdeal := fun m ρ _ =>
  (θ_run Cert.ConvRefIdeal.defs _ _).mono (fun r h => ⟨fun c => (h c).2, sem_eq_zero_of_no_sems (by decide) r.2⟩)
    (Cert.ConvRefIdeal.Value.run (F := Ideal) m ρ)

/-- The reference of Short runs to completion from every memory and leaves its arguments as launched. -/
theorem quiescent_ShortRefIdeal : quiescent_ShortRefIdeal := fun m ρ _ =>
  (θ_run Cert.ShortRefIdeal.defs _ _).mono (fun r h => ⟨fun c => (h c).2.2.2, sem_eq_zero_of_no_sems (by decide) r.2⟩)
    (Cert.ShortRefIdeal.Value.run (F := Ideal) m ρ)

/-- The reference of Out runs to completion from every memory and leaves its arguments as launched. -/
theorem quiescent_OutRefIdeal : quiescent_OutRefIdeal := fun m ρ _ =>
  (θ_run Cert.OutRefIdeal.defs _ _).mono (fun r h => ⟨fun c => (h c).2.2.2, sem_eq_zero_of_no_sems (by decide) r.2⟩)
    (Cert.OutRefIdeal.Value.run (F := Ideal) m ρ)

/-- The reference of Att runs to completion from every memory and leaves its arguments as launched. -/
theorem quiescent_AttRefIdeal : quiescent_AttRefIdeal := fun m ρ _ =>
  (θ_run Cert.AttRefIdeal.defs _ _).mono (fun r h => ⟨fun c => (h c).2, sem_eq_zero_of_no_sems (by decide) r.2⟩)
    (Cert.AttRefIdeal.Value.run (F := Ideal) m ρ)

/-- The reference of Dft runs to completion from every memory and leaves its arguments as launched. -/
theorem quiescent_DftRefIdeal : quiescent_DftRefIdeal := fun m ρ _ =>
  (θ_run Cert.DftRefIdeal.defs _ _).mono (fun r h => ⟨fun c => (h c).2, sem_eq_zero_of_no_sems (by decide) r.2⟩)
    (Cert.DftRefIdeal.Value.run (F := Ideal) m ρ)

/-- The reference of Inv runs to completion from every memory and leaves its arguments as launched. -/
theorem quiescent_InvRefIdeal : quiescent_InvRefIdeal := fun m ρ _ =>
  (θ_run Cert.InvRefIdeal.defs _ _).mono (fun r h => ⟨fun c => (h c).2.2, sem_eq_zero_of_no_sems (by decide) r.2⟩)
    (Cert.InvRefIdeal.Value.run (F := Ideal) m ρ)

/-- The reference of Fil runs to completion from every memory and leaves its arguments as launched. -/
theorem quiescent_FilRefIdeal : quiescent_FilRefIdeal := fun m ρ _ =>
  (θ_run Cert.FilRefIdeal.defs _ _).mono (fun r h => ⟨fun c => (h c).2.2, sem_eq_zero_of_no_sems (by decide) r.2⟩)
    (Cert.FilRefIdeal.Value.run (F := Ideal) m ρ)

/-- The reference of Mid runs to completion from every memory and leaves its arguments as launched. -/
theorem quiescent_MidRefIdeal : quiescent_MidRefIdeal := fun m ρ _ =>
  (θ_run Cert.MidRefIdeal.defs _ _).mono (fun r h => ⟨fun c => (h c).2, sem_eq_zero_of_no_sems (by decide) r.2⟩)
    (Cert.MidRefIdeal.Value.run (F := Ideal) m ρ)

/-- The reference of Full runs to completion from every memory and leaves its arguments as launched. -/
theorem quiescent_FullRefIdeal : quiescent_FullRefIdeal := fun m ρ _ =>
  (θ_run Cert.FullRefIdeal.defs _ _).mono (fun r h => ⟨fun c => (h c).2, sem_eq_zero_of_no_sems (by decide) r.2⟩)
    (Cert.FullRefIdeal.Value.run (F := Ideal) m ρ)

/-- The reference of Last runs to completion from every memory and leaves its arguments as launched. -/
theorem quiescent_LastRefIdeal : quiescent_LastRefIdeal := fun m ρ _ =>
  (θ_run Cert.LastRefIdeal.defs _ _).mono (fun r h => ⟨fun c => (h c).2, sem_eq_zero_of_no_sems (by decide) r.2⟩)
    (Cert.LastRefIdeal.Value.run (F := Ideal) m ρ)

/-- The reference of MidA runs to completion from every memory and leaves its arguments as launched. -/
theorem quiescent_MidARefIdeal : quiescent_MidARefIdeal := fun m ρ _ =>
  (θ_run Cert.MidARefIdeal.defs _ _).mono (fun r h => ⟨fun c => (h c).2, sem_eq_zero_of_no_sems (by decide) r.2⟩)
    (Cert.MidARefIdeal.Value.run (F := Ideal) m ρ)

/-- The kernel's mixture of experts and the plain one end with equal results, the gates being finite. -/
theorem algebraic_MoeIdeal_MoeRefIdeal : algebraic_MoeIdeal_MoeRefIdeal_pre_moe_gates_finite := by
  intro m ρ m' ρ' hpre hagree
  refine ⟨_, Cert.MoeIdeal.Value.run (F := Ideal) m ρ, ?_⟩
  refine (θ_run Cert.MoeRefIdeal.defs _ _).mono (fun _ h c => ⟨?_, (h c).2⟩) (Cert.MoeRefIdeal.Value.run (F := Ideal) m' ρ')
  rw [(h c).1]
  simp only [hagree c]
  funext i
  obtain ⟨R, d, rfl⟩ : ∃ (R : Fin 32768) (d : Fin 1024), i = ix2 R d := ⟨i 0, i 1, ValueIdx.eq_ix2 i⟩
  exact (Cert.MoeRefIdeal.Hand.moe_apply _ _ _ _ _ _ _ R d).trans
    (Cert.MoeIdeal.Hand.result_apply m c (Cert.MoeIdeal.Hand.gatesFinite_of_pre m hpre c) R d).symm

/-- The kernel's second input projection and the plain one end with equal results. -/
theorem algebraic_InBIdeal_InBRefIdeal : algebraic_InBIdeal_InBRefIdeal := by
  intro m ρ m' ρ' hpre hagree
  refine ⟨_, _, Cert.InBIdeal.Value.run_blocks (F := Ideal) m ρ, ?_⟩
  refine (θ_run Cert.InBRefIdeal.defs _ _).mono (fun _ h c => ⟨?_, ?_, (h c).2.2⟩) (Cert.InBRefIdeal.Value.run (F := Ideal) m' ρ')
  · rw [(h c).1]
    simp only [hagree c]
    funext i
    obtain ⟨j, R, rfl⟩ : ∃ (j : Fin 512) (R : Fin 32768), i = ix2 j R := ⟨i 0, i 1, ValueIdx.eq_ix2 i⟩
    exact (Cert.InBRefIdeal.Hand.ut_apply _ _ _ _ j R).trans (Cert.InBIdeal.Hand.result5_apply m c j R).symm
  · rw [(h c).2.1]
    simp only [hagree c]
    funext i
    obtain ⟨R, j, rfl⟩ : ∃ (R : Fin 32768) (j : Fin 1536), i = ix2 R j := ⟨i 0, i 1, ValueIdx.eq_ix2 i⟩
    exact (Cert.InBRefIdeal.Hand.hz_apply _ _ _ _ R j).trans (Cert.InBIdeal.Hand.result6_apply m c R j).symm

/-- The kernel's first input projection and the plain one end with equal results. -/
theorem algebraic_InAIdeal_InARefIdeal : algebraic_InAIdeal_InARefIdeal := by
  intro m ρ m' ρ' hpre hagree
  refine ⟨_, _, _, _, Cert.InAIdeal.Value.run_blocks (F := Ideal) m ρ, ?_⟩
  refine (θ_run Cert.InARefIdeal.defs _ _).mono (fun _ h c => ⟨?_, ?_, ?_, ?_, (h c).2.2.2.2⟩) (Cert.InARefIdeal.Value.run (F := Ideal) m' ρ')
  · rw [(h c).1]
    unfold Cert.InARefIdeal.Value.res_main_v66
    simp only [hagree c]
    funext i
    obtain ⟨R, j, rfl⟩ : ∃ (R : Fin 32768) (j : Fin 512), i = ix2 R j := ⟨i 0, i 1, ValueIdx.eq_ix2 i⟩
    exact (Cert.InARefIdeal.Hand.qq_apply _ _ _ _ _ R j).trans (Cert.InAIdeal.Hand.result7_apply m c R j).symm
  · rw [(h c).2.1]
    unfold Cert.InARefIdeal.Value.res_main_v68
    simp only [hagree c]
    funext i
    obtain ⟨R, j, rfl⟩ : ∃ (R : Fin 32768) (j : Fin 512), i = ix2 R j := ⟨i 0, i 1, ValueIdx.eq_ix2 i⟩
    exact (Cert.InARefIdeal.Hand.kk_apply _ _ _ _ _ R j).trans (Cert.InAIdeal.Hand.result8_apply m c R j).symm
  · rw [(h c).2.2.1]
    simp only [hagree c]
    funext i
    obtain ⟨R, j, rfl⟩ : ∃ (R : Fin 32768) (j : Fin 512), i = ix2 R j := ⟨i 0, i 1, ValueIdx.eq_ix2 i⟩
    exact (Cert.InARefIdeal.Hand.vv_apply _ _ _ _ R j).trans (Cert.InAIdeal.Hand.result9_apply m c R j).symm
  · rw [(h c).2.2.2.1]
    simp only [hagree c]
    funext i
    obtain ⟨R, j, rfl⟩ : ∃ (R : Fin 32768) (j : Fin 512), i = ix2 R j := ⟨i 0, i 1, ValueIdx.eq_ix2 i⟩
    exact (Cert.InARefIdeal.Hand.uu_apply _ _ _ _ R j).trans (Cert.InAIdeal.Hand.result10_apply m c R j).symm

/-- The kernel's output gate and the plain one end with equal results. -/
theorem algebraic_PostIdeal_PostRefIdeal : algebraic_PostIdeal_PostRefIdeal := by
  intro m ρ m' ρ' hpre hagree
  refine ⟨_, Cert.PostIdeal.Value.run_blocks (F := Ideal) m ρ, ?_⟩
  refine (θ_run Cert.PostRefIdeal.defs _ _).mono (fun _ h c => ⟨?_, (h c).2⟩) (Cert.PostRefIdeal.Value.run (F := Ideal) m' ρ')
  · rw [(h c).1]
    simp only [hagree c]
    funext i
    obtain ⟨R, j, rfl⟩ : ∃ (R : Fin 32768) (j : Fin 512), i = ix2 R j := ⟨i 0, i 1, ValueIdx.eq_ix2 i⟩
    exact (Cert.PostRefIdeal.Hand.post_apply _ _ R j).trans (Cert.PostIdeal.Hand.result_apply m c R j).symm

/-- The kernel's modulation and the plain one end with equal results. -/
theorem algebraic_AdaIdeal_AdaRefIdeal : algebraic_AdaIdeal_AdaRefIdeal := by
  intro m ρ m' ρ' hpre hagree
  refine ⟨_, Cert.AdaIdeal.Value.run_blocks (F := Ideal) m ρ, ?_⟩
  refine (θ_run Cert.AdaRefIdeal.defs _ _).mono (fun _ h c => ⟨?_, (h c).2⟩) (Cert.AdaRefIdeal.Value.run (F := Ideal) m' ρ')
  · rw [(h c).1]
    funext i
    obtain ⟨l, b, j, rfl⟩ : ∃ (l : Fin 2) (b : Fin 2) (j : Fin 6144), i = ix3 l b j := ⟨i 0, i 1, i 2, ValueIdx.eq_ix3 i⟩
    refine (Cert.AdaRefIdeal.Hand.ada_apply _ _ _ l b j).trans ?_
    rw [(hagree c).1, (hagree c).2.1, (hagree c).2.2]
    exact (Cert.AdaIdeal.Hand.result_apply m c l b j).symm

/-- The kernel's output projection, norm and router and the plain one end with equal results. -/
theorem algebraic_OutIdeal_OutRefIdeal : algebraic_OutIdeal_OutRefIdeal := by
  intro m ρ m' ρ' hpre hagree
  refine ⟨_, _, _, Cert.OutIdeal.Value.run_blocks (F := Ideal) m ρ, ?_⟩
  refine (θ_run Cert.OutRefIdeal.defs _ _).mono (fun _ h c => ⟨?_, ?_, ?_, (h c).2.2.2⟩) (Cert.OutRefIdeal.Value.run (F := Ideal) m' ρ')
  · rw [(h c).1]
    funext i
    obtain ⟨R, j, rfl⟩ : ∃ (R : Fin 32768) (j : Fin 1024), i = ix2 R j := ⟨i 0, i 1, ValueIdx.eq_ix2 i⟩
    refine (Cert.OutRefIdeal.Hand.xo_apply _ _ _ _ _ R j).trans ?_
    simp only [hagree c]
    exact (Cert.OutIdeal.Hand.result9_apply m c R j).symm
  · rw [(h c).2.1]
    funext i
    obtain ⟨R, j, rfl⟩ : ∃ (R : Fin 32768) (j : Fin 1024), i = ix2 R j := ⟨i 0, i 1, ValueIdx.eq_ix2 i⟩
    refine (Cert.OutRefIdeal.Hand.ho_apply _ _ _ _ _ _ R j).trans ?_
    simp only [hagree c]
    exact (Cert.OutIdeal.Hand.result10_apply m c R j).symm
  · rw [(h c).2.2.1]
    unfold Cert.OutRefIdeal.Value.res_main_v62
    funext i
    obtain ⟨R, l, rfl⟩ : ∃ (R : Fin 32768) (l : Fin 128), i = ix2 R l := ⟨i 0, i 1, ValueIdx.eq_ix2 i⟩
    refine (Cert.OutRefIdeal.Hand.gate_apply _ _ _ _ _ _ _ _ R l).trans ?_
    simp only [hagree c]
    exact (Cert.OutIdeal.Hand.result11_apply m c R l).symm

/-- The kernel's short convolution and the plain one end with equal results. -/
theorem algebraic_ShortIdeal_ShortRefIdeal : algebraic_ShortIdeal_ShortRefIdeal := by
  intro m ρ m' ρ' hpre hagree
  refine ⟨_, _, _, Cert.ShortIdeal.Value.run_blocks (F := Ideal) m ρ, ?_⟩
  refine (θ_run Cert.ShortRefIdeal.defs _ _).mono (fun _ h c => ⟨?_, ?_, ?_, (h c).2.2.2⟩) (Cert.ShortRefIdeal.Value.run (F := Ideal) m' ρ')
  · rw [(h c).1]
    funext i
    obtain ⟨R, d, rfl⟩ : ∃ (R : Fin 32768) (d : Fin 512), i = ix2 R d := ⟨i 0, i 1, ValueIdx.eq_ix2 i⟩
    refine (Cert.ShortRefIdeal.Hand.values_apply _ _ _ R d).trans ?_
    simp only [hagree c]
    exact (Cert.ShortIdeal.Hand.result5_apply m c R d).symm
  · rw [(h c).2.1]
    funext i
    obtain ⟨R, d, rfl⟩ : ∃ (R : Fin 32768) (d : Fin 512), i = ix2 R d := ⟨i 0, i 1, ValueIdx.eq_ix2 i⟩
    refine (Cert.ShortRefIdeal.Hand.first_apply _ _ _ R d).trans ?_
    simp only [hagree c]
    exact (Cert.ShortIdeal.Hand.result6_apply m c R d).symm
  · rw [(h c).2.2.1]
    funext i
    obtain ⟨R, d, rfl⟩ : ∃ (R : Fin 32768) (d : Fin 512), i = ix2 R d := ⟨i 0, i 1, ValueIdx.eq_ix2 i⟩
    refine (Cert.ShortRefIdeal.Hand.second_apply _ _ _ R d).trans ?_
    simp only [hagree c]
    exact (Cert.ShortIdeal.Hand.result7_apply m c R d).symm

/-- The kernel's depthwise convolution, norm and gate and the plain one end with equal results. -/
theorem algebraic_ConvIdeal_ConvRefIdeal : algebraic_ConvIdeal_ConvRefIdeal := by
  intro m ρ m' ρ' hpre hagree
  refine ⟨_, Cert.ConvIdeal.Value.run_blocks (F := Ideal) m ρ, ?_⟩
  refine (θ_run Cert.ConvRefIdeal.defs _ _).mono (fun _ h c => ⟨?_, (h c).2⟩) (Cert.ConvRefIdeal.Value.run (F := Ideal) m' ρ')
  · rw [(h c).1]
    funext i
    obtain ⟨R, d, rfl⟩ : ∃ (R : Fin 32768) (d : Fin 512), i = ix2 R d := ⟨i 0, i 1, ValueIdx.eq_ix2 i⟩
    refine (Cert.ConvRefIdeal.Hand.conv_apply _ _ _ _ _ R d).trans ?_
    simp only [hagree c]
    exact (Cert.ConvIdeal.Hand.result_apply m c R d).symm

/-- The kernel's first transform and the plain one end with equal results. -/
theorem algebraic_DftIdeal_DftRefIdeal : algebraic_DftIdeal_DftRefIdeal := by
  intro m ρ m' ρ' hpre hagree
  refine ⟨_, Cert.DftIdeal.Value.run_blocks (F := Ideal) m ρ, ?_⟩
  refine (θ_run Cert.DftRefIdeal.defs _ _).mono (fun _ h c => ⟨?_, (h c).2⟩) (Cert.DftRefIdeal.Value.run (F := Ideal) m' ρ')
  · rw [(h c).1]
    funext i
    obtain ⟨b, k, j, rfl⟩ : ∃ (b : Fin 2) (k : Fin 512) (j : Fin 65536), i = ix3 b k j := ⟨i 0, i 1, i 2, ValueIdx.eq_ix3 i⟩
    refine (Cert.DftRefIdeal.Hand.dft_apply _ b k j).trans ?_
    simp only [hagree c]
    exact (Cert.DftIdeal.Hand.result_apply m c b k j).symm

/-- The kernel's last transform and the plain one end with equal results. -/
theorem algebraic_InvIdeal_InvRefIdeal : algebraic_InvIdeal_InvRefIdeal := by
  intro m ρ m' ρ' hpre hagree
  refine ⟨_, _, Cert.InvIdeal.Value.run_blocks (F := Ideal) m ρ, ?_⟩
  refine (θ_run Cert.InvRefIdeal.defs _ _).mono (fun _ h c => ⟨?_, ?_, (h c).2.2⟩) (Cert.InvRefIdeal.Value.run (F := Ideal) m' ρ')
  · rw [(h c).1]
    funext i
    obtain ⟨b, r, j, rfl⟩ : ∃ (b : Fin 2) (r : Fin 128) (j : Fin 65536), i = ix3 b r j := ⟨i 0, i 1, i 2, ValueIdx.eq_ix3 i⟩
    refine (Cert.InvRefIdeal.Hand.fin_apply _ _ _ _ b r j).trans ?_
    simp only [hagree c]
    exact (Cert.InvIdeal.Hand.result6_apply m c b r j).symm
  · rw [(h c).2.1]
    unfold Cert.InvRefIdeal.Value.res_main_v40
    funext i
    obtain ⟨b, k, j, rfl⟩ : ∃ (b : Fin 2) (k : Fin 512) (j : Fin 65536), i = ix3 b k j := ⟨i 0, i 1, i 2, ValueIdx.eq_ix3 i⟩
    refine (Cert.InvRefIdeal.Hand.again_apply _ _ _ _ b k j).trans ?_
    simp only [hagree c]
    exact (Cert.InvIdeal.Hand.result7_apply m c b k j).symm

/-- The kernel's transform of the filters and the plain one end with equal results. -/
theorem algebraic_FilIdeal_FilRefIdeal : algebraic_FilIdeal_FilRefIdeal := by
  intro m ρ m' ρ' hpre hagree
  refine ⟨_, _, Cert.FilIdeal.Value.run_blocks (F := Ideal) m ρ, ?_⟩
  refine (θ_run Cert.FilRefIdeal.defs _ _).mono (fun _ h c => ⟨?_, ?_, (h c).2.2⟩) (Cert.FilRefIdeal.Value.run (F := Ideal) m' ρ')
  · rw [(h c).1]
    funext i
    obtain ⟨k, q, x, rfl⟩ : ∃ (k : Fin 256) (q : Fin 128) (x : Fin 1024), i = ix3 k q x := ⟨i 0, i 1, i 2, ValueIdx.eq_ix3 i⟩
    refine (Cert.FilRefIdeal.Hand.real_apply _ k q x).trans ?_
    simp only [hagree c]
    exact (Cert.FilIdeal.Hand.result2_apply m c k q x).symm
  · rw [(h c).2.1]
    funext i
    obtain ⟨k, q, x, rfl⟩ : ∃ (k : Fin 256) (q : Fin 128) (x : Fin 1024), i = ix3 k q x := ⟨i 0, i 1, i 2, ValueIdx.eq_ix3 i⟩
    refine (Cert.FilRefIdeal.Hand.imag_apply _ k q x).trans ?_
    simp only [hagree c]
    exact (Cert.FilIdeal.Hand.result3_apply m c k q x).symm

/-- The kernel's middle of the convolution and the plain one end with equal results. -/
theorem algebraic_MidIdeal_MidRefIdeal : algebraic_MidIdeal_MidRefIdeal := by
  intro m ρ m' ρ' hpre hagree
  refine ⟨_, Cert.MidIdeal.Value.run_blocks (F := Ideal) m ρ, ?_⟩
  refine (θ_run Cert.MidRefIdeal.defs _ _).mono (fun _ h c => ⟨?_, (h c).2⟩) (Cert.MidRefIdeal.Value.run (F := Ideal) m' ρ')
  · rw [(h c).1]
    unfold Cert.MidRefIdeal.Value.res_main_v68
    funext i
    obtain ⟨b, p, k, q, x, rfl⟩ : ∃ (b : Fin 2) (p : Fin 2) (k : Fin 256) (q : Fin 128) (x : Fin 512), i = ix5 b p k q x := ⟨i 0, i 1, i 2, i 3, i 4, ValueIdx.eq_ix5 i⟩
    match p with
    | ⟨0, _⟩ =>
      refine (Cert.MidRefIdeal.Hand.mid0_apply _ _ _ b k q x).trans ?_
      simp only [hagree c]
      exact (Cert.MidIdeal.Hand.result0_apply m c b k q x).symm
    | ⟨1, _⟩ =>
      refine (Cert.MidRefIdeal.Hand.mid1_apply _ _ _ b k q x).trans ?_
      simp only [hagree c]
      exact (Cert.MidIdeal.Hand.result1_apply m c b k q x).symm

/-- The kernel's filters' first transform and the plain one end with equal results. -/
theorem algebraic_FullIdeal_FullRefIdeal : algebraic_FullIdeal_FullRefIdeal := by
  intro m ρ m' ρ' hpre hagree
  refine ⟨_, Cert.FullIdeal.Value.run_blocks (F := Ideal) m ρ, ?_⟩
  refine (θ_run Cert.FullRefIdeal.defs _ _).mono (fun _ h c => ⟨?_, (h c).2⟩) (Cert.FullRefIdeal.Value.run (F := Ideal) m' ρ')
  · rw [(h c).1]
    funext i
    obtain ⟨b, k, j, rfl⟩ : ∃ (b : Fin 1) (k : Fin 512) (j : Fin 131072), i = ix3 b k j := ⟨i 0, i 1, i 2, ValueIdx.eq_ix3 i⟩
    refine (Cert.FullRefIdeal.Hand.dft_apply _ b k j).trans ?_
    simp only [hagree c]
    exact (Cert.FullIdeal.Hand.result_apply m c b k j).symm

/-- The kernel's last transform without chaining and the plain one end with equal results. -/
theorem algebraic_LastIdeal_LastRefIdeal : algebraic_LastIdeal_LastRefIdeal := by
  intro m ρ m' ρ' hpre hagree
  refine ⟨_, Cert.LastIdeal.Value.run_blocks (F := Ideal) m ρ, ?_⟩
  refine (θ_run Cert.LastRefIdeal.defs _ _).mono (fun _ h c => ⟨?_, (h c).2⟩) (Cert.LastRefIdeal.Value.run (F := Ideal) m' ρ')
  · rw [(h c).1]
    funext i
    obtain ⟨b, r, j, rfl⟩ : ∃ (b : Fin 2) (r : Fin 128) (j : Fin 65536), i = ix3 b r j := ⟨i 0, i 1, i 2, ValueIdx.eq_ix3 i⟩
    refine (Cert.LastRefIdeal.Hand.fin_apply _ _ _ _ b r j).trans ?_
    simp only [hagree c]
    exact (Cert.LastIdeal.Hand.result_apply m c b r j).symm

/-- The kernel's middle of the first order and the plain one end with equal results. -/
theorem algebraic_MidAIdeal_MidARefIdeal : algebraic_MidAIdeal_MidARefIdeal := by
  intro m ρ m' ρ' hpre hagree
  refine ⟨_, Cert.MidAIdeal.Value.run_blocks (F := Ideal) m ρ, ?_⟩
  refine (θ_run Cert.MidARefIdeal.defs _ _).mono (fun _ h c => ⟨?_, (h c).2⟩) (Cert.MidARefIdeal.Value.run (F := Ideal) m' ρ')
  · rw [(h c).1]
    unfold Cert.MidARefIdeal.Value.res_main_v68
    funext i
    obtain ⟨b, p, k, q, x, rfl⟩ : ∃ (b : Fin 2) (p : Fin 2) (k : Fin 256) (q : Fin 128) (x : Fin 512), i = ix5 b p k q x := ⟨i 0, i 1, i 2, i 3, i 4, ValueIdx.eq_ix5 i⟩
    match p with
    | ⟨0, _⟩ =>
      refine (Cert.MidARefIdeal.Hand.mid0_apply _ _ _ b k q x).trans ?_
      simp only [hagree c]
      exact (Cert.MidAIdeal.Hand.result0_apply m c b k q x).symm
    | ⟨1, _⟩ =>
      refine (Cert.MidARefIdeal.Hand.mid1_apply _ _ _ b k q x).trans ?_
      simp only [hagree c]
      exact (Cert.MidAIdeal.Hand.result1_apply m c b k q x).symm

/-- The kernel's attention and the plain one end with equal results, the queries, keys and biases being finite. -/
theorem algebraic_AttIdeal_AttRefIdeal : algebraic_AttIdeal_AttRefIdeal_pre_att_scores_finite := by
  intro m ρ m' ρ' hpre hagree
  refine ⟨_, Cert.AttIdeal.Value.run_blocks (F := Ideal) m ρ, ?_⟩
  refine (θ_run Cert.AttRefIdeal.defs _ _).mono (fun _ h c => ⟨?_, (h c).2⟩) (Cert.AttRefIdeal.Value.run (F := Ideal) m' ρ')
  rw [(h c).1]
  refine (Cert.AttRefIdeal.Hand.res_eq m' c).trans ?_
  simp only [hagree c]
  obtain ⟨hq, hk, hw⟩ := Cert.AttIdeal.Hand.finite_of_pre m hpre c
  funext i
  obtain ⟨b, r, a, h, d, rfl⟩ : ∃ (b : Fin 2) (r : Fin 64) (a : Fin 256) (h : Fin 8) (d : Fin 64), i = ix2 ⟨(b.val * 64 + r.val) * 256 + a.val, by omega⟩ ⟨h.val * 64 + d.val, by omega⟩ := by
    obtain ⟨R, j, rfl⟩ : ∃ (R : Fin 32768) (j : Fin 512), i = ix2 R j := ⟨i 0, i 1, ValueIdx.eq_ix2 i⟩
    have hR := R.isLt
    have hj := j.isLt
    refine ⟨⟨R.val / 16384, by omega⟩, ⟨R.val / 256 % 64, by omega⟩, ⟨R.val % 256, by omega⟩, ⟨j.val / 64, by omega⟩, ⟨j.val % 64, by omega⟩, congrArg₂ ix2 (Fin.ext ?_) (Fin.ext ?_)⟩
    · show R.val = (R.val / 16384 * 64 + R.val / 256 % 64) * 256 + R.val % 256
      omega
    · show j.val = j.val / 64 * 64 + j.val % 64
      omega
  exact (Cert.AttRefIdeal.Hand.result_apply _ _ _ _ hq hk hw b r a h d).trans (Cert.AttIdeal.Hand.result_apply m c b r a h d).symm

/-- Every claim. -/
theorem claim : Cert.Claim := ⟨Cert.Moe.Gen.facts, Cert.MoeIdeal.Gen.facts, Cert.MoeRefIdeal.Gen.facts, Cert.InB.Gen.facts, Cert.InBIdeal.Gen.facts, Cert.InBRefIdeal.Gen.facts, Cert.InA.Gen.facts, Cert.InAIdeal.Gen.facts, Cert.InARefIdeal.Gen.facts, Cert.Post.Gen.facts, Cert.PostIdeal.Gen.facts, Cert.PostRefIdeal.Gen.facts, Cert.Ada.Gen.facts, Cert.AdaIdeal.Gen.facts, Cert.AdaRefIdeal.Gen.facts, Cert.Conv.Gen.facts, Cert.ConvIdeal.Gen.facts, Cert.ConvRefIdeal.Gen.facts, Cert.Short.Gen.facts, Cert.ShortIdeal.Gen.facts, Cert.ShortRefIdeal.Gen.facts, Cert.Out.Gen.facts, Cert.OutIdeal.Gen.facts, Cert.OutRefIdeal.Gen.facts, Cert.Att.Gen.facts, Cert.AttIdeal.Gen.facts, Cert.AttRefIdeal.Gen.facts, Cert.Dft.Gen.facts, Cert.DftIdeal.Gen.facts, Cert.DftRefIdeal.Gen.facts, Cert.Inv.Gen.facts, Cert.InvIdeal.Gen.facts, Cert.InvRefIdeal.Gen.facts, Cert.Fil.Gen.facts, Cert.FilIdeal.Gen.facts, Cert.FilRefIdeal.Gen.facts, Cert.Mid.Gen.facts, Cert.MidIdeal.Gen.facts, Cert.MidRefIdeal.Gen.facts, Cert.Full.Gen.facts, Cert.FullIdeal.Gen.facts, Cert.FullRefIdeal.Gen.facts, Cert.Last.Gen.facts, Cert.LastIdeal.Gen.facts, Cert.LastRefIdeal.Gen.facts, Cert.MidA.Gen.facts, Cert.MidAIdeal.Gen.facts, Cert.MidARefIdeal.Gen.facts, Cert.Pre_moe_gates_finite.Gen.facts, Cert.Pre_att_scores_finite.Gen.facts,
  fun m ρ _ => Cert.Moe.Gen.frame m ρ,
  fun m ρ _ => Cert.MoeIdeal.Gen.frame m ρ,
  fun m ρ _ => Cert.MoeIdeal.Gen.frame m ρ,
  quiescent_MoeRefIdeal,
  fun m ρ _ => quiescent_MoeRefIdeal m ρ trivial,
  fun m ρ _ => Cert.InB.Gen.frame m ρ,
  fun m ρ _ => Cert.InBIdeal.Gen.frame m ρ,
  quiescent_InBRefIdeal,
  fun m ρ _ => Cert.InA.Gen.frame m ρ,
  fun m ρ _ => Cert.InAIdeal.Gen.frame m ρ,
  quiescent_InARefIdeal,
  fun m ρ _ => Cert.Post.Gen.frame m ρ,
  fun m ρ _ => Cert.PostIdeal.Gen.frame m ρ,
  quiescent_PostRefIdeal,
  fun m ρ _ => Cert.Ada.Gen.frame m ρ,
  fun m ρ _ => Cert.AdaIdeal.Gen.frame m ρ,
  quiescent_AdaRefIdeal,
  fun m ρ _ => Cert.Conv.Gen.frame m ρ,
  fun m ρ _ => Cert.ConvIdeal.Gen.frame m ρ,
  quiescent_ConvRefIdeal,
  fun m ρ _ => Cert.Short.Gen.frame m ρ,
  fun m ρ _ => Cert.ShortIdeal.Gen.frame m ρ,
  quiescent_ShortRefIdeal,
  fun m ρ _ => Cert.Out.Gen.frame m ρ,
  fun m ρ _ => Cert.OutIdeal.Gen.frame m ρ,
  quiescent_OutRefIdeal,
  fun m ρ _ => Cert.Att.Gen.frame m ρ,
  fun m ρ _ => Cert.AttIdeal.Gen.frame m ρ,
  fun m ρ _ => Cert.AttIdeal.Gen.frame m ρ,
  quiescent_AttRefIdeal,
  fun m ρ _ => quiescent_AttRefIdeal m ρ trivial,
  fun m ρ _ => Cert.Dft.Gen.frame m ρ,
  fun m ρ _ => Cert.DftIdeal.Gen.frame m ρ,
  quiescent_DftRefIdeal,
  fun m ρ _ => Cert.Inv.Gen.frame m ρ,
  fun m ρ _ => Cert.InvIdeal.Gen.frame m ρ,
  quiescent_InvRefIdeal,
  fun m ρ _ => Cert.Fil.Gen.frame m ρ,
  fun m ρ _ => Cert.FilIdeal.Gen.frame m ρ,
  quiescent_FilRefIdeal,
  fun m ρ _ => Cert.Mid.Gen.frame m ρ,
  fun m ρ _ => Cert.MidIdeal.Gen.frame m ρ,
  quiescent_MidRefIdeal,
  fun m ρ _ => Cert.Full.Gen.frame m ρ,
  fun m ρ _ => Cert.FullIdeal.Gen.frame m ρ,
  quiescent_FullRefIdeal,
  fun m ρ _ => Cert.Last.Gen.frame m ρ,
  fun m ρ _ => Cert.LastIdeal.Gen.frame m ρ,
  quiescent_LastRefIdeal,
  fun m ρ _ => Cert.MidA.Gen.frame m ρ,
  fun m ρ _ => Cert.MidAIdeal.Gen.frame m ρ,
  quiescent_MidARefIdeal,
  (trivial : preserves_Moe_MoeIdeal),
  algebraic_MoeIdeal_MoeRefIdeal,
  (trivial : preserves_InB_InBIdeal),
  algebraic_InBIdeal_InBRefIdeal,
  (trivial : preserves_InA_InAIdeal),
  algebraic_InAIdeal_InARefIdeal,
  (trivial : preserves_Post_PostIdeal),
  algebraic_PostIdeal_PostRefIdeal,
  (trivial : preserves_Ada_AdaIdeal),
  algebraic_AdaIdeal_AdaRefIdeal,
  (trivial : preserves_Conv_ConvIdeal),
  algebraic_ConvIdeal_ConvRefIdeal,
  (trivial : preserves_Short_ShortIdeal),
  algebraic_ShortIdeal_ShortRefIdeal,
  (trivial : preserves_Out_OutIdeal),
  algebraic_OutIdeal_OutRefIdeal,
  (trivial : preserves_Att_AttIdeal),
  algebraic_AttIdeal_AttRefIdeal,
  (trivial : preserves_Dft_DftIdeal),
  algebraic_DftIdeal_DftRefIdeal,
  (trivial : preserves_Inv_InvIdeal),
  algebraic_InvIdeal_InvRefIdeal,
  (trivial : preserves_Fil_FilIdeal),
  algebraic_FilIdeal_FilRefIdeal,
  (trivial : preserves_Mid_MidIdeal),
  algebraic_MidIdeal_MidRefIdeal,
  (trivial : preserves_Full_FullIdeal),
  algebraic_FullIdeal_FullRefIdeal,
  (trivial : preserves_Last_LastIdeal),
  algebraic_LastIdeal_LastRefIdeal,
  (trivial : preserves_MidA_MidAIdeal),
  algebraic_MidAIdeal_MidARefIdeal⟩

end Cert.Proof

end
